-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v23_0)) (v1 : (c : Dev Cert.Kernel3Ideal.nD) → Buf (Elt Ideal) ((c.tc : Thread Cert.Kernel3Ideal.nD Cert.Kernel3Ideal.τ).loc Cert.Kernel3Ideal.main_v23_1)) (v2 : (c : Dev Cert.Kernel3Ideal.nD) → Buf (Elt Ideal) ((c.tc : Thread Cert.Kernel3Ideal.nD Cert.Kernel3Ideal.τ).loc Cert.Kernel3Ideal.main_v23_2)) (v3 : (c : Dev Cert.Kernel3Ideal.nD) → Buf (Elt Ideal) ((c.tc : Thread Cert.Kernel3Ideal.nD Cert.Kernel3Ideal.τ).loc Cert.Kernel3Ideal.main_v23_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23_0) = v0 c
          ∧ r.2.mem ((c.tc : Thread Cert.Kernel3Ideal.nD Cert.Kernel3Ideal.τ).loc Cert.Kernel3Ideal.main_v23_1) = v1 c
          ∧ r.2.mem ((c.tc : Thread Cert.Kernel3Ideal.nD Cert.Kernel3Ideal.τ).loc Cert.Kernel3Ideal.main_v23_2) = v2 c
          ∧ r.2.mem ((c.tc : Thread Cert.Kernel3Ideal.nD Cert.Kernel3Ideal.τ).loc Cert.Kernel3Ideal.main_v23_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_v51) = v2 c
          ∧ r.2.mem ((c.tc : Thread Cert.Reference3Ideal.nD Cert.Reference3Ideal.τ).loc Cert.Reference3Ideal.main_v52) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)) (v4 : (c : Dev Cert.Kernel4Ideal.nD) → Buf (Elt Ideal) ((c.tc : Thread Cert.Kernel4Ideal.nD Cert.Kernel4Ideal.τ).loc Cert.Kernel4Ideal.main_v5_4)) (v5 : (c : Dev Cert.Kernel4Ideal.nD) → Buf (Elt Ideal) ((c.tc : Thread Cert.Kernel4Ideal.nD Cert.Kernel4Ideal.τ).loc Cert.Kernel4Ideal.main_v5_5)) (v6 : (c : Dev Cert.Kernel4Ideal.nD) → Buf (Elt Ideal) ((c.tc : Thread Cert.Kernel4Ideal.nD Cert.Kernel4Ideal.τ).loc Cert.Kernel4Ideal.main_v5_6)) (v7 : (c : Dev Cert.Kernel4Ideal.nD) → Buf (Elt Ideal) ((c.tc : Thread Cert.Kernel4Ideal.nD Cert.Kernel4Ideal.τ).loc Cert.Kernel4Ideal.main_v5_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_v5_4) = v4 c
          ∧ r.2.mem ((c.tc : Thread Cert.Kernel4Ideal.nD Cert.Kernel4Ideal.τ).loc Cert.Kernel4Ideal.main_v5_5) = v5 c
          ∧ r.2.mem ((c.tc : Thread Cert.Kernel4Ideal.nD Cert.Kernel4Ideal.τ).loc Cert.Kernel4Ideal.main_v5_6) = v6 c
          ∧ r.2.mem ((c.tc : Thread Cert.Kernel4Ideal.nD Cert.Kernel4Ideal.τ).loc Cert.Kernel4Ideal.main_v5_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v74) = v0 c
          ∧ r.2.mem ((c.tc : Thread Cert.Reference4Ideal.nD Cert.Reference4Ideal.τ).loc Cert.Reference4Ideal.main_v75) = v1 c
          ∧ r.2.mem ((c.tc : Thread Cert.Reference4Ideal.nD Cert.Reference4Ideal.τ).loc Cert.Reference4Ideal.main_v76) = v2 c
          ∧ r.2.mem ((c.tc : Thread Cert.Reference4Ideal.nD Cert.Reference4Ideal.τ).loc Cert.Reference4Ideal.main_v77) = v3 c
          ∧ r.2.mem ((c.tc : Thread Cert.Reference4Ideal.nD Cert.Reference4Ideal.τ).loc Cert.Reference4Ideal.main_v78) = v4 c
          ∧ r.2.mem ((c.tc : Thread Cert.Reference4Ideal.nD Cert.Reference4Ideal.τ).loc Cert.Reference4Ideal.main_v72) = v5 c
          ∧ r.2.mem ((c.tc : Thread Cert.Reference4Ideal.nD Cert.Reference4Ideal.τ).loc Cert.Reference4Ideal.main_v71) = v6 c
          ∧ r.2.mem ((c.tc : Thread Cert.Reference4Ideal.nD Cert.Reference4Ideal.τ).loc Cert.Reference4Ideal.main_v80) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v43_0)) (v1 : (c : Dev Cert.Kernel5Ideal.nD) → Buf (Elt Ideal) ((c.tc : Thread Cert.Kernel5Ideal.nD Cert.Kernel5Ideal.τ).loc Cert.Kernel5Ideal.main_v43_1)) (v2 : (c : Dev Cert.Kernel5Ideal.nD) → Buf (Elt Ideal) ((c.tc : Thread Cert.Kernel5Ideal.nD Cert.Kernel5Ideal.τ).loc Cert.Kernel5Ideal.main_v43_2)) (v3 : (c : Dev Cert.Kernel5Ideal.nD) → Buf (Elt Ideal) ((c.tc : Thread Cert.Kernel5Ideal.nD Cert.Kernel5Ideal.τ).loc Cert.Kernel5Ideal.main_v43_3)) (v4 : (c : Dev Cert.Kernel5Ideal.nD) → Buf (Elt Ideal) ((c.tc : Thread Cert.Kernel5Ideal.nD Cert.Kernel5Ideal.τ).loc Cert.Kernel5Ideal.main_v43_4)) (v5 : (c : Dev Cert.Kernel5Ideal.nD) → Buf (Elt Ideal) ((c.tc : Thread Cert.Kernel5Ideal.nD Cert.Kernel5Ideal.τ).loc Cert.Kernel5Ideal.main_v43_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v43_0) = v0 c
          ∧ r.2.mem ((c.tc : Thread Cert.Kernel5Ideal.nD Cert.Kernel5Ideal.τ).loc Cert.Kernel5Ideal.main_v43_1) = v1 c
          ∧ r.2.mem ((c.tc : Thread Cert.Kernel5Ideal.nD Cert.Kernel5Ideal.τ).loc Cert.Kernel5Ideal.main_v43_2) = v2 c
          ∧ r.2.mem ((c.tc : Thread Cert.Kernel5Ideal.nD Cert.Kernel5Ideal.τ).loc Cert.Kernel5Ideal.main_v43_3) = v3 c
          ∧ r.2.mem ((c.tc : Thread Cert.Kernel5Ideal.nD Cert.Kernel5Ideal.τ).loc Cert.Kernel5Ideal.main_v43_4) = v4 c
          ∧ r.2.mem ((c.tc : Thread Cert.Kernel5Ideal.nD Cert.Kernel5Ideal.τ).loc Cert.Kernel5Ideal.main_v43_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v104) = v0 c
          ∧ r.2.mem ((c.tc : Thread Cert.Reference5Ideal.nD Cert.Reference5Ideal.τ).loc Cert.Reference5Ideal.main_v105) = v1 c
          ∧ r.2.mem ((c.tc : Thread Cert.Reference5Ideal.nD Cert.Reference5Ideal.τ).loc Cert.Reference5Ideal.main_v106) = v2 c
          ∧ r.2.mem ((c.tc : Thread Cert.Reference5Ideal.nD Cert.Reference5Ideal.τ).loc Cert.Reference5Ideal.main_v102) = v3 c
          ∧ r.2.mem ((c.tc : Thread Cert.Reference5Ideal.nD Cert.Reference5Ideal.τ).loc Cert.Reference5Ideal.main_v107) = v4 c
          ∧ r.2.mem ((c.tc : Thread Cert.Reference5Ideal.nD Cert.Reference5Ideal.τ).loc Cert.Reference5Ideal.main_v97) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_v23) = v2 c
          ∧ r.2.mem ((c.tc : Thread Cert.Reference6Ideal.nD Cert.Reference6Ideal.τ).loc Cert.Reference6Ideal.main_v24) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)) (v3 : (c : Dev Cert.Kernel7Ideal.nD) → Buf (Elt Ideal) ((c.tc : Thread Cert.Kernel7Ideal.nD Cert.Kernel7Ideal.τ).loc Cert.Kernel7Ideal.main_v2_3)) (v4 : (c : Dev Cert.Kernel7Ideal.nD) → Buf (Elt Ideal) ((c.tc : Thread Cert.Kernel7Ideal.nD Cert.Kernel7Ideal.τ).loc Cert.Kernel7Ideal.main_v2_4)) (v5 : (c : Dev Cert.Kernel7Ideal.nD) → Buf (Elt Ideal) ((c.tc : Thread Cert.Kernel7Ideal.nD Cert.Kernel7Ideal.τ).loc Cert.Kernel7Ideal.main_v2_5)) (v6 : (c : Dev Cert.Kernel7Ideal.nD) → Buf (Elt Ideal) ((c.tc : Thread Cert.Kernel7Ideal.nD Cert.Kernel7Ideal.τ).loc Cert.Kernel7Ideal.main_v2_6)) (v7 : (c : Dev Cert.Kernel7Ideal.nD) → Buf (Elt Ideal) ((c.tc : Thread Cert.Kernel7Ideal.nD Cert.Kernel7Ideal.τ).loc Cert.Kernel7Ideal.main_v2_10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_v2_3) = v3 c
          ∧ r.2.mem ((c.tc : Thread Cert.Kernel7Ideal.nD Cert.Kernel7Ideal.τ).loc Cert.Kernel7Ideal.main_v2_4) = v4 c
          ∧ r.2.mem ((c.tc : Thread Cert.Kernel7Ideal.nD Cert.Kernel7Ideal.τ).loc Cert.Kernel7Ideal.main_v2_5) = v5 c
          ∧ r.2.mem ((c.tc : Thread Cert.Kernel7Ideal.nD Cert.Kernel7Ideal.τ).loc Cert.Kernel7Ideal.main_v2_6) = v6 c
          ∧ r.2.mem ((c.tc : Thread Cert.Kernel7Ideal.nD Cert.Kernel7Ideal.τ).loc Cert.Kernel7Ideal.main_v2_10) = v7 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_v53) = v2 c
          ∧ r.2.mem ((c.tc : Thread Cert.Reference7Ideal.nD Cert.Reference7Ideal.τ).loc Cert.Reference7Ideal.main_v54) = v3 c
          ∧ r.2.mem ((c.tc : Thread Cert.Reference7Ideal.nD Cert.Reference7Ideal.τ).loc Cert.Reference7Ideal.main_v55) = v4 c
          ∧ r.2.mem ((c.tc : Thread Cert.Reference7Ideal.nD Cert.Reference7Ideal.τ).loc Cert.Reference7Ideal.main_v57) = v5 c
          ∧ r.2.mem ((c.tc : Thread Cert.Reference7Ideal.nD Cert.Reference7Ideal.τ).loc Cert.Reference7Ideal.main_v58) = v6 c
          ∧ r.2.mem ((c.tc : Thread Cert.Reference7Ideal.nD Cert.Reference7Ideal.τ).loc Cert.Reference7Ideal.main_v171) = v7 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)) (v2 : (c : Dev Cert.Kernel8Ideal.nD) → Buf (Elt Ideal) ((c.tc : Thread Cert.Kernel8Ideal.nD Cert.Kernel8Ideal.τ).loc Cert.Kernel8Ideal.main_v7_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_v7_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v5) = v1 c
          ∧ r.2.mem ((c.tc : Thread Cert.Reference8Ideal.nD Cert.Reference8Ideal.τ).loc Cert.Reference8Ideal.main_v8) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)) (v2 : (c : Dev Cert.Kernel9Ideal.nD) → Buf (Elt Ideal) ((c.tc : Thread Cert.Kernel9Ideal.nD Cert.Kernel9Ideal.τ).loc Cert.Kernel9Ideal.main_v7_2)) (v3 : (c : Dev Cert.Kernel9Ideal.nD) → Buf (Elt Ideal) ((c.tc : Thread Cert.Kernel9Ideal.nD Cert.Kernel9Ideal.τ).loc Cert.Kernel9Ideal.main_v7_3)) (v4 : (c : Dev Cert.Kernel9Ideal.nD) → Buf (Elt Ideal) ((c.tc : Thread Cert.Kernel9Ideal.nD Cert.Kernel9Ideal.τ).loc Cert.Kernel9Ideal.main_v7_4)) (v5 : (c : Dev Cert.Kernel9Ideal.nD) → Buf (Elt Ideal) ((c.tc : Thread Cert.Kernel9Ideal.nD Cert.Kernel9Ideal.τ).loc Cert.Kernel9Ideal.main_v7_5)) (v6 : (c : Dev Cert.Kernel9Ideal.nD) → Buf (Elt Ideal) ((c.tc : Thread Cert.Kernel9Ideal.nD Cert.Kernel9Ideal.τ).loc Cert.Kernel9Ideal.main_v7_6)) (v7 : (c : Dev Cert.Kernel9Ideal.nD) → Buf (Elt Ideal) ((c.tc : Thread Cert.Kernel9Ideal.nD Cert.Kernel9Ideal.τ).loc Cert.Kernel9Ideal.main_v7_7)) (v8 : (c : Dev Cert.Kernel9Ideal.nD) → Buf (Elt Ideal) ((c.tc : Thread Cert.Kernel9Ideal.nD Cert.Kernel9Ideal.τ).loc Cert.Kernel9Ideal.main_v7_8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_v7_2) = v2 c
          ∧ r.2.mem ((c.tc : Thread Cert.Kernel9Ideal.nD Cert.Kernel9Ideal.τ).loc Cert.Kernel9Ideal.main_v7_3) = v3 c
          ∧ r.2.mem ((c.tc : Thread Cert.Kernel9Ideal.nD Cert.Kernel9Ideal.τ).loc Cert.Kernel9Ideal.main_v7_4) = v4 c
          ∧ r.2.mem ((c.tc : Thread Cert.Kernel9Ideal.nD Cert.Kernel9Ideal.τ).loc Cert.Kernel9Ideal.main_v7_5) = v5 c
          ∧ r.2.mem ((c.tc : Thread Cert.Kernel9Ideal.nD Cert.Kernel9Ideal.τ).loc Cert.Kernel9Ideal.main_v7_6) = v6 c
          ∧ r.2.mem ((c.tc : Thread Cert.Kernel9Ideal.nD Cert.Kernel9Ideal.τ).loc Cert.Kernel9Ideal.main_v7_7) = v7 c
          ∧ r.2.mem ((c.tc : Thread Cert.Kernel9Ideal.nD Cert.Kernel9Ideal.τ).loc Cert.Kernel9Ideal.main_v7_8) = v8 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_v8) = v1 c
          ∧ r.2.mem ((c.tc : Thread Cert.Reference9Ideal.nD Cert.Reference9Ideal.τ).loc Cert.Reference9Ideal.main_v32) = v2 c
          ∧ r.2.mem ((c.tc : Thread Cert.Reference9Ideal.nD Cert.Reference9Ideal.τ).loc Cert.Reference9Ideal.main_v13) = v3 c
          ∧ r.2.mem ((c.tc : Thread Cert.Reference9Ideal.nD Cert.Reference9Ideal.τ).loc Cert.Reference9Ideal.main_v19) = v4 c
          ∧ r.2.mem ((c.tc : Thread Cert.Reference9Ideal.nD Cert.Reference9Ideal.τ).loc Cert.Reference9Ideal.main_v33) = v5 c
          ∧ r.2.mem ((c.tc : Thread Cert.Reference9Ideal.nD Cert.Reference9Ideal.τ).loc Cert.Reference9Ideal.main_v57) = v6 c
          ∧ r.2.mem ((c.tc : Thread Cert.Reference9Ideal.nD Cert.Reference9Ideal.τ).loc Cert.Reference9Ideal.main_v38) = v7 c
          ∧ r.2.mem ((c.tc : Thread Cert.Reference9Ideal.nD Cert.Reference9Ideal.τ).loc Cert.Reference9Ideal.main_v44) = v8 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite3 : Cert.Pre_finite3.Facts) (hPre_finite4 : Cert.Pre_finite4.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S4096x1024 : Shape := ⟨2, ![4096, 1024]⟩
abbrev S1x1024 : Shape := ⟨2, ![1, 1024]⟩
abbrev S1024x5632 : Shape := ⟨2, ![1024, 5632]⟩
abbrev S4096x2048 : Shape := ⟨2, ![4096, 2048]⟩
abbrev S4096x1536 : Shape := ⟨2, ![4096, 1536]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096x1536 : S_.BroadcastsInDim S4096x1536 (![] : Fin 0 → Fin S4096x1536.rank)
  reducesTo_S4096x1536_S_d0_1 : S4096x1536.ReducesTo [0, 1] S_

variable [Facts]

def fn_part1 {F : FTy → Type} [FloatOps F] (main_arg5 : FVec F S4096x1536 .f32) (main_arg6 : FVec F S4096x2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x1536 .f32 := Host.absf main_arg5
  let main_cst_6 : FVec F S_ .f32 := constant S_ .f32 0x7F800000#32
  let main_v20 : FVec F S4096x1536 .f32 := broadcastInDim S4096x1536 ![] bcast_S_S4096x1536 main_cst_6
  let main_v21 : IVec S4096x1536 1 := cmpf .olt main_v19 main_v20
  let main_c_7 : IVec S_ 1 := constantI S_ 1 1#1
  let main_v22 : IVec S_ 1 := (fun x v => Host.reduce IntOp.andi x v reducesTo_S4096x1536_S_d0_1 h_S_) main_v21 main_c_7
  let main_v23 : IVec S_ 1 := andi main_v18 main_v22
  let main_v24 : FVec F S4096x2048 .f32 := Host.absf main_arg6
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S1024x5632 .f32) (main_arg3 : FVec F S4096x1024 .f32) (main_arg4 : FVec F S4096x2048 .f32) (main_arg5 : FVec F S4096x1536 .f32) (main_arg6 : FVec F S4096x2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S4096x2048 .f32 := Host.absf main_arg4
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg5 main_arg6 main_v13 main_v16
-- ==== Pre_finite3.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4096x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite4.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4096x1024 .f32) (main_arg6 : FVec F S1x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  main_v33

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) (main_arg6 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_finite7.lean ====
abbrev S4096x1024 : Shape := ⟨2, ![4096, 1024]⟩
abbrev S1x1024 : Shape := ⟨2, ![1, 1024]⟩
abbrev S1024x5632 : Shape := ⟨2, ![1024, 5632]⟩
abbrev S3x512 : Shape := ⟨2, ![3, 512]⟩
abbrev S2x512 : Shape := ⟨2, ![2, 512]⟩
abbrev S1x128 : Shape := ⟨2, ![1, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2x512 : S_.BroadcastsInDim S2x512 (![] : Fin 0 → Fin S2x512.rank)
  reducesTo_S2x512_S_d0_1 : S2x512.ReducesTo [0, 1] S_

variable [Facts]

def fn_part1 {F : FTy → Type} [FloatOps F] (main_v13 : IVec S_ 1) (main_v16 : IVec S2x512 1) : IVec S_ 1 :=
  let main_c_5 : IVec S_ 1 := constantI S_ 1 1#1
  let main_v17 : IVec S_ 1 := (fun x v => Host.reduce IntOp.andi x v reducesTo_S2x512_S_d0_1 h_S_) main_v16 main_c_5
  let main_v18 : IVec S_ 1 := andi main_v13 main_v17
  main_v18

def fn {F : FTy → Type} [FloatOps F] (main_arg0 : FVec F S4096x1024 .f32) (main_arg1 : FVec F S1x1024 .f32) (main_arg2 : FVec F S1024x5632 .f32) (main_arg3 : FVec F S3x512 .f32) (main_arg4 : FVec F S2x512 .f32) (main_arg5 : FVec F S1x128 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2x512 .f32 := Host.absf main_arg4
  let main_cst_4 : FVec F S_ .f32 := constant S_ .f32 0x7F800000#32
  let main_v15 : FVec F S2x512 .f32 := broadcastInDim S2x512 ![] bcast_S_S2x512 main_cst_4
  let main_v16 : IVec S2x512 1 := cmpf .olt main_v14 main_v15
  fn_part1 (F := F) main_v13 main_v16
-- ==== Kernel.lean ====
abbrev S4096x1024 : Shape := ⟨2, ![4096, 1024]⟩
abbrev S1x1024 : Shape := ⟨2, ![1, 1024]⟩
abbrev S1024x5632 : Shape := ⟨2, ![1024, 5632]⟩
abbrev S4096x2048 : Shape := ⟨2, ![4096, 2048]⟩
abbrev S4096x1536 : Shape := ⟨2, ![4096, 1536]⟩
abbrev S5632x1024 : Shape := ⟨2, ![5632, 1024]⟩
abbrev S512x2048 : Shape := ⟨2, ![512, 2048]⟩
abbrev S512x1536 : Shape := ⟨2, ![512, 1536]⟩
abbrev S512x1024 : Shape := ⟨2, ![512, 1024]⟩
abbrev S2048x1024 : Shape := ⟨2, ![2048, 1024]⟩
abbrev S1536x1024 : Shape := ⟨2, ![1536, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x1024, .f32⟩
  | .hbm, ⟨4, _⟩ => ⟨S4096x2048, .f32⟩
  | .hbm, ⟨5, _⟩ => ⟨S4096x1536, .f32⟩
  | .hbm, ⟨6, _⟩ => ⟨S4096x2048, .f32⟩
  | .hbm, ⟨7, _⟩ => ⟨S4096x2048, .bf16⟩
  | .hbm, ⟨8, _⟩ => ⟨S4096x1536, .bf16⟩
  | .hbm, ⟨9, _⟩ => ⟨S4096x2048, .bf16⟩
  | .hbm, ⟨10, _⟩ => ⟨S5632x1024, .f32⟩
  | .hbm, ⟨11, _⟩ => ⟨S5632x1024, .bf16⟩
  | .hbm, ⟨12, _⟩ => ⟨S4096x1024, .f32⟩
  | .hbm, ⟨13, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x1536, .bf16⟩
  | .local _ .vmem, ⟨3, _⟩ => ⟨S512x1536, .bf16⟩
  | .local _ .vmem, ⟨4, _⟩ => ⟨S512x2048, .bf16⟩
  | .local _ .vmem, ⟨5, _⟩ => ⟨S512x2048, .bf16⟩
  | .local _ .vmem, ⟨6, _⟩ => ⟨S5632x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5632x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x1024 : Shape := ⟨2, ![4096, 1024]⟩
abbrev S1x1024 : Shape := ⟨2, ![1, 1024]⟩
abbrev S1024x5632 : Shape := ⟨2, ![1024, 5632]⟩
abbrev S4096x2048 : Shape := ⟨2, ![4096, 2048]⟩
abbrev S4096x1536 : Shape := ⟨2, ![4096, 1536]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x1024, .f32⟩
  | .hbm, ⟨4, _⟩ => ⟨S4096x2048, .f32⟩
  | .hbm, ⟨5, _⟩ => ⟨S4096x1536, .f32⟩
  | .hbm, ⟨6, _⟩ => ⟨S4096x2048, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S4096x5632, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel2.lean ====
abbrev S4096x2048 : Shape := ⟨2, ![4096, 2048]⟩
abbrev S2x512 : Shape := ⟨2, ![2, 512]⟩
abbrev S1x128 : Shape := ⟨2, ![1, 128]⟩
abbrev S4096x512 : Shape := ⟨2, ![4096, 512]⟩
abbrev S_ : Shape := ⟨0, ![]⟩
abbrev S512 : Shape := ⟨1, ![512]⟩
abbrev S1x512 : Shape := ⟨2, ![1, 512]⟩
abbrev S4096x4x128 : Shape := ⟨3, ![4096, 4, 128]⟩
abbrev S4x128 : Shape := ⟨2, ![4, 128]⟩
abbrev S1x4x128 : Shape := ⟨3, ![1, 4, 128]⟩
abbrev S128x32x4x128 : Shape := ⟨4, ![128, 32, 4, 128]⟩
abbrev S128x4x32x128 : Shape := ⟨4, ![128, 4, 32, 128]⟩
abbrev S128x4x1x128 : Shape := ⟨4, ![128, 4, 1, 128]⟩
abbrev S128x4x32x32 : Shape := ⟨4, ![128, 4, 32, 32]⟩
abbrev S32x32 : Shape := ⟨2, ![32, 32]⟩
abbrev S128x4x128 : Shape := ⟨3, ![128, 4, 128]⟩
abbrev S4x128x128 : Shape := ⟨3, ![4, 128, 128]⟩
abbrev S128x4x128x128 : Shape := ⟨4, ![128, 4, 128, 128]⟩
abbrev S1x4x32x128 : Shape := ⟨4, ![1, 4, 32, 128]⟩
abbrev S4x32x128 : Shape := ⟨3, ![4, 32, 128]⟩
abbrev S4x128x1 : Shape := ⟨3, ![4, 128, 1]⟩
abbrev S1x4x128x128 : Shape := ⟨4, ![1, 4, 128, 128]⟩
abbrev S4x128x128x128 : Shape := ⟨4, ![4, 128, 128, 128]⟩
abbrev S512x512 : Shape := ⟨2, ![512, 512]⟩
abbrev S4x16x128x128 : Shape := ⟨4, ![4, 16, 128, 128]⟩
abbrev S512x2048 : Shape := ⟨2, ![512, 2048]⟩
abbrev S512x128 : Shape := ⟨2, ![512, 128]⟩
abbrev S256x256 : Shape := ⟨2, ![256, 256]⟩
abbrev S2x128 : Shape := ⟨2, ![2, 128]⟩
abbrev S16x32x128 : Shape := ⟨3, ![16, 32, 128]⟩
abbrev S16x1x128 : Shape := ⟨3, ![16, 1, 128]⟩
abbrev S512x1 : Shape := ⟨2, ![512, 1]⟩
abbrev S128 : Shape := ⟨1, ![128]⟩
abbrev S256x128 : Shape := ⟨2, ![256, 128]⟩
abbrev S1x128x128 : Shape := ⟨3, ![1, 128, 128]⟩
abbrev S128x128 : Shape := ⟨2, ![128, 128]⟩
abbrev S1x1x128x128 : Shape := ⟨4, ![1, 1, 128, 128]⟩
abbrev S32x128 : Shape := ⟨2, ![32, 128]⟩
abbrev S1x1x128 : Shape := ⟨3, ![1, 1, 128]⟩
abbrev S16x128 : Shape := ⟨2, ![16, 128]⟩

abbrev nBuf : Space → Nat
  | .hbm => 174
  | .vmem => 27
  | .smem => 0
  | _ => 0

abbrev hbmTy0_0 (i : Nat) : BufTy := match i % 128 with
  | 0 => ⟨S4096x2048, .f32⟩
  | 1 => ⟨S2x512, .f32⟩
  | 2 => ⟨S1x128, .f32⟩
  | 3 => ⟨S4096x512, .f32⟩
  | 4 => ⟨S_, .f32⟩
  | 5 => ⟨S512, .f32⟩
  | 6 => ⟨S_, .f32⟩
  | 7 => ⟨S512, .f32⟩
  | 8 => ⟨S512, .f32⟩
  | 9 => ⟨S1x512, .f32⟩
  | 10 => ⟨S2x512, .f32⟩
  | 11 => ⟨S2x512, .f32⟩
  | 12 => ⟨S2x512, .f32⟩
  | 13 => ⟨S_, .f32⟩
  | 14 => ⟨S512, .f32⟩
  | 15 => ⟨S1x512, .f32⟩
  | 16 => ⟨S2x512, .f32⟩
  | 17 => ⟨S2x512, .f32⟩
  | 18 => ⟨S_, .f32⟩
  | 19 => ⟨S_, .f32⟩
  | 20 => ⟨S2x512, .f32⟩
  | 21 => ⟨S1x512, .f32⟩
  | 22 => ⟨S512, .f32⟩
  | 23 => ⟨S4096x512, .f32⟩
  | 24 => ⟨S4096x512, .f32⟩
  | 25 => ⟨S4096x512, .f32⟩
  | 26 => ⟨S4096x512, .f32⟩
  | 27 => ⟨S4096x4x128, .f32⟩
  | 28 => ⟨S4096x4x128, .f32⟩
  | 29 => ⟨S4096x4x128, .f32⟩
  | 30 => ⟨S_, .f32⟩
  | 31 => ⟨S4096x4x128, .f32⟩
  | 32 => ⟨S4096x4x128, .f32⟩
  | 33 => ⟨S_, .f32⟩
  | 34 => ⟨S4096x4x128, .f32⟩
  | 35 => ⟨S4096x4x128, .f32⟩
  | 36 => ⟨S4096x4x128, .f32⟩
  | 37 => ⟨S_, .f32⟩
  | 38 => ⟨S4096x4x128, .f32⟩
  | 39 => ⟨S4096x4x128, .f32⟩
  | 40 => ⟨S4x128, .f32⟩
  | 41 => ⟨S_, .f32⟩
  | 42 => ⟨S4x128, .f32⟩
  | 43 => ⟨S4x128, .f32⟩
  | 44 => ⟨S4096x4x128, .f32⟩
  | 45 => ⟨S4096x4x128, .f32⟩
  | 46 => ⟨S4096x4x128, .f32⟩
  | 47 => ⟨S_, .f32⟩
  | 48 => ⟨S4096x4x128, .f32⟩
  | 49 => ⟨S4096x4x128, .f32⟩
  | 50 => ⟨S_, .f32⟩
  | 51 => ⟨S4096x4x128, .f32⟩
  | 52 => ⟨S4096x4x128, .f32⟩
  | 53 => ⟨S1x4x128, .f32⟩
  | 54 => ⟨S4096x4x128, .f32⟩
  | 55 => ⟨S4096x4x128, .f32⟩
  | 56 => ⟨S1x4x128, .f32⟩
  | 57 => ⟨S4096x4x128, .f32⟩
  | 58 => ⟨S4096x4x128, .f32⟩
  | 59 => ⟨S_, .f32⟩
  | 60 => ⟨S4096x4x128, .f32⟩
  | 61 => ⟨S4096x4x128, .f32⟩
  | 62 => ⟨S4096x4x128, .f32⟩
  | 63 => ⟨S4096x4x128, .f32⟩
  | 64 => ⟨S128x32x4x128, .f32⟩
  | 65 => ⟨S128x4x32x128, .f32⟩
  | 66 => ⟨S128x32x4x128, .f32⟩
  | 67 => ⟨S128x4x32x128, .f32⟩
  | 68 => ⟨S128x32x4x128, .f32⟩
  | 69 => ⟨S128x4x32x128, .f32⟩
  | 70 => ⟨S128x32x4x128, .f32⟩
  | 71 => ⟨S128x4x32x128, .f32⟩
  | 72 => ⟨S_, .f32⟩
  | 73 => ⟨S_, .f32⟩
  | 74 => ⟨S128x4x32x128, .f32⟩
  | 75 => ⟨S128x4x1x128, .f32⟩
  | 76 => ⟨S128x4x32x128, .f32⟩
  | 77 => ⟨S128x4x32x128, .f32⟩
  | 78 => ⟨S128x4x32x128, .f32⟩
  | 79 => ⟨S128x4x32x128, .f32⟩
  | 80 => ⟨S128x4x32x128, .f32⟩
  | 81 => ⟨S128x4x32x128, .f32⟩
  | 82 => ⟨S128x4x32x128, .f32⟩
  | 83 => ⟨S128x4x32x128, .f32⟩
  | 84 => ⟨S128x4x32x32, .f32⟩
  | 85 => ⟨S_, .i1⟩
  | 86 => ⟨S32x32, .i1⟩
  | 87 => ⟨S32x32, .i32⟩
  | 88 => ⟨S_, .i32⟩
  | 89 => ⟨S32x32, .i32⟩
  | 90 => ⟨S32x32, .i32⟩
  | 91 => ⟨S32x32, .i32⟩
  | 92 => ⟨S32x32, .i1⟩
  | 93 => ⟨S_, .i1⟩
  | 94 => ⟨S32x32, .i1⟩
  | 95 => ⟨S32x32, .i1⟩
  | 96 => ⟨S_, .f32⟩
  | 97 => ⟨S_, .f32⟩
  | 98 => ⟨S128x4x32x32, .i1⟩
  | 99 => ⟨S128x4x32x32, .f32⟩
  | 100 => ⟨S128x4x32x32, .f32⟩
  | 101 => ⟨S128x4x32x128, .f32⟩
  | 102 => ⟨S128x4x1x128, .f32⟩
  | 103 => ⟨S128x4x32x128, .f32⟩
  | 104 => ⟨S128x4x32x128, .f32⟩
  | 105 => ⟨S128x4x32x128, .f32⟩
  | 106 => ⟨S128x4x32x128, .f32⟩
  | 107 => ⟨S128x4x32x128, .f32⟩
  | 108 => ⟨S128x4x32x128, .f32⟩
  | 109 => ⟨S128x4x128, .f32⟩
  | 110 => ⟨S128x4x128, .f32⟩
  | 111 => ⟨S_, .f32⟩
  | 112 => ⟨S4x128x128, .f32⟩
  | 113 => ⟨S_, .f32⟩
  | 114 => ⟨S128x4x32x128, .f32⟩
  | 115 => ⟨S_, .f32⟩
  | 116 => ⟨S128x4x128x128, .f32⟩
  | 117 => ⟨S_, .i32⟩
  | 118 => ⟨S128x4x32x128, .f32⟩
  | 119 => ⟨S128x4x32x128, .f32⟩
  | 120 => ⟨S128x4x32x128, .f32⟩
  | 121 => ⟨S128x4x128, .f32⟩
  | 122 => ⟨S_, .i32⟩
  | 123 => ⟨S4x128x128, .f32⟩
  | 124 => ⟨S128x4x32x128, .f32⟩
  | 125 => ⟨S128x4x128x128, .f32⟩
  | 126 => ⟨S_, .i32⟩
  | 127 => ⟨S_, .i1⟩
  | _ => ⟨S4096x2048, .f32⟩

abbrev hbmTy0_1 (i : Nat) : BufTy := match i % 128 with
  | 0 => ⟨S_, .i32⟩
  | 1 => ⟨S_, .i32⟩
  | 2 => ⟨S_, .i32⟩
  | 3 => ⟨S1x4x32x128, .f32⟩
  | 4 => ⟨S4x32x128, .f32⟩
  | 5 => ⟨S_, .i32⟩
  | 6 => ⟨S_, .i32⟩
  | 7 => ⟨S_, .i32⟩
  | 8 => ⟨S1x4x32x128, .f32⟩
  | 9 => ⟨S4x32x128, .f32⟩
  | 10 => ⟨S_, .i32⟩
  | 11 => ⟨S_, .i32⟩
  | 12 => ⟨S_, .i32⟩
  | 13 => ⟨S1x4x32x128, .f32⟩
  | 14 => ⟨S4x32x128, .f32⟩
  | 15 => ⟨S_, .i32⟩
  | 16 => ⟨S_, .i32⟩
  | 17 => ⟨S1x4x128, .f32⟩
  | 18 => ⟨S4x128, .f32⟩
  | 19 => ⟨S4x32x128, .f32⟩
  | 20 => ⟨S4x128x1, .f32⟩
  | 21 => ⟨S4x128x128, .f32⟩
  | 22 => ⟨S4x128x128, .f32⟩
  | 23 => ⟨S4x128x128, .f32⟩
  | 24 => ⟨S4x128x128, .f32⟩
  | 25 => ⟨S1x4x32x128, .f32⟩
  | 26 => ⟨S_, .i32⟩
  | 27 => ⟨S_, .i32⟩
  | 28 => ⟨S_, .i32⟩
  | 29 => ⟨S128x4x32x128, .f32⟩
  | 30 => ⟨S1x4x128x128, .f32⟩
  | 31 => ⟨S_, .i32⟩
  | 32 => ⟨S_, .i32⟩
  | 33 => ⟨S_, .i32⟩
  | 34 => ⟨S128x4x128x128, .f32⟩
  | 35 => ⟨S_, .i32⟩
  | 36 => ⟨S_, .i32⟩
  | 37 => ⟨S128x4x32x128, .f32⟩
  | 38 => ⟨S128x32x4x128, .f32⟩
  | 39 => ⟨S4096x4x128, .f32⟩
  | 40 => ⟨S4096x4x128, .f32⟩
  | 41 => ⟨S4096x512, .f32⟩
  | 42 => ⟨S4x128x128x128, .f32⟩
  | 43 => ⟨S4096x2048, .bf16⟩
  | 44 => ⟨S2x512, .f32⟩
  | 45 => ⟨S1x128, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S2x512, .f32⟩
  | .local _ .vmem, ⟨9, _⟩ => ⟨S1x128, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S4x16x128x128, .f32⟩
  | .local _ .vmem, ⟨15, _⟩ => ⟨S4x16x128x128, .f32⟩
  | .local _ .vmem, ⟨16, _⟩ => ⟨S512x2048, .bf16⟩
  | .local _ .vmem, ⟨17, _⟩ => ⟨S512x2048, .bf16⟩
  | .local _ .vmem, ⟨18, _⟩ => ⟨S2x512, .f32⟩
  | .local _ .vmem, ⟨19, _⟩ => ⟨S1x128, .f32⟩
  | .local _ .vmem, ⟨20, _⟩ => ⟨S4x128x128, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call2_call0_cst : Ref sig .tc := ⟨.hbm, 72, rfl⟩
abbrev main_call2_call0_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c : Ref sig .tc := ⟨.hbm, 85, rfl⟩
abbrev main_v61 : Ref sig .tc := ⟨.hbm, 86, rfl⟩
abbrev main_call3_v0 : Ref sig .tc := ⟨.hbm, 87, rfl⟩
abbrev main_call3_c : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_c_0 : Ref sig .tc := ⟨.hbm, 93, rfl⟩
abbrev main_call3_v5 : Ref sig .tc := ⟨.hbm, 94, rfl⟩
abbrev main_v62 : Ref sig .tc := ⟨.hbm, 95, rfl⟩
abbrev main_cst_7 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_8 : Ref sig .tc := ⟨.hbm, 111, rfl⟩
abbrev main_v74 : Ref sig .tc := ⟨.hbm, 112, rfl⟩
abbrev main_cst_9 : Ref sig .tc := ⟨.hbm, 113, rfl⟩
abbrev main_v75 : Ref sig .tc := ⟨.hbm, 114, rfl⟩
abbrev main_cst_10 : Ref sig .tc := ⟨.hbm, 115, rfl⟩
abbrev main_v76 : Ref sig .tc := ⟨.hbm, 116, rfl⟩
abbrev main_c_11 : Ref sig .tc := ⟨.hbm, 117, rfl⟩
abbrev main_v77_0 : Ref sig .tc := ⟨.hbm, 118, rfl⟩
abbrev main_v77_1 : Ref sig .tc := ⟨.hbm, 119, rfl⟩
abbrev main_v77_2 : Ref sig .tc := ⟨.hbm, 120, rfl⟩
abbrev main_v77_3 : Ref sig .tc := ⟨.hbm, 121, rfl⟩
abbrev main_v77_4 : Ref sig .tc := ⟨.hbm, 122, rfl⟩
abbrev main_v77_5 : Ref sig .tc := ⟨.hbm, 123, rfl⟩
abbrev main_v77_6 : Ref sig .tc := ⟨.hbm, 124, rfl⟩
abbrev main_v77_7 : Ref sig .tc := ⟨.hbm, 125, rfl⟩
abbrev main_while0c_c_19 : Ref sig .tc := ⟨.hbm, 126, rfl⟩
abbrev main_while0c_v85 : Ref sig .tc := ⟨.hbm, 127, rfl⟩
abbrev main_while0b_call5_c : Ref sig .tc := ⟨.hbm, 128, rfl⟩
abbrev main_while0b_call5_c_0 : Ref sig .tc := ⟨.hbm, 129, rfl⟩
abbrev main_while0b_call5_c_1 : Ref sig .tc := ⟨.hbm, 130, rfl⟩
abbrev main_while0b_call5_v0 : Ref sig .tc := ⟨.hbm, 131, rfl⟩
abbrev main_while0b_v85 : Ref sig .tc := ⟨.hbm, 132, rfl⟩
abbrev main_while0b_call6_c : Ref sig .tc := ⟨.hbm, 133, rfl⟩
abbrev main_while0b_call6_c_0 : Ref sig .tc := ⟨.hbm, 134, rfl⟩
abbrev main_while0b_call6_c_1 : Ref sig .tc := ⟨.hbm, 135, rfl⟩
abbrev main_while0b_call6_v0 : Ref sig .tc := ⟨.hbm, 136, rfl⟩
abbrev main_while0b_v86 : Ref sig .tc := ⟨.hbm, 137, rfl⟩
abbrev main_while0b_call7_c : Ref sig .tc := ⟨.hbm, 138, rfl⟩
abbrev main_while0b_call7_c_0 : Ref sig .tc := ⟨.hbm, 139, rfl⟩
abbrev main_while0b_call7_c_1 : Ref sig .tc := ⟨.hbm, 140, rfl⟩
abbrev main_while0b_call7_v0 : Ref sig .tc := ⟨.hbm, 141, rfl⟩
abbrev main_while0b_v87 : Ref sig .tc := ⟨.hbm, 142, rfl⟩
abbrev main_while0b_call8_c : Ref sig .tc := ⟨.hbm, 143, rfl⟩
abbrev main_while0b_call8_c_0 : Ref sig .tc := ⟨.hbm, 144, rfl⟩
abbrev main_while0b_call8_v0 : Ref sig .tc := ⟨.hbm, 145, rfl⟩
abbrev main_while0b_v88 : Ref sig .tc := ⟨.hbm, 146, rfl⟩
abbrev main_while0b_v89 : Ref sig .tc := ⟨.hbm, 147, rfl⟩
abbrev main_while0b_v90 : Ref sig .tc := ⟨.hbm, 148, rfl⟩
abbrev main_while0b_v91 : Ref sig .tc := ⟨.hbm, 149, rfl⟩
abbrev main_while0b_v92 : Ref sig .tc := ⟨.hbm, 150, rfl⟩
abbrev main_while0b_v93 : Ref sig .tc := ⟨.hbm, 151, rfl⟩
abbrev main_while0b_v94 : Ref sig .tc := ⟨.hbm, 152, rfl⟩
abbrev main_while0b_call9_v0 : Ref sig .tc := ⟨.hbm, 153, rfl⟩
abbrev main_while0b_call9_c : Ref sig .tc := ⟨.hbm, 154, rfl⟩
abbrev main_while0b_call9_c_0 : Ref sig .tc := ⟨.hbm, 155, rfl⟩
abbrev main_while0b_call9_c_1 : Ref sig .tc := ⟨.hbm, 156, rfl⟩
abbrev main_while0b_v95 : Ref sig .tc := ⟨.hbm, 157, rfl⟩
abbrev main_while0b_call10_v0 : Ref sig .tc := ⟨.hbm, 158, rfl⟩
abbrev main_while0b_call10_c : Ref sig .tc := ⟨.hbm, 159, rfl⟩
abbrev main_while0b_call10_c_0 : Ref sig .tc := ⟨.hbm, 160, rfl⟩
abbrev main_while0b_call10_c_1 : Ref sig .tc := ⟨.hbm, 161, rfl⟩
abbrev main_while0b_v96 : Ref sig .tc := ⟨.hbm, 162, rfl⟩
abbrev main_while0b_c_19 : Ref sig .tc := ⟨.hbm, 163, rfl⟩
abbrev main_while0b_v97 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84_0 : Ref sig .tc := ⟨.hbm, 171, rfl⟩
abbrev main_v84_1 : Ref sig .tc := ⟨.hbm, 172, rfl⟩
abbrev main_v84_2 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev main_while0_count : Scf.Loop 32 := ⟨0#32, 128#32, 1#32⟩

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c1_i32 : BitVec 32 := 1#32
  let v1 : BitVec 32 := Scalar.addi c1_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c2_i32 : BitVec 32 := 2#32
  let v1 : BitVec 32 := Scalar.addi c2_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c3_i32 : BitVec 32 := 3#32
  let v1 : BitVec 32 := Scalar.addi c3_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_8 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S2x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference2Ideal.lean ====
abbrev S4096x2048 : Shape := ⟨2, ![4096, 2048]⟩
abbrev S2x512 : Shape := ⟨2, ![2, 512]⟩
abbrev S1x128 : Shape := ⟨2, ![1, 128]⟩
abbrev S4096x512 : Shape := ⟨2, ![4096, 512]⟩
abbrev S_ : Shape := ⟨0, ![]⟩
abbrev S512 : Shape := ⟨1, ![512]⟩
abbrev S1x512 : Shape := ⟨2, ![1, 512]⟩
abbrev S4096x4x128 : Shape := ⟨3, ![4096, 4, 128]⟩
abbrev S4x128 : Shape := ⟨2, ![4, 128]⟩
abbrev S1x4x128 : Shape := ⟨3, ![1, 4, 128]⟩
abbrev S128x32x4x128 : Shape := ⟨4, ![128, 32, 4, 128]⟩
abbrev S128x4x32x128 : Shape := ⟨4, ![128, 4, 32, 128]⟩
abbrev S128x4x1x128 : Shape := ⟨4, ![128, 4, 1, 128]⟩
abbrev S128x4x32x32 : Shape := ⟨4, ![128, 4, 32, 32]⟩
abbrev S32x32 : Shape := ⟨2, ![32, 32]⟩
abbrev S128x4x128 : Shape := ⟨3, ![128, 4, 128]⟩
abbrev S4x128x128 : Shape := ⟨3, ![4, 128, 128]⟩
abbrev S128x4x128x128 : Shape := ⟨4, ![128, 4, 128, 128]⟩
abbrev S128x4x128x1 : Shape := ⟨4, ![128, 4, 128, 1]⟩
abbrev S1x4x32x128 : Shape := ⟨4, ![1, 4, 32, 128]⟩
abbrev S4x32x128 : Shape := ⟨3, ![4, 32, 128]⟩
abbrev S4x128x1 : Shape := ⟨3, ![4, 128, 1]⟩
abbrev S1x4x128x128 : Shape := ⟨4, ![1, 4, 128, 128]⟩
abbrev S1x4x128x1 : Shape := ⟨4, ![1, 4, 128, 1]⟩
abbrev S128 : Shape := ⟨1, ![128]⟩
abbrev S4096x4 : Shape := ⟨2, ![4096, 4]⟩
abbrev S4096x4x1 : Shape := ⟨3, ![4096, 4, 1]⟩
abbrev S1x1x128 : Shape := ⟨3, ![1, 1, 128]⟩
abbrev S4x128x32 : Shape := ⟨3, ![4, 128, 32]⟩
abbrev S128x4x128x32 : Shape := ⟨4, ![128, 4, 128, 32]⟩

abbrev nBuf : Space → Nat
  | .hbm => 492
  | .vmem => 0
  | .smem => 0
  | _ => 0

abbrev hbmTy0_0 (i : Nat) : BufTy := match i % 128 with
  | 0 => ⟨S4096x2048, .f32⟩
  | 1 => ⟨S2x512, .f32⟩
  | 2 => ⟨S1x128, .f32⟩
  | 3 => ⟨S4096x512, .f32⟩
  | 4 => ⟨S_, .f32⟩
  | 5 => ⟨S512, .f32⟩
  | 6 => ⟨S1x512, .f32⟩
  | 7 => ⟨S2x512, .f32⟩
  | 8 => ⟨S2x512, .i1⟩
  | 9 => ⟨S2x512, .f32⟩
  | 10 => ⟨S_, .f32⟩
  | 11 => ⟨S512, .f32⟩
  | 12 => ⟨S_, .f32⟩
  | 13 => ⟨S512, .f32⟩
  | 14 => ⟨S512, .f32⟩
  | 15 => ⟨S_, .f32⟩
  | 16 => ⟨S512, .f32⟩
  | 17 => ⟨S512, .i1⟩
  | 18 => ⟨S_, .f32⟩
  | 19 => ⟨S512, .f32⟩
  | 20 => ⟨S512, .i1⟩
  | 21 => ⟨S_, .f32⟩
  | 22 => ⟨S512, .f32⟩
  | 23 => ⟨S_, .f32⟩
  | 24 => ⟨S512, .f32⟩
  | 25 => ⟨S_, .f32⟩
  | 26 => ⟨S512, .f32⟩
  | 27 => ⟨S512, .f32⟩
  | 28 => ⟨S512, .f32⟩
  | 29 => ⟨S1x512, .f32⟩
  | 30 => ⟨S2x512, .f32⟩
  | 31 => ⟨S2x512, .f32⟩
  | 32 => ⟨S2x512, .f32⟩
  | 33 => ⟨S_, .f32⟩
  | 34 => ⟨S512, .f32⟩
  | 35 => ⟨S1x512, .f32⟩
  | 36 => ⟨S2x512, .f32⟩
  | 37 => ⟨S2x512, .f32⟩
  | 38 => ⟨S1x512, .f32⟩
  | 39 => ⟨S_, .f32⟩
  | 40 => ⟨S1x512, .f32⟩
  | 41 => ⟨S1x512, .f32⟩
  | 42 => ⟨S_, .f32⟩
  | 43 => ⟨S_, .f32⟩
  | 44 => ⟨S2x512, .f32⟩
  | 45 => ⟨S1x512, .f32⟩
  | 46 => ⟨S512, .f32⟩
  | 47 => ⟨S4096x512, .f32⟩
  | 48 => ⟨S4096x512, .f32⟩
  | 49 => ⟨S4096x512, .f32⟩
  | 50 => ⟨S4096x512, .f32⟩
  | 51 => ⟨S4096x4x128, .f32⟩
  | 52 => ⟨S4096x4x128, .f32⟩
  | 53 => ⟨S4096x4x128, .f32⟩
  | 54 => ⟨S_, .f32⟩
  | 55 => ⟨S4096x4x128, .f32⟩
  | 56 => ⟨S4096x4x128, .f32⟩
  | 57 => ⟨S_, .f32⟩
  | 58 => ⟨S4096x4x128, .f32⟩
  | 59 => ⟨S4096x4x128, .f32⟩
  | 60 => ⟨S_, .f32⟩
  | 61 => ⟨S4096x4x128, .f32⟩
  | 62 => ⟨S4096x4x128, .f32⟩
  | 63 => ⟨S4096x4x128, .f32⟩
  | 64 => ⟨S4096x4x128, .f32⟩
  | 65 => ⟨S_, .f32⟩
  | 66 => ⟨S4096x4x128, .f32⟩
  | 67 => ⟨S4096x4x128, .f32⟩
  | 68 => ⟨S4x128, .f32⟩
  | 69 => ⟨S_, .f32⟩
  | 70 => ⟨S4x128, .f32⟩
  | 71 => ⟨S4x128, .f32⟩
  | 72 => ⟨S4096x4x128, .f32⟩
  | 73 => ⟨S4096x4x128, .f32⟩
  | 74 => ⟨S4096x4x128, .f32⟩
  | 75 => ⟨S_, .f32⟩
  | 76 => ⟨S4096x4x128, .f32⟩
  | 77 => ⟨S4096x4x128, .f32⟩
  | 78 => ⟨S_, .f32⟩
  | 79 => ⟨S4096x4x128, .f32⟩
  | 80 => ⟨S4096x4x128, .f32⟩
  | 81 => ⟨S_, .f32⟩
  | 82 => ⟨S4096x4x128, .f32⟩
  | 83 => ⟨S4096x4x128, .f32⟩
  | 84 => ⟨S4096x4x128, .f32⟩
  | 85 => ⟨S1x4x128, .f32⟩
  | 86 => ⟨S4096x4x128, .f32⟩
  | 87 => ⟨S4096x4x128, .f32⟩
  | 88 => ⟨S1x4x128, .f32⟩
  | 89 => ⟨S4096x4x128, .f32⟩
  | 90 => ⟨S4096x4x128, .f32⟩
  | 91 => ⟨S_, .f32⟩
  | 92 => ⟨S4096x4x128, .f32⟩
  | 93 => ⟨S4096x4x128, .f32⟩
  | 94 => ⟨S4096x4x128, .f32⟩
  | 95 => ⟨S4096x4x128, .f32⟩
  | 96 => ⟨S128x32x4x128, .f32⟩
  | 97 => ⟨S128x4x32x128, .f32⟩
  | 98 => ⟨S128x32x4x128, .f32⟩
  | 99 => ⟨S128x4x32x128, .f32⟩
  | 100 => ⟨S128x32x4x128, .f32⟩
  | 101 => ⟨S128x4x32x128, .f32⟩
  | 102 => ⟨S128x32x4x128, .f32⟩
  | 103 => ⟨S128x4x32x128, .f32⟩
  | 104 => ⟨S_, .f32⟩
  | 105 => ⟨S_, .f32⟩
  | 106 => ⟨S128x4x32x128, .f32⟩
  | 107 => ⟨S128x4x1x128, .f32⟩
  | 108 => ⟨S128x4x32x128, .f32⟩
  | 109 => ⟨S128x4x32x128, .f32⟩
  | 110 => ⟨S128x4x32x128, .f32⟩
  | 111 => ⟨S128x4x32x128, .f32⟩
  | 112 => ⟨S128x4x32x128, .f32⟩
  | 113 => ⟨S128x4x32x128, .f32⟩
  | 114 => ⟨S128x4x32x128, .f32⟩
  | 115 => ⟨S128x4x32x128, .f32⟩
  | 116 => ⟨S128x4x32x32, .f32⟩
  | 117 => ⟨S_, .i1⟩
  | 118 => ⟨S32x32, .i1⟩
  | 119 => ⟨S32x32, .i32⟩
  | 120 => ⟨S_, .i32⟩
  | 121 => ⟨S32x32, .i32⟩
  | 122 => ⟨S32x32, .i32⟩
  | 123 => ⟨S32x32, .i32⟩
  | 124 => ⟨S32x32, .i1⟩
  | 125 => ⟨S_, .i1⟩
  | 126 => ⟨S32x32, .i1⟩
  | 127 => ⟨S32x32, .i1⟩
  | _ => ⟨S4096x2048, .f32⟩

abbrev hbmTy0_1 (i : Nat) : BufTy := match i % 128 with
  | 0 => ⟨S_, .f32⟩
  | 1 => ⟨S_, .f32⟩
  | 2 => ⟨S128x4x32x32, .i1⟩
  | 3 => ⟨S128x4x32x32, .f32⟩
  | 4 => ⟨S128x4x32x32, .f32⟩
  | 5 => ⟨S_, .f32⟩
  | 6 => ⟨S128x4x32x32, .f32⟩
  | 7 => ⟨S128x4x32x128, .f32⟩
  | 8 => ⟨S128x4x1x128, .f32⟩
  | 9 => ⟨S128x4x32x128, .f32⟩
  | 10 => ⟨S128x4x32x128, .f32⟩
  | 11 => ⟨S128x4x32x128, .f32⟩
  | 12 => ⟨S128x4x32x128, .f32⟩
  | 13 => ⟨S128x4x32x128, .f32⟩
  | 14 => ⟨S128x4x32x128, .f32⟩
  | 15 => ⟨S128x4x128, .f32⟩
  | 16 => ⟨S128x4x128, .f32⟩
  | 17 => ⟨S_, .f32⟩
  | 18 => ⟨S4x128x128, .f32⟩
  | 19 => ⟨S_, .f32⟩
  | 20 => ⟨S128x4x32x128, .f32⟩
  | 21 => ⟨S_, .f32⟩
  | 22 => ⟨S128x4x128x128, .f32⟩
  | 23 => ⟨S_, .f32⟩
  | 24 => ⟨S128x4x128x1, .f32⟩
  | 25 => ⟨S_, .i32⟩
  | 26 => ⟨S128x4x32x128, .f32⟩
  | 27 => ⟨S128x4x32x128, .f32⟩
  | 28 => ⟨S128x4x32x128, .f32⟩
  | 29 => ⟨S128x4x128, .f32⟩
  | 30 => ⟨S_, .i32⟩
  | 31 => ⟨S4x128x128, .f32⟩
  | 32 => ⟨S128x4x32x128, .f32⟩
  | 33 => ⟨S128x4x128x128, .f32⟩
  | 34 => ⟨S128x4x128x1, .f32⟩
  | 35 => ⟨S_, .i32⟩
  | 36 => ⟨S_, .i1⟩
  | 37 => ⟨S_, .i32⟩
  | 38 => ⟨S_, .i32⟩
  | 39 => ⟨S_, .i32⟩
  | 40 => ⟨S1x4x32x128, .f32⟩
  | 41 => ⟨S4x32x128, .f32⟩
  | 42 => ⟨S_, .i32⟩
  | 43 => ⟨S_, .i32⟩
  | 44 => ⟨S_, .i32⟩
  | 45 => ⟨S1x4x32x128, .f32⟩
  | 46 => ⟨S4x32x128, .f32⟩
  | 47 => ⟨S_, .i32⟩
  | 48 => ⟨S_, .i32⟩
  | 49 => ⟨S_, .i32⟩
  | 50 => ⟨S1x4x32x128, .f32⟩
  | 51 => ⟨S4x32x128, .f32⟩
  | 52 => ⟨S_, .i32⟩
  | 53 => ⟨S_, .i32⟩
  | 54 => ⟨S1x4x128, .f32⟩
  | 55 => ⟨S4x128, .f32⟩
  | 56 => ⟨S4x32x128, .f32⟩
  | 57 => ⟨S4x128x1, .f32⟩
  | 58 => ⟨S4x128x128, .f32⟩
  | 59 => ⟨S4x128x128, .f32⟩
  | 60 => ⟨S4x128x128, .f32⟩
  | 61 => ⟨S4x128x128, .f32⟩
  | 62 => ⟨S1x4x32x128, .f32⟩
  | 63 => ⟨S_, .i32⟩
  | 64 => ⟨S_, .i32⟩
  | 65 => ⟨S_, .i32⟩
  | 66 => ⟨S128x4x32x128, .f32⟩
  | 67 => ⟨S1x4x128x128, .f32⟩
  | 68 => ⟨S_, .i32⟩
  | 69 => ⟨S_, .i32⟩
  | 70 => ⟨S_, .i32⟩
  | 71 => ⟨S128x4x128x128, .f32⟩
  | 72 => ⟨S1x4x128x1, .f32⟩
  | 73 => ⟨S_, .i32⟩
  | 74 => ⟨S_, .i32⟩
  | 75 => ⟨S_, .i32⟩
  | 76 => ⟨S128x4x128x1, .f32⟩
  | 77 => ⟨S_, .i32⟩
  | 78 => ⟨S_, .i32⟩
  | 79 => ⟨S128x4x32x128, .f32⟩
  | 80 => ⟨S128x32x4x128, .f32⟩
  | 81 => ⟨S4096x4x128, .f32⟩
  | 82 => ⟨S4096x4x128, .f32⟩
  | 83 => ⟨S128, .f32⟩
  | 84 => ⟨S4096x4x128, .f32⟩
  | 85 => ⟨S_, .f32⟩
  | 86 => ⟨S4096x4, .f32⟩
  | 87 => ⟨S4096x4x1, .f32⟩
  | 88 => ⟨S_, .f32⟩
  | 89 => ⟨S4096x4x1, .f32⟩
  | 90 => ⟨S4096x4x1, .f32⟩
  | 91 => ⟨S_, .f32⟩
  | 92 => ⟨S4096x4x1, .f32⟩
  | 93 => ⟨S4096x4x1, .f32⟩
  | 94 => ⟨S4096x4x1, .f32⟩
  | 95 => ⟨S4096x4x1, .f32⟩
  | 96 => ⟨S_, .f32⟩
  | 97 => ⟨S4096x4x1, .f32⟩
  | 98 => ⟨S4096x4x1, .f32⟩
  | 99 => ⟨S4096x4x128, .f32⟩
  | 100 => ⟨S4096x4x128, .f32⟩
  | 101 => ⟨S1x1x128, .f32⟩
  | 102 => ⟨S4096x4x128, .f32⟩
  | 103 => ⟨S4096x4x128, .f32⟩
  | 104 => ⟨S4096x4x128, .f32⟩
  | 105 => ⟨S4096x4x128, .f32⟩
  | 106 => ⟨S_, .f32⟩
  | 107 => ⟨S4096x4x128, .f32⟩
  | 108 => ⟨S4096x4x128, .f32⟩
  | 109 => ⟨S_, .f32⟩
  | 110 => ⟨S4096x4x128, .f32⟩
  | 111 => ⟨S4096x4x128, .f32⟩
  | 112 => ⟨S_, .f32⟩
  | 113 => ⟨S4096x4x128, .f32⟩
  | 114 => ⟨S4096x4x128, .f32⟩
  | 115 => ⟨S4096x4x128, .f32⟩
  | 116 => ⟨S4096x4x128, .f32⟩
  | 117 => ⟨S4096x4x128, .f32⟩
  | 118 => ⟨S4096x512, .f32⟩
  | 119 => ⟨S_, .f32⟩
  | 120 => ⟨S4x128x128, .f32⟩
  | 121 => ⟨S4096x4x128, .f32⟩
  | 122 => ⟨S4096x4x128, .f32⟩
  | 123 => ⟨S4096x4x128, .f32⟩
  | 124 => ⟨S4096x4x128, .f32⟩
  | 125 => ⟨S4096x4x128, .f32⟩
  | 126 => ⟨S4096x4x128, .f32⟩
  | 127 => ⟨S4096x4x128, .f32⟩
  | _ => ⟨S4096x2048, .f32⟩

abbrev hbmTy0_2 (i : Nat) : BufTy := match i % 128 with
  | 0 => ⟨S4096x4x128, .f32⟩
  | 1 => ⟨S_, .f32⟩
  | 2 => ⟨S128, .f32⟩
  | 3 => ⟨S1x1x128, .f32⟩
  | 4 => ⟨S4096x4x128, .f32⟩
  | 5 => ⟨S4096x4x128, .f32⟩
  | 6 => ⟨S_, .f32⟩
  | 7 => ⟨S128, .f32⟩
  | 8 => ⟨S4096x4x128, .f32⟩
  | 9 => ⟨S_, .f32⟩
  | 10 => ⟨S4096x4, .f32⟩
  | 11 => ⟨S4096x4x1, .f32⟩
  | 12 => ⟨S4096x4x128, .f32⟩
  | 13 => ⟨S4096x4x128, .f32⟩
  | 14 => ⟨S4096x4x1, .f32⟩
  | 15 => ⟨S_, .f32⟩
  | 16 => ⟨S4096x4x1, .f32⟩
  | 17 => ⟨S4096x4x1, .f32⟩
  | 18 => ⟨S_, .f32⟩
  | 19 => ⟨S4096x4, .f32⟩
  | 20 => ⟨S4096x4x128, .f32⟩
  | 21 => ⟨S4096x4x128, .f32⟩
  | 22 => ⟨S4096x4x128, .f32⟩
  | 23 => ⟨S4096x4x128, .f32⟩
  | 24 => ⟨S4096x4x128, .f32⟩
  | 25 => ⟨S1x128, .f32⟩
  | 26 => ⟨S4096x512, .f32⟩
  | 27 => ⟨S128x32x4x128, .f32⟩
  | 28 => ⟨S128x4x32x128, .f32⟩
  | 29 => ⟨S_, .f32⟩
  | 30 => ⟨S4x128x128, .f32⟩
  | 31 => ⟨S_, .f32⟩
  | 32 => ⟨S128x4x32x128, .f32⟩
  | 33 => ⟨S_, .f32⟩
  | 34 => ⟨S128x4x32x128, .f32⟩
  | 35 => ⟨S_, .f32⟩
  | 36 => ⟨S128x4x32x128, .f32⟩
  | 37 => ⟨S_, .f32⟩
  | 38 => ⟨S128x4x128, .f32⟩
  | 39 => ⟨S_, .i32⟩
  | 40 => ⟨S128x4x32x128, .f32⟩
  | 41 => ⟨S128x4x128x128, .f32⟩
  | 42 => ⟨S128x4x32x128, .f32⟩
  | 43 => ⟨S128x4x128x1, .f32⟩
  | 44 => ⟨S128x4x32x128, .f32⟩
  | 45 => ⟨S128x4x32x128, .f32⟩
  | 46 => ⟨S_, .i32⟩
  | 47 => ⟨S4x128x128, .f32⟩
  | 48 => ⟨S128x4x32x128, .f32⟩
  | 49 => ⟨S128x4x32x128, .f32⟩
  | 50 => ⟨S128x4x32x128, .f32⟩
  | 51 => ⟨S128x4x128, .f32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S1x4x32x128, .f32⟩
  | 62 => ⟨S4x32x128, .f32⟩
  | 63 => ⟨S_, .i32⟩
  | 64 => ⟨S_, .i32⟩
  | 65 => ⟨S_, .i32⟩
  | 66 => ⟨S1x4x128x128, .f32⟩
  | 67 => ⟨S4x128x128, .f32⟩
  | 68 => ⟨S_, .i32⟩
  | 69 => ⟨S_, .i32⟩
  | 70 => ⟨S_, .i32⟩
  | 71 => ⟨S1x4x32x128, .f32⟩
  | 72 => ⟨S4x32x128, .f32⟩
  | 73 => ⟨S_, .i32⟩
  | 74 => ⟨S_, .i32⟩
  | 75 => ⟨S_, .i32⟩
  | 76 => ⟨S1x4x128x1, .f32⟩
  | 77 => ⟨S4x128x1, .f32⟩
  | 78 => ⟨S_, .i32⟩
  | 79 => ⟨S_, .i32⟩
  | 80 => ⟨S_, .i32⟩
  | 81 => ⟨S1x4x32x128, .f32⟩
  | 82 => ⟨S4x32x128, .f32⟩
  | 83 => ⟨S_, .i32⟩
  | 84 => ⟨S_, .i32⟩
  | 85 => ⟨S_, .i32⟩
  | 86 => ⟨S1x4x32x128, .f32⟩
  | 87 => ⟨S4x32x128, .f32⟩
  | 88 => ⟨S4x128x32, .f32⟩
  | 89 => ⟨S4x32x128, .f32⟩
  | 90 => ⟨S4x128x32, .f32⟩
  | 91 => ⟨S4x32x128, .f32⟩
  | 92 => ⟨S4x128x128, .f32⟩
  | 93 => ⟨S4x128x128, .f32⟩
  | 94 => ⟨S4x128x128, .f32⟩
  | 95 => ⟨S_, .f32⟩
  | 96 => ⟨S4x128, .f32⟩
  | 97 => ⟨S4x128x1, .f32⟩
  | 98 => ⟨S_, .f32⟩
  | 99 => ⟨S4x128, .f32⟩
  | 100 => ⟨S4x128x128, .f32⟩
  | 101 => ⟨S4x128x128, .f32⟩
  | 102 => ⟨S4x128x128, .f32⟩
  | 103 => ⟨S4x32x128, .f32⟩
  | 104 => ⟨S1x4x32x128, .f32⟩
  | 105 => ⟨S_, .i32⟩
  | 106 => ⟨S_, .i32⟩
  | 107 => ⟨S_, .i32⟩
  | 108 => ⟨S128x4x32x128, .f32⟩
  | 109 => ⟨S1x4x32x128, .f32⟩
  | 110 => ⟨S_, .i32⟩
  | 111 => ⟨S_, .i32⟩
  | 112 => ⟨S_, .i32⟩
  | 113 => ⟨S128x4x32x128, .f32⟩
  | 114 => ⟨S1x4x32x128, .f32⟩
  | 115 => ⟨S_, .i32⟩
  | 116 => ⟨S_, .i32⟩
  | 117 => ⟨S_, .i32⟩
  | 118 => ⟨S128x4x32x128, .f32⟩
  | 119 => ⟨S1x4x128, .f32⟩
  | 120 => ⟨S_, .i32⟩
  | 121 => ⟨S_, .i32⟩
  | 122 => ⟨S128x4x128, .f32⟩
  | 123 => ⟨S_, .i32⟩
  | 124 => ⟨S_, .i32⟩
  | 125 => ⟨S128x4x128, .f32⟩
  | 126 => ⟨S128x4x1x128, .f32⟩
  | 127 => ⟨S128x4x32x128, .f32⟩
  | _ => ⟨S4096x2048, .f32⟩

abbrev hbmTy0_3 (i : Nat) : BufTy := match i % 128 with
  | 0 => ⟨S128x4x32x128, .f32⟩
  | 1 => ⟨S128x4x32x128, .f32⟩
  | 2 => ⟨S_, .f32⟩
  | 3 => ⟨S128x4x128, .f32⟩
  | 4 => ⟨S128x4x1x128, .f32⟩
  | 5 => ⟨S128x4x32x128, .f32⟩
  | 6 => ⟨S128x4x1x128, .f32⟩
  | 7 => ⟨S128x4x32x128, .f32⟩
  | 8 => ⟨S128x4x32x128, .f32⟩
  | 9 => ⟨S128x4x32x128, .f32⟩
  | 10 => ⟨S128x4x32x128, .f32⟩
  | 11 => ⟨S_, .f32⟩
  | 12 => ⟨S128x4x32x128, .f32⟩
  | 13 => ⟨S128x4x32x128, .f32⟩
  | 14 => ⟨S128x4x128x32, .f32⟩
  | 15 => ⟨S128x4x32x128, .f32⟩
  | 16 => ⟨S128x4x32x128, .f32⟩
  | 17 => ⟨S128x4x32x32, .f32⟩
  | 18 => ⟨S_, .f32⟩
  | 19 => ⟨S128x4x32x32, .f32⟩
  | 20 => ⟨S128x4x32x32, .f32⟩
  | 21 => ⟨S128x4x32x128, .f32⟩
  | 22 => ⟨S128x4x32x128, .f32⟩
  | 23 => ⟨S128x4x32x128, .f32⟩
  | 24 => ⟨S128x4x32x128, .f32⟩
  | 25 => ⟨S128x4x32x128, .f32⟩
  | 26 => ⟨S128x4x32x128, .f32⟩
  | 27 => ⟨S_, .f32⟩
  | 28 => ⟨S128x4x128, .f32⟩
  | 29 => ⟨S128x4x1x128, .f32⟩
  | 30 => ⟨S128x4x32x128, .f32⟩
  | 31 => ⟨S128x4x32x128, .f32⟩
  | 32 => ⟨S128x4x32x128, .f32⟩
  | 33 => ⟨S128x4x32x128, .f32⟩
  | 34 => ⟨S128x4x32x128, .f32⟩
  | 35 => ⟨S128x4x32x128, .f32⟩
  | 36 => ⟨S128x4x32x128, .f32⟩
  | 37 => ⟨S_, .f32⟩
  | 38 => ⟨S128x4x128, .f32⟩
  | 39 => ⟨S128x4x1x128, .f32⟩
  | 40 => ⟨S128x4x32x128, .f32⟩
  | 41 => ⟨S128x4x1x128, .f32⟩
  | 42 => ⟨S_, .f32⟩
  | 43 => ⟨S128x4x32x128, .f32⟩
  | 44 => ⟨S128x4x32x128, .f32⟩
  | 45 => ⟨S_, .f32⟩
  | 46 => ⟨S_, .f32⟩
  | 47 => ⟨S128x4x32x128, .f32⟩
  | 48 => ⟨S128x32x4x128, .f32⟩
  | 49 => ⟨S4096x4x128, .f32⟩
  | 50 => ⟨S128x32x4x128, .f32⟩
  | 51 => ⟨S4096x4x128, .f32⟩
  | 52 => ⟨S128x32x4x128, .f32⟩
  | 53 => ⟨S4096x4x128, .f32⟩
  | 54 => ⟨S128x32x4x128, .f32⟩
  | 55 => ⟨S4096x4x128, .f32⟩
  | 56 => ⟨S4096x4x128, .f32⟩
  | 57 => ⟨S4096x512, .f32⟩
  | 58 => ⟨S4096x4x128, .f32⟩
  | 59 => ⟨S4096x4x128, .f32⟩
  | 60 => ⟨S_, .f32⟩
  | 61 => ⟨S4x128, .f32⟩
  | 62 => ⟨S1x4x128, .f32⟩
  | 63 => ⟨S_, .f32⟩
  | 64 => ⟨S4x128, .f32⟩
  | 65 => ⟨S4096x4x128, .f32⟩
  | 66 => ⟨S4096x4x128, .f32⟩
  | 67 => ⟨S4096x4x128, .f32⟩
  | 68 => ⟨S_, .f32⟩
  | 69 => ⟨S4x128, .f32⟩
  | 70 => ⟨S1x4x128, .f32⟩
  | 71 => ⟨S_, .f32⟩
  | 72 => ⟨S4x128, .f32⟩
  | 73 => ⟨S4096x4x128, .f32⟩
  | 74 => ⟨S4096x512, .f32⟩
  | 75 => ⟨S4x128, .f32⟩
  | 76 => ⟨S4x128, .f32⟩
  | 77 => ⟨S512, .f32⟩
  | 78 => ⟨S_, .f32⟩
  | 79 => ⟨S4096x4x128, .f32⟩
  | 80 => ⟨S4096x4x128, .f32⟩
  | 81 => ⟨S4096x4x128, .f32⟩
  | 82 => ⟨S4096x4x128, .f32⟩
  | 83 => ⟨S4096x4x128, .f32⟩
  | 84 => ⟨S4096x4x128, .f32⟩
  | 85 => ⟨S4096x512, .f32⟩
  | 86 => ⟨S4096x2048, .f32⟩
  | 87 => ⟨S1x512, .f32⟩
  | 88 => ⟨S_, .f32⟩
  | 89 => ⟨S2x512, .f32⟩
  | 90 => ⟨S_, .f32⟩
  | 91 => ⟨S_, .f32⟩
  | 92 => ⟨S2x512, .f32⟩
  | 93 => ⟨S2x512, .f32⟩
  | 94 => ⟨S2x512, .f32⟩
  | 95 => ⟨S2x512, .f32⟩
  | 96 => ⟨S_, .f32⟩
  | 97 => ⟨S512, .f32⟩
  | 98 => ⟨S1x512, .f32⟩
  | 99 => ⟨S1x512, .f32⟩
  | 100 => ⟨S2x512, .f32⟩
  | 101 => ⟨S2x512, .f32⟩
  | 102 => ⟨S_, .f32⟩
  | 103 => ⟨S512, .f32⟩
  | 104 => ⟨S2x512, .f32⟩
  | 105 => ⟨S2x512, .f32⟩
  | 106 => ⟨S2x512, .f32⟩
  | 107 => ⟨S4096x2048, .bf16⟩
  | _ => ⟨S4096x2048, .f32⟩

abbrev hbmTy (i : Nat) : BufTy := match i / 128 with
  | 0 => hbmTy0_0 i
  | 1 => hbmTy0_1 i
  | 2 => hbmTy0_2 i
  | 3 => hbmTy0_3 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_call0_call0_cst : Ref sig .tc := ⟨.hbm, 42, rfl⟩
abbrev main_call0_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_v36_2 : Ref sig .tc := ⟨.hbm, 59, rfl⟩
abbrev main_call1_cst_1 : Ref sig .tc := ⟨.hbm, 60, rfl⟩
abbrev main_call1_v6 : Ref sig .tc := ⟨.hbm, 61, rfl⟩
abbrev main_call1_v7 : Ref sig .tc := ⟨.hbm, 62, rfl⟩
abbrev main_v36_1 : Ref sig .tc := ⟨.hbm, 63, rfl⟩
abbrev main_v36_0 : Ref sig .tc := ⟨.hbm, 64, rfl⟩
abbrev main_cst_9 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_10 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_11 : Ref sig .tc := ⟨.hbm, 75, rfl⟩
abbrev main_v45 : Ref sig .tc := ⟨.hbm, 76, rfl⟩
abbrev main_v46 : Ref sig .tc := ⟨.hbm, 77, rfl⟩
abbrev main_cst_12 : Ref sig .tc := ⟨.hbm, 78, rfl⟩
abbrev main_v47 : Ref sig .tc := ⟨.hbm, 79, rfl⟩
abbrev main_v48 : Ref sig .tc := ⟨.hbm, 80, rfl⟩
abbrev main_cst_13 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_14 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_call2_call0_cst : Ref sig .tc := ⟨.hbm, 104, rfl⟩
abbrev main_call2_call0_v0 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c : Ref sig .tc := ⟨.hbm, 117, rfl⟩
abbrev main_v81 : Ref sig .tc := ⟨.hbm, 118, rfl⟩
abbrev main_call3_v0 : Ref sig .tc := ⟨.hbm, 119, rfl⟩
abbrev main_call3_c : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_c_0 : Ref sig .tc := ⟨.hbm, 125, rfl⟩
abbrev main_call3_v5 : Ref sig .tc := ⟨.hbm, 126, rfl⟩
abbrev main_v82 : Ref sig .tc := ⟨.hbm, 127, rfl⟩
abbrev main_cst_15 : Ref sig .tc := ⟨.hbm, 128, rfl⟩
abbrev main_call4_v0 : Ref sig .tc := ⟨.hbm, 129, rfl⟩
abbrev main_v83_1 : Ref sig .tc := ⟨.hbm, 130, rfl⟩
abbrev main_call4_v2 : Ref sig .tc := ⟨.hbm, 131, rfl⟩
abbrev main_v83_0 : Ref sig .tc := ⟨.hbm, 132, rfl⟩
abbrev main_call4_cst : Ref sig .tc := ⟨.hbm, 133, rfl⟩
abbrev main_v83_2 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_16 : Ref sig .tc := ⟨.hbm, 145, rfl⟩
abbrev main_v94 : Ref sig .tc := ⟨.hbm, 146, rfl⟩
abbrev main_cst_17 : Ref sig .tc := ⟨.hbm, 147, rfl⟩
abbrev main_v95 : Ref sig .tc := ⟨.hbm, 148, rfl⟩
abbrev main_cst_18 : Ref sig .tc := ⟨.hbm, 149, rfl⟩
abbrev main_v96 : Ref sig .tc := ⟨.hbm, 150, rfl⟩
abbrev main_cst_19 : Ref sig .tc := ⟨.hbm, 151, rfl⟩
abbrev main_v97 : Ref sig .tc := ⟨.hbm, 152, rfl⟩
abbrev main_c_20 : Ref sig .tc := ⟨.hbm, 153, rfl⟩
abbrev main_v98_0 : Ref sig .tc := ⟨.hbm, 154, rfl⟩
abbrev main_v98_1 : Ref sig .tc := ⟨.hbm, 155, rfl⟩
abbrev main_v98_2 : Ref sig .tc := ⟨.hbm, 156, rfl⟩
abbrev main_v98_3 : Ref sig .tc := ⟨.hbm, 157, rfl⟩
abbrev main_v98_4 : Ref sig .tc := ⟨.hbm, 158, rfl⟩
abbrev main_v98_5 : Ref sig .tc := ⟨.hbm, 159, rfl⟩
abbrev main_v98_6 : Ref sig .tc := ⟨.hbm, 160, rfl⟩
abbrev main_v98_7 : Ref sig .tc := ⟨.hbm, 161, rfl⟩
abbrev main_v98_8 : Ref sig .tc := ⟨.hbm, 162, rfl⟩
abbrev main_while0c_c_58 : Ref sig .tc := ⟨.hbm, 163, rfl⟩
abbrev main_while0c_v247 : Ref sig .tc := ⟨.hbm, 164, rfl⟩
abbrev main_while0b_call5_c : Ref sig .tc := ⟨.hbm, 165, rfl⟩
abbrev main_while0b_call5_c_0 : Ref sig .tc := ⟨.hbm, 166, rfl⟩
abbrev main_while0b_call5_c_1 : Ref sig .tc := ⟨.hbm, 167, rfl⟩
abbrev main_while0b_call5_v0 : Ref sig .tc := ⟨.hbm, 168, rfl⟩
abbrev main_while0b_v247 : Ref sig .tc := ⟨.hbm, 169, rfl⟩
abbrev main_while0b_call6_c : Ref sig .tc := ⟨.hbm, 170, rfl⟩
abbrev main_while0b_call6_c_0 : Ref sig .tc := ⟨.hbm, 171, rfl⟩
abbrev main_while0b_call6_c_1 : Ref sig .tc := ⟨.hbm, 172, rfl⟩
abbrev main_while0b_call6_v0 : Ref sig .tc := ⟨.hbm, 173, rfl⟩
abbrev main_while0b_v248 : Ref sig .tc := ⟨.hbm, 174, rfl⟩
abbrev main_while0b_call7_c : Ref sig .tc := ⟨.hbm, 175, rfl⟩
abbrev main_while0b_call7_c_0 : Ref sig .tc := ⟨.hbm, 176, rfl⟩
abbrev main_while0b_call7_c_1 : Ref sig .tc := ⟨.hbm, 177, rfl⟩
abbrev main_while0b_call7_v0 : Ref sig .tc := ⟨.hbm, 178, rfl⟩
abbrev main_while0b_v249 : Ref sig .tc := ⟨.hbm, 179, rfl⟩
abbrev main_while0b_call8_c : Ref sig .tc := ⟨.hbm, 180, rfl⟩
abbrev main_while0b_call8_c_0 : Ref sig .tc := ⟨.hbm, 181, rfl⟩
abbrev main_while0b_call8_v0 : Ref sig .tc := ⟨.hbm, 182, rfl⟩
abbrev main_while0b_v250 : Ref sig .tc := ⟨.hbm, 183, rfl⟩
abbrev main_while0b_v251 : Ref sig .tc := ⟨.hbm, 184, rfl⟩
abbrev main_while0b_v252 : Ref sig .tc := ⟨.hbm, 185, rfl⟩
abbrev main_while0b_v253 : Ref sig .tc := ⟨.hbm, 186, rfl⟩
abbrev main_while0b_v254 : Ref sig .tc := ⟨.hbm, 187, rfl⟩
abbrev main_while0b_v255 : Ref sig .tc := ⟨.hbm, 188, rfl⟩
abbrev main_while0b_v256 : Ref sig .tc := ⟨.hbm, 189, rfl⟩
abbrev main_while0b_call9_v0 : Ref sig .tc := ⟨.hbm, 190, rfl⟩
abbrev main_while0b_call9_c : Ref sig .tc := ⟨.hbm, 191, rfl⟩
abbrev main_while0b_call9_c_0 : Ref sig .tc := ⟨.hbm, 192, rfl⟩
abbrev main_while0b_call9_c_1 : Ref sig .tc := ⟨.hbm, 193, rfl⟩
abbrev main_while0b_v257 : Ref sig .tc := ⟨.hbm, 194, rfl⟩
abbrev main_while0b_call10_v0 : Ref sig .tc := ⟨.hbm, 195, rfl⟩
abbrev main_while0b_call10_c : Ref sig .tc := ⟨.hbm, 196, rfl⟩
abbrev main_while0b_call10_c_0 : Ref sig .tc := ⟨.hbm, 197, rfl⟩
abbrev main_while0b_call10_c_1 : Ref sig .tc := ⟨.hbm, 198, rfl⟩
abbrev main_while0b_v258 : Ref sig .tc := ⟨.hbm, 199, rfl⟩
abbrev main_while0b_call11_v0 : Ref sig .tc := ⟨.hbm, 200, rfl⟩
abbrev main_while0b_call11_c : Ref sig .tc := ⟨.hbm, 201, rfl⟩
abbrev main_while0b_call11_c_0 : Ref sig .tc := ⟨.hbm, 202, rfl⟩
abbrev main_while0b_call11_c_1 : Ref sig .tc := ⟨.hbm, 203, rfl⟩
abbrev main_while0b_v259 : Ref sig .tc := ⟨.hbm, 204, rfl⟩
abbrev main_while0b_c_58 : Ref sig .tc := ⟨.hbm, 205, rfl⟩
abbrev main_while0b_v260 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩
abbrev main_v104 : Ref sig .tc := ⟨.hbm, 212, rfl⟩
abbrev main_cst_21 : Ref sig .tc := ⟨.hbm, 213, rfl⟩
abbrev main_v105 : Ref sig .tc := ⟨.hbm, 214, rfl⟩
abbrev main_v106 : Ref sig .tc := ⟨.hbm, 215, rfl⟩
abbrev main_cst_22 : Ref sig .tc := ⟨.hbm, 216, rfl⟩
abbrev main_v107 : Ref sig .tc := ⟨.hbm, 217, rfl⟩
abbrev main_v108 : Ref sig .tc := ⟨.hbm, 218, rfl⟩
abbrev main_cst_23 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_cst_24 : Ref sig .tc := ⟨.hbm, 224, rfl⟩
abbrev main_v113 : Ref sig .tc := ⟨.hbm, 225, rfl⟩
abbrev main_v114 : Ref sig .tc := ⟨.hbm, 226, rfl⟩
abbrev main_v115 : Ref sig .tc := ⟨.hbm, 227, rfl⟩
abbrev main_v116 : Ref sig .tc := ⟨.hbm, 228, rfl⟩
abbrev main_v117 : Ref sig .tc := ⟨.hbm, 229, rfl⟩
abbrev main_v118 : Ref sig .tc := ⟨.hbm, 230, rfl⟩
abbrev main_v119 : Ref sig .tc := ⟨.hbm, 231, rfl⟩
abbrev main_call12_v0 : Ref sig .tc := ⟨.hbm, 232, rfl⟩
abbrev main_call12_v1 : Ref sig .tc := ⟨.hbm, 233, rfl⟩
abbrev main_call12_cst : Ref sig .tc := ⟨.hbm, 234, rfl⟩
abbrev main_call12_v2 : Ref sig .tc := ⟨.hbm, 235, rfl⟩
abbrev main_call12_v3 : Ref sig .tc := ⟨.hbm, 236, rfl⟩
abbrev main_call12_cst_0 : Ref sig .tc := ⟨.hbm, 237, rfl⟩
abbrev main_call12_v4 : Ref sig .tc := ⟨.hbm, 238, rfl⟩
abbrev main_v120_2 : Ref sig .tc := ⟨.hbm, 239, rfl⟩
abbrev main_call12_cst_1 : Ref sig .tc := ⟨.hbm, 240, rfl⟩
abbrev main_call12_v6 : Ref sig .tc := ⟨.hbm, 241, rfl⟩
abbrev main_call12_v7 : Ref sig .tc := ⟨.hbm, 242, rfl⟩
abbrev main_v120_1 : Ref sig .tc := ⟨.hbm, 243, rfl⟩
abbrev main_v120_0 : Ref sig .tc := ⟨.hbm, 244, rfl⟩
abbrev main_v121 : Ref sig .tc := ⟨.hbm, 245, rfl⟩
abbrev main_v122 : Ref sig .tc := ⟨.hbm, 246, rfl⟩
abbrev main_cst_25 : Ref sig .tc := ⟨.hbm, 247, rfl⟩
abbrev main_v123 : Ref sig .tc := ⟨.hbm, 248, rfl⟩
abbrev main_v124 : Ref sig .tc := ⟨.hbm, 249, rfl⟩
abbrev main_v125 : Ref sig .tc := ⟨.hbm, 250, rfl⟩
abbrev main_v126 : Ref sig .tc := ⟨.hbm, 251, rfl⟩
abbrev main_call13_v0 : Ref sig .tc := ⟨.hbm, 252, rfl⟩
abbrev main_call13_v1 : Ref sig .tc := ⟨.hbm, 253, rfl⟩
abbrev main_call13_v2 : Ref sig .tc := ⟨.hbm, 254, rfl⟩
abbrev main_v127 : Ref sig .tc := ⟨.hbm, 255, rfl⟩
abbrev main_v128 : Ref sig .tc := ⟨.hbm, 256, rfl⟩
abbrev main_cst_26 : Ref sig .tc := ⟨.hbm, 257, rfl⟩
abbrev main_v129 : Ref sig .tc := ⟨.hbm, 258, rfl⟩
abbrev main_v130 : Ref sig .tc := ⟨.hbm, 259, rfl⟩
abbrev main_v131 : Ref sig .tc := ⟨.hbm, 260, rfl⟩
abbrev main_v132 : Ref sig .tc := ⟨.hbm, 261, rfl⟩
abbrev main_cst_27 : Ref sig .tc := ⟨.hbm, 262, rfl⟩
abbrev main_v133 : Ref sig .tc := ⟨.hbm, 263, rfl⟩
abbrev main_v134 : Ref sig .tc := ⟨.hbm, 264, rfl⟩
abbrev main_cst_28 : Ref sig .tc := ⟨.hbm, 265, rfl⟩
abbrev main_v135 : Ref sig .tc := ⟨.hbm, 266, rfl⟩
abbrev main_v136 : Ref sig .tc := ⟨.hbm, 267, rfl⟩
abbrev main_v137 : Ref sig .tc := ⟨.hbm, 268, rfl⟩
abbrev main_v138 : Ref sig .tc := ⟨.hbm, 269, rfl⟩
abbrev main_v139 : Ref sig .tc := ⟨.hbm, 270, rfl⟩
abbrev main_cst_29 : Ref sig .tc := ⟨.hbm, 271, rfl⟩
abbrev main_v140 : Ref sig .tc := ⟨.hbm, 272, rfl⟩
abbrev main_v141 : Ref sig .tc := ⟨.hbm, 273, rfl⟩
abbrev main_cst_30 : Ref sig .tc := ⟨.hbm, 274, rfl⟩
abbrev main_v142 : Ref sig .tc := ⟨.hbm, 275, rfl⟩
abbrev main_v143 : Ref sig .tc := ⟨.hbm, 276, rfl⟩
abbrev main_v144 : Ref sig .tc := ⟨.hbm, 277, rfl⟩
abbrev main_v145 : Ref sig .tc := ⟨.hbm, 278, rfl⟩
abbrev main_v146 : Ref sig .tc := ⟨.hbm, 279, rfl⟩
abbrev main_v147 : Ref sig .tc := ⟨.hbm, 280, rfl⟩
abbrev main_v148 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_cst_31 : Ref sig .tc := ⟨.hbm, 285, rfl⟩
abbrev main_v152 : Ref sig .tc := ⟨.hbm, 286, rfl⟩
abbrev main_cst_32 : Ref sig .tc := ⟨.hbm, 287, rfl⟩
abbrev main_v153 : Ref sig .tc := ⟨.hbm, 288, rfl⟩
abbrev main_cst_33 : Ref sig .tc := ⟨.hbm, 289, rfl⟩
abbrev main_v154 : Ref sig .tc := ⟨.hbm, 290, rfl⟩
abbrev main_cst_34 : Ref sig .tc := ⟨.hbm, 291, rfl⟩
abbrev main_v155 : Ref sig .tc := ⟨.hbm, 292, rfl⟩
abbrev main_cst_35 : Ref sig .tc := ⟨.hbm, 293, rfl⟩
abbrev main_v156 : Ref sig .tc := ⟨.hbm, 294, rfl⟩
abbrev main_c_36 : Ref sig .tc := ⟨.hbm, 295, rfl⟩
abbrev main_v157_0 : Ref sig .tc := ⟨.hbm, 296, rfl⟩
abbrev main_v157_1 : Ref sig .tc := ⟨.hbm, 297, rfl⟩
abbrev main_v157_2 : Ref sig .tc := ⟨.hbm, 298, rfl⟩
abbrev main_v157_3 : Ref sig .tc := ⟨.hbm, 299, rfl⟩
abbrev main_v157_4 : Ref sig .tc := ⟨.hbm, 300, rfl⟩
abbrev main_v157_5 : Ref sig .tc := ⟨.hbm, 301, rfl⟩
abbrev main_v157_6 : Ref sig .tc := ⟨.hbm, 302, rfl⟩
abbrev main_v157_7 : Ref sig .tc := ⟨.hbm, 303, rfl⟩
abbrev main_v157_8 : Ref sig .tc := ⟨.hbm, 304, rfl⟩
abbrev main_v157_9 : Ref sig .tc := ⟨.hbm, 305, rfl⟩
abbrev main_v157_10 : Ref sig .tc := ⟨.hbm, 306, rfl⟩
abbrev main_v157_11 : Ref sig .tc := ⟨.hbm, 307, rfl⟩
abbrev main_while1c_c_61 : Ref sig .tc := ⟨.hbm, 308, rfl⟩
abbrev main_while1c_v247 : Ref sig .tc := ⟨.hbm, 309, rfl⟩
abbrev main_while1b_c_61 : Ref sig .tc := ⟨.hbm, 310, rfl⟩
abbrev main_while1b_v247 : Ref sig .tc := ⟨.hbm, 311, rfl⟩
abbrev main_while1b_c_62 : Ref sig .tc := ⟨.hbm, 312, rfl⟩
abbrev main_while1b_v248 : Ref sig .tc := ⟨.hbm, 313, rfl⟩
abbrev main_while1b_call14_c : Ref sig .tc := ⟨.hbm, 314, rfl⟩
abbrev main_while1b_call14_c_0 : Ref sig .tc := ⟨.hbm, 315, rfl⟩
abbrev main_while1b_call14_c_1 : Ref sig .tc := ⟨.hbm, 316, rfl⟩
abbrev main_while1b_call14_v0 : Ref sig .tc := ⟨.hbm, 317, rfl⟩
abbrev main_while1b_v249 : Ref sig .tc := ⟨.hbm, 318, rfl⟩
abbrev main_while1b_call15_c : Ref sig .tc := ⟨.hbm, 319, rfl⟩
abbrev main_while1b_call15_c_0 : Ref sig .tc := ⟨.hbm, 320, rfl⟩
abbrev main_while1b_call15_c_1 : Ref sig .tc := ⟨.hbm, 321, rfl⟩
abbrev main_while1b_call15_v0 : Ref sig .tc := ⟨.hbm, 322, rfl⟩
abbrev main_while1b_v250 : Ref sig .tc := ⟨.hbm, 323, rfl⟩
abbrev main_while1b_call16_c : Ref sig .tc := ⟨.hbm, 324, rfl⟩
abbrev main_while1b_call16_c_0 : Ref sig .tc := ⟨.hbm, 325, rfl⟩
abbrev main_while1b_call16_c_1 : Ref sig .tc := ⟨.hbm, 326, rfl⟩
abbrev main_while1b_call16_v0 : Ref sig .tc := ⟨.hbm, 327, rfl⟩
abbrev main_while1b_v251 : Ref sig .tc := ⟨.hbm, 328, rfl⟩
abbrev main_while1b_call17_c : Ref sig .tc := ⟨.hbm, 329, rfl⟩
abbrev main_while1b_call17_c_0 : Ref sig .tc := ⟨.hbm, 330, rfl⟩
abbrev main_while1b_call17_c_1 : Ref sig .tc := ⟨.hbm, 331, rfl⟩
abbrev main_while1b_call17_v0 : Ref sig .tc := ⟨.hbm, 332, rfl⟩
abbrev main_while1b_v252 : Ref sig .tc := ⟨.hbm, 333, rfl⟩
abbrev main_while1b_call18_c : Ref sig .tc := ⟨.hbm, 334, rfl⟩
abbrev main_while1b_call18_c_0 : Ref sig .tc := ⟨.hbm, 335, rfl⟩
abbrev main_while1b_call18_c_1 : Ref sig .tc := ⟨.hbm, 336, rfl⟩
abbrev main_while1b_call18_v0 : Ref sig .tc := ⟨.hbm, 337, rfl⟩
abbrev main_while1b_v253 : Ref sig .tc := ⟨.hbm, 338, rfl⟩
abbrev main_while1b_call19_c : Ref sig .tc := ⟨.hbm, 339, rfl⟩
abbrev main_while1b_call19_c_0 : Ref sig .tc := ⟨.hbm, 340, rfl⟩
abbrev main_while1b_call19_c_1 : Ref sig .tc := ⟨.hbm, 341, rfl⟩
abbrev main_while1b_call19_v0 : Ref sig .tc := ⟨.hbm, 342, rfl⟩
abbrev main_while1b_v254 : Ref sig .tc := ⟨.hbm, 343, rfl⟩
abbrev main_while1b_v255 : Ref sig .tc := ⟨.hbm, 344, rfl⟩
abbrev main_while1b_v256 : Ref sig .tc := ⟨.hbm, 345, rfl⟩
abbrev main_while1b_v257 : Ref sig .tc := ⟨.hbm, 346, rfl⟩
abbrev main_while1b_v258 : Ref sig .tc := ⟨.hbm, 347, rfl⟩
abbrev main_while1b_v259 : Ref sig .tc := ⟨.hbm, 348, rfl⟩
abbrev main_while1b_v260 : Ref sig .tc := ⟨.hbm, 349, rfl⟩
abbrev main_while1b_v261 : Ref sig .tc := ⟨.hbm, 350, rfl⟩
abbrev main_while1b_cst_63 : Ref sig .tc := ⟨.hbm, 351, rfl⟩
abbrev main_while1b_v262 : Ref sig .tc := ⟨.hbm, 352, rfl⟩
abbrev main_while1b_v263 : Ref sig .tc := ⟨.hbm, 353, rfl⟩
abbrev main_while1b_cst_64 : Ref sig .tc := ⟨.hbm, 354, rfl⟩
abbrev main_while1b_v264 : Ref sig .tc := ⟨.hbm, 355, rfl⟩
abbrev main_while1b_v265 : Ref sig .tc := ⟨.hbm, 356, rfl⟩
abbrev main_while1b_v266 : Ref sig .tc := ⟨.hbm, 357, rfl⟩
abbrev main_while1b_v267 : Ref sig .tc := ⟨.hbm, 358, rfl⟩
abbrev main_while1b_v268 : Ref sig .tc := ⟨.hbm, 359, rfl⟩
abbrev main_while1b_call20_v0 : Ref sig .tc := ⟨.hbm, 360, rfl⟩
abbrev main_while1b_call20_c : Ref sig .tc := ⟨.hbm, 361, rfl⟩
abbrev main_while1b_call20_c_0 : Ref sig .tc := ⟨.hbm, 362, rfl⟩
abbrev main_while1b_call20_c_1 : Ref sig .tc := ⟨.hbm, 363, rfl⟩
abbrev main_while1b_v269 : Ref sig .tc := ⟨.hbm, 364, rfl⟩
abbrev main_while1b_call21_v0 : Ref sig .tc := ⟨.hbm, 365, rfl⟩
abbrev main_while1b_call21_c : Ref sig .tc := ⟨.hbm, 366, rfl⟩
abbrev main_while1b_call21_c_0 : Ref sig .tc := ⟨.hbm, 367, rfl⟩
abbrev main_while1b_call21_c_1 : Ref sig .tc := ⟨.hbm, 368, rfl⟩
abbrev main_while1b_v270 : Ref sig .tc := ⟨.hbm, 369, rfl⟩
abbrev main_while1b_call22_v0 : Ref sig .tc := ⟨.hbm, 370, rfl⟩
abbrev main_while1b_call22_c : Ref sig .tc := ⟨.hbm, 371, rfl⟩
abbrev main_while1b_call22_c_0 : Ref sig .tc := ⟨.hbm, 372, rfl⟩
abbrev main_while1b_call22_c_1 : Ref sig .tc := ⟨.hbm, 373, rfl⟩
abbrev main_while1b_v271 : Ref sig .tc := ⟨.hbm, 374, rfl⟩
abbrev main_while1b_call23_v0 : Ref sig .tc := ⟨.hbm, 375, rfl⟩
abbrev main_while1b_call23_c : Ref sig .tc := ⟨.hbm, 376, rfl⟩
abbrev main_while1b_call23_c_0 : Ref sig .tc := ⟨.hbm, 377, rfl⟩
abbrev main_while1b_v272 : Ref sig .tc := ⟨.hbm, 378, rfl⟩
abbrev main_while1b_c_65 : Ref sig .tc := ⟨.hbm, 379, rfl⟩
abbrev main_while1b_v273 : Ref sig .tc := ⟨.hbm, 380, rfl⟩
abbrev main_v158 : Ref sig .tc := ⟨.hbm, 381, rfl⟩
abbrev main_v159 : Ref sig .tc := ⟨.hbm, 382, rfl⟩
abbrev main_v160 : Ref sig .tc := ⟨.hbm, 383, rfl⟩
abbrev main_v161 : Ref sig .tc := ⟨.hbm, 384, rfl⟩
abbrev main_v162 : Ref sig .tc := ⟨.hbm, 385, rfl⟩
abbrev main_cst_37 : Ref sig .tc := ⟨.hbm, 386, rfl⟩
abbrev main_v163 : Ref sig .tc := ⟨.hbm, 387, rfl⟩
abbrev main_v164 : Ref sig .tc := ⟨.hbm, 388, rfl⟩
abbrev main_v165 : Ref sig .tc := ⟨.hbm, 389, rfl⟩
abbrev main_v166 : Ref sig .tc := ⟨.hbm, 390, rfl⟩
abbrev main_v167 : Ref sig .tc := ⟨.hbm, 391, rfl⟩
abbrev main_v168 : Ref sig .tc := ⟨.hbm, 392, rfl⟩
abbrev main_v169 : Ref sig .tc := ⟨.hbm, 393, rfl⟩
abbrev main_v170 : Ref sig .tc := ⟨.hbm, 394, rfl⟩
abbrev main_cst_38 : Ref sig .tc := ⟨.hbm, 395, rfl⟩
abbrev main_v171 : Ref sig .tc := ⟨.hbm, 396, rfl⟩
abbrev main_v172 : Ref sig .tc := ⟨.hbm, 397, rfl⟩
abbrev main_v173 : Ref sig .tc := ⟨.hbm, 398, rfl⟩
abbrev main_v174 : Ref sig .tc := ⟨.hbm, 399, rfl⟩
abbrev main_v175 : Ref sig .tc := ⟨.hbm, 400, rfl⟩
abbrev main_v176 : Ref sig .tc := ⟨.hbm, 401, rfl⟩
abbrev main_call24_cst : Ref sig .tc := ⟨.hbm, 402, rfl⟩
abbrev main_call24_v0 : Ref sig .tc := ⟨.hbm, 403, rfl⟩
abbrev main_v177 : Ref sig .tc := ⟨.hbm, 404, rfl⟩
abbrev main_v178 : Ref sig .tc := ⟨.hbm, 405, rfl⟩
abbrev main_v179 : Ref sig .tc := ⟨.hbm, 406, rfl⟩
abbrev main_v180 : Ref sig .tc := ⟨.hbm, 407, rfl⟩
abbrev main_v181 : Ref sig .tc := ⟨.hbm, 408, rfl⟩
abbrev main_v182 : Ref sig .tc := ⟨.hbm, 409, rfl⟩
abbrev main_v183 : Ref sig .tc := ⟨.hbm, 410, rfl⟩
abbrev main_cst_39 : Ref sig .tc := ⟨.hbm, 411, rfl⟩
abbrev main_v184 : Ref sig .tc := ⟨.hbm, 412, rfl⟩
abbrev main_v185 : Ref sig .tc := ⟨.hbm, 413, rfl⟩
abbrev main_v186 : Ref sig .tc := ⟨.hbm, 414, rfl⟩
abbrev main_v187 : Ref sig .tc := ⟨.hbm, 415, rfl⟩
abbrev main_v188 : Ref sig .tc := ⟨.hbm, 416, rfl⟩
abbrev main_v189 : Ref sig .tc := ⟨.hbm, 417, rfl⟩
abbrev main_v190 : Ref sig .tc := ⟨.hbm, 418, rfl⟩
abbrev main_v191 : Ref sig .tc := ⟨.hbm, 419, rfl⟩
abbrev main_v192 : Ref sig .tc := ⟨.hbm, 420, rfl⟩
abbrev main_cst_40 : Ref sig .tc := ⟨.hbm, 421, rfl⟩
abbrev main_v193 : Ref sig .tc := ⟨.hbm, 422, rfl⟩
abbrev main_v194 : Ref sig .tc := ⟨.hbm, 423, rfl⟩
abbrev main_v195 : Ref sig .tc := ⟨.hbm, 424, rfl⟩
abbrev main_v196 : Ref sig .tc := ⟨.hbm, 425, rfl⟩
abbrev main_cst_41 : Ref sig .tc := ⟨.hbm, 426, rfl⟩
abbrev main_v197 : Ref sig .tc := ⟨.hbm, 427, rfl⟩
abbrev main_v198 : Ref sig .tc := ⟨.hbm, 428, rfl⟩
abbrev main_call25_call0_cst : Ref sig .tc := ⟨.hbm, 429, rfl⟩
abbrev main_call25_call0_v0 : Ref sig .tc := ⟨.hbm, 430, rfl⟩
abbrev main_v199 : Ref sig .tc := ⟨.hbm, 431, rfl⟩
abbrev main_v200 : Ref sig .tc := ⟨.hbm, 432, rfl⟩
abbrev main_v201 : Ref sig .tc := ⟨.hbm, 433, rfl⟩
abbrev main_v202 : Ref sig .tc := ⟨.hbm, 434, rfl⟩
abbrev main_v203 : Ref sig .tc := ⟨.hbm, 435, rfl⟩
abbrev main_v204 : Ref sig .tc := ⟨.hbm, 436, rfl⟩
abbrev main_v205 : Ref sig .tc := ⟨.hbm, 437, rfl⟩
abbrev main_v206 : Ref sig .tc := ⟨.hbm, 438, rfl⟩
abbrev main_v207 : Ref sig .tc := ⟨.hbm, 439, rfl⟩
abbrev main_v208 : Ref sig .tc := ⟨.hbm, 440, rfl⟩
abbrev main_v209 : Ref sig .tc := ⟨.hbm, 441, rfl⟩
abbrev main_v210 : Ref sig .tc := ⟨.hbm, 442, rfl⟩
abbrev main_v211 : Ref sig .tc := ⟨.hbm, 443, rfl⟩
abbrev main_cst_42 : Ref sig .tc := ⟨.hbm, 444, rfl⟩
abbrev main_v212 : Ref sig .tc := ⟨.hbm, 445, rfl⟩
abbrev main_v213 : Ref sig .tc := ⟨.hbm, 446, rfl⟩
abbrev main_cst_43 : Ref sig .tc := ⟨.hbm, 447, rfl⟩
abbrev main_v214 : Ref sig .tc := ⟨.hbm, 448, rfl⟩
abbrev main_v215 : Ref sig .tc := ⟨.hbm, 449, rfl⟩
abbrev main_v216 : Ref sig .tc := ⟨.hbm, 450, rfl⟩
abbrev main_v217 : Ref sig .tc := ⟨.hbm, 451, rfl⟩
abbrev main_cst_44 : Ref sig .tc := ⟨.hbm, 452, rfl⟩
abbrev main_v218 : Ref sig .tc := ⟨.hbm, 453, rfl⟩
abbrev main_v219 : Ref sig .tc := ⟨.hbm, 454, rfl⟩
abbrev main_cst_45 : Ref sig .tc := ⟨.hbm, 455, rfl⟩
abbrev main_v220 : Ref sig .tc := ⟨.hbm, 456, rfl⟩
abbrev main_v221 : Ref sig .tc := ⟨.hbm, 457, rfl⟩
abbrev main_v222 : Ref sig .tc := ⟨.hbm, 458, rfl⟩
abbrev main_v223 : Ref sig .tc := ⟨.hbm, 459, rfl⟩
abbrev main_v224 : Ref sig .tc := ⟨.hbm, 460, rfl⟩
abbrev main_v225 : Ref sig .tc := ⟨.hbm, 461, rfl⟩
abbrev main_cst_46 : Ref sig .tc := ⟨.hbm, 462, rfl⟩
abbrev main_v226 : Ref sig .tc := ⟨.hbm, 463, rfl⟩
abbrev main_v227 : Ref sig .tc := ⟨.hbm, 464, rfl⟩
abbrev main_call26_v0 : Ref sig .tc := ⟨.hbm, 465, rfl⟩
abbrev main_call26_v1 : Ref sig .tc := ⟨.hbm, 466, rfl⟩
abbrev main_call26_v2 : Ref sig .tc := ⟨.hbm, 467, rfl⟩
abbrev main_v228 : Ref sig .tc := ⟨.hbm, 468, rfl⟩
abbrev main_v229 : Ref sig .tc := ⟨.hbm, 469, rfl⟩
abbrev main_v230 : Ref sig .tc := ⟨.hbm, 470, rfl⟩
abbrev main_v231 : Ref sig .tc := ⟨.hbm, 471, rfl⟩
abbrev main_cst_47 : Ref sig .tc := ⟨.hbm, 472, rfl⟩
abbrev main_v232 : Ref sig .tc := ⟨.hbm, 473, rfl⟩
abbrev main_call27_call0_cst : Ref sig .tc := ⟨.hbm, 474, rfl⟩
abbrev main_call27_call0_v0 : Ref sig .tc := ⟨.hbm, 475, rfl⟩
abbrev main_v233 : Ref sig .tc := ⟨.hbm, 476, rfl⟩
abbrev main_v234 : Ref sig .tc := ⟨.hbm, 477, rfl⟩
abbrev main_v235 : Ref sig .tc := ⟨.hbm, 478, rfl⟩
abbrev main_v236 : Ref sig .tc := ⟨.hbm, 479, rfl⟩
abbrev main_cst_48 : Ref sig .tc := ⟨.hbm, 480, rfl⟩
abbrev main_v237 : Ref sig .tc := ⟨.hbm, 481, rfl⟩
abbrev main_v238 : Ref sig .tc := ⟨.hbm, 482, rfl⟩
abbrev main_v239 : Ref sig .tc := ⟨.hbm, 483, rfl⟩
abbrev main_v240 : Ref sig .tc := ⟨.hbm, 484, rfl⟩
abbrev main_v241 : Ref sig .tc := ⟨.hbm, 485, rfl⟩
abbrev main_cst_49 : Ref sig .tc := ⟨.hbm, 486, rfl⟩
abbrev main_v242 : Ref sig .tc := ⟨.hbm, 487, rfl⟩
abbrev main_v243 : Ref sig .tc := ⟨.hbm, 488, rfl⟩
abbrev main_v244 : Ref sig .tc := ⟨.hbm, 489, rfl⟩
abbrev main_v245 : Ref sig .tc := ⟨.hbm, 490, rfl⟩
abbrev main_v246 : Ref sig .tc := ⟨.hbm, 491, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 128#32, 1#32⟩
-- ==== Kernel3.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 36
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .bf16⟩
  | .hbm, ⟨25, _⟩ => ⟨S4096x2816, .f32⟩
  | .hbm, ⟨26, _⟩ => ⟨S4096x2816, .bf16⟩
  | .hbm, ⟨27, _⟩ => ⟨S2816x1024, .f32⟩
  | .hbm, ⟨28, _⟩ => ⟨S2816x1024, .bf16⟩
  | .hbm, ⟨29, _⟩ => ⟨S2816x1024, .f32⟩
  | .hbm, ⟨30, _⟩ => ⟨S2816x1024, .bf16⟩
  | .hbm, ⟨31, _⟩ => ⟨S2816x1024, .bf16⟩
  | .hbm, ⟨32, _⟩ => ⟨S4096x2816, .bf16⟩
  | .hbm, ⟨33, _⟩ => ⟨S4096x2816, .bf16⟩
  | .hbm, ⟨34, _⟩ => ⟨S4096x1024, .f32⟩
  | .hbm, ⟨35, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S1x1024, .f32⟩
  | .hbm, ⟨83, _⟩ => ⟨S4096x2816, .bf16⟩
  | .hbm, ⟨84, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024x4096 : Shape := ⟨2, ![1024, 4096]⟩
abbrev S4096x2816 : Shape := ⟨2, ![4096, 2816]⟩
abbrev S1x128 : Shape := ⟨2, ![1, 128]⟩
abbrev S512x1024 : Shape := ⟨2, ![512, 1024]⟩
abbrev S1024x512 : Shape := ⟨2, ![1024, 512]⟩
abbrev S512x2816 : Shape := ⟨2, ![512, 2816]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 20
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S1024x4096, .bf16⟩
  | .hbm, ⟨13, _⟩ => ⟨S4096x2816, .bf16⟩
  | .hbm, ⟨14, _⟩ => ⟨S4096x2816, .bf16⟩
  | .hbm, ⟨15, _⟩ => ⟨S4096x2816, .bf16⟩
  | .hbm, ⟨16, _⟩ => ⟨S1x128, .f32⟩
  | .hbm, ⟨17, _⟩ => ⟨S1x1024, .f32⟩
  | .hbm, ⟨18, _⟩ => ⟨S4096x1024, .f32⟩
  | .hbm, ⟨19, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x512, .bf16⟩
  | .local _ .vmem, ⟨10, _⟩ => ⟨S1024x512, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S1x128, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S1024x512, .bf16⟩
  | .local _ .vmem, ⟨22, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev main_v5_7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024x4096 : Shape := ⟨2, ![1024, 4096]⟩
abbrev S1x128 : Shape := ⟨2, ![1, 128]⟩

abbrev nBuf : Space → Nat
  | .hbm => 116
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x1024, .f32⟩
  | .hbm, ⟨37, _⟩ => ⟨S4096x1024, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S4096, .f32⟩
  | .hbm, ⟨77, _⟩ => ⟨S_, .f32⟩
  | .hbm, ⟨78, _⟩ => ⟨S4096, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S1024, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x1024, .f32⟩
  | .hbm, ⟨95, _⟩ => ⟨S4096x1024, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S1x1024, .f32⟩
  | .hbm, ⟨108, _⟩ => ⟨S1024x4096, .f32⟩
  | .hbm, ⟨109, _⟩ => ⟨S1024x4096, .bf16⟩
  | .hbm, ⟨110, _⟩ => ⟨S4096x2816, .bf16⟩
  | .hbm, ⟨111, _⟩ => ⟨S4096x2816, .bf16⟩
  | .hbm, ⟨112, _⟩ => ⟨S4096x2816, .bf16⟩
  | .hbm, ⟨113, _⟩ => ⟨S1x128, .f32⟩
  | .hbm, ⟨114, _⟩ => ⟨S1024x4096, .f32⟩
  | .hbm, ⟨115, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_cst_11 : Ref sig .tc := ⟨.hbm, 73, rfl⟩
abbrev main_cst_12 : Ref sig .tc := ⟨.hbm, 74, rfl⟩
abbrev main_v46 : Ref sig .tc := ⟨.hbm, 75, rfl⟩
abbrev main_v47 : Ref sig .tc := ⟨.hbm, 76, rfl⟩
abbrev main_cst_13 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_14 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_v58 : Ref sig .tc := ⟨.hbm, 90, rfl⟩
abbrev main_cst_16 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_17 : Ref sig .tc := ⟨.hbm, 97, rfl⟩
abbrev main_v64 : Ref sig .tc := ⟨.hbm, 98, rfl⟩
abbrev main_v65 : Ref sig .tc := ⟨.hbm, 99, rfl⟩
abbrev main_cst_18 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩

abbrev nD : Nat := 1
abbrev τ : Topo := Topo.v7x

variable {F : FTy → Type} [FloatOps F]
-- ==== Kernel5.lean ====
abbrev S4096x512 : Shape := ⟨2, ![4096, 512]⟩
abbrev S4096x1536 : Shape := ⟨2, ![4096, 1536]⟩
abbrev S4096x2048 : Shape := ⟨2, ![4096, 2048]⟩
abbrev S512x1024 : Shape := ⟨2, ![512, 1024]⟩
abbrev S1024x1024 : Shape := ⟨2, ![1024, 1024]⟩
abbrev S3x512 : Shape := ⟨2, ![3, 512]⟩
abbrev S4096x1024 : Shape := ⟨2, ![4096, 1024]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩
abbrev S512x8x128 : Shape := ⟨3, ![512, 8, 128]⟩
abbrev S8x512x128 : Shape := ⟨3, ![8, 512, 128]⟩
abbrev S512x2048 : Shape := ⟨2, ![512, 2048]⟩
abbrev S512x512 : Shape := ⟨2, ![512, 512]⟩
abbrev S512x1536 : Shape := ⟨2, ![512, 1536]⟩
abbrev S8x512 : Shape := ⟨2, ![8, 512]⟩
abbrev S3x512x1024 : Shape := ⟨3, ![3, 512, 1024]⟩
abbrev S3x512x2048 : Shape := ⟨3, ![3, 512, 2048]⟩
abbrev S3x512x1536 : Shape := ⟨3, ![3, 512, 1536]⟩
abbrev S3x512x512 : Shape := ⟨3, ![3, 512, 512]⟩
abbrev S6x3 : Shape := ⟨2, ![6, 3]⟩
abbrev S1x1 : Shape := ⟨2, ![1, 1]⟩
abbrev S1x512x1024 : Shape := ⟨3, ![1, 512, 1024]⟩
abbrev S1x512x2048 : Shape := ⟨3, ![1, 512, 2048]⟩
abbrev S1x512x1536 : Shape := ⟨3, ![1, 512, 1536]⟩
abbrev S1x512x512 : Shape := ⟨3, ![1, 512, 512]⟩
abbrev S1x512x128 : Shape := ⟨3, ![1, 512, 128]⟩
abbrev S512x128 : Shape := ⟨2, ![512, 128]⟩

abbrev nBuf : Space → Nat
  | .hbm => 59
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S4096x1536, .f32⟩
  | .hbm, ⟨2, _⟩ => ⟨S4096x2048, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S3x512, .f32⟩
  | .hbm, ⟨7, _⟩ => ⟨S4096x1024, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S2x512, .f32⟩
  | .hbm, ⟨14, _⟩ => ⟨S4098x512, .f32⟩
  | .hbm, ⟨15, _⟩ => ⟨S1x512, .f32⟩
  | .hbm, ⟨16, _⟩ => ⟨S512, .f32⟩
  | .hbm, ⟨17, _⟩ => ⟨S4096x512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S512, .f32⟩
  | .hbm, ⟨26, _⟩ => ⟨S4096x512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S1x512, .f32⟩
  | .hbm, ⟨32, _⟩ => ⟨S512, .f32⟩
  | .hbm, ⟨33, _⟩ => ⟨S4096x512, .f32⟩
  | .hbm, ⟨34, _⟩ => ⟨S1x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x1024, .f32⟩
  | .hbm, ⟨39, _⟩ => ⟨S4096x512, .f32⟩
  | .hbm, ⟨40, _⟩ => ⟨S4096x1024, .f32⟩
  | .hbm, ⟨41, _⟩ => ⟨S4096x1024, .bf16⟩
  | .hbm, ⟨42, _⟩ => ⟨S4096x1024, .bf16⟩
  | .hbm, ⟨43, _⟩ => ⟨S4096x2048, .bf16⟩
  | .hbm, ⟨44, _⟩ => ⟨S4096x1536, .bf16⟩
  | .hbm, ⟨45, _⟩ => ⟨S4096x512, .bf16⟩
  | .hbm, ⟨46, _⟩ => ⟨S512x8x128, .f32⟩
  | .hbm, ⟨47, _⟩ => ⟨S8x512x128, .f32⟩
  | .hbm, ⟨48, _⟩ => ⟨S8x512x128, .bf16⟩
  | .hbm, ⟨49, _⟩ => ⟨S512x8x128, .f32⟩
  | .hbm, ⟨50, _⟩ => ⟨S8x512x128, .f32⟩
  | .hbm, ⟨51, _⟩ => ⟨S8x512x128, .bf16⟩
  | .hbm, ⟨52, _⟩ => ⟨S1024x1024, .bf16⟩
  | .hbm, ⟨53, _⟩ => ⟨S4096x2048, .bf16⟩
  | .hbm, ⟨54, _⟩ => ⟨S4096x1024, .bf16⟩
  | .hbm, ⟨55, _⟩ => ⟨S4096x1024, .bf16⟩
  | .hbm, ⟨56, _⟩ => ⟨S4096x512, .f32⟩
  | .hbm, ⟨57, _⟩ => ⟨S4096x1536, .bf16⟩
  | .hbm, ⟨58, _⟩ => ⟨S3x512, .f32⟩
  | .local _ .vmem, ⟨0, _⟩ => ⟨S8x512x128, .bf16⟩
  | .local _ .vmem, ⟨1, _⟩ => ⟨S8x512x128, .bf16⟩
  | .local _ .vmem, ⟨2, _⟩ => ⟨S1024x1024, .bf16⟩
  | .local _ .vmem, ⟨3, _⟩ => ⟨S3x512, .f32⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x512, .f32⟩
  | .local _ .vmem, ⟨11, _⟩ => ⟨S512x512, .f32⟩
  | .local _ .vmem, ⟨12, _⟩ => ⟨S512x1536, .bf16⟩
  | .local _ .vmem, ⟨13, _⟩ => ⟨S512x1536, .bf16⟩
  | .local _ .vmem, ⟨14, _⟩ => ⟨S3x512, .f32⟩
  | .local _ .vmem, ⟨15, _⟩ => ⟨S8x512, .f32⟩
  | .local _ .vmem, ⟨16, _⟩ => ⟨S3x512x1024, .f32⟩
  | .local _ .vmem, ⟨17, _⟩ => ⟨S3x512x1024, .bf16⟩
  | .local _ .vmem, ⟨18, _⟩ => ⟨S3x512x1024, .bf16⟩
  | .local _ .vmem, ⟨19, _⟩ => ⟨S3x512x2048, .bf16⟩
  | .local _ .vmem, ⟨20, _⟩ => ⟨S3x512x1536, .bf16⟩
  | .local _ .vmem, ⟨21, _⟩ => ⟨S3x512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43_0 : Ref sig .tc := ⟨.hbm, 53, rfl⟩
abbrev main_v43_1 : Ref sig .tc := ⟨.hbm, 54, rfl⟩
abbrev main_v43_2 : Ref sig .tc := ⟨.hbm, 55, rfl⟩
abbrev main_v43_3 : Ref sig .tc := ⟨.hbm, 56, rfl⟩
abbrev main_v43_4 : Ref sig .tc := ⟨.hbm, 57, rfl⟩
abbrev main_v43_5 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c2_i32 : BitVec 32 := 2#32
  let v3 : BitVec 32 := Scalar.addi arg0 c2_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k0_mult1 (i : grid0.Coords) : BitVec 32 :=
  let c7_i32_179 : BitVec 32 := 7#32
  let arg0 : BitVec 32 := BitVec.ofNat 32 (i 0).val
  let c2_i32_178 : BitVec 32 := 2#32
  let v280 : BitVec 32 := Scalar.addi arg0 c2_i32_178
  let v281 : BitVec 32 := Scalar.subi c7_i32_179 v280
  let c512_i32_180 : BitVec 32 := 512#32
  let v282 : BitVec 32 := Scalar.muli v281 c512_i32_180
  v282
def k0_off1 (i : grid0.Coords) : Fin 2 → Nat :=
  let c0_i32_187 : BitVec 32 := 0#32
  let arg0 : BitVec 32 := BitVec.ofNat 32 (i 0).val
  let c2_i32_178 : BitVec 32 := 2#32
  let v280 : BitVec 32 := Scalar.addi arg0 c2_i32_178
  let c3_i32_181 : BitVec 32 := 3#32
  let c0_i32_182 : BitVec 32 := 0#32
  let v284 : BitVec 1 := Scalar.cmpi .eq c3_i32_181 c0_i32_182
  let c1_i32_183 : BitVec 32 := 1#32
  let v285 : BitVec 32 := Scalar.select v284 c1_i32_183 c3_i32_181
  let v286 : BitVec 32 := Scalar.remsi v280 v285
  let c0_i32_185 : BitVec 32 := 0#32
  let v288 : BitVec 1 := Scalar.cmpi .slt v286 c0_i32_185
  let c0_i32_186 : BitVec 32 := 0#32
  let v289 : BitVec 1 := Scalar.cmpi .slt v285 c0_i32_186
  let v290 : BitVec 1 := Scalar.xori v288 v289
  let c0_i32_184 : BitVec 32 := 0#32
  let v287 : BitVec 1 := Scalar.cmpi .ne v286 c0_i32_184
  let v291 : BitVec 1 := Scalar.andi v290 v287
  let v292 : BitVec 32 := Scalar.addi v286 v285
  let v293 : BitVec 32 := Scalar.select v291 v292 v286
  ![0, v293.toNat]
def k0_off2 (i : grid0.Coords) : Fin 3 → Nat :=
  let arg0 : BitVec 32 := BitVec.ofNat 32 (i 0).val
  let c2_i32_178 : BitVec 32 := 2#32
  let v280 : BitVec 32 := Scalar.addi arg0 c2_i32_178
  let c3_i32_181 : BitVec 32 := 3#32
  let c0_i32_182 : BitVec 32 := 0#32
  let v284 : BitVec 1 := Scalar.cmpi .eq c3_i32_181 c0_i32_182
  let c1_i32_183 : BitVec 32 := 1#32
  let v285 : BitVec 32 := Scalar.select v284 c1_i32_183 c3_i32_181
  let v286 : BitVec 32 := Scalar.remsi v280 v285
  let c0_i32_185 : BitVec 32 := 0#32
  let v288 : BitVec 1 := Scalar.cmpi .slt v286 c0_i32_185
  let c0_i32_186 : BitVec 32 := 0#32
  let v289 : BitVec 1 := Scalar.cmpi .slt v285 c0_i32_186
  let v290 : BitVec 1 := Scalar.xori v288 v289
  let c0_i32_184 : BitVec 32 := 0#32
  let v287 : BitVec 1 := Scalar.cmpi .ne v286 c0_i32_184
  let v291 : BitVec 1 := Scalar.andi v290 v287
  let v292 : BitVec 32 := Scalar.addi v286 v285
  let v293 : BitVec 32 := Scalar.select v291 v292 v286
  let c0_i32_188 : BitVec 32 := 0#32
  let c0_i32_189 : BitVec 32 := 0#32
  ![v293.toNat, 0, 0]
def k0_off3 (i : grid0.Coords) : Fin 2 → Nat :=
  let c7_i32_179 : BitVec 32 := 7#32
  let arg0 : BitVec 32 := BitVec.ofNat 32 (i 0).val
  let c2_i32_178 : BitVec 32 := 2#32
  let v280 : BitVec 32 := Scalar.addi arg0 c2_i32_178
  let v281 : BitVec 32 := Scalar.subi c7_i32_179 v280
  let c512_i32_180 : BitVec 32 := 512#32
  let v282 : BitVec 32 := Scalar.muli v281 c512_i32_180
  let v283 : BitVec 32 := v282
  let c0_i32_190 : BitVec 32 := 0#32
  ![v283.toNat, 0]
def k0_off4 (i : grid0.Coords) : Fin 2 → Nat :=
  let c1_i32_191 : BitVec 32 := 1#32
  let arg0 : BitVec 32 := BitVec.ofNat 32 (i 0).val
  let c2_i32_178 : BitVec 32 := 2#32
  let v280 : BitVec 32 := Scalar.addi arg0 c2_i32_178
  let c3_i32_181 : BitVec 32 := 3#32
  let c0_i32_182 : BitVec 32 := 0#32
  let v284 : BitVec 1 := Scalar.cmpi .eq c3_i32_181 c0_i32_182
  let c1_i32_183 : BitVec 32 := 1#32
  let v285 : BitVec 32 := Scalar.select v284 c1_i32_183 c3_i32_181
  let v286 : BitVec 32 := Scalar.remsi v280 v285
  let c0_i32_185 : BitVec 32 := 0#32
  let v288 : BitVec 1 := Scalar.cmpi .slt v286 c0_i32_185
  let c0_i32_186 : BitVec 32 := 0#32
  let v289 : BitVec 1 := Scalar.cmpi .slt v285 c0_i32_186
  let v290 : BitVec 1 := Scalar.xori v288 v289
  let c0_i32_184 : BitVec 32 := 0#32
  let v287 : BitVec 1 := Scalar.cmpi .ne v286 c0_i32_184
  let v291 : BitVec 1 := Scalar.andi v290 v287
  let v292 : BitVec 32 := Scalar.addi v286 v285
  let v293 : BitVec 32 := Scalar.select v291 v292 v286
  ![1, v293.toNat]
def k0_off5 (i : grid0.Coords) : Fin 2 → Nat :=
  let c2_i32_195 : BitVec 32 := 2#32
  let arg0 : BitVec 32 := BitVec.ofNat 32 (i 0).val
  let c2_i32_178 : BitVec 32 := 2#32
  let v280 : BitVec 32 := Scalar.addi arg0 c2_i32_178
  let c3_i32_181 : BitVec 32 := 3#32
  let c0_i32_182 : BitVec 32 := 0#32
  let v284 : BitVec 1 := Scalar.cmpi .eq c3_i32_181 c0_i32_182
  let c1_i32_183 : BitVec 32 := 1#32
  let v285 : BitVec 32 := Scalar.select v284 c1_i32_183 c3_i32_181
  let v286 : BitVec 32 := Scalar.remsi v280 v285
  let c0_i32_185 : BitVec 32 := 0#32
  let v288 : BitVec 1 := Scalar.cmpi .slt v286 c0_i32_185
  let c0_i32_186 : BitVec 32 := 0#32
  let v289 : BitVec 1 := Scalar.cmpi .slt v285 c0_i32_186
  let v290 : BitVec 1 := Scalar.xori v288 v289
  let c0_i32_184 : BitVec 32 := 0#32
  let v287 : BitVec 1 := Scalar.cmpi .ne v286 c0_i32_184
  let v291 : BitVec 1 := Scalar.andi v290 v287
  let v292 : BitVec 32 := Scalar.addi v286 v285
  let v293 : BitVec 32 := Scalar.select v291 v292 v286
  ![2, v293.toNat]
def k0_off6 (i : grid0.Coords) : Fin 2 → Nat :=
  let c3_i32_199 : BitVec 32 := 3#32
  let arg0 : BitVec 32 := BitVec.ofNat 32 (i 0).val
  let c2_i32_178 : BitVec 32 := 2#32
  let v280 : BitVec 32 := Scalar.addi arg0 c2_i32_178
  let c3_i32_181 : BitVec 32 := 3#32
  let c0_i32_182 : BitVec 32 := 0#32
  let v284 : BitVec 1 := Scalar.cmpi .eq c3_i32_181 c0_i32_182
  let c1_i32_183 : BitVec 32 := 1#32
  let v285 : BitVec 32 := Scalar.select v284 c1_i32_183 c3_i32_181
  let v286 : BitVec 32 := Scalar.remsi v280 v285
  let c0_i32_185 : BitVec 32 := 0#32
  let v288 : BitVec 1 := Scalar.cmpi .slt v286 c0_i32_185
  let c0_i32_186 : BitVec 32 := 0#32
  let v289 : BitVec 1 := Scalar.cmpi .slt v285 c0_i32_186
  let v290 : BitVec 1 := Scalar.xori v288 v289
  let c0_i32_184 : BitVec 32 := 0#32
  let v287 : BitVec 1 := Scalar.cmpi .ne v286 c0_i32_184
  let v291 : BitVec 1 := Scalar.andi v290 v287
  let v292 : BitVec 32 := Scalar.addi v286 v285
  let v293 : BitVec 32 := Scalar.select v291 v292 v286
  ![3, v293.toNat]
def k0_off7 (i : grid0.Coords) : Fin 3 → Nat :=
  let arg0 : BitVec 32 := BitVec.ofNat 32 (i 0).val
  let c2_i32_178 : BitVec 32 := 2#32
  let v280 : BitVec 32 := Scalar.addi arg0 c2_i32_178
  let c3_i32_181 : BitVec 32 := 3#32
  let c0_i32_182 : BitVec 32 := 0#32
  let v284 : BitVec 1 := Scalar.cmpi .eq c3_i32_181 c0_i32_182
  let c1_i32_183 : BitVec 32 := 1#32
  let v285 : BitVec 32 := Scalar.select v284 c1_i32_183 c3_i32_181
  let v286 : BitVec 32 := Scalar.remsi v280 v285
  let c0_i32_185 : BitVec 32 := 0#32
  let v288 : BitVec 1 := Scalar.cmpi .slt v286 c0_i32_185
  let c0_i32_186 : BitVec 32 := 0#32
  let v289 : BitVec 1 := Scalar.cmpi .slt v285 c0_i32_186
  let v290 : BitVec 1 := Scalar.xori v288 v289
  let c0_i32_184 : BitVec 32 := 0#32
  let v287 : BitVec 1 := Scalar.cmpi .ne v286 c0_i32_184
  let v291 : BitVec 1 := Scalar.andi v290 v287
  let v292 : BitVec 32 := Scalar.addi v286 v285
  let v293 : BitVec 32 := Scalar.select v291 v292 v286
  let c0_i32_200 : BitVec 32 := 0#32
  let c0_i32_201 : BitVec 32 := 0#32
  ![v293.toNat, 0, 0]
def k0_off8 (i : grid0.Coords) : Fin 2 → Nat :=
  let c7_i32_179 : BitVec 32 := 7#32
  let arg0 : BitVec 32 := BitVec.ofNat 32 (i 0).val
  let c2_i32_178 : BitVec 32 := 2#32
  let v280 : BitVec 32 := Scalar.addi arg0 c2_i32_178
  let v281 : BitVec 32 := Scalar.subi c7_i32_179 v280
  let c512_i32_180 : BitVec 32 := 512#32
  let v282 : BitVec 32 := Scalar.muli v281 c512_i32_180
  let v283 : BitVec 32 := v282
  let c0_i32_202 : BitVec 32 := 0#32
  ![v283.toNat, 0]
def k0_off9 (i : grid0.Coords) : Fin 2 → Nat :=
  let c4_i32_203 : BitVec 32 := 4#32
  let arg0 : BitVec 32 := BitVec.ofNat 32 (i 0).val
  let c2_i32_178 : BitVec 32 := 2#32
  let v280 : BitVec 32 := Scalar.addi arg0 c2_i32_178
  let c3_i32_181 : BitVec 32 := 3#32
  let c0_i32_182 : BitVec 32 := 0#32
  let v284 : BitVec 1 := Scalar.cmpi .eq c3_i32_181 c0_i32_182
  let c1_i32_183 : BitVec 32 := 1#32
  let v285 : BitVec 32 := Scalar.select v284 c1_i32_183 c3_i32_181
  let v286 : BitVec 32 := Scalar.remsi v280 v285
  let c0_i32_185 : BitVec 32 := 0#32
  let v288 : BitVec 1 := Scalar.cmpi .slt v286 c0_i32_185
  let c0_i32_186 : BitVec 32 := 0#32
  let v289 : BitVec 1 := Scalar.cmpi .slt v285 c0_i32_186
  let v290 : BitVec 1 := Scalar.xori v288 v289
  let c0_i32_184 : BitVec 32 := 0#32
  let v287 : BitVec 1 := Scalar.cmpi .ne v286 c0_i32_184
  let v291 : BitVec 1 := Scalar.andi v290 v287
  let v292 : BitVec 32 := Scalar.addi v286 v285
  let v293 : BitVec 32 := Scalar.select v291 v292 v286
  ![4, v293.toNat]
def k0_off10 (i : grid0.Coords) : Fin 3 → Nat :=
  let arg0 : BitVec 32 := BitVec.ofNat 32 (i 0).val
  let c2_i32_178 : BitVec 32 := 2#32
  let v280 : BitVec 32 := Scalar.addi arg0 c2_i32_178
  let c3_i32_181 : BitVec 32 := 3#32
  let c0_i32_182 : BitVec 32 := 0#32
  let v284 : BitVec 1 := Scalar.cmpi .eq c3_i32_181 c0_i32_182
  let c1_i32_183 : BitVec 32 := 1#32
  let v285 : BitVec 32 := Scalar.select v284 c1_i32_183 c3_i32_181
  let v286 : BitVec 32 := Scalar.remsi v280 v285
  let c0_i32_185 : BitVec 32 := 0#32
  let v288 : BitVec 1 := Scalar.cmpi .slt v286 c0_i32_185
  let c0_i32_186 : BitVec 32 := 0#32
  let v289 : BitVec 1 := Scalar.cmpi .slt v285 c0_i32_186
  let v290 : BitVec 1 := Scalar.xori v288 v289
  let c0_i32_184 : BitVec 32 := 0#32
  let v287 : BitVec 1 := Scalar.cmpi .ne v286 c0_i32_184
  let v291 : BitVec 1 := Scalar.andi v290 v287
  let v292 : BitVec 32 := Scalar.addi v286 v285
  let v293 : BitVec 32 := Scalar.select v291 v292 v286
  let c0_i32_204 : BitVec 32 := 0#32
  let c0_i32_205 : BitVec 32 := 0#32
  ![v293.toNat, 0, 0]
def k0_off11 (i : grid0.Coords) : Fin 2 → Nat :=
  let c7_i32_179 : BitVec 32 := 7#32
  let arg0 : BitVec 32 := BitVec.ofNat 32 (i 0).val
  let c2_i32_178 : BitVec 32 := 2#32
  let v280 : BitVec 32 := Scalar.addi arg0 c2_i32_178
  let v281 : BitVec 32 := Scalar.subi c7_i32_179 v280
  let c512_i32_180 : BitVec 32 := 512#32
  let v282 : BitVec 32 := Scalar.muli v281 c512_i32_180
  let v283 : BitVec 32 := v282
  let c0_i32_206 : BitVec 32 := 0#32
  ![v283.toNat, 0]
def k0_off12 (i : grid0.Coords) : Fin 2 → Nat :=
  let c5_i32_207 : BitVec 32 := 5#32
  let arg0 : BitVec 32 := BitVec.ofNat 32 (i 0).val
  let c2_i32_178 : BitVec 32 := 2#32
  let v280 : BitVec 32 := Scalar.addi arg0 c2_i32_178
  let c3_i32_181 : BitVec 32 := 3#32
  let c0_i32_182 : BitVec 32 := 0#32
  let v284 : BitVec 1 := Scalar.cmpi .eq c3_i32_181 c0_i32_182
  let c1_i32_183 : BitVec 32 := 1#32
  let v285 : BitVec 32 := Scalar.select v284 c1_i32_183 c3_i32_181
  let v286 : BitVec 32 := Scalar.remsi v280 v285
  let c0_i32_185 : BitVec 32 := 0#32
  let v288 : BitVec 1 := Scalar.cmpi .slt v286 c0_i32_185
  let c0_i32_186 : BitVec 32 := 0#32
  let v289 : BitVec 1 := Scalar.cmpi .slt v285 c0_i32_186
  let v290 : BitVec 1 := Scalar.xori v288 v289
  let c0_i32_184 : BitVec 32 := 0#32
  let v287 : BitVec 1 := Scalar.cmpi .ne v286 c0_i32_184
  let v291 : BitVec 1 := Scalar.andi v290 v287
  let v292 : BitVec 32 := Scalar.addi v286 v285
  let v293 : BitVec 32 := Scalar.select v291 v292 v286
  ![5, v293.toNat]
def k0_off13 (i : grid0.Coords) : Fin 3 → Nat :=
  let arg0 : BitVec 32 := BitVec.ofNat 32 (i 0).val
  let c2_i32_178 : BitVec 32 := 2#32
  let v280 : BitVec 32 := Scalar.addi arg0 c2_i32_178
  let c3_i32_181 : BitVec 32 := 3#32
  let c0_i32_182 : BitVec 32 := 0#32
  let v284 : BitVec 1 := Scalar.cmpi .eq c3_i32_181 c0_i32_182
  let c1_i32_183 : BitVec 32 := 1#32
  let v285 : BitVec 32 := Scalar.select v284 c1_i32_183 c3_i32_181
  let v286 : BitVec 32 := Scalar.remsi v280 v285
  let c0_i32_185 : BitVec 32 := 0#32
  let v288 : BitVec 1 := Scalar.cmpi .slt v286 c0_i32_185
  let c0_i32_186 : BitVec 32 := 0#32
  let v289 : BitVec 1 := Scalar.cmpi .slt v285 c0_i32_186
  let v290 : BitVec 1 := Scalar.xori v288 v289
  let c0_i32_184 : BitVec 32 := 0#32
  let v287 : BitVec 1 := Scalar.cmpi .ne v286 c0_i32_184
  let v291 : BitVec 1 := Scalar.andi v290 v287
  let v292 : BitVec 32 := Scalar.addi v286 v285
  let v293 : BitVec 32 := Scalar.select v291 v292 v286
  let c0_i32_208 : BitVec 32 := 0#32
  let c0_i32_209 : BitVec 32 := 0#32
  ![v293.toNat, 0, 0]
def k0_off14 (i : grid0.Coords) : Fin 2 → Nat :=
  let c7_i32_179 : BitVec 32 := 7#32
  let arg0 : BitVec 32 := BitVec.ofNat 32 (i 0).val
  let c2_i32_178 : BitVec 32 := 2#32
  let v280 : BitVec 32 := Scalar.addi arg0 c2_i32_178
  let v281 : BitVec 32 := Scalar.subi c7_i32_179 v280
  let c512_i32_180 : BitVec 32 := 512#32
  let v282 : BitVec 32 := Scalar.muli v281 c512_i32_180
  let v283 : BitVec 32 := v282
  let c0_i32_210 : BitVec 32 := 0#32
  ![v283.toNat, 0]
def k0_mult2 (i : grid0.Coords) : BitVec 32 :=
  let c7_i32 : BitVec 32 := 7#32
  let arg0 : BitVec 32 := BitVec.ofNat 32 (i 0).val
  let v7 : BitVec 32 := Scalar.subi c7_i32 arg0
  let c512_i32 : BitVec 32 := 512#32
  let v8 : BitVec 32 := Scalar.muli v7 c512_i32
  v8
def k0_off15 (i : grid0.Coords) : Fin 2 → Nat :=
  let c0_i32_6 : BitVec 32 := 0#32
  let arg0 : BitVec 32 := BitVec.ofNat 32 (i 0).val
  let c3_i32 : BitVec 32 := 3#32
  let c0_i32_2 : BitVec 32 := 0#32
  let v10 : BitVec 1 := Scalar.cmpi .eq c3_i32 c0_i32_2
  let c1_i32 : BitVec 32 := 1#32
  let v11 : BitVec 32 := Scalar.select v10 c1_i32 c3_i32
  let v12 : BitVec 32 := Scalar.remsi arg0 v11
  let c0_i32_4 : BitVec 32 := 0#32
  let v14 : BitVec 1 := Scalar.cmpi .slt v12 c0_i32_4
  let c0_i32_5 : BitVec 32 := 0#32
  let v15 : BitVec 1 := Scalar.cmpi .slt v11 c0_i32_5
  let v16 : BitVec 1 := Scalar.xori v14 v15
  let c0_i32_3 : BitVec 32 := 0#32
  let v13 : BitVec 1 := Scalar.cmpi .ne v12 c0_i32_3
  let v17 : BitVec 1 := Scalar.andi v16 v13
  let v18 : BitVec 32 := Scalar.addi v12 v11
  let v19 : BitVec 32 := Scalar.select v17 v18 v12
  ![0, v19.toNat]
def k0_off16 (i : grid0.Coords) : Fin 3 → Nat :=
  let arg0 : BitVec 32 := BitVec.ofNat 32 (i 0).val
  let c3_i32 : BitVec 32 := 3#32
  let c0_i32_2 : BitVec 32 := 0#32
  let v10 : BitVec 1 := Scalar.cmpi .eq c3_i32 c0_i32_2
  let c1_i32 : BitVec 32 := 1#32
  let v11 : BitVec 32 := Scalar.select v10 c1_i32 c3_i32
  let v12 : BitVec 32 := Scalar.remsi arg0 v11
  let c0_i32_4 : BitVec 32 := 0#32
  let v14 : BitVec 1 := Scalar.cmpi .slt v12 c0_i32_4
  let c0_i32_5 : BitVec 32 := 0#32
  let v15 : BitVec 1 := Scalar.cmpi .slt v11 c0_i32_5
  let v16 : BitVec 1 := Scalar.xori v14 v15
  let c0_i32_3 : BitVec 32 := 0#32
  let v13 : BitVec 1 := Scalar.cmpi .ne v12 c0_i32_3
  let v17 : BitVec 1 := Scalar.andi v16 v13
  let v18 : BitVec 32 := Scalar.addi v12 v11
  let v19 : BitVec 32 := Scalar.select v17 v18 v12
  let c0_i32_7 : BitVec 32 := 0#32
  let c0_i32_8 : BitVec 32 := 0#32
  ![v19.toNat, 0, 0]
def k0_off17 (i : grid0.Coords) : Fin 2 → Nat :=
  let c7_i32 : BitVec 32 := 7#32
  let arg0 : BitVec 32 := BitVec.ofNat 32 (i 0).val
  let v7 : BitVec 32 := Scalar.subi c7_i32 arg0
  let c512_i32 : BitVec 32 := 512#32
  let v8 : BitVec 32 := Scalar.muli v7 c512_i32
  let v9 : BitVec 32 := v8
  let c0_i32_9 : BitVec 32 := 0#32
  ![v9.toNat, 0]
def k0_off18 (i : grid0.Coords) : Fin 2 → Nat :=
  let c1_i32_10 : BitVec 32 := 1#32
  let arg0 : BitVec 32 := BitVec.ofNat 32 (i 0).val
  let c3_i32 : BitVec 32 := 3#32
  let c0_i32_2 : BitVec 32 := 0#32
  let v10 : BitVec 1 := Scalar.cmpi .eq c3_i32 c0_i32_2
  let c1_i32 : BitVec 32 := 1#32
  let v11 : BitVec 32 := Scalar.select v10 c1_i32 c3_i32
  let v12 : BitVec 32 := Scalar.remsi arg0 v11
  let c0_i32_4 : BitVec 32 := 0#32
  let v14 : BitVec 1 := Scalar.cmpi .slt v12 c0_i32_4
  let c0_i32_5 : BitVec 32 := 0#32
  let v15 : BitVec 1 := Scalar.cmpi .slt v11 c0_i32_5
  let v16 : BitVec 1 := Scalar.xori v14 v15
  let c0_i32_3 : BitVec 32 := 0#32
  let v13 : BitVec 1 := Scalar.cmpi .ne v12 c0_i32_3
  let v17 : BitVec 1 := Scalar.andi v16 v13
  let v18 : BitVec 32 := Scalar.addi v12 v11
  let v19 : BitVec 32 := Scalar.select v17 v18 v12
  ![1, v19.toNat]
def k0_off19 (i : grid0.Coords) : Fin 2 → Nat :=
  let c2_i32_14 : BitVec 32 := 2#32
  let arg0 : BitVec 32 := BitVec.ofNat 32 (i 0).val
  let c3_i32 : BitVec 32 := 3#32
  let c0_i32_2 : BitVec 32 := 0#32
  let v10 : BitVec 1 := Scalar.cmpi .eq c3_i32 c0_i32_2
  let c1_i32 : BitVec 32 := 1#32
  let v11 : BitVec 32 := Scalar.select v10 c1_i32 c3_i32
  let v12 : BitVec 32 := Scalar.remsi arg0 v11
  let c0_i32_4 : BitVec 32 := 0#32
  let v14 : BitVec 1 := Scalar.cmpi .slt v12 c0_i32_4
  let c0_i32_5 : BitVec 32 := 0#32
  let v15 : BitVec 1 := Scalar.cmpi .slt v11 c0_i32_5
  let v16 : BitVec 1 := Scalar.xori v14 v15
  let c0_i32_3 : BitVec 32 := 0#32
  let v13 : BitVec 1 := Scalar.cmpi .ne v12 c0_i32_3
  let v17 : BitVec 1 := Scalar.andi v16 v13
  let v18 : BitVec 32 := Scalar.addi v12 v11
  let v19 : BitVec 32 := Scalar.select v17 v18 v12
  ![2, v19.toNat]
def k0_off20 (i : grid0.Coords) : Fin 2 → Nat :=
  let c3_i32_18 : BitVec 32 := 3#32
  let arg0 : BitVec 32 := BitVec.ofNat 32 (i 0).val
  let c3_i32 : BitVec 32 := 3#32
  let c0_i32_2 : BitVec 32 := 0#32
  let v10 : BitVec 1 := Scalar.cmpi .eq c3_i32 c0_i32_2
  let c1_i32 : BitVec 32 := 1#32
  let v11 : BitVec 32 := Scalar.select v10 c1_i32 c3_i32
  let v12 : BitVec 32 := Scalar.remsi arg0 v11
  let c0_i32_4 : BitVec 32 := 0#32
  let v14 : BitVec 1 := Scalar.cmpi .slt v12 c0_i32_4
  let c0_i32_5 : BitVec 32 := 0#32
  let v15 : BitVec 1 := Scalar.cmpi .slt v11 c0_i32_5
  let v16 : BitVec 1 := Scalar.xori v14 v15
  let c0_i32_3 : BitVec 32 := 0#32
  let v13 : BitVec 1 := Scalar.cmpi .ne v12 c0_i32_3
  let v17 : BitVec 1 := Scalar.andi v16 v13
  let v18 : BitVec 32 := Scalar.addi v12 v11
  let v19 : BitVec 32 := Scalar.select v17 v18 v12
  ![3, v19.toNat]
def k0_off21 (i : grid0.Coords) : Fin 3 → Nat :=
  let arg0 : BitVec 32 := BitVec.ofNat 32 (i 0).val
  let c3_i32 : BitVec 32 := 3#32
  let c0_i32_2 : BitVec 32 := 0#32
  let v10 : BitVec 1 := Scalar.cmpi .eq c3_i32 c0_i32_2
  let c1_i32 : BitVec 32 := 1#32
  let v11 : BitVec 32 := Scalar.select v10 c1_i32 c3_i32
  let v12 : BitVec 32 := Scalar.remsi arg0 v11
  let c0_i32_4 : BitVec 32 := 0#32
  let v14 : BitVec 1 := Scalar.cmpi .slt v12 c0_i32_4
  let c0_i32_5 : BitVec 32 := 0#32
  let v15 : BitVec 1 := Scalar.cmpi .slt v11 c0_i32_5
  let v16 : BitVec 1 := Scalar.xori v14 v15
  let c0_i32_3 : BitVec 32 := 0#32
  let v13 : BitVec 1 := Scalar.cmpi .ne v12 c0_i32_3
  let v17 : BitVec 1 := Scalar.andi v16 v13
  let v18 : BitVec 32 := Scalar.addi v12 v11
  let v19 : BitVec 32 := Scalar.select v17 v18 v12
  let c0_i32_19 : BitVec 32 := 0#32
  let c0_i32_20 : BitVec 32 := 0#32
  ![v19.toNat, 0, 0]
def k0_off22 (i : grid0.Coords) : Fin 2 → Nat :=
  let c7_i32 : BitVec 32 := 7#32
  let arg0 : BitVec 32 := BitVec.ofNat 32 (i 0).val
  let v7 : BitVec 32 := Scalar.subi c7_i32 arg0
  let c512_i32 : BitVec 32 := 512#32
  let v8 : BitVec 32 := Scalar.muli v7 c512_i32
  let v9 : BitVec 32 := v8
  let c0_i32_21 : BitVec 32 := 0#32
  ![v9.toNat, 0]
def k0_off23 (i : grid0.Coords) : Fin 2 → Nat :=
  let c4_i32 : BitVec 32 := 4#32
  let arg0 : BitVec 32 := BitVec.ofNat 32 (i 0).val
  let c3_i32 : BitVec 32 := 3#32
  let c0_i32_2 : BitVec 32 := 0#32
  let v10 : BitVec 1 := Scalar.cmpi .eq c3_i32 c0_i32_2
  let c1_i32 : BitVec 32 := 1#32
  let v11 : BitVec 32 := Scalar.select v10 c1_i32 c3_i32
  let v12 : BitVec 32 := Scalar.remsi arg0 v11
  let c0_i32_4 : BitVec 32 := 0#32
  let v14 : BitVec 1 := Scalar.cmpi .slt v12 c0_i32_4
  let c0_i32_5 : BitVec 32 := 0#32
  let v15 : BitVec 1 := Scalar.cmpi .slt v11 c0_i32_5
  let v16 : BitVec 1 := Scalar.xori v14 v15
  let c0_i32_3 : BitVec 32 := 0#32
  let v13 : BitVec 1 := Scalar.cmpi .ne v12 c0_i32_3
  let v17 : BitVec 1 := Scalar.andi v16 v13
  let v18 : BitVec 32 := Scalar.addi v12 v11
  let v19 : BitVec 32 := Scalar.select v17 v18 v12
  ![4, v19.toNat]
def k0_off24 (i : grid0.Coords) : Fin 3 → Nat :=
  let arg0 : BitVec 32 := BitVec.ofNat 32 (i 0).val
  let c3_i32 : BitVec 32 := 3#32
  let c0_i32_2 : BitVec 32 := 0#32
  let v10 : BitVec 1 := Scalar.cmpi .eq c3_i32 c0_i32_2
  let c1_i32 : BitVec 32 := 1#32
  let v11 : BitVec 32 := Scalar.select v10 c1_i32 c3_i32
  let v12 : BitVec 32 := Scalar.remsi arg0 v11
  let c0_i32_4 : BitVec 32 := 0#32
  let v14 : BitVec 1 := Scalar.cmpi .slt v12 c0_i32_4
  let c0_i32_5 : BitVec 32 := 0#32
  let v15 : BitVec 1 := Scalar.cmpi .slt v11 c0_i32_5
  let v16 : BitVec 1 := Scalar.xori v14 v15
  let c0_i32_3 : BitVec 32 := 0#32
  let v13 : BitVec 1 := Scalar.cmpi .ne v12 c0_i32_3
  let v17 : BitVec 1 := Scalar.andi v16 v13
  let v18 : BitVec 32 := Scalar.addi v12 v11
  let v19 : BitVec 32 := Scalar.select v17 v18 v12
  let c0_i32_22 : BitVec 32 := 0#32
  let c0_i32_23 : BitVec 32 := 0#32
  ![v19.toNat, 0, 0]
def k0_off25 (i : grid0.Coords) : Fin 2 → Nat :=
  let c7_i32 : BitVec 32 := 7#32
  let arg0 : BitVec 32 := BitVec.ofNat 32 (i 0).val
  let v7 : BitVec 32 := Scalar.subi c7_i32 arg0
  let c512_i32 : BitVec 32 := 512#32
  let v8 : BitVec 32 := Scalar.muli v7 c512_i32
  let v9 : BitVec 32 := v8
  let c0_i32_24 : BitVec 32 := 0#32
  ![v9.toNat, 0]
def k0_off26 (i : grid0.Coords) : Fin 2 → Nat :=
  let c5_i32 : BitVec 32 := 5#32
  let arg0 : BitVec 32 := BitVec.ofNat 32 (i 0).val
  let c3_i32 : BitVec 32 := 3#32
  let c0_i32_2 : BitVec 32 := 0#32
  let v10 : BitVec 1 := Scalar.cmpi .eq c3_i32 c0_i32_2
  let c1_i32 : BitVec 32 := 1#32
  let v11 : BitVec 32 := Scalar.select v10 c1_i32 c3_i32
  let v12 : BitVec 32 := Scalar.remsi arg0 v11
  let c0_i32_4 : BitVec 32 := 0#32
  let v14 : BitVec 1 := Scalar.cmpi .slt v12 c0_i32_4
  let c0_i32_5 : BitVec 32 := 0#32
  let v15 : BitVec 1 := Scalar.cmpi .slt v11 c0_i32_5
  let v16 : BitVec 1 := Scalar.xori v14 v15
  let c0_i32_3 : BitVec 32 := 0#32
  let v13 : BitVec 1 := Scalar.cmpi .ne v12 c0_i32_3
  let v17 : BitVec 1 := Scalar.andi v16 v13
  let v18 : BitVec 32 := Scalar.addi v12 v11
  let v19 : BitVec 32 := Scalar.select v17 v18 v12
  ![5, v19.toNat]
def k0_off27 (i : grid0.Coords) : Fin 3 → Nat :=
  let arg0 : BitVec 32 := BitVec.ofNat 32 (i 0).val
  let c3_i32 : BitVec 32 := 3#32
  let c0_i32_2 : BitVec 32 := 0#32
  let v10 : BitVec 1 := Scalar.cmpi .eq c3_i32 c0_i32_2
  let c1_i32 : BitVec 32 := 1#32
  let v11 : BitVec 32 := Scalar.select v10 c1_i32 c3_i32
  let v12 : BitVec 32 := Scalar.remsi arg0 v11
  let c0_i32_4 : BitVec 32 := 0#32
  let v14 : BitVec 1 := Scalar.cmpi .slt v12 c0_i32_4
  let c0_i32_5 : BitVec 32 := 0#32
  let v15 : BitVec 1 := Scalar.cmpi .slt v11 c0_i32_5
  let v16 : BitVec 1 := Scalar.xori v14 v15
  let c0_i32_3 : BitVec 32 := 0#32
  let v13 : BitVec 1 := Scalar.cmpi .ne v12 c0_i32_3
  let v17 : BitVec 1 := Scalar.andi v16 v13
  let v18 : BitVec 32 := Scalar.addi v12 v11
  let v19 : BitVec 32 := Scalar.select v17 v18 v12
  let c0_i32_25 : BitVec 32 := 0#32
  let c0_i32_26 : BitVec 32 := 0#32
  ![v19.toNat, 0, 0]
def k0_off28 (i : grid0.Coords) : Fin 2 → Nat :=
  let c7_i32 : BitVec 32 := 7#32
  let arg0 : BitVec 32 := BitVec.ofNat 32 (i 0).val
  let v7 : BitVec 32 := Scalar.subi c7_i32 arg0
  let c512_i32 : BitVec 32 := 512#32
  let v8 : BitVec 32 := Scalar.muli v7 c512_i32
  let v9 : BitVec 32 := v8
  let c0_i32_27 : BitVec 32 := 0#32
  ![v9.toNat, 0]
def k0_off29 (i : grid0.Coords) : Fin 3 → Nat :=
  let arg0 : BitVec 32 := BitVec.ofNat 32 (i 0).val
  let c3_i32_28 : BitVec 32 := 3#32
  let c0_i32_29 : BitVec 32 := 0#32
  let v50 : BitVec 1 := Scalar.cmpi .eq c3_i32_28 c0_i32_29
  let c1_i32_30 : BitVec 32 := 1#32
  let v51 : BitVec 32 := Scalar.select v50 c1_i32_30 c3_i32_28
  let v52 : BitVec 32 := Scalar.remsi arg0 v51
  let c0_i32_32 : BitVec 32 := 0#32
  let v54 : BitVec 1 := Scalar.cmpi .slt v52 c0_i32_32
  let c0_i32_33 : BitVec 32 := 0#32
  let v55 : BitVec 1 := Scalar.cmpi .slt v51 c0_i32_33
  let v56 : BitVec 1 := Scalar.xori v54 v55
  let c0_i32_31 : BitVec 32 := 0#32
  let v53 : BitVec 1 := Scalar.cmpi .ne v52 c0_i32_31
  let v57 : BitVec 1 := Scalar.andi v56 v53
  let v58 : BitVec 32 := Scalar.addi v52 v51
  let v59 : BitVec 32 := Scalar.select v57 v58 v52
  let v110 : Index := Scalar.indexCast v59
  let c0 : Index := 0#32
  let c0_64 : Index := 0#32
  ![v110.toNat, 0, 0]
def k0_off30 (i : grid0.Coords) : Fin 3 → Nat :=
  let arg0 : BitVec 32 := BitVec.ofNat 32 (i 0).val
  let c3_i32_52 : BitVec 32 := 3#32
  let c0_i32_53 : BitVec 32 := 0#32
  let v90 : BitVec 1 := Scalar.cmpi .eq c3_i32_52 c0_i32_53
  let c1_i32_54 : BitVec 32 := 1#32
  let v91 : BitVec 32 := Scalar.select v90 c1_i32_54 c3_i32_52
  let v92 : BitVec 32 := Scalar.remsi arg0 v91
  let c0_i32_56 : BitVec 32 := 0#32
  let v94 : BitVec 1 := Scalar.cmpi .slt v92 c0_i32_56
  let c0_i32_57 : BitVec 32 := 0#32
  let v95 : BitVec 1 := Scalar.cmpi .slt v91 c0_i32_57
  let v96 : BitVec 1 := Scalar.xori v94 v95
  let c0_i32_55 : BitVec 32 := 0#32
  let v93 : BitVec 1 := Scalar.cmpi .ne v92 c0_i32_55
  let v97 : BitVec 1 := Scalar.andi v96 v93
  let v98 : BitVec 32 := Scalar.addi v92 v91
  let v99 : BitVec 32 := Scalar.select v97 v98 v92
  let v202 : Index := Scalar.indexCast v99
  let c0_139 : Index := 0#32
  let c0_140 : Index := 0#32
  ![v202.toNat, 0, 0]
def k0_off31 (i : grid0.Coords) : Fin 3 → Nat :=
  let arg0 : BitVec 32 := BitVec.ofNat 32 (i 0).val
  let c3_i32_58 : BitVec 32 := 3#32
  let c0_i32_59 : BitVec 32 := 0#32
  let v100 : BitVec 1 := Scalar.cmpi .eq c3_i32_58 c0_i32_59
  let c1_i32_60 : BitVec 32 := 1#32
  let v101 : BitVec 32 := Scalar.select v100 c1_i32_60 c3_i32_58
  let v102 : BitVec 32 := Scalar.remsi arg0 v101
  let c0_i32_62 : BitVec 32 := 0#32
  let v104 : BitVec 1 := Scalar.cmpi .slt v102 c0_i32_62
  let c0_i32_63 : BitVec 32 := 0#32
  let v105 : BitVec 1 := Scalar.cmpi .slt v101 c0_i32_63
  let v106 : BitVec 1 := Scalar.xori v104 v105
  let c0_i32_61 : BitVec 32 := 0#32
  let v103 : BitVec 1 := Scalar.cmpi .ne v102 c0_i32_61
  let v107 : BitVec 1 := Scalar.andi v106 v103
  let v108 : BitVec 32 := Scalar.addi v102 v101
  let v109 : BitVec 32 := Scalar.select v107 v108 v102
  let v214 : Index := Scalar.indexCast v109
  let c0_147 : Index := 0#32
  let c0_148 : Index := 0#32
  ![v214.toNat, 0, 0]
def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S4096x512 : Shape := ⟨2, ![4096, 512]⟩
abbrev S4096x1536 : Shape := ⟨2, ![4096, 1536]⟩
abbrev S4096x2048 : Shape := ⟨2, ![4096, 2048]⟩
abbrev S512x1024 : Shape := ⟨2, ![512, 1024]⟩
abbrev S1024x1024 : Shape := ⟨2, ![1024, 1024]⟩
abbrev S3x512 : Shape := ⟨2, ![3, 512]⟩
abbrev S4096x1024 : Shape := ⟨2, ![4096, 1024]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩

abbrev nBuf : Space → Nat
  | .hbm => 137
  | .vmem => 0
  | .smem => 0
  | _ => 0

abbrev hbmTy0_0 (i : Nat) : BufTy := match i % 128 with
  | 0 => ⟨S4096x512, .f32⟩
  | 1 => ⟨S4096x1536, .f32⟩
  | 2 => ⟨S4096x2048, .f32⟩
  | 3 => ⟨S512x1024, .f32⟩
  | 4 => ⟨S512x1024, .f32⟩
  | 5 => ⟨S1024x1024, .f32⟩
  | 6 => ⟨S3x512, .f32⟩
  | 7 => ⟨S4096x1024, .f32⟩
  | 8 => ⟨S4096x512, .f32⟩
  | 9 => ⟨S4096x512, .f32⟩
  | 10 => ⟨S4096x512, .f32⟩
  | 11 => ⟨S4096x1024, .f32⟩
  | 12 => ⟨S4096x512, .f32⟩
  | 13 => ⟨S_, .f32⟩
  | 14 => ⟨S2x512, .f32⟩
  | 15 => ⟨S4098x512, .f32⟩
  | 16 => ⟨S_, .f32⟩
  | 17 => ⟨S2x512, .f32⟩
  | 18 => ⟨S1x512, .f32⟩
  | 19 => ⟨S512, .f32⟩
  | 20 => ⟨S4096x512, .f32⟩
  | 21 => ⟨S1x512, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S1x512, .f32⟩
  | 28 => ⟨S512, .f32⟩
  | 29 => ⟨S4096x512, .f32⟩
  | 30 => ⟨S1x512, .f32⟩
  | 31 => ⟨S4096x512, .f32⟩
  | 32 => ⟨S4096x512, .f32⟩
  | 33 => ⟨S4096x512, .f32⟩
  | 34 => ⟨S1x512, .f32⟩
  | 35 => ⟨S512, .f32⟩
  | 36 => ⟨S4096x512, .f32⟩
  | 37 => ⟨S1x512, .f32⟩
  | 38 => ⟨S4096x512, .f32⟩
  | 39 => ⟨S4096x512, .f32⟩
  | 40 => ⟨S4096x512, .f32⟩
  | 41 => ⟨S4096x512, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S_, .f32⟩
  | 61 => ⟨S4096x1024, .f32⟩
  | 62 => ⟨S4096x1024, .f32⟩
  | 63 => ⟨S_, .f32⟩
  | 64 => ⟨S4096x1024, .f32⟩
  | 65 => ⟨S4096x1024, .f32⟩
  | 66 => ⟨S_, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S4096x2048, .f32⟩
  | 81 => ⟨S4096x512, .f32⟩
  | 82 => ⟨S4096x512, .f32⟩
  | 83 => ⟨S4096x512, .f32⟩
  | 84 => ⟨S4096x512, .f32⟩
  | 85 => ⟨S4096x512, .f32⟩
  | 86 => ⟨S4096x512, .f32⟩
  | 87 => ⟨S_, .f32⟩
  | 88 => ⟨S512, .f32⟩
  | 89 => ⟨S1x512, .f32⟩
  | 90 => ⟨S_, .f32⟩
  | 91 => ⟨S512, .f32⟩
  | 92 => ⟨S_, .f32⟩
  | 93 => ⟨S4098x512, .f32⟩
  | 94 => ⟨S1x512, .f32⟩
  | 95 => ⟨S_, .f32⟩
  | 96 => ⟨S3x512, .f32⟩
  | 97 => ⟨S4096x512, .f32⟩
  | 98 => ⟨S4096x512, .f32⟩
  | 99 => ⟨S4096x512, .f32⟩
  | 100 => ⟨S_, .f32⟩
  | 101 => ⟨S512, .f32⟩
  | 102 => ⟨S1x512, .f32⟩
  | 103 => ⟨S_, .f32⟩
  | 104 => ⟨S512, .f32⟩
  | 105 => ⟨S_, .f32⟩
  | 106 => ⟨S4098x512, .f32⟩
  | 107 => ⟨S4098x512, .f32⟩
  | 108 => ⟨S1x512, .f32⟩
  | 109 => ⟨S_, .f32⟩
  | 110 => ⟨S3x512, .f32⟩
  | 111 => ⟨S3x512, .f32⟩
  | 112 => ⟨S4096x512, .f32⟩
  | 113 => ⟨S4096x512, .f32⟩
  | 114 => ⟨S4096x512, .f32⟩
  | 115 => ⟨S_, .f32⟩
  | 116 => ⟨S512, .f32⟩
  | 117 => ⟨S1x512, .f32⟩
  | 118 => ⟨S_, .f32⟩
  | 119 => ⟨S512, .f32⟩
  | 120 => ⟨S_, .f32⟩
  | 121 => ⟨S4098x512, .f32⟩
  | 122 => ⟨S4098x512, .f32⟩
  | 123 => ⟨S1x512, .f32⟩
  | 124 => ⟨S_, .f32⟩
  | 125 => ⟨S3x512, .f32⟩
  | 126 => ⟨S3x512, .f32⟩
  | 127 => ⟨S2x512, .f32⟩
  | _ => ⟨S4096x512, .f32⟩

abbrev hbmTy0_1 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x1536, .f32⟩
  | 5 => ⟨S4096x2048, .bf16⟩
  | 6 => ⟨S4096x1024, .bf16⟩
  | 7 => ⟨S4096x1024, .bf16⟩
  | 8 => ⟨S4096x1536, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_v70 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_v80 : Ref sig .tc := ⟨.hbm, 102, rfl⟩
abbrev main_cst_13 : Ref sig .tc := ⟨.hbm, 103, rfl⟩
abbrev main_v81 : Ref sig .tc := ⟨.hbm, 104, rfl⟩
abbrev main_cst_14 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_15 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_16 : Ref sig .tc := ⟨.hbm, 115, rfl⟩
abbrev main_v90 : Ref sig .tc := ⟨.hbm, 116, rfl⟩
abbrev main_v91 : Ref sig .tc := ⟨.hbm, 117, rfl⟩
abbrev main_cst_17 : Ref sig .tc := ⟨.hbm, 118, rfl⟩
abbrev main_v92 : Ref sig .tc := ⟨.hbm, 119, rfl⟩
abbrev main_cst_18 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_19 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩

abbrev nD : Nat := 1
abbrev τ : Topo := Topo.v7x

variable {F : FTy → Type} [FloatOps F]
-- ==== Kernel6.lean ====
abbrev S4096x512 : Shape := ⟨2, ![4096, 512]⟩
abbrev S4096x2048 : Shape := ⟨2, ![4096, 2048]⟩
abbrev S4096x1024 : Shape := ⟨2, ![4096, 1024]⟩
abbrev S512x1024 : Shape := ⟨2, ![512, 1024]⟩
abbrev S1024x1024 : Shape := ⟨2, ![1024, 1024]⟩
abbrev S512x8x128 : Shape := ⟨3, ![512, 8, 128]⟩
abbrev S8x512x128 : Shape := ⟨3, ![8, 512, 128]⟩
abbrev S1024x4096 : Shape := ⟨2, ![1024, 4096]⟩
abbrev S1024x512 : Shape := ⟨2, ![1024, 512]⟩
abbrev S1024x2048 : Shape := ⟨2, ![1024, 2048]⟩
abbrev S1x512x128 : Shape := ⟨3, ![1, 512, 128]⟩
abbrev S512x128 : Shape := ⟨2, ![512, 128]⟩

abbrev nBuf : Space → Nat
  | .hbm => 21
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x512, .bf16⟩
  | .hbm, ⟨8, _⟩ => ⟨S4096x512, .bf16⟩
  | .hbm, ⟨9, _⟩ => ⟨S4096x2048, .bf16⟩
  | .hbm, ⟨10, _⟩ => ⟨S512x8x128, .f32⟩
  | .hbm, ⟨11, _⟩ => ⟨S8x512x128, .f32⟩
  | .hbm, ⟨12, _⟩ => ⟨S8x512x128, .bf16⟩
  | .hbm, ⟨13, _⟩ => ⟨S512x8x128, .f32⟩
  | .hbm, ⟨14, _⟩ => ⟨S8x512x128, .f32⟩
  | .hbm, ⟨15, _⟩ => ⟨S8x512x128, .bf16⟩
  | .hbm, ⟨16, _⟩ => ⟨S1024x1024, .bf16⟩
  | .hbm, ⟨17, _⟩ => ⟨S4096x1024, .f32⟩
  | .hbm, ⟨18, _⟩ => ⟨S1024x4096, .bf16⟩
  | .hbm, ⟨19, _⟩ => ⟨S4096x1024, .bf16⟩
  | .hbm, ⟨20, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .f32⟩
  | .local _ .vmem, ⟨7, _⟩ => ⟨S1024x1024, .f32⟩
  | .local _ .vmem, ⟨8, _⟩ => ⟨S8x512x128, .bf16⟩
  | .local _ .vmem, ⟨9, _⟩ => ⟨S8x512x128, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S4096x512 : Shape := ⟨2, ![4096, 512]⟩
abbrev S4096x2048 : Shape := ⟨2, ![4096, 2048]⟩
abbrev S4096x1024 : Shape := ⟨2, ![4096, 1024]⟩
abbrev S512x1024 : Shape := ⟨2, ![512, 1024]⟩
abbrev S1024x1024 : Shape := ⟨2, ![1024, 1024]⟩
abbrev S_ : Shape := ⟨0, ![]⟩
abbrev S1024x4096 : Shape := ⟨2, ![1024, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1024x4096, .f32⟩
  | .hbm, ⟨33, _⟩ => ⟨S1024x4096, .bf16⟩
  | .hbm, ⟨34, _⟩ => ⟨S4096x1024, .bf16⟩
  | .hbm, ⟨35, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S1024x5632 : Shape := ⟨2, ![1024, 5632]⟩
abbrev S3x512 : Shape := ⟨2, ![3, 512]⟩
abbrev S2x512 : Shape := ⟨2, ![2, 512]⟩
abbrev S1x128 : Shape := ⟨2, ![1, 128]⟩
abbrev S5632x1024 : Shape := ⟨2, ![5632, 1024]⟩
abbrev S1024x4096 : Shape := ⟨2, ![1024, 4096]⟩
abbrev S4096x2048 : Shape := ⟨2, ![4096, 2048]⟩
abbrev S4096x1536 : Shape := ⟨2, ![4096, 1536]⟩
abbrev S4096x512 : Shape := ⟨2, ![4096, 512]⟩
abbrev S512x4096 : Shape := ⟨2, ![512, 4096]⟩
abbrev S4x128x128x128 : Shape := ⟨4, ![4, 128, 128, 128]⟩
abbrev S512x1024 : Shape := ⟨2, ![512, 1024]⟩
abbrev S1024x512 : Shape := ⟨2, ![1024, 512]⟩
abbrev S512x2048 : Shape := ⟨2, ![512, 2048]⟩
abbrev S512x1536 : Shape := ⟨2, ![512, 1536]⟩
abbrev S512x512 : Shape := ⟨2, ![512, 512]⟩
abbrev S4x16x128x128 : Shape := ⟨4, ![4, 16, 128, 128]⟩
abbrev S8x512 : Shape := ⟨2, ![8, 512]⟩
abbrev S4x128x128 : Shape := ⟨3, ![4, 128, 128]⟩
abbrev S512 : Shape := ⟨1, ![512]⟩
abbrev S512x1 : Shape := ⟨2, ![512, 1]⟩
abbrev S2048x1024 : Shape := ⟨2, ![2048, 1024]⟩
abbrev S1536x1024 : Shape := ⟨2, ![1536, 1024]⟩
abbrev S1x512 : Shape := ⟨2, ![1, 512]⟩
abbrev S512x128 : Shape := ⟨2, ![512, 128]⟩
abbrev S256x256 : Shape := ⟨2, ![256, 256]⟩
abbrev S2x128 : Shape := ⟨2, ![2, 128]⟩
abbrev S16x32x128 : Shape := ⟨3, ![16, 32, 128]⟩
abbrev S16x1x128 : Shape := ⟨3, ![16, 1, 128]⟩
abbrev S1x128x128 : Shape := ⟨3, ![1, 128, 128]⟩
abbrev S128x128 : Shape := ⟨2, ![128, 128]⟩
abbrev S256x128 : Shape := ⟨2, ![256, 128]⟩
abbrev S1x1x128x128 : Shape := ⟨4, ![1, 1, 128, 128]⟩
abbrev S32x128 : Shape := ⟨2, ![32, 128]⟩
abbrev S1x1x128 : Shape := ⟨3, ![1, 1, 128]⟩
abbrev S128x512 : Shape := ⟨2, ![128, 512]⟩

abbrev nBuf : Space → Nat
  | .hbm => 19
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S3x512, .f32⟩
  | .hbm, ⟨4, _⟩ => ⟨S2x512, .f32⟩
  | .hbm, ⟨5, _⟩ => ⟨S1x128, .f32⟩
  | .hbm, ⟨6, _⟩ => ⟨S5632x1024, .f32⟩
  | .hbm, ⟨7, _⟩ => ⟨S5632x1024, .bf16⟩
  | .hbm, ⟨8, _⟩ => ⟨S1024x4096, .bf16⟩
  | .hbm, ⟨9, _⟩ => ⟨S4096x2048, .f32⟩
  | .hbm, ⟨10, _⟩ => ⟨S4096x1536, .bf16⟩
  | .hbm, ⟨11, _⟩ => ⟨S4096x2048, .bf16⟩
  | .hbm, ⟨12, _⟩ => ⟨S4096x512, .bf16⟩
  | .hbm, ⟨13, _⟩ => ⟨S512x4096, .bf16⟩
  | .hbm, ⟨14, _⟩ => ⟨S4096x512, .bf16⟩
  | .hbm, ⟨15, _⟩ => ⟨S4096x512, .f32⟩
  | .hbm, ⟨16, _⟩ => ⟨S4096x512, .bf16⟩
  | .hbm, ⟨17, _⟩ => ⟨S512x4096, .bf16⟩
  | .hbm, ⟨18, _⟩ => ⟨S4x128x128x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S3x512, .f32⟩
  | .local _ .vmem, ⟨5, _⟩ => ⟨S2x512, .f32⟩
  | .local _ .vmem, ⟨6, _⟩ => ⟨S1x128, .f32⟩
  | .local _ .vmem, ⟨7, _⟩ => ⟨S1024x512, .bf16⟩
  | .local _ .vmem, ⟨8, _⟩ => ⟨S1024x512, .bf16⟩
  | .local _ .vmem, ⟨9, _⟩ => ⟨S512x2048, .f32⟩
  | .local _ .vmem, ⟨10, _⟩ => ⟨S512x2048, .f32⟩
  | .local _ .vmem, ⟨11, _⟩ => ⟨S512x1536, .bf16⟩
  | .local _ .vmem, ⟨12, _⟩ => ⟨S512x1536, .bf16⟩
  | .local _ .vmem, ⟨13, _⟩ => ⟨S512x2048, .bf16⟩
  | .local _ .vmem, ⟨14, _⟩ => ⟨S512x2048, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .f32⟩
  | .local _ .vmem, ⟨22, _⟩ => ⟨S512x512, .f32⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S4x16x128x128, .f32⟩
  | .local _ .vmem, ⟨28, _⟩ => ⟨S4x16x128x128, .f32⟩
  | .local _ .vmem, ⟨29, _⟩ => ⟨S8x512, .f32⟩
  | .local _ .vmem, ⟨30, _⟩ => ⟨S4x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v2_6 : Ref sig .tc := ⟨.hbm, 14, rfl⟩
abbrev main_v2_7 : Ref sig .tc := ⟨.hbm, 15, rfl⟩
abbrev main_v2_8 : Ref sig .tc := ⟨.hbm, 16, rfl⟩
abbrev main_v2_9 : Ref sig .tc := ⟨.hbm, 17, rfl⟩
abbrev main_v2_10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x16x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference7Ideal.lean ====
abbrev S4096x1024 : Shape := ⟨2, ![4096, 1024]⟩
abbrev S1x1024 : Shape := ⟨2, ![1, 1024]⟩
abbrev S1024x5632 : Shape := ⟨2, ![1024, 5632]⟩
abbrev S3x512 : Shape := ⟨2, ![3, 512]⟩
abbrev S2x512 : Shape := ⟨2, ![2, 512]⟩
abbrev S1x128 : Shape := ⟨2, ![1, 128]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2048 : Shape := ⟨2, ![4096, 2048]⟩
abbrev S4096x1536 : Shape := ⟨2, ![4096, 1536]⟩
abbrev S4096x512 : Shape := ⟨2, ![4096, 512]⟩
abbrev S4098x512 : Shape := ⟨2, ![4098, 512]⟩
abbrev S1x512 : Shape := ⟨2, ![1, 512]⟩
abbrev S512 : Shape := ⟨1, ![512]⟩
abbrev S1024x4096 : Shape := ⟨2, ![1024, 4096]⟩
abbrev S512x4096 : Shape := ⟨2, ![512, 4096]⟩
abbrev S1x4096 : Shape := ⟨2, ![1, 4096]⟩
abbrev S4096x4096 : Shape := ⟨2, ![4096, 4096]⟩
abbrev S128 : Shape := ⟨1, ![128]⟩
abbrev S128x1 : Shape := ⟨2, ![128, 1]⟩
abbrev S128x4096 : Shape := ⟨2, ![128, 4096]⟩
abbrev S128x512 : Shape := ⟨2, ![128, 512]⟩
abbrev S4096x128 : Shape := ⟨2, ![4096, 128]⟩
abbrev S4096x128x1 : Shape := ⟨3, ![4096, 128, 1]⟩
abbrev S4096x1x128 : Shape := ⟨3, ![4096, 1, 128]⟩
abbrev S4096x128x128 : Shape := ⟨3, ![4096, 128, 128]⟩
abbrev S4096x16384 : Shape := ⟨2, ![4096, 16384]⟩
abbrev S128x16384 : Shape := ⟨2, ![128, 16384]⟩
abbrev S128x128x128 : Shape := ⟨3, ![128, 128, 128]⟩
abbrev S128x128 : Shape := ⟨2, ![128, 128]⟩
abbrev S128x1x128 : Shape := ⟨3, ![128, 1, 128]⟩
abbrev S1x128x128x128 : Shape := ⟨4, ![1, 128, 128, 128]⟩
abbrev S4x128x128x128 : Shape := ⟨4, ![4, 128, 128, 128]⟩

abbrev nBuf : Space → Nat
  | .hbm => 191
  | .vmem => 0
  | .smem => 0
  | _ => 0

abbrev hbmTy0_0 (i : Nat) : BufTy := match i % 128 with
  | 0 => ⟨S4096x1024, .f32⟩
  | 1 => ⟨S1x1024, .f32⟩
  | 2 => ⟨S1024x5632, .f32⟩
  | 3 => ⟨S3x512, .f32⟩
  | 4 => ⟨S2x512, .f32⟩
  | 5 => ⟨S1x128, .f32⟩
  | 6 => ⟨S1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1024, .f32⟩
  | 19 => ⟨S4096x1024, .f32⟩
  | 20 => ⟨S1x1024, .f32⟩
  | 21 => ⟨S4096x1024, .f32⟩
  | 22 => ⟨S4096x1024, .f32⟩
  | 23 => ⟨S4096x5632, .f32⟩
  | 24 => ⟨S4096x2048, .f32⟩
  | 25 => ⟨S4096x1536, .f32⟩
  | 26 => ⟨S4096x2048, .f32⟩
  | 27 => ⟨S4096x512, .f32⟩
  | 28 => ⟨S4096x512, .f32⟩
  | 29 => ⟨S4096x512, .f32⟩
  | 30 => ⟨S4096x512, .f32⟩
  | 31 => ⟨S_, .f32⟩
  | 32 => ⟨S2x512, .f32⟩
  | 33 => ⟨S4098x512, .f32⟩
  | 34 => ⟨S1x512, .f32⟩
  | 35 => ⟨S512, .f32⟩
  | 36 => ⟨S4096x512, .f32⟩
  | 37 => ⟨S1x512, .f32⟩
  | 38 => ⟨S4096x512, .f32⟩
  | 39 => ⟨S4096x512, .f32⟩
  | 40 => ⟨S_, .f32⟩
  | 41 => ⟨S4096x512, .f32⟩
  | 42 => ⟨S4096x512, .f32⟩
  | 43 => ⟨S1x512, .f32⟩
  | 44 => ⟨S512, .f32⟩
  | 45 => ⟨S4096x512, .f32⟩
  | 46 => ⟨S1x512, .f32⟩
  | 47 => ⟨S4096x512, .f32⟩
  | 48 => ⟨S4096x512, .f32⟩
  | 49 => ⟨S4096x512, .f32⟩
  | 50 => ⟨S1x512, .f32⟩
  | 51 => ⟨S512, .f32⟩
  | 52 => ⟨S4096x512, .f32⟩
  | 53 => ⟨S1x512, .f32⟩
  | 54 => ⟨S4096x512, .f32⟩
  | 55 => ⟨S4096x512, .f32⟩
  | 56 => ⟨S4096x512, .f32⟩
  | 57 => ⟨S4096x512, .f32⟩
  | 58 => ⟨S4096x512, .f32⟩
  | 59 => ⟨S4096x512, .f32⟩
  | 60 => ⟨S4096x512, .f32⟩
  | 61 => ⟨S4096x512, .f32⟩
  | 62 => ⟨S1024x4096, .f32⟩
  | 63 => ⟨S1024x4096, .bf16⟩
  | 64 => ⟨S4096x1536, .bf16⟩
  | 65 => ⟨S4096x2048, .bf16⟩
  | 66 => ⟨S4096x512, .bf16⟩
  | 67 => ⟨S512x4096, .f32⟩
  | 68 => ⟨S512x4096, .bf16⟩
  | 69 => ⟨S4096x512, .bf16⟩
  | 70 => ⟨S_, .f32⟩
  | 71 => ⟨S512, .f32⟩
  | 72 => ⟨S_, .f32⟩
  | 73 => ⟨S512, .f32⟩
  | 74 => ⟨S512, .f32⟩
  | 75 => ⟨S1x512, .f32⟩
  | 76 => ⟨S2x512, .f32⟩
  | 77 => ⟨S2x512, .f32⟩
  | 78 => ⟨S2x512, .f32⟩
  | 79 => ⟨S_, .f32⟩
  | 80 => ⟨S512, .f32⟩
  | 81 => ⟨S1x512, .f32⟩
  | 82 => ⟨S2x512, .f32⟩
  | 83 => ⟨S2x512, .f32⟩
  | 84 => ⟨S1x512, .f32⟩
  | 85 => ⟨S512, .f32⟩
  | 86 => ⟨S_, .f32⟩
  | 87 => ⟨S512, .f32⟩
  | 88 => ⟨S512, .f32⟩
  | 89 => ⟨S4096x512, .f32⟩
  | 90 => ⟨S4096x512, .f32⟩
  | 91 => ⟨S_, .f32⟩
  | 92 => ⟨S4096x512, .f32⟩
  | 93 => ⟨S4096x512, .f32⟩
  | 94 => ⟨S_, .f32⟩
  | 95 => ⟨S4096x512, .f32⟩
  | 96 => ⟨S4096x512, .f32⟩
  | 97 => ⟨S1x512, .f32⟩
  | 98 => ⟨S4096x512, .f32⟩
  | 99 => ⟨S4096x512, .f32⟩
  | 100 => ⟨S1x512, .f32⟩
  | 101 => ⟨S4096x512, .f32⟩
  | 102 => ⟨S4096x512, .f32⟩
  | 103 => ⟨S4096x512, .f32⟩
  | 104 => ⟨S4096, .i32⟩
  | 105 => ⟨S1x4096, .i32⟩
  | 106 => ⟨S4096x1, .i32⟩
  | 107 => ⟨S4096x4096, .i32⟩
  | 108 => ⟨S4096x4096, .i32⟩
  | 109 => ⟨S4096x4096, .i1⟩
  | 110 => ⟨S4096x4096, .f32⟩
  | 111 => ⟨S1x4096, .i32⟩
  | 112 => ⟨S128, .i32⟩
  | 113 => ⟨S128x1, .i32⟩
  | 114 => ⟨S_, .i32⟩
  | 115 => ⟨S128x1, .i32⟩
  | 116 => ⟨S128x1, .i32⟩
  | 117 => ⟨S128x4096, .i32⟩
  | 118 => ⟨S128x4096, .i32⟩
  | 119 => ⟨S128x4096, .i1⟩
  | 120 => ⟨S128x4096, .f32⟩
  | 121 => ⟨S_, .f32⟩
  | 122 => ⟨S4096x512, .f32⟩
  | 123 => ⟨S4096x512, .f32⟩
  | 124 => ⟨S4096x512, .f32⟩
  | 125 => ⟨S4096x512, .f32⟩
  | 126 => ⟨S4096x512, .f32⟩
  | 127 => ⟨S4096x512, .f32⟩
  | _ => ⟨S4096x1024, .f32⟩

abbrev hbmTy0_1 (i : Nat) : BufTy := match i % 128 with
  | 0 => ⟨S128x512, .f32⟩
  | 1 => ⟨S128x512, .f32⟩
  | 2 => ⟨S4096x128, .f32⟩
  | 3 => ⟨S4096x128x1, .f32⟩
  | 4 => ⟨S4096x128, .f32⟩
  | 5 => ⟨S4096x1x128, .f32⟩
  | 6 => ⟨S4096x128x128, .f32⟩
  | 7 => ⟨S4096x128x128, .f32⟩
  | 8 => ⟨S4096x128x128, .f32⟩
  | 9 => ⟨S4096x16384, .f32⟩
  | 10 => ⟨S128x16384, .f32⟩
  | 11 => ⟨S128x128x128, .f32⟩
  | 12 => ⟨S128x128, .f32⟩
  | 13 => ⟨S128x1x128, .f32⟩
  | 14 => ⟨S128x128x128, .f32⟩
  | 15 => ⟨S128x128x128, .f32⟩
  | 16 => ⟨S4096x128, .f32⟩
  | 17 => ⟨S4096x128x1, .f32⟩
  | 18 => ⟨S4096x128, .f32⟩
  | 19 => ⟨S4096x1x128, .f32⟩
  | 20 => ⟨S4096x128x128, .f32⟩
  | 21 => ⟨S4096x128x128, .f32⟩
  | 22 => ⟨S4096x128x128, .f32⟩
  | 23 => ⟨S4096x16384, .f32⟩
  | 24 => ⟨S128x16384, .f32⟩
  | 25 => ⟨S128x128x128, .f32⟩
  | 26 => ⟨S128x128, .f32⟩
  | 27 => ⟨S128x1x128, .f32⟩
  | 28 => ⟨S128x128x128, .f32⟩
  | 29 => ⟨S128x128x128, .f32⟩
  | 30 => ⟨S4096x128, .f32⟩
  | 31 => ⟨S4096x128x1, .f32⟩
  | 32 => ⟨S4096x128, .f32⟩
  | 33 => ⟨S4096x1x128, .f32⟩
  | 34 => ⟨S4096x128x128, .f32⟩
  | 35 => ⟨S4096x128x128, .f32⟩
  | 36 => ⟨S4096x128x128, .f32⟩
  | 37 => ⟨S4096x16384, .f32⟩
  | 38 => ⟨S128x16384, .f32⟩
  | 39 => ⟨S128x128x128, .f32⟩
  | 40 => ⟨S128x128, .f32⟩
  | 41 => ⟨S128x1x128, .f32⟩
  | 42 => ⟨S128x128x128, .f32⟩
  | 43 => ⟨S128x128x128, .f32⟩
  | 44 => ⟨S4096x128, .f32⟩
  | 45 => ⟨S4096x128x1, .f32⟩
  | 46 => ⟨S4096x128, .f32⟩
  | 47 => ⟨S4096x1x128, .f32⟩
  | 48 => ⟨S4096x128x128, .f32⟩
  | 49 => ⟨S4096x128x128, .f32⟩
  | 50 => ⟨S4096x128x128, .f32⟩
  | 51 => ⟨S4096x16384, .f32⟩
  | 52 => ⟨S128x16384, .f32⟩
  | 53 => ⟨S128x128x128, .f32⟩
  | 54 => ⟨S128x128, .f32⟩
  | 55 => ⟨S128x1x128, .f32⟩
  | 56 => ⟨S128x128x128, .f32⟩
  | 57 => ⟨S128x128x128, .f32⟩
  | 58 => ⟨S1x128x128x128, .f32⟩
  | 59 => ⟨S1x128x128x128, .f32⟩
  | 60 => ⟨S1x128x128x128, .f32⟩
  | 61 => ⟨S1x128x128x128, .f32⟩
  | 62 => ⟨S4x128x128x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_4 : Ref sig .tc := ⟨.hbm, 70, rfl⟩
abbrev main_v59 : Ref sig .tc := ⟨.hbm, 71, rfl⟩
abbrev main_cst_5 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_6 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_7 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_8 : Ref sig .tc := ⟨.hbm, 91, rfl⟩
abbrev main_v76 : Ref sig .tc := ⟨.hbm, 92, rfl⟩
abbrev main_v77 : Ref sig .tc := ⟨.hbm, 93, rfl⟩
abbrev main_cst_9 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_c : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_10 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩

abbrev nD : Nat := 1
abbrev τ : Topo := Topo.v7x

variable {F : FTy → Type} [FloatOps F]
-- ==== Kernel8.lean ====
abbrev S4096x1024 : Shape := ⟨2, ![4096, 1024]⟩
abbrev S4096x2816 : Shape := ⟨2, ![4096, 2816]⟩
abbrev S1024x4096 : Shape := ⟨2, ![1024, 4096]⟩
abbrev S2816x1024 : Shape := ⟨2, ![2816, 1024]⟩
abbrev S4096x256 : Shape := ⟨2, ![4096, 256]⟩
abbrev S256x1024 : Shape := ⟨2, ![256, 1024]⟩
abbrev S1024x256 : Shape := ⟨2, ![1024, 256]⟩

abbrev nBuf : Space → Nat
  | .hbm => 15
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x1024, .f32⟩
  | .hbm, ⟨5, _⟩ => ⟨S1024x4096, .f32⟩
  | .hbm, ⟨6, _⟩ => ⟨S1024x4096, .bf16⟩
  | .hbm, ⟨7, _⟩ => ⟨S4096x2816, .bf16⟩
  | .hbm, ⟨8, _⟩ => ⟨S4096x2816, .bf16⟩
  | .hbm, ⟨9, _⟩ => ⟨S1024x4096, .f32⟩
  | .hbm, ⟨10, _⟩ => ⟨S1024x4096, .bf16⟩
  | .hbm, ⟨11, _⟩ => ⟨S4096x2816, .bf16⟩
  | .hbm, ⟨12, _⟩ => ⟨S2816x1024, .bf16⟩
  | .hbm, ⟨13, _⟩ => ⟨S2816x1024, .bf16⟩
  | .hbm, ⟨14, _⟩ => ⟨S2816x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4096x1024 : Shape := ⟨2, ![4096, 1024]⟩
abbrev S4096x2816 : Shape := ⟨2, ![4096, 2816]⟩
abbrev S2816x4096 : Shape := ⟨2, ![2816, 4096]⟩
abbrev S2816x1024 : Shape := ⟨2, ![2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x1024, .f32⟩
  | .hbm, ⟨5, _⟩ => ⟨S2816x4096, .f32⟩
  | .hbm, ⟨6, _⟩ => ⟨S2816x1024, .f32⟩
  | .hbm, ⟨7, _⟩ => ⟨S2816x1024, .bf16⟩
  | .hbm, ⟨8, _⟩ => ⟨S2816x4096, .f32⟩
  | .hbm, ⟨9, _⟩ => ⟨S2816x1024, .f32⟩
  | .hbm, ⟨10, _⟩ => ⟨S2816x1024, .bf16⟩
  | .hbm, ⟨11, _⟩ => ⟨S2816x4096, .f32⟩
  | .hbm, ⟨12, _⟩ => ⟨S2816x1024, .f32⟩
  | .hbm, ⟨13, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel9.lean ====
abbrev S4096x1024 : Shape := ⟨2, ![4096, 1024]⟩
abbrev S4096x2048 : Shape := ⟨2, ![4096, 2048]⟩
abbrev S4096x1536 : Shape := ⟨2, ![4096, 1536]⟩
abbrev S352x1024 : Shape := ⟨2, ![352, 1024]⟩
abbrev S4x352x1024 : Shape := ⟨3, ![4, 352, 1024]⟩
abbrev S1024x4096 : Shape := ⟨2, ![1024, 4096]⟩
abbrev S5632x1024 : Shape := ⟨2, ![5632, 1024]⟩
abbrev S4096x512 : Shape := ⟨2, ![4096, 512]⟩
abbrev S32x1024 : Shape := ⟨2, ![32, 1024]⟩
abbrev S4x32x1024 : Shape := ⟨3, ![4, 32, 1024]⟩
abbrev S512x1024 : Shape := ⟨2, ![512, 1024]⟩
abbrev S1024x512 : Shape := ⟨2, ![1024, 512]⟩
abbrev S1x32x1024 : Shape := ⟨3, ![1, 32, 1024]⟩

abbrev nBuf : Space → Nat
  | .hbm => 28
  | .vmem => 41
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1536, .f32⟩
  | .hbm, ⟨3, _⟩ => ⟨S4096x2048, .f32⟩
  | .hbm, ⟨4, _⟩ => ⟨S352x1024, .f32⟩
  | .hbm, ⟨5, _⟩ => ⟨S4x352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S4x352x1024, .f32⟩
  | .hbm, ⟨10, _⟩ => ⟨S352x1024, .f32⟩
  | .hbm, ⟨11, _⟩ => ⟨S352x1024, .f32⟩
  | .hbm, ⟨12, _⟩ => ⟨S1024x4096, .f32⟩
  | .hbm, ⟨13, _⟩ => ⟨S1024x4096, .bf16⟩
  | .hbm, ⟨14, _⟩ => ⟨S4096x2048, .bf16⟩
  | .hbm, ⟨15, _⟩ => ⟨S4096x1536, .bf16⟩
  | .hbm, ⟨16, _⟩ => ⟨S4096x2048, .bf16⟩
  | .hbm, ⟨17, _⟩ => ⟨S4x352x1024, .bf16⟩
  | .hbm, ⟨18, _⟩ => ⟨S4x352x1024, .bf16⟩
  | .hbm, ⟨19, _⟩ => ⟨S5632x1024, .bf16⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S352x1024, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S32x1024, .f32⟩
  | .local _ .vmem, ⟨8, _⟩ => ⟨S32x1024, .f32⟩
  | .local _ .vmem, ⟨9, _⟩ => ⟨S4x32x1024, .bf16⟩
  | .local _ .vmem, ⟨10, _⟩ => ⟨S4x32x1024, .bf16⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S4x32x1024, .bf16⟩
  | .local _ .vmem, ⟨18, _⟩ => ⟨S4x32x1024, .bf16⟩
  | .local _ .vmem, ⟨19, _⟩ => ⟨S32x1024, .f32⟩
  | .local _ .vmem, ⟨20, _⟩ => ⟨S32x1024, .f32⟩
  | .local _ .vmem, ⟨21, _⟩ => ⟨S32x1024, .f32⟩
  | .local _ .vmem, ⟨22, _⟩ => ⟨S32x1024, .f32⟩
  | .local _ .vmem, ⟨23, _⟩ => ⟨S512x1024, .bf16⟩
  | .local _ .vmem, ⟨24, _⟩ => ⟨S512x1024, .bf16⟩
  | .local _ .vmem, ⟨25, _⟩ => ⟨S32x1024, .f32⟩
  | .local _ .vmem, ⟨26, _⟩ => ⟨S32x1024, .f32⟩
  | .local _ .vmem, ⟨27, _⟩ => ⟨S32x1024, .f32⟩
  | .local _ .vmem, ⟨28, _⟩ => ⟨S32x1024, .f32⟩
  | .local _ .vmem, ⟨29, _⟩ => ⟨S32x1024, .f32⟩
  | .local _ .vmem, ⟨30, _⟩ => ⟨S32x1024, .f32⟩
  | .local _ .vmem, ⟨31, _⟩ => ⟨S32x1024, .f32⟩
  | .local _ .vmem, ⟨32, _⟩ => ⟨S32x1024, .f32⟩
  | .local _ .vmem, ⟨33, _⟩ => ⟨S32x1024, .f32⟩
  | .local _ .vmem, ⟨34, _⟩ => ⟨S32x1024, .f32⟩
  | .local _ .vmem, ⟨35, _⟩ => ⟨S32x1024, .f32⟩
  | .local _ .vmem, ⟨36, _⟩ => ⟨S32x1024, .f32⟩
  | .local _ .vmem, ⟨37, _⟩ => ⟨S32x1024, .f32⟩
  | .local _ .vmem, ⟨38, _⟩ => ⟨S32x1024, .f32⟩
  | .local _ .vmem, ⟨39, _⟩ => ⟨S32x1024, .f32⟩
  | .local _ .vmem, ⟨40, _⟩ => ⟨S32x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v7_5 : Ref sig .tc := ⟨.hbm, 24, rfl⟩
abbrev main_v7_6 : Ref sig .tc := ⟨.hbm, 25, rfl⟩
abbrev main_v7_7 : Ref sig .tc := ⟨.hbm, 26, rfl⟩
abbrev main_v7_8 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c4_i32_1 : BitVec 32 := 4#32
  let v5 : BitVec 1 := Scalar.cmpi .sge arg0 c4_i32_1
  let c7_i32 : BitVec 32 := 7#32
  let v6 : BitVec 1 := Scalar.cmpi .slt arg0 c7_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c7_i32_3 : BitVec 32 := 7#32
  let v10 : BitVec 1 := Scalar.cmpi .sge arg0 c7_i32_3
  let c11_i32 : BitVec 32 := 11#32
  let v11 : BitVec 1 := Scalar.cmpi .slt arg0 c11_i32
  let v12 : BitVec 1 := Scalar.andi v10 v11
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference9Ideal.lean ====
abbrev S4096x1024 : Shape := ⟨2, ![4096, 1024]⟩
abbrev S4096x2048 : Shape := ⟨2, ![4096, 2048]⟩
abbrev S4096x1536 : Shape := ⟨2, ![4096, 1536]⟩
abbrev S352x1024 : Shape := ⟨2, ![352, 1024]⟩
abbrev S4x352x1024 : Shape := ⟨3, ![4, 352, 1024]⟩
abbrev S2048x4096 : Shape := ⟨2, ![2048, 4096]⟩
abbrev S2048x1024 : Shape := ⟨2, ![2048, 1024]⟩
abbrev S1536x4096 : Shape := ⟨2, ![1536, 4096]⟩
abbrev S1536x1024 : Shape := ⟨2, ![1536, 1024]⟩
abbrev S5632x1024 : Shape := ⟨2, ![5632, 1024]⟩
abbrev S_ : Shape := ⟨0, ![]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1536, .f32⟩
  | .hbm, ⟨3, _⟩ => ⟨S4096x2048, .f32⟩
  | .hbm, ⟨4, _⟩ => ⟨S352x1024, .f32⟩
  | .hbm, ⟨5, _⟩ => ⟨S4x352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S4x352x1024, .f32⟩
  | .hbm, ⟨10, _⟩ => ⟨S352x1024, .f32⟩
  | .hbm, ⟨11, _⟩ => ⟨S352x1024, .f32⟩
  | .hbm, ⟨12, _⟩ => ⟨S2048x4096, .f32⟩
  | .hbm, ⟨13, _⟩ => ⟨S2048x1024, .f32⟩
  | .hbm, ⟨14, _⟩ => ⟨S1536x4096, .f32⟩
  | .hbm, ⟨15, _⟩ => ⟨S1536x1024, .f32⟩
  | .hbm, ⟨16, _⟩ => ⟨S2048x4096, .f32⟩
  | .hbm, ⟨17, _⟩ => ⟨S2048x1024, .f32⟩
  | .hbm, ⟨18, _⟩ => ⟨S5632x1024, .f32⟩
  | .hbm, ⟨19, _⟩ => ⟨S5632x1024, .bf16⟩
  | .hbm, ⟨20, _⟩ => ⟨S_, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | .hbm, ⟨40, _⟩ => ⟨S_, .f32⟩
  | .hbm, ⟨41, _⟩ => ⟨S352x1024, .f32⟩
  | .hbm, ⟨42, _⟩ => ⟨S352x1024, .f32⟩
  | .hbm, ⟨43, _⟩ => ⟨S352x1024, .f32⟩
  | .hbm, ⟨44, _⟩ => ⟨S_, .f32⟩
  | .hbm, ⟨45, _⟩ => ⟨S352x1024, .f32⟩
  | .hbm, ⟨46, _⟩ => ⟨S352x1024, .f32⟩
  | .hbm, ⟨47, _⟩ => ⟨S352x1024, .f32⟩
  | .hbm, ⟨48, _⟩ => ⟨S_, .f32⟩
  | .hbm, ⟨49, _⟩ => ⟨S352x1024, .f32⟩
  | .hbm, ⟨50, _⟩ => ⟨S352x1024, .f32⟩
  | .hbm, ⟨51, _⟩ => ⟨S352x1024, .f32⟩
  | .hbm, ⟨52, _⟩ => ⟨S_, .f32⟩
  | .hbm, ⟨53, _⟩ => ⟨S352x1024, .f32⟩
  | .hbm, ⟨54, _⟩ => ⟨S352x1024, .f32⟩
  | .hbm, ⟨55, _⟩ => ⟨S_, .f32⟩
  | .hbm, ⟨56, _⟩ => ⟨S352x1024, .f32⟩
  | .hbm, ⟨57, _⟩ => ⟨S_, .f32⟩
  | .hbm, ⟨58, _⟩ => ⟨S352x1024, .f32⟩
  | .hbm, ⟨59, _⟩ => ⟨S352x1024, .f32⟩
  | .hbm, ⟨60, _⟩ => ⟨S_, .f32⟩
  | .hbm, ⟨61, _⟩ => ⟨S352x1024, .f32⟩
  | .hbm, ⟨62, _⟩ => ⟨S352x1024, .f32⟩
  | .hbm, ⟨63, _⟩ => ⟨S352x1024, .f32⟩
  | .hbm, ⟨64, _⟩ => ⟨S_, .f32⟩
  | .hbm, ⟨65, _⟩ => ⟨S352x1024, .f32⟩
  | .hbm, ⟨66, _⟩ => ⟨S352x1024, .f32⟩
  | .hbm, ⟨67, _⟩ => ⟨S352x1024, .f32⟩
  | .hbm, ⟨68, _⟩ => ⟨S_, .f32⟩
  | .hbm, ⟨69, _⟩ => ⟨S352x1024, .f32⟩
  | .hbm, ⟨70, _⟩ => ⟨S352x1024, .f32⟩
  | .hbm, ⟨71, _⟩ => ⟨S352x1024, .f32⟩
  | .hbm, ⟨72, _⟩ => ⟨S_, .f32⟩
  | .hbm, ⟨73, _⟩ => ⟨S352x1024, .f32⟩
  | .hbm, ⟨74, _⟩ => ⟨S352x1024, .f32⟩
  | .hbm, ⟨75, _⟩ => ⟨S_, .f32⟩
  | .hbm, ⟨76, _⟩ => ⟨S352x1024, .f32⟩
  | .hbm, ⟨77, _⟩ => ⟨S352x1024, .f32⟩
  | .hbm, ⟨78, _⟩ => ⟨S352x1024, .f32⟩
  | .hbm, ⟨79, _⟩ => ⟨S_, .f32⟩
  | .hbm, ⟨80, _⟩ => ⟨S352x1024, .f32⟩
  | .hbm, ⟨81, _⟩ => ⟨S352x1024, .f32⟩
  | .hbm, ⟨82, _⟩ => ⟨S352x1024, .f32⟩
  | .hbm, ⟨83, _⟩ => ⟨S_, .f32⟩
  | .hbm, ⟨84, _⟩ => ⟨S352x1024, .f32⟩
  | .hbm, ⟨85, _⟩ => ⟨S352x1024, .f32⟩
  | .hbm, ⟨86, _⟩ => ⟨S352x1024, .f32⟩
  | .hbm, ⟨87, _⟩ => ⟨S_, .f32⟩
  | .hbm, ⟨88, _⟩ => ⟨S352x1024, .f32⟩
  | .hbm, ⟨89, _⟩ => ⟨S352x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_cst_10 : Ref sig .tc := ⟨.hbm, 57, rfl⟩
abbrev main_v34 : Ref sig .tc := ⟨.hbm, 58, rfl⟩
abbrev main_v35 : Ref sig .tc := ⟨.hbm, 59, rfl⟩
abbrev main_cst_11 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_12 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_13 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_14 : Ref sig .tc := ⟨.hbm, 72, rfl⟩
abbrev main_v45 : Ref sig .tc := ⟨.hbm, 73, rfl⟩
abbrev main_v46 : Ref sig .tc := ⟨.hbm, 74, rfl⟩
abbrev main_cst_15 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_16 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_17 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_18 : Ref sig .tc := ⟨.hbm, 87, rfl⟩
abbrev main_v56 : Ref sig .tc := ⟨.hbm, 88, rfl⟩
abbrev main_v57 : Ref sig .tc := ⟨.hbm, 89, rfl⟩

abbrev nD : Nat := 1
abbrev τ : Topo := Topo.v7x

variable {F : FTy → Type} [FloatOps F]
-- ==== Proof.InForms.lean ====
/- The closed forms of the input projection's backward kernel's two results, and the blocks its windows stage. -/
module

public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelIdeal.InValue

open Cert.KernelIdeal Cert.KernelIdeal.Gen

variable (m : (ℓ : Loc nD τ sig) → Buf (Elt Ideal) ℓ)

/-- The gradient reaching the norm's output: the three parts of the projection's gradient times the weight. -/
def DH (a2 : FVec Ideal S1024x5632 .f32) (a4 : FVec Ideal S4096x2048 .f32) (a5 : FVec Ideal S4096x1536 .f32) (a6 : FVec Ideal S4096x2048 .f32) :
    FVec Ideal S4096x1024 .f32 := fun i =>
  ∑ k : Fin 2048, a4 (ix2 (i 0) k) * a2 (ix2 (i 1) ⟨k, by omega⟩) + ∑ k : Fin 1536, a5 (ix2 (i 0) k) * a2 (ix2 (i 1) ⟨2048 + k, by omega⟩)
    + ∑ k : Fin 2048, a6 (ix2 (i 0) k) * a2 (ix2 (i 1) ⟨3584 + k, by omega⟩)

/-- A row's reciprocal root mean square. -/
def RS (a0 : FVec Ideal S4096x1024 .f32) (r : Fin 4096) : EReal :=
  Ideal.rsqrt (Ideal.div (∑ k : Fin 1024, a0 (ix2 r k) * a0 (ix2 r k)) (Ideal.ofBits .f32 0x44800000#32) + Ideal.ofBits .f32 0x358637BD#32)

/-- The input's gradient, as the kernel computes it. -/
def DX (a0 : FVec Ideal S4096x1024 .f32) (a1 : FVec Ideal S1x1024 .f32) (a3 : FVec Ideal S4096x1024 .f32) (dh : FVec Ideal S4096x1024 .f32) :
    FVec Ideal S4096x1024 .f32 := fun i =>
  a3 i + RS a0 (i 0) * (dh i * a1 (ix2 0 (i 1)) - a0 i * RS a0 (i 0)
    * Ideal.div (∑ k : Fin 1024, dh (ix2 (i 0) k) * a1 (ix2 0 k) * (a0 (ix2 (i 0) k) * RS a0 (i 0))) (Ideal.ofBits .f32 0x44800000#32))

/-- What row `r` adds to the scale's gradient. -/
def GT (a0 : FVec Ideal S4096x1024 .f32) (dh : FVec Ideal S4096x1024 .f32) (r : Fin 4096) (j : Fin 1024) : EReal :=
  dh (ix2 r j) * (a0 (ix2 r j) * RS a0 r)

/-- The scale's gradient. -/
def DGN (a0 : FVec Ideal S4096x1024 .f32) (dh : FVec Ideal S4096x1024 .f32) : FVec Ideal S1x1024 .f32 := fun i =>
  ∑ r : Fin 4096, GT a0 dh r (i 1)

/-- Every window's block index, at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] ∧ win0_8.index t = ![0, 0] :=
  (by decide +kernel : ∀ t : Fin grid0.N, _)

end Cert.KernelIdeal.InValue

end
-- ==== Proof.InValue.lean ====
/- The values of the input projection's backward kernel: after the run its first result array is the closed form
   `DX` of the arguments. -/
module

public import proofs.«01_k».proof.Proof.InForms

@[expose] public section

set_option maxRecDepth 16384

noncomputable section

open Idealize.ShloMosaic Idealize.ShloMosaic.TcCoe Idealize.SL.Sem
open Idealize.ShloMosaic.Pipeline (Dat)
open scoped BigOperators

namespace Cert.KernelIdeal.InValue

open Cert.KernelIdeal Cert.KernelIdeal.Gen

variable (m : (ℓ : Loc nD τ sig) → Buf (Elt Ideal) ℓ)

variable (c : Dev nD)

/-- What a grid point leaves in the input gradient's block. -/
theorem point7 (t : Fin cfg0.N) (y : S512x1024.Idx) :
    (outsAt0 m c t.val t.isLt).1 y = DX (m ((c : Thread nD τ).loc main_arg0)) (m ((c : Thread nD τ).loc main_arg1)) (m ((c : Thread nD τ).loc main_arg3))
      (DH (m ((c : Thread nD τ).loc main_arg2)) (m ((c : Thread nD τ).loc main_arg4)) (m ((c : Thread nD τ).loc main_arg5)) (m ((c : Thread nD τ).loc main_arg6))) (((cfg0.win 7).blk t).view.emb y) := by
  by_cases h : t.val % 8 = 0
  · rw [outsAt0_A m c t h]; frame_out
    pointwise [k0_pay2, k0_pay4, k0_pay5, k0_pay6, DX, DH, RS]
    blk_point [iblk, V, idx t]
  · rw [outsAt0_B m c t h]; frame_out
    pointwise [k0_pay2, k0_pay4, k0_pay5, k0_pay6, DX, DH, RS]
    blk_point [iblk, V, idx t]

/-- The input gradient's array after the run. -/
theorem final7 : (dats m 0 c).arrAt 7 (cfgs 0).N = DX (m ((c : Thread nD τ).loc main_arg0)) (m ((c : Thread nD τ).loc main_arg1)) (m ((c : Thread nD τ).loc main_arg3))
      (DH (m ((c : Thread nD τ).loc main_arg2)) (m ((c : Thread nD τ).loc main_arg4)) (m ((c : Thread nD τ).loc main_arg5)) (m ((c : Thread nD τ).loc main_arg6))) := by
  refine (dats m 0 c).arrAt_eq_of_covers 7 _ (by decide +kernel) fun t _ y => ?_
  blk_simp
  rw [after0_7]
  exact point7 m c t y

end Cert.KernelIdeal.InValue

end
-- ==== Proof.InScale.lean ====
/- The values of the input projection's backward kernel: after the run its second result array is the closed form
   `DGN` of the arguments. -/
module

public import proofs.«01_k».proof.Proof.InForms

@[expose] public section

set_option maxRecDepth 16384

noncomputable section

open Idealize.ShloMosaic Idealize.ShloMosaic.TcCoe Idealize.SL.Sem
open Idealize.ShloMosaic.Pipeline (Dat)
open scoped BigOperators

namespace Cert.KernelIdeal.InValue

open Cert.KernelIdeal Cert.KernelIdeal.Gen

variable (m : (ℓ : Loc nD τ sig) → Buf (Elt Ideal) ℓ)

variable (c : Dev nD)

/-- The rows of point `t`'s block. -/
theorem row_lt (t : Fin cfg0.N) (x : Fin 512) : t.val * 512 + x.val < 4096 := by
  have := lt_of_lt_of_eq t.isLt N_0
  omega

/-- What point `t` adds to the scale's gradient. -/
theorem part_A (t : Fin cfg0.N) (h : t.val % 8 = 0) (j : S1x1024.Idx) :
    (outsAt0 m c t.val t.isLt).2 j = 0 + ∑ x : Fin 512, GT (m ((c : Thread nD τ).loc main_arg0))
      (DH (m ((c : Thread nD τ).loc main_arg2)) (m ((c : Thread nD τ).loc main_arg4)) (m ((c : Thread nD τ).loc main_arg5)) (m ((c : Thread nD τ).loc main_arg6)))
      ⟨t.val * 512 + x.val, row_lt t x⟩ (j 1) := by
  rw [outsAt0_A m c t h]; frame_out
  pointwise [k0_pay1, k0_pay3, k0_pay7, k0_pay8, k0_pay4, k0_pay5, k0_pay6, GT, DH, RS]
  blk_point [iblk, V, idx t]

theorem part_B (t : Fin cfg0.N) (h : ¬t.val % 8 = 0) (j : S1x1024.Idx) :
    (outsAt0 m c t.val t.isLt).2 j = (outsAt0 m c (t.val - 1) (Nat.lt_of_le_of_lt (Nat.sub_le _ _) t.isLt)).2 j
      + ∑ x : Fin 512, GT (m ((c : Thread nD τ).loc main_arg0))
      (DH (m ((c : Thread nD τ).loc main_arg2)) (m ((c : Thread nD τ).loc main_arg4)) (m ((c : Thread nD τ).loc main_arg5)) (m ((c : Thread nD τ).loc main_arg6)))
      ⟨t.val * 512 + x.val, row_lt t x⟩ (j 1) := by
  rw [outsAt0_B m c t h]; frame_out
  pointwise [k0_pay1, k0_pay7, k0_pay8, k0_pay4, k0_pay5, k0_pay6, GT, DH, RS]
  blk_point [iblk, V, idx t]

/-- The scale gradient's array after the run. -/
theorem final8 : (dats m 0 c).arrAt 8 (cfgs 0).N = DGN (m ((c : Thread nD τ).loc main_arg0))
      (DH (m ((c : Thread nD τ).loc main_arg2)) (m ((c : Thread nD τ).loc main_arg4)) (m ((c : Thread nD τ).loc main_arg5)) (m ((c : Thread nD τ).loc main_arg6))) := by
  refine (dats m 0 c).arrAt_eq_of_after_last 8 t0_7 (by decide +kernel) _ fun j => ?_
  blk_simp
  rw [after0_8, Pipeline.eq_sum_fin_of_reset_step_apply_last (fun n h => (outsAt0 m c n h).2) 8 (fun _ => 0) _
    (fun t h j => part_A m c t h j) (fun t h j => part_B m c t h j)
    (le_of_eq N_0) t0_7 rfl j, zero_add]
  exact Fin.sum_mul_add_congr fun s k hl => rfl

end Cert.KernelIdeal.InValue

end
-- ==== Proof.Finite.lean ====
/- Arithmetic on finite extended reals, shared by the value proofs: a precondition "every entry has a finite
   absolute value" read as "the array is an array of reals", the literals both programs use, and the gradient of a
   root-mean-square norm in its two forms. -/
module

public import Idealize.ShloMosaic.Lib.Pointwise
public import Idealize.ShloMosaic.Lib.ReduceAll
public import Idealize.ShloMosaic.Lib.IdealHost
public import Mathlib.Tactic.FieldSimp

@[expose] public section

set_option maxRecDepth 16384

noncomputable section

namespace Cert.Finite

open Idealize.ShloMosaic
open scoped BigOperators

/-- An extended real whose absolute value is below infinity is a real. -/
theorem real_of_abs_lt_top (x : EReal) (h : max x (-x) < ⊤) : ∃ r : ℝ, x = (r : EReal) := by
  induction x using EReal.rec with
  | bot => simp at h
  | top => simp at h
  | coe r => exact ⟨r, rfl⟩

/-- The pattern of positive infinity. -/
theorem ofBits_inf : Ideal.ofBits .f32 0x7F800000#32 = ⊤ := by simp [Ideal.ofBits, Ideal.ieee]
/-- The width of the model. -/
theorem ofBits_1024 : Ideal.ofBits .f32 0x44800000#32 = ((1024 : ℝ) : EReal) := by
  simp [Ideal.ofBits, Ideal.ieee, -EReal.coe_mul]; norm_num
/-- Minus one half. -/
theorem ofBits_neg_half : Ideal.ofBits .f32 0xBF000000#32 = ((-(1 / 2) : ℝ) : EReal) := by
  simp [Ideal.ofBits, Ideal.ieee, -EReal.coe_mul, -EReal.coe_neg]; norm_num
/-- The norms' epsilon is a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  positivity

/-- Two bits are both set exactly when their conjunction is. -/
theorem and_eq_one (a b : BitVec 1) : IntOp.andi a b = 1#1 ↔ a = 1#1 ∧ b = 1#1 := by revert a b; decide

/-- The conjunct of a finiteness precondition that speaks of one array, decoded. -/
theorem reals_of_reduce {s t u : Shape} [Subsingleton t.Idx] {axes : List (Fin s.rank)} (x : FVec Ideal s .f32)
    (init : u.Idx → BitVec 1) (b : FVec Ideal s .f32) (hb : ∀ i, b i = ⊤)
    (h : s.ReducesTo axes t) (hu : 0 < u.numel) (j : t.Idx)
    (e : Host.reduce IntOp.andi (cmpf .olt (Host.absf x) b) init h hu j = 1#1) :
    ∃ A : s.Idx → ℝ, x = fun i => (A i : EReal) := by
  have key : ∀ i, ∃ r : ℝ, x i = (r : EReal) := fun i => by
    have hi := Host.reduce_andi_all _ init h hu j e i
    have hi' : BitVec.ofBool (decide (max (x i) (-(x i)) < b i)) = 1#1 := hi
    rw [hb i] at hi'
    refine real_of_abs_lt_top _ ?_
    by_contra hc
    rw [decide_eq_false hc] at hi'
    exact absurd hi' (by decide)
  choose A hA using key
  exact ⟨A, funext hA⟩

/-- The extended real is a real. -/
def IsReal (a : EReal) : Prop := ∃ r : ℝ, a = (r : EReal)

/-- The same, entry by entry. -/
theorem isReal_of_reduce {s t u : Shape} [Subsingleton t.Idx] {axes : List (Fin s.rank)} (x : FVec Ideal s .f32)
    (init : u.Idx → BitVec 1) (b : FVec Ideal s .f32) (hb : ∀ i, b i = ⊤)
    (h : s.ReducesTo axes t) (hu : 0 < u.numel) (j : t.Idx)
    (e : Host.reduce IntOp.andi (cmpf .olt (Host.absf x) b) init h hu j = 1#1) (i : s.Idx) : IsReal (x i) := by
  obtain ⟨A, hA⟩ := reals_of_reduce x init b hb h hu j e
  exact ⟨A i, congrFun hA i⟩

/-- A finite sum of reals, cast. -/
theorem coe_sum {n : ℕ} (f : Fin n → ℝ) : ((∑ k, f k : ℝ) : EReal) = ∑ k, (f k : EReal) := by
  induction (Finset.univ : Finset (Fin n)) using Finset.cons_induction with
  | empty => simp
  | cons a s ha ih => rw [Finset.sum_cons, Finset.sum_cons, EReal.coe_add, ih]

/-- A quotient of reals by a nonzero one, cast. -/
theorem div_coe (a b : ℝ) (hb : b ≠ 0) : Ideal.div (a : EReal) (b : EReal) = ((a / b : ℝ) : EReal) := by
  rw [Ideal.div_coe hb, ← EReal.coe_mul, mul_one_div]

/-- The reciprocal root of a positive real. -/
theorem rsqrt_coe (a : ℝ) (ha : 0 < a) : Ideal.rsqrt (a : EReal) = (((Real.sqrt a)⁻¹ : ℝ) : EReal) := by
  rw [Ideal.rsqrt_coe, if_neg (not_lt.2 ha.le), if_neg ha.ne']

theorem IsReal.coe (r : ℝ) : IsReal (r : EReal) := ⟨r, rfl⟩
theorem IsReal.add {a b : EReal} : IsReal a → IsReal b → IsReal (a + b) := by
  rintro ⟨x, rfl⟩ ⟨y, rfl⟩; exact ⟨x + y, (EReal.coe_add x y).symm⟩
theorem IsReal.sub {a b : EReal} : IsReal a → IsReal b → IsReal (a - b) := by
  rintro ⟨x, rfl⟩ ⟨y, rfl⟩; exact ⟨x - y, (EReal.coe_sub x y).symm⟩
theorem IsReal.mul {a b : EReal} : IsReal a → IsReal b → IsReal (a * b) := by
  rintro ⟨x, rfl⟩ ⟨y, rfl⟩; exact ⟨x * y, (EReal.coe_mul x y).symm⟩
theorem IsReal.sum {n : ℕ} {f : Fin n → EReal} (h : ∀ k, IsReal (f k)) : IsReal (∑ k, f k) := by
  choose g hg using h
  exact ⟨∑ k, g k, by rw [coe_sum]; exact Finset.sum_congr rfl fun k _ => hg k⟩
theorem IsReal.of_eq {s : Shape} {φ : FTy} {a : FVec Ideal s φ} {A : s.Idx → ℝ} (h : a = fun i => (A i : EReal)) (i : s.Idx) : IsReal (a i) :=
  ⟨A i, congrFun h i⟩

/-- The gradient of a root-mean-square norm at one entry: the derivative taken through the reciprocal root on the
    right, the closed form on the left. -/
theorem norm_grad (x w : Fin 1024 → ℝ) (d : EReal) (j : Fin 1024) (R T : EReal)
    (hR : R = Ideal.rsqrt (Ideal.div (∑ k, (x k : EReal) * (x k : EReal)) (Ideal.ofBits .f32 0x44800000#32) + Ideal.ofBits .f32 0x358637BD#32))
    (hT : T = Ideal.div ((∑ k, (x k : EReal) * (w k : EReal)) * (Ideal.ofBits .f32 0xBF000000#32 * Ideal.div R
        (Ideal.div (∑ k, (x k : EReal) * (x k : EReal)) (Ideal.ofBits .f32 0x44800000#32) + Ideal.ofBits .f32 0x358637BD#32)))
        (Ideal.ofBits .f32 0x44800000#32)) :
    d + R * ((w j : EReal) - (x j : EReal) * R * Ideal.div (∑ k, (w k : EReal) * ((x k : EReal) * R)) (Ideal.ofBits .f32 0x44800000#32))
      = d + (w j : EReal) * R + (x j : EReal) * T + T * (x j : EReal) := by
  obtain ⟨e, he, hE⟩ := ofBits_eps
  have hN : (1024 : ℝ) ≠ 0 := by norm_num
  have hms : 0 < (∑ k, x k * x k) / 1024 + e := by
    have : 0 ≤ ∑ k, x k * x k := Finset.sum_nonneg fun k _ => mul_self_nonneg _
    positivity
  set s : ℝ := (∑ k, x k * x k) / 1024 + e with hs
  have hsE : Ideal.div (∑ k, (x k : EReal) * (x k : EReal)) (Ideal.ofBits .f32 0x44800000#32) + Ideal.ofBits .f32 0x358637BD#32 = (s : EReal) := by
    simp only [hE, ofBits_1024, ← EReal.coe_mul, ← coe_sum, div_coe _ _ hN, ← EReal.coe_add, hs]
  rw [hsE] at hR hT
  rw [rsqrt_coe _ hms] at hR
  set r : ℝ := (Real.sqrt s)⁻¹ with hr
  have hrr : r * r = 1 / s := by rw [hr, ← mul_inv, Real.mul_self_sqrt hms.le, one_div]
  rw [hR] at hT ⊢
  simp only [ofBits_1024, ofBits_neg_half, ← EReal.coe_mul, ← coe_sum, div_coe _ _ hN, div_coe _ _ hms.ne'] at hT ⊢
  rw [hT, add_assoc d, add_assoc d, add_assoc]
  simp only [← EReal.coe_mul, ← EReal.coe_add, ← EReal.coe_sub]
  refine congrArg (fun z : ℝ => d + (z : EReal)) ?_
  have h1 : ∑ k, w k * (x k * r) = r * ∑ k, x k * w k := by
    rw [Finset.mul_sum]; exact Finset.sum_congr rfl fun k _ => by ring
  rw [h1]
  set S : ℝ := ∑ k, x k * w k
  have h2 : r / s = r * (r * r) := by rw [hrr]; ring
  rw [h2]
  ring

end Cert.Finite

end
-- ==== Proof.InReference.lean ====
/- The input projection's gradient as the reference computes it, by the derivative of the forward lines: its two
   results are the closed forms the kernel's results have. -/
module

public import proofs.«01_k».proof.Proof.Gen.ReferenceIdeal.Read
public import proofs.«01_k».proof.Proof.InForms
public import proofs.«01_k».proof.Proof.Finite

@[expose] public section

set_option maxRecDepth 16384

noncomputable section

open Idealize.ShloMosaic Idealize.ShloMosaic.TcCoe Idealize.SL.Sem
open scoped BigOperators

namespace Cert.ReferenceIdeal.InReference

open Cert.ReferenceIdeal Cert.ReferenceIdeal.Read
open Cert.KernelIdeal.InValue (DX DH DGN GT RS)

variable (a0 : FVec Ideal S4096x1024 .f32) (a1 : FVec Ideal S1x1024 .f32) (a2 : FVec Ideal S1024x5632 .f32) (a3 : FVec Ideal S4096x1024 .f32)
  (a4 : FVec Ideal S4096x2048 .f32) (a5 : FVec Ideal S4096x1536 .f32) (a6 : FVec Ideal S4096x2048 .f32)

/-- A sum over the concatenated columns is the sum of the three parts' sums. -/
theorem sum_parts (f : Fin 5632 → EReal) : ∑ k, f k
    = ∑ k : Fin 2048, f ⟨k, by omega⟩ + ∑ k : Fin 1536, f ⟨2048 + k, by omega⟩ + ∑ k : Fin 2048, f ⟨3584 + k, by omega⟩ := by
  rw [show (∑ k, f k) = ∑ k : Fin ((2048 + 1536) + 2048), f k from rfl, Fin.sum_univ_add, Fin.sum_univ_add]
  rfl

/-- The contraction with the weight, over the concatenated columns. -/
theorem dh_at (i : Fin 4096) (j : Fin 1024) : val_main_v19 (F := Ideal) a2 a4 a5 a6 (ix2 i j) = DH a2 a4 a5 a6 (ix2 i j) := by
  pointwise [val_main_v19, val_main_v18, DH]
  rw [sum_parts]
  refine congrArg₂ (· + ·) (congrArg₂ (· + ·) ?_ ?_) ?_
  · refine Finset.sum_congr rfl fun k _ => ?_
    rw [dif_pos k.isLt]
  · refine Finset.sum_congr rfl fun k _ => ?_
    have h1 : ¬ 2048 + k.val < 2048 := by omega
    have h2 : 2048 + k.val - 2048 < 1536 := by omega
    rw [dif_neg h1, dif_pos h2]
    refine congrArg₂ (· * ·) (congrArg a5 ?_) rfl
    idx_ext <;> omega
  · refine Finset.sum_congr rfl fun k _ => ?_
    have h1 : ¬ 3584 + k.val < 2048 := by omega
    have h2 : ¬ 3584 + k.val - 2048 < 1536 := by omega
    rw [dif_neg h1, dif_neg h2]
    refine congrArg₂ (· * ·) (congrArg a6 ?_) rfl
    idx_ext <;> omega

/-- The reciprocal root mean square. -/
theorem rs_at (i : Fin 4096) (k : Fin 1) : val_main_v8 (F := Ideal) a0 (ix2 i k) = RS a0 i := by
  pointwise [val_main_v8, val_main_v7, val_main_v6, val_main_v5, val_main_v4, val_main_v3, val_main_v2, val_main_v1, val_main_cst, val_main_cst_0,
    val_main_cst_1, RS]

/-- The scale's gradient. -/
theorem dgn : val_main_v41 (F := Ideal) a0 a2 a4 a5 a6 = DGN a0 (DH a2 a4 a5 a6) := by
  funext i
  idx_vars i
  pointwise [val_main_v41, val_main_v25, val_main_v24, val_main_v22, val_main_v21, val_main_v20, val_main_v13, val_main_v12,
    val_main_cst_3, val_main_cst_4, dh_at, rs_at, DGN, GT]
  rw [Fin.sum_univ_one]
  exact Finset.sum_congr rfl fun r _ => mul_comm _ _

/-- The input's gradient, where the arrays are finite. -/
theorem dx (A0 : S4096x1024.Idx → ℝ) (A1 : S1x1024.Idx → ℝ) (A2 : S1024x5632.Idx → ℝ) (A4 : S4096x2048.Idx → ℝ) (A5 : S4096x1536.Idx → ℝ) (A6 : S4096x2048.Idx → ℝ)
    (h0 : a0 = fun i => (A0 i : EReal)) (h1 : a1 = fun i => (A1 i : EReal)) (h2 : a2 = fun i => (A2 i : EReal)) (h4 : a4 = fun i => (A4 i : EReal))
    (h5 : a5 = fun i => (A5 i : EReal)) (h6 : a6 = fun i => (A6 i : EReal)) :
    val_main_v40 (F := Ideal) a0 a1 a2 a3 a4 a5 a6 = DX a0 a1 a3 (DH a2 a4 a5 a6) := by
  funext i
  idx_vars i
  pointwise [val_main_v40, val_main_v39, val_main_v38, val_main_v37, val_main_v36, val_main_v35, val_main_v34, val_main_v33, val_main_v32,
    val_main_v31, val_main_v30, val_main_v29, val_main_v28, val_main_v27, val_main_v26, val_main_v23, val_main_v14, val_main_v0,
    val_main_v11, val_main_v10, val_main_v9, val_main_cst_2, val_main_cst_5, val_main_cst_6, val_main_cst_7, val_main_v24, val_main_v23, val_main_v14, val_main_v0,
    val_main_v7, val_main_v6, val_main_v5, val_main_v4, val_main_v3, val_main_v2, val_main_v1, val_main_cst, val_main_cst_0, val_main_cst_1, dh_at, rs_at, DX]
  rw [Fin.sum_univ_one]
  obtain ⟨w, hw⟩ : ∃ w : Fin 1024 → ℝ, ∀ k, DH a2 a4 a5 a6 (ix2 i0 k) * a1 (ix2 0 k) = (w k : EReal) := by
    have hd : ∀ j, Finite.IsReal (DH a2 a4 a5 a6 (ix2 i0 j)) := fun j =>
      ((Finite.IsReal.sum fun k => (Finite.IsReal.of_eq h4 _).mul (Finite.IsReal.of_eq h2 _)).add
        (Finite.IsReal.sum fun k => (Finite.IsReal.of_eq h5 _).mul (Finite.IsReal.of_eq h2 _))).add
        (Finite.IsReal.sum fun k => (Finite.IsReal.of_eq h6 _).mul (Finite.IsReal.of_eq h2 _))
    choose w hw using fun k : Fin 1024 => (hd k).mul (Finite.IsReal.of_eq h1 (ix2 0 k))
    exact ⟨w, hw⟩
  have hx : ∀ k, a0 (ix2 i0 k) = (A0 (ix2 i0 k) : EReal) := fun k => congrFun h0 _
  simp only [hw, hx]
  refine (Finite.norm_grad (fun k => A0 (ix2 i0 k)) w _ i1 (RS a0 i0) _ ?_ rfl).symm
  simp only [RS, hx]

end Cert.ReferenceIdeal.InReference

end
-- ==== Proof.InClaims.lean ====
/- The claims about the input projection's backward kernel and its reference. -/
module

public import proofs.«01_k».proof.Defs
public import proofs.«01_k».proof.Proof.Gen.Kernel.Frame
public import proofs.«01_k».proof.Proof.Gen.Pre_finite
public import proofs.«01_k».proof.Proof.InValue
public import proofs.«01_k».proof.Proof.InScale
public import proofs.«01_k».proof.Proof.InReference
public import Idealize.ShloMosaic.Lib.Claim

@[expose] public section

set_option maxRecDepth 16384

noncomputable section

namespace Cert.InClaims

open Idealize.ShloMosaic Idealize.ShloMosaic.TcCoe Idealize.SL.Sem

attribute [local instance] Cert.Kernel.Gen.facts Cert.KernelIdeal.Gen.facts Cert.ReferenceIdeal.Gen.facts Cert.Pre_finite.Gen.facts

instance : Subsingleton Cert.Pre_finite.S_.Idx := ⟨fun a b => funext fun i => i.elim0⟩

/-- The precondition: every array it names is an array of reals. -/
theorem reals (m : (ℓ : Loc Cert.KernelIdeal.nD Cert.KernelIdeal.τ Cert.KernelIdeal.sig) → Buf (Elt Ideal) ℓ) (h : Cert.Pre_KernelIdeal_finite m)
    (c : Dev Cert.KernelIdeal.nD) :
    (∃ A : Cert.KernelIdeal.S4096x1024.Idx → ℝ, (m ((c.tc : Thread Cert.KernelIdeal.nD Cert.KernelIdeal.τ).loc Cert.KernelIdeal.main_arg0) : FVec Ideal Cert.KernelIdeal.S4096x1024 .f32) = fun i => (A i : EReal))
    ∧ (∃ A : Cert.KernelIdeal.S1x1024.Idx → ℝ, (m ((c.tc : Thread Cert.KernelIdeal.nD Cert.KernelIdeal.τ).loc Cert.KernelIdeal.main_arg1) : FVec Ideal Cert.KernelIdeal.S1x1024 .f32) = fun i => (A i : EReal))
    ∧ (∃ A : Cert.KernelIdeal.S1024x5632.Idx → ℝ, (m ((c.tc : Thread Cert.KernelIdeal.nD Cert.KernelIdeal.τ).loc Cert.KernelIdeal.main_arg2) : FVec Ideal Cert.KernelIdeal.S1024x5632 .f32) = fun i => (A i : EReal))
    ∧ (∃ A : Cert.KernelIdeal.S4096x2048.Idx → ℝ, (m ((c.tc : Thread Cert.KernelIdeal.nD Cert.KernelIdeal.τ).loc Cert.KernelIdeal.main_arg4) : FVec Ideal Cert.KernelIdeal.S4096x2048 .f32) = fun i => (A i : EReal))
    ∧ (∃ A : Cert.KernelIdeal.S4096x1536.Idx → ℝ, (m ((c.tc : Thread Cert.KernelIdeal.nD Cert.KernelIdeal.τ).loc Cert.KernelIdeal.main_arg5) : FVec Ideal Cert.KernelIdeal.S4096x1536 .f32) = fun i => (A i : EReal))
    ∧ (∃ A : Cert.KernelIdeal.S4096x2048.Idx → ℝ, (m ((c.tc : Thread Cert.KernelIdeal.nD Cert.KernelIdeal.τ).loc Cert.KernelIdeal.main_arg6) : FVec Ideal Cert.KernelIdeal.S4096x2048 .f32) = fun i => (A i : EReal)) := by
  have e := congrFun (h c) (ix0)
  simp only [Cert.Pre_finite.fn, Cert.Pre_finite.fn_part1] at e
  simp only [andi, Cert.Finite.and_eq_one] at e
  obtain ⟨⟨⟨⟨⟨e0, e1⟩, e2⟩, e4⟩, e5⟩, e6⟩ := e
  exact ⟨Cert.Finite.reals_of_reduce _ _ _ (fun _ => Cert.Finite.ofBits_inf) _ _ _ e0,
    Cert.Finite.reals_of_reduce _ _ _ (fun _ => Cert.Finite.ofBits_inf) _ _ _ e1,
    Cert.Finite.reals_of_reduce _ _ _ (fun _ => Cert.Finite.ofBits_inf) _ _ _ e2,
    Cert.Finite.reals_of_reduce _ _ _ (fun _ => Cert.Finite.ofBits_inf) _ _ _ e4,
    Cert.Finite.reals_of_reduce _ _ _ (fun _ => Cert.Finite.ofBits_inf) _ _ _ e5,
    Cert.Finite.reals_of_reduce _ _ _ (fun _ => Cert.Finite.ofBits_inf) _ _ _ e6⟩

theorem frame_kernel : Cert.quiescent_Kernel := fun m ρ _ => Cert.Kernel.Gen.frame m ρ
theorem frame_ideal : Cert.quiescent_KernelIdeal := fun m ρ _ => Cert.KernelIdeal.Gen.frame m ρ
theorem frame_ideal_finite : Cert.quiescent_KernelIdeal_pre_finite := fun m ρ _ => Cert.KernelIdeal.Gen.frame m ρ
theorem frame_reference : Cert.quiescent_ReferenceIdeal := by
  intro m g _
  hlo_run
  · exact fun _ => ⟨trivial, trivial, trivial, trivial, trivial, trivial, trivial⟩
  exact sem_eq_zero_of_no_sems (sig := Cert.ReferenceIdeal.sig) (by decide) _
theorem frame_reference_finite : Cert.quiescent_ReferenceIdeal_pre_finite := fun m g _ => frame_reference m g trivial

/-- Kernel and reference end with equal results. -/
theorem algebraic : Cert.algebraic_KernelIdeal_ReferenceIdeal_pre_finite := by
  pair_intro
  · run_from Cert.KernelIdeal.Gen.run_main m g
  · run_from Cert.ReferenceIdeal.Value.run m' g'
    · obtain ⟨a0, a1, a2, a3, a4, a5, a6⟩ := hagree c
      obtain ⟨⟨A0, h0⟩, ⟨A1, h1⟩, ⟨A2, h2⟩, ⟨A4, h4⟩, ⟨A5, h5⟩, ⟨A6, h6⟩⟩ := reals m hpre c
      rw [Cert.ReferenceIdeal.Read.val_main_v40_eq, a0, a1, a2, a3, a4, a5, a6]
      exact (Cert.ReferenceIdeal.InReference.dx _ _ _ _ _ _ _ A0 A1 A2 A4 A5 A6 h0 h1 h2 h4 h5 h6).trans (Cert.KernelIdeal.InValue.final7 m c).symm
    · obtain ⟨a0, a1, a2, a3, a4, a5, a6⟩ := hagree c
      rw [a4, a5, a6]
      exact ((Cert.ReferenceIdeal.Read.val_main_v41_eq _ _ _ _ _).trans (Cert.ReferenceIdeal.InReference.dgn _ _ _ _ _)).trans
        (Cert.KernelIdeal.InValue.final8 m c).symm

end Cert.InClaims

end
-- ==== Proof.HgBody.lean ====
/- The backward kernel of the gated recurrence, written with its loops: a prologue per head, sixteen chunks walked
   from the last to the first over four heads each, and an epilogue per head. `body_eq` says that the printed
   function is this one. -/
module

public import proofs.«01_k».proof.Proof.Gen.Kernel2Ideal

@[expose] public section

noncomputable section

namespace Cert.Hg

open Idealize.ShloMosaic Idealize.SL.Sem
open Cert.Kernel2Ideal
open Cert.Kernel2Ideal.Facts₀ Cert.Kernel2Ideal.Facts

variable {F : FTy → Type} [FloatOps F]

/-- One head's tile: 512 rows of 128 features. -/
abbrev Tile (F : FTy → Type) [FloatOps F] : Type := FVec F S512x128 .f32

/-- A constant in every place of a tile. -/
def lit (w : BitVec 32) : Tile F := broadcast S512x128 (Scalar.ofBits .f32 w)
/-- The same in a row. -/
def litRow (w : BitVec 32) : FVec F S1x128 .f32 := broadcast S1x128 (Scalar.ofBits .f32 w)

/-- The logistic function by the hyperbolic tangent. -/
def sgm (x : Tile F) : Tile F :=
  addf (mulf (lit 0x3F000000#32) (tanh (mulf (lit 0x3F000000#32) x))) (lit 0x3F000000#32)

/-- The derivative of `x · sgm x` where `s` is `sgm x`. -/
def dsilu (x s : Tile F) : Tile F := mulf s (addf (lit 0x3F800000#32) (mulf x (subf (lit 0x3F800000#32) s)))

/-- A row's place in its chunk. -/
def phase : IVec S512x128 32 := andi (iota .tc S512x128 32 [0] iota_S512x128_d0_w32) (broadcast S512x128 31#32)

/-- One doubling step of the running sum down a chunk. -/
def up (n : BitVec 32) (x : Tile F) : Tile F :=
  addf x (select (cmpi .sge phase (broadcast S512x128 n)) (dynamicRotate 0 n none x rotates_S512x128_d0) (lit 0x00000000#32))

/-- One doubling step of the running sum up a chunk. -/
def down (n m : BitVec 32) (x : Tile F) : Tile F :=
  addf x (select (cmpi .slt (addi phase (broadcast S512x128 n)) (broadcast S512x128 32#32))
    (dynamicRotate 0 m none x rotates_S512x128_d0) (lit 0x00000000#32))

/-- The running sum down each chunk. -/
def sumDown (x : Tile F) : Tile F := up 16#32 (up 8#32 (up 4#32 (up 2#32 (up 1#32 x))))

/-- The running sum up each chunk. -/
def sumUp (x : Tile F) : Tile F :=
  down 16#32 496#32 (down 8#32 504#32 (down 4#32 508#32 (down 2#32 510#32 (down 1#32 511#32 x))))

/-- A tile with its rows split into chunks. -/
def split (x : Tile F) : FVec F S16x32x128 .f32 := shapeCast S16x32x128 x shapeCasts_S512x128_S16x32x128
/-- And back. -/
def join (x : FVec F S16x32x128 .f32) : Tile F := shapeCast S512x128 x shapeCasts_S16x32x128_S512x128
/-- One row per chunk, repeated over the chunk. -/
def spread (x : FVec F S16x1x128 .f32) : FVec F S16x32x128 .f32 := broadcastTo S16x32x128 x broadcasts_S16x1x128_S16x32x128
/-- The middle row of each chunk. -/
def mid (b : FVec F S16x32x128 .f32) : FVec F S16x1x128 .f32 := extractStridedSlice S16x1x128 ![0, 15, 0] b slices_S16x32x128_o0_15_0_S16x1x128
/-- The last row of each chunk. -/
def fin (b : FVec F S16x32x128 .f32) : FVec F S16x1x128 .f32 := extractStridedSlice S16x1x128 ![0, 31, 0] b slices_S16x32x128_o0_31_0_S16x1x128
/-- The decay relative to the middle row. -/
def eqa (b : FVec F S16x32x128 .f32) : FVec F S16x32x128 .f32 := exp (subf b (spread (mid b)))
/-- Its inverse. -/
def eka (b : FVec F S16x32x128 .f32) : FVec F S16x32x128 .f32 :=
  exp (subf (broadcast S16x32x128 (Scalar.ofBits .f32 0x00000000#32)) (subf b (spread (mid b))))
/-- The decay from the chunk's start. -/
def eb (b : FVec F S16x32x128 .f32) : FVec F S16x32x128 .f32 := mulf (eqa b) (spread (exp (mid b)))
/-- The decay to the chunk's end. -/
def eko (b : FVec F S16x32x128 .f32) : FVec F S16x32x128 .f32 := mulf (eka b) (spread (exp (subf (fin b) (mid b))))

/-- The integer quotient by 32 rounded down, as the mask computes it. -/
def chunkOf (a : IVec S256x256 32) : IVec S256x256 32 :=
  select
    (andi
      (cmpi .ne
        (subi (extui 32 (cmpi .sgt a (broadcast S256x256 0#32)) natLt_1_32) (extui 32 (cmpi .slt a (broadcast S256x256 0#32)) natLt_1_32))
        (broadcast S256x256 (Scalar.subi (Scalar.extui (Scalar.cmpi .sgt (32#32 : BitVec 32) 0#32)) (Scalar.extui (Scalar.cmpi .slt (32#32 : BitVec 32) 0#32)))))
      (cmpi .ne (remsi a (broadcast S256x256 32#32)) (broadcast S256x256 0#32)))
    (subi (divsi a (broadcast S256x256 32#32)) (broadcast S256x256 1#32))
    (divsi a (broadcast S256x256 32#32))

/-- The pairs of one chunk whose second row is not after the first. -/
def causal : IVec S256x256 1 :=
  andi (cmpi .eq (chunkOf (iota .tc S256x256 32 [0] iota_S256x256_d0_w32)) (chunkOf (iota .tc S256x256 32 [1] iota_S256x256_d1_w32)))
    (cmpi .sle (iota .tc S256x256 32 [1] iota_S256x256_d1_w32) (iota .tc S256x256 32 [0] iota_S256x256_d0_w32))

/-- The mean of a tile's rows, one column. -/
def rowMean (x : Tile F) : FVec F S512x1 .f32 :=
  divf (shapeCast S512x1 (multiReduction .add [1] S512 x 0x00000000#32 reduces_S512x128_S512 (.inl rfl) rfl) shapeCasts_S512_S512x1)
    (broadcast S512x1 (Scalar.ofBits .f32 0x43000000#32))
/-- A column repeated over the features. -/
def wide (x : FVec F S512x1 .f32) : Tile F := broadcastTo S512x128 x broadcasts_S512x1_S512x128
/-- A row repeated over the rows. -/
def tall (x : FVec F S1x128 .f32) : Tile F := broadcastTo S512x128 x broadcasts_S1x128_S512x128
/-- The sum of a tile's columns, one row. -/
def colSum (x : Tile F) : FVec F S1x128 .f32 :=
  shapeCast S1x128 (multiReduction .add [0] S128 x 0x00000000#32 reduces_S512x128_S128 (.inl rfl) rfl) shapeCasts_S128_S1x128
/-- The inverse root mean square of each row. -/
def rms (o : Tile F) : FVec F S512x1 .f32 := rsqrt (addf (rowMean (mulf o o)) (broadcast S512x1 (Scalar.ofBits .f32 0x358637BD#32)))
/-- The gradient through the norm. -/
def dnorm (o w : Tile F) : Tile F :=
  mulf (wide (rms o)) (subf w (mulf (mulf o (wide (rms o))) (wide (rowMean (mulf w (mulf o (wide (rms o))))))))
/-- Rounded to bfloat16. -/
def bf (x : Tile F) : FVec F S512x128 .bf16 := truncf .bf16 x bitsLt_bf16_f32

/-- Rows `256 b …` of a rounded tile. -/
def half0 (x : FVec F S512x128 .bf16) : FVec F S256x128 .bf16 := extractStridedSlice S256x128 ![0, 0] x slices_S512x128_o0_0_S256x128
def half1 (x : FVec F S512x128 .bf16) : FVec F S256x128 .bf16 := extractStridedSlice S256x128 ![256, 0] x slices_S512x128_o256_0_S256x128

/-- The masked products of the rows of two half tiles, rounded. -/
def scores (x y : FVec F S256x128 .bf16) : FVec F S256x256 .bf16 :=
  truncf .bf16 (select causal (matmul dot_S256x128_S256x128_S256x256_1_1_0_0_n_n none x y (constant S256x256 .f32 0x00000000#32))
    (broadcast S256x256 (Scalar.ofBits .f32 0x00000000#32))) bitsLt_bf16_f32
/-- A product of scores with a half tile, the scores transposed or not. -/
def scoresT (a : FVec F S256x256 .bf16) (y : FVec F S256x128 .bf16) : FVec F S256x128 .f32 :=
  matmul dot_S256x256_S256x128_S256x128_0_0_1_1_n_n none a y (constant S256x128 .f32 0x00000000#32)
def scoresN (a : FVec F S256x256 .bf16) (y : FVec F S256x128 .bf16) : FVec F S256x128 .f32 :=
  matmul dot_S256x256_S256x128_S256x128_1_0_0_1_n_n none a y (constant S256x128 .f32 0x00000000#32)

/-- Rows `32 c …` of a rounded tile. -/
theorem slices_chunk (c : ℕ) (h : c < 16) : S512x128.Slices ![32 * c, 0] S32x128 :=
  (by decide : ∀ c : Fin 16, S512x128.Slices ![32 * c.val, 0] S32x128) ⟨c, h⟩
def rows32 (c : ℕ) (h : c < 16) (x : FVec F S512x128 .bf16) : FVec F S32x128 .bf16 :=
  extractStridedSlice S32x128 ![32 * c, 0] x (slices_chunk c h)
/-- Row `c` of the decays. -/
theorem slices_dec (c : ℕ) (h : c < 16) : S16x1x128.Slices ![c, 0, 0] S1x1x128 :=
  (by decide : ∀ c : Fin 16, S16x1x128.Slices ![c.val, 0, 0] S1x1x128) ⟨c, h⟩
def decRow (c : ℕ) (h : c < 16) (x : FVec F S16x1x128 .f32) : FVec F S1x128 .f32 :=
  shapeCast S1x128 (extractStridedSlice S1x1x128 ![c, 0, 0] x (slices_dec c h)) shapeCasts_S1x1x128_S1x128

/-- What a head's prologue hands on. -/
structure Head (F : FTy → Type) [FloatOps F] where
  lb : FVec F S1x128 .f32
  lb' : FVec F S1x128 .f32
  xq : FVec F S512x128 .f32
  xf : FVec F S512x128 .f32
  xi : FVec F S512x128 .f32
  d : FVec F S512x128 .f32

namespace Head
variable (h : Head F)
/-- The gate of the query, the query, the forget gate's logistic, the forget gate and the key. -/
def sq : Tile F := sgm h.xq
def q : Tile F := mulf (mulf h.xq h.sq) (lit 0x3DB504F3#32)
def sf : Tile F := sgm h.xf
def f : Tile F := addf (tall h.lb) (mulf (tall (subf (litRow 0x3F800000#32) h.lb)) h.sf)
def k : Tile F := subf (lit 0x3F800000#32) h.f
/-- The running sum of the logarithms, split into chunks. -/
def b : FVec F S16x32x128 .f32 := split (sumDown (log h.f))
def dec : FVec F S16x1x128 .f32 := exp (fin h.b)
def tqa : Tile F := join (eqa h.b)
def tka : Tile F := join (eka h.b)
def tb : Tile F := join (eb h.b)
def tko : Tile F := join (eko h.b)
def dob : FVec F S512x128 .bf16 := bf h.d
def qh : FVec F S512x128 .bf16 := bf (mulf h.q h.tqa)
def kh : FVec F S512x128 .bf16 := bf (mulf h.k h.tka)
def qi : FVec F S512x128 .bf16 := bf (mulf h.q h.tb)
def ko : FVec F S512x128 .bf16 := bf (mulf h.k h.tko)
def vb : FVec F S512x128 .bf16 := bf h.xi
end Head

/-- The softmax of two rows: the first weight and the second. -/
def soft1 (a b : FVec F S1x128 .f32) : FVec F S1x128 .f32 :=
  divf (exp (subf a (maximumf a b))) (addf (exp (subf a (maximumf a b))) (exp (subf b (maximumf a b))))
def soft2 (a b : FVec F S1x128 .f32) : FVec F S1x128 .f32 :=
  divf (exp (subf b (maximumf a b))) (addf (exp (subf a (maximumf a b))) (exp (subf b (maximumf a b))))

/-- The chunk's products. -/
def stQ (do_ : FVec F S32x128 .bf16) (s : FVec F S128x128 .f32) : FVec F S32x128 .f32 :=
  matmul dot_S32x128_S128x128_S32x128_1_0_0_1_n_n none do_ (truncf .bf16 s bitsLt_bf16_f32) (constant S32x128 .f32 0x00000000#32)
def stV (ko : FVec F S32x128 .bf16) (ds : FVec F S128x128 .f32) : FVec F S32x128 .f32 :=
  matmul dot_S32x128_S128x128_S32x128_1_1_0_0_n_n none ko (truncf .bf16 ds bitsLt_bf16_f32) (constant S32x128 .f32 0x00000000#32)
/-- The gradient of the chunk's decay, one row. -/
def decGrad (dec : FVec F S1x128 .f32) (ds s : FVec F S128x128 .f32) : FVec F S1x128 .f32 :=
  mulf dec (shapeCast S1x128 (multiReduction .add [0] S128 (mulf ds s) 0x00000000#32 reduces_S128x128_S128 (.inl rfl) rfl) shapeCasts_S128_S1x128)
/-- The carried gradient one chunk earlier. -/
def dsNext (dec : FVec F S1x128 .f32) (ds : FVec F S128x128 .f32) (do_ qi : FVec F S32x128 .bf16) : FVec F S128x128 .f32 :=
  addf (mulf (broadcastTo S128x128 dec broadcasts_S1x128_S128x128) ds)
    (matmul dot_S32x128_S32x128_S128x128_0_0_1_1_n_n none do_ qi (constant S128x128 .f32 0x00000000#32))

/-- The buffers one call of the kernel works on. -/
structure Bufs where
  q : Memref sig .tc .vmem S512x512 .f32
  f : Memref sig .tc .vmem S512x512 .f32
  i : Memref sig .tc .vmem S512x512 .f32
  g : Memref sig .tc .vmem S512x512 .f32
  low : Memref sig .tc .vmem S2x512 .f32
  gn : Memref sig .tc .vmem S1x128 .f32
  o : Memref sig .tc .vmem S512x512 .f32
  dog : Memref sig .tc .vmem S512x512 .f32
  st : Memref sig .tc .vmem S4x16x128x128 .f32
  dhg : Memref sig .tc .vmem S512x2048 .bf16
  dlow : Memref sig .tc .vmem S2x512 .f32
  dgn : Memref sig .tc .vmem S1x128 .f32
  ds : Memref sig .tc .vmem S4x128x128 .f32
  dqi : Memref sig .tc .vmem S512x512 .f32
  dko : Memref sig .tc .vmem S512x512 .f32
  dv : Memref sig .tc .vmem S512x512 .f32
  dd : Memref sig .tc .vmem S512x512 .f32
  dqh : Memref sig .tc .vmem S512x512 .f32
  dkh : Memref sig .tc .vmem S512x512 .f32
  hdhg : dhg.IsWhole

/-- Programs of the kernel. -/
abbrev P (F : FTy → Type) [FloatOps F] : Type → Type 1 := Prog (TpuEff nD τ sig (Elt F) Λ₀ .tc)

theorem inb_col {h : ℕ} (hh : h < 4) : ∀ a, (![0, 128 * h] : Fin 2 → ℕ) a + S512x128.size a ≤ S512x512.size a :=
  (by decide : ∀ h : Fin 4, ∀ a, (![0, 128 * h.val] : Fin 2 → ℕ) a + S512x128.size a ≤ S512x512.size a) ⟨h, hh⟩
theorem inb_half0 {h : ℕ} (hh : h < 4) : ∀ a, (![0, 128 * h] : Fin 2 → ℕ) a + S256x128.size a ≤ S512x512.size a :=
  (by decide : ∀ h : Fin 4, ∀ a, (![0, 128 * h.val] : Fin 2 → ℕ) a + S256x128.size a ≤ S512x512.size a) ⟨h, hh⟩
theorem inb_half1 {h : ℕ} (hh : h < 4) : ∀ a, (![256, 128 * h] : Fin 2 → ℕ) a + S256x128.size a ≤ S512x512.size a :=
  (by decide : ∀ h : Fin 4, ∀ a, (![256, 128 * h.val] : Fin 2 → ℕ) a + S256x128.size a ≤ S512x512.size a) ⟨h, hh⟩
theorem inb_chunk {c h : ℕ} (hc : c < 16) (hh : h < 4) : ∀ a, (![32 * c, 128 * h] : Fin 2 → ℕ) a + S32x128.size a ≤ S512x512.size a := by
  intro a; match a with
  | ⟨0, _⟩ => show 32 * c + 32 ≤ 512; omega
  | ⟨1, _⟩ => show 128 * h + 128 ≤ 512; omega
theorem inb_low {h : ℕ} (hh : h < 4) : ∀ a, (![0, 128 * h] : Fin 2 → ℕ) a + S2x128.size a ≤ S2x512.size a :=
  (by decide : ∀ h : Fin 4, ∀ a, (![0, 128 * h.val] : Fin 2 → ℕ) a + S2x128.size a ≤ S2x512.size a) ⟨h, hh⟩
theorem inb_row0 {h : ℕ} (hh : h < 4) : ∀ a, (![0, 128 * h] : Fin 2 → ℕ) a + S1x128.size a ≤ S2x512.size a :=
  (by decide : ∀ h : Fin 4, ∀ a, (![0, 128 * h.val] : Fin 2 → ℕ) a + S1x128.size a ≤ S2x512.size a) ⟨h, hh⟩
theorem inb_row1 {h : ℕ} (hh : h < 4) : ∀ a, (![1, 128 * h] : Fin 2 → ℕ) a + S1x128.size a ≤ S2x512.size a :=
  (by decide : ∀ h : Fin 4, ∀ a, (![1, 128 * h.val] : Fin 2 → ℕ) a + S1x128.size a ≤ S2x512.size a) ⟨h, hh⟩
theorem inb_ds {h : ℕ} (hh : h < 4) : ∀ a, (![h, 0, 0] : Fin 3 → ℕ) a + S1x128x128.size a ≤ S4x128x128.size a :=
  (by decide : ∀ h : Fin 4, ∀ a, (![h.val, 0, 0] : Fin 3 → ℕ) a + S1x128x128.size a ≤ S4x128x128.size a) ⟨h, hh⟩
theorem inb_st {c h : ℕ} (hc : c < 16) (hh : h < 4) : ∀ a, (![h, c, 0, 0] : Fin 4 → ℕ) a + S1x1x128x128.size a ≤ S4x16x128x128.size a := by
  intro a; match a with
  | ⟨0, _⟩ => show h + 1 ≤ 4; omega
  | ⟨1, _⟩ => show c + 1 ≤ 16; omega
  | ⟨2, _⟩ => show 0 + 128 ≤ 128; omega
  | ⟨3, _⟩ => show 0 + 128 ≤ 128; omega
theorem inb_out {j h : ℕ} (hj : j < 4) (hh : h < 4) : ∀ a, (![0, 512 * j + 128 * h] : Fin 2 → ℕ) a + S512x128.size a ≤ S512x2048.size a := by
  intro a; match a with
  | ⟨0, _⟩ => show 0 + 512 ≤ 512; omega
  | ⟨1, _⟩ => show 512 * j + 128 * h + 128 ≤ 2048; omega
theorem inb_part {j : ℕ} (hj : j < 4) : ∀ a, (![0, 512 * j] : Fin 2 → ℕ) a + S512x512.size a ≤ S512x2048.size a := by
  intro a; match a with
  | ⟨0, _⟩ => show 0 + 512 ≤ 512; omega
  | ⟨1, _⟩ => show 512 * j + 512 ≤ 2048; omega

/-- A head's columns of a tile of four heads. -/
abbrev col (h : ℕ) (hh : h < 4) : Rect S512x512 := Rect.unit (s := S512x512) ![0, 128 * h] S512x128.size (inb_col hh)
abbrev top (h : ℕ) (hh : h < 4) : Rect S512x512 := Rect.unit (s := S512x512) ![0, 128 * h] S256x128.size (inb_half0 hh)
abbrev bot (h : ℕ) (hh : h < 4) : Rect S512x512 := Rect.unit (s := S512x512) ![256, 128 * h] S256x128.size (inb_half1 hh)
abbrev chk (c h : ℕ) (hc : c < 16) (hh : h < 4) : Rect S512x512 := Rect.unit (s := S512x512) ![32 * c, 128 * h] S32x128.size (inb_chunk hc hh)
abbrev row0 (h : ℕ) (hh : h < 4) : Rect S2x512 := Rect.unit (s := S2x512) ![0, 128 * h] S1x128.size (inb_row0 hh)
abbrev row1 (h : ℕ) (hh : h < 4) : Rect S2x512 := Rect.unit (s := S2x512) ![1, 128 * h] S1x128.size (inb_row1 hh)
abbrev slot (h : ℕ) (hh : h < 4) : Rect S4x128x128 := Rect.unit (s := S4x128x128) ![h, 0, 0] S1x128x128.size (inb_ds hh)
abbrev state (c h : ℕ) (hc : c < 16) (hh : h < 4) : Rect S4x16x128x128 := Rect.unit (s := S4x16x128x128) ![h, c, 0, 0] S1x1x128x128.size (inb_st hc hh)
abbrev outc (j h : ℕ) (hj : j < 4) (hh : h < 4) : Rect S512x2048 := Rect.unit (s := S512x2048) ![0, 512 * j + 128 * h] S512x128.size (inb_out hj hh)

/-- Read one head's columns. -/
def ldCol (m : Memref sig .tc .vmem S512x512 .f32) (h : ℕ) (hh : h < 4) : P F (Vec F S512x128 .f32) :=
  Prog.lift (.load m (col h hh).toLoadRect (View.loadsAt_vmem h_S512x128))
/-- Write one chunk of one head, after a read of the same place. -/
def stChk (m : Memref sig .tc .vmem S512x512 .f32) (c h : ℕ) (hc : c < 16) (hh : h < 4) (w : FVec F S32x128 .f32) : P F PUnit := do
  let _ : Vec F S32x128 .f32 ← Prog.lift (.load m (chk c h hc hh).toLoadRect (View.loadsAt_vmem h_S32x128))
  Prog.lift (.store m (chk c h hc hh) (shapeCast S32x128 w shapeCasts_S32x128_S32x128) Finset.univ (View.stores_vmem_bits_univ h_S32x128 rfl) (.inl rfl))
def stTop (m : Memref sig .tc .vmem S512x512 .f32) (h : ℕ) (hh : h < 4) (w : FVec F S256x128 .f32) : P F PUnit := do
  let _ : Vec F S256x128 .f32 ← Prog.lift (.load m (top h hh).toLoadRect (View.loadsAt_vmem h_S256x128))
  Prog.lift (.store m (top h hh) (shapeCast S256x128 w shapeCasts_S256x128_S256x128) Finset.univ (View.stores_vmem_bits_univ h_S256x128 rfl) (.inl rfl))
def stBot (m : Memref sig .tc .vmem S512x512 .f32) (h : ℕ) (hh : h < 4) (w : FVec F S256x128 .f32) : P F PUnit := do
  let _ : Vec F S256x128 .f32 ← Prog.lift (.load m (bot h hh).toLoadRect (View.loadsAt_vmem h_S256x128))
  Prog.lift (.store m (bot h hh) (shapeCast S256x128 w shapeCasts_S256x128_S256x128) Finset.univ (View.stores_vmem_bits_univ h_S256x128 rfl) (.inl rfl))
theorem packed_out {j h : ℕ} (hj : j < 4) (hh : h < 4) (m : Memref sig .tc .vmem S512x2048 .bf16) (hm : m.IsWhole) :
    (m.access (outc j h hj hh)).StoreExact Finset.univ := by
  rcases j with _ | _ | _ | _ | j <;> rcases h with _ | _ | _ | _ | h <;> try omega
  · exact hm.storeExact_slice rfl _ packedbf16_S512x2048_S512x128_0_0
  · exact hm.storeExact_slice rfl _ packedbf16_S512x2048_S512x128_0_128
  · exact hm.storeExact_slice rfl _ packedbf16_S512x2048_S512x128_0_256
  · exact hm.storeExact_slice rfl _ packedbf16_S512x2048_S512x128_0_384
  · exact hm.storeExact_slice rfl _ packedbf16_S512x2048_S512x128_0_512
  · exact hm.storeExact_slice rfl _ packedbf16_S512x2048_S512x128_0_640
  · exact hm.storeExact_slice rfl _ packedbf16_S512x2048_S512x128_0_768
  · exact hm.storeExact_slice rfl _ packedbf16_S512x2048_S512x128_0_896
  · exact hm.storeExact_slice rfl _ packedbf16_S512x2048_S512x128_0_1024
  · exact hm.storeExact_slice rfl _ packedbf16_S512x2048_S512x128_0_1152
  · exact hm.storeExact_slice rfl _ packedbf16_S512x2048_S512x128_0_1280
  · exact hm.storeExact_slice rfl _ packedbf16_S512x2048_S512x128_0_1408
  · exact hm.storeExact_slice rfl _ packedbf16_S512x2048_S512x128_0_1536
  · exact hm.storeExact_slice rfl _ packedbf16_S512x2048_S512x128_0_1664
  · exact hm.storeExact_slice rfl _ packedbf16_S512x2048_S512x128_0_1792
  · exact hm.storeExact_slice rfl _ packedbf16_S512x2048_S512x128_0_1920
/-- Write one head's columns of part `j` of the result. -/
def stOut (m : Memref sig .tc .vmem S512x2048 .bf16) (hm : m.IsWhole) (j h : ℕ) (hj : j < 4) (hh : h < 4) (w : FVec F S512x128 .bf16) : P F PUnit := do
  let _ : Vec F S512x128 .bf16 ← Prog.lift (.load
    (m.slice (Rect.unit (s := S512x2048) ![0, 512 * j] S512x512.size (inb_part hj)) (fun _ => rfl)) (col h hh).toLoadRect (View.loadsAt_vmem h_S512x128))
  Prog.lift (.store m (outc j h hj hh) w Finset.univ (View.stores_vmem h_S512x128 (packed_out hj hh m hm) (fun _ => rfl)) (.inl rfl))

/-- Start the carried gradients, the rows' sums and the gain's. -/
def zeroDs (m : Memref sig .tc .vmem S4x128x128 .f32) : P F PUnit := do
  let _ : Vec F S4x128x128 .f32 ← Prog.lift (.load m (Rect.unit (s := S4x128x128) ![0, 0, 0] S4x128x128.size inb_S4x128x128_S4x128x128_0_0_0).toLoadRect (View.loadsAt_vmem h_S4x128x128))
  Prog.lift (.store m (Rect.unit (s := S4x128x128) ![0, 0, 0] S4x128x128.size inb_S4x128x128_S4x128x128_0_0_0)
    (shapeCast S4x128x128 (broadcast S4x128x128 (Scalar.ofBits .f32 0x00000000#32) : FVec F S4x128x128 .f32) shapeCasts_S4x128x128_S4x128x128) Finset.univ (View.stores_vmem_bits_univ h_S4x128x128 rfl) (.inl rfl))
def zeroLow (m : Memref sig .tc .vmem S2x512 .f32) : P F PUnit := do
  let _ : Vec F S2x512 .f32 ← Prog.lift (.load m (Rect.unit (s := S2x512) ![0, 0] S2x512.size inb_S2x512_S2x512_0_0).toLoadRect (View.loadsAt_vmem h_S2x512))
  Prog.lift (.store m (Rect.unit (s := S2x512) ![0, 0] S2x512.size inb_S2x512_S2x512_0_0) (broadcast S2x512 (Scalar.ofBits .f32 0x00000000#32) : FVec F S2x512 .f32) Finset.univ (View.stores_vmem_bits_univ h_S2x512 rfl) (.inl rfl))
def zeroGn (m : Memref sig .tc .vmem S1x128 .f32) : P F PUnit := do
  let _ : Vec F S1x128 .f32 ← Prog.lift (.load m (Rect.unit (s := S1x128) ![0, 0] S1x128.size inb_S1x128_S1x128_0_0).toLoadRect (View.loadsAt_vmem h_S1x128))
  Prog.lift (.store m (Rect.unit (s := S1x128) ![0, 0] S1x128.size inb_S1x128_S1x128_0_0) (litRow 0x00000000#32 : FVec F S1x128 .f32) Finset.univ (View.stores_vmem_bits_univ h_S1x128 rfl) (.inl rfl))

/-- The sums cleared at the points that start them. -/
def clear (i : grid0.Coords) (B : Bufs) : P F PUnit := do
  if k0_h1 : Scalar.cmpi .ne (Scalar.extui (Scalar.cmpi .eq (BitVec.ofNat 32 (i 1).val) 0#32)) 0#32 = 1#1 then do
    zeroDs B.ds
    zeroLow B.dlow
    pure ⟨⟩
  else do
    pure ⟨⟩
  if k0_h2 : Scalar.cmpi .ne (Scalar.extui (Scalar.andi (Scalar.cmpi .eq (BitVec.ofNat 32 (i 1).val) 0#32) (Scalar.cmpi .eq (BitVec.ofNat 32 (i 0).val) 0#32))) 0#32 = 1#1 then do
    zeroGn B.dgn
    pure ⟨⟩
  else do
    pure ⟨⟩

/-- Read the gain. -/
def ldGn (m : Memref sig .tc .vmem S1x128 .f32) : P F (Vec F S1x128 .f32) :=
  Prog.lift (.load m (Rect.unit (s := S1x128) ![0, 0] S1x128.size inb_S1x128_S1x128_0_0).toLoadRect (View.loadsAt_vmem h_S1x128))

/-- One row of a head's columns of the lower bounds. -/
def ldLow (m : Memref sig .tc .vmem S2x512 .f32) (h : ℕ) (hh : h < 4) : P F (FVec F S1x128 .f32 × FVec F S1x128 .f32) := do
  let a : Vec F S1x128 .f32 ← Prog.lift (.load (m.slice (Rect.unit (s := S2x512) ![0, 128 * h] S2x128.size (inb_low hh)) (fun _ => rfl))
    (Rect.unit (s := S2x128) ![0, 0] S1x128.size inb_S2x128_S1x128_0_0).toLoadRect (View.loadsAt_vmem h_S1x128))
  let b : Vec F S1x128 .f32 ← Prog.lift (.load (m.slice (Rect.unit (s := S2x512) ![0, 128 * h] S2x128.size (inb_low hh)) (fun _ => rfl))
    (Rect.unit (s := S2x128) ![1, 0] S1x128.size inb_S2x128_S1x128_1_0).toLoadRect (View.loadsAt_vmem h_S1x128))
  pure (a, b)

/-- Add to the gradient of the gain. -/
def addGn (m : Memref sig .tc .vmem S1x128 .f32) (x : FVec F S1x128 .f32) : P F PUnit := do
  let a ← ldGn m
  let _ ← ldGn m
  Prog.lift (.store m (Rect.unit (s := S1x128) ![0, 0] S1x128.size inb_S1x128_S1x128_0_0) (addf (shapeCast S1x128 a shapeCasts_S1x128_S1x128) x : FVec F S1x128 .f32) Finset.univ (View.stores_vmem_bits_univ h_S1x128 rfl) (.inl rfl))

/-- The gradient through the gate's product, before the norm. -/
def dxn (g dog : Tile F) : Tile F := mulf dog (mulf g (sgm g))

/-- The gradient of the gate's argument. -/
def dgate (gn : FVec F S1x128 .f32) (g o dog : Tile F) : Tile F :=
  mulf (mulf dog (mulf (mulf o (wide (rms o))) (tall gn))) (dsilu g (sgm g))

/-- Read a head's carried gradient. -/
def ldDs (m : Memref sig .tc .vmem S4x128x128 .f32) (h : ℕ) (hh : h < 4) : P F (FVec F S128x128 .f32) := do
  let s : Vec F S1x128x128 .f32 ← Prog.lift (.load m (slot h hh).toLoadRect (View.loadsAt_vmem h_S1x128x128))
  pure (shapeCast S128x128 s shapeCasts_S1x128x128_S128x128)
/-- Read a head's state before a chunk. -/
def ldSt (m : Memref sig .tc .vmem S4x16x128x128 .f32) (c : ℕ) (hc : c < 16) (h : ℕ) (hh : h < 4) : P F (FVec F S128x128 .f32) := do
  let s' : Vec F S1x1x128x128 .f32 ← Prog.lift (.load m (state c h hc hh).toLoadRect (View.loadsAt_vmem h_S1x1x128x128))
  pure (shapeCast S128x128 s' shapeCasts_S1x1x128x128_S128x128)
/-- Write a head's carried gradient. -/
def stDs (m : Memref sig .tc .vmem S4x128x128 .f32) (h : ℕ) (hh : h < 4) (ds : FVec F S128x128 .f32) : P F PUnit := do
  let _ : Vec F S1x128x128 .f32 ← Prog.lift (.load m (slot h hh).toLoadRect (View.loadsAt_vmem h_S1x128x128))
  Prog.lift (.store m (slot h hh) (shapeCast S1x128x128 ds shapeCasts_S128x128_S1x128x128) Finset.univ (View.stores_vmem_bits_univ h_S1x128x128 rfl) (.inl rfl))

/-- A head's prologue: what the chunks read, the gate's and the gain's gradients, the products within the chunks. -/
def pre (B : Bufs) (gn : FVec F S1x128 .f32) (h : ℕ) (hh : h < 4) : P F (Head F × FVec F S128x128 .f32) := do
  let l ← ldLow B.low h hh
  let xq ← ldCol B.q h hh
  let xf ← ldCol B.f h hh
  let g ← ldCol B.g h hh
  let o' ← ldCol B.o h hh
  let dog ← ldCol B.dog h hh
  let o : FVec F S512x128 .f32 := shapeCast S512x128 o' shapeCasts_S512x128_S512x128
  stOut B.dhg B.hdhg 3 h (by decide) hh (bf (dgate gn g o dog))
  addGn B.dgn (colSum (mulf (dxn g dog) (mulf o (wide (rms o)))))
  let xi ← ldCol B.i h hh
  let H : Head F := ⟨soft1 l.1 l.2, soft2 l.1 l.2, xq, xf, xi, dnorm o (mulf (dxn g dog) (tall gn))⟩
  stTop B.dv h hh (scoresT (scores (half0 H.qh) (half0 H.kh)) (half0 H.dob))
  stTop B.dqh h hh (scoresN (scores (half0 H.dob) (half0 H.vb)) (half0 H.kh))
  stTop B.dkh h hh (scoresT (scores (half0 H.dob) (half0 H.vb)) (half0 H.qh))
  stBot B.dv h hh (scoresT (scores (half1 H.qh) (half1 H.kh)) (half1 H.dob))
  stBot B.dqh h hh (scoresN (scores (half1 H.dob) (half1 H.vb)) (half1 H.kh))
  stBot B.dkh h hh (scoresT (scores (half1 H.dob) (half1 H.vb)) (half1 H.qh))
  let s ← ldDs B.ds h hh
  pure (H, s)

/-- One chunk of one head. -/
def step (B : Bufs) (H : Head F) (c : ℕ) (hc : c < 16) (h : ℕ) (hh : h < 4) (ds : FVec F S128x128 .f32) : P F (FVec F S128x128 .f32) := do
  let s ← ldSt B.st c hc h hh
  stChk B.dqi c h hc hh (stQ (rows32 c hc H.dob) s)
  stChk B.dko c h hc hh (stQ (rows32 c hc H.vb) ds)
  let v : Vec F S32x128 .f32 ← Prog.lift (.load B.dv (chk c h hc hh).toLoadRect (View.loadsAt_vmem h_S32x128))
  stChk B.dv c h hc hh (addf v (stV (rows32 c hc H.ko) ds))
  stChk B.dd c h hc hh (broadcastTo S32x128 (shapeCast S1x128 (decGrad (decRow c hc H.dec) ds s) shapeCasts_S1x128_S1x128) broadcasts_S1x128_S32x128)
  pure (dsNext (decRow c hc H.dec) ds (rows32 c hc H.dob) (rows32 c hc H.qi))

/-- The four heads' values. -/
structure Four (α : Type) where
  a0 : α
  a1 : α
  a2 : α
  a3 : α

/-- One chunk of the four heads. -/
def chunk (B : Bufs) (H : Four (Head F)) (c : ℕ) (hc : c < 16) (ds : Four (FVec F S128x128 .f32)) : P F (Four (FVec F S128x128 .f32)) := do
  let d0 ← step B H.a0 c hc 0 (by decide) ds.a0
  let d1 ← step B H.a1 c hc 1 (by decide) ds.a1
  let d2 ← step B H.a2 c hc 2 (by decide) ds.a2
  let d3 ← step B H.a3 c hc 3 (by decide) ds.a3
  pure ⟨d0, d1, d2, d3⟩

/-- The chunks below `n`, the last first. -/
def chunks (B : Bufs) (H : Four (Head F)) : (n : ℕ) → n ≤ 16 → Four (FVec F S128x128 .f32) → P F (Four (FVec F S128x128 .f32))
  | 0, _, ds => pure ds
  | n + 1, hn, ds => do
    let ds ← chunk B H n hn ds
    chunks B H n (Nat.le_of_succ_le hn) ds

/-- The sum over each chunk, on every row of the chunk. -/
def chunkSum (x : Tile F) : Tile F :=
  join (spread (shapeCast S16x1x128 (shapeCast S16x1x128 (multiReduction .add [1] S16x128 (split x) 0x00000000#32 reduces_S16x32x128_S16x128 (.inl rfl) rfl)
    shapeCasts_S16x128_S16x1x128) shapeCasts_S16x1x128_S16x1x128))

/-- The gradients a head's epilogue forms from the chunks' results. -/
def gq (H : Head F) (dqh dqi : Tile F) : Tile F := addf (mulf dqh H.tqa) (mulf dqi H.tb)
def gk (H : Head F) (dkh dko : Tile F) : Tile F := addf (mulf dkh H.tka) (mulf dko H.tko)
def gb (H : Head F) (dko dqh dqi dkh dd : Tile F) : Tile F :=
  sumUp (addf (subf (mulf H.q (gq H dqh dqi)) (mulf H.k (gk H dkh dko)))
    (select (cmpi .eq phase (broadcast S512x128 31#32)) (addf dd (chunkSum (mulf H.k (mulf dko H.tko)))) (lit 0x00000000#32)))
def gf (H : Head F) (dko dqh dqi dkh dd : Tile F) : Tile F := subf (divf (gb H dko dqh dqi dkh dd) H.f) (gk H dkh dko)
def glb (H : Head F) (df : Tile F) : FVec F S1x128 .f32 := colSum (mulf df (subf (lit 0x3F800000#32) H.sf))

/-- Add to a row of the gradient of the lower bounds. -/
def addRow0 (m : Memref sig .tc .vmem S2x512 .f32) (h : ℕ) (hh : h < 4) (x : FVec F S1x128 .f32) : P F PUnit := do
  let a : Vec F S1x128 .f32 ← Prog.lift (.load m (row0 h hh).toLoadRect (View.loadsAt_vmem h_S1x128))
  let _ : Vec F S1x128 .f32 ← Prog.lift (.load m (row0 h hh).toLoadRect (View.loadsAt_vmem h_S1x128))
  Prog.lift (.store m (row0 h hh) (addf (shapeCast S1x128 a shapeCasts_S1x128_S1x128) x : FVec F S1x128 .f32) Finset.univ (View.stores_vmem_bits_univ h_S1x128 rfl) (.inl rfl))
def addRow1 (m : Memref sig .tc .vmem S2x512 .f32) (h : ℕ) (hh : h < 4) (x : FVec F S1x128 .f32) : P F PUnit := do
  let a : Vec F S1x128 .f32 ← Prog.lift (.load m (row1 h hh).toLoadRect (View.loadsAt_vmem h_S1x128))
  let _ : Vec F S1x128 .f32 ← Prog.lift (.load m (row1 h hh).toLoadRect (View.loadsAt_vmem h_S1x128))
  Prog.lift (.store m (row1 h hh) (addf (shapeCast S1x128 a shapeCasts_S1x128_S1x128) x : FVec F S1x128 .f32) Finset.univ (View.stores_vmem_bits_univ h_S1x128 rfl) (.inl rfl))

/-- A head's epilogue. -/
def post (B : Bufs) (H : Head F) (h : ℕ) (hh : h < 4) (ds : FVec F S128x128 .f32) : P F PUnit := do
  stDs B.ds h hh ds
  let dko ← ldCol B.dko h hh
  let dqh ← ldCol B.dqh h hh
  let dqi ← ldCol B.dqi h hh
  let dkh ← ldCol B.dkh h hh
  let dd ← ldCol B.dd h hh
  let df : FVec F S512x128 .f32 := gf H dko dqh dqi dkh dd
  addRow0 B.dlow h hh (mulf (mulf (glb H df) H.lb) (subf (litRow 0x3F800000#32) H.lb))
  addRow1 B.dlow h hh (mulf (mulf (subf (litRow 0x00000000#32) (glb H df)) H.lb) H.lb')
  stOut B.dhg B.hdhg 1 h (by decide) hh (bf (mulf (mulf (mulf df (tall (subf (litRow 0x3F800000#32) H.lb))) H.sf) (subf (lit 0x3F800000#32) H.sf)))
  stOut B.dhg B.hdhg 0 h (by decide) hh (bf (mulf (mulf (gq H dqh dqi) (lit 0x3DB504F3#32)) (dsilu H.xq H.sq)))
  let dv ← ldCol B.dv h hh
  stOut B.dhg B.hdhg 2 h (by decide) hh (bf dv)

/-- The four prologues. -/
def pres (B : Bufs) (gn : FVec F S1x128 .f32) : P F (Four (Head F × FVec F S128x128 .f32)) := do
  let p0 ← pre B gn 0 (by decide)
  let p1 ← pre B gn 1 (by decide)
  let p2 ← pre B gn 2 (by decide)
  let p3 ← pre B gn 3 (by decide)
  pure ⟨p0, p1, p2, p3⟩

/-- The four epilogues. -/
def posts (B : Bufs) (H : Four (Head F)) (ds : Four (FVec F S128x128 .f32)) : P F (Four PUnit) := do
  let u0 ← post B H.a0 0 (by decide) ds.a0
  let u1 ← post B H.a1 1 (by decide) ds.a1
  let u2 ← post B H.a2 2 (by decide) ds.a2
  let u3 ← post B H.a3 3 (by decide) ds.a3
  pure ⟨u0, u1, u2, u3⟩

/-- The kernel's body after the sums' start. -/
def main (B : Bufs) : P F PUnit := do
  let gn ← ldGn B.gn
  let p ← pres B gn
  let ds ← chunks B ⟨p.a0.1, p.a1.1, p.a2.1, p.a3.1⟩ 16 le_rfl ⟨p.a0.2, p.a1.2, p.a2.2, p.a3.2⟩
  let _ ← posts B ⟨p.a0.1, p.a1.1, p.a2.1, p.a3.1⟩ ds
  pure ⟨⟩

/-- The kernel's body. -/
def body (i : grid0.Coords) (B : Bufs) : P F PUnit := do
  clear i B
  main B

end Cert.Hg
-- ==== Proof.HgRun.lean ====
/- The kernel's body as a function of its buffers' contents: every read and write of a block answered by a state, and
   the proof that a run of the body over held buffers ends at that state. -/
module

public import proofs.«01_k».proof.Proof.HgBody
public import Idealize.ShloMosaic.Lib.Memref
public import Idealize.ShloMosaic.Lib.Writes
public import Idealize.ShloMosaic.Lib.Pipeline.Kit

@[expose] public section

noncomputable section

namespace Cert.Hg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel2Ideal
open Cert.Kernel2Ideal.Facts₀ Cert.Kernel2Ideal.Facts

variable {F : FTy → Type} [FloatOps F]

/-- The buffers of four heads' columns by name. -/
inductive Big
  | q | f | i | g | o | dog | dqi | dko | dv | dd | dqh | dkh
deriving DecidableEq

/-- The buffers by name. -/
inductive Key
  | big (b : Big) | low | gn | st | dhg | dlow | dgn | ds
deriving DecidableEq

/-- They are finitely many. -/
instance : Fintype Key :=
  Fintype.ofList [.big .q, .big .f, .big .i, .big .g, .low, .gn, .big .o, .big .dog, .st, .dhg, .dlow, .dgn, .ds, .big .dqi, .big .dko, .big .dv,
    .big .dd, .big .dqh, .big .dkh]
    (by intro k; rcases k with b | _ | _ | _ | _ | _ | _ | _ <;> first | (cases b <;> decide) | decide)

namespace Key
/-- A buffer's shape. -/
abbrev sh : Key → Shape
  | big _ => S512x512 | low => S2x512 | gn => S1x128 | st => S4x16x128x128 | dhg => S512x2048 | dlow => S2x512 | dgn => S1x128 | ds => S4x128x128
/-- Its elements. -/
abbrev el : Key → EltTy
  | big _ => .f32 | low => .f32 | gn => .f32 | st => .f32 | dhg => .bf16 | dlow => .f32 | dgn => .f32 | ds => .f32
end Key

/-- The buffer of a name. -/
abbrev Bufs.big (B : Bufs) : Big → Memref sig .tc .vmem S512x512 .f32
  | .q => B.q | .f => B.f | .i => B.i | .g => B.g | .o => B.o | .dog => B.dog
  | .dqi => B.dqi | .dko => B.dko | .dv => B.dv | .dd => B.dd | .dqh => B.dqh | .dkh => B.dkh
abbrev Bufs.at (B : Bufs) : (k : Key) → Memref sig .tc .vmem k.sh k.el
  | .big b => B.big b | .low => B.low | .gn => B.gn | .st => B.st | .dhg => B.dhg | .dlow => B.dlow | .dgn => B.dgn | .ds => B.ds

/-- What the buffers hold. -/
abbrev St (F : FTy → Type) [FloatOps F] : Type := (k : Key) → k.sh.Idx → Elt F k.el

/-- Contents with a rectangle of them replaced. -/
def put {s : Shape} {α : Type} (r : Rect s) (w : r.shape.Idx → α) (X : s.Idx → α) : s.Idx → α := fun i =>
  open Classical in if h : ∃ j, r.emb j = i then w h.choose else X i

theorem put_emb {s : Shape} {α : Type} (r : Rect s) (w : r.shape.Idx → α) (X : s.Idx → α) (j : r.shape.Idx) : put r w X (r.emb j) = w j := by
  unfold put
  have h : ∃ j', r.emb j' = r.emb j := ⟨j, rfl⟩
  rw [dif_pos h, r.emb.injective h.choose_spec]

theorem put_off {s : Shape} {α : Type} (r : Rect s) (w : r.shape.Idx → α) (X : s.Idx → α) (i : s.Idx) (h : ∀ j, r.emb j ≠ i) : put r w X i = X i := by
  unfold put
  rw [dif_neg fun ⟨j, hj⟩ => h j hj]

variable {U : Type} [URA U]

/-- Every buffer held at its contents. -/
def Holds (U : Type) [URA U] (c : Dev nD) (B : Bufs) (s : St F) : sProp (MT nD τ sig Unit (Elt F) ℕ U ℕ) :=
  bigSep Finset.univ fun k : Key => owns (c : Thread nD τ) (B.at k) fullShare (s k)

/-- One buffer taken out and put back changed. -/
theorem holds_split (c : Dev nD) (B : Bufs) (s : St F) (k : Key) :
    Holds U c B s ⊢ iprop(owns (c : Thread nD τ) (B.at k) fullShare (s k) ∗ ∀ X, owns (c : Thread nD τ) (B.at k) fullShare X -∗ Holds U c B (Function.update s k X)) := by
  unfold Holds
  rw [BI.bigSep_univ_at _ k]
  iintro ⟨H, Hr⟩
  isplitl [H]; · iexact H
  iintro %X HX
  rw [BI.bigSep_univ_at _ k, Function.update_self]
  isplitl [HX]; · iexact HX
  have e : (bigSep (Finset.univ.erase k) fun k : Key => (owns (c : Thread nD τ) (B.at k) fullShare (s k) : sProp (MT nD τ sig Unit (Elt F) ℕ U ℕ)))
      = bigSep (Finset.univ.erase k) fun k' : Key => owns (c : Thread nD τ) (B.at k') fullShare (Function.update s k X k') :=
    BI.bigSep_congr fun k' hk' => by rw [Function.update_of_ne (Finset.ne_of_mem_erase hk')]
  rw [← e]
  iexact Hr

/-- One buffer looked at. -/
theorem holds_look (c : Dev nD) (B : Bufs) (s : St F) (k : Key) :
    Holds U c B s ⊢ iprop(owns (c : Thread nD τ) (B.at k) fullShare (s k) ∗ (owns (c : Thread nD τ) (B.at k) fullShare (s k) -∗ Holds U c B s)) := by
  refine (holds_split c B s k).trans (sep_mono_right ?_)
  iintro H HX
  have := Function.update_eq_self k s
  ihave H' := H $$ %(s k) HX
  rw [Function.update_eq_self]
  iexact H'

/-- A run of `p` from any contents: it returns and leaves what `d` says. -/
def Runs (U : Type) [URA U] {α : Type} (c : Dev nD) (B : Bufs) (p : P F α) (d : StateM (St F) α) : Prop :=
  ∀ (s : St F) (E : Set ℕ) (K : α → sProp (MT nD τ sig Unit (Elt F) ℕ U ℕ)),
    iprop(Holds U c B s ∗ (Holds U c B (d s).2 -∗ K (d s).1)) ⊢ wp frame (wpE (defs₀ (F := F)) Variants.none (c : Thread nD τ) none) E p K

variable {c : Dev nD} {B : Bufs}

theorem Runs.ret {α : Type} (a : α) : Runs U c B (pure a : P F α) (pure a) := by
  intro s E K
  rw [show (pure a : P F α) = Prog.ret a from rfl, wp_ret, show (pure a : StateM (St F) α) s = (a, s) from rfl]
  iintro ⟨H, Hk⟩
  imodintro
  iapply Hk
  iexact H

theorem Runs.bind {α β : Type} {p : P F α} {d : StateM (St F) α} {k : α → P F β} {e : α → StateM (St F) β}
    (hp : Runs U c B p d) (hk : ∀ a, Runs U c B (k a) (e a)) : Runs U c B (p >>= k) (d >>= e) := by
  intro s E K
  rw [wp_bind]
  refine Entails.trans (sep_mono_right ?_) (hp s E _)
  iintro Hk H
  iapply (hk (d s).1 (d s).2 E K)
  isplitl [H]; · iexact H
  iexact Hk

/-- Read a rectangle of a buffer. -/
def rd (k : Key) (r : Rect k.sh) : StateM (St F) (r.shape.Idx → Elt F k.el) := fun s => (fun j => s k (r.emb j), s)
/-- Write one. -/
def wr (k : Key) (r : Rect k.sh) (w : r.shape.Idx → Elt F k.el) : StateM (St F) PUnit := fun s => (⟨⟩, Function.update s k (put r w (s k)))

theorem runs_load (k : Key) (r : Rect k.sh) (hl : (B.at k).view.LoadsAt r.toLoadRect) :
    Runs U c B (Prog.lift (.load (B.at k) r.toLoadRect hl) : P F _) (rd k r) := by
  intro s E K
  refine (sep_mono_left (holds_look c B s k)).trans ?_
  unfold owns
  iintro ⟨⟨⟨%f, %hf, H⟩, Hb⟩, Hk⟩
  iapply (wp_load_rect Variants.none (c : Thread nD τ) none E (hl := hl) (k := Prog.ret) (Q := K) ((B.at k).view.set_slice_subset r)) $$ H
  iintro H
  rw [wp_ret]
  imodintro
  have e : ((B.at k).access r).read (Elt F) f = (rd k r s).1 := by
    funext j
    show (B.at k).view.read (Elt F) f (r.emb j) = s k (r.emb j)
    rw [hf]
  rw [e]
  iapply Hk
  iapply Hb
  iexists f
  isplitr; · ipureintro; exact hf
  iexact H

theorem runs_load_slice (k : Key) (r₁ : Rect k.sh) (hr : ∀ a, r₁.stride a = 1) (r : Rect r₁.shape) (hl : ((B.at k).slice r₁ hr).view.LoadsAt r.toLoadRect) :
    Runs U c B (Prog.lift (.load ((B.at k).slice r₁ hr) r.toLoadRect hl) : P F _) (fun s => (fun j => s k (r₁.emb (r.emb j)), s)) := by
  intro s E K
  refine (sep_mono_left (holds_look c B s k)).trans ?_
  unfold owns
  iintro ⟨⟨⟨%f, %hf, H⟩, Hb⟩, Hk⟩
  iapply (wp_load_rect Variants.none (c : Thread nD τ) none E (hl := hl) (k := Prog.ret) (Q := K)
    ((((B.at k).slice r₁ hr).view.set_slice_subset r).trans ((B.at k).view.set_slice_subset r₁))) $$ H
  iintro H
  rw [wp_ret]
  imodintro
  have e : (((B.at k).slice r₁ hr).access r).read (Elt F) f = fun j => s k (r₁.emb (r.emb j)) := by
    funext j
    show (B.at k).view.read (Elt F) f (r₁.emb (r.emb j)) = s k (r₁.emb (r.emb j))
    rw [hf]
  rw [e]
  iapply Hk
  iapply Hb
  iexists f
  isplitr; · ipureintro; exact hf
  iexact H

theorem runs_store (k : Key) (r : Rect k.sh) (w : r.shape.Idx → Elt F k.el) (hx : ((B.at k).access r).Stores Finset.univ)
    (hm : (Finset.univ : Finset r.shape.Idx) = Finset.univ ∨ ∀ a, r.stride a = 1) :
    Runs U c B (Prog.lift (.store (B.at k) r w Finset.univ hx hm) : P F PUnit) (wr k r w) := by
  intro s E K
  refine (sep_mono_left (holds_split c B s k)).trans ?_
  unfold owns
  iintro ⟨⟨⟨%f, %hf, H⟩, Hb⟩, Hk⟩
  iapply (wp_store Variants.none (c : Thread nD τ) none E (k := Prog.ret) (Q := K) ((B.at k).setOn_access_subset r _)) $$ H
  iintro H
  rw [wp_ret]
  imodintro
  rw [show (wr k r w s) = (⟨⟩, Function.update s k (put r w (s k))) from rfl]
  iapply Hk
  iapply Hb
  iexists _
  isplitr; swap; · iexact H
  ipureintro
  funext i
  by_cases h : ∃ j, r.emb j = i
  · obtain ⟨j, rfl⟩ := h
    rw [put_emb]
    exact (B.at k).view.read_slice_write_emb r f w (Finset.mem_univ j)
  · rw [put_off _ _ _ _ fun j hj => h ⟨j, hj⟩, ← hf]
    refine (B.at k).view.read_slice_write_of_not_mem r f w _ fun hm => ?_
    obtain ⟨j, -, hj⟩ := Finset.mem_map.mp hm
    exact h ⟨j, hj⟩

end Cert.Hg
-- ==== Proof.HgState.lean ====
/- The kernel's body as a function of what each head sees: a head's columns of every tile, its rows of the lower bounds,
   its states, its parts of the result and its carried gradient, and the one gradient all heads add to. -/
module

public import proofs.«01_k».proof.Proof.HgRun
public import Idealize.ShloMosaic.Lib.ValueIdxCore
public import Idealize.ShloMosaic.Lib.Pointwise.Reshape

@[expose] public section

noncomputable section

namespace Cert.Hg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel2Ideal
open Cert.Kernel2Ideal.Facts₀ Cert.Kernel2Ideal.Facts

variable {F : FTy → Type} [FloatOps F]

/-- A row of features, and a head's state. -/
abbrev Row (F : FTy → Type) [FloatOps F] : Type := FVec F S1x128 .f32
abbrev Mat (F : FTy → Type) [FloatOps F] : Type := FVec F S128x128 .f32

/-- What one head sees. -/
structure Hd (F : FTy → Type) [FloatOps F] where
  t : Big → Tile F
  l0 : Row F
  l1 : Row F
  st : Fin 16 → Mat F
  o : Fin 4 → FVec F S512x128 .bf16
  d0 : Row F
  d1 : Row F
  ds : Mat F

/-- What the four heads see, with the gain and its gradient. -/
structure Al (F : FTy → Type) [FloatOps F] where
  hd : Fin 4 → Hd F
  gn : Row F
  dgn : Row F

/-- The whole of a small buffer. -/
abbrev gnR : Rect S1x128 := Rect.unit (s := S1x128) ![0, 0] S1x128.size inb_S1x128_S1x128_0_0
abbrev lowR (h : ℕ) (hh : h < 4) : Rect S2x512 := Rect.unit (s := S2x512) ![0, 128 * h] S2x128.size (inb_low hh)

/-- Contents as one head sees them. -/
def seeH (s : St F) (h : Fin 4) : Hd F where
  t := fun b j => s (.big b) ((col h.1 h.2).emb j)
  l0 := fun j => s .low ((lowR h.1 h.2).emb ((Rect.unit (s := S2x128) ![0, 0] S1x128.size inb_S2x128_S1x128_0_0).emb j))
  l1 := fun j => s .low ((lowR h.1 h.2).emb ((Rect.unit (s := S2x128) ![1, 0] S1x128.size inb_S2x128_S1x128_1_0).emb j))
  st := fun c => shapeCast S128x128 (fun j => s .st ((state c.1 h.1 c.2 h.2).emb j)) shapeCasts_S1x1x128x128_S128x128
  o := fun j i => s .dhg ((outc j.1 h.1 j.2 h.2).emb i)
  d0 := fun j => s .dlow ((row0 h.1 h.2).emb j)
  d1 := fun j => s .dlow ((row1 h.1 h.2).emb j)
  ds := shapeCast S128x128 (fun j => s .ds ((slot h.1 h.2).emb j)) shapeCasts_S1x128x128_S128x128

/-- Contents as the heads see them. -/
def see (s : St F) : Al F where
  hd := seeH s
  gn := fun j => s .gn (gnR.emb j)
  dgn := fun j => s .dgn (gnR.emb j)

/-- A head sees the same where the buffers are the same but for the one it names. -/
theorem seeH_of (s s' : St F) (h : Fin 4) (y : Hd F)
    (ht : (fun b j => s' (.big b) ((col h.1 h.2).emb j)) = y.t) (hl : s' .low = s .low) (hl0 : y.l0 = (seeH s h).l0) (hl1 : y.l1 = (seeH s h).l1)
    (hst : s' .st = s .st) (hst' : y.st = (seeH s h).st) (ho : (fun j i => s' .dhg ((outc j.1 h.1 j.2 h.2).emb i)) = y.o)
    (h0 : (fun j => s' .dlow ((row0 h.1 h.2).emb j)) = y.d0) (h1 : (fun j => s' .dlow ((row1 h.1 h.2).emb j)) = y.d1)
    (hd : shapeCast S128x128 (fun j => s' .ds ((slot h.1 h.2).emb j)) shapeCasts_S1x128x128_S128x128 = y.ds) : seeH s' h = y := by
  obtain ⟨t, l0, l1, st, o, d0, d1, ds⟩ := y
  unfold seeH
  dsimp only at ht hl0 hl1 hst' ho h0 h1 hd
  rw [hl, hst, hl0, hl1, hst', ← ht, ← ho, ← h0, ← h1, ← hd]
  rfl

/-- A change of one buffer, seen head by head. -/
theorem see_of (s s' : St F) (h : Fin 4) (y : Hd F) (hy : seeH s' h = y) (hn : ∀ h' : Fin 4, h' ≠ h → seeH s' h' = seeH s h') (hg : s' .gn = s .gn) (hd : s' .dgn = s .dgn) :
    see s' = { hd := Function.update (see s).hd h y, gn := (see s).gn, dgn := (see s).dgn } := by
  unfold see
  rw [hg, hd]
  congr 1
  funext h'
  by_cases hh : h' = h
  · subst hh; rw [Function.update_self]; exact hy
  · rw [Function.update_of_ne hh]; exact hn h' hh

/-- Rows `o …` of a tile replaced. -/
def putAt {α : Type} {R : ℕ} (o n : ℕ) (w : (⟨2, ![n, 128]⟩ : Shape).Idx → α) (X : (⟨2, ![R, 128]⟩ : Shape).Idx → α) : (⟨2, ![R, 128]⟩ : Shape).Idx → α := fun j =>
  if h : o ≤ (j 0).val ∧ (j 0).val < o + n then w (ix2 ⟨(j 0).val - o, by omega⟩ (j 1)) else X j

theorem put_view_same {α : Type} {R C o n p : ℕ} (h : ∀ a, (![o, p] : Fin 2 → ℕ) a + (![n, 128] : Fin 2 → ℕ) a ≤ (⟨2, ![R, C]⟩ : Shape).size a)
    (h' : ∀ a, (![0, p] : Fin 2 → ℕ) a + (![R, 128] : Fin 2 → ℕ) a ≤ (⟨2, ![R, C]⟩ : Shape).size a)
    (w : (⟨2, ![n, 128]⟩ : Shape).Idx → α) (X : (⟨2, ![R, C]⟩ : Shape).Idx → α) :
    (fun j : (⟨2, ![R, 128]⟩ : Shape).Idx => put (Rect.unit (s := ⟨2, ![R, C]⟩) ![o, p] ![n, 128] h) w X ((Rect.unit (s := ⟨2, ![R, C]⟩) ![0, p] ![R, 128] h').emb j))
      = putAt o n w (fun j => X ((Rect.unit (s := ⟨2, ![R, C]⟩) ![0, p] ![R, 128] h').emb j)) := by
  funext j
  unfold putAt
  split_ifs with hj
  · have e : (Rect.unit (s := ⟨2, ![R, C]⟩) ![0, p] ![R, 128] h').emb j
        = (Rect.unit (s := ⟨2, ![R, C]⟩) ![o, p] ![n, 128] h).emb (ix2 (n0 := n) (n1 := 128) ⟨(j 0).val - o, by omega⟩ (j 1)) := by
      funext a; apply Fin.ext
      match a with
      | ⟨0, _⟩ => show 0 + 1 * (j 0).val = o + 1 * ((j 0).val - o); omega
      | ⟨1, _⟩ => rfl
    rw [e, put_emb]
  · refine put_off _ _ _ _ fun j' e => hj ?_
    have e0 : o + 1 * (j' 0).val = 0 + 1 * (j 0).val := congrArg Fin.val (congrFun e 0)
    have : (j' 0).val < n := (j' 0).isLt
    omega

theorem put_view_ne {s : Shape} {α : Type} (r r' : Rect s) (w : r.shape.Idx → α) (X : s.Idx → α) (h : Disjoint r.set r'.set) :
    (fun j => put r w X (r'.emb j)) = fun j => X (r'.emb j) := by
  funext j
  refine put_off _ _ _ _ fun j' e => ?_
  have h1 : r.emb j' ∈ r.set := by rw [← Rect.map_emb_univ]; exact Finset.mem_map_of_mem _ (Finset.mem_univ _)
  have h2 : r'.emb j ∈ r'.set := by rw [← Rect.map_emb_univ]; exact Finset.mem_map_of_mem _ (Finset.mem_univ _)
  rw [e] at h1
  exact Finset.disjoint_left.mp h h1 h2

theorem put_view_self {s : Shape} {α : Type} (r : Rect s) (w : r.shape.Idx → α) (X : s.Idx → α) : (fun j => put r w X (r.emb j)) = w :=
  funext fun j => put_emb r w X j

variable {U : Type} [URA U]

/-- A run of `p` from any contents: it returns and leaves what `d` says of what the heads see. -/
def Sees (U : Type) [URA U] {α : Type} (c : Dev nD) (B : Bufs) (p : P F α) (d : Al F → α × Al F) : Prop :=
  ∀ (s : St F) (E : Set ℕ) (K : α → sProp (MT nD τ sig Unit (Elt F) ℕ U ℕ)),
    iprop(Holds U c B s ∗ (∀ s', ⌜see s' = (d (see s)).2⌝ -∗ Holds U c B s' -∗ K (d (see s)).1)) ⊢ wp frame (wpE (defs₀ (F := F)) Variants.none (c : Thread nD τ) none) E p K

variable {c : Dev nD} {B : Bufs}

theorem Sees.leaf {α : Type} {p : P F α} {d0 : StateM (St F) α} {d : Al F → α × Al F} (hr : Runs U c B p d0) (h1 : ∀ s, (d0 s).1 = (d (see s)).1)
    (h2 : ∀ s, see (d0 s).2 = (d (see s)).2) : Sees U c B p d := by
  intro s E K
  refine Entails.trans (sep_mono_right ?_) (hr s E K)
  rw [h1 s]
  iintro Hk H
  iapply Hk
  · ipureintro; exact h2 s
  · iexact H

/-- One head's change, with the gain's gradient. -/
def onH {α : Type} (h : Fin 4) (f : StateM (Hd F × Row F) α) : Al F → α × Al F := fun a =>
  ((f (a.hd h, a.dgn)).1, { hd := Function.update a.hd h (f (a.hd h, a.dgn)).2.1, gn := a.gn, dgn := (f (a.hd h, a.dgn)).2.2 })

theorem Sees.bind {α β : Type} {p : P F α} {d : Al F → α × Al F} {k : α → P F β} {e : α → Al F → β × Al F}
    (hp : Sees U c B p d) (hk : ∀ a, Sees U c B (k a) (e a)) : Sees U c B (p >>= k) (fun a => e (d a).1 (d a).2) := by
  intro s E K
  rw [wp_bind]
  refine Entails.trans (sep_mono_right ?_) (hp s E _)
  iintro Hk %s' %hs H
  iapply (hk (d (see s)).1 s' E K)
  isplitl [H]; · iexact H
  rw [hs]
  iexact Hk

theorem Sees.ret {α : Type} (a : α) : Sees U c B (pure a : P F α) (fun x => (a, x)) :=
  Sees.leaf (Runs.ret a) (fun _ => rfl) (fun _ => rfl)

theorem onH_pure {α : Type} (h : Fin 4) (a : α) : (onH h (pure a) : Al F → α × Al F) = fun x => (a, x) := by
  funext x
  show (a, ({ hd := Function.update x.hd h (x.hd h), gn := x.gn, dgn := x.dgn } : Al F)) = _
  rw [Function.update_eq_self]

theorem onH_bind {α β : Type} (h : Fin 4) (f : StateM (Hd F × Row F) α) (g : α → StateM (Hd F × Row F) β) (a : Al F) :
    onH h (g (onH h f a).1) (onH h f a).2 = onH h (f >>= g) a := by
  unfold onH
  simp only [Function.update_self, Function.update_idem]
  rfl

theorem Sees.retH {α : Type} (h : Fin 4) (a : α) : Sees U c B (pure a : P F α) (onH h (pure a)) := by
  rw [onH_pure]; exact Sees.ret a

theorem Sees.bindH {α β : Type} {h : Fin 4} {p : P F α} {f : StateM (Hd F × Row F) α} {k : α → P F β} {g : α → StateM (Hd F × Row F) β}
    (hp : Sees U c B p (onH h f)) (hk : ∀ a, Sees U c B (k a) (onH h (g a))) : Sees U c B (p >>= k) (onH h (f >>= g)) := by
  have := Sees.bind hp hk
  rwa [show (fun a => onH h (g (onH h f a).1) (onH h f a).2) = onH h (f >>= g) from funext (onH_bind h f g)] at this

/-! ### The reads and writes -/

/-- Look at what a head sees. -/
def lk {α : Type} (f : Hd F → α) : StateM (Hd F × Row F) α := fun x => (f x.1, x)
/-- Change it. -/
def ch (f : Hd F → Hd F) : StateM (Hd F × Row F) PUnit := fun x => (⟨⟩, (f x.1, x.2))

theorem sees_lk {α : Type} (h : Fin 4) {p : P F α} {d0 : StateM (St F) α} {f : Hd F → α} (hr : Runs U c B p d0) (h1 : ∀ s, d0 s = (f ((see s).hd h), s)) :
    Sees U c B p (onH h (lk f)) := by
  refine Sees.leaf hr (fun s => by rw [h1 s]; rfl) fun s => ?_
  rw [h1 s]
  show see s = { hd := Function.update (see s).hd h ((see s).hd h), gn := (see s).gn, dgn := (see s).dgn }
  rw [Function.update_eq_self]

theorem sees_ch (h : Fin 4) {p : P F PUnit} {d0 : StateM (St F) PUnit} {f : Hd F → Hd F} (hr : Runs U c B p d0)
    (h1 : ∀ s, see (d0 s).2 = { hd := Function.update (see s).hd h (f ((see s).hd h)), gn := (see s).gn, dgn := (see s).dgn }) :
    Sees U c B p (onH h (ch f)) :=
  Sees.leaf hr (fun s => rfl) fun s => h1 s

theorem sees_ldCol (b : Big) (h : Fin 4) : Sees U c B (ldCol (B.big b) h.1 h.2) (onH (F := F) h (lk fun x => x.t b)) :=
  sees_lk h (runs_load (.big b) (col h.1 h.2) _) fun s => rfl

theorem sees_ldGn : Sees U c B (ldGn (F := F) B.gn) (fun a => (a.gn, a)) :=
  Sees.leaf (runs_load .gn gnR _) (fun s => rfl) (fun s => rfl)

theorem sees_ldLow (h : Fin 4) : Sees U c B (ldLow (F := F) B.low h.1 h.2) (onH h (lk fun x => (x.l0, x.l1))) :=
  sees_lk h (Runs.bind (runs_load_slice .low (lowR h.1 h.2) (fun _ => rfl) (Rect.unit (s := S2x128) ![0, 0] S1x128.size inb_S2x128_S1x128_0_0) _) fun a =>
    Runs.bind (runs_load_slice .low (lowR h.1 h.2) (fun _ => rfl) (Rect.unit (s := S2x128) ![1, 0] S1x128.size inb_S2x128_S1x128_1_0) _) fun b => Runs.ret (a, b)) fun s => rfl

/-- A tile of one head changed. -/
def Hd.setT (x : Hd F) (b : Big) (T : Tile F) : Hd F := { x with t := Function.update x.t b T }

/-- A change of one buffer of columns, seen. -/
theorem see_big (s : St F) (b : Big) (h : Fin 4) (X : S512x512.Idx → F .f32) (T : Tile F)
    (h1 : (fun j => X ((col h.1 h.2).emb j)) = T) (h2 : ∀ h' : Fin 4, h' ≠ h → (fun j => X ((col h'.1 h'.2).emb j)) = (seeH s h').t b) :
    see (Function.update s (.big b) X) = { hd := Function.update (see s).hd h (((see s).hd h).setT b T), gn := (see s).gn, dgn := (see s).dgn } := by
  have eo : ∀ k : Key, k ≠ .big b → Function.update s (.big b) X k = s k := fun k hk => Function.update_of_ne hk ..
  have et : ∀ h' : Fin 4, (fun (b' : Big) (j : S512x128.Idx) => Function.update s (.big b) X (.big b') ((col h'.1 h'.2).emb j))
      = Function.update (seeH s h').t b (fun j => X ((col h'.1 h'.2).emb j)) := by
    intro h'
    funext b'
    by_cases hb : b' = b
    · subst hb; rw [Function.update_self, Function.update_self]
    · rw [Function.update_of_ne hb, Function.update_of_ne (fun e => hb (Key.big.inj e))]; rfl
  have e0 := eo .low (by simp)
  have e1 := eo .st (by simp)
  have e2 := eo .dhg (by simp)
  have e3 := eo .dlow (by simp)
  have e4 := eo .ds (by simp)
  refine see_of s _ h _ ?_ (fun h' hh => ?_) (eo .gn (by simp)) (eo .dgn (by simp))
  · refine seeH_of s _ h _ ((et h).trans (congrArg (Function.update (seeH s h).t b) h1)) e0 rfl rfl e1 rfl ?_ ?_ ?_ ?_
    · rw [e2]; rfl
    · rw [e3]; rfl
    · rw [e3]; rfl
    · rw [e4]; rfl
  · refine seeH_of s _ h' _ ((et h').trans ((congrArg (Function.update (seeH s h').t b) (h2 h' hh)).trans (Function.update_eq_self ..))) e0 rfl rfl e1 rfl ?_ ?_ ?_ ?_
    · rw [e2]; rfl
    · rw [e3]; rfl
    · rw [e3]; rfl
    · rw [e4]; rfl

/-- A change of the result's buffer, seen. -/
theorem see_dhg (s : St F) (h : Fin 4) (X : S512x2048.Idx → F .bf16) (o : Fin 4 → FVec F S512x128 .bf16)
    (h1 : (fun (j : Fin 4) i => X ((outc j.1 h.1 j.2 h.2).emb i)) = o)
    (h2 : ∀ h' : Fin 4, h' ≠ h → (fun (j : Fin 4) i => X ((outc j.1 h'.1 j.2 h'.2).emb i)) = (seeH s h').o) :
    see (Function.update s .dhg X) = { hd := Function.update (see s).hd h { (see s).hd h with o := o }, gn := (see s).gn, dgn := (see s).dgn } := by
  have eo : ∀ k : Key, k ≠ .dhg → Function.update s .dhg X k = s k := fun k hk => Function.update_of_ne hk ..
  have et : ∀ b, Function.update s .dhg X (.big b) = s (.big b) := fun b => eo _ (by simp)
  have e3 := eo .dlow (by simp)
  have e4 := eo .ds (by simp)
  refine see_of s _ h _ ?_ (fun h' hh => ?_) (eo .gn (by simp)) (eo .dgn (by simp))
  · refine seeH_of s _ h _ ?_ (eo .low (by simp)) rfl rfl (eo .st (by simp)) rfl ?_ ?_ ?_ ?_
    · simp only [et]; rfl
    · rw [Function.update_self]; exact h1
    · rw [e3]; rfl
    · rw [e3]; rfl
    · rw [e4]; rfl
  · refine seeH_of s _ h' _ ?_ (eo .low (by simp)) rfl rfl (eo .st (by simp)) rfl ?_ ?_ ?_ ?_
    · simp only [et]; rfl
    · rw [Function.update_self]; exact h2 h' hh
    · rw [e3]; rfl
    · rw [e3]; rfl
    · rw [e4]; rfl

/-- A change of the gradient of the lower bounds, seen. -/
theorem see_dlow (s : St F) (h : Fin 4) (X : S2x512.Idx → F .f32) (d0 d1 : Row F)
    (h0 : (fun i => X ((row0 h.1 h.2).emb i)) = d0) (h1 : (fun i => X ((row1 h.1 h.2).emb i)) = d1)
    (h2 : ∀ h' : Fin 4, h' ≠ h → (fun i => X ((row0 h'.1 h'.2).emb i)) = (seeH s h').d0)
    (h3 : ∀ h' : Fin 4, h' ≠ h → (fun i => X ((row1 h'.1 h'.2).emb i)) = (seeH s h').d1) :
    see (Function.update s .dlow X) = { hd := Function.update (see s).hd h { (see s).hd h with d0 := d0, d1 := d1 }, gn := (see s).gn, dgn := (see s).dgn } := by
  have eo : ∀ k : Key, k ≠ .dlow → Function.update s .dlow X k = s k := fun k hk => Function.update_of_ne hk ..
  have et : ∀ b, Function.update s .dlow X (.big b) = s (.big b) := fun b => eo _ (by simp)
  have e3 := eo .dhg (by simp)
  have e4 := eo .ds (by simp)
  refine see_of s _ h _ ?_ (fun h' hh => ?_) (eo .gn (by simp)) (eo .dgn (by simp))
  · refine seeH_of s _ h _ ?_ (eo .low (by simp)) rfl rfl (eo .st (by simp)) rfl ?_ ?_ ?_ ?_
    · simp only [et]; rfl
    · rw [e3]; rfl
    · rw [Function.update_self]; exact h0
    · rw [Function.update_self]; exact h1
    · rw [e4]; rfl
  · refine seeH_of s _ h' _ ?_ (eo .low (by simp)) rfl rfl (eo .st (by simp)) rfl ?_ ?_ ?_ ?_
    · simp only [et]; rfl
    · rw [e3]; rfl
    · rw [Function.update_self]; exact h2 h' hh
    · rw [Function.update_self]; exact h3 h' hh
    · rw [e4]; rfl

/-- A change of the carried gradients, seen. -/
theorem see_ds (s : St F) (h : Fin 4) (X : S4x128x128.Idx → F .f32) (d : Mat F)
    (h1 : shapeCast S128x128 (fun j => X ((slot h.1 h.2).emb j)) shapeCasts_S1x128x128_S128x128 = d)
    (h2 : ∀ h' : Fin 4, h' ≠ h → (fun j => X ((slot h'.1 h'.2).emb j)) = fun j => s .ds ((slot h'.1 h'.2).emb j)) :
    see (Function.update s .ds X) = { hd := Function.update (see s).hd h { (see s).hd h with ds := d }, gn := (see s).gn, dgn := (see s).dgn } := by
  have eo : ∀ k : Key, k ≠ .ds → Function.update s .ds X k = s k := fun k hk => Function.update_of_ne hk ..
  have et : ∀ b, Function.update s .ds X (.big b) = s (.big b) := fun b => eo _ (by simp)
  have e3 := eo .dhg (by simp)
  have e4 := eo .dlow (by simp)
  refine see_of s _ h _ ?_ (fun h' hh => ?_) (eo .gn (by simp)) (eo .dgn (by simp))
  · refine seeH_of s _ h _ ?_ (eo .low (by simp)) rfl rfl (eo .st (by simp)) rfl ?_ ?_ ?_ ?_
    · simp only [et]; rfl
    · rw [e3]; rfl
    · rw [e4]; rfl
    · rw [e4]; rfl
    · rw [Function.update_self]; exact h1
  · refine seeH_of s _ h' _ ?_ (eo .low (by simp)) rfl rfl (eo .st (by simp)) rfl ?_ ?_ ?_ ?_
    · simp only [et]; rfl
    · rw [e3]; rfl
    · rw [e4]; rfl
    · rw [e4]; rfl
    · rw [Function.update_self]
      exact congrArg (fun z => shapeCast S128x128 z shapeCasts_S1x128x128_S128x128) (h2 h' hh)

theorem sees_rows (b : Big) (h : Fin 4) {o n : ℕ} {r : Rect S512x512} {p : P F PUnit}
    (hin : ∀ a, (![o, 128 * h.1] : Fin 2 → ℕ) a + (![n, 128] : Fin 2 → ℕ) a ≤ (⟨2, ![512, 512]⟩ : Shape).size a)
    (w w' : (⟨2, ![n, 128]⟩ : Shape).Idx → F .f32) (hw : w' = w)
    (hr : Runs U c B p (wr (.big b) (Rect.unit (s := ⟨2, ![512, 512]⟩) ![o, 128 * h.1] ![n, 128] hin) w')) :
    Sees U c B p (onH h (ch fun x => x.setT b (putAt o n w (x.t b)))) := by
  subst hw
  refine sees_ch h hr fun s => see_big s b h _ _ ?_ fun h' hh => ?_
  · exact put_view_same hin (inb_col h.2) _ (s (.big b))
  · refine put_view_ne (Rect.unit (s := ⟨2, ![512, 512]⟩) ![o, 128 * h.1] ![n, 128] hin) (col h'.1 h'.2) _ (s (.big b)) (Rect.unit_disjoint 1 ?_)
    have : h'.1 ≠ h.1 := fun e => hh (Fin.ext e)
    show 128 * h.1 + 128 ≤ 128 * h'.1 ∨ 128 * h'.1 + 128 ≤ 128 * h.1
    omega

/-- A write after a read of the same place. -/
theorem runs_over (k : Key) (r : Rect k.sh) (w : r.shape.Idx → Elt F k.el) (hl : (B.at k).view.LoadsAt r.toLoadRect) (hx : ((B.at k).access r).Stores Finset.univ)
    (hm : (Finset.univ : Finset r.shape.Idx) = Finset.univ ∨ ∀ a, r.stride a = 1) :
    Runs U c B (Prog.lift (.load (B.at k) r.toLoadRect hl) >>= fun _ => Prog.lift (.store (B.at k) r w Finset.univ hx hm) : P F PUnit) (wr k r w) := by
  have e : ((rd k r >>= fun _ => wr k r w) : StateM (St F) PUnit) = wr k r w := funext fun s => rfl
  rw [← e]
  exact Runs.bind (runs_load k r hl) fun _ => runs_store k r w hx hm

theorem sees_stChk (b : Big) (k : ℕ) (hk : k < 16) (h : Fin 4) (w : FVec F S32x128 .f32) :
    Sees U c B (stChk (B.big b) k h.1 hk h.2 w) (onH h (ch fun x => x.setT b (putAt (32 * k) 32 w (x.t b)))) := by
  have hr := runs_over (U := U) (c := c) (B := B) (.big b) (chk k h.1 hk h.2) (shapeCast S32x128 w shapeCasts_S32x128_S32x128) (View.loadsAt_vmem h_S32x128) (View.stores_vmem_bits_univ h_S32x128 rfl) (.inl rfl)
  unfold stChk
  exact sees_rows (r := chk k h.1 hk h.2) b h (inb_chunk hk h.2) w _ (shapeCast_id w _) hr

theorem sees_stTop (b : Big) (h : Fin 4) (w : FVec F S256x128 .f32) :
    Sees U c B (stTop (B.big b) h.1 h.2 w) (onH h (ch fun x => x.setT b (putAt 0 256 w (x.t b)))) := by
  have hr := runs_over (U := U) (c := c) (B := B) (.big b) (top h.1 h.2) (shapeCast S256x128 w shapeCasts_S256x128_S256x128) (View.loadsAt_vmem h_S256x128) (View.stores_vmem_bits_univ h_S256x128 rfl) (.inl rfl)
  unfold stTop
  exact sees_rows (r := top h.1 h.2) b h (inb_half0 h.2) w _ (shapeCast_id w _) hr

theorem sees_stBot (b : Big) (h : Fin 4) (w : FVec F S256x128 .f32) :
    Sees U c B (stBot (B.big b) h.1 h.2 w) (onH h (ch fun x => x.setT b (putAt 256 256 w (x.t b)))) := by
  have hr := runs_over (U := U) (c := c) (B := B) (.big b) (bot h.1 h.2) (shapeCast S256x128 w shapeCasts_S256x128_S256x128) (View.loadsAt_vmem h_S256x128) (View.stores_vmem_bits_univ h_S256x128 rfl) (.inl rfl)
  unfold stBot
  exact sees_rows (r := bot h.1 h.2) b h (inb_half1 h.2) w _ (shapeCast_id w _) hr

/-- Rows `32 k …` of a tile. -/
def rowsOf {α : Type} (k : ℕ) (hk : k < 16) (T : S512x128.Idx → α) : S32x128.Idx → α := fun j =>
  T (ix2 (n0 := 512) ⟨32 * k + (j 0).val, by have : (j 0).val < 32 := (j 0).isLt; omega⟩ (j 1))

theorem sees_ldChk (b : Big) (k : ℕ) (hk : k < 16) (h : Fin 4) :
    Sees U c B (Prog.lift (.load (B.big b) (chk k h.1 hk h.2).toLoadRect (View.loadsAt_vmem h_S32x128)) : P F (Vec F S32x128 .f32))
      (onH h (lk fun x => rowsOf k hk (x.t b))) :=
  sees_lk h (runs_load (.big b) (chk k h.1 hk h.2) _) fun s => by
    refine Prod.ext (funext fun j => congrArg (s (.big b)) ?_) rfl
    funext a; apply Fin.ext
    match a with
    | ⟨0, _⟩ => show 32 * k + 1 * (j 0).val = 0 + 1 * (32 * k + (j 0).val); omega
    | ⟨1, _⟩ => rfl

theorem sees_state (k : ℕ) (hk : k < 16) (h : Fin 4) :
    Sees U c B (ldSt (F := F) B.st k hk h.1 h.2) (onH h (lk fun x => x.st ⟨k, hk⟩)) :=
  sees_lk h (Runs.bind (runs_load .st (state k h.1 hk h.2) _) fun s' => Runs.ret _) fun s => rfl

theorem sees_ds (h : Fin 4) :
    Sees U c B (ldDs (F := F) B.ds h.1 h.2) (onH h (lk fun x => x.ds)) :=
  sees_lk h (Runs.bind (runs_load .ds (slot h.1 h.2) _) fun s' => Runs.ret _) fun s => rfl

/-- A change of the result's buffer, seen. -/
theorem sees_stOut (j h : Fin 4) (w : FVec F S512x128 .bf16) :
    Sees U c B (stOut B.dhg B.hdhg j.1 h.1 j.2 h.2 w) (onH h (ch fun x => { x with o := Function.update x.o j w })) := by
  refine sees_ch h (Runs.bind (runs_load_slice .dhg (Rect.unit (s := S512x2048) ![0, 512 * j.1] S512x512.size (inb_part j.2)) (fun _ => rfl) (col h.1 h.2) _) fun _ =>
    runs_store .dhg (outc j.1 h.1 j.2 h.2) w _ _) fun s => ?_
  refine see_dhg s h (put (outc j.1 h.1 j.2 h.2) w (s .dhg)) _ (funext fun j' => ?_) fun h' hh => funext fun j' => ?_
  · by_cases hj : j' = j
    · subst hj; rw [Function.update_self]; exact put_view_self _ _ _
    · rw [Function.update_of_ne hj]
      refine put_view_ne (outc j.1 h.1 j.2 h.2) (outc j'.1 h.1 j'.2 h.2) _ _ (Rect.unit_disjoint 1 ?_)
      have : j'.1 ≠ j.1 := fun e => hj (Fin.ext e)
      have := h.2
      show 512 * j.1 + 128 * h.1 + 128 ≤ 512 * j'.1 + 128 * h.1 ∨ 512 * j'.1 + 128 * h.1 + 128 ≤ 512 * j.1 + 128 * h.1
      omega
  · refine put_view_ne (outc j.1 h.1 j.2 h.2) (outc j'.1 h'.1 j'.2 h'.2) _ _ (Rect.unit_disjoint 1 ?_)
    have : h'.1 ≠ h.1 := fun e => hh (Fin.ext e)
    have := h.2; have := h'.2
    show 512 * j.1 + 128 * h.1 + 128 ≤ 512 * j'.1 + 128 * h'.1 ∨ 512 * j'.1 + 128 * h'.1 + 128 ≤ 512 * j.1 + 128 * h.1
    omega

theorem col_ne {h h' : Fin 4} (hh : h' ≠ h) : 128 * h.1 + 128 ≤ 128 * h'.1 ∨ 128 * h'.1 + 128 ≤ 128 * h.1 := by
  have : h'.1 ≠ h.1 := fun e => hh (Fin.ext e)
  omega

theorem sees_row0 (h : Fin 4) (x : Row F) :
    Sees U c B (addRow0 B.dlow h.1 h.2 x) (onH h (ch fun y => { y with d0 := addf (shapeCast S1x128 y.d0 shapeCasts_S1x128_S1x128) x })) := by
  refine sees_ch h (Runs.bind (runs_load .dlow (row0 h.1 h.2) _) fun a => Runs.bind (runs_load .dlow (row0 h.1 h.2) _) fun _ =>
    runs_store .dlow (row0 h.1 h.2) (addf (shapeCast S1x128 a shapeCasts_S1x128_S1x128) x : FVec F S1x128 .f32) _ _) fun s => ?_
  exact see_dlow s h (put (row0 h.1 h.2) _ (s .dlow)) _ _ (put_view_self _ _ _) (put_view_ne (row0 h.1 h.2) (row1 h.1 h.2) _ _ (Rect.unit_disjoint 0 (.inl (by show 0 + 1 ≤ 1; omega))))
    (fun h' hh => put_view_ne (row0 h.1 h.2) (row0 h'.1 h'.2) _ _ (Rect.unit_disjoint 1 (col_ne hh))) (fun h' hh => put_view_ne (row0 h.1 h.2) (row1 h'.1 h'.2) _ _ (Rect.unit_disjoint 1 (col_ne hh)))

theorem sees_row1 (h : Fin 4) (x : Row F) :
    Sees U c B (addRow1 B.dlow h.1 h.2 x) (onH h (ch fun y => { y with d1 := addf (shapeCast S1x128 y.d1 shapeCasts_S1x128_S1x128) x })) := by
  refine sees_ch h (Runs.bind (runs_load .dlow (row1 h.1 h.2) _) fun a => Runs.bind (runs_load .dlow (row1 h.1 h.2) _) fun _ =>
    runs_store .dlow (row1 h.1 h.2) (addf (shapeCast S1x128 a shapeCasts_S1x128_S1x128) x : FVec F S1x128 .f32) _ _) fun s => ?_
  exact see_dlow s h (put (row1 h.1 h.2) _ (s .dlow)) _ _ (put_view_ne (row1 h.1 h.2) (row0 h.1 h.2) _ _ (Rect.unit_disjoint 0 (.inr (by show 0 + 1 ≤ 1; omega)))) (put_view_self _ _ _)
    (fun h' hh => put_view_ne (row1 h.1 h.2) (row0 h'.1 h'.2) _ _ (Rect.unit_disjoint 1 (col_ne hh))) (fun h' hh => put_view_ne (row1 h.1 h.2) (row1 h'.1 h'.2) _ _ (Rect.unit_disjoint 1 (col_ne hh)))

theorem sees_addGn (h : Fin 4) (x : Row F) :
    Sees U c B (addGn B.dgn x) (onH h fun y => (⟨⟩, (y.1, addf (shapeCast S1x128 y.2 shapeCasts_S1x128_S1x128) x))) := by
  refine Sees.leaf (Runs.bind (runs_load .dgn gnR _) fun a => Runs.bind (runs_load .dgn gnR _) fun _ =>
    runs_store .dgn gnR (addf (shapeCast S1x128 a shapeCasts_S1x128_S1x128) x : FVec F S1x128 .f32) _ _) (fun s => rfl) fun s => ?_
  generalize hw : (addf (shapeCast S1x128 (fun j => s .dgn (gnR.emb j)) shapeCasts_S1x128_S1x128) x : Row F) = w
  have e : ∀ k : Key, k ≠ .dgn → Function.update s .dgn (put gnR w (s .dgn)) k = s k := fun k hk => Function.update_of_ne hk ..
  have eh : seeH (Function.update s .dgn (put gnR w (s .dgn))) = seeH s := by
    funext h'
    refine seeH_of s _ h' _ ?_ (e .low (by simp)) rfl rfl (e .st (by simp)) rfl ?_ ?_ ?_ ?_
    · simp only [show ∀ b, Function.update s .dgn (put gnR w (s .dgn)) (.big b) = s (.big b) from fun b => e _ (by simp)]; rfl
    · rw [e .dhg (by simp)]; rfl
    · rw [e .dlow (by simp)]; rfl
    · rw [e .dlow (by simp)]; rfl
    · rw [e .ds (by simp)]; rfl
  show see (Function.update s .dgn (put gnR (addf (shapeCast S1x128 (fun j => s .dgn (gnR.emb j)) shapeCasts_S1x128_S1x128) x) (s .dgn)))
    = { hd := Function.update (see s).hd h ((see s).hd h), gn := (see s).gn, dgn := addf (shapeCast S1x128 (fun j => s .dgn (gnR.emb j)) shapeCasts_S1x128_S1x128) x }
  rw [Function.update_eq_self, hw]
  unfold see
  rw [eh, e .gn (by simp), Function.update_self]
  congr 1
  exact put_view_self gnR _ (s .dgn)

theorem sees_stDs (h : Fin 4) (d : Mat F) :
    Sees U c B (stDs (F := F) B.ds h.1 h.2 d)
      (onH h (ch fun y => { y with ds := d })) := by
  refine sees_ch h (Runs.bind (runs_load .ds (slot h.1 h.2) _) fun _ =>
    runs_store .ds (slot h.1 h.2) (shapeCast S1x128x128 d shapeCasts_S128x128_S1x128x128) _ _) fun s => ?_
  refine see_ds s h (put (slot h.1 h.2) (shapeCast S1x128x128 d shapeCasts_S128x128_S1x128x128) (s .ds)) d ?_ fun h' hh => ?_
  · exact (congrArg (fun z => shapeCast S128x128 z shapeCasts_S1x128x128_S128x128) (put_view_self (slot h.1 h.2) _ (s .ds))).trans
      (shapeCast_comp d _ _ |>.trans (shapeCast_id d _))
  · refine put_view_ne (slot h.1 h.2) (slot h'.1 h'.2) _ (s .ds) (Rect.unit_disjoint 0 ?_)
    have : h'.1 ≠ h.1 := fun e => hh (Fin.ext e)
    show h.1 + 1 ≤ h'.1 ∨ h'.1 + 1 ≤ h.1
    omega

/-! ### The body's parts -/

/-- A head's prologue. -/
def preD (gn : Row F) : StateM (Hd F × Row F) (Head F × Mat F) := do
  let l ← lk fun x => (x.l0, x.l1)
  let xq ← lk fun x => x.t .q
  let xf ← lk fun x => x.t .f
  let g ← lk fun x => x.t .g
  let o' ← lk fun x => x.t .o
  let dog ← lk fun x => x.t .dog
  let o : FVec F S512x128 .f32 := shapeCast S512x128 o' shapeCasts_S512x128_S512x128
  ch fun x => { x with o := Function.update x.o 3 (bf (dgate gn g o dog)) }
  fun y => (⟨⟩, (y.1, addf (shapeCast S1x128 y.2 shapeCasts_S1x128_S1x128) (colSum (mulf (dxn g dog) (mulf o (wide (rms o)))))))
  let xi ← lk fun x => x.t .i
  let H : Head F := ⟨soft1 l.1 l.2, soft2 l.1 l.2, xq, xf, xi, dnorm o (mulf (dxn g dog) (tall gn))⟩
  ch fun x => x.setT .dv (putAt 0 256 (scoresT (scores (half0 H.qh) (half0 H.kh)) (half0 H.dob)) (x.t .dv))
  ch fun x => x.setT .dqh (putAt 0 256 (scoresN (scores (half0 H.dob) (half0 H.vb)) (half0 H.kh)) (x.t .dqh))
  ch fun x => x.setT .dkh (putAt 0 256 (scoresT (scores (half0 H.dob) (half0 H.vb)) (half0 H.qh)) (x.t .dkh))
  ch fun x => x.setT .dv (putAt 256 256 (scoresT (scores (half1 H.qh) (half1 H.kh)) (half1 H.dob)) (x.t .dv))
  ch fun x => x.setT .dqh (putAt 256 256 (scoresN (scores (half1 H.dob) (half1 H.vb)) (half1 H.kh)) (x.t .dqh))
  ch fun x => x.setT .dkh (putAt 256 256 (scoresT (scores (half1 H.dob) (half1 H.vb)) (half1 H.qh)) (x.t .dkh))
  let s ← lk fun x => x.ds
  pure (H, s)

theorem sees_pre (gn : Row F) (h : Fin 4) : Sees U c B (pre B gn h.1 h.2) (onH h (preD gn)) := by
  unfold pre preD
  refine Sees.bindH (sees_ldLow h) fun l => Sees.bindH (sees_ldCol .q h) fun xq => Sees.bindH (sees_ldCol .f h) fun xf => Sees.bindH (sees_ldCol .g h) fun g =>
    Sees.bindH (sees_ldCol .o h) fun o' => Sees.bindH (sees_ldCol .dog h) fun dog => Sees.bindH (sees_stOut 3 h _) fun _ => Sees.bindH (sees_addGn h _) fun _ =>
    Sees.bindH (sees_ldCol .i h) fun xi => Sees.bindH (sees_stTop .dv h _) fun _ => Sees.bindH (sees_stTop .dqh h _) fun _ => Sees.bindH (sees_stTop .dkh h _) fun _ =>
    Sees.bindH (sees_stBot .dv h _) fun _ => Sees.bindH (sees_stBot .dqh h _) fun _ => Sees.bindH (sees_stBot .dkh h _) fun _ => ?_
  exact Sees.bindH (sees_ds h) fun s => Sees.retH h _

/-- One chunk of one head. -/
def stepD (H : Head F) (k : ℕ) (hk : k < 16) (ds : Mat F) : StateM (Hd F × Row F) (Mat F) := do
  let s ← lk fun x => x.st ⟨k, hk⟩
  ch fun x => x.setT .dqi (putAt (32 * k) 32 (stQ (rows32 k hk H.dob) s) (x.t .dqi))
  ch fun x => x.setT .dko (putAt (32 * k) 32 (stQ (rows32 k hk H.vb) ds) (x.t .dko))
  let v ← lk fun x => rowsOf k hk (x.t .dv)
  ch fun x => x.setT .dv (putAt (32 * k) 32 (addf v (stV (rows32 k hk H.ko) ds)) (x.t .dv))
  ch fun x => x.setT .dd (putAt (32 * k) 32 (broadcastTo S32x128 (shapeCast S1x128 (decGrad (decRow k hk H.dec) ds s) shapeCasts_S1x128_S1x128) broadcasts_S1x128_S32x128) (x.t .dd))
  pure (dsNext (decRow k hk H.dec) ds (rows32 k hk H.dob) (rows32 k hk H.qi))

theorem sees_step (H : Head F) (k : ℕ) (hk : k < 16) (h : Fin 4) (ds : Mat F) : Sees U c B (step B H k hk h.1 h.2 ds) (onH h (stepD H k hk ds)) := by
  unfold step stepD
  exact Sees.bindH (sees_state k hk h) fun s => Sees.bindH (sees_stChk .dqi k hk h _) fun _ => Sees.bindH (sees_stChk .dko k hk h _) fun _ =>
    Sees.bindH (sees_ldChk .dv k hk h) fun v => Sees.bindH (sees_stChk .dv k hk h _) fun _ => Sees.bindH (sees_stChk .dd k hk h _) fun _ => Sees.retH h _

/-- A head's epilogue. -/
def postD (H : Head F) (ds : Mat F) : StateM (Hd F × Row F) PUnit := do
  ch fun y => { y with ds := ds }
  let dko ← lk fun x => x.t .dko
  let dqh ← lk fun x => x.t .dqh
  let dqi ← lk fun x => x.t .dqi
  let dkh ← lk fun x => x.t .dkh
  let dd ← lk fun x => x.t .dd
  let df : FVec F S512x128 .f32 := gf H dko dqh dqi dkh dd
  ch fun y => { y with d0 := addf (shapeCast S1x128 y.d0 shapeCasts_S1x128_S1x128) (mulf (mulf (glb H df) H.lb) (subf (litRow 0x3F800000#32) H.lb)) }
  ch fun y => { y with d1 := addf (shapeCast S1x128 y.d1 shapeCasts_S1x128_S1x128) (mulf (mulf (subf (litRow 0x00000000#32) (glb H df)) H.lb) H.lb') }
  ch fun x => { x with o := Function.update x.o 1 (bf (mulf (mulf (mulf df (tall (subf (litRow 0x3F800000#32) H.lb))) H.sf) (subf (lit 0x3F800000#32) H.sf))) }
  ch fun x => { x with o := Function.update x.o 0 (bf (mulf (mulf (gq H dqh dqi) (lit 0x3DB504F3#32)) (dsilu H.xq H.sq))) }
  let dv ← lk fun x => x.t .dv
  ch fun x => { x with o := Function.update x.o 2 (bf dv) }

theorem sees_post (H : Head F) (h : Fin 4) (ds : Mat F) : Sees U c B (post B H h.1 h.2 ds) (onH h (postD H ds)) := by
  unfold post postD
  exact Sees.bindH (sees_stDs h ds) fun _ => Sees.bindH (sees_ldCol .dko h) fun dko => Sees.bindH (sees_ldCol .dqh h) fun dqh => Sees.bindH (sees_ldCol .dqi h) fun dqi =>
    Sees.bindH (sees_ldCol .dkh h) fun dkh => Sees.bindH (sees_ldCol .dd h) fun dd => Sees.bindH (sees_row0 h _) fun _ => Sees.bindH (sees_row1 h _) fun _ =>
    Sees.bindH (sees_stOut 1 h _) fun _ => Sees.bindH (sees_stOut 0 h _) fun _ => Sees.bindH (sees_ldCol .dv h) fun dv => sees_stOut 2 h _

end Cert.Hg
-- ==== Proof.HgClosed.lean ====
/- What the kernel's body leaves, in closed form: each head's four parts of the result, its two rows and its carried
   gradient as functions of its inputs alone. -/
module

public import proofs.«01_k».proof.Proof.HgState

@[expose] public section

noncomputable section

namespace Cert.Hg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel2Ideal
open Cert.Kernel2Ideal.Facts₀ Cert.Kernel2Ideal.Facts

variable {F : FTy → Type} [FloatOps F]

/-- What a head reads. -/
structure Inp (F : FTy → Type) [FloatOps F] where
  q : Tile F
  f : Tile F
  i : Tile F
  g : Tile F
  o : Tile F
  dog : Tile F
  l0 : Row F
  l1 : Row F
  gn : Row F
  st : Fin 16 → Mat F

/-- A head's inputs among what it sees. -/
def Hd.inp (x : Hd F) (gn : Row F) : Inp F := ⟨x.t .q, x.t .f, x.t .i, x.t .g, x.t .o, x.t .dog, x.l0, x.l1, gn, x.st⟩

namespace Inp
variable (I : Inp F)
/-- The normed rows before the norm, and what the chunks read. -/
def oo : Tile F := shapeCast S512x128 I.o shapeCasts_S512x128_S512x128
def head : Head F := ⟨soft1 I.l0 I.l1, soft2 I.l0 I.l1, I.q, I.f, I.i, dnorm I.oo (mulf (dxn I.g I.dog) (tall I.gn))⟩
/-- The gain's gradient from this head. -/
def dgain : Row F := colSum (mulf (dxn I.g I.dog) (mulf I.oo (wide (rms I.oo))))
/-- The carried gradient after `j` chunks. -/
def carry (ds : Mat F) : ℕ → Mat F
  | 0 => ds
  | j + 1 => if h : j < 16 then
      dsNext (decRow (15 - j) (by omega) I.head.dec) (carry ds j) (rows32 (15 - j) (by omega) I.head.dob) (rows32 (15 - j) (by omega) I.head.qi)
    else carry ds j
/-- Two halves of a tile. -/
def stack (a b : FVec F S256x128 .f32) : Tile F := fun j =>
  if h : (j 0).val < 256 then a (ix2 (n0 := 256) ⟨(j 0).val, h⟩ (j 1)) else b (ix2 (n0 := 256) ⟨(j 0).val - 256, by have : (j 0).val < 512 := (j 0).isLt; omega⟩ (j 1))
/-- Sixteen chunks of a tile. -/
def tile16 (v : (k : ℕ) → k < 16 → FVec F S32x128 .f32) : Tile F := fun j =>
  v ((j 0).val / 32) (by have : (j 0).val < 512 := (j 0).isLt; omega) (ix2 (n0 := 32) ⟨(j 0).val % 32, Nat.mod_lt _ (by decide)⟩ (j 1))
/-- The products within the half tiles. -/
def dv0 : Tile F := stack (scoresT (scores (half0 I.head.qh) (half0 I.head.kh)) (half0 I.head.dob)) (scoresT (scores (half1 I.head.qh) (half1 I.head.kh)) (half1 I.head.dob))
def dqh : Tile F := stack (scoresN (scores (half0 I.head.dob) (half0 I.head.vb)) (half0 I.head.kh)) (scoresN (scores (half1 I.head.dob) (half1 I.head.vb)) (half1 I.head.kh))
def dkh : Tile F := stack (scoresT (scores (half0 I.head.dob) (half0 I.head.vb)) (half0 I.head.qh)) (scoresT (scores (half1 I.head.dob) (half1 I.head.vb)) (half1 I.head.qh))
/-- The chunks' products. -/
def vqi (k : ℕ) (hk : k < 16) : FVec F S32x128 .f32 := stQ (rows32 k hk I.head.dob) (I.st ⟨k, hk⟩)
def vko (ds : Mat F) (k : ℕ) (hk : k < 16) : FVec F S32x128 .f32 := stQ (rows32 k hk I.head.vb) (I.carry ds (15 - k))
def vv (ds : Mat F) (k : ℕ) (hk : k < 16) : FVec F S32x128 .f32 := addf (rowsOf k hk I.dv0) (stV (rows32 k hk I.head.ko) (I.carry ds (15 - k)))
def vd (ds : Mat F) (k : ℕ) (hk : k < 16) : FVec F S32x128 .f32 :=
  broadcastTo S32x128 (shapeCast S1x128 (decGrad (decRow k hk I.head.dec) (I.carry ds (15 - k)) (I.st ⟨k, hk⟩)) shapeCasts_S1x128_S1x128) broadcasts_S1x128_S32x128
def dqi : Tile F := tile16 I.vqi
def dko (ds : Mat F) : Tile F := tile16 (I.vko ds)
def dv (ds : Mat F) : Tile F := tile16 (I.vv ds)
def dd (ds : Mat F) : Tile F := tile16 (I.vd ds)
/-- The gradient of the forget gate. -/
def df (ds : Mat F) : Tile F := gf I.head (I.dko ds) I.dqh I.dqi I.dkh (I.dd ds)
/-- The four parts of the result. -/
def out (ds : Mat F) : Fin 4 → FVec F S512x128 .bf16 := ![
  bf (mulf (mulf (gq I.head I.dqh I.dqi) (lit 0x3DB504F3#32)) (dsilu I.head.xq I.head.sq)),
  bf (mulf (mulf (mulf (I.df ds) (tall (subf (litRow 0x3F800000#32) I.head.lb))) I.head.sf) (subf (lit 0x3F800000#32) I.head.sf)),
  bf (I.dv ds),
  bf (dgate I.gn I.g I.oo I.dog)]
/-- What the two rows grow by. -/
def inc0 (ds : Mat F) : Row F := mulf (mulf (glb I.head (I.df ds)) I.head.lb) (subf (litRow 0x3F800000#32) I.head.lb)
def inc1 (ds : Mat F) : Row F := mulf (mulf (subf (litRow 0x00000000#32) (glb I.head (I.df ds))) I.head.lb) I.head.lb'
end Inp

/-! ### The prologue -/

theorem putAt_stack (a b : FVec F S256x128 .f32) (T : Tile F) : putAt 256 256 b (putAt 0 256 a T) = Inp.stack a b := by
  funext j
  have hj : (j 0).val < 512 := (j 0).isLt
  unfold putAt Inp.stack
  by_cases h : (j 0).val < 256
  · rw [dif_neg (by omega), dif_pos (by omega), dif_pos h]; rfl
  · rw [dif_pos (by omega), dif_neg h]

/-- Rows of one tile of a head replaced. -/
def pt (b : Big) (o n : ℕ) (w : (⟨2, ![n, 128]⟩ : Shape).Idx → F .f32) (x : Hd F) : Hd F := x.setT b (putAt o n w (x.t b))

/-- Three tiles of a head. -/
def set3 (x : Hd F) (a b d : Tile F) : Hd F := { x with t := Function.update (Function.update (Function.update x.t .dv a) .dqh b) .dkh d }

theorem pt6 (x : Hd F) (a b d a' b' d' : FVec F S256x128 .f32) :
    pt .dkh 256 256 d' (pt .dqh 256 256 b' (pt .dv 256 256 a' (pt .dkh 0 256 d (pt .dqh 0 256 b (pt .dv 0 256 a x)))))
      = set3 x (Inp.stack a a') (Inp.stack b b') (Inp.stack d d') := by
  unfold set3
  rw [← putAt_stack a a' (x.t .dv), ← putAt_stack b b' (x.t .dqh), ← putAt_stack d d' (x.t .dkh)]
  unfold pt Hd.setT
  congr 1
  funext k
  cases k <;> rfl

/-- What the prologue leaves of a head. -/
def preT (gn : Row F) (x : Hd F) : Hd F :=
  set3 { x with o := Function.update x.o 3 (bf (dgate gn (x.t .g) (x.inp gn).oo (x.t .dog))) } (x.inp gn).dv0 (x.inp gn).dqh (x.inp gn).dkh

theorem preD_eq (gn : Row F) (y : Hd F × Row F) :
    preD gn y = (((y.1.inp gn).head, y.1.ds), (preT gn y.1, addf (shapeCast S1x128 y.2 shapeCasts_S1x128_S1x128) (y.1.inp gn).dgain)) := by
  obtain ⟨x, r⟩ := y
  have e := pt6 { x with o := Function.update x.o 3 (bf (dgate gn (x.t .g) (x.inp gn).oo (x.t .dog))) }
    (scoresT (scores (half0 (x.inp gn).head.qh) (half0 (x.inp gn).head.kh)) (half0 (x.inp gn).head.dob))
    (scoresN (scores (half0 (x.inp gn).head.dob) (half0 (x.inp gn).head.vb)) (half0 (x.inp gn).head.kh))
    (scoresT (scores (half0 (x.inp gn).head.dob) (half0 (x.inp gn).head.vb)) (half0 (x.inp gn).head.qh))
    (scoresT (scores (half1 (x.inp gn).head.qh) (half1 (x.inp gn).head.kh)) (half1 (x.inp gn).head.dob))
    (scoresN (scores (half1 (x.inp gn).head.dob) (half1 (x.inp gn).head.vb)) (half1 (x.inp gn).head.kh))
    (scoresT (scores (half1 (x.inp gn).head.dob) (half1 (x.inp gn).head.vb)) (half1 (x.inp gn).head.qh))
  unfold preT Inp.dv0 Inp.dqh Inp.dkh
  rw [← e]
  rfl

/-! ### The chunks -/

/-- Four tiles of a head. -/
def set4 (x : Hd F) (a b d e : Tile F) : Hd F :=
  { x with t := Function.update (Function.update (Function.update (Function.update x.t .dqi a) .dko b) .dv d) .dd e }

/-- One chunk of one head. -/
def stepF (H : Head F) (k : ℕ) (hk : k < 16) (ds : Mat F) (x : Hd F) : Mat F × Hd F :=
  (dsNext (decRow k hk H.dec) ds (rows32 k hk H.dob) (rows32 k hk H.qi),
    set4 x (putAt (32 * k) 32 (stQ (rows32 k hk H.dob) (x.st ⟨k, hk⟩)) (x.t .dqi)) (putAt (32 * k) 32 (stQ (rows32 k hk H.vb) ds) (x.t .dko))
      (putAt (32 * k) 32 (addf (rowsOf k hk (x.t .dv)) (stV (rows32 k hk H.ko) ds)) (x.t .dv))
      (putAt (32 * k) 32 (broadcastTo S32x128 (shapeCast S1x128 (decGrad (decRow k hk H.dec) ds (x.st ⟨k, hk⟩)) shapeCasts_S1x128_S1x128) broadcasts_S1x128_S32x128) (x.t .dd)))

theorem stepD_eq (H : Head F) (k : ℕ) (hk : k < 16) (ds : Mat F) (y : Hd F × Row F) :
    stepD H k hk ds y = ((stepF H k hk ds y.1).1, ((stepF H k hk ds y.1).2, y.2)) := by
  obtain ⟨x, r⟩ := y
  have e : ∀ (a b e : FVec F S32x128 .f32) (d : FVec F S32x128 .f32),
      pt .dd (32 * k) 32 e (pt .dv (32 * k) 32 d (pt .dko (32 * k) 32 b (pt .dqi (32 * k) 32 a x)))
        = set4 x (putAt (32 * k) 32 a (x.t .dqi)) (putAt (32 * k) 32 b (x.t .dko)) (putAt (32 * k) 32 d (x.t .dv)) (putAt (32 * k) 32 e (x.t .dd)) := by
    intro a b e d
    unfold pt Hd.setT set4
    congr 1
  unfold stepF
  rw [← e]
  rfl

/-- The chunks below `n` of one head, the last first. -/
def walk (H : Head F) : (n : ℕ) → n ≤ 16 → Mat F → Hd F → Mat F × Hd F
  | 0, _, ds, x => (ds, x)
  | n + 1, hn, ds, x => walk H n (Nat.le_of_succ_le hn) (stepF H n hn ds x).1 (stepF H n hn ds x).2

/-- A tile whose first rows are replaced. -/
def upto (n : ℕ) (V T : Tile F) : Tile F := fun j => if (j 0).val < 32 * n then V j else T j

theorem putAt_upto (n : ℕ) (hn : n < 16) (v : (k : ℕ) → k < 16 → FVec F S32x128 .f32) (T : Tile F) :
    upto n (Inp.tile16 v) (putAt (32 * n) 32 (v n hn) T) = upto (n + 1) (Inp.tile16 v) T := by
  funext j
  have hj : (j 0).val < 512 := (j 0).isLt
  unfold upto putAt
  by_cases h : (j 0).val < 32 * n
  · rw [if_pos h, if_pos (by omega)]
  · rw [if_neg h]
    by_cases h' : (j 0).val < 32 * (n + 1)
    · rw [if_pos h', dif_pos (by omega)]
      unfold Inp.tile16
      have e1 : (j 0).val / 32 = n := by omega
      have e2 : (j 0).val % 32 = (j 0).val - 32 * n := by omega
      simp only [e1, e2]
    · rw [if_neg h', dif_neg (by omega)]

theorem rowsOf_upto (n : ℕ) (hn : n < 16) (k : ℕ) (hk : k < 16) (h : k ≠ n) (w : FVec F S32x128 .f32) (T : Tile F) :
    rowsOf k hk (putAt (32 * n) 32 w T) = rowsOf k hk T := by
  funext j
  have hj : (j 0).val < 32 := (j 0).isLt
  show putAt (32 * n) 32 w T (ix2 (n0 := 512) ⟨32 * k + (j 0).val, _⟩ (j 1)) = _
  unfold putAt
  rw [dif_neg]
  · rfl
  · show ¬ (32 * n ≤ 32 * k + (j 0).val ∧ 32 * k + (j 0).val < 32 * n + 32)
    omega

theorem carry_succ (I : Inp F) (ds : Mat F) (j : ℕ) (h : j < 16) :
    I.carry ds (j + 1) = dsNext (decRow (15 - j) (by omega) I.head.dec) (I.carry ds j) (rows32 (15 - j) (by omega) I.head.dob) (rows32 (15 - j) (by omega) I.head.qi) := by
  rw [Inp.carry, dif_pos h]

/-- What the chunks below `n` leave of one head. -/
theorem walk_eq (I : Inp F) (ds : Mat F) (n : ℕ) (hn : n ≤ 16) (x : Hd F) (hst : x.st = I.st)
    (hv : ∀ k (hk : k < 16), k < n → rowsOf k hk (x.t .dv) = rowsOf k hk I.dv0) :
    walk I.head n hn (I.carry ds (16 - n)) x = (I.carry ds 16, set4 x (upto n I.dqi (x.t .dqi)) (upto n (I.dko ds) (x.t .dko))
      (upto n (I.dv ds) (x.t .dv)) (upto n (I.dd ds) (x.t .dd))) := by
  induction n generalizing x with
  | zero =>
    show (I.carry ds 16, x) = _
    have e : ∀ V T : Tile F, upto 0 V T = T := fun V T => funext fun j => if_neg (by omega)
    rw [e, e, e, e]
    have : set4 x (x.t .dqi) (x.t .dko) (x.t .dv) (x.t .dd) = x := by
      unfold set4
      have : Function.update (Function.update (Function.update (Function.update x.t .dqi (x.t .dqi)) .dko (x.t .dko)) .dv (x.t .dv)) .dd (x.t .dd) = x.t := by
        funext k; cases k <;> rfl
      rw [this]
    rw [this]
  | succ n ih =>
    have hn' : n < 16 := hn
    have e15 : 15 - (15 - n) = n := by omega
    have ec : dsNext (decRow n hn' I.head.dec) (I.carry ds (16 - (n + 1))) (rows32 n hn' I.head.dob) (rows32 n hn' I.head.qi) = I.carry ds (16 - n) := by
      have e1 : 16 - (n + 1) = 15 - n := by omega
      have e2 : 16 - n = (15 - n) + 1 := by omega
      rw [e1, e2]
      rw [carry_succ I ds (15 - n) (by omega)]
      have key : ∀ m (hm : m < 16) (C : Mat F), m = n → dsNext (decRow n hn' I.head.dec) C (rows32 n hn' I.head.dob) (rows32 n hn' I.head.qi)
          = dsNext (decRow m hm I.head.dec) C (rows32 m hm I.head.dob) (rows32 m hm I.head.qi) := by
        rintro m hm C rfl; rfl
      exact key _ _ _ e15
    show walk I.head n _ (stepF I.head n hn' (I.carry ds (16 - (n + 1))) x).1 (stepF I.head n hn' (I.carry ds (16 - (n + 1))) x).2 = _
    unfold stepF
    dsimp only
    rw [ec, ih]
    · have q1 := putAt_upto n hn' I.vqi (x.t .dqi)
      have q2 := putAt_upto n hn' (I.vko ds) (x.t .dko)
      have q3 := putAt_upto n hn' (I.vv ds) (x.t .dv)
      have q4 := putAt_upto n hn' (I.vd ds) (x.t .dd)
      have e1 : 16 - (n + 1) = 15 - n := by omega
      rw [hv n hn' (Nat.lt_succ_self n), hst, e1]
      unfold Inp.dqi Inp.dko Inp.dv Inp.dd
      rw [← q1, ← q2, ← q3, ← q4]
      congr 1
      unfold set4
      congr 1
      funext k
      cases k <;> rfl
    · exact hst
    · intro k hk hkn
      show rowsOf k hk (putAt (32 * n) 32 _ (x.t .dv)) = _
      rw [rowsOf_upto n hn' k hk (by omega)]
      exact hv k hk (by omega)

theorem upto_all (V T : Tile F) : upto 16 V T = V := funext fun j => if_pos (by have : (j 0).val < 512 := (j 0).isLt; omega)

/-! ### A head's whole run -/

/-- What the epilogue leaves of a head. -/
def postT (H : Head F) (ds : Mat F) (x : Hd F) : Hd F := (postD H ds (x, litRow 0#32)).2.1

theorem postD_eq (H : Head F) (ds : Mat F) (y : Hd F × Row F) : postD H ds y = (⟨⟩, (postT H ds y.1, y.2)) := rfl

/-- What the body leaves of a head. -/
def headT (gn : Row F) (x : Hd F) : Hd F :=
  postT (x.inp gn).head (walk (x.inp gn).head 16 le_rfl x.ds (preT gn x)).1 (walk (x.inp gn).head 16 le_rfl x.ds (preT gn x)).2

theorem headT_eq (gn : Row F) (x : Hd F) :
    (headT gn x).o = (x.inp gn).out x.ds ∧ (headT gn x).d0 = addf (shapeCast S1x128 x.d0 shapeCasts_S1x128_S1x128) ((x.inp gn).inc0 x.ds)
      ∧ (headT gn x).d1 = addf (shapeCast S1x128 x.d1 shapeCasts_S1x128_S1x128) ((x.inp gn).inc1 x.ds) ∧ (headT gn x).ds = (x.inp gn).carry x.ds 16 := by
  have hw := walk_eq (x.inp gn) x.ds 16 le_rfl (preT gn x) rfl (fun k hk _ => rfl)
  rw [show 16 - 16 = 0 from rfl, show (x.inp gn).carry x.ds 0 = x.ds from rfl, upto_all, upto_all, upto_all, upto_all] at hw
  unfold headT
  rw [hw]
  refine ⟨?_, rfl, rfl, rfl⟩
  funext j
  match j with
  | 0 => rfl
  | 1 => rfl
  | 2 => rfl
  | 3 => rfl

/-! ### The four heads -/

/-- One of four. -/
def Four.get {α : Type} (x : Four α) : Fin 4 → α
  | 0 => x.a0
  | 1 => x.a1
  | 2 => x.a2
  | 3 => x.a3

/-- A change of every head. -/
def allH {α : Type} (f : Fin 4 → Hd F → α × Hd F) : Al F → Four α × Al F := fun a =>
  (⟨(f 0 (a.hd 0)).1, (f 1 (a.hd 1)).1, (f 2 (a.hd 2)).1, (f 3 (a.hd 3)).1⟩, { a with hd := fun h => (f h (a.hd h)).2 })

/-- Four changes of one head each, the gain's gradient read and changed by each. -/
theorem onH_four {α : Type} (g : Fin 4 → StateM (Hd F × Row F) α) (f : Fin 4 → Hd F → α × Hd F) (q : Fin 4 → Hd F → Row F → Row F)
    (hg : ∀ h y, g h y = ((f h y.1).1, ((f h y.1).2, q h y.1 y.2))) (a : Al F) :
    let r0 := onH 0 (g 0) a
    let r1 := onH 1 (g 1) r0.2
    let r2 := onH 2 (g 2) r1.2
    let r3 := onH 3 (g 3) r2.2
    ((⟨r0.1, r1.1, r2.1, r3.1⟩, r3.2) : Four α × Al F)
      = ((allH f a).1, { (allH f a).2 with dgn := q 3 (a.hd 3) (q 2 (a.hd 2) (q 1 (a.hd 1) (q 0 (a.hd 0) a.dgn))) }) := by
  have n10 : (1 : Fin 4) ≠ 0 := by decide
  have n20 : (2 : Fin 4) ≠ 0 := by decide
  have n21 : (2 : Fin 4) ≠ 1 := by decide
  have n30 : (3 : Fin 4) ≠ 0 := by decide
  have n31 : (3 : Fin 4) ≠ 1 := by decide
  have n32 : (3 : Fin 4) ≠ 2 := by decide
  unfold onH allH
  simp only [hg, Function.update_of_ne n10, Function.update_of_ne n20, Function.update_of_ne n21, Function.update_of_ne n30, Function.update_of_ne n31, Function.update_of_ne n32]
  congr 2
  funext h
  match h with
  | 0 => rfl
  | 1 => rfl
  | 2 => rfl
  | 3 => rfl

/-- One change of every head after another. -/
theorem allH_comp {α β : Type} (f : Fin 4 → Hd F → α × Hd F) (g : Fin 4 → α → Hd F → β × Hd F) (a : Al F) :
    allH (fun h => g h ((allH f a).1.get h)) (allH f a).2 = allH (fun h x => g h (f h x).1 (f h x).2) a := by
  refine Prod.ext rfl (congrArg (fun hd => ({ hd := hd, gn := a.gn, dgn := a.dgn } : Al F)) (funext fun h => ?_))
  match h with
  | 0 => rfl
  | 1 => rfl
  | 2 => rfl
  | 3 => rfl

theorem Four.get_mk {α : Type} (f : Fin 4 → α) (h : Fin 4) : (⟨f 0, f 1, f 2, f 3⟩ : Four α).get h = f h := by
  match h with
  | 0 => rfl
  | 1 => rfl
  | 2 => rfl
  | 3 => rfl

variable {U : Type} [URA U] {c : Dev nD} {B : Bufs}

theorem Sees.congr {α : Type} {p : P F α} {d d' : Al F → α × Al F} (h : Sees U c B p d) (e : ∀ a, d a = d' a) : Sees U c B p d' := by
  rwa [show d = d' from funext e] at h

theorem sees_chunk (H : Four (Head F)) (k : ℕ) (hk : k < 16) (ds : Four (Mat F)) :
    Sees U c B (chunk B H k hk ds) (allH fun h => stepF (H.get h) k hk (ds.get h)) := by
  unfold chunk
  refine Sees.congr (Sees.bind (sees_step H.a0 k hk 0 ds.a0) fun d0 => Sees.bind (sees_step H.a1 k hk 1 ds.a1) fun d1 => Sees.bind (sees_step H.a2 k hk 2 ds.a2) fun d2 =>
    Sees.bind (sees_step H.a3 k hk 3 ds.a3) fun d3 => Sees.ret _) fun a => ?_
  exact onH_four (fun h => stepD (H.get h) k hk (ds.get h)) (fun h => stepF (H.get h) k hk (ds.get h)) (fun _ _ r => r) (fun h y => stepD_eq _ _ _ _ _) a

theorem sees_chunks (H : Four (Head F)) (n : ℕ) (hn : n ≤ 16) (ds : Four (Mat F)) :
    Sees U c B (chunks B H n hn ds) (allH fun h => walk (H.get h) n hn (ds.get h)) := by
  induction n generalizing ds with
  | zero => exact Sees.ret ds
  | succ n ih =>
    rw [show chunks B H (n + 1) hn ds = (chunk B H n hn ds >>= fun ds => chunks B H n (Nat.le_of_succ_le hn) ds) from rfl]
    refine Sees.congr (Sees.bind (sees_chunk H n hn ds) fun ds' => ih (Nat.le_of_succ_le hn) ds') fun a => ?_
    exact allH_comp (fun h => stepF (H.get h) n hn (ds.get h)) (fun h d => walk (H.get h) n (Nat.le_of_succ_le hn) d) a

/-- The gain's gradient after the four heads. -/
def gainT (a : Al F) : Row F :=
  addf (shapeCast S1x128 (addf (shapeCast S1x128 (addf (shapeCast S1x128 (addf (shapeCast S1x128 a.dgn shapeCasts_S1x128_S1x128) ((a.hd 0).inp a.gn).dgain)
    shapeCasts_S1x128_S1x128) ((a.hd 1).inp a.gn).dgain) shapeCasts_S1x128_S1x128) ((a.hd 2).inp a.gn).dgain) shapeCasts_S1x128_S1x128) ((a.hd 3).inp a.gn).dgain

theorem sees_pres (gn : Row F) : Sees U c B (pres B gn) fun a =>
    (⟨(((a.hd 0).inp gn).head, (a.hd 0).ds), (((a.hd 1).inp gn).head, (a.hd 1).ds), (((a.hd 2).inp gn).head, (a.hd 2).ds), (((a.hd 3).inp gn).head, (a.hd 3).ds)⟩,
      { hd := fun h => preT gn (a.hd h), gn := a.gn, dgn := gainT { a with gn := gn } }) := by
  unfold pres
  refine Sees.congr (Sees.bind (sees_pre gn 0) fun p0 => Sees.bind (sees_pre gn 1) fun p1 => Sees.bind (sees_pre gn 2) fun p2 =>
    Sees.bind (sees_pre gn 3) fun p3 => Sees.ret _) fun a => ?_
  exact onH_four (fun _ => preD gn) (fun _ x => (((x.inp gn).head, x.ds), preT gn x)) (fun _ x r => addf (shapeCast S1x128 r shapeCasts_S1x128_S1x128) (x.inp gn).dgain)
    (fun h y => preD_eq _ _) a

theorem sees_posts (H : Four (Head F)) (ds : Four (Mat F)) : Sees U c B (posts B H ds) (allH fun h x => (⟨⟩, postT (H.get h) (ds.get h) x)) := by
  unfold posts
  refine Sees.congr (Sees.bind (sees_post H.a0 0 ds.a0) fun _ => Sees.bind (sees_post H.a1 1 ds.a1) fun _ => Sees.bind (sees_post H.a2 2 ds.a2) fun _ =>
    Sees.bind (sees_post H.a3 3 ds.a3) fun _ => Sees.ret _) fun a => ?_
  exact onH_four (fun h => postD (H.get h) (ds.get h)) (fun h x => (⟨⟩, postT (H.get h) (ds.get h) x)) (fun _ _ r => r) (fun h y => postD_eq _ _ _) a

/-- What the body leaves. -/
def mainT (a : Al F) : Al F where
  hd h := headT a.gn (a.hd h)
  gn := a.gn
  dgn := gainT a

theorem sees_main : Sees U c B (main (F := F) B) fun a => (⟨⟩, mainT a) := by
  unfold main
  refine Sees.congr (Sees.bind sees_ldGn fun gn => Sees.bind (sees_pres gn) fun p => Sees.bind (sees_chunks _ 16 le_rfl _) fun ds =>
    Sees.bind (sees_posts _ ds) fun _ => Sees.ret _) fun a => ?_
  have e := allH_comp (fun h => walk ((a.hd h).inp a.gn).head 16 le_rfl (a.hd h).ds) (fun h d x => ((⟨⟩ : PUnit), postT ((a.hd h).inp a.gn).head d x))
    { hd := fun h => preT a.gn (a.hd h), gn := a.gn, dgn := gainT a }
  have eh := fun h => Four.get_mk (fun h => ((a.hd h).inp a.gn).head) h
  have ed := fun h => Four.get_mk (fun h => (a.hd h).ds) h
  refine Prod.ext rfl ?_
  dsimp only
  simp only [eh, ed]
  rw [e]
  rfl

/-! ### The start of the sums -/

theorem put_unit0 {s : Shape} {α : Type} (off : Fin s.rank → ℕ) (h0 : ∀ a, off a = 0) (inb : ∀ a, off a + s.size a ≤ s.size a) (w X : s.Idx → α) :
    put (Rect.unit (s := s) off s.size inb) w X = w := by
  funext i
  have e : (Rect.unit (s := s) off s.size inb).emb i = i := funext fun a => Fin.ext (by
    show off a + 1 * (i a).val = (i a).val
    rw [h0]; omega)
  have := put_emb (Rect.unit (s := s) off s.size inb) w X i
  rw [e] at this
  exact this

/-- Whether a point starts the carried gradients and the rows' sums. -/
abbrev first (i : grid0.Coords) : Prop := Scalar.cmpi .ne (Scalar.extui (Scalar.cmpi .eq (BitVec.ofNat 32 (i 1).val) 0#32)) 0#32 = 1#1
/-- Whether it starts the gain's. -/
abbrev first' (i : grid0.Coords) : Prop :=
  Scalar.cmpi .ne (Scalar.extui (Scalar.andi (Scalar.cmpi .eq (BitVec.ofNat 32 (i 1).val) 0#32) (Scalar.cmpi .eq (BitVec.ofNat 32 (i 0).val) 0#32))) 0#32 = 1#1

/-- The contents after the sums' start. -/
def zero3 : S4x128x128.Idx → F .f32 := broadcast S4x128x128 (Scalar.ofBits .f32 0x00000000#32)
def zero2 : S2x512.Idx → F .f32 := broadcast S2x512 (Scalar.ofBits .f32 0x00000000#32)
def clearS (i : grid0.Coords) (s : St F) : St F :=
  let s1 : St F := if first i then Function.update (Function.update s .ds zero3) .dlow zero2 else s
  if first' i then Function.update s1 .dgn (litRow 0x00000000#32) else s1

theorem runs_whole (k : Key) (r : Rect k.sh) (w : r.shape.Idx → Elt F k.el) (W : k.sh.Idx → Elt F k.el) (hw : ∀ X, put r w X = W) (hl : (B.at k).view.LoadsAt r.toLoadRect) (hx : ((B.at k).access r).Stores Finset.univ)
    (hm : (Finset.univ : Finset r.shape.Idx) = Finset.univ ∨ ∀ a, r.stride a = 1) :
    Runs U c B (Prog.lift (.load (B.at k) r.toLoadRect hl) >>= fun _ => Prog.lift (.store (B.at k) r w Finset.univ hx hm) : P F PUnit) (fun s => (⟨⟩, Function.update s k W)) := by
  have := runs_over (U := U) (c := c) (B := B) k r w hl hx hm
  rwa [show wr k r w = fun s => (⟨⟩, Function.update s k W) from funext fun s => by unfold wr; rw [hw]] at this

theorem Runs.congr {α : Type} {p : P F α} {d d' : StateM (St F) α} (h : Runs U c B p d) (e : ∀ s, d s = d' s) : Runs U c B p d' := by
  rwa [show d = d' from funext e] at h

theorem runs_zeroDs : Runs U c B (zeroDs (F := F) B.ds) (fun s => (⟨⟩, Function.update s .ds zero3)) :=
  runs_whole .ds (Rect.unit (s := S4x128x128) ![0, 0, 0] S4x128x128.size inb_S4x128x128_S4x128x128_0_0_0)
    (shapeCast S4x128x128 (broadcast S4x128x128 (Scalar.ofBits .f32 0x00000000#32) : FVec F S4x128x128 .f32) shapeCasts_S4x128x128_S4x128x128) zero3
    (fun X => (put_unit0 (s := S4x128x128) ![0, 0, 0] (by decide) _ _ X).trans (shapeCast_id _ _)) _ _ _
theorem runs_zeroLow : Runs U c B (zeroLow (F := F) B.dlow) (fun s => (⟨⟩, Function.update s .dlow zero2)) :=
  runs_whole .dlow (Rect.unit (s := S2x512) ![0, 0] S2x512.size inb_S2x512_S2x512_0_0) (broadcast S2x512 (Scalar.ofBits .f32 0x00000000#32) : FVec F S2x512 .f32) zero2
    (fun X => put_unit0 (s := S2x512) ![0, 0] (by decide) _ _ X) _ _ _
theorem runs_zeroGn : Runs U c B (zeroGn (F := F) B.dgn) (fun s => (⟨⟩, Function.update s .dgn (litRow 0x00000000#32))) :=
  runs_whole .dgn (Rect.unit (s := S1x128) ![0, 0] S1x128.size inb_S1x128_S1x128_0_0) (litRow 0x00000000#32) (litRow 0x00000000#32)
    (fun X => put_unit0 (s := S1x128) ![0, 0] (by decide) _ _ X) _ _ _

theorem runs_clear (i : grid0.Coords) : Runs U c B (clear (F := F) i B) (fun s => (⟨⟩, clearS i s)) := by
  have h2 : Runs U c B (if k0_h2 : first' i then do
      zeroGn B.dgn
      pure ⟨⟩
    else do
      pure ⟨⟩ : P F PUnit) (fun s => (⟨⟩, if first' i then Function.update s .dgn (litRow 0x00000000#32) else s)) := by
    by_cases h : first' i
    · rw [dif_pos h]
      simp only [if_pos h]
      have h0 := Runs.bind (runs_zeroGn (F := F) (U := U) (c := c) (B := B)) fun _ => Runs.ret PUnit.unit
      exact h0
    · rw [dif_neg h]
      simp only [if_neg h]
      exact Runs.ret _
  unfold clear
  by_cases h : first i
  · have h0 := Runs.bind (runs_zeroDs (F := F) (U := U) (c := c) (B := B)) fun _ => Runs.bind runs_zeroLow fun _ => h2
    dsimp only
    rw [dif_pos h]
    refine Runs.congr h0 fun s => ?_
    unfold clearS
    rw [if_pos h]
    rfl
  · dsimp only
    rw [dif_neg h]
    refine Runs.congr h2 fun s => ?_
    unfold clearS
    rw [if_neg h]

/-- The kernel's body. -/
theorem sees_body (i : grid0.Coords) (s : St F) (E : Set ℕ) (K : PUnit → sProp (MT nD τ sig Unit (Elt F) ℕ U ℕ)) :
    iprop(Holds U c B s ∗ (∀ s', ⌜see s' = mainT (see (clearS i s))⌝ -∗ Holds U c B s' -∗ K ⟨⟩)) ⊢ wp frame (wpE (defs₀ (F := F)) Variants.none (c : Thread nD τ) none) E (body i B) K := by
  unfold body
  rw [wp_bind]
  refine Entails.trans (sep_mono_right ?_) (runs_clear i s E _)
  iintro Hk H
  iapply (sees_main (clearS i s) E K)
  isplitl [H]; · iexact H
  iexact Hk

end Cert.Hg
-- ==== Proof.HgWhole.lean ====
/- The kernel's body at whole buffers: the four heads' views put together again, so that what the body leaves is named
   buffer by buffer. -/
module

public import proofs.«01_k».proof.Proof.HgClosed

@[expose] public section

noncomputable section

namespace Cert.Hg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel2Ideal
open Cert.Kernel2Ideal.Facts₀ Cert.Kernel2Ideal.Facts

variable {F : FTy → Type} [FloatOps F]

/-- The four heads' inputs. -/
def headsOf (s : St F) (h : Fin 4) : Inp F := (seeH s h).inp (see s).gn

/-- One head's carried gradient among the four. -/
def slotOf (ds : S4x128x128.Idx → F .f32) (h : Fin 4) : Mat F := shapeCast S128x128 (fun j => ds ((slot h.1 h.2).emb j)) shapeCasts_S1x128x128_S128x128
/-- The carried gradients after a point. -/
def nextDs (X : Fin 4 → Inp F) (ds : S4x128x128.Idx → F .f32) : S4x128x128.Idx → F .f32 := fun i =>
  ((X (i 0)).carry (slotOf ds (i 0)) 16) (ix2 (n0 := 128) (n1 := 128) (i 1) (i 2))
/-- A point's block of the first result. -/
def outOf (X : Fin 4 → Inp F) (ds : S4x128x128.Idx → F .f32) : S512x2048.Idx → F .bf16 := fun i =>
  (X ⟨(i 1).val / 128 % 4, Nat.mod_lt _ (by decide)⟩).out (slotOf ds ⟨(i 1).val / 128 % 4, Nat.mod_lt _ (by decide)⟩)
    ⟨(i 1).val / 512, by have : (i 1).val < 2048 := (i 1).isLt; omega⟩ (ix2 (n0 := 512) (n1 := 128) (i 0) ⟨(i 1).val % 128, Nat.mod_lt _ (by decide)⟩)
/-- The rows' sums after a point. -/
def lowOf (X : Fin 4 → Inp F) (ds : S4x128x128.Idx → F .f32) (lo : S2x512.Idx → F .f32) : S2x512.Idx → F .f32 := fun i =>
  let h : Fin 4 := ⟨(i 1).val / 128, by have : (i 1).val < 512 := (i 1).isLt; omega⟩
  let k : S1x128.Idx := ix2 (n0 := 1) (n1 := 128) 0 ⟨(i 1).val % 128, Nat.mod_lt _ (by decide)⟩
  if (i 0).val = 0 then addf (shapeCast S1x128 (fun j => lo ((row0 h.1 h.2).emb j)) shapeCasts_S1x128_S1x128) ((X h).inc0 (slotOf ds h)) k
  else addf (shapeCast S1x128 (fun j => lo ((row1 h.1 h.2).emb j)) shapeCasts_S1x128_S1x128) ((X h).inc1 (slotOf ds h)) k
/-- The gain's sum after a point. -/
def gnOf (X : Fin 4 → Inp F) (dgn : Row F) : Row F :=
  addf (shapeCast S1x128 (addf (shapeCast S1x128 (addf (shapeCast S1x128 (addf (shapeCast S1x128 dgn shapeCasts_S1x128_S1x128) (X 0).dgain)
    shapeCasts_S1x128_S1x128) (X 1).dgain) shapeCasts_S1x128_S1x128) (X 2).dgain) shapeCasts_S1x128_S1x128) (X 3).dgain

/-! ### Every element lies in some head's view -/

theorem col_cover (i : S512x512.Idx) : ∃ (h : Fin 4) (j : S512x128.Idx), (col h.1 h.2).emb j = i := by
  have hi : (i 1).val < 512 := (i 1).isLt
  refine ⟨⟨(i 1).val / 128, by omega⟩, ix2 (n0 := 512) (n1 := 128) (i 0) ⟨(i 1).val % 128, Nat.mod_lt _ (by decide)⟩, ?_⟩
  funext a; apply Fin.ext
  match a with
  | ⟨0, _⟩ => show 0 + 1 * (i 0).val = (i 0).val; omega
  | ⟨1, _⟩ => show 128 * ((i 1).val / 128) + 1 * ((i 1).val % 128) = (i 1).val; omega

theorem low_cover (i : S2x512.Idx) : ∃ (h : Fin 4) (j : S1x128.Idx),
    (lowR h.1 h.2).emb ((Rect.unit (s := S2x128) ![0, 0] S1x128.size inb_S2x128_S1x128_0_0).emb j) = i ∨
      (lowR h.1 h.2).emb ((Rect.unit (s := S2x128) ![1, 0] S1x128.size inb_S2x128_S1x128_1_0).emb j) = i := by
  have hi : (i 1).val < 512 := (i 1).isLt
  have h0 : (i 0).val < 2 := (i 0).isLt
  refine ⟨⟨(i 1).val / 128, by omega⟩, ix2 (n0 := 1) (n1 := 128) 0 ⟨(i 1).val % 128, Nat.mod_lt _ (by decide)⟩, ?_⟩
  rcases (show (i 0).val = 0 ∨ (i 0).val = 1 by omega) with e | e
  · left
    funext a; apply Fin.ext
    match a with
    | ⟨0, _⟩ => show 0 + 1 * (0 + 1 * 0) = (i 0).val; omega
    | ⟨1, _⟩ => show 128 * ((i 1).val / 128) + 1 * (0 + 1 * ((i 1).val % 128)) = (i 1).val; omega
  · right
    funext a; apply Fin.ext
    match a with
    | ⟨0, _⟩ => show 0 + 1 * (1 + 1 * 0) = (i 0).val; omega
    | ⟨1, _⟩ => show 128 * ((i 1).val / 128) + 1 * (0 + 1 * ((i 1).val % 128)) = (i 1).val; omega

theorem gn_emb (j : S1x128.Idx) : gnR.emb j = j := by
  funext a; apply Fin.ext
  match a with
  | ⟨0, _⟩ => show 0 + 1 * (j 0).val = (j 0).val; omega
  | ⟨1, _⟩ => show 0 + 1 * (j 1).val = (j 1).val; omega

theorem cast_eq_of {s s' : Shape} {α : Type} {x y : s.Idx → α} (h : Shape.ShapeCasts s s') (h' : Shape.ShapeCasts s' s) (e : shapeCast s' x h = shapeCast s' y h) : x = y := by
  have := congrArg (fun z => shapeCast s z h') e
  simpa [shapeCast_comp, shapeCast_id] using this

theorem st_cover (i : S4x16x128x128.Idx) : ∃ (h : Fin 4) (c : Fin 16) (j : S1x1x128x128.Idx), (state c.1 h.1 c.2 h.2).emb j = i := by
  refine ⟨⟨(i 0).val, (i 0).isLt⟩, ⟨(i 1).val, (i 1).isLt⟩, ix4 (n0 := 1) (n1 := 1) (n2 := 128) (n3 := 128) 0 0 (i 2) (i 3), ?_⟩
  funext a; apply Fin.ext
  match a with
  | ⟨0, _⟩ => show (i 0).val + 1 * 0 = (i 0).val; omega
  | ⟨1, _⟩ => show (i 1).val + 1 * 0 = (i 1).val; omega
  | ⟨2, _⟩ => show 0 + 1 * (i 2).val = (i 2).val; omega
  | ⟨3, _⟩ => show 0 + 1 * (i 3).val = (i 3).val; omega

/-- The buffers of inputs are the same where the heads see the same. -/
theorem same_inputs (s s' : St F) (h : headsOf s' = headsOf s) :
    (s' (.big .q) = s (.big .q) ∧ s' (.big .f) = s (.big .f) ∧ s' (.big .i) = s (.big .i) ∧ s' (.big .g) = s (.big .g) ∧ s' (.big .o) = s (.big .o)
      ∧ s' (.big .dog) = s (.big .dog)) ∧ s' .low = s .low ∧ s' .gn = s .gn ∧ s' .st = s .st := by
  have hh := fun k => congrFun h k
  have tile : ∀ b : Big, (∀ k, (seeH s' k).t b = (seeH s k).t b) → s' (.big b) = s (.big b) := by
    intro b hb
    funext i
    obtain ⟨k, j, rfl⟩ := col_cover i
    exact congrFun (hb k) j
  refine ⟨⟨tile .q fun k => congrArg Inp.q (hh k), tile .f fun k => congrArg Inp.f (hh k), tile .i fun k => congrArg Inp.i (hh k), tile .g fun k => congrArg Inp.g (hh k),
    tile .o fun k => congrArg Inp.o (hh k), tile .dog fun k => congrArg Inp.dog (hh k)⟩, ?_, ?_, ?_⟩
  · funext i
    obtain ⟨k, j, e | e⟩ := low_cover i
    · rw [← e]; exact congrFun (congrArg Inp.l0 (hh k)) j
    · rw [← e]; exact congrFun (congrArg Inp.l1 (hh k)) j
  · funext j
    have := congrFun (congrArg Inp.gn (hh 0)) j
    have e : s' .gn (gnR.emb j) = s .gn (gnR.emb j) := this
    rwa [gn_emb] at e
  · funext i
    obtain ⟨k, c, j, rfl⟩ := st_cover i
    have : shapeCast S128x128 (fun j => s' .st ((state c.1 k.1 c.2 k.2).emb j)) shapeCasts_S1x1x128x128_S128x128
        = shapeCast S128x128 (fun j => s .st ((state c.1 k.1 c.2 k.2).emb j)) shapeCasts_S1x1x128x128_S128x128 := congrFun (congrArg Inp.st (hh k)) c
    exact congrFun (cast_eq_of shapeCasts_S1x1x128x128_S128x128 shapeCasts_S1x1x128x128_S128x128.symm this) j

theorem headT_inp (gn : Row F) (x : Hd F) : (headT gn x).inp gn = x.inp gn := rfl

/-- What the first result's buffer holds, from the heads' parts. -/
theorem dhg_eq (s : St F) (i : S512x2048.Idx) :
    s .dhg i = (seeH s ⟨(i 1).val / 128 % 4, Nat.mod_lt _ (by decide)⟩).o ⟨(i 1).val / 512, by have : (i 1).val < 2048 := (i 1).isLt; omega⟩
      (ix2 (n0 := 512) (n1 := 128) (i 0) ⟨(i 1).val % 128, Nat.mod_lt _ (by decide)⟩) := by
  have hi : (i 1).val < 2048 := (i 1).isLt
  refine congrArg (s .dhg) ?_
  funext a; apply Fin.ext
  match a with
  | ⟨0, _⟩ => show (i 0).val = 0 + 1 * (i 0).val; omega
  | ⟨1, _⟩ => show (i 1).val = 512 * ((i 1).val / 512) + 128 * ((i 1).val / 128 % 4) + 1 * ((i 1).val % 128); omega

theorem ds_eq (s : St F) (i : S4x128x128.Idx) : s .ds i = (seeH s (i 0)).ds (ix2 (n0 := 128) (n1 := 128) (i 1) (i 2)) := by
  have : (seeH s (i 0)).ds (ix2 (n0 := 128) (n1 := 128) (i 1) (i 2)) = (fun j => s .ds ((slot (i 0).1 (i 0).2).emb j)) (ix3 (n0 := 1) (n1 := 128) (n2 := 128) 0 (i 1) (i 2)) := by
    unfold seeH
    dsimp only
    simp only [pointwise]
  rw [this]
  refine congrArg (s .ds) ?_
  funext a; apply Fin.ext
  match a with
  | ⟨0, _⟩ => show (i 0).val = (i 0).val + 1 * 0; omega
  | ⟨1, _⟩ => show (i 1).val = 0 + 1 * (i 1).val; omega
  | ⟨2, _⟩ => show (i 2).val = 0 + 1 * (i 2).val; omega

theorem dlow_eq (s : St F) (i : S2x512.Idx) :
    s .dlow i = if (i 0).val = 0
      then (seeH s ⟨(i 1).val / 128, by have : (i 1).val < 512 := (i 1).isLt; omega⟩).d0 (ix2 (n0 := 1) (n1 := 128) 0 ⟨(i 1).val % 128, Nat.mod_lt _ (by decide)⟩)
      else (seeH s ⟨(i 1).val / 128, by have : (i 1).val < 512 := (i 1).isLt; omega⟩).d1 (ix2 (n0 := 1) (n1 := 128) 0 ⟨(i 1).val % 128, Nat.mod_lt _ (by decide)⟩) := by
  have hi : (i 1).val < 512 := (i 1).isLt
  have h0 : (i 0).val < 2 := (i 0).isLt
  split
  · next e =>
    refine congrArg (s .dlow) ?_
    funext a; apply Fin.ext
    match a with
    | ⟨0, _⟩ => show (i 0).val = 0 + 1 * 0; omega
    | ⟨1, _⟩ => show (i 1).val = 128 * ((i 1).val / 128) + 1 * ((i 1).val % 128); omega
  · next e =>
    refine congrArg (s .dlow) ?_
    funext a; apply Fin.ext
    match a with
    | ⟨0, _⟩ => show (i 0).val = 1 + 1 * 0; omega
    | ⟨1, _⟩ => show (i 1).val = 128 * ((i 1).val / 128) + 1 * ((i 1).val % 128); omega

/-- What a point starts from. -/
def dsIn (i : grid0.Coords) (ds : S4x128x128.Idx → F .f32) : S4x128x128.Idx → F .f32 := if first i then zero3 else ds
def lowIn (i : grid0.Coords) (lo : S2x512.Idx → F .f32) : S2x512.Idx → F .f32 := if first i then zero2 else lo
def gnIn (i : grid0.Coords) (g : Row F) : Row F := if first' i then litRow 0x00000000#32 else g

/-- What the body leaves, buffer by buffer. -/
structure Left (i : grid0.Coords) (s s' : St F) : Prop where
  inputs : (s' (.big .q) = s (.big .q) ∧ s' (.big .f) = s (.big .f) ∧ s' (.big .i) = s (.big .i) ∧ s' (.big .g) = s (.big .g) ∧ s' (.big .o) = s (.big .o)
      ∧ s' (.big .dog) = s (.big .dog)) ∧ s' .low = s .low ∧ s' .gn = s .gn ∧ s' .st = s .st
  dhg : s' .dhg = outOf (headsOf s) (dsIn i (s .ds))
  ds : s' .ds = nextDs (headsOf s) (dsIn i (s .ds))
  dlow : s' .dlow = lowOf (headsOf s) (dsIn i (s .ds)) (lowIn i (s .dlow))
  dgn : s' .dgn = gnOf (headsOf s) (gnIn i (s .dgn))

theorem clearS_of (i : grid0.Coords) (s : St F) : headsOf (clearS i s) = headsOf s ∧ clearS i s .ds = dsIn i (s .ds) ∧ clearS i s .dlow = lowIn i (s .dlow) ∧ clearS i s .dgn = gnIn i (s .dgn) := by
  unfold clearS dsIn lowIn gnIn
  refine ⟨?_, ?_, ?_, ?_⟩ <;> repeat' split
  all_goals rfl

theorem left_of (i : grid0.Coords) (s s' : St F) (h : see s' = mainT (see (clearS i s))) : Left i s s' := by
  obtain ⟨ch, cd, cl, cg⟩ := clearS_of i s
  have hg : (see s').gn = (see (clearS i s)).gn := (congrArg Al.gn h).trans rfl
  have hk : ∀ k, seeH s' k = headT (see (clearS i s)).gn (seeH (clearS i s) k) := fun k => (congrFun (congrArg Al.hd h) k).trans rfl
  have hd : (see s').dgn = gainT (see (clearS i s)) := (congrArg Al.dgn h).trans rfl
  have hI : ∀ k, (seeH (clearS i s) k).inp (see (clearS i s)).gn = headsOf s k := fun k => congrFun ch k
  have hs : ∀ k, (seeH (clearS i s) k).ds = slotOf (dsIn i (s .ds)) k := fun k => by rw [← cd]; rfl
  have hT := fun k => headT_eq (see (clearS i s)).gn (seeH (clearS i s) k)
  refine ⟨same_inputs s s' ?_, ?_, ?_, ?_, ?_⟩
  · funext k
    unfold headsOf
    rw [hk, hg]
    exact hI k
  · funext j
    rw [dhg_eq s' j, hk, (hT _).1, hI, hs]
    rfl
  · funext j
    have hds : ∀ k, (seeH s' k).ds = (headsOf s k).carry (slotOf (dsIn i (s .ds)) k) 16 := fun k => by rw [hk, (hT _).2.2.2, hI, hs]
    exact (ds_eq s' j).trans (congrFun (hds (j 0)) _)
  · funext j
    rw [dlow_eq s' j, hk, (hT _).2.1, (hT _).2.2.1, hI, hs]
    unfold lowOf
    rw [← cl]
    rfl
  · have : s' .dgn = (see s').dgn := funext fun j => by
      show s' .dgn j = s' .dgn (gnR.emb j)
      rw [gn_emb]
    rw [this, hd]
    unfold gainT
    have hI' : ∀ k, ((see (clearS i s)).hd k).inp (see (clearS i s)).gn = headsOf s k := hI
    rw [hI', hI', hI', hI']
    have e : (see (clearS i s)).dgn = gnIn i (s .dgn) := by
      rw [← cg]
      exact funext fun j => congrArg (clearS i s .dgn) (gn_emb j)
    rw [e]
    rfl

variable {U : Type} [URA U] {c : Dev nD} {B : Bufs}

/-- The body at whole buffers. -/
theorem runs_body (i : grid0.Coords) (s : St F) (E : Set ℕ) (K : PUnit → sProp (MT nD τ sig Unit (Elt F) ℕ U ℕ)) :
    iprop(Holds U c B s ∗ (∀ s', ⌜Left i s s'⌝ -∗ Holds U c B s' -∗ K ⟨⟩)) ⊢ wp frame (wpE (defs₀ (F := F)) Variants.none (c : Thread nD τ) none) E (body i B) K := by
  refine Entails.trans (sep_mono_right ?_) (sees_body i s E K)
  iintro Hk %s' %h H
  ihave Hk' := Hk $$ %s' %(left_of i s s' h) H
  iexact Hk'

end Cert.Hg
-- ==== Proof.HgBodyEq.lean ====
/- The printed backward kernel is the one with loops. -/
module

public import proofs.«01_k».proof.Proof.HgBody
public import Idealize.ShloMosaic.Lib.Tactic

@[expose] public section

noncomputable section

namespace Cert.Hg

open Idealize.ShloMosaic Idealize.SL.Sem
open Cert.Kernel2Ideal

variable {F : FTy → Type} [FloatOps F]

theorem part1_eq (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S4x16x128x128 .f32) (harg10 : arg10.IsWhole) (arg11 : Memref sig .tc .vmem S512x2048 .bf16) (harg11 : arg11.IsWhole) (arg12 : Memref sig .tc .vmem S2x512 .f32) (harg12 : arg12.IsWhole) (arg13 : Memref sig .tc .vmem S1x128 .f32) (harg13 : arg13.IsWhole) (arg14 : Memref sig .tc .vmem S4x128x128 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) :
    k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = clear i ⟨arg2, arg3, arg4, arg5, arg6, arg7, arg8, arg9, arg10, arg11, arg12, arg13, arg14, arg15, arg16, arg17, arg18, arg19, arg20, harg11⟩ >>= fun _ => pure ⟨phase, iota .tc S256x256 32 [0] Facts₀.iota_S256x256_d0_w32, iota .tc S256x256 32 [1] Facts₀.iota_S256x256_d1_w32,
      chunkOf (iota .tc S256x256 32 [0] Facts₀.iota_S256x256_d0_w32), 32#32, divsi (iota .tc S256x256 32 [1] Facts₀.iota_S256x256_d1_w32) (broadcast S256x256 32#32),
      cmpi .sgt (iota .tc S256x256 32 [1] Facts₀.iota_S256x256_d1_w32) (broadcast S256x256 0#32)⟩ := by
  unfold k0_part1 clear
  dsimp only
  by_cases h1 : Scalar.cmpi .ne (Scalar.extui (Scalar.cmpi .eq (BitVec.ofNat 32 (i 1).val) 0#32)) 0#32 = 1#1 <;>
  by_cases h2 : Scalar.cmpi .ne (Scalar.extui (Scalar.andi (Scalar.cmpi .eq (BitVec.ofNat 32 (i 1).val) 0#32) (Scalar.cmpi .eq (BitVec.ofNat 32 (i 0).val) 0#32))) 0#32 = 1#1 <;>
  simp only [h1, h2, ↓reduceDIte] <;> rfl

theorem body_eq (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S4x16x128x128 .f32) (harg10 : arg10.IsWhole) (arg11 : Memref sig .tc .vmem S512x2048 .bf16) (harg11 : arg11.IsWhole) (arg12 : Memref sig .tc .vmem S2x512 .f32) (harg12 : arg12.IsWhole) (arg13 : Memref sig .tc .vmem S1x128 .f32) (harg13 : arg13.IsWhole) (arg14 : Memref sig .tc .vmem S4x128x128 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) :
    cc0_hg_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = body i ⟨arg2, arg3, arg4, arg5, arg6, arg7, arg8, arg9, arg10, arg11, arg12, arg13, arg14, arg15, arg16, arg17, arg18, arg19, arg20, harg11⟩ := by
  unfold cc0_hg_bwd k0_part102
  rw [part1_eq]
  rw [bind_assoc, bind_assoc]
  refine congrArg (clear i ⟨arg2, arg3, arg4, arg5, arg6, arg7, arg8, arg9, arg10, arg11, arg12, arg13, arg14, arg15, arg16, arg17, arg18, arg19, arg20, harg11⟩ >>= ·) (funext fun _ => ?_)
  sl_kernel_rfl

end Cert.Hg
-- ==== Proof.HgRegion.lean ====
/- The backward kernel's launch as a region of the program: what each window holds at each point of the grid, the body's
   obligation, and the region entered from any contents of the buffers. -/
module

public import proofs.«01_k».proof.Proof.HgWhole
public import proofs.«01_k».proof.Proof.HgBodyEq
public import proofs.«01_k».proof.Proof.Gen.Kernel2Ideal.Launch
public import proofs.«01_k».proof.Proof.Gen.Kernel2Ideal.Points
public import Idealize.ShloMosaic.Lib.Pipeline.FrameBody
public import Idealize.ShloMosaic.Lib.Pipeline.RegionsLoop
public import Idealize.ShloMosaic.Lib.Tactic

@[expose] public section

noncomputable section

namespace Cert.Hg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal
open Cert.Kernel2Ideal.Facts₀ Cert.Kernel2Ideal.Facts
open Cert.Kernel2Ideal.Gen (bodyAt0 launch₀0 t0_0 t0_1 t0_2 t0_3 t0_4 t0_5 t0_6 t0_7 fin_N0 bigSep_W0 scopedRest0_eq N_0)

variable {F : FTy → Type} [FloatOps F]

/-- The launch's bookkeeping: one copy of the pipeline's. -/
abbrev UU : Type := UR sig nD τ

local notation "𝕄" => MT nD τ sig Unit (Elt F) ℕ UU ℕ

variable (V : (c : Dev nD) → (b : Ref sig .tc) → Buf (Elt F) ((c : Thread nD τ).loc b))

/-- A window's block of its array. -/
abbrev blkAt (c : Dev nD) (w : Fin 12) (t : Fin cfg0.N) : ((cfg0.win w).xblock (cfg0.grid.coords t)).Idx → Elt F (cfg0.win w).elt :=
  ((cfg0.win w).blk t).view.read (Elt F) (V c (Pipeline.arrRef spec0 w))

/-- The inputs' buffers at a point, the others at zero. -/
def inS (c : Dev nD) (t : Fin cfg0.N) : St F
  | .big .q => blkAt V c 0 t
  | .big .f => blkAt V c 1 t
  | .big .i => blkAt V c 2 t
  | .big .g => blkAt V c 3 t
  | .low => blkAt V c 4 t
  | .gn => blkAt V c 5 t
  | .big .o => blkAt V c 6 t
  | .big .dog => blkAt V c 7 t
  | .st => blkAt V c 8 t
  | .big _ => fun _ => Scalar.ofBits .f32 0x00000000#32
  | .dhg => fun _ => (Scalar.ofBits .bf16 0x0000#16 : F .bf16)
  | .dlow => zero2
  | .dgn => litRow 0x00000000#32
  | .ds => zero3

/-- The heads' inputs at a point. -/
def X (c : Dev nD) (t : Fin cfg0.N) : Fin 4 → Inp F := headsOf (inS V c t)

/-- The carried gradients before point `n`. -/
def dsAt (c : Dev nD) : ℕ → S4x128x128.Idx → F .f32
  | 0 => zero3
  | n + 1 => if h : n < cfg0.N then nextDs (X V c ⟨n, h⟩) (dsAt c n) else dsAt c n
/-- The rows' sums before it. -/
def lowAt (c : Dev nD) : ℕ → S2x512.Idx → F .f32
  | 0 => zero2
  | n + 1 => if h : n < cfg0.N then lowOf (X V c ⟨n, h⟩) (dsAt V c n) (lowAt c n) else lowAt c n
/-- The gain's sum before it. -/
def gnAt (c : Dev nD) : ℕ → Row F
  | 0 => litRow 0x00000000#32
  | n + 1 => if h : n < cfg0.N then gnOf (X V c ⟨n, h⟩) (gnAt c n) else gnAt c n

theorem dsAt_succ (c : Dev nD) (t : Fin cfg0.N) : dsAt V c (t.val + 1) = nextDs (X V c t) (dsAt V c t.val) := by
  rw [dsAt, dif_pos t.isLt]
theorem lowAt_succ (c : Dev nD) (t : Fin cfg0.N) : lowAt V c (t.val + 1) = lowOf (X V c t) (dsAt V c t.val) (lowAt V c t.val) := by
  rw [lowAt, dif_pos t.isLt]
theorem gnAt_succ (c : Dev nD) (t : Fin cfg0.N) : gnAt V c (t.val + 1) = gnOf (X V c t) (gnAt V c t.val) := by
  rw [gnAt, dif_pos t.isLt]

/-- Point 0 is the one that starts the sums. -/
theorem first_iff : ∀ t : Fin cfg0.N, first (grid0.coords t) ↔ t.val = 0 :=
  (by decide +kernel : ∀ t : Fin grid0.N, first (grid0.coords t) ↔ t.val = 0)
theorem first'_iff : ∀ t : Fin cfg0.N, first' (grid0.coords t) ↔ t.val = 0 :=
  (by decide +kernel : ∀ t : Fin grid0.N, first' (grid0.coords t) ↔ t.val = 0)

theorem dsIn_eq (c : Dev nD) (t : Fin cfg0.N) (d : S4x128x128.Idx → F .f32) (h : t.val ≠ 0 → d = dsAt V c t.val) : dsIn (grid0.coords t) d = dsAt V c t.val := by
  unfold dsIn
  by_cases h0 : t.val = 0
  · rw [if_pos ((first_iff t).2 h0), h0]; rfl
  · rw [if_neg (fun e => h0 ((first_iff t).1 e)), h h0]
theorem lowIn_eq (c : Dev nD) (t : Fin cfg0.N) (d : S2x512.Idx → F .f32) (h : t.val ≠ 0 → d = lowAt V c t.val) : lowIn (grid0.coords t) d = lowAt V c t.val := by
  unfold lowIn
  by_cases h0 : t.val = 0
  · rw [if_pos ((first_iff t).2 h0), h0]; rfl
  · rw [if_neg (fun e => h0 ((first_iff t).1 e)), h h0]
theorem gnIn_eq (c : Dev nD) (t : Fin cfg0.N) (d : Row F) (h : t.val ≠ 0 → d = gnAt V c t.val) : gnIn (grid0.coords t) d = gnAt V c t.val := by
  unfold gnIn
  by_cases h0 : t.val = 0
  · rw [if_pos ((first'_iff t).2 h0), h0]; rfl
  · rw [if_neg (fun e => h0 ((first'_iff t).1 e)), h h0]

/-- A scratch buffer held at something. -/
abbrev some' (c : Dev nD) (b : Ref sig .tc) : sProp 𝕄 := iprop(∃ f : Buf (Elt F) ((c : Thread nD τ).loc b), ((c : Thread nD τ).loc b) ↦{fullShare} f)

/-- Between the points the carried gradients are known, the other scratch is not. -/
def Φat (c : Dev nD) (n : ℕ) : sProp 𝕄 :=
  iprop((∃ f : Buf (Elt F) ((c : Thread nD τ).loc cc0_scratch0), ⌜n ≠ 0 → f = dsAt V c n⌝ ∗ ((c : Thread nD τ).loc cc0_scratch0) ↦{fullShare} f)
    ∗ some' c cc0_scratch1 ∗ some' c cc0_scratch2 ∗ some' c cc0_scratch3 ∗ some' c cc0_scratch4 ∗ some' c cc0_scratch5 ∗ some' c cc0_scratch6)

/-- The launch's data from contents `V`. -/
def dat (c : Dev nD) : Dat τ (Elt F) Unit ℕ UU ℕ cfg0 c where
  A w := V c (Pipeline.arrRef spec0 w)
  after w t := match w with
    | ⟨0, _⟩ => blkAt V c 0 t
    | ⟨1, _⟩ => blkAt V c 1 t
    | ⟨2, _⟩ => blkAt V c 2 t
    | ⟨3, _⟩ => blkAt V c 3 t
    | ⟨4, _⟩ => blkAt V c 4 t
    | ⟨5, _⟩ => blkAt V c 5 t
    | ⟨6, _⟩ => blkAt V c 6 t
    | ⟨7, _⟩ => blkAt V c 7 t
    | ⟨8, _⟩ => blkAt V c 8 t
    | ⟨9, _⟩ => outOf (X V c t) (dsAt V c t.val)
    | ⟨10, _⟩ => lowAt V c (t.val + 1)
    | ⟨11, _⟩ => gnAt V c (t.val + 1)
  Φ t := Φat V c t.val
  q w := Pipeline.shareOf spec0 w
  owed _ := 0

/-- The buffers at a point. -/
def bufs (t : Fin cfg0.N) : Bufs :=
  ⟨win0_0.stage (cfg0.slots t 0), win0_1.stage (cfg0.slots t 1), win0_2.stage (cfg0.slots t 2), win0_3.stage (cfg0.slots t 3), win0_4.stage (cfg0.slots t 4),
    win0_5.stage (cfg0.slots t 5), win0_6.stage (cfg0.slots t 6), win0_7.stage (cfg0.slots t 7), win0_8.stage (cfg0.slots t 8), win0_9.stage (cfg0.slots t 9),
    win0_10.stage (cfg0.slots t 10), win0_11.stage (cfg0.slots t 11), Memref.whole cc0_scratch0, Memref.whole cc0_scratch1, Memref.whole cc0_scratch2,
    Memref.whole cc0_scratch3, Memref.whole cc0_scratch4, Memref.whole cc0_scratch5, Memref.whole cc0_scratch6, hstage0_9 ((cfg0.slots t 9).cast nbuf0_9)⟩

theorem bodyAt_eq (t : Fin cfg0.N) : bodyAt0 (F := F) t = body (grid0.coords t) (bufs t) := body_eq ..

/-- An input's buffer holds its block at every point. -/
theorem before_input (c : Dev nD) (w : Fin cfg0.W) (hw : (cfg0.win w).isOut = false)
    (hclip : ∀ t t' : Fin cfg0.N, (cfg0.win w).index t = (cfg0.win w).index t' → (cfg0.win w).clip (cfg0.grid.coords t) = (cfg0.win w).clip (cfg0.grid.coords t'))
    (hkeep : ∀ t, (cfg0.win w).cut (cfg0.grid.coords t) ((dat V c).after w t) = (dat V c).blockOf w t)
    (t : Fin cfg0.N) (d) : (dat V c).before w t d = (dat V c).fetched w t d :=
  (dat V c).before_in_eq_fetched w hw (fun _ => rfl) hclip hkeep t d

theorem before0 (c : Dev nD) (t : Fin cfg0.N) (d) : (dat V c).before 0 t d = blkAt V c 0 t := before_input V c 0 rfl (fun _ _ _ => rfl) (fun _ => rfl) t d
theorem before1 (c : Dev nD) (t : Fin cfg0.N) (d) : (dat V c).before 1 t d = blkAt V c 1 t := before_input V c 1 rfl (fun _ _ _ => rfl) (fun _ => rfl) t d
theorem before2 (c : Dev nD) (t : Fin cfg0.N) (d) : (dat V c).before 2 t d = blkAt V c 2 t := before_input V c 2 rfl (fun _ _ _ => rfl) (fun _ => rfl) t d
theorem before3 (c : Dev nD) (t : Fin cfg0.N) (d) : (dat V c).before 3 t d = blkAt V c 3 t := before_input V c 3 rfl (fun _ _ _ => rfl) (fun _ => rfl) t d
theorem before4 (c : Dev nD) (t : Fin cfg0.N) (d) : (dat V c).before 4 t d = blkAt V c 4 t := before_input V c 4 rfl (fun _ _ _ => rfl) (fun _ => rfl) t d
theorem before5 (c : Dev nD) (t : Fin cfg0.N) (d) : (dat V c).before 5 t d = blkAt V c 5 t := before_input V c 5 rfl (fun _ _ _ => rfl) (fun _ => rfl) t d
theorem before6 (c : Dev nD) (t : Fin cfg0.N) (d) : (dat V c).before 6 t d = blkAt V c 6 t := before_input V c 6 rfl (fun _ _ _ => rfl) (fun _ => rfl) t d
theorem before7 (c : Dev nD) (t : Fin cfg0.N) (d) : (dat V c).before 7 t d = blkAt V c 7 t := before_input V c 7 rfl (fun _ _ _ => rfl) (fun _ => rfl) t d
theorem before8 (c : Dev nD) (t : Fin cfg0.N) (d) : (dat V c).before 8 t d = blkAt V c 8 t := before_input V c 8 rfl (fun _ _ _ => rfl) (fun _ => rfl) t d

theorem flush10_false (t : Fin cfg0.N) (ht : t.val ≠ 0) : (cfg0.win 10).flush ⟨t.val - 1, Nat.lt_of_le_of_lt (Nat.sub_le _ _) t.isLt⟩ = false := by
  have h8 : t.val < 8 := lt_of_lt_of_eq t.isLt N_0
  rw [Bool.eq_false_iff]
  intro h
  have := (Cert.Kernel2Ideal.Gen.flush0_10 _).1 h
  dsimp only at this
  omega
theorem flush11_false (t : Fin cfg0.N) (ht : t.val ≠ 0) : (cfg0.win 11).flush ⟨t.val - 1, Nat.lt_of_le_of_lt (Nat.sub_le _ _) t.isLt⟩ = false := by
  have h8 : t.val < 8 := lt_of_lt_of_eq t.isLt N_0
  rw [Bool.eq_false_iff]
  intro h
  have := (Cert.Kernel2Ideal.Gen.flush0_11 _).1 h
  dsimp only at this
  omega

theorem before10 (c : Dev nD) (t : Fin cfg0.N) (d) (ht : t.val ≠ 0) : (dat V c).before 10 t d = lowAt V c t.val := by
  rw [(dat V c).before_out_kept 10 rfl t ht (flush10_false t ht) (fun _ => rfl) (fun _ _ => rfl)]
  show lowAt V c (t.val - 1 + 1) = _
  rw [Nat.sub_add_cancel (Nat.pos_of_ne_zero ht)]
theorem before11 (c : Dev nD) (t : Fin cfg0.N) (d) (ht : t.val ≠ 0) : (dat V c).before 11 t d = gnAt V c t.val := by
  rw [(dat V c).before_out_kept 11 rfl t ht (flush11_false t ht) (fun _ => rfl) (fun _ _ => rfl)]
  show gnAt V c (t.val - 1 + 1) = _
  rw [Nat.sub_add_cancel (Nat.pos_of_ne_zero ht)]

/-- The buffers' contents at a point, by name. -/
def stAt (c : Dev nD) (t : Fin cfg0.N) (dhg : S512x2048.Idx → F .bf16) (dlow : S2x512.Idx → F .f32) (dgn : Row F) (ds : S4x128x128.Idx → F .f32)
    (dqi dko dv dd dqh dkh : S512x512.Idx → F .f32) : St F
  | .big .dqi => dqi
  | .big .dko => dko
  | .big .dv => dv
  | .big .dd => dd
  | .big .dqh => dqh
  | .big .dkh => dkh
  | .dhg => dhg
  | .dlow => dlow
  | .dgn => dgn
  | .ds => ds
  | k => inS V c t k

theorem headsOf_stAt (c : Dev nD) (t : Fin cfg0.N) (dhg : S512x2048.Idx → F .bf16) (dlow : S2x512.Idx → F .f32) (dgn : Row F) (ds : S4x128x128.Idx → F .f32)
    (dqi dko dv dd dqh dkh : S512x512.Idx → F .f32) : headsOf (stAt V c t dhg dlow dgn ds dqi dko dv dd dqh dkh) = X V c t := rfl

/-- The buffers one by one. -/
theorem holds_eq (c : Dev nD) (B : Bufs) (s : St F) : (Holds UU c B s : sProp 𝕄) =
    iprop(owns (c : Thread nD τ) B.q fullShare (s (.big .q)) ∗ owns (c : Thread nD τ) B.f fullShare (s (.big .f)) ∗ owns (c : Thread nD τ) B.i fullShare (s (.big .i))
      ∗ owns (c : Thread nD τ) B.g fullShare (s (.big .g)) ∗ owns (c : Thread nD τ) B.low fullShare (s .low) ∗ owns (c : Thread nD τ) B.gn fullShare (s .gn)
      ∗ owns (c : Thread nD τ) B.o fullShare (s (.big .o)) ∗ owns (c : Thread nD τ) B.dog fullShare (s (.big .dog)) ∗ owns (c : Thread nD τ) B.st fullShare (s .st)
      ∗ owns (c : Thread nD τ) B.dhg fullShare (s .dhg) ∗ owns (c : Thread nD τ) B.dlow fullShare (s .dlow) ∗ owns (c : Thread nD τ) B.dgn fullShare (s .dgn)
      ∗ owns (c : Thread nD τ) B.ds fullShare (s .ds) ∗ owns (c : Thread nD τ) B.dqi fullShare (s (.big .dqi)) ∗ owns (c : Thread nD τ) B.dko fullShare (s (.big .dko))
      ∗ owns (c : Thread nD τ) B.dv fullShare (s (.big .dv)) ∗ owns (c : Thread nD τ) B.dd fullShare (s (.big .dd)) ∗ owns (c : Thread nD τ) B.dqh fullShare (s (.big .dqh))
      ∗ owns (c : Thread nD τ) B.dkh fullShare (s (.big .dkh))) :=
  bigSep_univ_eq_bigSepL [Key.big .q, .big .f, .big .i, .big .g, .low, .gn, .big .o, .big .dog, .st, .dhg, .dlow, .dgn, .ds, .big .dqi, .big .dko, .big .dv,
    .big .dd, .big .dqh, .big .dkh] (by decide) (by decide) _

set_option backward.isDefEq.respectTransparency.types false in
/-- The body's obligation at every point. -/
theorem body_obligation (c : Dev nD) : BodyObligation (dat V c) (defs₀ (F := F)) Variants.none () Set.univ := fun t => by
  show _ ⊢ wp frame (wpE (defs₀ (F := F)) Variants.none (c : Thread nD τ) none) Set.univ (bodyAt0 (F := F) t) _
  rw [bodyAt_eq, bigSep_W0, bigSep_W0]
  dsimp only
  rw [show (dat V c).Φ t.castSucc = Φat V c t.val from rfl, show (dat V c).Φ t.succ = Φat V c (t.val + 1) from rfl,
    show (dat V c).owesAt () t.succ = (dat V c).owesAt () t.castSucc from rfl]
  unfold Φat
  simp only [before0, before1, before2, before3, before4, before5, before6, before7, before8]
  iintro ⟨⟨⟨%ds, %hds, HS0⟩, ⟨%s1, HS1⟩, ⟨%s2, HS2⟩, ⟨%s3, HS3⟩, ⟨%s4, HS4⟩, ⟨%s5, HS5⟩, ⟨%s6, HS6⟩⟩, Howes, ⟨%d0, H0⟩, ⟨%d1, H1⟩, ⟨%d2, H2⟩, ⟨%d3, H3⟩, ⟨%d4, H4⟩, ⟨%d5, H5⟩,
    ⟨%d6, H6⟩, ⟨%d7, H7⟩, ⟨%d8, H8⟩, ⟨%d9, H9⟩, ⟨%d10, H10⟩, ⟨%d11, H11⟩⟩
  iapply (runs_body (grid0.coords t) (stAt V c t ((dat V c).before 9 t d9) ((dat V c).before 10 t d10) ((dat V c).before 11 t d11) ds s1 s2 s3 s4 s5 s6) Set.univ _)
  rw [holds_eq]
  isplitr [Howes]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iapply (Entails.of_eq (owns_whole (c : Thread nD τ) cc0_scratch0 fullShare ds).symm); iexact HS0
    isplitl [HS1]; · iapply (Entails.of_eq (owns_whole (c : Thread nD τ) cc0_scratch1 fullShare s1).symm); iexact HS1
    isplitl [HS2]; · iapply (Entails.of_eq (owns_whole (c : Thread nD τ) cc0_scratch2 fullShare s2).symm); iexact HS2
    isplitl [HS3]; · iapply (Entails.of_eq (owns_whole (c : Thread nD τ) cc0_scratch3 fullShare s3).symm); iexact HS3
    isplitl [HS4]; · iapply (Entails.of_eq (owns_whole (c : Thread nD τ) cc0_scratch4 fullShare s4).symm); iexact HS4
    isplitl [HS5]; · iapply (Entails.of_eq (owns_whole (c : Thread nD τ) cc0_scratch5 fullShare s5).symm); iexact HS5
    iapply (Entails.of_eq (owns_whole (c : Thread nD τ) cc0_scratch6 fullShare s6).symm); iexact HS6
  iintro %s' %hl H
  obtain ⟨⟨⟨l0, l1, l2, l3, l6, l7⟩, l4, l5, l8⟩, l9, lds, l10, l11⟩ := hl
  rw [headsOf_stAt] at l9 lds l10 l11
  have e1 := dsIn_eq V c t ds hds
  have e2 := lowIn_eq V c t ((dat V c).before 10 t d10) fun h => before10 V c t d10 h
  have e3 := gnIn_eq V c t ((dat V c).before 11 t d11) fun h => before11 V c t d11 h
  have l9' : s' .dhg = outOf (X V c t) (dsAt V c t.val) := l9.trans (congrArg (outOf (X V c t)) e1)
  have lds' : s' .ds = dsAt V c (t.val + 1) := (lds.trans (congrArg (nextDs (X V c t)) e1)).trans (dsAt_succ V c t).symm
  have l10' : s' .dlow = lowAt V c (t.val + 1) := (l10.trans (congrArg₂ (lowOf (X V c t)) e1 e2)).trans (lowAt_succ V c t).symm
  have l11' : s' .dgn = gnAt V c (t.val + 1) := (l11.trans (congrArg (gnOf (X V c t)) e3)).trans (gnAt_succ V c t).symm
  rw [holds_eq, l0, l1, l2, l3, l4, l5, l6, l7, l8, l9', lds', l10', l11']
  change _ ⊢ _
  iintro ⟨Howes, H0, H1, H2, H3, H4, H5, H6, H7, H8, H9, H10, H11, HS0, HS1, HS2, HS3, HS4, HS5, HS6⟩
  isplitl [HS0 HS1 HS2 HS3 HS4 HS5 HS6]
  · isplitl [HS0]
    · iexists (dsAt V c (t.val + 1))
      isplitr; · ipureintro; exact fun _ => rfl
      iapply (Entails.of_eq (owns_whole (c : Thread nD τ) cc0_scratch0 fullShare _)); iexact HS0
    isplitl [HS1]; · iexists _; iapply (Entails.of_eq (owns_whole (c : Thread nD τ) cc0_scratch1 fullShare _)); iexact HS1
    isplitl [HS2]; · iexists _; iapply (Entails.of_eq (owns_whole (c : Thread nD τ) cc0_scratch2 fullShare _)); iexact HS2
    isplitl [HS3]; · iexists _; iapply (Entails.of_eq (owns_whole (c : Thread nD τ) cc0_scratch3 fullShare _)); iexact HS3
    isplitl [HS4]; · iexists _; iapply (Entails.of_eq (owns_whole (c : Thread nD τ) cc0_scratch4 fullShare _)); iexact HS4
    isplitl [HS5]; · iexists _; iapply (Entails.of_eq (owns_whole (c : Thread nD τ) cc0_scratch5 fullShare _)); iexact HS5
    iexists _; iapply (Entails.of_eq (owns_whole (c : Thread nD τ) cc0_scratch6 fullShare _)); iexact HS6
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.Hg
-- ==== Proof.HgLaunch.lean ====
/- The program around the backward kernel: the loop over the chunks that saves the states, the launch entered from what the loop
   leaves, and the whole execution. -/
module

public import proofs.«01_k».proof.Proof.HgRegion
public import proofs.«01_k».proof.Proof.Gen.Kernel2Ideal.Regions
public import proofs.«01_k».proof.Proof.Gen.Kernel2Ideal.RegionsF
public import proofs.«01_k».proof.Proof.Gen.Kernel2Ideal.RegionsFQ
public import proofs.«01_k».proof.Proof.Gen.Kernel2Ideal.RegionsFQR
public import proofs.«01_k».proof.Proof.Gen.Kernel2Ideal.RegionsFV
public import Idealize.ShloMosaic.Lib.StableHlo.RunLoop

@[expose] public section

noncomputable section

namespace Cert.Hg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held atTrip afterL Plain)
open Idealize.ShloMosaic.Pipeline (Dat Cfg Window BodyObligation CSeg LoopSeg Ticket ucRefs)
open Cert.Kernel2Ideal
open Cert.Kernel2Ideal.Facts₀ Cert.Kernel2Ideal.Facts
open Cert.Kernel2Ideal.Gen
open Cert.Kernel2Ideal.Gen.Cond (V11 V12 V13 V14 W12 Outs adm tk)

variable {F : FTy → Type} [FloatOps F]

local notation "𝕄" => MT nD τ sig Unit (Elt F) ℕ UU ℕ

/-- No core owes another anything: no level is assigned. -/
abbrev L : GSem nD τ sig → Finset Unit := fun _ => ∅
abbrev lv : GSem nD τ sig → Unit → ℕ := fun _ _ => 0

/-! ## The launch -/

section Region

variable (V : (c : Dev nD) → (b : Ref sig .tc) → Buf (Elt F) ((c : Thread nD τ).loc b))
variable (Vp : (c : Dev nD) → (b : Ref sig .tc) → Buf (Elt F) ((c : Thread nD τ).loc b))

/-- The one launch's data. -/
def pdats : (p : Fin 1) → (c : Dev nD) → Dat τ (Elt F) Unit ℕ UU ℕ (Pipeline.pin (pcfgs (F := F)) adm p) c
  | ⟨0, _⟩ => fun c => dat V c

set_option backward.isDefEq.respectTransparency.types false in
/-- The launch, from every buffer at `V` to every buffer at `Vp`, which has the three results where the launch leaves them. -/
def reg (R : Dev nD → sProp 𝕄)
    (h9 : ∀ c, Vp c main_v84_0 = (dat V c).arrAt 9 cfg0.N) (h10 : ∀ c, Vp c main_v84_1 = (dat V c).arrAt 10 cfg0.N)
    (h11 : ∀ c, Vp c main_v84_2 = (dat V c).arrAt 11 cfg0.N)
    (hne : ∀ c (b : Ref sig .tc), b ≠ main_v84_0 → b ≠ main_v84_1 → b ≠ main_v84_2 → Vp c b = V c b) :
    Pipeline.RegionSeg (pcfgs (F := F)) adm (pdats V) () defs₀ Variants.none L lv 0 where
  win := winFacts₀0
  block_pos := launch₀0.block_pos
  stage_whole := launch₀0.stage_whole
  K := PEmpty
  osem k := k.elim
  ho := Pipeline.OwnSemFacts.none _
  hbody c := (body_obligation V c).loose
  hwaits := Pipeline.hwaits_of_owed_zero _ _ _ _ L lv 0 fun _ _ => rfl
  pre c := iprop(unscopedBufs c (V c) ∗ R c ∗ ∃ W, owes (c : Thread nD τ) (0 : CellTallies nD τ sig Unit) W)
  post c := iprop(unscopedBufs c (Vp c) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec0 c (V c) ∗ R c)
  hentry c := by
    rw [Pipeline.ownSems0_none]
    have hsplit := Pipeline.arrays_of_unscopedBufs_shared (p := 0) (pcfgs (F := F)) adm (pdats V) winFacts₀0 sharedIn0 arr_whole0 c
      (fun w _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats V 0 c).Φ 0 = Φat V c 0 from rfl, show (Pipeline.pin (pcfgs (F := F)) adm 0).spec = spec0 from rfl, scopedRest0_eq c]
    unfold Φat some'
    iintro ⟨-, -, ⟨%f, H0⟩, H⟩
    isplitl [H0]
    · iexists f; isplitr; · ipureintro; exact fun h => absurd rfl h
      iexact H0
    iexact H
  hout c := by
    rw [Pipeline.ownSems0_none, show (pdats V 0 c).Φ (Fin.last _) = Φat V c cfg0.N from rfl, show (Pipeline.pin (pcfgs (F := F)) adm 0).spec = spec0 from rfl,
      scopedRest0_eq c]
    unfold Φat some'
    iintro ⟨⟨%f, -, H0⟩, H⟩
    isplitr; · iempintro
    isplitr; · iempintro
    isplitl [H0]; · iexists f; iexact H0
    iexact H
  hexit c := by
    have hjoin := Pipeline.unscopedBufs_of_arrays_shared (p := 0) (pcfgs (F := F)) adm (Ix := Unit) (Name := ℕ) (U := UU) (Lvl := ℕ) winFacts₀0 sharedIn0 arr_whole0 c
      (pdats V) (fun w _ => rfl) (V c) (Vp c) ((pdats V 0 c).arrAt · cfg0.N)
      (fun w => match w with
        | ⟨0, _⟩ => ((pdats V 0 c).arrAt_in 0 rfl _).trans (hne c main_arg0 (by decide) (by decide) (by decide)).symm
        | ⟨1, _⟩ => ((pdats V 0 c).arrAt_in 1 rfl _).trans (hne c main_arg0 (by decide) (by decide) (by decide)).symm
        | ⟨2, _⟩ => ((pdats V 0 c).arrAt_in 2 rfl _).trans (hne c main_arg0 (by decide) (by decide) (by decide)).symm
        | ⟨3, _⟩ => ((pdats V 0 c).arrAt_in 3 rfl _).trans (hne c main_arg0 (by decide) (by decide) (by decide)).symm
        | ⟨4, _⟩ => ((pdats V 0 c).arrAt_in 4 rfl _).trans (hne c main_arg1 (by decide) (by decide) (by decide)).symm
        | ⟨5, _⟩ => ((pdats V 0 c).arrAt_in 5 rfl _).trans (hne c main_arg2 (by decide) (by decide) (by decide)).symm
        | ⟨6, _⟩ => ((pdats V 0 c).arrAt_in 6 rfl _).trans (hne c main_v82 (by decide) (by decide) (by decide)).symm
        | ⟨7, _⟩ => ((pdats V 0 c).arrAt_in 7 rfl _).trans (hne c main_arg3 (by decide) (by decide) (by decide)).symm
        | ⟨8, _⟩ => ((pdats V 0 c).arrAt_in 8 rfl _).trans (hne c main_v83 (by decide) (by decide) (by decide)).symm
        | ⟨9, _⟩ => (h9 c).symm
        | ⟨10, _⟩ => (h10 c).symm
        | ⟨11, _⟩ => (h11 c).symm)
      (fun b hb => hne c b (fun h => hb (h ▸ Finset.mem_image.mpr ⟨9, Finset.mem_univ _, rfl⟩))
        (fun h => hb (h ▸ Finset.mem_image.mpr ⟨10, Finset.mem_univ _, rfl⟩)) fun h => hb (h ▸ Finset.mem_image.mpr ⟨11, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Region

/-! ## The loop over the chunks -/

/-- The condition's two operations. -/
abbrev condOps : List (HloOp τ sig (Elt F)) :=
  [ StableHlo.nullary main_while0c_c_19 (constantI S_ 32 128#32),
    StableHlo.binary main_v77_4 main_while0c_c_19 main_while0c_v85 (cmpi .slt) ]

/-- The body's stretches. -/
abbrev bodyI : List (List (HloOp τ sig (Elt F))) :=
  [while0Ops0, while0Ops0_1, while0Ops0_2, while0Ops0_3, while0Ops0_4, while0Ops0_5, while0Ops0_6, while0Ops0_7]

theorem plain_body : Plain (bodyI (F := F)) :=
  Plain.cons while0Ops0_sub <| Plain.cons while0Ops0_1_sub <| Plain.cons while0Ops0_2_sub <| Plain.cons while0Ops0_3_sub <|
    Plain.cons while0Ops0_4_sub <| Plain.cons while0Ops0_5_sub <| Plain.cons while0Ops0_6_sub <| Plain.cons while0Ops0_7_sub Plain.nil

/-- What the condition and the body write. -/
theorem cond_writes : (condOps (F := F)).Forall fun op => op.writes ⊆ ([main_while0c_c_19, main_while0c_v85].map (Proc.devRef (τ := τ) .tc)).toFinset :=
  StableHlo.forall_writes_sub_of_map rfl

abbrev w0 : List (Ref sig .tc) := [main_while0b_call5_c, main_while0b_call5_c_0, main_while0b_call5_c_1, main_while0b_call5_v0, main_while0b_v85]
abbrev w1 : List (Ref sig .tc) := [main_while0b_call6_c, main_while0b_call6_c_0, main_while0b_call6_c_1, main_while0b_call6_v0, main_while0b_v86]
abbrev w2 : List (Ref sig .tc) := [main_while0b_call7_c, main_while0b_call7_c_0, main_while0b_call7_c_1, main_while0b_call7_v0, main_while0b_v87]
abbrev w3 : List (Ref sig .tc) := [main_while0b_call8_c, main_while0b_call8_c_0, main_while0b_call8_v0, main_while0b_v88]
abbrev w4 : List (Ref sig .tc) := [main_while0b_v89, main_while0b_v90, main_while0b_v91, main_while0b_v92, main_while0b_v93, main_while0b_v94]
abbrev w5 : List (Ref sig .tc) := [main_while0b_call9_v0, main_while0b_call9_c, main_while0b_call9_c_0, main_while0b_call9_c_1, main_while0b_v95]
abbrev w6 : List (Ref sig .tc) := [main_while0b_call10_v0, main_while0b_call10_c, main_while0b_call10_c_0, main_while0b_call10_c_1, main_while0b_v96]
abbrev w7 : List (Ref sig .tc) := [main_while0b_c_19, main_while0b_v97, main_v77_4, main_v77_5, main_v77_6, main_v77_7]

theorem s0 : (while0Ops0 (F := F)).Forall fun op => op.writes ⊆ (w0.map (Proc.devRef (τ := τ) .tc)).toFinset := StableHlo.forall_writes_sub_of_map rfl
theorem s1 : (while0Ops0_1 (F := F)).Forall fun op => op.writes ⊆ (w1.map (Proc.devRef (τ := τ) .tc)).toFinset := StableHlo.forall_writes_sub_of_map rfl
theorem s2 : (while0Ops0_2 (F := F)).Forall fun op => op.writes ⊆ (w2.map (Proc.devRef (τ := τ) .tc)).toFinset := StableHlo.forall_writes_sub_of_map rfl
theorem s3 : (while0Ops0_3 (F := F)).Forall fun op => op.writes ⊆ (w3.map (Proc.devRef (τ := τ) .tc)).toFinset := StableHlo.forall_writes_sub_of_map rfl
theorem s4 : (while0Ops0_4 (F := F)).Forall fun op => op.writes ⊆ (w4.map (Proc.devRef (τ := τ) .tc)).toFinset := StableHlo.forall_writes_sub_of_map rfl
theorem s5 : (while0Ops0_5 (F := F)).Forall fun op => op.writes ⊆ (w5.map (Proc.devRef (τ := τ) .tc)).toFinset := StableHlo.forall_writes_sub_of_map rfl
theorem s6 : (while0Ops0_6 (F := F)).Forall fun op => op.writes ⊆ (w6.map (Proc.devRef (τ := τ) .tc)).toFinset := StableHlo.forall_writes_sub_of_map rfl
theorem s7 : (while0Ops0_7 (F := F)).Forall fun op => op.writes ⊆ (w7.map (Proc.devRef (τ := τ) .tc)).toFinset := StableHlo.forall_writes_sub_of_map rfl

/-- All of them but the counter's stretch. -/
abbrev wAll : List (Ref sig .tc) := [main_while0c_c_19, main_while0c_v85] ++ w0 ++ w1 ++ w2 ++ w3 ++ w4 ++ w5 ++ w6 ++ w7

theorem cond_ne (W : Valuation τ sig (Elt F)) (r : Ref sig .tc) (h : r ∉ [main_while0c_c_19, main_while0c_v85]) : after condOps W r = W r :=
  StableHlo.after_of_writes_sub condOps _ cond_writes h

/-- The body leaves what it doesn't write, whatever the last stretch does. -/
theorem body_ne (W : Valuation τ sig (Elt F)) (r : Ref sig .tc) (h : r ∉ w0 ++ w1 ++ w2 ++ w3 ++ w4 ++ w5 ++ w6) :
    after while0Ops0_6 (after while0Ops0_5 (after while0Ops0_4 (after while0Ops0_3 (after while0Ops0_2 (after while0Ops0_1 (after while0Ops0 W)))))) r = W r := by
  simp only [List.mem_append, not_or] at h
  obtain ⟨⟨⟨⟨⟨⟨h0, h1⟩, h2⟩, h3⟩, h4⟩, h5⟩, h6⟩ := h
  rw [StableHlo.after_of_writes_sub while0Ops0_6 _ s6 h6, StableHlo.after_of_writes_sub while0Ops0_5 _ s5 h5,
    StableHlo.after_of_writes_sub while0Ops0_4 _ s4 h4, StableHlo.after_of_writes_sub while0Ops0_3 _ s3 h3,
    StableHlo.after_of_writes_sub while0Ops0_2 _ s2 h2, StableHlo.after_of_writes_sub while0Ops0_1 _ s1 h1,
    StableHlo.after_of_writes_sub while0Ops0 _ s0 h0]

/-- A stretch leaves every buffer it doesn't write. -/
theorem after_other {W : List (Ref sig .tc)} (ops : List (HloOp τ sig (Elt F))) (V : Valuation τ sig (Elt F)) {b : DevRef τ sig}
    (hW : ops.Forall fun op => op.writes ⊆ (W.map (Proc.devRef (τ := τ) .tc)).toFinset) (hb : b ∉ W.map (Proc.devRef (τ := τ) .tc)) : after ops V b = V b :=
  StableHlo.after_of_forall_not_mem ops V fun op hop h => hb (List.mem_toFinset.mp ((List.forall_iff_forall_mem.mp hW) op hop h))

/-- So before every condition a buffer nothing writes is as before the loop. -/
theorem trip_other (W₀ : Dev nD → Valuation τ sig (Elt F)) (b : DevRef τ sig) (h : ∀ w ∈ [[main_while0c_c_19, main_while0c_v85], w0, w1, w2, w3, w4, w5, w6, w7],
    b ∉ w.map (Proc.devRef (τ := τ) .tc)) (c : Dev nD) : ∀ n, atTrip condOps bodyI W₀ n c b = W₀ c b
  | 0 => rfl
  | n + 1 => by
    show after while0Ops0_7 (after while0Ops0_6 (after while0Ops0_5 (after while0Ops0_4 (after while0Ops0_3 (after while0Ops0_2 (after while0Ops0_1
      (after while0Ops0 (after condOps (atTrip condOps bodyI W₀ n c))))))))) b = _
    rw [after_other _ _ s7 (h w7 (by simp)), after_other _ _ s6 (h w6 (by simp)), after_other _ _ s5 (h w5 (by simp)), after_other _ _ s4 (h w4 (by simp)),
      after_other _ _ s3 (h w3 (by simp)), after_other _ _ s2 (h w2 (by simp)), after_other _ _ s1 (h w1 (by simp)), after_other _ _ s0 (h w0 (by simp)),
      after_other _ _ cond_writes (h _ (by simp)), trip_other W₀ b h c n]

/-- Before every condition a reference nothing writes is as before the loop. -/
theorem trip_ne (W₀ : Dev nD → Valuation τ sig (Elt F)) (r : Ref sig .tc) (h : r ∉ wAll) (c : Dev nD) : ∀ n, atTrip condOps bodyI W₀ n c r = W₀ c r
  | 0 => rfl
  | n + 1 => by
    have h' := h
    simp only [List.mem_append, not_or] at h'
    show after while0Ops0_7 (after while0Ops0_6 (after while0Ops0_5 (after while0Ops0_4 (after while0Ops0_3 (after while0Ops0_2 (after while0Ops0_1
      (after while0Ops0 (after condOps (atTrip condOps bodyI W₀ n c))))))))) r = _
    rw [StableHlo.after_of_writes_sub while0Ops0_7 _ s7 h'.2, body_ne _ r (by simp only [List.mem_append, not_or]; tauto),
      cond_ne _ r h'.1.1.1.1.1.1.1.1, trip_ne W₀ r h c n]

theorem ctr_body (X : Valuation τ sig (Elt F)) : after while0Ops0_7 X main_v77_4 = addi (X main_v77_4) (constantI S_ 32 1#32) := by
  rw [while0Ops0_7, StableHlo.after_cons, StableHlo.after_cons, StableHlo.after_cons, StableHlo.after_cons, StableHlo.after_cons,
    StableHlo.after_cons, StableHlo.after_nil]
  rw [StableHlo.unary_result_ne _ _ _ _ _ _ (by decide), StableHlo.unary_result_ne _ _ _ _ _ _ (by decide),
    StableHlo.unary_result_ne _ _ _ _ _ _ (by decide), StableHlo.unary_result,
    StableHlo.binary_result, StableHlo.nullary_result_ne _ _ _ _ (by decide), StableHlo.nullary_result]
  rfl

theorem trip_ctr (W₀ : Dev nD → Valuation τ sig (Elt F)) (h0 : ∀ c, W₀ c main_v77_4 = fun _ => (0#32 : BitVec 32)) (c : Dev nD) :
    ∀ k, atTrip condOps bodyI W₀ k c main_v77_4 = fun _ => (BitVec.ofNat 32 k : BitVec 32)
  | 0 => h0 c
  | k + 1 => by
    show after while0Ops0_7 (after while0Ops0_6 (after while0Ops0_5 (after while0Ops0_4 (after while0Ops0_3 (after while0Ops0_2 (after while0Ops0_1
      (after while0Ops0 (after condOps (atTrip condOps bodyI W₀ k c))))))))) main_v77_4 = _
    rw [ctr_body, body_ne _ _ (by decide), cond_ne _ _ (by decide), trip_ctr W₀ h0 c k]
    funext i
    show BitVec.ofNat 32 k + 1#32 = BitVec.ofNat 32 (k + 1)
    rw [BitVec.ofNat_add]

theorem pred_iff : ∀ k ≤ 128, (IntOp.cmpi .slt (BitVec.ofNat 32 k) 128#32 = 1#1 ↔ k < 128) := by decide +kernel

set_option backward.isDefEq.respectTransparency.types false in
/-- The condition reads 1 while the counter is below 128. -/
theorem cond_spec (Rc : Dev nD → sProp 𝕄) (W₀ : Dev nD → Valuation τ sig (Elt F)) (h0 : ∀ c, W₀ c main_v77_4 = fun _ => (0#32 : BitVec 32)) :
    StableHlo.LoopCond (pcfgs (F := F)) defs₀ Variants.none loops Rc main_while0_cond condOps bodyI W₀ 128 := fun k hk c bd => by
  have hctr := trip_ctr W₀ h0 c k
  unfold main_while0_cond
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI W₀ k c) main_v77_4 HostLoop.idx0)
        (HloOp.result _ (atTrip condOps bodyI W₀ k c) main_while0c_c_19 HostLoop.idx0) = 1#1) (k < 128)
    rw [StableHlo.nullary_result_ne _ _ _ _ (by decide), StableHlo.nullary_result, hctr]
    exact pred_iff k hk
  isplitl [Hb]; · iexact Hb
  isplitl [Hh]; · rw [StableHlo.after_cons, StableHlo.after_cons, StableHlo.after_nil]; iexact Hh
  iexact HR

/-! ## The whole execution -/

variable (m : (ℓ : Loc nD τ sig) → Buf (Elt F) ℓ)

/-- The counter starts at zero. -/
theorem start_ctr (c : Dev nD) : V11 m c main_v77_4 = fun _ => (0#32 : BitVec 32) := by
  show after hostOps0_10 (Cond.V10 m c) main_v77_4 = _
  rw [hostOps0_10]
  repeat rw [StableHlo.after_cons]
  rw [StableHlo.after_nil, StableHlo.unary_result_ne _ _ _ _ _ _ (by decide), StableHlo.unary_result_ne _ _ _ _ _ _ (by decide),
    StableHlo.unary_result_ne _ _ _ _ _ _ (by decide), StableHlo.unary_result, StableHlo.unary_result_ne _ _ _ _ _ _ (by decide),
    StableHlo.unary_result_ne _ _ _ _ _ _ (by decide), StableHlo.unary_result_ne _ _ _ _ _ _ (by decide),
    StableHlo.unary_result_ne _ _ _ _ _ _ (by decide), StableHlo.nullary_result]
  rfl

/-- What the loop leaves. -/
def VL (c : Dev nD) : Valuation τ sig (Elt F) := after condOps (atTrip condOps bodyI (V11 m) 128 c)
/-- What the launch is entered from. -/
def VR (c : Dev nD) : Valuation τ sig (Elt F) := after hostOps0_11 (VL m c)
/-- The same at the references. -/
abbrev VRr (c : Dev nD) (b : Ref sig .tc) : Buf (Elt F) ((c : Thread nD τ).loc b) := VR m c b

/-- The results' arrays. -/
def out9 (c : Dev nD) : Buf (Elt F) ((c : Thread nD τ).loc main_v84_0) := (dat (VRr m) c).arrAt 9 cfg0.N
def out10 (c : Dev nD) : Buf (Elt F) ((c : Thread nD τ).loc main_v84_1) := (dat (VRr m) c).arrAt 10 cfg0.N
def out11 (c : Dev nD) : Buf (Elt F) ((c : Thread nD τ).loc main_v84_2) := (dat (VRr m) c).arrAt 11 cfg0.N

/-- What the launch leaves. -/
def VP (c : Dev nD) : Valuation τ sig (Elt F) :=
  Function.update (Function.update (Function.update (VR m c) main_v84_0 (out9 m c)) main_v84_1 (out10 m c)) main_v84_2 (out11 m c)

theorem VP_2 (c : Dev nD) : VP m c main_v84_2 = out11 m c := Function.update_self ..
theorem VP_1 (c : Dev nD) : VP m c main_v84_1 = out10 m c :=
  (Function.update_of_ne (StableHlo.devRef_ne_of_ne (by decide)) ..).trans (Function.update_self ..)
theorem VP_0 (c : Dev nD) : VP m c main_v84_0 = out9 m c :=
  (Function.update_of_ne (StableHlo.devRef_ne_of_ne (by decide)) ..).trans
    ((Function.update_of_ne (StableHlo.devRef_ne_of_ne (by decide)) ..).trans (Function.update_self ..))
theorem VP_ne (c : Dev nD) (b : Ref sig .tc) (h0 : b ≠ main_v84_0) (h1 : b ≠ main_v84_1) (h2 : b ≠ main_v84_2) : VP m c b = VR m c b :=
  (Function.update_of_ne (StableHlo.devRef_ne_of_ne h2) ..).trans
    ((Function.update_of_ne (StableHlo.devRef_ne_of_ne h1) ..).trans (Function.update_of_ne (StableHlo.devRef_ne_of_ne h0) ..))

/-- What the loop and the launch leave, as one choice. -/
def outsF : Outs (F := F) := fun k b c => if k = 14 then VP m c b else VL m c b

theorem V12_eq (c : Dev nD) : V12 m (outsF m) c = VL m c := by
  funext b
  show (if b ∈ W12.map (Proc.devRef (τ := τ) .tc) then outsF m 12 b c else V11 m c b) = _
  by_cases h : b ∈ W12.map (Proc.devRef (τ := τ) .tc)
  · rw [if_pos h]; exact if_neg (by decide)
  · rw [if_neg h]
    have hsub : ∀ w ∈ [[main_while0c_c_19, main_while0c_v85], w0, w1, w2, w3, w4, w5, w6, w7], ∀ r ∈ w, r ∈ W12 := by decide +kernel
    have hb : ∀ w ∈ [[main_while0c_c_19, main_while0c_v85], w0, w1, w2, w3, w4, w5, w6, w7], b ∉ w.map (Proc.devRef (τ := τ) .tc) := fun w hw hm => by
      obtain ⟨r, hr, e⟩ := List.mem_map.mp hm
      exact h (List.mem_map.mpr ⟨r, hsub w hw r hr, e⟩)
    unfold VL
    rw [after_other _ _ cond_writes (hb _ (by simp)), trip_other _ b hb c 128]

theorem V13_eq (c : Dev nD) : V13 m (outsF m) c = VR m c := congrArg (after hostOps0_11) (V12_eq m c)

theorem V14_eq (c : Dev nD) : V14 m (outsF m) c = VP m c := by
  show Function.update (Function.update (Function.update (V13 m (outsF m) c) main_v84_0 (outsF m 14 main_v84_0 c)) main_v84_1 (outsF m 14 main_v84_1 c)) main_v84_2
    (outsF m 14 main_v84_2 c) = VP m c
  rw [V13_eq, show outsF m 14 main_v84_0 c = out9 m c from (if_pos rfl).trans (VP_0 m c), show outsF m 14 main_v84_1 c = out10 m c from (if_pos rfl).trans (VP_1 m c),
    show outsF m 14 main_v84_2 c = out11 m c from (if_pos rfl).trans (VP_2 m c)]
  rfl

/-- What is known of the choice after the loop and after the launch: it is this one. -/
def II (k : Fin 3) (outs : Outs (F := F)) (c : Dev nD) : Prop := k = 0 ∨ outs = outsF m

/-- What rides along: what each core owes, nothing. -/
abbrev Ow (c : Dev nD) : sProp 𝕄 := iprop(∃ W, owes (c : Thread nD τ) (0 : CellTallies nD τ sig Unit) W)

/-- The pipeline's copy of the bookkeeping. -/
abbrev EP (_ : Fin 1) : Emb (URounds (GSem nD τ sig) Unit) 𝕄 := emb₁

abbrev pd (_ : Fin 1) := pdats (F := F) (VRr m)

set_option backward.isDefEq.respectTransparency.types false in
/-- The loop as a segment. -/
def loop0 : CSeg (pcfgs (F := F)) adm defs₀ Variants.none L lv loops (tk (pd m) EP) :=
  StableHlo.loopSeg (pcfgs (F := F)) adm defs₀ Variants.none L lv loops (tk (pd m) EP) 0 main_while0_cond main_while0_body rfl condOps bodyI plain_body
    while0_body_chain 128 (V11 m) Ow (cond_spec Ow (V11 m) (start_ctr m))

set_option backward.isDefEq.respectTransparency.types false in
/-- The launch as a segment. -/
def launch : CSeg (pcfgs (F := F)) adm defs₀ Variants.none L lv loops (tk (pd m) EP) :=
  CSeg.region _ _ () cellOf_inj _ _ _ _ _ _ 0
    (reg (VRr m) (fun c b => VP m c b) (fun _ => iprop(emp)) (VP_0 m) (VP_1 m) (VP_2 m) (VP_ne m))

theorem held_loop (c : Dev nD) : (held (c : Thread nD τ) (ucRefs τ sig) (VL m c) : sProp 𝕄) ⊢ held (c : Thread nD τ) (ucRefs τ sig) (V12 m (outsF m) c) :=
  Entails.of_eq (congrArg (held (c : Thread nD τ) (ucRefs τ sig)) (V12_eq m c).symm)
theorem held_entry (c : Dev nD) : (held (c : Thread nD τ) (ucRefs τ sig) (V13 m (outsF m) c) : sProp 𝕄) ⊢ unscopedBufs c (VRr m c) :=
  Entails.of_eq ((congrArg (held (c : Thread nD τ) (ucRefs τ sig)) (V13_eq m c)).trans (Pipeline.unscopedBufs_held c (VR m c)).symm)
theorem held_exit (c : Dev nD) : (unscopedBufs c (fun b => VP m c b) : sProp 𝕄) ⊢ held (c : Thread nD τ) (ucRefs τ sig) (V14 m (outsF m) c) :=
  Entails.of_eq ((Pipeline.unscopedBufs_held c (VP m c)).trans (congrArg (held (c : Thread nD τ) (ucRefs τ sig)) (V14_eq m c).symm))

/-- Into and out of the loop, -/
theorem loop_pre (c : Dev nD) : iprop(∃ outs : Outs (F := F), held (c : Thread nD τ) (ucRefs τ sig) (V11 m c) ∗ ⌜II m 0 outs c⌝ ∗ Ow c)
    ⊢ (iprop(held (c : Thread nD τ) (ucRefs τ sig) (V11 m c) ∗ Ow c) : sProp 𝕄) := by
  iintro ⟨%outs, Hh, -, HE⟩
  isplitl [Hh] <;> iassumption
theorem loop_post (c : Dev nD) : (iprop(held (c : Thread nD τ) (ucRefs τ sig) (VL m c) ∗ Ow c) : sProp 𝕄)
    ⊢ iprop(∃ outs : Outs (F := F), held (c : Thread nD τ) (ucRefs τ sig) (V12 m outs c) ∗ ⌜II m 1 outs c⌝ ∗ Ow c) := by
  iintro ⟨Hh, HE⟩
  iexists (outsF m)
  isplitl [Hh]; · iapply (held_loop m c); iexact Hh
  isplitr; · ipureintro; exact Or.inr rfl
  iexact HE
/-- and into and out of the launch. -/
theorem launch_pre (c : Dev nD) : iprop(∃ outs : Outs (F := F), held (c : Thread nD τ) (ucRefs τ sig) (V13 m outs c) ∗ ⌜II m 1 outs c⌝ ∗ Ow c)
    ⊢ (iprop(unscopedBufs c (VRr m c) ∗ emp ∗ Ow c) : sProp 𝕄) := by
  iintro ⟨%outs, Hh, %h, HE⟩
  obtain rfl : outs = outsF m := h.resolve_left (by decide)
  isplitl [Hh]; · iapply (held_entry m c); iexact Hh
  isplitr; · iempintro
  iexact HE
theorem launch_post (c : Dev nD) : (iprop(unscopedBufs c (fun b => VP m c b) ∗ emp ∗ Ow c) : sProp 𝕄)
    ⊢ iprop(∃ outs : Outs (F := F), held (c : Thread nD τ) (ucRefs τ sig) (V14 m outs c) ∗ ⌜II m 2 outs c⌝ ∗ Ow c) := by
  iintro ⟨Hh, -, HE⟩
  iexists (outsF m)
  isplitl [Hh]; · iapply (held_exit m c); iexact Hh
  isplitr; · ipureintro; exact Or.inr rfl
  iexact HE

abbrev u₀ : UU := initOf (Pipeline.cells cfgs cellOf_inj) (Pipeline.launchToks cfgs cellOf_inj)

theorem fund : (ownU u₀ : sProp 𝕄) ⊢ |={Set.univ}=> iprop((bigSep Finset.univ fun j : Fin 1 => BI.own (((tk (pd m) EP) j).EP u₀)) ∗ bigSep Finset.univ fun _ : Dev nD => (BI.emp : sProp 𝕄)) := by
  have h : (ownU u₀ : sProp 𝕄) ⊢ bigSep Finset.univ fun j : Fin 1 => BI.own (((tk (pd m) EP) j).EP u₀) :=
    Entails.of_eq (by rw [show (Finset.univ : Finset (Fin 1)) = {0} from rfl, BI.bigSep_singleton]; rfl)
  iintro Hu
  imodintro
  isplitl [Hu]; · iapply h; iexact Hu
  iapply (show (BI.emp : sProp 𝕄) ⊢ bigSep Finset.univ (fun _ : Dev nD => (BI.emp : sProp 𝕄)) from by rw [BI.bigSep_emp_const])
  iempintro

set_option backward.isDefEq.respectTransparency.types false in
/-- THE EXECUTION: every one from memory `m` with zero counters ends with the arguments kept, the counters at zero and every
    buffer of the program where the host's lines, the loop and the launch leave it. -/
theorem run_whole (ρ : Dev nD → PrngReg) : θ_run defs (onTc (τ := τ) (Cert.Kernel2Ideal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ (r.2.sem = fun _ => 0)
      ∧ ∀ c : Dev nD, ∃ outs : Outs (F := F), II m 2 outs c ∧ ∀ b ∈ (Pipeline.ucRefs τ sig), r.2.mem ((c : Thread nD τ).1, b) = V14 m outs c b) :=
  Cond.frame_condFQR m EP Variants.none L lv (fun _ _ => rfl) ρ (pd m) 0 (fun _ => iprop(emp))
    u₀ (fund m)
    (II m) (outsF m) (fun _ => Or.inl rfl) (fun _ => Ow)
    (by
      refine Pipeline.initEach L lv fun c => ?_
      iintro ⟨⟨-, HO, -, -, -⟩, -⟩
      imodintro
      iexists ∅; iexact HO)
    (fun _ => iprop(emp))
    (fun c => by iintro H; isplitr; · iempintro
                 iexact H)
    (fun c s' => by
      iintro ⟨-, HSI⟩
      imodintro
      isplitr; · ipureintro; exact fun sm h => absurd h (by revert sm; decide)
      iexact HSI)
    (loop0 m) rfl rfl (loop_pre m) (loop_post m) (launch m) rfl rfl (launch_pre m) (launch_post m)

end Cert.Hg

end
-- ==== Proof.HgFrames.lean ====
/- The frames of the backward kernel: the program as printed and its ideal reading. -/
module

public import proofs.«01_k».proof.Defs
public import proofs.«01_k».proof.Proof.HgLaunch
public import proofs.«01_k».proof.Proof.Gen.Kernel2.Skeleton
public import Idealize.ShloMosaic.Lib.Tactic

@[expose] public section

noncomputable section

namespace Cert.Hg

open Idealize.ShloMosaic Idealize.ShloMosaic.TcCoe Idealize.ShloMosaic.Tactic
open Idealize.SL.Sem

/-- The ideal program's frame, at any floats. -/
theorem frame_any {F : FTy → Type} [FloatOps F] (m : (ℓ : Loc Kernel2Ideal.nD Kernel2Ideal.τ Kernel2Ideal.sig) → Buf (Elt F) ℓ) (ρ : Dev Kernel2Ideal.nD → PrngReg) :
    θ_run (Cert.Kernel2Ideal.defs (F := F)) (onTc (τ := Cert.Kernel2Ideal.τ) (Cert.Kernel2Ideal.main (F := F))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0) :=
  (θ_run _ _ _).mono (fun _ h => ⟨h.1, h.2.1⟩) (run_whole m ρ)

theorem frame_ideal : Cert.quiescent_Kernel2Ideal := fun m ρ _ => frame_any m ρ

theorem same_sig : Kernel2.sig = Kernel2Ideal.sig := by sl_kernel_rfl
theorem same_frame : Cert.quiescent_Kernel2 = (∀ (m : (ℓ : Loc Kernel2Ideal.nD Kernel2Ideal.τ Kernel2Ideal.sig) → Buf (Elt Bits) ℓ) (ρ : Dev Kernel2Ideal.nD → PrngReg), True →
    θ_run (Cert.Kernel2Ideal.defs (F := Bits)) (onTc (τ := Cert.Kernel2Ideal.τ) (Cert.Kernel2Ideal.main (F := Bits))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)) := by sl_kernel_rfl

theorem frame_kernel : Cert.quiescent_Kernel2 := same_frame.mpr fun m ρ _ => frame_any m ρ

end Cert.Hg

end
-- ==== Proof.HgRefOps.lean ====
/- The reference of the gated recurrence's gradient as operation lists: the lines around its two scans. -/
module

public import proofs.«01_k».proof.Proof.Gen.Reference2Ideal
public import Idealize.ShloMosaic.Lib.Pipeline.Kit
public import Idealize.ShloMosaic.Lib.Pipeline.Regions
public import Idealize.ShloMosaic.Lib.StableHlo.RunLoop
public import Idealize.ShloMosaic.Lib.Tactic

@[expose] public section

noncomputable section

namespace Cert.HgRef

open Idealize.ShloMosaic Idealize.ShloMosaic.TcCoe Idealize.ShloMosaic.Tactic
open Idealize.SL Idealize.SL.RA Idealize.SL.BI
open scoped Idealize.SL.BI
open Idealize.SL.BI.BIBase Idealize.SL.Sem
open Idealize.ShloMosaic.StableHlo (after held atTrip afterL Plain TRef binary nary nary_bufs_sub nullary reshape seq tcRefs ternary ternary_bufs_sub unary)
open Idealize.ShloMosaic.StableHlo renaming nullary_bufs_sub → subN, unary_bufs_sub → subU, binary_bufs_sub → subB, reshape_bufs_sub → subR
open Cert.Reference2Ideal
open Cert.Reference2Ideal.Facts₀ Cert.Reference2Ideal.Facts

variable {F : FTy → Type} [FloatOps F]

/-- What a buffer of this shape holds, as 32-bit numbers. -/
abbrev C (F : FTy → Type) (S : Shape) := (⟨S, .f32⟩ : BufTy).Contents (Elt F)
/-- A buffer of this shape, of 32-bit numbers. -/
abbrev R (S : Shape) := TRef sig ⟨S, .f32⟩

abbrev hostOps0 : List (HloOp τ sig (Elt F)) :=
  ( nullary main_cst (constant S_ .f32 0xFF800000#32)
  :: binary main_arg1 main_cst main_v0 ((fun x v => Host.reduce FloatOps.maximumf x v reducesTo_S2x512_S512_d0 h_S_) : C F S2x512 → C F S_ → C F S512)
  :: reshape main_v0 main_v1 rfl shapeCasts_S512_S1x512
  :: unary main_v1 main_v2 (broadcastInDim S2x512 ![0, 1] bcast_S1x512_S2x512_0_1 : C F S1x512 → C F S2x512)
  :: binary main_arg1 main_v2 main_v3 (cmpf .oeq : C F S2x512 → C F S2x512 → (⟨S2x512, .i1⟩ : BufTy).Contents (Elt F))
  :: unary main_v3 main_v4 (uitofp .f32 : (⟨S2x512, .i1⟩ : BufTy).Contents (Elt F) → C F S2x512)
  :: nullary main_cst_0 (constant S_ .f32 0x00000000#32)
  :: binary main_v4 main_cst_0 main_v5 ((fun x v => Host.reduceAdd x v reducesTo_S2x512_S512_d0 h_S_) : C F S2x512 → C F S_ → C F S512)
  :: nullary main_cst_1 (constant S_ .f32 0xFF800000#32)
  :: unary main_cst_1 main_v6 (broadcastInDim S512 ![] bcast_S_S512 : C F S_ → C F S512)
  :: binary main_v6 main_v0 main_v7 (maximumf : C F S512 → C F S512 → C F S512)
  :: nullary main_cst_2 (constant S_ .f32 0xFF800000#32)
  :: unary main_cst_2 main_v8 (broadcastInDim S512 ![] bcast_S_S512 : C F S_ → C F S512)
  :: binary main_v0 main_v8 main_v9 (cmpf .ogt : C F S512 → C F S512 → (⟨S512, .i1⟩ : BufTy).Contents (Elt F))
  :: nullary main_cst_3 (constant S_ .f32 0xFF800000#32)
  :: unary main_cst_3 main_v10 (broadcastInDim S512 ![] bcast_S_S512 : C F S_ → C F S512)
  :: binary main_v0 main_v10 main_v11 (cmpf .oeq : C F S512 → C F S512 → (⟨S512, .i1⟩ : BufTy).Contents (Elt F))
  :: nullary main_cst_4 (constant S_ .f32 0x3F800000#32)
  :: unary main_cst_4 main_v12 (broadcastInDim S512 ![] bcast_S_S512 : C F S_ → C F S512)
  :: nullary main_cst_5 (constant S_ .f32 0x00000000#32)
  :: unary main_cst_5 main_v13 (broadcastInDim S512 ![] bcast_S_S512 : C F S_ → C F S512)
  :: nullary main_cst_6 (constant S_ .f32 0x3F000000#32)
  :: unary main_cst_6 main_v14 (broadcastInDim S512 ![] bcast_S_S512 : C F S_ → C F S512)
  :: ternary main_v11 main_v14 main_v13 main_v15 (select : (⟨S512, .i1⟩ : BufTy).Contents (Elt F) → C F S512 → C F S512 → C F S512)
  :: ternary main_v9 main_v12 main_v15 main_v16 (select : (⟨S512, .i1⟩ : BufTy).Contents (Elt F) → C F S512 → C F S512 → C F S512)
  :: unary main_v7 main_v17 (broadcastInDim S1x512 ![1] bcast_S512_S1x512_1 : C F S512 → C F S1x512)
  :: unary main_v17 main_v18 (broadcastInDim S2x512 ![0, 1] bcast_S1x512_S2x512_0_1 : C F S1x512 → C F S2x512)
  :: binary main_arg1 main_v18 main_v19 (subf : C F S2x512 → C F S2x512 → C F S2x512)
  :: unary main_v19 main_v20 (Host.exp : C F S2x512 → C F S2x512)
  :: nullary main_cst_7 (constant S_ .f32 0x00000000#32)
  :: binary main_v20 main_cst_7 main_v21 ((fun x v => Host.reduceAdd x v reducesTo_S2x512_S512_d0 h_S_) : C F S2x512 → C F S_ → C F S512)
  :: unary main_v21 main_v22 (broadcastInDim S1x512 ![1] bcast_S512_S1x512_1 : C F S512 → C F S1x512)
  :: unary main_v22 main_v23 (broadcastInDim S2x512 ![0, 1] bcast_S1x512_S2x512_0_1 : C F S1x512 → C F S2x512)
  :: binary main_v20 main_v23 main_v24 (Host.divf : C F S2x512 → C F S2x512 → C F S2x512)
  :: binary main_v22 main_v22 main_v25 (mulf : C F S1x512 → C F S1x512 → C F S1x512)
  :: nullary main_cst_8 (constant S_ .f32 0x3F800000#32)
  :: unary main_cst_8 main_v26 (broadcastInDim S1x512 ![] bcast_S_S1x512 : C F S_ → C F S1x512)
  :: binary main_v26 main_v25 main_v27 (Host.divf : C F S1x512 → C F S1x512 → C F S1x512)
  :: [] )
theorem hostOps0_sub : (hostOps0 : List (HloOp τ sig (Elt F))).Forall fun op => op.bufs ⊆ tcRefs τ sig :=
  ⟨subN .., subB .., subR .., subU .., subB .., subU .., subN .., subB .., subN .., subU .., subB .., subN .., subU .., subB .., subN .., subU .., subB .., subN .., subU .., subN .., subU .., subN .., subU .., ternary_bufs_sub .., ternary_bufs_sub .., subU .., subU .., subB .., subU .., subN .., subB .., subU .., subU .., subB .., subB .., subN .., subU .., subB ..⟩
abbrev hostOps0_1 : List (HloOp τ sig (Elt F)) :=
  [ TRef.nullary (.of main_call0_call0_cst : R S_) (constant S_ .f32 0x00000000#32),
    TRef.unary (.of main_call0_call0_cst : R S_) (.of main_call0_call0_v0 : R S_) (broadcastInDim S_ ![] bcast_S_S_),
    TRef.binary (.of main_v24 : R S2x512) (.of main_call0_call0_v0 : R S_) (.of main_v28 : R S2x512) (fun x v => Host.reduceWindowAdd ![2, 1] ![1, 1] ![1, 0] ![0, 0] x v reduceWindows_S2x512_S2x512_w2s1p1_0_w1s1p0_0 h_S_) ]
theorem hostOps0_1_sub : (hostOps0_1 : List (HloOp τ sig (Elt F))).Forall fun op => op.bufs ⊆ tcRefs τ sig :=
  ⟨subN .., subU .., subB ..⟩
abbrev hostOps0_2 : List (HloOp τ sig (Elt F)) :=
  [ unary main_v28 main_v29 ((extractStridedSlice S1x512 ![0, 0] · slices_S2x512_S1x512_0_0) : C F S2x512 → C F S1x512),
    reshape main_v29 main_v30 rfl shapeCasts_S1x512_S512,
    unary main_arg0 main_v31 ((extractStridedSlice S4096x512 ![0, 0] · slices_S4096x2048_S4096x512_0_0) : C F S4096x2048 → C F S4096x512),
    unary main_arg0 main_v32 ((extractStridedSlice S4096x512 ![0, 512] · slices_S4096x2048_S4096x512_0_512) : C F S4096x2048 → C F S4096x512),
    unary main_arg0 main_v33 ((extractStridedSlice S4096x512 ![0, 1024] · slices_S4096x2048_S4096x512_0_1024) : C F S4096x2048 → C F S4096x512),
    unary main_arg0 main_v34 ((extractStridedSlice S4096x512 ![0, 1536] · slices_S4096x2048_S4096x512_0_1536) : C F S4096x2048 → C F S4096x512),
    reshape main_v31 main_v35 rfl shapeCasts_S4096x512_S4096x4x128 ]
theorem hostOps0_2_sub : (hostOps0_2 : List (HloOp τ sig (Elt F))).Forall fun op => op.bufs ⊆ tcRefs τ sig :=
  ⟨subU .., subR .., subU .., subU .., subU .., subU .., subR ..⟩
abbrev hostOps0_3 : List (HloOp τ sig (Elt F)) :=
  [ TRef.unary (.of main_v35 : R S4096x4x128) (.of main_call1_v0 : R S4096x4x128) Host.negf,
    TRef.unary (.of main_call1_v0 : R S4096x4x128) (.of main_call1_v1 : R S4096x4x128) Host.exp,
    TRef.nullary (.of main_call1_cst : R S_) (constant S_ .f32 0x3F800000#32),
    TRef.unary (.of main_call1_cst : R S_) (.of main_call1_v2 : R S4096x4x128) (broadcastInDim S4096x4x128 ![] bcast_S_S4096x4x128),
    TRef.binary (.of main_call1_v2 : R S4096x4x128) (.of main_call1_v1 : R S4096x4x128) (.of main_call1_v3 : R S4096x4x128) addf,
    TRef.nullary (.of main_call1_cst_0 : R S_) (constant S_ .f32 0x3F800000#32),
    TRef.unary (.of main_call1_cst_0 : R S_) (.of main_call1_v4 : R S4096x4x128) (broadcastInDim S4096x4x128 ![] bcast_S_S4096x4x128),
    TRef.binary (.of main_call1_v4 : R S4096x4x128) (.of main_call1_v3 : R S4096x4x128) (.of main_v36_2 : R S4096x4x128) Host.divf,
    TRef.nullary (.of main_call1_cst_1 : R S_) (constant S_ .f32 0x3F800000#32),
    TRef.unary (.of main_call1_cst_1 : R S_) (.of main_call1_v6 : R S4096x4x128) (broadcastInDim S4096x4x128 ![] bcast_S_S4096x4x128),
    TRef.binary (.of main_call1_v6 : R S4096x4x128) (.of main_v36_2 : R S4096x4x128) (.of main_call1_v7 : R S4096x4x128) subf,
    TRef.binary (.of main_v36_2 : R S4096x4x128) (.of main_call1_v7 : R S4096x4x128) (.of main_v36_1 : R S4096x4x128) mulf,
    TRef.binary (.of main_v35 : R S4096x4x128) (.of main_v36_2 : R S4096x4x128) (.of main_v36_0 : R S4096x4x128) mulf ]
theorem hostOps0_3_sub : (hostOps0_3 : List (HloOp τ sig (Elt F))).Forall fun op => op.bufs ⊆ tcRefs τ sig :=
  ⟨subU .., subU .., subN .., subU .., subB .., subN .., subU .., subB .., subN .., subU .., subB .., subB .., subB ..⟩
abbrev hostOps0_4 : List (HloOp τ sig (Elt F)) :=
  ( nullary main_cst_9 (constant S_ .f32 0x3DB504F3#32)
  :: unary main_cst_9 main_v37 (broadcastInDim S4096x4x128 ![] bcast_S_S4096x4x128 : C F S_ → C F S4096x4x128)
  :: binary main_v36_0 main_v37 main_v38 (mulf : C F S4096x4x128 → C F S4096x4x128 → C F S4096x4x128)
  :: reshape main_v30 main_v39 rfl shapeCasts_S512_S4x128
  :: nullary main_cst_10 (constant S_ .f32 0x3F800000#32)
  :: unary main_cst_10 main_v40 (broadcastInDim S4x128 ![] bcast_S_S4x128 : C F S_ → C F S4x128)
  :: binary main_v40 main_v39 main_v41 (subf : C F S4x128 → C F S4x128 → C F S4x128)
  :: reshape main_v32 main_v42 rfl shapeCasts_S4096x512_S4096x4x128
  :: unary main_v42 main_v43 (Host.negf : C F S4096x4x128 → C F S4096x4x128)
  :: unary main_v43 main_v44 (Host.exp : C F S4096x4x128 → C F S4096x4x128)
  :: nullary main_cst_11 (constant S_ .f32 0x3F800000#32)
  :: unary main_cst_11 main_v45 (broadcastInDim S4096x4x128 ![] bcast_S_S4096x4x128 : C F S_ → C F S4096x4x128)
  :: binary main_v45 main_v44 main_v46 (addf : C F S4096x4x128 → C F S4096x4x128 → C F S4096x4x128)
  :: nullary main_cst_12 (constant S_ .f32 0x3F800000#32)
  :: unary main_cst_12 main_v47 (broadcastInDim S4096x4x128 ![] bcast_S_S4096x4x128 : C F S_ → C F S4096x4x128)
  :: binary main_v47 main_v46 main_v48 (Host.divf : C F S4096x4x128 → C F S4096x4x128 → C F S4096x4x128)
  :: nullary main_cst_13 (constant S_ .f32 0x3F800000#32)
  :: unary main_cst_13 main_v49 (broadcastInDim S4096x4x128 ![] bcast_S_S4096x4x128 : C F S_ → C F S4096x4x128)
  :: binary main_v49 main_v48 main_v50 (subf : C F S4096x4x128 → C F S4096x4x128 → C F S4096x4x128)
  :: binary main_v48 main_v50 main_v51 (mulf : C F S4096x4x128 → C F S4096x4x128 → C F S4096x4x128)
  :: unary main_v41 main_v52 (broadcastInDim S1x4x128 ![1, 2] bcast_S4x128_S1x4x128_1_2 : C F S4x128 → C F S1x4x128)
  :: unary main_v52 main_v53 (broadcastInDim S4096x4x128 ![0, 1, 2] bcast_S1x4x128_S4096x4x128_0_1_2 : C F S1x4x128 → C F S4096x4x128)
  :: binary main_v53 main_v48 main_v54 (mulf : C F S4096x4x128 → C F S4096x4x128 → C F S4096x4x128)
  :: unary main_v39 main_v55 (broadcastInDim S1x4x128 ![1, 2] bcast_S4x128_S1x4x128_1_2 : C F S4x128 → C F S1x4x128)
  :: unary main_v55 main_v56 (broadcastInDim S4096x4x128 ![0, 1, 2] bcast_S1x4x128_S4096x4x128_0_1_2 : C F S1x4x128 → C F S4096x4x128)
  :: binary main_v56 main_v54 main_v57 (addf : C F S4096x4x128 → C F S4096x4x128 → C F S4096x4x128)
  :: nullary main_cst_14 (constant S_ .f32 0x3F800000#32)
  :: unary main_cst_14 main_v58 (broadcastInDim S4096x4x128 ![] bcast_S_S4096x4x128 : C F S_ → C F S4096x4x128)
  :: binary main_v58 main_v57 main_v59 (subf : C F S4096x4x128 → C F S4096x4x128 → C F S4096x4x128)
  :: reshape main_v33 main_v60 rfl shapeCasts_S4096x512_S4096x4x128
  :: unary main_v57 main_v61 (Host.log : C F S4096x4x128 → C F S4096x4x128)
  :: reshape main_v38 main_v62 rfl shapeCasts_S4096x4x128_S128x32x4x128
  :: unary main_v62 main_v63 ((transpose S128x4x32x128 [0, 2, 1, 3] · transposes_S128x32x4x128_S128x4x32x128_0_2_1_3) : C F S128x32x4x128 → C F S128x4x32x128)
  :: reshape main_v59 main_v64 rfl shapeCasts_S4096x4x128_S128x32x4x128
  :: unary main_v64 main_v65 ((transpose S128x4x32x128 [0, 2, 1, 3] · transposes_S128x32x4x128_S128x4x32x128_0_2_1_3) : C F S128x32x4x128 → C F S128x4x32x128)
  :: reshape main_v60 main_v66 rfl shapeCasts_S4096x4x128_S128x32x4x128
  :: unary main_v66 main_v67 ((transpose S128x4x32x128 [0, 2, 1, 3] · transposes_S128x32x4x128_S128x4x32x128_0_2_1_3) : C F S128x32x4x128 → C F S128x4x32x128)
  :: reshape main_v61 main_v68 rfl shapeCasts_S4096x4x128_S128x32x4x128
  :: unary main_v68 main_v69 ((transpose S128x4x32x128 [0, 2, 1, 3] · transposes_S128x32x4x128_S128x4x32x128_0_2_1_3) : C F S128x32x4x128 → C F S128x4x32x128)
  :: [] )
theorem hostOps0_4_sub : (hostOps0_4 : List (HloOp τ sig (Elt F))).Forall fun op => op.bufs ⊆ tcRefs τ sig :=
  ⟨subN .., subU .., subB .., subR .., subN .., subU .., subB .., subR .., subU .., subU .., subN .., subU .., subB .., subN .., subU .., subB .., subN .., subU .., subB .., subB .., subU .., subU .., subB .., subU .., subU .., subB .., subN .., subU .., subB .., subR .., subU .., subR .., subU .., subR .., subU .., subR .., subU .., subR .., subU ..⟩
abbrev hostOps0_5 : List (HloOp τ sig (Elt F)) :=
  [ TRef.nullary (.of main_call2_call0_cst : R S_) (constant S_ .f32 0x00000000#32),
    TRef.unary (.of main_call2_call0_cst : R S_) (.of main_call2_call0_v0 : R S_) (broadcastInDim S_ ![] bcast_S_S_),
    TRef.binary (.of main_v69 : R S128x4x32x128) (.of main_call2_call0_v0 : R S_) (.of main_v70 : R S128x4x32x128) (fun x v => Host.reduceWindowAdd ![1, 1, 32, 1] ![1, 1, 1, 1] ![0, 0, 31, 0] ![0, 0, 0, 0] x v reduceWindows_S128x4x32x128_S128x4x32x128_w1s1p0_0_w1s1p0_0_w32s1p31_0_w1s1p0_0 h_S_) ]
theorem hostOps0_5_sub : (hostOps0_5 : List (HloOp τ sig (Elt F))).Forall fun op => op.bufs ⊆ tcRefs τ sig :=
  ⟨subN .., subU .., subB ..⟩
abbrev hostOps0_6 : List (HloOp τ sig (Elt F)) :=
  [ unary main_v70 main_v71 ((extractStridedSlice S128x4x1x128 ![0, 0, 15, 0] · slices_S128x4x32x128_S128x4x1x128_0_0_15_0) : C F S128x4x32x128 → C F S128x4x1x128),
    unary main_v71 main_v72 (broadcastInDim S128x4x32x128 ![0, 1, 2, 3] bcast_S128x4x1x128_S128x4x32x128_0_1_2_3 : C F S128x4x1x128 → C F S128x4x32x128),
    binary main_v70 main_v72 main_v73 (subf : C F S128x4x32x128 → C F S128x4x32x128 → C F S128x4x32x128),
    unary main_v73 main_v74 (Host.exp : C F S128x4x32x128 → C F S128x4x32x128),
    binary main_v63 main_v74 main_v75 (mulf : C F S128x4x32x128 → C F S128x4x32x128 → C F S128x4x32x128),
    unary main_v71 main_v76 (broadcastInDim S128x4x32x128 ![0, 1, 2, 3] bcast_S128x4x1x128_S128x4x32x128_0_1_2_3 : C F S128x4x1x128 → C F S128x4x32x128),
    binary main_v76 main_v70 main_v77 (subf : C F S128x4x32x128 → C F S128x4x32x128 → C F S128x4x32x128),
    unary main_v77 main_v78 (Host.exp : C F S128x4x32x128 → C F S128x4x32x128),
    binary main_v65 main_v78 main_v79 (mulf : C F S128x4x32x128 → C F S128x4x32x128 → C F S128x4x32x128),
    binary main_v75 main_v79 main_v80 ((fun l r => Host.dotGeneral dot_S128x4x32x128_S128x4x32x128_S128x4x32x32_3_3_2_2_01_01 none l r) : C F S128x4x32x128 → C F S128x4x32x128 → C F S128x4x32x32),
    nullary main_c (constantI S_ 1 1#1),
    unary main_c main_v81 (broadcastInDim S32x32 ![] bcast_S_S32x32 : (⟨S_, .i1⟩ : BufTy).Contents (Elt F) → (⟨S32x32, .i1⟩ : BufTy).Contents (Elt F)) ]
theorem hostOps0_6_sub : (hostOps0_6 : List (HloOp τ sig (Elt F))).Forall fun op => op.bufs ⊆ tcRefs τ sig :=
  ⟨subU .., subU .., subB .., subU .., subB .., subU .., subB .., subU .., subB .., subB .., subN .., subU ..⟩
abbrev hostOps0_7 : List (HloOp τ sig (Elt F)) :=
  [ TRef.nullary (.of main_call3_v0 : TRef sig ⟨S32x32, .i32⟩) (iotaInDim S32x32 32 0),
    TRef.nullary (.of main_call3_c : TRef sig ⟨S_, .i32⟩) (constantI S_ 32 0#32),
    TRef.unary (.of main_call3_c : TRef sig ⟨S_, .i32⟩) (.of main_call3_v1 : TRef sig ⟨S32x32, .i32⟩) (broadcastInDim S32x32 ![] bcast_S_S32x32),
    TRef.binary (.of main_call3_v0 : TRef sig ⟨S32x32, .i32⟩) (.of main_call3_v1 : TRef sig ⟨S32x32, .i32⟩) (.of main_call3_v2 : TRef sig ⟨S32x32, .i32⟩) addi,
    TRef.nullary (.of main_call3_v3 : TRef sig ⟨S32x32, .i32⟩) (iotaInDim S32x32 32 1),
    TRef.binary (.of main_call3_v2 : TRef sig ⟨S32x32, .i32⟩) (.of main_call3_v3 : TRef sig ⟨S32x32, .i32⟩) (.of main_call3_v4 : TRef sig ⟨S32x32, .i1⟩) (cmpi .sge),
    TRef.nullary (.of main_call3_c_0 : TRef sig ⟨S_, .i1⟩) (constantI S_ 1 0#1),
    TRef.unary (.of main_call3_c_0 : TRef sig ⟨S_, .i1⟩) (.of main_call3_v5 : TRef sig ⟨S32x32, .i1⟩) (broadcastInDim S32x32 ![] bcast_S_S32x32),
    TRef.ternary (.of main_call3_v4 : TRef sig ⟨S32x32, .i1⟩) (.of main_v81 : TRef sig ⟨S32x32, .i1⟩) (.of main_call3_v5 : TRef sig ⟨S32x32, .i1⟩) (.of main_v82 : TRef sig ⟨S32x32, .i1⟩) select ]
theorem hostOps0_7_sub : (hostOps0_7 : List (HloOp τ sig (Elt F))).Forall fun op => op.bufs ⊆ tcRefs τ sig :=
  ⟨subN .., subN .., subU .., subB .., subN .., subB .., subN .., subU .., ternary_bufs_sub ..⟩
abbrev hostOps0_8 : List (HloOp τ sig (Elt F)) :=
  [ nullary main_cst_15 (constant S_ .f32 0x00000000#32) ]
theorem hostOps0_8_sub : (hostOps0_8 : List (HloOp τ sig (Elt F))).Forall fun op => op.bufs ⊆ tcRefs τ sig :=
  subN ..
abbrev hostOps0_9 : List (HloOp τ sig (Elt F)) :=
  [ TRef.unary (.of main_cst_15 : R S_) (.of main_call4_v0 : R S_) id,
    TRef.unary (.of main_v82 : TRef sig ⟨S32x32, .i1⟩) (.of main_v83_1 : TRef sig ⟨S128x4x32x32, .i1⟩) (broadcastInDim S128x4x32x32 ![2, 3] bcast_S32x32_S128x4x32x32_2_3),
    TRef.unary (.of main_call4_v0 : R S_) (.of main_call4_v2 : R S128x4x32x32) (broadcastInDim S128x4x32x32 ![] bcast_S_S128x4x32x32),
    TRef.ternary (.of main_v83_1 : TRef sig ⟨S128x4x32x32, .i1⟩) (.of main_v80 : R S128x4x32x32) (.of main_call4_v2 : R S128x4x32x32) (.of main_v83_0 : R S128x4x32x32) select,
    TRef.nullary (.of main_call4_cst : R S_) (constant S_ .f32 0x00000000#32),
    TRef.unary (.of main_call4_cst : R S_) (.of main_v83_2 : R S128x4x32x32) (broadcastInDim S128x4x32x32 ![] bcast_S_S128x4x32x32) ]
theorem hostOps0_9_sub : (hostOps0_9 : List (HloOp τ sig (Elt F))).Forall fun op => op.bufs ⊆ tcRefs τ sig :=
  ⟨subU .., subU .., subU .., ternary_bufs_sub .., subN .., subU ..⟩
abbrev hostOps0_10 : List (HloOp τ sig (Elt F)) :=
  [ binary main_v83_0 main_v67 main_v84 ((fun l r => Host.dotGeneral dot_S128x4x32x32_S128x4x32x128_S128x4x32x128_3_2_2_3_01_01 none l r) : C F S128x4x32x32 → C F S128x4x32x128 → C F S128x4x32x128),
    unary main_v70 main_v85 ((extractStridedSlice S128x4x1x128 ![0, 0, 31, 0] · slices_S128x4x32x128_S128x4x1x128_0_0_31_0) : C F S128x4x32x128 → C F S128x4x1x128),
    unary main_v70 main_v86 (Host.exp : C F S128x4x32x128 → C F S128x4x32x128),
    binary main_v63 main_v86 main_v87 (mulf : C F S128x4x32x128 → C F S128x4x32x128 → C F S128x4x32x128),
    unary main_v85 main_v88 (broadcastInDim S128x4x32x128 ![0, 1, 2, 3] bcast_S128x4x1x128_S128x4x32x128_0_1_2_3 : C F S128x4x1x128 → C F S128x4x32x128),
    binary main_v88 main_v70 main_v89 (subf : C F S128x4x32x128 → C F S128x4x32x128 → C F S128x4x32x128),
    unary main_v89 main_v90 (Host.exp : C F S128x4x32x128 → C F S128x4x32x128),
    binary main_v65 main_v90 main_v91 (mulf : C F S128x4x32x128 → C F S128x4x32x128 → C F S128x4x32x128),
    reshape main_v85 main_v92 rfl shapeCasts_S128x4x1x128_S128x4x128,
    unary main_v92 main_v93 (Host.exp : C F S128x4x128 → C F S128x4x128),
    nullary main_cst_16 (constant S_ .f32 0x00000000#32),
    unary main_cst_16 main_v94 (broadcastInDim S4x128x128 ![] bcast_S_S4x128x128 : C F S_ → C F S4x128x128),
    nullary main_cst_17 (constant S_ .f32 0x00000000#32),
    unary main_cst_17 main_v95 (broadcastInDim S128x4x32x128 ![] bcast_S_S128x4x32x128 : C F S_ → C F S128x4x32x128),
    nullary main_cst_18 (constant S_ .f32 0x00000000#32),
    unary main_cst_18 main_v96 (broadcastInDim S128x4x128x128 ![] bcast_S_S128x4x128x128 : C F S_ → C F S128x4x128x128),
    nullary main_cst_19 (constant S_ .f32 0x00000000#32),
    unary main_cst_19 main_v97 (broadcastInDim S128x4x128x1 ![] bcast_S_S128x4x128x1 : C F S_ → C F S128x4x128x1),
    nullary main_c_20 (constantI S_ 32 0#32),
    unary main_v87 main_v98_0 id,
    unary main_v91 main_v98_1 id,
    unary main_v67 main_v98_2 id,
    unary main_v93 main_v98_3 id,
    unary main_c_20 main_v98_4 id,
    unary main_v94 main_v98_5 id,
    unary main_v95 main_v98_6 id,
    unary main_v96 main_v98_7 id,
    unary main_v97 main_v98_8 id ]
theorem hostOps0_10_sub : (hostOps0_10 : List (HloOp τ sig (Elt F))).Forall fun op => op.bufs ⊆ tcRefs τ sig :=
  ⟨subB .., subU .., subU .., subB .., subU .., subB .., subU .., subB .., subR .., subU .., subN .., subU .., subN .., subU .., subN .., subU .., subN .., subU .., subN .., subU .., subU .., subU .., subU .., subU .., subU .., subU .., subU .., subU ..⟩
abbrev hostOps0_11 : List (HloOp τ sig (Elt F)) :=
  [ binary main_v84 main_v98_6 main_v99 (addf : C F S128x4x32x128 → C F S128x4x32x128 → C F S128x4x32x128),
    unary main_v99 main_v100 ((transpose S128x32x4x128 [0, 2, 1, 3] · transposes_S128x4x32x128_S128x32x4x128_0_2_1_3) : C F S128x4x32x128 → C F S128x32x4x128),
    reshape main_v100 main_v101 rfl shapeCasts_S128x32x4x128_S4096x4x128,
    reshape main_v34 main_v102 rfl shapeCasts_S4096x512_S4096x4x128,
    reshape main_arg2 main_v103 rfl shapeCasts_S1x128_S128,
    binary main_v101 main_v101 main_v104 (mulf : C F S4096x4x128 → C F S4096x4x128 → C F S4096x4x128),
    nullary main_cst_21 (constant S_ .f32 0x00000000#32),
    binary main_v104 main_cst_21 main_v105 ((fun x v => Host.reduceAdd x v reducesTo_S4096x4x128_S4096x4_d2 h_S_) : C F S4096x4x128 → C F S_ → C F S4096x4),
    unary main_v105 main_v106 (broadcastInDim S4096x4x1 ![0, 1] bcast_S4096x4_S4096x4x1_0_1 : C F S4096x4 → C F S4096x4x1),
    nullary main_cst_22 (constant S_ .f32 0x43000000#32),
    unary main_cst_22 main_v107 (broadcastInDim S4096x4x1 ![] bcast_S_S4096x4x1 : C F S_ → C F S4096x4x1),
    binary main_v106 main_v107 main_v108 (Host.divf : C F S4096x4x1 → C F S4096x4x1 → C F S4096x4x1),
    nullary main_cst_23 (constant S_ .f32 0x358637BD#32),
    unary main_cst_23 main_v109 (broadcastInDim S4096x4x1 ![] bcast_S_S4096x4x1 : C F S_ → C F S4096x4x1),
    binary main_v108 main_v109 main_v110 (addf : C F S4096x4x1 → C F S4096x4x1 → C F S4096x4x1),
    unary main_v110 main_v111 (Host.rsqrt : C F S4096x4x1 → C F S4096x4x1),
    binary main_v111 main_v110 main_v112 (Host.divf : C F S4096x4x1 → C F S4096x4x1 → C F S4096x4x1),
    nullary main_cst_24 (constant S_ .f32 0xBF000000#32),
    unary main_cst_24 main_v113 (broadcastInDim S4096x4x1 ![] bcast_S_S4096x4x1 : C F S_ → C F S4096x4x1),
    binary main_v113 main_v112 main_v114 (mulf : C F S4096x4x1 → C F S4096x4x1 → C F S4096x4x1),
    unary main_v111 main_v115 (broadcastInDim S4096x4x128 ![0, 1, 2] bcast_S4096x4x1_S4096x4x128_0_1_2 : C F S4096x4x1 → C F S4096x4x128),
    binary main_v101 main_v115 main_v116 (mulf : C F S4096x4x128 → C F S4096x4x128 → C F S4096x4x128),
    unary main_v103 main_v117 (broadcastInDim S1x1x128 ![2] bcast_S128_S1x1x128_2 : C F S128 → C F S1x1x128),
    unary main_v117 main_v118 (broadcastInDim S4096x4x128 ![0, 1, 2] bcast_S1x1x128_S4096x4x128_0_1_2 : C F S1x1x128 → C F S4096x4x128),
    binary main_v116 main_v118 main_v119 (mulf : C F S4096x4x128 → C F S4096x4x128 → C F S4096x4x128) ]
theorem hostOps0_11_sub : (hostOps0_11 : List (HloOp τ sig (Elt F))).Forall fun op => op.bufs ⊆ tcRefs τ sig :=
  ⟨subB .., subU .., subR .., subR .., subR .., subB .., subN .., subB .., subU .., subN .., subU .., subB .., subN .., subU .., subB .., subU .., subB .., subN .., subU .., subB .., subU .., subB .., subU .., subU .., subB ..⟩
abbrev hostOps0_12 : List (HloOp τ sig (Elt F)) :=
  [ TRef.unary (.of main_v102 : R S4096x4x128) (.of main_call12_v0 : R S4096x4x128) Host.negf,
    TRef.unary (.of main_call12_v0 : R S4096x4x128) (.of main_call12_v1 : R S4096x4x128) Host.exp,
    TRef.nullary (.of main_call12_cst : R S_) (constant S_ .f32 0x3F800000#32),
    TRef.unary (.of main_call12_cst : R S_) (.of main_call12_v2 : R S4096x4x128) (broadcastInDim S4096x4x128 ![] bcast_S_S4096x4x128),
    TRef.binary (.of main_call12_v2 : R S4096x4x128) (.of main_call12_v1 : R S4096x4x128) (.of main_call12_v3 : R S4096x4x128) addf,
    TRef.nullary (.of main_call12_cst_0 : R S_) (constant S_ .f32 0x3F800000#32),
    TRef.unary (.of main_call12_cst_0 : R S_) (.of main_call12_v4 : R S4096x4x128) (broadcastInDim S4096x4x128 ![] bcast_S_S4096x4x128),
    TRef.binary (.of main_call12_v4 : R S4096x4x128) (.of main_call12_v3 : R S4096x4x128) (.of main_v120_2 : R S4096x4x128) Host.divf,
    TRef.nullary (.of main_call12_cst_1 : R S_) (constant S_ .f32 0x3F800000#32),
    TRef.unary (.of main_call12_cst_1 : R S_) (.of main_call12_v6 : R S4096x4x128) (broadcastInDim S4096x4x128 ![] bcast_S_S4096x4x128),
    TRef.binary (.of main_call12_v6 : R S4096x4x128) (.of main_v120_2 : R S4096x4x128) (.of main_call12_v7 : R S4096x4x128) subf,
    TRef.binary (.of main_v120_2 : R S4096x4x128) (.of main_call12_v7 : R S4096x4x128) (.of main_v120_1 : R S4096x4x128) mulf,
    TRef.binary (.of main_v102 : R S4096x4x128) (.of main_v120_2 : R S4096x4x128) (.of main_v120_0 : R S4096x4x128) mulf ]
theorem hostOps0_12_sub : (hostOps0_12 : List (HloOp τ sig (Elt F))).Forall fun op => op.bufs ⊆ tcRefs τ sig :=
  ⟨subU .., subU .., subN .., subU .., subB .., subN .., subU .., subB .., subN .., subU .., subB .., subB .., subB ..⟩
abbrev hostOps0_13 : List (HloOp τ sig (Elt F)) :=
  [ binary main_v119 main_v120_0 main_v121 (mulf : C F S4096x4x128 → C F S4096x4x128 → C F S4096x4x128),
    reshape main_v121 main_v122 rfl shapeCasts_S4096x4x128_S4096x512,
    nullary main_cst_25 (constant S_ .f32 0x00000000#32),
    unary main_cst_25 main_v123 (broadcastInDim S4x128x128 ![] bcast_S_S4x128x128 : C F S_ → C F S4x128x128),
    reshape main_arg3 main_v124 rfl shapeCasts_S4096x512_S4096x4x128,
    binary main_v119 main_v124 main_v125 (mulf : C F S4096x4x128 → C F S4096x4x128 → C F S4096x4x128),
    binary main_v124 main_v120_0 main_v126 (mulf : C F S4096x4x128 → C F S4096x4x128 → C F S4096x4x128) ]
theorem hostOps0_13_sub : (hostOps0_13 : List (HloOp τ sig (Elt F))).Forall fun op => op.bufs ⊆ tcRefs τ sig :=
  ⟨subB .., subR .., subN .., subU .., subR .., subB .., subB ..⟩
abbrev hostOps0_14 : List (HloOp τ sig (Elt F)) :=
  [ TRef.binary (.of main_v102 : R S4096x4x128) (.of main_v125 : R S4096x4x128) (.of main_call13_v0 : R S4096x4x128) mulf,
    TRef.binary (.of main_v125 : R S4096x4x128) (.of main_v120_2 : R S4096x4x128) (.of main_call13_v1 : R S4096x4x128) mulf,
    TRef.binary (.of main_call13_v0 : R S4096x4x128) (.of main_v120_1 : R S4096x4x128) (.of main_call13_v2 : R S4096x4x128) mulf,
    TRef.binary (.of main_call13_v1 : R S4096x4x128) (.of main_call13_v2 : R S4096x4x128) (.of main_v127 : R S4096x4x128) addf ]
theorem hostOps0_14_sub : (hostOps0_14 : List (HloOp τ sig (Elt F))).Forall fun op => op.bufs ⊆ tcRefs τ sig :=
  ⟨subB .., subB .., subB .., subB ..⟩
abbrev hostOps0_15 : List (HloOp τ sig (Elt F)) :=
  ( binary main_v116 main_v126 main_v128 (mulf : C F S4096x4x128 → C F S4096x4x128 → C F S4096x4x128)
  :: nullary main_cst_26 (constant S_ .f32 0x00000000#32)
  :: binary main_v128 main_cst_26 main_v129 ((fun x v => Host.reduceAdd x v reducesTo_S4096x4x128_S128_d0_1 h_S_) : C F S4096x4x128 → C F S_ → C F S128)
  :: reshape main_v129 main_v130 rfl shapeCasts_S128_S1x1x128
  :: unary main_v117 main_v131 (broadcastInDim S4096x4x128 ![0, 1, 2] bcast_S1x1x128_S4096x4x128_0_1_2 : C F S1x1x128 → C F S4096x4x128)
  :: binary main_v126 main_v131 main_v132 (mulf : C F S4096x4x128 → C F S4096x4x128 → C F S4096x4x128)
  :: nullary main_cst_27 (constant S_ .f32 0x00000000#32)
  :: binary main_v130 main_cst_27 main_v133 ((fun x v => Host.reduceAdd x v reducesTo_S1x1x128_S128_d0_1 h_S_) : C F S1x1x128 → C F S_ → C F S128)
  :: binary main_v101 main_v132 main_v134 (mulf : C F S4096x4x128 → C F S4096x4x128 → C F S4096x4x128)
  :: nullary main_cst_28 (constant S_ .f32 0x00000000#32)
  :: binary main_v134 main_cst_28 main_v135 ((fun x v => Host.reduceAdd x v reducesTo_S4096x4x128_S4096x4_d2 h_S_) : C F S4096x4x128 → C F S_ → C F S4096x4)
  :: reshape main_v135 main_v136 rfl shapeCasts_S4096x4_S4096x4x1
  :: unary main_v111 main_v137 (broadcastInDim S4096x4x128 ![0, 1, 2] bcast_S4096x4x1_S4096x4x128_0_1_2 : C F S4096x4x1 → C F S4096x4x128)
  :: binary main_v132 main_v137 main_v138 (mulf : C F S4096x4x128 → C F S4096x4x128 → C F S4096x4x128)
  :: binary main_v136 main_v114 main_v139 (mulf : C F S4096x4x1 → C F S4096x4x1 → C F S4096x4x1)
  :: nullary main_cst_29 (constant S_ .f32 0x43000000#32)
  :: unary main_cst_29 main_v140 (broadcastInDim S4096x4x1 ![] bcast_S_S4096x4x1 : C F S_ → C F S4096x4x1)
  :: binary main_v139 main_v140 main_v141 (Host.divf : C F S4096x4x1 → C F S4096x4x1 → C F S4096x4x1)
  :: nullary main_cst_30 (constant S_ .f32 0x00000000#32)
  :: binary main_v141 main_cst_30 main_v142 ((fun x v => Host.reduceAdd x v reducesTo_S4096x4x1_S4096x4_d2 h_S_) : C F S4096x4x1 → C F S_ → C F S4096x4)
  :: unary main_v142 main_v143 (broadcastInDim S4096x4x128 ![0, 1] bcast_S4096x4_S4096x4x128_0_1 : C F S4096x4 → C F S4096x4x128)
  :: binary main_v101 main_v143 main_v144 (mulf : C F S4096x4x128 → C F S4096x4x128 → C F S4096x4x128)
  :: binary main_v138 main_v144 main_v145 (addf : C F S4096x4x128 → C F S4096x4x128 → C F S4096x4x128)
  :: binary main_v143 main_v101 main_v146 (mulf : C F S4096x4x128 → C F S4096x4x128 → C F S4096x4x128)
  :: binary main_v145 main_v146 main_v147 (addf : C F S4096x4x128 → C F S4096x4x128 → C F S4096x4x128)
  :: unary main_v133 main_v148 (broadcastInDim S1x128 ![1] bcast_S128_S1x128_1 : C F S128 → C F S1x128)
  :: reshape main_v127 main_v149 rfl shapeCasts_S4096x4x128_S4096x512
  :: reshape main_v147 main_v150 rfl shapeCasts_S4096x4x128_S128x32x4x128
  :: unary main_v150 main_v151 ((transpose S128x4x32x128 [0, 2, 1, 3] · transposes_S128x32x4x128_S128x4x32x128_0_2_1_3) : C F S128x32x4x128 → C F S128x4x32x128)
  :: nullary main_cst_31 (constant S_ .f32 0x00000000#32)
  :: unary main_cst_31 main_v152 (broadcastInDim S4x128x128 ![] bcast_S_S4x128x128 : C F S_ → C F S4x128x128)
  :: nullary main_cst_32 (constant S_ .f32 0x00000000#32)
  :: unary main_cst_32 main_v153 (broadcastInDim S128x4x32x128 ![] bcast_S_S128x4x32x128 : C F S_ → C F S128x4x32x128)
  :: nullary main_cst_33 (constant S_ .f32 0x00000000#32)
  :: unary main_cst_33 main_v154 (broadcastInDim S128x4x32x128 ![] bcast_S_S128x4x32x128 : C F S_ → C F S128x4x32x128)
  :: nullary main_cst_34 (constant S_ .f32 0x00000000#32)
  :: unary main_cst_34 main_v155 (broadcastInDim S128x4x32x128 ![] bcast_S_S128x4x32x128 : C F S_ → C F S128x4x32x128)
  :: nullary main_cst_35 (constant S_ .f32 0x00000000#32)
  :: unary main_cst_35 main_v156 (broadcastInDim S128x4x128 ![] bcast_S_S128x4x128 : C F S_ → C F S128x4x128)
  :: nullary main_c_36 (constantI S_ 32 0#32)
  :: unary main_v151 main_v157_0 id
  :: unary main_v98_7 main_v157_1 id
  :: unary main_v87 main_v157_2 id
  :: unary main_v98_8 main_v157_3 id
  :: unary main_v67 main_v157_4 id
  :: unary main_v91 main_v157_5 id
  :: unary main_c_36 main_v157_6 id
  :: unary main_v152 main_v157_7 id
  :: unary main_v153 main_v157_8 id
  :: unary main_v154 main_v157_9 id
  :: unary main_v155 main_v157_10 id
  :: unary main_v156 main_v157_11 id
  :: [] )
theorem hostOps0_15_sub : (hostOps0_15 : List (HloOp τ sig (Elt F))).Forall fun op => op.bufs ⊆ tcRefs τ sig :=
  ⟨subB .., subN .., subB .., subR .., subU .., subB .., subN .., subB .., subB .., subN .., subB .., subR .., subU .., subB .., subB .., subN .., subU .., subB .., subN .., subB .., subU .., subB .., subB .., subB .., subB .., subU .., subR .., subR .., subU .., subN .., subU .., subN .., subU .., subN .., subU .., subN .., subU .., subN .., subU .., subN .., subU .., subU .., subU .., subU .., subU .., subU .., subU .., subU .., subU .., subU .., subU .., subU ..⟩
abbrev hostOps0_16 : List (HloOp τ sig (Elt F)) :=
  [ binary main_v157_11 main_v93 main_v158 (mulf : C F S128x4x128 → C F S128x4x128 → C F S128x4x128),
    unary main_v158 main_v159 (broadcastInDim S128x4x1x128 ![0, 1, 3] bcast_S128x4x128_S128x4x1x128_0_1_3 : C F S128x4x128 → C F S128x4x1x128),
    binary main_v65 main_v157_9 main_v160 (mulf : C F S128x4x32x128 → C F S128x4x32x128 → C F S128x4x32x128),
    binary main_v157_9 main_v90 main_v161 (mulf : C F S128x4x32x128 → C F S128x4x32x128 → C F S128x4x32x128),
    binary main_v160 main_v90 main_v162 (mulf : C F S128x4x32x128 → C F S128x4x32x128 → C F S128x4x32x128),
    nullary main_cst_37 (constant S_ .f32 0x00000000#32),
    binary main_v162 main_cst_37 main_v163 ((fun x v => Host.reduceAdd x v reducesTo_S128x4x32x128_S128x4x128_d2 h_S_) : C F S128x4x32x128 → C F S_ → C F S128x4x128),
    reshape main_v163 main_v164 rfl shapeCasts_S128x4x128_S128x4x1x128,
    unary main_v162 main_v165 (Host.negf : C F S128x4x32x128 → C F S128x4x32x128),
    binary main_v159 main_v164 main_v166 (addf : C F S128x4x1x128 → C F S128x4x1x128 → C F S128x4x1x128),
    binary main_v63 main_v157_8 main_v167 (mulf : C F S128x4x32x128 → C F S128x4x32x128 → C F S128x4x32x128),
    binary main_v157_8 main_v86 main_v168 (mulf : C F S128x4x32x128 → C F S128x4x32x128 → C F S128x4x32x128),
    binary main_v167 main_v86 main_v169 (mulf : C F S128x4x32x128 → C F S128x4x32x128 → C F S128x4x32x128),
    binary main_v165 main_v169 main_v170 (addf : C F S128x4x32x128 → C F S128x4x32x128 → C F S128x4x32x128),
    nullary main_cst_38 (constant S_ .f32 0x00000000#32),
    binary main_v166 main_cst_38 main_v171 ((fun x v => pad S128x4x32x128 ![0, 0, 31, 0] ![0, 0, 0, 0] ![0, 0, 0, 0] x v pads_S128x4x1x128_S128x4x32x128_000_000_3100_000 h_S_) : C F S128x4x1x128 → C F S_ → C F S128x4x32x128),
    binary main_v170 main_v171 main_v172 (addf : C F S128x4x32x128 → C F S128x4x32x128 → C F S128x4x32x128),
    binary main_v151 main_v83_0 main_v173 ((fun l r => Host.dotGeneral dot_S128x4x32x128_S128x4x32x32_S128x4x128x32_2_2_3_3_01_01 none l r) : C F S128x4x32x128 → C F S128x4x32x32 → C F S128x4x128x32),
    unary main_v173 main_v174 ((transpose S128x4x32x128 [0, 1, 3, 2] · transposes_S128x4x128x32_S128x4x32x128_0_1_3_2) : C F S128x4x128x32 → C F S128x4x32x128),
    binary main_v157_10 main_v174 main_v175 (addf : C F S128x4x32x128 → C F S128x4x32x128 → C F S128x4x32x128),
    binary main_v151 main_v67 main_v176 ((fun l r => Host.dotGeneral dot_S128x4x32x128_S128x4x32x128_S128x4x32x32_3_3_2_2_01_01 none l r) : C F S128x4x32x128 → C F S128x4x32x128 → C F S128x4x32x32) ]
theorem hostOps0_16_sub : (hostOps0_16 : List (HloOp τ sig (Elt F))).Forall fun op => op.bufs ⊆ tcRefs τ sig :=
  ⟨subB .., subU .., subB .., subB .., subB .., subN .., subB .., subR .., subU .., subB .., subB .., subB .., subB .., subB .., subN .., subB .., subB .., subB .., subU .., subB .., subB ..⟩
abbrev hostOps0_17 : List (HloOp τ sig (Elt F)) :=
  [ TRef.nullary (.of main_call24_cst : R S_) (constant S_ .f32 0x00000000#32),
    TRef.unary (.of main_call24_cst : R S_) (.of main_call24_v0 : R S128x4x32x32) (broadcastInDim S128x4x32x32 ![] bcast_S_S128x4x32x32),
    TRef.ternary (.of main_v83_1 : TRef sig ⟨S128x4x32x32, .i1⟩) (.of main_v176 : R S128x4x32x32) (.of main_call24_v0 : R S128x4x32x32) (.of main_v177 : R S128x4x32x32) select ]
theorem hostOps0_17_sub : (hostOps0_17 : List (HloOp τ sig (Elt F))).Forall fun op => op.bufs ⊆ tcRefs τ sig :=
  ⟨subN .., subU .., ternary_bufs_sub ..⟩
abbrev hostOps0_18 : List (HloOp τ sig (Elt F)) :=
  [ binary main_v177 main_v75 main_v178 ((fun l r => Host.dotGeneral dot_S128x4x32x32_S128x4x32x128_S128x4x32x128_2_2_3_3_01_01 none l r) : C F S128x4x32x32 → C F S128x4x32x128 → C F S128x4x32x128),
    binary main_v177 main_v79 main_v179 ((fun l r => Host.dotGeneral dot_S128x4x32x32_S128x4x32x128_S128x4x32x128_3_2_2_3_01_01 none l r) : C F S128x4x32x32 → C F S128x4x32x128 → C F S128x4x32x128),
    binary main_v65 main_v178 main_v180 (mulf : C F S128x4x32x128 → C F S128x4x32x128 → C F S128x4x32x128),
    binary main_v178 main_v78 main_v181 (mulf : C F S128x4x32x128 → C F S128x4x32x128 → C F S128x4x32x128),
    binary main_v161 main_v181 main_v182 (addf : C F S128x4x32x128 → C F S128x4x32x128 → C F S128x4x32x128),
    binary main_v180 main_v78 main_v183 (mulf : C F S128x4x32x128 → C F S128x4x32x128 → C F S128x4x32x128),
    nullary main_cst_39 (constant S_ .f32 0x00000000#32),
    binary main_v183 main_cst_39 main_v184 ((fun x v => Host.reduceAdd x v reducesTo_S128x4x32x128_S128x4x128_d2 h_S_) : C F S128x4x32x128 → C F S_ → C F S128x4x128),
    reshape main_v184 main_v185 rfl shapeCasts_S128x4x128_S128x4x1x128,
    unary main_v183 main_v186 (Host.negf : C F S128x4x32x128 → C F S128x4x32x128),
    binary main_v172 main_v186 main_v187 (addf : C F S128x4x32x128 → C F S128x4x32x128 → C F S128x4x32x128),
    binary main_v63 main_v179 main_v188 (mulf : C F S128x4x32x128 → C F S128x4x32x128 → C F S128x4x32x128),
    binary main_v179 main_v74 main_v189 (mulf : C F S128x4x32x128 → C F S128x4x32x128 → C F S128x4x32x128),
    binary main_v168 main_v189 main_v190 (addf : C F S128x4x32x128 → C F S128x4x32x128 → C F S128x4x32x128),
    binary main_v188 main_v74 main_v191 (mulf : C F S128x4x32x128 → C F S128x4x32x128 → C F S128x4x32x128),
    unary main_v191 main_v192 (Host.negf : C F S128x4x32x128 → C F S128x4x32x128),
    nullary main_cst_40 (constant S_ .f32 0x00000000#32),
    binary main_v192 main_cst_40 main_v193 ((fun x v => Host.reduceAdd x v reducesTo_S128x4x32x128_S128x4x128_d2 h_S_) : C F S128x4x32x128 → C F S_ → C F S128x4x128),
    reshape main_v193 main_v194 rfl shapeCasts_S128x4x128_S128x4x1x128,
    binary main_v187 main_v191 main_v195 (addf : C F S128x4x32x128 → C F S128x4x32x128 → C F S128x4x32x128),
    binary main_v185 main_v194 main_v196 (addf : C F S128x4x1x128 → C F S128x4x1x128 → C F S128x4x1x128),
    nullary main_cst_41 (constant S_ .f32 0x00000000#32),
    binary main_v196 main_cst_41 main_v197 ((fun x v => pad S128x4x32x128 ![0, 0, 15, 0] ![0, 0, 16, 0] ![0, 0, 0, 0] x v pads_S128x4x1x128_S128x4x32x128_000_000_15160_000 h_S_) : C F S128x4x1x128 → C F S_ → C F S128x4x32x128),
    binary main_v195 main_v197 main_v198 (addf : C F S128x4x32x128 → C F S128x4x32x128 → C F S128x4x32x128) ]
theorem hostOps0_18_sub : (hostOps0_18 : List (HloOp τ sig (Elt F))).Forall fun op => op.bufs ⊆ tcRefs τ sig :=
  ⟨subB .., subB .., subB .., subB .., subB .., subB .., subN .., subB .., subR .., subU .., subB .., subB .., subB .., subB .., subB .., subU .., subN .., subB .., subR .., subB .., subB .., subN .., subB .., subB ..⟩
abbrev hostOps0_19 : List (HloOp τ sig (Elt F)) :=
  [ TRef.nullary (.of main_call25_call0_cst : R S_) (constant S_ .f32 0x00000000#32),
    TRef.unary (.of main_call25_call0_cst : R S_) (.of main_call25_call0_v0 : R S_) (broadcastInDim S_ ![] bcast_S_S_),
    TRef.binary (.of main_v198 : R S128x4x32x128) (.of main_call25_call0_v0 : R S_) (.of main_v199 : R S128x4x32x128) (fun x v => Host.reduceWindowAdd ![1, 1, 32, 1] ![1, 1, 1, 1] ![0, 0, 0, 0] ![0, 0, 31, 0] x v reduceWindows_S128x4x32x128_S128x4x32x128_w1s1p0_0_w1s1p0_0_w32s1p0_31_w1s1p0_0 h_S_) ]
theorem hostOps0_19_sub : (hostOps0_19 : List (HloOp τ sig (Elt F))).Forall fun op => op.bufs ⊆ tcRefs τ sig :=
  ⟨subN .., subU .., subB ..⟩
abbrev hostOps0_20 : List (HloOp τ sig (Elt F)) :=
  ( unary main_v199 main_v200 ((transpose S128x32x4x128 [0, 2, 1, 3] · transposes_S128x4x32x128_S128x32x4x128_0_2_1_3) : C F S128x4x32x128 → C F S128x32x4x128)
  :: reshape main_v200 main_v201 rfl shapeCasts_S128x32x4x128_S4096x4x128
  :: unary main_v175 main_v202 ((transpose S128x32x4x128 [0, 2, 1, 3] · transposes_S128x4x32x128_S128x32x4x128_0_2_1_3) : C F S128x4x32x128 → C F S128x32x4x128)
  :: reshape main_v202 main_v203 rfl shapeCasts_S128x32x4x128_S4096x4x128
  :: unary main_v182 main_v204 ((transpose S128x32x4x128 [0, 2, 1, 3] · transposes_S128x4x32x128_S128x32x4x128_0_2_1_3) : C F S128x4x32x128 → C F S128x32x4x128)
  :: reshape main_v204 main_v205 rfl shapeCasts_S128x32x4x128_S4096x4x128
  :: unary main_v190 main_v206 ((transpose S128x32x4x128 [0, 2, 1, 3] · transposes_S128x4x32x128_S128x32x4x128_0_2_1_3) : C F S128x4x32x128 → C F S128x32x4x128)
  :: reshape main_v206 main_v207 rfl shapeCasts_S128x32x4x128_S4096x4x128
  :: binary main_v201 main_v57 main_v208 (Host.divf : C F S4096x4x128 → C F S4096x4x128 → C F S4096x4x128)
  :: reshape main_v203 main_v209 rfl shapeCasts_S4096x4x128_S4096x512
  :: unary main_v205 main_v210 (Host.negf : C F S4096x4x128 → C F S4096x4x128)
  :: binary main_v208 main_v210 main_v211 (addf : C F S4096x4x128 → C F S4096x4x128 → C F S4096x4x128)
  :: nullary main_cst_42 (constant S_ .f32 0x00000000#32)
  :: binary main_v211 main_cst_42 main_v212 ((fun x v => Host.reduceAdd x v reducesTo_S4096x4x128_S4x128_d0 h_S_) : C F S4096x4x128 → C F S_ → C F S4x128)
  :: reshape main_v212 main_v213 rfl shapeCasts_S4x128_S1x4x128
  :: nullary main_cst_43 (constant S_ .f32 0x00000000#32)
  :: binary main_v213 main_cst_43 main_v214 ((fun x v => Host.reduceAdd x v reducesTo_S1x4x128_S4x128_d0 h_S_) : C F S1x4x128 → C F S_ → C F S4x128)
  :: unary main_v52 main_v215 (broadcastInDim S4096x4x128 ![0, 1, 2] bcast_S1x4x128_S4096x4x128_0_1_2 : C F S1x4x128 → C F S4096x4x128)
  :: binary main_v215 main_v211 main_v216 (mulf : C F S4096x4x128 → C F S4096x4x128 → C F S4096x4x128)
  :: binary main_v211 main_v48 main_v217 (mulf : C F S4096x4x128 → C F S4096x4x128 → C F S4096x4x128)
  :: nullary main_cst_44 (constant S_ .f32 0x00000000#32)
  :: binary main_v217 main_cst_44 main_v218 ((fun x v => Host.reduceAdd x v reducesTo_S4096x4x128_S4x128_d0 h_S_) : C F S4096x4x128 → C F S_ → C F S4x128)
  :: reshape main_v218 main_v219 rfl shapeCasts_S4x128_S1x4x128
  :: nullary main_cst_45 (constant S_ .f32 0x00000000#32)
  :: binary main_v219 main_cst_45 main_v220 ((fun x v => Host.reduceAdd x v reducesTo_S1x4x128_S4x128_d0 h_S_) : C F S1x4x128 → C F S_ → C F S4x128)
  :: binary main_v216 main_v51 main_v221 (mulf : C F S4096x4x128 → C F S4096x4x128 → C F S4096x4x128)
  :: reshape main_v221 main_v222 rfl shapeCasts_S4096x4x128_S4096x512
  :: unary main_v220 main_v223 (Host.negf : C F S4x128 → C F S4x128)
  :: binary main_v214 main_v223 main_v224 (addf : C F S4x128 → C F S4x128 → C F S4x128)
  :: reshape main_v224 main_v225 rfl shapeCasts_S4x128_S512
  :: nullary main_cst_46 (constant S_ .f32 0x3DB504F3#32)
  :: unary main_cst_46 main_v226 (broadcastInDim S4096x4x128 ![] bcast_S_S4096x4x128 : C F S_ → C F S4096x4x128)
  :: binary main_v207 main_v226 main_v227 (mulf : C F S4096x4x128 → C F S4096x4x128 → C F S4096x4x128)
  :: [] )
theorem hostOps0_20_sub : (hostOps0_20 : List (HloOp τ sig (Elt F))).Forall fun op => op.bufs ⊆ tcRefs τ sig :=
  ⟨subU .., subR .., subU .., subR .., subU .., subR .., subU .., subR .., subB .., subR .., subU .., subB .., subN .., subB .., subR .., subN .., subB .., subU .., subB .., subB .., subN .., subB .., subR .., subN .., subB .., subB .., subR .., subU .., subB .., subR .., subN .., subU .., subB ..⟩
abbrev hostOps0_21 : List (HloOp τ sig (Elt F)) :=
  [ TRef.binary (.of main_v35 : R S4096x4x128) (.of main_v227 : R S4096x4x128) (.of main_call26_v0 : R S4096x4x128) mulf,
    TRef.binary (.of main_v227 : R S4096x4x128) (.of main_v36_2 : R S4096x4x128) (.of main_call26_v1 : R S4096x4x128) mulf,
    TRef.binary (.of main_call26_v0 : R S4096x4x128) (.of main_v36_1 : R S4096x4x128) (.of main_call26_v2 : R S4096x4x128) mulf,
    TRef.binary (.of main_call26_v1 : R S4096x4x128) (.of main_call26_v2 : R S4096x4x128) (.of main_v228 : R S4096x4x128) addf ]
theorem hostOps0_21_sub : (hostOps0_21 : List (HloOp τ sig (Elt F))).Forall fun op => op.bufs ⊆ tcRefs τ sig :=
  ⟨subB .., subB .., subB .., subB ..⟩
abbrev hostOps0_22 : List (HloOp τ sig (Elt F)) :=
  [ reshape main_v228 main_v229 rfl shapeCasts_S4096x4x128_S4096x512,
    nary ![main_v229, main_v222, main_v209, main_v149] main_v230 (fun u => (concatenate S4096x2048 1 [⟨S4096x512, (u 0 : C F S4096x512)⟩, ⟨S4096x512, (u 1 : C F S4096x512)⟩, ⟨S4096x512, (u 2 : C F S4096x512)⟩, ⟨S4096x512, (u 3 : C F S4096x512)⟩] concatenates_S4096x512_S4096x512_S4096x512_S4096x512_S4096x2048_d1 : C F S4096x2048)),
    unary main_v225 main_v231 (broadcastInDim S1x512 ![1] bcast_S512_S1x512_1 : C F S512 → C F S1x512),
    nullary main_cst_47 (constant S_ .f32 0x00000000#32),
    binary main_v231 main_cst_47 main_v232 ((fun x v => pad S2x512 ![0, 0] ![1, 0] ![0, 0] x v pads_S1x512_S2x512_010_000 h_S_) : C F S1x512 → C F S_ → C F S2x512) ]
theorem hostOps0_22_sub : (hostOps0_22 : List (HloOp τ sig (Elt F))).Forall fun op => op.bufs ⊆ tcRefs τ sig :=
  ⟨subR .., nary_bufs_sub .., subU .., subN .., subB ..⟩
abbrev hostOps0_23 : List (HloOp τ sig (Elt F)) :=
  [ TRef.nullary (.of main_call27_call0_cst : R S_) (constant S_ .f32 0x00000000#32),
    TRef.unary (.of main_call27_call0_cst : R S_) (.of main_call27_call0_v0 : R S_) (broadcastInDim S_ ![] bcast_S_S_),
    TRef.binary (.of main_v232 : R S2x512) (.of main_call27_call0_v0 : R S_) (.of main_v233 : R S2x512) (fun x v => Host.reduceWindowAdd ![2, 1] ![1, 1] ![0, 0] ![1, 0] x v reduceWindows_S2x512_S2x512_w2s1p0_1_w1s1p0_0 h_S_) ]
theorem hostOps0_23_sub : (hostOps0_23 : List (HloOp τ sig (Elt F))).Forall fun op => op.bufs ⊆ tcRefs τ sig :=
  ⟨subN .., subU .., subB ..⟩
abbrev hostOps0_24 : List (HloOp τ sig (Elt F)) :=
  [ unary main_v27 main_v234 (broadcastInDim S2x512 ![0, 1] bcast_S1x512_S2x512_0_1 : C F S1x512 → C F S2x512),
    binary main_v233 main_v234 main_v235 (mulf : C F S2x512 → C F S2x512 → C F S2x512),
    binary main_v235 main_v20 main_v236 (mulf : C F S2x512 → C F S2x512 → C F S2x512),
    nullary main_cst_48 (constant S_ .f32 0x00000000#32),
    binary main_v236 main_cst_48 main_v237 ((fun x v => Host.reduceAdd x v reducesTo_S2x512_S512_d0 h_S_) : C F S2x512 → C F S_ → C F S512),
    reshape main_v237 main_v238 rfl shapeCasts_S512_S1x512,
    unary main_v238 main_v239 (Host.negf : C F S1x512 → C F S1x512),
    unary main_v22 main_v240 (broadcastInDim S2x512 ![0, 1] bcast_S1x512_S2x512_0_1 : C F S1x512 → C F S2x512),
    binary main_v233 main_v240 main_v241 (Host.divf : C F S2x512 → C F S2x512 → C F S2x512),
    nullary main_cst_49 (constant S_ .f32 0x00000000#32),
    binary main_v239 main_cst_49 main_v242 ((fun x v => Host.reduceAdd x v reducesTo_S1x512_S512_d0 h_S_) : C F S1x512 → C F S_ → C F S512),
    unary main_v242 main_v243 (broadcastInDim S2x512 ![1] bcast_S512_S2x512_1 : C F S512 → C F S2x512),
    binary main_v241 main_v243 main_v244 (addf : C F S2x512 → C F S2x512 → C F S2x512),
    binary main_v244 main_v20 main_v245 (mulf : C F S2x512 → C F S2x512 → C F S2x512),
    unary main_v230 main_v246 ((truncf .bf16 · bitsLt_bf16_f32) : C F S4096x2048 → (⟨S4096x2048, .bf16⟩ : BufTy).Contents (Elt F)) ]
theorem hostOps0_24_sub : (hostOps0_24 : List (HloOp τ sig (Elt F))).Forall fun op => op.bufs ⊆ tcRefs τ sig :=
  ⟨subU .., subB .., subB .., subN .., subB .., subR .., subU .., subU .., subB .., subN .., subB .., subU .., subB .., subB .., subU ..⟩

/-- The whole program is these stretches around its two loops. -/
theorem main_chain (c : Dev nD) : main (F := F) c = (Pipeline.chain
  [ seq hostOps0,
    seq hostOps0_1,
    seq hostOps0_2,
    seq hostOps0_3,
    seq hostOps0_4,
    seq hostOps0_5,
    seq hostOps0_6,
    seq hostOps0_7,
    seq hostOps0_8,
    seq hostOps0_9,
    seq hostOps0_10,
    HostLoop.enter 0,
    seq hostOps0_11,
    seq hostOps0_12,
    seq hostOps0_13,
    seq hostOps0_14,
    seq hostOps0_15,
    HostLoop.enter 1,
    seq hostOps0_16,
    seq hostOps0_17,
    seq hostOps0_18,
    seq hostOps0_19,
    seq hostOps0_20,
    seq hostOps0_21,
    seq hostOps0_22,
    seq hostOps0_23,
    seq hostOps0_24 ] : Prog (TpuEff nD τ sig (Elt F) (HostLoop.Sig (Pipeline.Sig Λ₀ (Fin 0) fun p => (pcfgs (F := F) p).Adm) 2) .tc) PUnit) := by
  sl_kernel_rfl

abbrev preI : List (List (HloOp τ sig (Elt F))) :=
  [hostOps0, hostOps0_1, hostOps0_2, hostOps0_3, hostOps0_4, hostOps0_5, hostOps0_6, hostOps0_7, hostOps0_8, hostOps0_9, hostOps0_10]
theorem plain_preI : Plain (preI (F := F)) :=
  Plain.cons hostOps0_sub <| Plain.cons hostOps0_1_sub <| Plain.cons hostOps0_2_sub <| Plain.cons hostOps0_3_sub <| Plain.cons hostOps0_4_sub <| Plain.cons hostOps0_5_sub <| Plain.cons hostOps0_6_sub <| Plain.cons hostOps0_7_sub <| Plain.cons hostOps0_8_sub <| Plain.cons hostOps0_9_sub <| Plain.cons hostOps0_10_sub Plain.nil

abbrev midI : List (List (HloOp τ sig (Elt F))) :=
  [hostOps0_11, hostOps0_12, hostOps0_13, hostOps0_14, hostOps0_15]
theorem plain_midI : Plain (midI (F := F)) :=
  Plain.cons hostOps0_11_sub <| Plain.cons hostOps0_12_sub <| Plain.cons hostOps0_13_sub <| Plain.cons hostOps0_14_sub <| Plain.cons hostOps0_15_sub Plain.nil

abbrev postI : List (List (HloOp τ sig (Elt F))) :=
  [hostOps0_16, hostOps0_17, hostOps0_18, hostOps0_19, hostOps0_20, hostOps0_21, hostOps0_22, hostOps0_23, hostOps0_24]
theorem plain_postI : Plain (postI (F := F)) :=
  Plain.cons hostOps0_16_sub <| Plain.cons hostOps0_17_sub <| Plain.cons hostOps0_18_sub <| Plain.cons hostOps0_19_sub <| Plain.cons hostOps0_20_sub <| Plain.cons hostOps0_21_sub <| Plain.cons hostOps0_22_sub <| Plain.cons hostOps0_23_sub <| Plain.cons hostOps0_24_sub Plain.nil

end Cert.HgRef

end
-- ==== Proof.HgRefLoops.lean ====
/- The two scans of the reference of the gated recurrence's gradient as operation lists. -/
module

public import proofs.«01_k».proof.Proof.Gen.Reference2Ideal
public import Idealize.ShloMosaic.Lib.Pipeline.Kit
public import Idealize.ShloMosaic.Lib.Pipeline.Regions
public import Idealize.ShloMosaic.Lib.StableHlo.RunLoop
public import Idealize.ShloMosaic.Lib.Tactic

@[expose] public section

noncomputable section

namespace Cert.HgRef

open Idealize.ShloMosaic Idealize.ShloMosaic.TcCoe Idealize.ShloMosaic.Tactic
open Idealize.SL Idealize.SL.RA Idealize.SL.BI
open scoped Idealize.SL.BI
open Idealize.SL.BI.BIBase Idealize.SL.Sem
open Idealize.ShloMosaic.StableHlo (after held atTrip afterL Plain TRef binary binaryIndexed_bufs_sub chain_seq_cons nullary reshape seq tcRefs unary unaryIndexed_bufs_sub)
open Idealize.ShloMosaic.StableHlo renaming nullary_bufs_sub → subN, unary_bufs_sub → subU, binary_bufs_sub → subB, reshape_bufs_sub → subR
open Cert.Reference2Ideal
open Cert.Reference2Ideal.Facts₀ Cert.Reference2Ideal.Facts

variable {F : FTy → Type} [FloatOps F]

/-- What a buffer of this shape holds, as 32-bit numbers. -/
abbrev CL (F : FTy → Type) (S : Shape) := (⟨S, .f32⟩ : BufTy).Contents (Elt F)
/-- A buffer of this shape, of 32-bit numbers. -/
abbrev RL (S : Shape) := TRef sig ⟨S, .f32⟩

abbrev while0Ops0 : List (HloOp τ sig (Elt F)) :=
  [ TRef.nullary (.of main_while0b_call5_c : TRef sig ⟨S_, .i32⟩) (constantI S_ 32 0#32),
    TRef.nullary (.of main_while0b_call5_c_0 : TRef sig ⟨S_, .i32⟩) (constantI S_ 32 0#32),
    TRef.nullary (.of main_while0b_call5_c_1 : TRef sig ⟨S_, .i32⟩) (constantI S_ 32 0#32),
    TRef.unaryIndexed (.of main_v98_0 : RL S128x4x32x128) ![(.of main_v98_4 : TRef sig ⟨S_, .i32⟩), (.of main_while0b_call5_c : TRef sig ⟨S_, .i32⟩), (.of main_while0b_call5_c_0 : TRef sig ⟨S_, .i32⟩), (.of main_while0b_call5_c_1 : TRef sig ⟨S_, .i32⟩)] (.of main_while0b_call5_v0 : RL S1x4x32x128) (fun x i => Host.dynamicSlice S1x4x32x128 x (fun k => (i k (Shape.Idx.first h_S_)).toInt) sliceFits_S128x4x32x128_S1x4x32x128),
    TRef.reshape (.of main_while0b_call5_v0 : RL S1x4x32x128) (.of main_while0b_v247 : RL S4x32x128) rfl shapeCasts_S1x4x32x128_S4x32x128 ]
theorem while0Ops0_sub : (while0Ops0 : List (HloOp τ sig (Elt F))).Forall fun op => op.bufs ⊆ tcRefs τ sig :=
  ⟨subN .., subN .., subN .., unaryIndexed_bufs_sub .., subR ..⟩
abbrev while0Ops0_1 : List (HloOp τ sig (Elt F)) :=
  [ TRef.nullary (.of main_while0b_call6_c : TRef sig ⟨S_, .i32⟩) (constantI S_ 32 0#32),
    TRef.nullary (.of main_while0b_call6_c_0 : TRef sig ⟨S_, .i32⟩) (constantI S_ 32 0#32),
    TRef.nullary (.of main_while0b_call6_c_1 : TRef sig ⟨S_, .i32⟩) (constantI S_ 32 0#32),
    TRef.unaryIndexed (.of main_v98_1 : RL S128x4x32x128) ![(.of main_v98_4 : TRef sig ⟨S_, .i32⟩), (.of main_while0b_call6_c : TRef sig ⟨S_, .i32⟩), (.of main_while0b_call6_c_0 : TRef sig ⟨S_, .i32⟩), (.of main_while0b_call6_c_1 : TRef sig ⟨S_, .i32⟩)] (.of main_while0b_call6_v0 : RL S1x4x32x128) (fun x i => Host.dynamicSlice S1x4x32x128 x (fun k => (i k (Shape.Idx.first h_S_)).toInt) sliceFits_S128x4x32x128_S1x4x32x128),
    TRef.reshape (.of main_while0b_call6_v0 : RL S1x4x32x128) (.of main_while0b_v248 : RL S4x32x128) rfl shapeCasts_S1x4x32x128_S4x32x128 ]
theorem while0Ops0_1_sub : (while0Ops0_1 : List (HloOp τ sig (Elt F))).Forall fun op => op.bufs ⊆ tcRefs τ sig :=
  ⟨subN .., subN .., subN .., unaryIndexed_bufs_sub .., subR ..⟩
abbrev while0Ops0_2 : List (HloOp τ sig (Elt F)) :=
  [ TRef.nullary (.of main_while0b_call7_c : TRef sig ⟨S_, .i32⟩) (constantI S_ 32 0#32),
    TRef.nullary (.of main_while0b_call7_c_0 : TRef sig ⟨S_, .i32⟩) (constantI S_ 32 0#32),
    TRef.nullary (.of main_while0b_call7_c_1 : TRef sig ⟨S_, .i32⟩) (constantI S_ 32 0#32),
    TRef.unaryIndexed (.of main_v98_2 : RL S128x4x32x128) ![(.of main_v98_4 : TRef sig ⟨S_, .i32⟩), (.of main_while0b_call7_c : TRef sig ⟨S_, .i32⟩), (.of main_while0b_call7_c_0 : TRef sig ⟨S_, .i32⟩), (.of main_while0b_call7_c_1 : TRef sig ⟨S_, .i32⟩)] (.of main_while0b_call7_v0 : RL S1x4x32x128) (fun x i => Host.dynamicSlice S1x4x32x128 x (fun k => (i k (Shape.Idx.first h_S_)).toInt) sliceFits_S128x4x32x128_S1x4x32x128),
    TRef.reshape (.of main_while0b_call7_v0 : RL S1x4x32x128) (.of main_while0b_v249 : RL S4x32x128) rfl shapeCasts_S1x4x32x128_S4x32x128 ]
theorem while0Ops0_2_sub : (while0Ops0_2 : List (HloOp τ sig (Elt F))).Forall fun op => op.bufs ⊆ tcRefs τ sig :=
  ⟨subN .., subN .., subN .., unaryIndexed_bufs_sub .., subR ..⟩
abbrev while0Ops0_3 : List (HloOp τ sig (Elt F)) :=
  [ TRef.nullary (.of main_while0b_call8_c : TRef sig ⟨S_, .i32⟩) (constantI S_ 32 0#32),
    TRef.nullary (.of main_while0b_call8_c_0 : TRef sig ⟨S_, .i32⟩) (constantI S_ 32 0#32),
    TRef.unaryIndexed (.of main_v98_3 : RL S128x4x128) ![(.of main_v98_4 : TRef sig ⟨S_, .i32⟩), (.of main_while0b_call8_c : TRef sig ⟨S_, .i32⟩), (.of main_while0b_call8_c_0 : TRef sig ⟨S_, .i32⟩)] (.of main_while0b_call8_v0 : RL S1x4x128) (fun x i => Host.dynamicSlice S1x4x128 x (fun k => (i k (Shape.Idx.first h_S_)).toInt) sliceFits_S128x4x128_S1x4x128),
    TRef.reshape (.of main_while0b_call8_v0 : RL S1x4x128) (.of main_while0b_v250 : RL S4x128) rfl shapeCasts_S1x4x128_S4x128 ]
theorem while0Ops0_3_sub : (while0Ops0_3 : List (HloOp τ sig (Elt F))).Forall fun op => op.bufs ⊆ tcRefs τ sig :=
  ⟨subN .., subN .., unaryIndexed_bufs_sub .., subR ..⟩
abbrev while0Ops0_4 : List (HloOp τ sig (Elt F)) :=
  [ binary main_while0b_v247 main_v98_5 main_while0b_v251 ((fun l r => Host.dotGeneral dot_S4x32x128_S4x128x128_S4x32x128_2_1_1_2_0_0 none l r) : CL F S4x32x128 → CL F S4x128x128 → CL F S4x32x128),
    unary main_while0b_v250 main_while0b_v252 (broadcastInDim S4x128x1 ![0, 1] bcast_S4x128_S4x128x1_0_1 : CL F S4x128 → CL F S4x128x1),
    unary main_while0b_v252 main_while0b_v253 (broadcastInDim S4x128x128 ![0, 1, 2] bcast_S4x128x1_S4x128x128_0_1_2 : CL F S4x128x1 → CL F S4x128x128),
    binary main_while0b_v253 main_v98_5 main_while0b_v254 (mulf : CL F S4x128x128 → CL F S4x128x128 → CL F S4x128x128),
    binary main_while0b_v248 main_while0b_v249 main_while0b_v255 ((fun l r => Host.dotGeneral dot_S4x32x128_S4x32x128_S4x128x128_1_1_2_2_0_0 none l r) : CL F S4x32x128 → CL F S4x32x128 → CL F S4x128x128),
    binary main_while0b_v254 main_while0b_v255 main_while0b_v256 (addf : CL F S4x128x128 → CL F S4x128x128 → CL F S4x128x128) ]
theorem while0Ops0_4_sub : (while0Ops0_4 : List (HloOp τ sig (Elt F))).Forall fun op => op.bufs ⊆ tcRefs τ sig :=
  ⟨subB .., subU .., subU .., subB .., subB .., subB ..⟩
abbrev while0Ops0_5 : List (HloOp τ sig (Elt F)) :=
  [ TRef.unary (.of main_while0b_v251 : RL S4x32x128) (.of main_while0b_call9_v0 : RL S1x4x32x128) (broadcastInDim S1x4x32x128 ![1, 2, 3] bcast_S4x32x128_S1x4x32x128_1_2_3),
    TRef.nullary (.of main_while0b_call9_c : TRef sig ⟨S_, .i32⟩) (constantI S_ 32 0#32),
    TRef.nullary (.of main_while0b_call9_c_0 : TRef sig ⟨S_, .i32⟩) (constantI S_ 32 0#32),
    TRef.nullary (.of main_while0b_call9_c_1 : TRef sig ⟨S_, .i32⟩) (constantI S_ 32 0#32),
    TRef.binaryIndexed (.of main_v98_6 : RL S128x4x32x128) (.of main_while0b_call9_v0 : RL S1x4x32x128) ![(.of main_v98_4 : TRef sig ⟨S_, .i32⟩), (.of main_while0b_call9_c : TRef sig ⟨S_, .i32⟩), (.of main_while0b_call9_c_0 : TRef sig ⟨S_, .i32⟩), (.of main_while0b_call9_c_1 : TRef sig ⟨S_, .i32⟩)] (.of main_while0b_v257 : RL S128x4x32x128) (fun x u i => Host.dynamicUpdateSlice x u (fun k => (i k (Shape.Idx.first h_S_)).toInt) updateFits_S128x4x32x128_S1x4x32x128) ]
theorem while0Ops0_5_sub : (while0Ops0_5 : List (HloOp τ sig (Elt F))).Forall fun op => op.bufs ⊆ tcRefs τ sig :=
  ⟨subU .., subN .., subN .., subN .., binaryIndexed_bufs_sub ..⟩
abbrev while0Ops0_6 : List (HloOp τ sig (Elt F)) :=
  [ TRef.unary (.of main_v98_5 : RL S4x128x128) (.of main_while0b_call10_v0 : RL S1x4x128x128) (broadcastInDim S1x4x128x128 ![1, 2, 3] bcast_S4x128x128_S1x4x128x128_1_2_3),
    TRef.nullary (.of main_while0b_call10_c : TRef sig ⟨S_, .i32⟩) (constantI S_ 32 0#32),
    TRef.nullary (.of main_while0b_call10_c_0 : TRef sig ⟨S_, .i32⟩) (constantI S_ 32 0#32),
    TRef.nullary (.of main_while0b_call10_c_1 : TRef sig ⟨S_, .i32⟩) (constantI S_ 32 0#32),
    TRef.binaryIndexed (.of main_v98_7 : RL S128x4x128x128) (.of main_while0b_call10_v0 : RL S1x4x128x128) ![(.of main_v98_4 : TRef sig ⟨S_, .i32⟩), (.of main_while0b_call10_c : TRef sig ⟨S_, .i32⟩), (.of main_while0b_call10_c_0 : TRef sig ⟨S_, .i32⟩), (.of main_while0b_call10_c_1 : TRef sig ⟨S_, .i32⟩)] (.of main_while0b_v258 : RL S128x4x128x128) (fun x u i => Host.dynamicUpdateSlice x u (fun k => (i k (Shape.Idx.first h_S_)).toInt) updateFits_S128x4x128x128_S1x4x128x128) ]
theorem while0Ops0_6_sub : (while0Ops0_6 : List (HloOp τ sig (Elt F))).Forall fun op => op.bufs ⊆ tcRefs τ sig :=
  ⟨subU .., subN .., subN .., subN .., binaryIndexed_bufs_sub ..⟩
abbrev while0Ops0_7 : List (HloOp τ sig (Elt F)) :=
  [ TRef.unary (.of main_while0b_v252 : RL S4x128x1) (.of main_while0b_call11_v0 : RL S1x4x128x1) (broadcastInDim S1x4x128x1 ![1, 2, 3] bcast_S4x128x1_S1x4x128x1_1_2_3),
    TRef.nullary (.of main_while0b_call11_c : TRef sig ⟨S_, .i32⟩) (constantI S_ 32 0#32),
    TRef.nullary (.of main_while0b_call11_c_0 : TRef sig ⟨S_, .i32⟩) (constantI S_ 32 0#32),
    TRef.nullary (.of main_while0b_call11_c_1 : TRef sig ⟨S_, .i32⟩) (constantI S_ 32 0#32),
    TRef.binaryIndexed (.of main_v98_8 : RL S128x4x128x1) (.of main_while0b_call11_v0 : RL S1x4x128x1) ![(.of main_v98_4 : TRef sig ⟨S_, .i32⟩), (.of main_while0b_call11_c : TRef sig ⟨S_, .i32⟩), (.of main_while0b_call11_c_0 : TRef sig ⟨S_, .i32⟩), (.of main_while0b_call11_c_1 : TRef sig ⟨S_, .i32⟩)] (.of main_while0b_v259 : RL S128x4x128x1) (fun x u i => Host.dynamicUpdateSlice x u (fun k => (i k (Shape.Idx.first h_S_)).toInt) updateFits_S128x4x128x1_S1x4x128x1) ]
theorem while0Ops0_7_sub : (while0Ops0_7 : List (HloOp τ sig (Elt F))).Forall fun op => op.bufs ⊆ tcRefs τ sig :=
  ⟨subU .., subN .., subN .., subN .., binaryIndexed_bufs_sub ..⟩
abbrev while0Ops0_8 : List (HloOp τ sig (Elt F)) :=
  [ nullary main_while0b_c_58 (constantI S_ 32 1#32),
    binary main_v98_4 main_while0b_c_58 main_while0b_v260 (addi : (⟨S_, .i32⟩ : BufTy).Contents (Elt F) → (⟨S_, .i32⟩ : BufTy).Contents (Elt F) → (⟨S_, .i32⟩ : BufTy).Contents (Elt F)),
    unary main_while0b_v260 main_v98_4 id,
    unary main_while0b_v256 main_v98_5 id,
    unary main_while0b_v257 main_v98_6 id,
    unary main_while0b_v258 main_v98_7 id,
    unary main_while0b_v259 main_v98_8 id ]
theorem while0Ops0_8_sub : (while0Ops0_8 : List (HloOp τ sig (Elt F))).Forall fun op => op.bufs ⊆ tcRefs τ sig :=
  ⟨subN .., subB .., subU .., subU .., subU .., subU .., subU ..⟩
theorem while0_body_chain : main_while0_body (F := F) = (Pipeline.chain
  [ seq while0Ops0,
    seq while0Ops0_1,
    seq while0Ops0_2,
    seq while0Ops0_3,
    seq while0Ops0_4,
    seq while0Ops0_5,
    seq while0Ops0_6,
    seq while0Ops0_7,
    seq while0Ops0_8 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, chain_seq_cons, Pipeline.chain_cons, Pipeline.chain_cons, Pipeline.chain_cons, chain_seq_cons]
  chain_rfl

abbrev while1Ops0 : List (HloOp τ sig (Elt F)) :=
  [ nullary main_while1b_c_61 (constantI S_ 32 128#32),
    binary main_while1b_c_61 main_v157_6 main_while1b_v247 (subi : (⟨S_, .i32⟩ : BufTy).Contents (Elt F) → (⟨S_, .i32⟩ : BufTy).Contents (Elt F) → (⟨S_, .i32⟩ : BufTy).Contents (Elt F)),
    nullary main_while1b_c_62 (constantI S_ 32 1#32),
    binary main_while1b_v247 main_while1b_c_62 main_while1b_v248 (subi : (⟨S_, .i32⟩ : BufTy).Contents (Elt F) → (⟨S_, .i32⟩ : BufTy).Contents (Elt F) → (⟨S_, .i32⟩ : BufTy).Contents (Elt F)) ]
theorem while1Ops0_sub : (while1Ops0 : List (HloOp τ sig (Elt F))).Forall fun op => op.bufs ⊆ tcRefs τ sig :=
  ⟨subN .., subB .., subN .., subB ..⟩
abbrev while1Ops0_1 : List (HloOp τ sig (Elt F)) :=
  [ TRef.nullary (.of main_while1b_call14_c : TRef sig ⟨S_, .i32⟩) (constantI S_ 32 0#32),
    TRef.nullary (.of main_while1b_call14_c_0 : TRef sig ⟨S_, .i32⟩) (constantI S_ 32 0#32),
    TRef.nullary (.of main_while1b_call14_c_1 : TRef sig ⟨S_, .i32⟩) (constantI S_ 32 0#32),
    TRef.unaryIndexed (.of main_v157_0 : RL S128x4x32x128) ![(.of main_while1b_v248 : TRef sig ⟨S_, .i32⟩), (.of main_while1b_call14_c : TRef sig ⟨S_, .i32⟩), (.of main_while1b_call14_c_0 : TRef sig ⟨S_, .i32⟩), (.of main_while1b_call14_c_1 : TRef sig ⟨S_, .i32⟩)] (.of main_while1b_call14_v0 : RL S1x4x32x128) (fun x i => Host.dynamicSlice S1x4x32x128 x (fun k => (i k (Shape.Idx.first h_S_)).toInt) sliceFits_S128x4x32x128_S1x4x32x128),
    TRef.reshape (.of main_while1b_call14_v0 : RL S1x4x32x128) (.of main_while1b_v249 : RL S4x32x128) rfl shapeCasts_S1x4x32x128_S4x32x128 ]
theorem while1Ops0_1_sub : (while1Ops0_1 : List (HloOp τ sig (Elt F))).Forall fun op => op.bufs ⊆ tcRefs τ sig :=
  ⟨subN .., subN .., subN .., unaryIndexed_bufs_sub .., subR ..⟩
abbrev while1Ops0_2 : List (HloOp τ sig (Elt F)) :=
  [ TRef.nullary (.of main_while1b_call15_c : TRef sig ⟨S_, .i32⟩) (constantI S_ 32 0#32),
    TRef.nullary (.of main_while1b_call15_c_0 : TRef sig ⟨S_, .i32⟩) (constantI S_ 32 0#32),
    TRef.nullary (.of main_while1b_call15_c_1 : TRef sig ⟨S_, .i32⟩) (constantI S_ 32 0#32),
    TRef.unaryIndexed (.of main_v157_1 : RL S128x4x128x128) ![(.of main_while1b_v248 : TRef sig ⟨S_, .i32⟩), (.of main_while1b_call15_c : TRef sig ⟨S_, .i32⟩), (.of main_while1b_call15_c_0 : TRef sig ⟨S_, .i32⟩), (.of main_while1b_call15_c_1 : TRef sig ⟨S_, .i32⟩)] (.of main_while1b_call15_v0 : RL S1x4x128x128) (fun x i => Host.dynamicSlice S1x4x128x128 x (fun k => (i k (Shape.Idx.first h_S_)).toInt) sliceFits_S128x4x128x128_S1x4x128x128),
    TRef.reshape (.of main_while1b_call15_v0 : RL S1x4x128x128) (.of main_while1b_v250 : RL S4x128x128) rfl shapeCasts_S1x4x128x128_S4x128x128 ]
theorem while1Ops0_2_sub : (while1Ops0_2 : List (HloOp τ sig (Elt F))).Forall fun op => op.bufs ⊆ tcRefs τ sig :=
  ⟨subN .., subN .., subN .., unaryIndexed_bufs_sub .., subR ..⟩
abbrev while1Ops0_3 : List (HloOp τ sig (Elt F)) :=
  [ TRef.nullary (.of main_while1b_call16_c : TRef sig ⟨S_, .i32⟩) (constantI S_ 32 0#32),
    TRef.nullary (.of main_while1b_call16_c_0 : TRef sig ⟨S_, .i32⟩) (constantI S_ 32 0#32),
    TRef.nullary (.of main_while1b_call16_c_1 : TRef sig ⟨S_, .i32⟩) (constantI S_ 32 0#32),
    TRef.unaryIndexed (.of main_v157_2 : RL S128x4x32x128) ![(.of main_while1b_v248 : TRef sig ⟨S_, .i32⟩), (.of main_while1b_call16_c : TRef sig ⟨S_, .i32⟩), (.of main_while1b_call16_c_0 : TRef sig ⟨S_, .i32⟩), (.of main_while1b_call16_c_1 : TRef sig ⟨S_, .i32⟩)] (.of main_while1b_call16_v0 : RL S1x4x32x128) (fun x i => Host.dynamicSlice S1x4x32x128 x (fun k => (i k (Shape.Idx.first h_S_)).toInt) sliceFits_S128x4x32x128_S1x4x32x128),
    TRef.reshape (.of main_while1b_call16_v0 : RL S1x4x32x128) (.of main_while1b_v251 : RL S4x32x128) rfl shapeCasts_S1x4x32x128_S4x32x128 ]
theorem while1Ops0_3_sub : (while1Ops0_3 : List (HloOp τ sig (Elt F))).Forall fun op => op.bufs ⊆ tcRefs τ sig :=
  ⟨subN .., subN .., subN .., unaryIndexed_bufs_sub .., subR ..⟩
abbrev while1Ops0_4 : List (HloOp τ sig (Elt F)) :=
  [ TRef.nullary (.of main_while1b_call17_c : TRef sig ⟨S_, .i32⟩) (constantI S_ 32 0#32),
    TRef.nullary (.of main_while1b_call17_c_0 : TRef sig ⟨S_, .i32⟩) (constantI S_ 32 0#32),
    TRef.nullary (.of main_while1b_call17_c_1 : TRef sig ⟨S_, .i32⟩) (constantI S_ 32 0#32),
    TRef.unaryIndexed (.of main_v157_3 : RL S128x4x128x1) ![(.of main_while1b_v248 : TRef sig ⟨S_, .i32⟩), (.of main_while1b_call17_c : TRef sig ⟨S_, .i32⟩), (.of main_while1b_call17_c_0 : TRef sig ⟨S_, .i32⟩), (.of main_while1b_call17_c_1 : TRef sig ⟨S_, .i32⟩)] (.of main_while1b_call17_v0 : RL S1x4x128x1) (fun x i => Host.dynamicSlice S1x4x128x1 x (fun k => (i k (Shape.Idx.first h_S_)).toInt) sliceFits_S128x4x128x1_S1x4x128x1),
    TRef.reshape (.of main_while1b_call17_v0 : RL S1x4x128x1) (.of main_while1b_v252 : RL S4x128x1) rfl shapeCasts_S1x4x128x1_S4x128x1 ]
theorem while1Ops0_4_sub : (while1Ops0_4 : List (HloOp τ sig (Elt F))).Forall fun op => op.bufs ⊆ tcRefs τ sig :=
  ⟨subN .., subN .., subN .., unaryIndexed_bufs_sub .., subR ..⟩
abbrev while1Ops0_5 : List (HloOp τ sig (Elt F)) :=
  [ TRef.nullary (.of main_while1b_call18_c : TRef sig ⟨S_, .i32⟩) (constantI S_ 32 0#32),
    TRef.nullary (.of main_while1b_call18_c_0 : TRef sig ⟨S_, .i32⟩) (constantI S_ 32 0#32),
    TRef.nullary (.of main_while1b_call18_c_1 : TRef sig ⟨S_, .i32⟩) (constantI S_ 32 0#32),
    TRef.unaryIndexed (.of main_v157_4 : RL S128x4x32x128) ![(.of main_while1b_v248 : TRef sig ⟨S_, .i32⟩), (.of main_while1b_call18_c : TRef sig ⟨S_, .i32⟩), (.of main_while1b_call18_c_0 : TRef sig ⟨S_, .i32⟩), (.of main_while1b_call18_c_1 : TRef sig ⟨S_, .i32⟩)] (.of main_while1b_call18_v0 : RL S1x4x32x128) (fun x i => Host.dynamicSlice S1x4x32x128 x (fun k => (i k (Shape.Idx.first h_S_)).toInt) sliceFits_S128x4x32x128_S1x4x32x128),
    TRef.reshape (.of main_while1b_call18_v0 : RL S1x4x32x128) (.of main_while1b_v253 : RL S4x32x128) rfl shapeCasts_S1x4x32x128_S4x32x128 ]
theorem while1Ops0_5_sub : (while1Ops0_5 : List (HloOp τ sig (Elt F))).Forall fun op => op.bufs ⊆ tcRefs τ sig :=
  ⟨subN .., subN .., subN .., unaryIndexed_bufs_sub .., subR ..⟩
abbrev while1Ops0_6 : List (HloOp τ sig (Elt F)) :=
  [ TRef.nullary (.of main_while1b_call19_c : TRef sig ⟨S_, .i32⟩) (constantI S_ 32 0#32),
    TRef.nullary (.of main_while1b_call19_c_0 : TRef sig ⟨S_, .i32⟩) (constantI S_ 32 0#32),
    TRef.nullary (.of main_while1b_call19_c_1 : TRef sig ⟨S_, .i32⟩) (constantI S_ 32 0#32),
    TRef.unaryIndexed (.of main_v157_5 : RL S128x4x32x128) ![(.of main_while1b_v248 : TRef sig ⟨S_, .i32⟩), (.of main_while1b_call19_c : TRef sig ⟨S_, .i32⟩), (.of main_while1b_call19_c_0 : TRef sig ⟨S_, .i32⟩), (.of main_while1b_call19_c_1 : TRef sig ⟨S_, .i32⟩)] (.of main_while1b_call19_v0 : RL S1x4x32x128) (fun x i => Host.dynamicSlice S1x4x32x128 x (fun k => (i k (Shape.Idx.first h_S_)).toInt) sliceFits_S128x4x32x128_S1x4x32x128),
    TRef.reshape (.of main_while1b_call19_v0 : RL S1x4x32x128) (.of main_while1b_v254 : RL S4x32x128) rfl shapeCasts_S1x4x32x128_S4x32x128 ]
theorem while1Ops0_6_sub : (while1Ops0_6 : List (HloOp τ sig (Elt F))).Forall fun op => op.bufs ⊆ tcRefs τ sig :=
  ⟨subN .., subN .., subN .., unaryIndexed_bufs_sub .., subR ..⟩
abbrev while1Ops0_7 : List (HloOp τ sig (Elt F)) :=
  [ binary main_v157_7 main_while1b_v254 main_while1b_v255 ((fun l r => Host.dotGeneral dot_S4x128x128_S4x32x128_S4x128x32_1_2_2_1_0_0 none l r) : CL F S4x128x128 → CL F S4x32x128 → CL F S4x128x32),
    unary main_while1b_v255 main_while1b_v256 ((transpose S4x32x128 [0, 2, 1] · transposes_S4x128x32_S4x32x128_0_2_1) : CL F S4x128x32 → CL F S4x32x128),
    binary main_v157_7 main_while1b_v253 main_while1b_v257 ((fun l r => Host.dotGeneral dot_S4x128x128_S4x32x128_S4x128x32_2_2_1_1_0_0 none l r) : CL F S4x128x128 → CL F S4x32x128 → CL F S4x128x32),
    unary main_while1b_v257 main_while1b_v258 ((transpose S4x32x128 [0, 2, 1] · transposes_S4x128x32_S4x32x128_0_2_1) : CL F S4x128x32 → CL F S4x32x128),
    unary main_while1b_v252 main_while1b_v259 (broadcastInDim S4x128x128 ![0, 1, 2] bcast_S4x128x1_S4x128x128_0_1_2 : CL F S4x128x1 → CL F S4x128x128),
    binary main_while1b_v259 main_v157_7 main_while1b_v260 (mulf : CL F S4x128x128 → CL F S4x128x128 → CL F S4x128x128),
    binary main_v157_7 main_while1b_v250 main_while1b_v261 (mulf : CL F S4x128x128 → CL F S4x128x128 → CL F S4x128x128),
    nullary main_while1b_cst_63 (constant S_ .f32 0x00000000#32),
    binary main_while1b_v261 main_while1b_cst_63 main_while1b_v262 ((fun x v => Host.reduceAdd x v reducesTo_S4x128x128_S4x128_d2 h_S_) : CL F S4x128x128 → CL F S_ → CL F S4x128),
    reshape main_while1b_v262 main_while1b_v263 rfl shapeCasts_S4x128_S4x128x1,
    nullary main_while1b_cst_64 (constant S_ .f32 0x00000000#32),
    binary main_while1b_v263 main_while1b_cst_64 main_while1b_v264 ((fun x v => Host.reduceAdd x v reducesTo_S4x128x1_S4x128_d2 h_S_) : CL F S4x128x1 → CL F S_ → CL F S4x128),
    binary main_while1b_v249 main_while1b_v251 main_while1b_v265 ((fun l r => Host.dotGeneral dot_S4x32x128_S4x32x128_S4x128x128_1_1_2_2_0_0 none l r) : CL F S4x32x128 → CL F S4x32x128 → CL F S4x128x128),
    unary main_while1b_v265 main_while1b_v266 ((transpose S4x128x128 [0, 2, 1] · transposes_S4x128x128_S4x128x128_0_2_1) : CL F S4x128x128 → CL F S4x128x128),
    binary main_while1b_v260 main_while1b_v266 main_while1b_v267 (addf : CL F S4x128x128 → CL F S4x128x128 → CL F S4x128x128),
    binary main_while1b_v249 main_while1b_v250 main_while1b_v268 ((fun l r => Host.dotGeneral dot_S4x32x128_S4x128x128_S4x32x128_2_2_1_1_0_0 none l r) : CL F S4x32x128 → CL F S4x128x128 → CL F S4x32x128) ]
theorem while1Ops0_7_sub : (while1Ops0_7 : List (HloOp τ sig (Elt F))).Forall fun op => op.bufs ⊆ tcRefs τ sig :=
  ⟨subB .., subU .., subB .., subU .., subU .., subB .., subB .., subN .., subB .., subR .., subN .., subB .., subB .., subU .., subB .., subB ..⟩
abbrev while1Ops0_8 : List (HloOp τ sig (Elt F)) :=
  [ TRef.unary (.of main_while1b_v268 : RL S4x32x128) (.of main_while1b_call20_v0 : RL S1x4x32x128) (broadcastInDim S1x4x32x128 ![1, 2, 3] bcast_S4x32x128_S1x4x32x128_1_2_3),
    TRef.nullary (.of main_while1b_call20_c : TRef sig ⟨S_, .i32⟩) (constantI S_ 32 0#32),
    TRef.nullary (.of main_while1b_call20_c_0 : TRef sig ⟨S_, .i32⟩) (constantI S_ 32 0#32),
    TRef.nullary (.of main_while1b_call20_c_1 : TRef sig ⟨S_, .i32⟩) (constantI S_ 32 0#32),
    TRef.binaryIndexed (.of main_v157_8 : RL S128x4x32x128) (.of main_while1b_call20_v0 : RL S1x4x32x128) ![(.of main_while1b_v248 : TRef sig ⟨S_, .i32⟩), (.of main_while1b_call20_c : TRef sig ⟨S_, .i32⟩), (.of main_while1b_call20_c_0 : TRef sig ⟨S_, .i32⟩), (.of main_while1b_call20_c_1 : TRef sig ⟨S_, .i32⟩)] (.of main_while1b_v269 : RL S128x4x32x128) (fun x u i => Host.dynamicUpdateSlice x u (fun k => (i k (Shape.Idx.first h_S_)).toInt) updateFits_S128x4x32x128_S1x4x32x128) ]
theorem while1Ops0_8_sub : (while1Ops0_8 : List (HloOp τ sig (Elt F))).Forall fun op => op.bufs ⊆ tcRefs τ sig :=
  ⟨subU .., subN .., subN .., subN .., binaryIndexed_bufs_sub ..⟩
abbrev while1Ops0_9 : List (HloOp τ sig (Elt F)) :=
  [ TRef.unary (.of main_while1b_v258 : RL S4x32x128) (.of main_while1b_call21_v0 : RL S1x4x32x128) (broadcastInDim S1x4x32x128 ![1, 2, 3] bcast_S4x32x128_S1x4x32x128_1_2_3),
    TRef.nullary (.of main_while1b_call21_c : TRef sig ⟨S_, .i32⟩) (constantI S_ 32 0#32),
    TRef.nullary (.of main_while1b_call21_c_0 : TRef sig ⟨S_, .i32⟩) (constantI S_ 32 0#32),
    TRef.nullary (.of main_while1b_call21_c_1 : TRef sig ⟨S_, .i32⟩) (constantI S_ 32 0#32),
    TRef.binaryIndexed (.of main_v157_9 : RL S128x4x32x128) (.of main_while1b_call21_v0 : RL S1x4x32x128) ![(.of main_while1b_v248 : TRef sig ⟨S_, .i32⟩), (.of main_while1b_call21_c : TRef sig ⟨S_, .i32⟩), (.of main_while1b_call21_c_0 : TRef sig ⟨S_, .i32⟩), (.of main_while1b_call21_c_1 : TRef sig ⟨S_, .i32⟩)] (.of main_while1b_v270 : RL S128x4x32x128) (fun x u i => Host.dynamicUpdateSlice x u (fun k => (i k (Shape.Idx.first h_S_)).toInt) updateFits_S128x4x32x128_S1x4x32x128) ]
theorem while1Ops0_9_sub : (while1Ops0_9 : List (HloOp τ sig (Elt F))).Forall fun op => op.bufs ⊆ tcRefs τ sig :=
  ⟨subU .., subN .., subN .., subN .., binaryIndexed_bufs_sub ..⟩
abbrev while1Ops0_10 : List (HloOp τ sig (Elt F)) :=
  [ TRef.unary (.of main_while1b_v256 : RL S4x32x128) (.of main_while1b_call22_v0 : RL S1x4x32x128) (broadcastInDim S1x4x32x128 ![1, 2, 3] bcast_S4x32x128_S1x4x32x128_1_2_3),
    TRef.nullary (.of main_while1b_call22_c : TRef sig ⟨S_, .i32⟩) (constantI S_ 32 0#32),
    TRef.nullary (.of main_while1b_call22_c_0 : TRef sig ⟨S_, .i32⟩) (constantI S_ 32 0#32),
    TRef.nullary (.of main_while1b_call22_c_1 : TRef sig ⟨S_, .i32⟩) (constantI S_ 32 0#32),
    TRef.binaryIndexed (.of main_v157_10 : RL S128x4x32x128) (.of main_while1b_call22_v0 : RL S1x4x32x128) ![(.of main_while1b_v248 : TRef sig ⟨S_, .i32⟩), (.of main_while1b_call22_c : TRef sig ⟨S_, .i32⟩), (.of main_while1b_call22_c_0 : TRef sig ⟨S_, .i32⟩), (.of main_while1b_call22_c_1 : TRef sig ⟨S_, .i32⟩)] (.of main_while1b_v271 : RL S128x4x32x128) (fun x u i => Host.dynamicUpdateSlice x u (fun k => (i k (Shape.Idx.first h_S_)).toInt) updateFits_S128x4x32x128_S1x4x32x128) ]
theorem while1Ops0_10_sub : (while1Ops0_10 : List (HloOp τ sig (Elt F))).Forall fun op => op.bufs ⊆ tcRefs τ sig :=
  ⟨subU .., subN .., subN .., subN .., binaryIndexed_bufs_sub ..⟩
abbrev while1Ops0_11 : List (HloOp τ sig (Elt F)) :=
  [ TRef.unary (.of main_while1b_v264 : RL S4x128) (.of main_while1b_call23_v0 : RL S1x4x128) (broadcastInDim S1x4x128 ![1, 2] bcast_S4x128_S1x4x128_1_2),
    TRef.nullary (.of main_while1b_call23_c : TRef sig ⟨S_, .i32⟩) (constantI S_ 32 0#32),
    TRef.nullary (.of main_while1b_call23_c_0 : TRef sig ⟨S_, .i32⟩) (constantI S_ 32 0#32),
    TRef.binaryIndexed (.of main_v157_11 : RL S128x4x128) (.of main_while1b_call23_v0 : RL S1x4x128) ![(.of main_while1b_v248 : TRef sig ⟨S_, .i32⟩), (.of main_while1b_call23_c : TRef sig ⟨S_, .i32⟩), (.of main_while1b_call23_c_0 : TRef sig ⟨S_, .i32⟩)] (.of main_while1b_v272 : RL S128x4x128) (fun x u i => Host.dynamicUpdateSlice x u (fun k => (i k (Shape.Idx.first h_S_)).toInt) updateFits_S128x4x128_S1x4x128) ]
theorem while1Ops0_11_sub : (while1Ops0_11 : List (HloOp τ sig (Elt F))).Forall fun op => op.bufs ⊆ tcRefs τ sig :=
  ⟨subU .., subN .., subN .., binaryIndexed_bufs_sub ..⟩
abbrev while1Ops0_12 : List (HloOp τ sig (Elt F)) :=
  [ nullary main_while1b_c_65 (constantI S_ 32 1#32),
    binary main_v157_6 main_while1b_c_65 main_while1b_v273 (addi : (⟨S_, .i32⟩ : BufTy).Contents (Elt F) → (⟨S_, .i32⟩ : BufTy).Contents (Elt F) → (⟨S_, .i32⟩ : BufTy).Contents (Elt F)),
    unary main_while1b_v273 main_v157_6 id,
    unary main_while1b_v267 main_v157_7 id,
    unary main_while1b_v269 main_v157_8 id,
    unary main_while1b_v270 main_v157_9 id,
    unary main_while1b_v271 main_v157_10 id,
    unary main_while1b_v272 main_v157_11 id ]
theorem while1Ops0_12_sub : (while1Ops0_12 : List (HloOp τ sig (Elt F))).Forall fun op => op.bufs ⊆ tcRefs τ sig :=
  ⟨subN .., subB .., subU .., subU .., subU .., subU .., subU .., subU ..⟩
theorem while1_body_chain : main_while1_body (F := F) = (Pipeline.chain
  [ seq while1Ops0,
    seq while1Ops0_1,
    seq while1Ops0_2,
    seq while1Ops0_3,
    seq while1Ops0_4,
    seq while1Ops0_5,
    seq while1Ops0_6,
    seq while1Ops0_7,
    seq while1Ops0_8,
    seq while1Ops0_9,
    seq while1Ops0_10,
    seq while1Ops0_11,
    seq while1Ops0_12 ] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, Pipeline.chain_cons, Pipeline.chain_cons, Pipeline.chain_cons, chain_seq_cons, Pipeline.chain_cons, Pipeline.chain_cons, Pipeline.chain_cons, Pipeline.chain_cons, chain_seq_cons]
  chain_rfl

abbrev while0I : List (List (HloOp τ sig (Elt F))) :=
  [while0Ops0, while0Ops0_1, while0Ops0_2, while0Ops0_3, while0Ops0_4, while0Ops0_5, while0Ops0_6, while0Ops0_7, while0Ops0_8]
theorem plain_while0I : Plain (while0I (F := F)) :=
  Plain.cons while0Ops0_sub <| Plain.cons while0Ops0_1_sub <| Plain.cons while0Ops0_2_sub <| Plain.cons while0Ops0_3_sub <| Plain.cons while0Ops0_4_sub <| Plain.cons while0Ops0_5_sub <| Plain.cons while0Ops0_6_sub <| Plain.cons while0Ops0_7_sub <| Plain.cons while0Ops0_8_sub Plain.nil

abbrev while1I : List (List (HloOp τ sig (Elt F))) :=
  [while1Ops0, while1Ops0_1, while1Ops0_2, while1Ops0_3, while1Ops0_4, while1Ops0_5, while1Ops0_6, while1Ops0_7, while1Ops0_8, while1Ops0_9, while1Ops0_10, while1Ops0_11, while1Ops0_12]
theorem plain_while1I : Plain (while1I (F := F)) :=
  Plain.cons while1Ops0_sub <| Plain.cons while1Ops0_1_sub <| Plain.cons while1Ops0_2_sub <| Plain.cons while1Ops0_3_sub <| Plain.cons while1Ops0_4_sub <| Plain.cons while1Ops0_5_sub <| Plain.cons while1Ops0_6_sub <| Plain.cons while1Ops0_7_sub <| Plain.cons while1Ops0_8_sub <| Plain.cons while1Ops0_9_sub <| Plain.cons while1Ops0_10_sub <| Plain.cons while1Ops0_11_sub <| Plain.cons while1Ops0_12_sub Plain.nil

end Cert.HgRef

end
-- ==== Proof.HgReference.lean ====
/- The whole execution of the reference of the gated recurrence's gradient: the lines before its first scan, that scan, the lines
   between, the second scan, and the lines after it. -/
module

public import proofs.«01_k».proof.Defs
public import proofs.«01_k».proof.Proof.HgRefOps
public import proofs.«01_k».proof.Proof.HgRefLoops
public import Idealize.ShloMosaic.Adequacy
public import Idealize.ShloMosaic.Init

@[expose] public section

noncomputable section

namespace Cert.HgRef

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after held atTrip afterL Plain segsOf loopSeg segsOf_prog segsOf_chains launchContents seq)
open Idealize.ShloMosaic.Pipeline (CSeg Ticket ucRefs)
open Cert.Reference2Ideal
open Cert.Reference2Ideal.Facts₀ Cert.Reference2Ideal.Facts

variable {F : FTy → Type} [FloatOps F]

local notation "𝕄" => MT nD τ sig Unit (Elt F) ℕ (Option PUnit) ℕ

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0
theorem cellOf_inj : Function.Injective (Pipeline.cellOf (nD := nD) (τ := τ) (Pipeline.pin (pcfgs (F := F)) adm)) := fun k => k.1.elim0
abbrev Ow (c : Dev nD) : sProp 𝕄 := iprop(∃ W, owes (c : Thread nD τ) (0 : CellTallies nD τ sig Unit) W)

/-! ## What a list of stretches leaves alone -/

/-- No operation of the stretches writes the buffer. -/
def spared (b : DevRef τ sig) (items : List (List (HloOp τ sig (Elt F)))) : Bool :=
  items.all fun ops => ops.all fun op => decide (b ∉ op.writes)

theorem after_spared (b : DevRef τ sig) (ops : List (HloOp τ sig (Elt F))) (V : Valuation τ sig (Elt F)) (h : (ops.all fun op => decide (b ∉ op.writes)) = true) :
    after ops V b = V b :=
  StableHlo.after_of_forall_not_mem ops V fun op hop => of_decide_eq_true (List.all_eq_true.mp h op hop)

theorem afterL_spared (b : DevRef τ sig) : ∀ (items : List (List (HloOp τ sig (Elt F)))) (V : Valuation τ sig (Elt F)), spared b items = true → afterL items V b = V b
  | [], _, _ => rfl
  | ops :: rest, V, h => by
    have h' := List.all_eq_true.mp h
    rw [StableHlo.afterL_cons, afterL_spared b rest _ (List.all_eq_true.mpr fun o ho => h' o (List.mem_cons_of_mem _ ho)),
      after_spared b ops V (h' ops List.mem_cons_self)]

theorem trip_spared (b : DevRef τ sig) (condOps : List (HloOp τ sig (Elt F))) (bodyI : List (List (HloOp τ sig (Elt F)))) (W₀ : Dev nD → Valuation τ sig (Elt F))
    (hc : spared b [condOps] = true) (hb : spared b bodyI = true) (c : Dev nD) : ∀ k, atTrip condOps bodyI W₀ k c b = W₀ c b
  | 0 => rfl
  | k + 1 => by
    rw [StableHlo.atTrip_succ, afterL_spared b bodyI _ hb, after_spared b condOps _ (List.all_eq_true.mp hc _ List.mem_cons_self), trip_spared b condOps bodyI W₀ hc hb c k]

/-! ## The two conditions -/

abbrev cond0Ops : List (HloOp τ sig (Elt F)) :=
  [ StableHlo.nullary main_while0c_c_58 (constantI S_ 32 128#32),
    StableHlo.binary main_v98_4 main_while0c_c_58 main_while0c_v247 (cmpi .slt) ]
abbrev cond1Ops : List (HloOp τ sig (Elt F)) :=
  [ StableHlo.nullary main_while1c_c_61 (constantI S_ 32 128#32),
    StableHlo.binary main_v157_6 main_while1c_c_61 main_while1c_v247 (cmpi .slt) ]

theorem pred_iff : ∀ k ≤ 128, (IntOp.cmpi .slt (BitVec.ofNat 32 k) 128#32 = 1#1 ↔ k < 128) := by decide +kernel

/-- The first scan's counter goes up by one in each trip, -/
theorem ctr0_step (W : Valuation τ sig (Elt F)) : afterL while0I (after cond0Ops W) main_v98_4 = addi (W main_v98_4) (constantI S_ 32 1#32) := by
  sl_kernel_rfl
/-- and so does the second's. -/
theorem ctr1_step (W : Valuation τ sig (Elt F)) : afterL while1I (after cond1Ops W) main_v157_6 = addi (W main_v157_6) (constantI S_ 32 1#32) := by
  sl_kernel_rfl

theorem ctr0_start (W : Valuation τ sig (Elt F)) : afterL preI W main_v98_4 = fun _ => (0#32 : BitVec 32) := by
  sl_kernel_rfl
theorem ctr1_start (W : Valuation τ sig (Elt F)) : afterL midI W main_v157_6 = fun _ => (0#32 : BitVec 32) := by
  sl_kernel_rfl

theorem ctr0 (W₀ : Dev nD → Valuation τ sig (Elt F)) (h0 : ∀ c, W₀ c main_v98_4 = fun _ => (0#32 : BitVec 32)) (c : Dev nD) :
    ∀ k, atTrip cond0Ops while0I W₀ k c main_v98_4 = fun _ => (BitVec.ofNat 32 k : BitVec 32)
  | 0 => h0 c
  | k + 1 => by
    refine (ctr0_step (atTrip cond0Ops while0I W₀ k c)).trans ?_
    rw [ctr0 W₀ h0 c k]
    funext i
    show BitVec.ofNat 32 k + 1#32 = BitVec.ofNat 32 (k + 1)
    rw [BitVec.ofNat_add]

theorem ctr1 (W₀ : Dev nD → Valuation τ sig (Elt F)) (h0 : ∀ c, W₀ c main_v157_6 = fun _ => (0#32 : BitVec 32)) (c : Dev nD) :
    ∀ k, atTrip cond1Ops while1I W₀ k c main_v157_6 = fun _ => (BitVec.ofNat 32 k : BitVec 32)
  | 0 => h0 c
  | k + 1 => by
    refine (ctr1_step (atTrip cond1Ops while1I W₀ k c)).trans ?_
    rw [ctr1 W₀ h0 c k]
    funext i
    show BitVec.ofNat 32 k + 1#32 = BitVec.ofNat 32 (k + 1)
    rw [BitVec.ofNat_add]

set_option backward.isDefEq.respectTransparency.types false in
/-- The first scan's condition reads 1 while its counter is below 128. -/
theorem cond0_spec (W₀ : Dev nD → Valuation τ sig (Elt F)) (h0 : ∀ c, W₀ c main_v98_4 = fun _ => (0#32 : BitVec 32)) :
    StableHlo.LoopCond (pcfgs (F := F)) defs₀ Variants.none loops (Ow (F := F)) main_while0_cond cond0Ops while0I W₀ 128 := fun k hk c bd => by
  have hctr := ctr0 W₀ h0 c k
  unfold main_while0_cond
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0Ops while0I W₀ k c) main_v98_4 HostLoop.idx0)
        (HloOp.result _ (atTrip cond0Ops while0I W₀ k c) main_while0c_c_58 HostLoop.idx0) = 1#1) (k < 128)
    rw [StableHlo.nullary_result_ne _ _ _ _ (by decide), StableHlo.nullary_result, hctr]
    exact pred_iff k hk
  isplitl [Hb]; · iexact Hb
  isplitl [Hh]; · rw [StableHlo.after_cons, StableHlo.after_cons, StableHlo.after_nil]; iexact Hh
  iexact HR

set_option backward.isDefEq.respectTransparency.types false in
/-- The second scan's condition reads 1 while its counter is below 128. -/
theorem cond1_spec (W₀ : Dev nD → Valuation τ sig (Elt F)) (h0 : ∀ c, W₀ c main_v157_6 = fun _ => (0#32 : BitVec 32)) :
    StableHlo.LoopCond (pcfgs (F := F)) defs₀ Variants.none loops (Ow (F := F)) main_while1_cond cond1Ops while1I W₀ 128 := fun k hk c bd => by
  have hctr := ctr1 W₀ h0 c k
  unfold main_while1_cond
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1Ops while1I W₀ k c) main_v157_6 HostLoop.idx0)
        (HloOp.result _ (atTrip cond1Ops while1I W₀ k c) main_while1c_c_61 HostLoop.idx0) = 1#1) (k < 128)
    rw [StableHlo.nullary_result_ne _ _ _ _ (by decide), StableHlo.nullary_result, hctr]
    exact pred_iff k hk
  isplitl [Hb]; · iexact Hb
  isplitl [Hh]; · rw [StableHlo.after_cons, StableHlo.after_cons, StableHlo.after_nil]; iexact Hh
  iexact HR

/-! ## The whole execution -/

variable (m : (ℓ : Loc nD τ sig) → Buf (Elt F) ℓ)

/-- Every buffer at the first scan's entry, -/
def VA (c : Dev nD) : Valuation τ sig (Elt F) := afterL preI (launchContents m c)
/-- after it, -/
def VB (c : Dev nD) : Valuation τ sig (Elt F) := after cond0Ops (atTrip cond0Ops while0I (VA m) 128 c)
/-- at the second scan's entry, -/
def VC (c : Dev nD) : Valuation τ sig (Elt F) := afterL midI (VB m c)
/-- after it, -/
def VD (c : Dev nD) : Valuation τ sig (Elt F) := after cond1Ops (atTrip cond1Ops while1I (VC m) 128 c)
/-- and at the end. -/
def VE (c : Dev nD) : Valuation τ sig (Elt F) := afterL postI (VD m c)

/-- The program's segments. -/
def segs : List (CSeg (pcfgs (F := F)) adm defs₀ Variants.none L lv loops tk) :=
  segsOf _ _ _ _ _ _ _ _ Ow preI plain_preI (launchContents m)
    ++ loopSeg _ _ _ _ _ _ _ _ 0 main_while0_cond main_while0_body rfl cond0Ops while0I plain_while0I while0_body_chain 128 (VA m) Ow
        (cond0_spec (VA m) fun c => ctr0_start (launchContents m c))
      :: (segsOf _ _ _ _ _ _ _ _ Ow midI plain_midI (VB m)
        ++ loopSeg _ _ _ _ _ _ _ _ 1 main_while1_cond main_while1_body rfl cond1Ops while1I plain_while1I while1_body_chain 128 (VC m) Ow
            (cond1_spec (VC m) fun c => ctr1_start (VB m c))
          :: segsOf _ _ _ _ _ _ _ _ Ow postI plain_postI (VD m))

theorem segs_prog : (segs m).map CSeg.prog = (preI.map fun ops => (seq ops : Prog _ PUnit)) ++ HostLoop.enter 0 ::
    ((midI.map fun ops => (seq ops : Prog _ PUnit)) ++ HostLoop.enter 1 :: postI.map fun ops => (seq ops : Prog _ PUnit)) := by
  unfold segs
  rw [List.map_append, List.map_cons, List.map_append, List.map_cons, segsOf_prog, segsOf_prog, segsOf_prog]
  rfl

theorem main_items (c : Dev nD) : main (F := F) c = Pipeline.chain ((preI.map fun ops => (seq ops : Prog _ PUnit)) ++ HostLoop.enter 0 ::
    ((midI.map fun ops => (seq ops : Prog _ PUnit)) ++ HostLoop.enter 1 :: postI.map fun ops => (seq ops : Prog _ PUnit))) :=
  (main_chain c).trans (by sl_kernel_rfl)
theorem main_segs (c : Dev nD) : main (F := F) c = Pipeline.chain ((segs m).map CSeg.prog) :=
  (main_items c).trans (congrArg Pipeline.chain (segs_prog m).symm)

theorem segs_chains : CSeg.Chains (fun c => iprop(held (c : Thread nD τ) (ucRefs τ sig) (launchContents m c) ∗ Ow c)) (segs m)
    (fun c => iprop(iprop(held (c : Thread nD τ) (ucRefs τ sig) (VE m c)) ∗ ∃ W, owes (c : Thread nD τ) (0 : CellTallies nD τ sig Unit) W)) := by
  unfold segs
  exact CSeg.Chains.append (segsOf_chains _ _ _ _ _ _ _ _ Ow preI plain_preI _)
    ⟨fun _ => .rfl, CSeg.Chains.append (segsOf_chains _ _ _ _ _ _ _ _ Ow midI plain_midI _) ⟨fun _ => .rfl, segsOf_chains _ _ _ _ _ _ _ _ Ow postI plain_postI _⟩⟩

/-- THE EXECUTION: every buffer of the program ends at `VE`. -/
theorem run_whole [∀ e, Nonempty (Elt F e)] (ρ : Dev nD → PrngReg) : θ_run defs (onTc (τ := τ) (main (F := F))) ⟨m, fun _ => 0, ρ⟩
    (fun r => ∀ (c : Dev nD), ∀ b ∈ ucRefs τ sig, r.2.mem ((c : Dev nD), b) = VE m c b) :=
  Pipeline.θ_run_regions_loop_kit (Ix := Unit) (Name := ℕ) (U := Option PUnit) (Lvl := ℕ) (J := Fin 0) (P := Fin 0) (Val := Elt F)
    pcfgs adm cellOf_inj defs₀ Variants.none L lv loops tk m ρ main (segs m)
    (fun c Q => by
      rw [main_segs m c]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Ow c))
    (Tₙ := fun c => iprop(held (c : Thread nD τ) (ucRefs τ sig) (VE m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = VE m c b)
    (hfin := fun c s' => by
      unfold held
      iintro ⟨Hh, HSI⟩
      ihave Hr := (pointsTo_read_all (ucRefs τ sig) (fun b => ((c : Dev nD), b)) (fun b => VE m c b) s') $$ [Hh HSI]
      · isplitl [Hh] <;> iassumption
      icases Hr with ⟨%h, HSI⟩
      imodintro
      isplitr; · ipureintro; exact h
      iexact HSI)
    (hQ := fun _ h c b hb => h c b hb)

/-- A buffer that no operation writes is kept. -/
theorem kept (b : DevRef τ sig) (h0 : spared b (preI (F := F)) = true) (h1 : spared b [cond0Ops (F := F)] = true) (h2 : spared b (while0I (F := F)) = true)
    (h3 : spared b (midI (F := F)) = true) (h4 : spared b [cond1Ops (F := F)] = true) (h5 : spared b (while1I (F := F)) = true)
    (h6 : spared b (postI (F := F)) = true) (c : Dev nD) : VE m c b = launchContents m c b := by
  unfold VE VD
  rw [afterL_spared b _ _ h6, after_spared b _ _ (List.all_eq_true.mp h4 _ List.mem_cons_self), trip_spared b _ _ _ h4 h5]
  unfold VC VB
  rw [afterL_spared b _ _ h3, after_spared b _ _ (List.all_eq_true.mp h1 _ List.mem_cons_self), trip_spared b _ _ _ h1 h2]
  exact afterL_spared b _ _ h0

theorem kept0 (c : Dev nD) : VE m c main_arg0 = m ((c.tc : Thread nD τ).loc main_arg0) :=
  kept m main_arg0 (by sl_kernel_rfl) (by sl_kernel_rfl) (by sl_kernel_rfl) (by sl_kernel_rfl) (by sl_kernel_rfl) (by sl_kernel_rfl) (by sl_kernel_rfl) c
theorem kept1 (c : Dev nD) : VE m c main_arg1 = m ((c.tc : Thread nD τ).loc main_arg1) :=
  kept m main_arg1 (by sl_kernel_rfl) (by sl_kernel_rfl) (by sl_kernel_rfl) (by sl_kernel_rfl) (by sl_kernel_rfl) (by sl_kernel_rfl) (by sl_kernel_rfl) c
theorem kept2 (c : Dev nD) : VE m c main_arg2 = m ((c.tc : Thread nD τ).loc main_arg2) :=
  kept m main_arg2 (by sl_kernel_rfl) (by sl_kernel_rfl) (by sl_kernel_rfl) (by sl_kernel_rfl) (by sl_kernel_rfl) (by sl_kernel_rfl) (by sl_kernel_rfl) c
theorem kept3 (c : Dev nD) : VE m c main_arg3 = m ((c.tc : Thread nD τ).loc main_arg3) :=
  kept m main_arg3 (by sl_kernel_rfl) (by sl_kernel_rfl) (by sl_kernel_rfl) (by sl_kernel_rfl) (by sl_kernel_rfl) (by sl_kernel_rfl) (by sl_kernel_rfl) c

theorem at_end {r : Ref sig .tc} {s : (ℓ : Loc nD τ sig) → Buf (Elt F) ℓ} {c : Dev nD} (h : ∀ b ∈ ucRefs τ sig, s ((c : Dev nD), b) = VE m c b)
    (hr : (Proc.devRef .tc r : DevRef τ sig).isScoped = false) : s ((c.tc : Thread nD τ).loc r) = VE m c r :=
  h _ (StableHlo.devRef_mem_ucRefs r hr)

theorem frame_reference : Cert.quiescent_Reference2Ideal := fun m ρ _ =>
  (θ_run _ _ _).mono (fun r h => ⟨fun c => ⟨(at_end m (h c) rfl).trans (kept0 m c), (at_end m (h c) rfl).trans (kept1 m c),
    (at_end m (h c) rfl).trans (kept2 m c), (at_end m (h c) rfl).trans (kept3 m c)⟩, sem_eq_zero_of_no_sems (sig := Cert.Reference2Ideal.sig) (by decide) _⟩)
    (run_whole m ρ)

end Cert.HgRef

end
-- ==== Proof.Sigmoid.lean ====
/- The logistic function on finite extended reals, in the two forms the programs use: by the hyperbolic tangent and
   by the exponential. -/
module

public import proofs.«01_k».proof.Proof.Finite

@[expose] public section

noncomputable section

namespace Cert.Sig

open Idealize.ShloMosaic

theorem ofBits_one : Ideal.ofBits .f32 0x3F800000#32 = ((1 : ℝ) : EReal) := by
  simp [Ideal.ofBits, Ideal.ieee]; rw [← EReal.coe_mul]; norm_num
theorem ofBits_half : Ideal.ofBits .f32 0x3F000000#32 = ((1 / 2 : ℝ) : EReal) := by
  simp [Ideal.ofBits, Ideal.ieee]; rw [← EReal.coe_mul]; norm_num

/-- The logistic function. -/
def sg (x : ℝ) : ℝ := 1 / (1 + Real.exp (-x))

theorem sg_tanh (x : ℝ) : 1 / 2 * Real.tanh (1 / 2 * x) + 1 / 2 = sg x := by
  unfold sg
  rw [Real.tanh_eq_sinh_div_cosh, Real.sinh_eq, Real.cosh_eq]
  have h3 : Real.exp (-x) = Real.exp (-(1 / 2 * x)) * Real.exp (-(1 / 2 * x)) := by rw [← Real.exp_add]; ring_nf
  have h4 : Real.exp (1 / 2 * x) * Real.exp (-(1 / 2 * x)) = 1 := by rw [← Real.exp_add]; simp
  rw [h3]
  have h1 := Real.exp_pos (1 / 2 * x)
  have h2 := Real.exp_pos (-(1 / 2 * x))
  generalize Real.exp (1 / 2 * x) = A at *
  generalize Real.exp (-(1 / 2 * x)) = B at *
  have h5 : A + B ≠ 0 := by positivity
  have h6 : 1 + B * B ≠ 0 := by positivity
  field_simp
  linear_combination 2 * B * h4

/-- The kernel's form of it, by the hyperbolic tangent. -/
def SG (x : EReal) : EReal :=
  Ideal.ofBits .f32 0x3F000000#32 * Ideal.tanh (Ideal.ofBits .f32 0x3F000000#32 * x) + Ideal.ofBits .f32 0x3F000000#32

/-- The reference's form of it, by the exponential. -/
def LG (x : EReal) : EReal :=
  Ideal.div (Ideal.ofBits .f32 0x3F800000#32) (Ideal.ofBits .f32 0x3F800000#32 + Ideal.exp (-x))

theorem SG_coe (x : ℝ) : SG (x : EReal) = (sg x : EReal) := by
  unfold SG
  rw [ofBits_half, ← EReal.coe_mul, show Ideal.tanh ((1 / 2 * x : ℝ) : EReal) = ((Real.tanh (1 / 2 * x) : ℝ) : EReal) from rfl,
    ← EReal.coe_mul, ← EReal.coe_add, sg_tanh]

theorem LG_coe (x : ℝ) : LG (x : EReal) = (sg x : EReal) := by
  unfold LG
  rw [ofBits_one, ← EReal.coe_neg, show Ideal.exp ((-x : ℝ) : EReal) = ((Real.exp (-x) : ℝ) : EReal) from rfl, ← EReal.coe_add,
    Finite.div_coe _ _ (by positivity), sg]

end Cert.Sig

end
-- ==== Proof.FfnForms.lean ====
/- The closed forms of the feed-forward block's backward kernel's results, and the blocks its windows stage. -/
module

public import proofs.«01_k».proof.Proof.Gen.Kernel3Ideal.Value
public import proofs.«01_k».proof.Proof.Gen.Reference3Ideal.Read
public import proofs.«01_k».proof.Proof.InForms
public import proofs.«01_k».proof.Proof.Sigmoid
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Ffn

open Cert.Kernel3Ideal Cert.Kernel3Ideal.Gen
open Cert.Sig (SG)
open Cert.Reference3Ideal.Read (val_main_v17 val_main_v18)

/-- The gradient reaching the gated product, before the gate. -/
def DA (a4 : FVec Ideal S2816x1024 .f32) (a5 : FVec Ideal S4096x1024 .f32) : FVec Ideal S4096x2816 .f32 := fun i =>
  ∑ k : Fin 1024, a5 (ix2 (i 0) k) * a4 (ix2 (i 1) k)

/-- The gate's gradient, from the gradient `da` and the saved products `gp` and `up`. -/
def DGT (da gp up : FVec Ideal S4096x2816 .f32) : FVec Ideal S4096x2816 .f32 := fun i =>
  da i * up i * (SG (gp i) * (Ideal.ofBits .f32 0x3F800000#32 + gp i * (Ideal.ofBits .f32 0x3F800000#32 - SG (gp i))))

/-- The other product's gradient. -/
def DUP (da gp : FVec Ideal S4096x2816 .f32) : FVec Ideal S4096x2816 .f32 := fun i => da i * (gp i * SG (gp i))

/-- The gradient reaching the norm's output. -/
def DHF (a2 a3 : FVec Ideal S1024x2816 .f32) (dg du : FVec Ideal S4096x2816 .f32) : FVec Ideal S4096x1024 .f32 := fun i =>
  ∑ k : Fin 2816, dg (ix2 (i 0) k) * a2 (ix2 (i 1) k) + ∑ k : Fin 2816, du (ix2 (i 0) k) * a3 (ix2 (i 1) k)

variable (m : (ℓ : Loc nD τ sig) → Buf (Elt Ideal) ℓ) (c : Dev nD)

/-- The arguments and the two saved products, at the launch's memory. -/
abbrev X : FVec Ideal S4096x1024 .f32 := m ((c : Thread nD τ).loc main_arg0)
abbrev G : FVec Ideal S1x1024 .f32 := m ((c : Thread nD τ).loc main_arg1)
abbrev WG : FVec Ideal S1024x2816 .f32 := m ((c : Thread nD τ).loc main_arg2)
abbrev WU : FVec Ideal S1024x2816 .f32 := m ((c : Thread nD τ).loc main_arg3)
abbrev WD : FVec Ideal S2816x1024 .f32 := m ((c : Thread nD τ).loc main_arg4)
abbrev D2 : FVec Ideal S4096x1024 .f32 := m ((c : Thread nD τ).loc main_arg5)
abbrev GP : FVec Ideal S4096x2816 .f32 := val_main_v17 (F := Ideal) (X m c) (G m c) (WG m c)
abbrev UP : FVec Ideal S4096x2816 .f32 := val_main_v18 (F := Ideal) (X m c) (G m c) (WU m c)
abbrev DGTm : FVec Ideal S4096x2816 .f32 := DGT (DA (WD m c) (D2 m c)) (GP m c) (UP m c)
abbrev DUPm : FVec Ideal S4096x2816 .f32 := DUP (DA (WD m c) (D2 m c)) (GP m c)
abbrev DHm : FVec Ideal S4096x1024 .f32 := DHF (WG m c) (WU m c) (DGTm m c) (DUPm m c)

/-- Every window's block index, at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![0, 0] :=
  (by decide +kernel : ∀ t : Fin grid0.N, _)

/-- The rows of point `t`'s block. -/
theorem row_lt (t : Fin cfg0.N) (x : Fin 512) : t.val * 512 + x.val < 4096 := by
  have := lt_of_lt_of_eq t.isLt N_0
  omega
abbrev row (t : Fin cfg0.N) (x : Fin 512) : Fin 4096 := ⟨t.val * 512 + x.val, row_lt t x⟩

/-- What the host lines before the region leave in the saved products' and the weights' arrays. -/
theorem V_gate : (V m c main_v15 : FVec Ideal S4096x2816 .bf16) = GP m c := by
  unfold_abbrev_sides
  after_results
  rfl
theorem V_up : (V m c main_v17 : FVec Ideal S4096x2816 .bf16) = UP m c := by
  unfold_abbrev_sides
  after_results
  rfl
theorem V_wg (i : Fin 2816) (j : Fin 1024) : (V m c main_v19 : FVec Ideal S2816x1024 .bf16) (ix2 i j) = WG m c (ix2 j i) := by
  unfold_abbrev_sides
  after_results
  pointwise
theorem V_wu (i : Fin 2816) (j : Fin 1024) : (V m c main_v21 : FVec Ideal S2816x1024 .bf16) (ix2 i j) = WU m c (ix2 j i) := by
  unfold_abbrev_sides
  after_results
  pointwise
theorem V_wd (i : Fin 2816) (j : Fin 1024) : (V m c main_v22 : FVec Ideal S2816x1024 .bf16) (ix2 i j) = WD m c (ix2 i j) := by
  unfold_abbrev_sides
  after_results
  pointwise

/-- The staged blocks, entry by entry. -/
theorem blk0 (t : Fin cfg0.N) (r : Fin 512) (k : Fin 1024) : (iblk m c 0 t : FVec Ideal S512x1024 .f32) (ix2 r k) = D2 m c (ix2 (row t r) k) := by
  show ((cfg0.win 0).blk t).view.read (Elt Ideal) (V m c main_arg5) (ix2 r k) = _
  rw [V_main_arg5]
  blk_ext [idx t]
theorem blk1 (t : Fin cfg0.N) (r : Fin 512) (k : Fin 1024) : (iblk m c 1 t : FVec Ideal S512x1024 .f32) (ix2 r k) = X m c (ix2 (row t r) k) := by
  show ((cfg0.win 1).blk t).view.read (Elt Ideal) (V m c main_arg0) (ix2 r k) = _
  rw [V_main_arg0]
  blk_ext [idx t]
theorem blk2 (t : Fin cfg0.N) (r : Fin 512) (k : Fin 2816) : (iblk m c 2 t : FVec Ideal S512x2816 .bf16) (ix2 r k) = GP m c (ix2 (row t r) k) := by
  show ((cfg0.win 2).blk t).view.read (Elt Ideal) (V m c main_v15) (ix2 r k) = _
  rw [V_gate]
  blk_ext [idx t]
theorem blk3 (t : Fin cfg0.N) (r : Fin 512) (k : Fin 2816) : (iblk m c 3 t : FVec Ideal S512x2816 .bf16) (ix2 r k) = UP m c (ix2 (row t r) k) := by
  show ((cfg0.win 3).blk t).view.read (Elt Ideal) (V m c main_v17) (ix2 r k) = _
  rw [V_up]
  blk_ext [idx t]
theorem blk4 (t : Fin cfg0.N) (r : Fin 1) (k : Fin 1024) : (iblk m c 4 t : FVec Ideal S1x1024 .f32) (ix2 r k) = G m c (ix2 r k) := by
  show ((cfg0.win 4).blk t).view.read (Elt Ideal) (V m c main_arg1) (ix2 r k) = _
  rw [V_main_arg1]
  blk_ext [idx t]
theorem blk5 (t : Fin cfg0.N) (r : Fin 2816) (k : Fin 1024) : (iblk m c 5 t : FVec Ideal S2816x1024 .bf16) (ix2 r k) = WG m c (ix2 k r) := by
  rw [← V_wg]
  show ((cfg0.win 5).blk t).view.read (Elt Ideal) (V m c main_v19) (ix2 r k) = _
  generalize V m c main_v19 = w
  blk_ext [idx t]
theorem blk6 (t : Fin cfg0.N) (r : Fin 2816) (k : Fin 1024) : (iblk m c 6 t : FVec Ideal S2816x1024 .bf16) (ix2 r k) = WU m c (ix2 k r) := by
  rw [← V_wu]
  show ((cfg0.win 6).blk t).view.read (Elt Ideal) (V m c main_v21) (ix2 r k) = _
  generalize V m c main_v21 = w
  blk_ext [idx t]
theorem blk7 (t : Fin cfg0.N) (r : Fin 2816) (k : Fin 1024) : (iblk m c 7 t : FVec Ideal S2816x1024 .bf16) (ix2 r k) = WD m c (ix2 r k) := by
  rw [← V_wd]
  show ((cfg0.win 7).blk t).view.read (Elt Ideal) (V m c main_v22) (ix2 r k) = _
  generalize V m c main_v22 = w
  blk_ext [idx t]

end Cert.Kernel3Ideal.Ffn

end
-- ==== Proof.FfnValue.lean ====
/- The values of the feed-forward block's backward kernel: after the run its first three result arrays are the closed
   forms of the arguments. -/
module

public import proofs.«01_k».proof.Proof.FfnForms

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Ffn

open Cert.Kernel3Ideal Cert.Kernel3Ideal.Gen
open Cert.Sig (SG)
open Cert.KernelIdeal.InValue (DX DGN GT RS)

variable (m : (ℓ : Loc nD τ sig) → Buf (Elt Ideal) ℓ) (c : Dev nD)

/-- The payloads shared by the results, on the staged blocks. -/
theorem dgate_at (t : Fin cfg0.N) (r : Fin 512) (k : Fin 2816) :
    k0_pay5 (F := Ideal) (iblk m c 0 t) (iblk m c 7 t) (iblk m c 2 t) (iblk m c 3 t) (ix2 r k) = DGTm m c (ix2 (row t r) k) := by
  pointwise [k0_pay2, k0_pay3, k0_pay4, k0_pay5, DGT, DA, SG]
  simp only [blk0 m c t, blk7 m c t, blk2 m c t, blk3 m c t]
theorem dup_at (t : Fin cfg0.N) (r : Fin 512) (k : Fin 2816) :
    k0_pay6 (F := Ideal) (iblk m c 0 t) (iblk m c 7 t) (iblk m c 2 t) (ix2 r k) = DUPm m c (ix2 (row t r) k) := by
  pointwise [k0_pay2, k0_pay3, k0_pay4, k0_pay6, DUP, DA, SG]
  simp only [blk0 m c t, blk7 m c t, blk2 m c t]
theorem dh_at (t : Fin cfg0.N) (r : Fin 512) (k : Fin 1024) :
    k0_pay7 (F := Ideal) (k0_pay5 (iblk m c 0 t) (iblk m c 7 t) (iblk m c 2 t) (iblk m c 3 t)) (k0_pay6 (iblk m c 0 t) (iblk m c 7 t) (iblk m c 2 t))
      (iblk m c 5 t) (iblk m c 6 t) (ix2 r k) = DHm m c (ix2 (row t r) k) := by
  pointwise [k0_pay7, DHF]
  simp only [dgate_at m c t, dup_at m c t, blk5 m c t, blk6 m c t]

/-- What a grid point leaves in the results' blocks. -/
theorem point8 (t : Fin cfg0.N) (y : S512x2816.Idx) : (outsAt0 m c t.val t.isLt).1 y = DGTm m c (((cfg0.win 8).blk t).view.emb y) := by
  idx_vars y
  by_cases h : t.val % 8 = 0
  · rw [outsAt0_A m c t h]; frame_out
    refine (dgate_at m c t y0 y1).trans (congrArg _ ?_)
    blk_ext [idx t]
  · rw [outsAt0_B m c t h]; frame_out
    refine (dgate_at m c t y0 y1).trans (congrArg _ ?_)
    blk_ext [idx t]
theorem point9 (t : Fin cfg0.N) (y : S512x2816.Idx) : (outsAt0 m c t.val t.isLt).2.1 y = DUPm m c (((cfg0.win 9).blk t).view.emb y) := by
  idx_vars y
  by_cases h : t.val % 8 = 0
  · rw [outsAt0_A m c t h]; frame_out
    refine (dup_at m c t y0 y1).trans (congrArg _ ?_)
    blk_ext [idx t]
  · rw [outsAt0_B m c t h]; frame_out
    refine (dup_at m c t y0 y1).trans (congrArg _ ?_)
    blk_ext [idx t]

/-- The input's gradient on the staged blocks. -/
theorem dx_at (t : Fin cfg0.N) (r : Fin 512) (k : Fin 1024) :
    k0_pay11 (F := Ideal) (iblk m c 0 t) (k0_pay5 (iblk m c 0 t) (iblk m c 7 t) (iblk m c 2 t) (iblk m c 3 t)) (k0_pay6 (iblk m c 0 t) (iblk m c 7 t) (iblk m c 2 t))
      (iblk m c 5 t) (iblk m c 6 t) (iblk m c 1 t) (iblk m c 4 t) (ix2 r k) = DX (X m c) (G m c) (D2 m c) (DHm m c) (ix2 (row t r) k) := by
  pointwise [k0_pay11, k0_pay8, k0_pay9, dh_at m c t, DX, RS]
  simp only [blk0 m c t, blk1 m c t, blk4 m c t]
theorem point10 (t : Fin cfg0.N) (y : S512x1024.Idx) :
    (outsAt0 m c t.val t.isLt).2.2.1 y = DX (X m c) (G m c) (D2 m c) (DHm m c) (((cfg0.win 10).blk t).view.emb y) := by
  idx_vars y
  by_cases h : t.val % 8 = 0
  · rw [outsAt0_A m c t h]; frame_out
    refine (dx_at m c t y0 y1).trans (congrArg _ ?_)
    blk_ext [idx t]
  · rw [outsAt0_B m c t h]; frame_out
    refine (dx_at m c t y0 y1).trans (congrArg _ ?_)
    blk_ext [idx t]

/-- What point `t` adds to the scale's gradient. -/
theorem part_A (t : Fin cfg0.N) (h : t.val % 8 = 0) (j : S1x1024.Idx) :
    (outsAt0 m c t.val t.isLt).2.2.2 j = 0 + ∑ x : Fin 512, GT (X m c) (DHm m c) (row t x) (j 1) := by
  idx_vars j
  rw [outsAt0_A m c t h]; frame_out
  pointwise [k0_pay1, k0_pay10, k0_pay8, k0_pay9, dh_at m c t, GT, RS]
  simp only [blk1 m c t]
theorem part_B (t : Fin cfg0.N) (h : ¬t.val % 8 = 0) (j : S1x1024.Idx) :
    (outsAt0 m c t.val t.isLt).2.2.2 j = (outsAt0 m c (t.val - 1) (Nat.lt_of_le_of_lt (Nat.sub_le _ _) t.isLt)).2.2.2 j
      + ∑ x : Fin 512, GT (X m c) (DHm m c) (row t x) (j 1) := by
  idx_vars j
  rw [outsAt0_B m c t h]; frame_out
  pointwise [k0_pay10, k0_pay8, k0_pay9, dh_at m c t, GT, RS]
  simp only [blk1 m c t]

/-- The result arrays after the run. -/
theorem final8 : (dats m 0 c).arrAt 8 (cfgs 0).N = DGTm m c := by
  refine (dats m 0 c).arrAt_eq_of_covers 8 _ (by decide +kernel) fun t _ y => ?_
  blk_simp
  rw [after0_8]
  exact point8 m c t y
theorem final9 : (dats m 0 c).arrAt 9 (cfgs 0).N = DUPm m c := by
  refine (dats m 0 c).arrAt_eq_of_covers 9 _ (by decide +kernel) fun t _ y => ?_
  blk_simp
  rw [after0_9]
  exact point9 m c t y
theorem final10 : (dats m 0 c).arrAt 10 (cfgs 0).N = DX (X m c) (G m c) (D2 m c) (DHm m c) := by
  refine (dats m 0 c).arrAt_eq_of_covers 10 _ (by decide +kernel) fun t _ y => ?_
  blk_simp
  rw [after0_10]
  exact point10 m c t y
theorem final11 : (dats m 0 c).arrAt 11 (cfgs 0).N = DGN (X m c) (DHm m c) := by
  refine (dats m 0 c).arrAt_eq_of_after_last 11 t0_7 (by decide +kernel) _ fun j => ?_
  blk_simp
  rw [after0_11, Pipeline.eq_sum_fin_of_reset_step_apply_last (fun n h => (outsAt0 m c n h).2.2.2) 8 (fun _ => 0) _
    (fun t h j => part_A m c t h j) (fun t h j => part_B m c t h j)
    (le_of_eq N_0) t0_7 rfl j, zero_add]
  exact Fin.sum_mul_add_congr fun s k hl => rfl

end Cert.Kernel3Ideal.Ffn

end
-- ==== Proof.FfnReference.lean ====
/- The feed-forward block's gradient as the reference computes it, by the derivative of the forward lines: its four
   results are the closed forms the kernel's results have. -/
module

public import proofs.«01_k».proof.Proof.FfnForms
public import proofs.«01_k».proof.Proof.Finite

@[expose] public section

set_option maxRecDepth 16384

noncomputable section

open Idealize.ShloMosaic Idealize.ShloMosaic.TcCoe Idealize.SL.Sem
open scoped BigOperators

namespace Cert.Reference3Ideal.FfnReference

open Cert.Reference3Ideal Cert.Reference3Ideal.Read
open Cert.KernelIdeal.InValue (DX DGN GT RS)
open Cert.Kernel3Ideal.Ffn (DA DGT DUP DHF)
open Cert.Finite (IsReal)
open Cert.Sig (SG LG)

variable (a0 : FVec Ideal S4096x1024 .f32) (a1 : FVec Ideal S1x1024 .f32) (a2 : FVec Ideal S1024x2816 .f32) (a3 : FVec Ideal S1024x2816 .f32)
  (a4 : FVec Ideal S2816x1024 .f32) (a5 : FVec Ideal S4096x1024 .f32)

/-- The reciprocal root mean square. -/
theorem rs_at (i : Fin 4096) (k : Fin 1) : val_main_v8 (F := Ideal) a0 (ix2 i k) = RS a0 i := by
  pointwise [val_main_v8, val_main_v7, val_main_v6, val_main_v5, val_main_v4, val_main_v3, val_main_v2, val_main_v1, val_main_cst, val_main_cst_0,
    val_main_cst_1, RS]

/-- The gradient before the gate. -/
theorem da_at (i : Fin 4096) (j : Fin 2816) : val_main_v24 (F := Ideal) a4 a5 (ix2 i j) = DA a4 a5 (ix2 i j) := by
  pointwise [val_main_v24, val_main_v23, DA]

/-- The logistic function of the gate. -/
theorem lg_at (i : Fin 4096) (j : Fin 2816) : val_main_v19_2 (F := Ideal) a0 a1 a2 (ix2 i j) = LG (val_main_v17 (F := Ideal) a0 a1 a2 (ix2 i j)) := by
  pointwise [val_main_v19_2, val_main_call0_v4, val_main_call0_cst_0, val_main_call0_v3, val_main_call0_v2, val_main_call0_cst, val_main_call0_v1,
    val_main_call0_v0, LG]

/-- The arguments being reals, so are the norm's factor and the two products. -/
theorem rs_real (h0 : ∀ i, IsReal (a0 i)) (i : Fin 4096) : IsReal (RS a0 i) := by
  choose A0 h0 using h0
  obtain ⟨e, he, hE⟩ := Finite.ofBits_eps
  have hN : (1024 : ℝ) ≠ 0 := by norm_num
  have hs : 0 ≤ ∑ k : Fin 1024, A0 (ix2 i k) * A0 (ix2 i k) := Finset.sum_nonneg fun k _ => mul_self_nonneg _
  refine ⟨(Real.sqrt ((∑ k : Fin 1024, A0 (ix2 i k) * A0 (ix2 i k)) / 1024 + e))⁻¹, ?_⟩
  rw [← Finite.rsqrt_coe _ (by positivity)]
  simp only [RS, h0, hE, Finite.ofBits_1024, ← EReal.coe_mul, ← Finite.coe_sum, Finite.div_coe _ _ hN, ← EReal.coe_add]
theorem gp_real (h0 : ∀ i, IsReal (a0 i)) (h1 : ∀ i, IsReal (a1 i)) (h2 : ∀ i, IsReal (a2 i)) (i : Fin 4096) (j : Fin 2816) :
    IsReal (val_main_v17 (F := Ideal) a0 a1 a2 (ix2 i j)) := by
  pointwise [val_main_v17, val_main_v16, val_main_v15, val_main_v14, val_main_v13, val_main_v12, val_main_v0, rs_at]
  exact IsReal.sum fun k => (((h0 _).mul (rs_real a0 h0 _)).mul (h1 _)).mul (h2 _)
theorem da_real (h4 : ∀ i, IsReal (a4 i)) (h5 : ∀ i, IsReal (a5 i)) (i : S4096x2816.Idx) : IsReal (DA a4 a5 i) :=
  IsReal.sum fun k => (h5 _).mul (h4 _)

variable (h0 : ∀ i, IsReal (a0 i)) (h1 : ∀ i, IsReal (a1 i)) (h2 : ∀ i, IsReal (a2 i)) (h3 : ∀ i, IsReal (a3 i)) (h4 : ∀ i, IsReal (a4 i))
  (h5 : ∀ i, IsReal (a5 i))

include h0 h1 h2 in
/-- The other product's gradient. -/
theorem dup_at (i : Fin 4096) (j : Fin 2816) :
    val_main_v25 (F := Ideal) a0 a1 a2 a4 a5 (ix2 i j) = DUP (DA a4 a5) (val_main_v17 (F := Ideal) a0 a1 a2) (ix2 i j) := by
  pointwise [val_main_v25, val_main_v19_0, lg_at, da_at, DUP]
  obtain ⟨x, hx⟩ := gp_real a0 a1 a2 h0 h1 h2 i j
  rw [hx, Sig.LG_coe, Sig.SG_coe, mul_comm]

include h0 h1 h2 h3 h4 h5 in
/-- The gate's gradient. -/
theorem dgate_at (i : Fin 4096) (j : Fin 2816) : val_main_v27 (F := Ideal) a0 a1 a2 a3 a4 a5 (ix2 i j)
    = DGT (DA a4 a5) (val_main_v17 (F := Ideal) a0 a1 a2) (val_main_v18 (F := Ideal) a0 a1 a3) (ix2 i j) := by
  pointwise [val_main_v27, val_main_call1_v2, val_main_call1_v1, val_main_call1_v0, val_main_v26, val_main_v19_1, val_main_call0_v7,
    val_main_call0_v6, val_main_call0_cst_1, lg_at, da_at, DGT]
  obtain ⟨x, hx⟩ := gp_real a0 a1 a2 h0 h1 h2 i j
  obtain ⟨y, hy⟩ : IsReal (val_main_v18 (F := Ideal) a0 a1 a3 (ix2 i j)) := gp_real a0 a1 a3 h0 h1 h3 i j
  obtain ⟨z, hz⟩ := da_real a4 a5 h4 h5 (ix2 i j)
  rw [hx, hy, hz, Sig.LG_coe, Sig.SG_coe, show (1 : EReal) = ((1 : ℝ) : EReal) from rfl]
  simp only [← EReal.coe_mul, ← EReal.coe_add, ← EReal.coe_sub]
  refine congrArg _ ?_
  ring

include h0 h1 h2 h3 h4 h5 in
/-- The gradient reaching the norm's output. -/
theorem dh_at (i : Fin 4096) (j : Fin 1024) : val_main_v30 (F := Ideal) a0 a1 a2 a3 a4 a5 (ix2 i j)
    = DHF a2 a3 (DGT (DA a4 a5) (val_main_v17 (F := Ideal) a0 a1 a2) (val_main_v18 (F := Ideal) a0 a1 a3))
        (DUP (DA a4 a5) (val_main_v17 (F := Ideal) a0 a1 a2)) (ix2 i j) := by
  pointwise [val_main_v30, val_main_v29, val_main_v28, dgate_at a0 a1 a2 a3 a4 a5 h0 h1 h2 h3 h4 h5, dup_at a0 a1 a2 a4 a5 h0 h1 h2, DHF]
  exact add_comm _ _

/-- The scale's gradient and the input's from the gradient `dh` that reaches the norm's output. -/
theorem dgn (dh : FVec Ideal S4096x1024 .f32) (hd : ∀ i j, val_main_v30 (F := Ideal) a0 a1 a2 a3 a4 a5 (ix2 i j) = dh (ix2 i j)) :
    val_main_v52 (F := Ideal) a0 a1 a2 a3 a4 a5 = DGN a0 dh := by
  funext i
  idx_vars i
  pointwise [val_main_v52, val_main_v36, val_main_v33, val_main_v32, val_main_v31, val_main_v13, val_main_v12,
    val_main_cst_3, val_main_cst_4, hd, rs_at, DGN, GT]
  rw [Fin.sum_univ_one]
  exact Finset.sum_congr rfl fun r _ => mul_comm _ _

include h0 h1 in
theorem dx (dh : FVec Ideal S4096x1024 .f32) (hd : ∀ i j, val_main_v30 (F := Ideal) a0 a1 a2 a3 a4 a5 (ix2 i j) = dh (ix2 i j))
    (hr : ∀ i, IsReal (dh i)) : val_main_v51 (F := Ideal) a0 a1 a2 a3 a4 a5 = DX a0 a1 a5 dh := by
  funext i
  idx_vars i
  pointwise [val_main_v51, val_main_v50, val_main_v49, val_main_v48, val_main_v47, val_main_v46, val_main_v45, val_main_v44, val_main_v43,
    val_main_v42, val_main_v41, val_main_v40, val_main_v39, val_main_v38, val_main_v37, val_main_v35, val_main_v34, val_main_v14, val_main_v0,
    val_main_v11, val_main_v10, val_main_v9, val_main_cst_2, val_main_cst_5, val_main_cst_6, val_main_cst_7,
    val_main_v7, val_main_v6, val_main_v5, val_main_v4, val_main_v3, val_main_v2, val_main_v1, val_main_cst, val_main_cst_0, val_main_cst_1, hd, rs_at, DX]
  rw [Fin.sum_univ_one]
  choose w hw using fun k : Fin 1024 => (hr (ix2 i0 k)).mul (h1 (ix2 0 k))
  choose A0 hA using h0
  simp only [hw, hA]
  refine (Finite.norm_grad (fun k => A0 (ix2 i0 k)) w _ i1 (RS a0 i0) _ ?_ rfl).symm
  simp only [RS, hA]

/-- The four results, where the arguments are reals. -/
abbrev GPr : FVec Ideal S4096x2816 .f32 := val_main_v17 (F := Ideal) a0 a1 a2
abbrev DGTr : FVec Ideal S4096x2816 .f32 := DGT (DA a4 a5) (GPr a0 a1 a2) (GPr a0 a1 a3)
abbrev DUPr : FVec Ideal S4096x2816 .f32 := DUP (DA a4 a5) (GPr a0 a1 a2)
abbrev DHr : FVec Ideal S4096x1024 .f32 := DHF a2 a3 (DGTr a0 a1 a2 a3 a4 a5) (DUPr a0 a1 a2 a4 a5)

include h0 h1 h2 h3 h4 h5 in
theorem results : (val_main_v53 (F := Ideal) a0 a1 a2 a3 a4 a5 = DGTr a0 a1 a2 a3 a4 a5) ∧ (val_main_v54 (F := Ideal) a0 a1 a2 a4 a5 = DUPr a0 a1 a2 a4 a5)
    ∧ (val_main_v51 (F := Ideal) a0 a1 a2 a3 a4 a5 = DX a0 a1 a5 (DHr a0 a1 a2 a3 a4 a5))
    ∧ (val_main_v52 (F := Ideal) a0 a1 a2 a3 a4 a5 = DGN a0 (DHr a0 a1 a2 a3 a4 a5)) := by
  have hg := dgate_at a0 a1 a2 a3 a4 a5 h0 h1 h2 h3 h4 h5
  have hu := dup_at a0 a1 a2 a4 a5 h0 h1 h2
  have hd := dh_at a0 a1 a2 a3 a4 a5 h0 h1 h2 h3 h4 h5
  refine ⟨?_, ?_, dx a0 a1 a2 a3 a4 a5 h0 h1 _ hd fun i => ?_, dgn a0 a1 a2 a3 a4 a5 _ hd⟩
  · funext i
    idx_vars i
    exact hg i0 i1
  · funext i
    idx_vars i
    exact hu i0 i1
  · have hx := fun k l => gp_real a0 a1 a2 h0 h1 h2 k l
    have hy : ∀ k l, IsReal (val_main_v18 (F := Ideal) a0 a1 a3 (ix2 k l)) := fun k l => gp_real a0 a1 a3 h0 h1 h3 k l
    have hz := fun k l => da_real a4 a5 h4 h5 (ix2 k l)
    have hs : ∀ k l, IsReal (SG (val_main_v17 (F := Ideal) a0 a1 a2 (ix2 k l))) := fun k l => by
      obtain ⟨x, e⟩ := hx k l
      rw [e, Sig.SG_coe]; exact IsReal.coe _
    have h1' : IsReal (Ideal.ofBits .f32 0x3F800000#32) := by rw [Sig.ofBits_one]; exact IsReal.coe _
    exact (IsReal.sum fun k => (((hz _ _).mul (hy _ _)).mul ((hs _ _).mul (h1'.add ((hx _ _).mul (h1'.sub (hs _ _)))))).mul (h2 _)).add
      (IsReal.sum fun k => ((hz _ _).mul ((hx _ _).mul (hs _ _))).mul (h3 _))

end Cert.Reference3Ideal.FfnReference

end
-- ==== Proof.FfnClaims.lean ====
/- The claims about the feed-forward block's backward kernel and its reference. -/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Pre_finite3
public import proofs.«01_k».proof.Proof.FfnValue
public import proofs.«01_k».proof.Proof.FfnReference
public import Idealize.ShloMosaic.Lib.Claim

@[expose] public section

set_option maxRecDepth 16384

noncomputable section

namespace Cert.FfnClaims

open Idealize.ShloMosaic Idealize.ShloMosaic.TcCoe Idealize.SL.Sem
open Cert.Finite (IsReal)
open Cert.Kernel3Ideal.Ffn

attribute [local instance] Cert.Kernel3.Gen.facts Cert.Kernel3Ideal.Gen.facts Cert.Reference3Ideal.Gen.facts Cert.Pre_finite3.Gen.facts

instance : Subsingleton Cert.Pre_finite3.S_.Idx := ⟨fun a b => funext fun i => i.elim0⟩

/-- The precondition: every array is an array of reals. -/
theorem reals (m : (ℓ : Loc Cert.Kernel3Ideal.nD Cert.Kernel3Ideal.τ Cert.Kernel3Ideal.sig) → Buf (Elt Ideal) ℓ) (h : Cert.Pre_Kernel3Ideal_finite3 m)
    (c : Dev Cert.Kernel3Ideal.nD) : (∀ i, IsReal (X m c i)) ∧ (∀ i, IsReal (G m c i)) ∧ (∀ i, IsReal (WG m c i)) ∧ (∀ i, IsReal (WU m c i))
      ∧ (∀ i, IsReal (WD m c i)) ∧ (∀ i, IsReal (D2 m c i)) := by
  have e := congrFun (h c) (ix0)
  simp only [Cert.Pre_finite3.fn, Cert.Pre_finite3.fn_part1] at e
  simp only [andi, Cert.Finite.and_eq_one] at e
  obtain ⟨⟨⟨⟨⟨e0, e1⟩, e2⟩, e3⟩, e4⟩, e5⟩ := e
  exact ⟨Cert.Finite.isReal_of_reduce _ _ _ (fun _ => Cert.Finite.ofBits_inf) _ _ _ e0, Cert.Finite.isReal_of_reduce _ _ _ (fun _ => Cert.Finite.ofBits_inf) _ _ _ e1,
    Cert.Finite.isReal_of_reduce _ _ _ (fun _ => Cert.Finite.ofBits_inf) _ _ _ e2, Cert.Finite.isReal_of_reduce _ _ _ (fun _ => Cert.Finite.ofBits_inf) _ _ _ e3,
    Cert.Finite.isReal_of_reduce _ _ _ (fun _ => Cert.Finite.ofBits_inf) _ _ _ e4, Cert.Finite.isReal_of_reduce _ _ _ (fun _ => Cert.Finite.ofBits_inf) _ _ _ e5⟩

theorem frame_kernel : Cert.quiescent_Kernel3 := fun m ρ _ => Cert.Kernel3.Gen.frame m ρ
theorem frame_ideal : Cert.quiescent_Kernel3Ideal := fun m ρ _ => Cert.Kernel3Ideal.Gen.frame m ρ
theorem frame_ideal_finite : Cert.quiescent_Kernel3Ideal_pre_finite3 := fun m ρ _ => Cert.Kernel3Ideal.Gen.frame m ρ
theorem frame_reference : Cert.quiescent_Reference3Ideal := by
  intro m g _
  hlo_run
  · exact fun _ => ⟨trivial, trivial, trivial, trivial, trivial, trivial⟩
  exact sem_eq_zero_of_no_sems (sig := Cert.Reference3Ideal.sig) (by decide) _
theorem frame_reference_finite : Cert.quiescent_Reference3Ideal_pre_finite3 := fun m g _ => frame_reference m g trivial

/-- Kernel and reference end with equal results. -/
theorem algebraic : Cert.algebraic_Kernel3Ideal_Reference3Ideal_pre_finite3 := by
  intro m g m' g' hpre hagree
  refine ⟨fun c => DGTm m c, fun c => DUPm m c, fun c => Cert.KernelIdeal.InValue.DX (X m c) (G m c) (D2 m c) (DHm m c),
    fun c => Cert.KernelIdeal.InValue.DGN (X m c) (DHm m c), ?_, ?_⟩
  · refine (θ_run _ _ _).mono (fun r h c => ?_) (Cert.Kernel3Ideal.Value.run_blocks m g)
    obtain ⟨r0, r1, r2, r3, rest⟩ := h c
    exact ⟨r0.trans (final8 m c), r1.trans (final9 m c), r2.trans (final10 m c), r3.trans (final11 m c), rest⟩
  · refine (θ_run _ _ _).mono (fun r h c => ?_) (Cert.Reference3Ideal.Value.run m' g')
    obtain ⟨r0, r1, r2, r3, rest⟩ := h c
    obtain ⟨a0, a1, a2, a3, a4, a5⟩ := hagree c
    obtain ⟨h0, h1, h2, h3, h4, h5⟩ := reals m hpre c
    obtain ⟨e0, e1, e2, e3⟩ := Cert.Reference3Ideal.FfnReference.results _ _ _ _ _ _ h0 h1 h2 h3 h4 h5
    refine ⟨r0.trans ?_, (r1.trans (Cert.Reference3Ideal.Read.val_main_v54_eq _ _ _ _ _)).trans ?_, r2.trans ?_, r3.trans ?_, rest⟩
    · rw [Cert.Reference3Ideal.Read.val_main_v53_eq, a0, a1, a2, a3, a4, a5]; exact e0
    · rw [a0, a1, a2, a4, a5]; exact e1
    · rw [Cert.Reference3Ideal.Read.val_main_v51_eq, a0, a1, a2, a3, a4, a5]; exact e2
    · rw [Cert.Reference3Ideal.Read.val_main_v52_eq, a0, a1, a2, a3, a4, a5]; exact e3

end Cert.FfnClaims

end
-- ==== Proof.LossForms.lean ====
/- The closed forms of the results of the feed-forward block's forward kernel with the loss, and the blocks its
   windows stage. -/
module

public import proofs.«01_k».proof.Proof.Gen.Kernel4Ideal.Value
public import proofs.«01_k».proof.Proof.InForms
public import proofs.«01_k».proof.Proof.Sigmoid
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Loss

open Cert.Kernel4Ideal Cert.Kernel4Ideal.Gen
open Cert.Sig (SG)
open Cert.KernelIdeal.InValue (RS DGN GT)

/-- The normalised and scaled input. -/
def HN (a0 : FVec Ideal S4096x1024 .f32) (a1 : FVec Ideal S1x1024 .f32) : FVec Ideal S4096x1024 .f32 := fun i =>
  a0 i * RS a0 (i 0) * a1 (ix2 0 (i 1))
/-- Its product with a weight. -/
def PR (h : FVec Ideal S4096x1024 .f32) (w : FVec Ideal S1024x2816 .f32) : FVec Ideal S4096x2816 .f32 := fun i =>
  ∑ k : Fin 1024, h (ix2 (i 0) k) * w (ix2 k (i 1))
/-- The gated product. -/
def ACT (gp up : FVec Ideal S4096x2816 .f32) : FVec Ideal S4096x2816 .f32 := fun i => gp i * SG (gp i) * up i
/-- The block's output. -/
def X2 (a0 : FVec Ideal S4096x1024 .f32) (act : FVec Ideal S4096x2816 .f32) (wd : FVec Ideal S2816x1024 .f32) : FVec Ideal S4096x1024 .f32 := fun i =>
  a0 i + ∑ k : Fin 2816, act (ix2 (i 0) k) * wd (ix2 k (i 1))
/-- The normalised output's distance from the target. -/
def ER (x2 : FVec Ideal S4096x1024 .f32) (gf : FVec Ideal S1x1024 .f32) (tg : FVec Ideal S4096x1024 .f32) : FVec Ideal S4096x1024 .f32 := fun i =>
  HN x2 gf i - tg i
/-- A row's mean squared distance. -/
def MS (e : FVec Ideal S4096x1024 .f32) (r : Fin 4096) : EReal :=
  Ideal.div (∑ k : Fin 1024, e (ix2 r k) * e (ix2 r k)) (Ideal.ofBits .f32 0x44800000#32)
/-- The loss, added up by blocks of 512 rows. -/
def LS (e : FVec Ideal S4096x1024 .f32) : EReal :=
  ∑ t : Fin 8, Ideal.ofBits .f32 0x3F000000#32 * ∑ x : Fin 512, MS e ⟨t.val * 512 + x.val, by omega⟩
/-- The gradient reaching the final norm's output. -/
def DY (e : FVec Ideal S4096x1024 .f32) : FVec Ideal S4096x1024 .f32 := fun i => e i * Ideal.ofBits .f32 0x3A800000#32
/-- The gradient through the final norm, as the kernel computes it. -/
def DN (x : FVec Ideal S4096x1024 .f32) (g : FVec Ideal S1x1024 .f32) (dy : FVec Ideal S4096x1024 .f32) : FVec Ideal S4096x1024 .f32 := fun i =>
  RS x (i 0) * (dy i * g (ix2 0 (i 1)) - x i * RS x (i 0)
    * Ideal.div (∑ k : Fin 1024, dy (ix2 (i 0) k) * g (ix2 0 k) * (x (ix2 (i 0) k) * RS x (i 0))) (Ideal.ofBits .f32 0x44800000#32))
/-- An array with its axes exchanged. -/
def TR (x : FVec Ideal S4096x1024 .f32) : FVec Ideal S1024x4096 .f32 := fun i => x (ix2 (i 1) (i 0))

variable (m : (ℓ : Loc nD τ sig) → Buf (Elt Ideal) ℓ) (c : Dev nD)

/-- The arguments and the closed forms, at the launch's memory. -/
abbrev X : FVec Ideal S4096x1024 .f32 := m ((c : Thread nD τ).loc main_arg0)
abbrev G : FVec Ideal S1x1024 .f32 := m ((c : Thread nD τ).loc main_arg1)
abbrev WG : FVec Ideal S1024x2816 .f32 := m ((c : Thread nD τ).loc main_arg2)
abbrev WU : FVec Ideal S1024x2816 .f32 := m ((c : Thread nD τ).loc main_arg3)
abbrev WD : FVec Ideal S2816x1024 .f32 := m ((c : Thread nD τ).loc main_arg4)
abbrev TG : FVec Ideal S4096x1024 .f32 := m ((c : Thread nD τ).loc main_arg5)
abbrev GF : FVec Ideal S1x1024 .f32 := m ((c : Thread nD τ).loc main_arg6)
abbrev HNm : FVec Ideal S4096x1024 .f32 := HN (X m c) (G m c)
abbrev GPm : FVec Ideal S4096x2816 .f32 := PR (HNm m c) (WG m c)
abbrev UPm : FVec Ideal S4096x2816 .f32 := PR (HNm m c) (WU m c)
abbrev ACTm : FVec Ideal S4096x2816 .f32 := ACT (GPm m c) (UPm m c)
abbrev X2m : FVec Ideal S4096x1024 .f32 := X2 (X m c) (ACTm m c) (WD m c)
abbrev ERm : FVec Ideal S4096x1024 .f32 := ER (X2m m c) (GF m c) (TG m c)
abbrev DYm : FVec Ideal S4096x1024 .f32 := DY (ERm m c)
abbrev DNm : FVec Ideal S4096x1024 .f32 := DN (X2m m c) (GF m c) (DYm m c)

/-- Every window's block index, at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![0, 0]
    ∧ win0_7.index t = ![0, t.val] ∧ win0_8.index t = ![t.val, 0] ∧ win0_9.index t = ![t.val, 0] ∧ win0_10.index t = ![t.val, 0]
    ∧ win0_11.index t = ![0, 0] ∧ win0_12.index t = ![0, 0] ∧ win0_13.index t = ![t.val, 0] ∧ win0_14.index t = ![0, t.val] :=
  (by decide +kernel : ∀ t : Fin grid0.N, _)

/-- The rows of point `t`'s block. -/
theorem row_lt (t : Fin cfg0.N) (x : Fin 512) : t.val * 512 + x.val < 4096 := by
  have := lt_of_lt_of_eq t.isLt N_0
  omega
abbrev row (t : Fin cfg0.N) (x : Fin 512) : Fin 4096 := ⟨t.val * 512 + x.val, row_lt t x⟩

/-- What the host lines before the region leave in the weights' arrays. -/
theorem V_wg (i : Fin 2816) (j : Fin 1024) : (V m c main_v1 : FVec Ideal S2816x1024 .bf16) (ix2 i j) = WG m c (ix2 j i) := by
  unfold_abbrev_sides
  after_results
  pointwise
theorem V_wu (i : Fin 2816) (j : Fin 1024) : (V m c main_v3 : FVec Ideal S2816x1024 .bf16) (ix2 i j) = WU m c (ix2 j i) := by
  unfold_abbrev_sides
  after_results
  pointwise
theorem V_wd (i : Fin 2816) (j : Fin 1024) : (V m c main_v4 : FVec Ideal S2816x1024 .bf16) (ix2 i j) = WD m c (ix2 i j) := by
  unfold_abbrev_sides
  after_results
  pointwise

/-- The staged blocks, entry by entry. -/
theorem blk0 (t : Fin cfg0.N) (r : Fin 512) (k : Fin 1024) : (iblk m c 0 t : FVec Ideal S512x1024 .f32) (ix2 r k) = X m c (ix2 (row t r) k) := by
  show ((cfg0.win 0).blk t).view.read (Elt Ideal) (V m c main_arg0) (ix2 r k) = _
  rw [V_main_arg0]
  blk_ext [idx t]
theorem blk1 (t : Fin cfg0.N) (r : Fin 1) (k : Fin 1024) : (iblk m c 1 t : FVec Ideal S1x1024 .f32) (ix2 r k) = G m c (ix2 r k) := by
  show ((cfg0.win 1).blk t).view.read (Elt Ideal) (V m c main_arg1) (ix2 r k) = _
  rw [V_main_arg1]
  blk_ext [idx t]
theorem blk2 (t : Fin cfg0.N) (r : Fin 2816) (k : Fin 1024) : (iblk m c 2 t : FVec Ideal S2816x1024 .bf16) (ix2 r k) = WG m c (ix2 k r) := by
  rw [← V_wg]
  show ((cfg0.win 2).blk t).view.read (Elt Ideal) (V m c main_v1) (ix2 r k) = _
  generalize V m c main_v1 = w
  blk_ext [idx t]
theorem blk3 (t : Fin cfg0.N) (r : Fin 2816) (k : Fin 1024) : (iblk m c 3 t : FVec Ideal S2816x1024 .bf16) (ix2 r k) = WU m c (ix2 k r) := by
  rw [← V_wu]
  show ((cfg0.win 3).blk t).view.read (Elt Ideal) (V m c main_v3) (ix2 r k) = _
  generalize V m c main_v3 = w
  blk_ext [idx t]
theorem blk4 (t : Fin cfg0.N) (r : Fin 2816) (k : Fin 1024) : (iblk m c 4 t : FVec Ideal S2816x1024 .bf16) (ix2 r k) = WD m c (ix2 r k) := by
  rw [← V_wd]
  show ((cfg0.win 4).blk t).view.read (Elt Ideal) (V m c main_v4) (ix2 r k) = _
  generalize V m c main_v4 = w
  blk_ext [idx t]
theorem blk5 (t : Fin cfg0.N) (r : Fin 512) (k : Fin 1024) : (iblk m c 5 t : FVec Ideal S512x1024 .f32) (ix2 r k) = TG m c (ix2 (row t r) k) := by
  show ((cfg0.win 5).blk t).view.read (Elt Ideal) (V m c main_arg5) (ix2 r k) = _
  rw [V_main_arg5]
  blk_ext [idx t]
theorem blk6 (t : Fin cfg0.N) (r : Fin 1) (k : Fin 1024) : (iblk m c 6 t : FVec Ideal S1x1024 .f32) (ix2 r k) = GF m c (ix2 r k) := by
  show ((cfg0.win 6).blk t).view.read (Elt Ideal) (V m c main_arg6) (ix2 r k) = _
  rw [V_main_arg6]
  blk_ext [idx t]

end Cert.Kernel4Ideal.Loss

end
-- ==== Proof.LossValue.lean ====
/- The values of the feed-forward block's forward kernel with the loss: after the run its eight result arrays are the
   closed forms of the arguments. -/
module

public import proofs.«01_k».proof.Proof.LossForms

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Loss

open Cert.Kernel4Ideal Cert.Kernel4Ideal.Gen
open Cert.Sig (SG)
open Cert.KernelIdeal.InValue (RS DGN GT)

variable (m : (ℓ : Loc nD τ sig) → Buf (Elt Ideal) ℓ) (c : Dev nD)

/-- The payloads on the staged blocks: the scaled norm, the two products, the gated product, the output, its norm's
    factor, the normalised output, the distance from the target. -/
abbrev B11 (t : Fin cfg0.N) : FVec Ideal S512x2816 .f32 := k0_pay11 (iblk m c 0 t) (iblk m c 1 t) (iblk m c 2 t)
abbrev B12 (t : Fin cfg0.N) : FVec Ideal S512x2816 .f32 := k0_pay12 (iblk m c 0 t) (iblk m c 1 t) (iblk m c 3 t)
abbrev B15 (t : Fin cfg0.N) : FVec Ideal S512x2816 .f32 := k0_pay15 (iblk m c 0 t) (iblk m c 1 t) (iblk m c 2 t)
abbrev B18 (t : Fin cfg0.N) : FVec Ideal S512x1 .f32 := k0_pay18 (iblk m c 0 t) (B11 m c t) (B12 m c t) (B15 m c t) (iblk m c 4 t)
abbrev B19 (t : Fin cfg0.N) : FVec Ideal S512x1024 .f32 := k0_pay19 (iblk m c 0 t) (B11 m c t) (B12 m c t) (B15 m c t) (iblk m c 4 t)
abbrev B20 (t : Fin cfg0.N) : FVec Ideal S512x1024 .f32 :=
  k0_pay20 (iblk m c 0 t) (B11 m c t) (B12 m c t) (B15 m c t) (iblk m c 4 t) (iblk m c 6 t) (iblk m c 5 t)

theorem hn_at (t : Fin cfg0.N) (r : Fin 512) (k : Fin 1024) :
    k0_pay8 (F := Ideal) (iblk m c 0 t) (iblk m c 1 t) (ix2 r k) = HNm m c (ix2 (row t r) k) := by
  pointwise [k0_pay8, HN, RS]
  simp only [blk0 m c t, blk1 m c t]
theorem gp_at (t : Fin cfg0.N) (r : Fin 512) (k : Fin 2816) : B11 m c t (ix2 r k) = GPm m c (ix2 (row t r) k) := by
  pointwise [k0_pay11, k0_pay9, PR, hn_at m c t]
  simp only [blk2 m c t]
theorem up_at (t : Fin cfg0.N) (r : Fin 512) (k : Fin 2816) : B12 m c t (ix2 r k) = UPm m c (ix2 (row t r) k) := by
  pointwise [k0_pay12, k0_pay9, PR, hn_at m c t]
  simp only [blk3 m c t]
theorem act_at (t : Fin cfg0.N) (r : Fin 512) (k : Fin 2816) :
    k0_pay16 (B11 m c t) (B12 m c t) (B15 m c t) (ix2 r k) = ACTm m c (ix2 (row t r) k) := by
  pointwise [k0_pay16, k0_pay15, ACT, SG]
  simp only [gp_at m c t, up_at m c t]
theorem x2_at (t : Fin cfg0.N) (r : Fin 512) (k : Fin 1024) :
    k0_pay17 (iblk m c 0 t) (B11 m c t) (B12 m c t) (B15 m c t) (iblk m c 4 t) (ix2 r k) = X2m m c (ix2 (row t r) k) := by
  pointwise [k0_pay17, X2]
  simp only [act_at m c t, blk0 m c t, blk4 m c t]
theorem rs_at (t : Fin cfg0.N) (r : Fin 512) (k : Fin 1) : B18 m c t (ix2 r k) = RS (X2m m c) (row t r) := by
  pointwise [k0_pay18, RS]
  simp only [x2_at m c t]
theorem xh_at (t : Fin cfg0.N) (r : Fin 512) (k : Fin 1024) : B19 m c t (ix2 r k) = X2m m c (ix2 (row t r) k) * RS (X2m m c) (row t r) := by
  pointwise [k0_pay19]
  simp only [x2_at m c t, rs_at m c t]
theorem er_at (t : Fin cfg0.N) (r : Fin 512) (k : Fin 1024) : B20 m c t (ix2 r k) = ERm m c (ix2 (row t r) k) := by
  pointwise [k0_pay20, ER, HN]
  simp only [xh_at m c t, blk5 m c t, blk6 m c t]
theorem dy_at (t : Fin cfg0.N) (r : Fin 512) (k : Fin 1024) : k0_pay2 (B20 m c t) (ix2 r k) = DYm m c (ix2 (row t r) k) := by
  pointwise [k0_pay2, DY]
  simp only [er_at m c t]
theorem dn_at (t : Fin cfg0.N) (r : Fin 512) (k : Fin 1024) :
    k0_pay4 (iblk m c 6 t) (B18 m c t) (B19 m c t) (B20 m c t) (ix2 r k) = DNm m c (ix2 (row t r) k) := by
  pointwise [k0_pay4, DN]
  simp only [dy_at m c t, xh_at m c t, rs_at m c t, blk6 m c t]
theorem ls_at (t : Fin cfg0.N) (i j : Fin 1) :
    k0_pay22 (iblk m c 0 t) (B11 m c t) (B12 m c t) (B15 m c t) (iblk m c 4 t) (iblk m c 6 t) (iblk m c 5 t) (ix2 i j)
      = Ideal.ofBits .f32 0x3F000000#32 * ∑ x : Fin 512, MS (ERm m c) (row t x) := by
  pointwise [k0_pay22, MS]
  simp only [er_at m c t]

/-- What a grid point leaves in the results' blocks. -/
theorem point7 (t : Fin cfg0.N) (y : S1024x512.Idx) : (outsAt0 m c t.val t.isLt).1 y = TR (HNm m c) (((cfg0.win 7).blk t).view.emb y) := by
  idx_vars y
  have key : k0_pay10 (F := Ideal) (iblk m c 0 t) (iblk m c 1 t) (ix2 y0 y1) = HNm m c (ix2 (row t y1) y0) := by
    pointwise [k0_pay10, hn_at m c t]
  by_cases h : t.val % 8 = 0
  · rw [outsAt0_A m c t h]; frame_out
    refine key.trans (congrArg _ ?_)
    blk_ext [idx t]
  · rw [outsAt0_B m c t h]; frame_out
    refine key.trans (congrArg _ ?_)
    blk_ext [idx t]
theorem point8 (t : Fin cfg0.N) (y : S512x2816.Idx) : (outsAt0 m c t.val t.isLt).2.1 y = GPm m c (((cfg0.win 8).blk t).view.emb y) := by
  idx_vars y
  by_cases h : t.val % 8 = 0
  · rw [outsAt0_A m c t h]; frame_out
    refine (gp_at m c t y0 y1).trans (congrArg _ ?_)
    blk_ext [idx t]
  · rw [outsAt0_B m c t h]; frame_out
    refine (gp_at m c t y0 y1).trans (congrArg _ ?_)
    blk_ext [idx t]
theorem point9 (t : Fin cfg0.N) (y : S512x2816.Idx) : (outsAt0 m c t.val t.isLt).2.2.1 y = UPm m c (((cfg0.win 9).blk t).view.emb y) := by
  idx_vars y
  by_cases h : t.val % 8 = 0
  · rw [outsAt0_A m c t h]; frame_out
    refine (up_at m c t y0 y1).trans (congrArg _ ?_)
    blk_ext [idx t]
  · rw [outsAt0_B m c t h]; frame_out
    refine (up_at m c t y0 y1).trans (congrArg _ ?_)
    blk_ext [idx t]
theorem point10 (t : Fin cfg0.N) (y : S512x2816.Idx) : (outsAt0 m c t.val t.isLt).2.2.2.1 y = ACTm m c (((cfg0.win 10).blk t).view.emb y) := by
  idx_vars y
  by_cases h : t.val % 8 = 0
  · rw [outsAt0_A m c t h]; frame_out
    refine (act_at m c t y0 y1).trans (congrArg _ ?_)
    blk_ext [idx t]
  · rw [outsAt0_B m c t h]; frame_out
    refine (act_at m c t y0 y1).trans (congrArg _ ?_)
    blk_ext [idx t]
theorem point13 (t : Fin cfg0.N) (y : S512x1024.Idx) :
    (outsAt0 m c t.val t.isLt).2.2.2.2.2.2.1 y = DNm m c (((cfg0.win 13).blk t).view.emb y) := by
  idx_vars y
  by_cases h : t.val % 8 = 0
  · rw [outsAt0_A m c t h]; frame_out
    refine (dn_at m c t y0 y1).trans (congrArg _ ?_)
    blk_ext [idx t]
  · rw [outsAt0_B m c t h]; frame_out
    refine (dn_at m c t y0 y1).trans (congrArg _ ?_)
    blk_ext [idx t]
theorem point14 (t : Fin cfg0.N) (y : S1024x512.Idx) :
    (outsAt0 m c t.val t.isLt).2.2.2.2.2.2.2 y = TR (DNm m c) (((cfg0.win 14).blk t).view.emb y) := by
  idx_vars y
  have key : k0_pay5 (F := Ideal) (iblk m c 6 t) (B18 m c t) (B19 m c t) (B20 m c t) (ix2 y0 y1) = DNm m c (ix2 (row t y1) y0) := by
    pointwise [k0_pay5, dn_at m c t]
  by_cases h : t.val % 8 = 0
  · rw [outsAt0_A m c t h]; frame_out
    refine key.trans (congrArg _ ?_)
    blk_ext [idx t]
  · rw [outsAt0_B m c t h]; frame_out
    refine key.trans (congrArg _ ?_)
    blk_ext [idx t]

/-- What a point adds to the loss and to the final scale's gradient. -/
theorem part11_A (t : Fin cfg0.N) (h : t.val % 8 = 0) (j : S1x128.Idx) : (outsAt0 m c t.val t.isLt).2.2.2.2.1 j
    = 0 + Ideal.ofBits .f32 0x3F000000#32 * ∑ x : Fin 512, MS (ERm m c) (row t x) := by
  idx_vars j
  rw [outsAt0_A m c t h]; frame_out
  pointwise [k0_pay1, k0_pay6, k0_pay21, ls_at m c t]
theorem part11_B (t : Fin cfg0.N) (h : ¬t.val % 8 = 0) (j : S1x128.Idx) : (outsAt0 m c t.val t.isLt).2.2.2.2.1 j
    = (outsAt0 m c (t.val - 1) (Nat.lt_of_le_of_lt (Nat.sub_le _ _) t.isLt)).2.2.2.2.1 j
      + Ideal.ofBits .f32 0x3F000000#32 * ∑ x : Fin 512, MS (ERm m c) (row t x) := by
  idx_vars j
  rw [outsAt0_B m c t h]; frame_out
  pointwise [k0_pay1, k0_pay21, ls_at m c t]
theorem part12_A (t : Fin cfg0.N) (h : t.val % 8 = 0) (j : S1x1024.Idx) : (outsAt0 m c t.val t.isLt).2.2.2.2.2.1 j
    = 0 + ∑ x : Fin 512, GT (X2m m c) (DYm m c) (row t x) (j 1) := by
  idx_vars j
  rw [outsAt0_A m c t h]; frame_out
  pointwise [k0_pay3, k0_pay7, dy_at m c t, xh_at m c t, GT]
theorem part12_B (t : Fin cfg0.N) (h : ¬t.val % 8 = 0) (j : S1x1024.Idx) : (outsAt0 m c t.val t.isLt).2.2.2.2.2.1 j
    = (outsAt0 m c (t.val - 1) (Nat.lt_of_le_of_lt (Nat.sub_le _ _) t.isLt)).2.2.2.2.2.1 j
      + ∑ x : Fin 512, GT (X2m m c) (DYm m c) (row t x) (j 1) := by
  idx_vars j
  rw [outsAt0_B m c t h]; frame_out
  pointwise [k0_pay3, dy_at m c t, xh_at m c t, GT]

/-- The result arrays after the run. -/
theorem final7 : (dats m 0 c).arrAt 7 (cfgs 0).N = TR (HNm m c) := by
  refine (dats m 0 c).arrAt_eq_of_covers 7 _ (by decide +kernel) fun t _ y => ?_
  blk_simp
  rw [after0_7]
  exact point7 m c t y
theorem final8 : (dats m 0 c).arrAt 8 (cfgs 0).N = GPm m c := by
  refine (dats m 0 c).arrAt_eq_of_covers 8 _ (by decide +kernel) fun t _ y => ?_
  blk_simp
  rw [after0_8]
  exact point8 m c t y
theorem final9 : (dats m 0 c).arrAt 9 (cfgs 0).N = UPm m c := by
  refine (dats m 0 c).arrAt_eq_of_covers 9 _ (by decide +kernel) fun t _ y => ?_
  blk_simp
  rw [after0_9]
  exact point9 m c t y
theorem final10 : (dats m 0 c).arrAt 10 (cfgs 0).N = ACTm m c := by
  refine (dats m 0 c).arrAt_eq_of_covers 10 _ (by decide +kernel) fun t _ y => ?_
  blk_simp
  rw [after0_10]
  exact point10 m c t y
theorem final13 : (dats m 0 c).arrAt 13 (cfgs 0).N = DNm m c := by
  refine (dats m 0 c).arrAt_eq_of_covers 13 _ (by decide +kernel) fun t _ y => ?_
  blk_simp
  rw [after0_13]
  exact point13 m c t y
theorem final14 : (dats m 0 c).arrAt 14 (cfgs 0).N = TR (DNm m c) := by
  refine (dats m 0 c).arrAt_eq_of_covers 14 _ (by decide +kernel) fun t _ y => ?_
  blk_simp
  rw [after0_14]
  exact point14 m c t y
theorem final11 : (dats m 0 c).arrAt 11 (cfgs 0).N = fun _ => LS (ERm m c) := by
  refine (dats m 0 c).arrAt_eq_of_after_last 11 t0_7 (by decide +kernel) _ fun j => ?_
  blk_simp
  rw [after0_11, Pipeline.eq_sum_fin_of_reset_step_apply_last (fun n h => (outsAt0 m c n h).2.2.2.2.1) 8 (fun _ => 0) _
    (fun t h j => part11_A m c t h j) (fun t h j => part11_B m c t h j)
    (le_of_eq N_0) t0_7 rfl j, zero_add]
  rfl
theorem final12 : (dats m 0 c).arrAt 12 (cfgs 0).N = DGN (X2m m c) (DYm m c) := by
  refine (dats m 0 c).arrAt_eq_of_after_last 12 t0_7 (by decide +kernel) _ fun j => ?_
  blk_simp
  rw [after0_12, Pipeline.eq_sum_fin_of_reset_step_apply_last (fun n h => (outsAt0 m c n h).2.2.2.2.2.1) 8 (fun _ => 0) _
    (fun t h j => part12_A m c t h j) (fun t h j => part12_B m c t h j)
    (le_of_eq N_0) t0_7 rfl j, zero_add]
  exact Fin.sum_mul_add_congr fun s k hl => rfl

end Cert.Kernel4Ideal.Loss

end
-- ==== Proof.LossReference.lean ====
/- The feed-forward block's forward pass with the loss and the loss's gradient through the final norm, as the reference
   computes them, the gradient by the derivative of the forward lines: its eight results are the closed forms the
   kernel's results have. -/
module

public import proofs.«01_k».proof.Proof.LossForms
public import proofs.«01_k».proof.Proof.Finite
public import proofs.«01_k».proof.Proof.Gen.Reference4Ideal.Read

@[expose] public section

set_option maxRecDepth 16384

noncomputable section

open Idealize.ShloMosaic Idealize.ShloMosaic.TcCoe Idealize.SL.Sem
open scoped BigOperators

namespace Cert.Reference4Ideal.LossReference

open Cert.Reference4Ideal Cert.Reference4Ideal.Read
open Cert.KernelIdeal.InValue (DGN GT RS)
open Cert.Kernel4Ideal.Loss (HN PR ACT X2 ER MS LS DY DN TR)
open Cert.Finite (IsReal)
open Cert.Sig (SG LG)

/-- Two, and one over the width of the model. -/
theorem ofBits_two : Ideal.ofBits .f32 0x40000000#32 = ((2 : ℝ) : EReal) := by
  simp [Ideal.ofBits, Ideal.ieee, -EReal.coe_mul]; norm_num
theorem ofBits_inv_1024 : Ideal.ofBits .f32 0x3A800000#32 = ((1 / 1024 : ℝ) : EReal) := by
  simp [Ideal.ofBits, Ideal.ieee]; rw [← EReal.coe_mul]; norm_num

variable (a0 : FVec Ideal S4096x1024 .f32) (a1 : FVec Ideal S1x1024 .f32) (a2 a3 : FVec Ideal S1024x2816 .f32)
  (a4 : FVec Ideal S2816x1024 .f32) (a5 : FVec Ideal S4096x1024 .f32) (a6 : FVec Ideal S1x1024 .f32)

/-- The closed forms at the reference's arguments. -/
abbrev HNr : FVec Ideal S4096x1024 .f32 := HN a0 a1
abbrev GPr : FVec Ideal S4096x2816 .f32 := PR (HNr a0 a1) a2
abbrev ACTr : FVec Ideal S4096x2816 .f32 := ACT (GPr a0 a1 a2) (GPr a0 a1 a3)
abbrev X2r : FVec Ideal S4096x1024 .f32 := X2 a0 (ACTr a0 a1 a2 a3) a4
abbrev ERr : FVec Ideal S4096x1024 .f32 := ER (X2r a0 a1 a2 a3 a4) a6 a5

/-- The norm and the two products, which need no precondition. -/
theorem rs_at (i : Fin 4096) (k : Fin 1) : val_main_v8 (F := Ideal) a0 (ix2 i k) = RS a0 i := by
  pointwise [val_main_v8, val_main_v7, val_main_v6, val_main_v5, val_main_v4, val_main_v3, val_main_v2, val_main_v1, val_main_cst, val_main_cst_0,
    val_main_cst_1, RS]
theorem hn_at (i : Fin 4096) (j : Fin 1024) : val_main_v13 (F := Ideal) a0 a1 (ix2 i j) = HNr a0 a1 (ix2 i j) := by
  pointwise [val_main_v13, val_main_v12, val_main_v11, val_main_v10, val_main_v9, val_main_v0, rs_at, HN]
theorem gp_at (i : Fin 4096) (j : Fin 2816) : val_main_v14 (F := Ideal) a0 a1 a2 (ix2 i j) = GPr a0 a1 a2 (ix2 i j) := by
  pointwise [val_main_v14, hn_at, PR]
theorem up_at (i : Fin 4096) (j : Fin 2816) : val_main_v15 (F := Ideal) a0 a1 a3 (ix2 i j) = GPr a0 a1 a3 (ix2 i j) := by
  pointwise [val_main_v15, hn_at, PR]
/-- The logistic function of the gate. -/
theorem lg_at (i : Fin 4096) (j : Fin 2816) : val_main_call0_v5 (F := Ideal) a0 a1 a2 (ix2 i j) = LG (GPr a0 a1 a2 (ix2 i j)) := by
  pointwise [val_main_call0_v5, val_main_call0_v4, val_main_call0_cst_0, val_main_call0_v3, val_main_call0_v2, val_main_call0_cst, val_main_call0_v1,
    val_main_call0_v0, gp_at, LG]

/-- The arguments being reals, so is every value on the way. -/
theorem rs_real (h0 : ∀ i, IsReal (a0 i)) (i : Fin 4096) : IsReal (RS a0 i) := by
  choose A0 h0 using h0
  obtain ⟨e, he, hE⟩ := Finite.ofBits_eps
  have hN : (1024 : ℝ) ≠ 0 := by norm_num
  have hs : 0 ≤ ∑ k : Fin 1024, A0 (ix2 i k) * A0 (ix2 i k) := Finset.sum_nonneg fun k _ => mul_self_nonneg _
  refine ⟨(Real.sqrt ((∑ k : Fin 1024, A0 (ix2 i k) * A0 (ix2 i k)) / 1024 + e))⁻¹, ?_⟩
  rw [← Finite.rsqrt_coe _ (by positivity)]
  simp only [RS, h0, hE, Finite.ofBits_1024, ← EReal.coe_mul, ← Finite.coe_sum, Finite.div_coe _ _ hN, ← EReal.coe_add]
theorem hn_real (h0 : ∀ i, IsReal (a0 i)) (h1 : ∀ i, IsReal (a1 i)) (i : S4096x1024.Idx) : IsReal (HN a0 a1 i) :=
  ((h0 _).mul (rs_real a0 h0 _)).mul (h1 _)
theorem gp_real (h0 : ∀ i, IsReal (a0 i)) (h1 : ∀ i, IsReal (a1 i)) (h2 : ∀ i, IsReal (a2 i)) (i : S4096x2816.Idx) : IsReal (GPr a0 a1 a2 i) :=
  IsReal.sum fun k => (hn_real a0 a1 h0 h1 _).mul (h2 _)
theorem act_real (h0 : ∀ i, IsReal (a0 i)) (h1 : ∀ i, IsReal (a1 i)) (h2 : ∀ i, IsReal (a2 i)) (h3 : ∀ i, IsReal (a3 i)) (i : S4096x2816.Idx) :
    IsReal (ACTr a0 a1 a2 a3 i) := by
  have hg := gp_real a0 a1 a2 h0 h1 h2 i
  have hs : IsReal (SG (GPr a0 a1 a2 i)) := by
    obtain ⟨x, e⟩ := hg
    rw [e, Sig.SG_coe]; exact IsReal.coe _
  exact (hg.mul hs).mul (gp_real a0 a1 a3 h0 h1 h3 i)
theorem x2_real (h0 : ∀ i, IsReal (a0 i)) (h1 : ∀ i, IsReal (a1 i)) (h2 : ∀ i, IsReal (a2 i)) (h3 : ∀ i, IsReal (a3 i)) (h4 : ∀ i, IsReal (a4 i))
    (i : S4096x1024.Idx) : IsReal (X2r a0 a1 a2 a3 a4 i) :=
  (h0 _).add (IsReal.sum fun k => (act_real a0 a1 a2 a3 h0 h1 h2 h3 _).mul (h4 _))

variable (h0 : ∀ i, IsReal (a0 i)) (h1 : ∀ i, IsReal (a1 i)) (h2 : ∀ i, IsReal (a2 i)) (h3 : ∀ i, IsReal (a3 i)) (h4 : ∀ i, IsReal (a4 i))
  (h5 : ∀ i, IsReal (a5 i)) (h6 : ∀ i, IsReal (a6 i))

include h0 h1 h2 in
/-- The gated product and the block's output. -/
theorem act_at (i : Fin 4096) (j : Fin 2816) : val_main_v17 (F := Ideal) a0 a1 a2 a3 (ix2 i j) = ACTr a0 a1 a2 a3 (ix2 i j) := by
  pointwise [val_main_v17, val_main_v16, lg_at, gp_at, up_at, ACT]
  obtain ⟨x, hx⟩ := gp_real a0 a1 a2 h0 h1 h2 (ix2 i j)
  rw [hx, Sig.LG_coe, Sig.SG_coe]
include h0 h1 h2 in
theorem x2_at (i : Fin 4096) (j : Fin 1024) : val_main_v19 (F := Ideal) a0 a1 a2 a3 a4 (ix2 i j) = X2r a0 a1 a2 a3 a4 (ix2 i j) := by
  pointwise [val_main_v19, val_main_v18, act_at a0 a1 a2 a3 h0 h1 h2, X2]
include h0 h1 h2 in
/-- The mean square, and its reciprocal root. -/
theorem ms_at (i : Fin 4096) (k : Fin 1) : val_main_v27 (F := Ideal) a0 a1 a2 a3 a4 (ix2 i k)
    = Ideal.div (∑ k : Fin 1024, X2r a0 a1 a2 a3 a4 (ix2 i k) * X2r a0 a1 a2 a3 a4 (ix2 i k)) (Ideal.ofBits .f32 0x44800000#32)
      + Ideal.ofBits .f32 0x358637BD#32 := by
  pointwise [val_main_v27, val_main_v26, val_main_v25, val_main_v24, val_main_v23, val_main_v22, val_main_v21, val_main_cst_2, val_main_cst_3,
    val_main_cst_4, x2_at a0 a1 a2 a3 a4 h0 h1 h2]
include h0 h1 h2 in
theorem r2_at (i : Fin 4096) (k : Fin 1) : val_main_v28 (F := Ideal) a0 a1 a2 a3 a4 (ix2 i k) = RS (X2r a0 a1 a2 a3 a4) i := by
  pointwise [val_main_v28, ms_at a0 a1 a2 a3 a4 h0 h1 h2, RS]
include h0 h1 h2 in
theorem xh_at (i : Fin 4096) (j : Fin 1024) : val_main_v33 (F := Ideal) a0 a1 a2 a3 a4 (ix2 i j)
    = X2r a0 a1 a2 a3 a4 (ix2 i j) * RS (X2r a0 a1 a2 a3 a4) i := by
  pointwise [val_main_v33, val_main_v32, x2_at a0 a1 a2 a3 a4 h0 h1 h2, r2_at a0 a1 a2 a3 a4 h0 h1 h2]
include h0 h1 h2 in
/-- The distance from the target, and the gradient that reaches the final norm. -/
theorem er_at (i : Fin 4096) (j : Fin 1024) : val_main_v37 (F := Ideal) a0 a1 a2 a3 a4 a5 a6 (ix2 i j) = ERr a0 a1 a2 a3 a4 a5 a6 (ix2 i j) := by
  pointwise [val_main_v37, val_main_v36, val_main_v35, val_main_v34, val_main_v20, xh_at a0 a1 a2 a3 a4 h0 h1 h2, ER, HN]
include h0 h1 h2 in
theorem dy_at (i : Fin 4096) (j : Fin 1024) : val_main_v51 (F := Ideal) a0 a1 a2 a3 a4 a5 a6 (ix2 i j) = DY (ERr a0 a1 a2 a3 a4 a5 a6) (ix2 i j) := by
  pointwise [val_main_v51, val_main_v50, val_main_v49, val_main_v48, val_main_v47, val_main_v46, val_main_v40, val_main_v39, val_main_cst_6,
    val_main_cst_11, val_main_cst_12, val_main_cst_13, er_at a0 a1 a2 a3 a4 a5 a6 h0 h1 h2, DY]
  rw [Sig.ofBits_half, Finite.ofBits_1024, ofBits_two, ofBits_inv_1024,
    Finite.div_coe _ _ (by norm_num), ← mul_assoc, ← EReal.coe_mul, mul_comm]
  norm_num

include h0 h1 h2 h3 h4 h5 h6 in
theorem er_real (i : S4096x1024.Idx) : IsReal (ERr a0 a1 a2 a3 a4 a5 a6 i) :=
  (hn_real (X2r a0 a1 a2 a3 a4) a6 (x2_real a0 a1 a2 a3 a4 h0 h1 h2 h3 h4) h6 i).sub (h5 i)

include h0 h1 h2 h3 h4 h5 h6 in
/-- The loss: one half of the rows' mean squared distances, added by blocks or all at once. -/
theorem loss_at (i : Fin 1) (j : Fin 128) : val_main_v78 (F := Ideal) a0 a1 a2 a3 a4 a5 a6 (ix2 i j) = LS (ERr a0 a1 a2 a3 a4 a5 a6) := by
  pointwise [val_main_v78, val_main_v45, val_main_v44, val_main_v43, val_main_v42, val_main_v41, val_main_v38, val_main_cst_7, val_main_cst_8,
    val_main_cst_9, val_main_cst_10, er_at a0 a1 a2 a3 a4 a5 a6 h0 h1 h2, LS]
  have hm : ∀ r, IsReal (MS (ERr a0 a1 a2 a3 a4 a5 a6) r) := fun r => by
    obtain ⟨s, hs⟩ : IsReal (∑ k : Fin 1024, ERr a0 a1 a2 a3 a4 a5 a6 (ix2 r k) * ERr a0 a1 a2 a3 a4 a5 a6 (ix2 r k)) :=
      IsReal.sum fun k => (er_real a0 a1 a2 a3 a4 a5 a6 h0 h1 h2 h3 h4 h5 h6 _).mul (er_real a0 a1 a2 a3 a4 a5 a6 h0 h1 h2 h3 h4 h5 h6 _)
    exact ⟨s / 1024, by rw [MS, hs, Finite.ofBits_1024, Finite.div_coe _ _ (by norm_num)]⟩
  choose M hM using hm
  have e : ∑ r : Fin 4096, MS (ERr a0 a1 a2 a3 a4 a5 a6) r
      = ∑ t : Fin 8, ∑ x : Fin 512, MS (ERr a0 a1 a2 a3 a4 a5 a6) ⟨t.val * 512 + x.val, by omega⟩ :=
    (Fin.sum_mul_add_congr fun s k hl => rfl).symm
  refine (congrArg (Ideal.ofBits .f32 0x3F000000#32 * ·) e).trans ?_
  simp only [hM, Sig.ofBits_half, ← Finite.coe_sum, ← EReal.coe_mul, Finset.mul_sum]

include h0 h1 h2 in
/-- The final scale's gradient. -/
theorem dgf : val_main_v72 (F := Ideal) a0 a1 a2 a3 a4 a5 a6 = DGN (X2r a0 a1 a2 a3 a4) (DY (ERr a0 a1 a2 a3 a4 a5 a6)) := by
  funext i
  idx_vars i
  pointwise [val_main_v72, val_main_v57, val_main_v54, val_main_v53, val_main_v52, val_main_cst_14, val_main_cst_15,
    xh_at a0 a1 a2 a3 a4 h0 h1 h2, dy_at a0 a1 a2 a3 a4 a5 a6 h0 h1 h2, DGN, GT]
  rw [Fin.sum_univ_one]
  exact Finset.sum_congr rfl fun r _ => mul_comm _ _

include h0 h1 h2 h3 h4 h5 h6 in
/-- The gradient through the final norm. -/
theorem dx_at (i : Fin 4096) (j : Fin 1024) : val_main_v71 (F := Ideal) a0 a1 a2 a3 a4 a5 a6 (ix2 i j)
    = DN (X2r a0 a1 a2 a3 a4) a6 (DY (ERr a0 a1 a2 a3 a4 a5 a6)) (ix2 i j) := by
  have hx := x2_real a0 a1 a2 a3 a4 h0 h1 h2 h3 h4
  have hd : ∀ i, IsReal (DY (ERr a0 a1 a2 a3 a4 a5 a6) i) := fun i =>
    (er_real a0 a1 a2 a3 a4 a5 a6 h0 h1 h2 h3 h4 h5 h6 i).mul (by rw [ofBits_inv_1024]; exact IsReal.coe _)
  pointwise [val_main_v71, val_main_v70, val_main_v69, val_main_v68, val_main_v67, val_main_v66, val_main_v65, val_main_v64, val_main_v63,
    val_main_v62, val_main_v61, val_main_v60, val_main_v59, val_main_v58, val_main_v56, val_main_v55, val_main_v34, val_main_v20,
    val_main_v31, val_main_v30, val_main_v29, val_main_cst_5, val_main_cst_16, val_main_cst_17, val_main_cst_18,
    x2_at a0 a1 a2 a3 a4 h0 h1 h2, r2_at a0 a1 a2 a3 a4 h0 h1 h2, ms_at a0 a1 a2 a3 a4 h0 h1 h2, dy_at a0 a1 a2 a3 a4 a5 a6 h0 h1 h2, DN]
  rw [Fin.sum_univ_one]
  generalize X2r a0 a1 a2 a3 a4 = x at *
  generalize DY (ERr a0 a1 a2 a3 a4 a5 a6) = d at *
  choose w hw using fun k : Fin 1024 => (hd (ix2 i k)).mul (h6 (ix2 0 k))
  choose A hA using hx
  simp only [hw, hA]
  have := (Finite.norm_grad (fun k => A (ix2 i k)) w 0 j (RS x i) _ (by simp only [RS, hA]) rfl).symm
  simpa only [zero_add] using this

include h0 h1 h2 h3 h4 h5 h6 in
/-- The eight results, where the arguments are reals. -/
theorem results : (val_main_v74 (F := Ideal) a0 a1 = TR (HNr a0 a1)) ∧ (val_main_v75 (F := Ideal) a0 a1 a2 = GPr a0 a1 a2)
    ∧ (val_main_v76 (F := Ideal) a0 a1 a3 = GPr a0 a1 a3) ∧ (val_main_v77 (F := Ideal) a0 a1 a2 a3 = ACTr a0 a1 a2 a3)
    ∧ (val_main_v78 (F := Ideal) a0 a1 a2 a3 a4 a5 a6 = fun _ => LS (ERr a0 a1 a2 a3 a4 a5 a6))
    ∧ (val_main_v72 (F := Ideal) a0 a1 a2 a3 a4 a5 a6 = DGN (X2r a0 a1 a2 a3 a4) (DY (ERr a0 a1 a2 a3 a4 a5 a6)))
    ∧ (val_main_v71 (F := Ideal) a0 a1 a2 a3 a4 a5 a6 = DN (X2r a0 a1 a2 a3 a4) a6 (DY (ERr a0 a1 a2 a3 a4 a5 a6)))
    ∧ (val_main_v80 (F := Ideal) a0 a1 a2 a3 a4 a5 a6 = TR (DN (X2r a0 a1 a2 a3 a4) a6 (DY (ERr a0 a1 a2 a3 a4 a5 a6)))) := by
  refine ⟨?_, ?_, ?_, ?_, ?_, dgf a0 a1 a2 a3 a4 a5 a6 h0 h1 h2, ?_, ?_⟩ <;> funext i <;> idx_vars i
  · pointwise [val_main_v74, val_main_v73, hn_at, TR]
  · pointwise [val_main_v75, gp_at]
  · pointwise [val_main_v76, up_at]
  · pointwise [val_main_v77, act_at a0 a1 a2 a3 h0 h1 h2]
  · exact loss_at a0 a1 a2 a3 a4 a5 a6 h0 h1 h2 h3 h4 h5 h6 i0 i1
  · exact dx_at a0 a1 a2 a3 a4 a5 a6 h0 h1 h2 h3 h4 h5 h6 i0 i1
  · pointwise [val_main_v80, val_main_v79, dx_at a0 a1 a2 a3 a4 a5 a6 h0 h1 h2 h3 h4 h5 h6, TR]

end Cert.Reference4Ideal.LossReference

end
-- ==== Proof.LossClaims.lean ====
/- The claims about the feed-forward block's forward kernel with the loss, and its reference. -/
module

public import proofs.«01_k».proof.Defs
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_finite4
public import proofs.«01_k».proof.Proof.LossValue
public import proofs.«01_k».proof.Proof.LossReference
public import Idealize.ShloMosaic.Lib.Claim

@[expose] public section

set_option maxRecDepth 16384

noncomputable section

namespace Cert.LossClaims

open Idealize.ShloMosaic Idealize.ShloMosaic.TcCoe Idealize.SL.Sem

open Cert.Finite (IsReal)
open Cert.Kernel4Ideal.Loss

attribute [local instance] Cert.Kernel4.Gen.facts Cert.Kernel4Ideal.Gen.facts Cert.Reference4Ideal.Gen.facts Cert.Pre_finite4.Gen.facts

instance : Subsingleton Cert.Pre_finite4.S_.Idx := ⟨fun a b => funext fun i => i.elim0⟩

/-- The precondition: every array is an array of reals. -/
theorem reals (m : (ℓ : Loc Cert.Kernel4Ideal.nD Cert.Kernel4Ideal.τ Cert.Kernel4Ideal.sig) → Buf (Elt Ideal) ℓ) (h : Cert.Pre_Kernel4Ideal_finite4 m)
    (c : Dev Cert.Kernel4Ideal.nD) : (∀ i, IsReal (X m c i)) ∧ (∀ i, IsReal (G m c i)) ∧ (∀ i, IsReal (WG m c i)) ∧ (∀ i, IsReal (WU m c i))
      ∧ (∀ i, IsReal (WD m c i)) ∧ (∀ i, IsReal (TG m c i)) ∧ (∀ i, IsReal (GF m c i)) := by
  have e := congrFun (h c) (ix0)
  simp only [Cert.Pre_finite4.fn, Cert.Pre_finite4.fn_part1] at e
  simp only [andi, Cert.Finite.and_eq_one] at e
  obtain ⟨⟨⟨⟨⟨⟨e0, e1⟩, e2⟩, e3⟩, e4⟩, e5⟩, e6⟩ := e
  exact ⟨Cert.Finite.isReal_of_reduce _ _ _ (fun _ => Cert.Finite.ofBits_inf) _ _ _ e0, Cert.Finite.isReal_of_reduce _ _ _ (fun _ => Cert.Finite.ofBits_inf) _ _ _ e1,
    Cert.Finite.isReal_of_reduce _ _ _ (fun _ => Cert.Finite.ofBits_inf) _ _ _ e2, Cert.Finite.isReal_of_reduce _ _ _ (fun _ => Cert.Finite.ofBits_inf) _ _ _ e3,
    Cert.Finite.isReal_of_reduce _ _ _ (fun _ => Cert.Finite.ofBits_inf) _ _ _ e4, Cert.Finite.isReal_of_reduce _ _ _ (fun _ => Cert.Finite.ofBits_inf) _ _ _ e5,
    Cert.Finite.isReal_of_reduce _ _ _ (fun _ => Cert.Finite.ofBits_inf) _ _ _ e6⟩

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_ideal_finite : Cert.quiescent_Kernel4Ideal_pre_finite4 := fun m ρ _ => Cert.Kernel4Ideal.Gen.frame m ρ
theorem frame_reference : Cert.quiescent_Reference4Ideal := by
  intro m g _
  hlo_run
  · exact fun _ => ⟨trivial, trivial, trivial, trivial, trivial, trivial, trivial⟩
  exact sem_eq_zero_of_no_sems (sig := Cert.Reference4Ideal.sig) (by decide) _
theorem frame_reference_finite : Cert.quiescent_Reference4Ideal_pre_finite4 := fun m g _ => frame_reference m g trivial

set_option maxHeartbeats 1000000 in
/-- Kernel and reference end with equal results. -/
theorem algebraic : Cert.algebraic_Kernel4Ideal_Reference4Ideal_pre_finite4 := by
  intro m g m' g' hpre hagree
  refine ⟨fun c => TR (HNm m c), fun c => GPm m c, fun c => UPm m c, fun c => ACTm m c, fun c _ => LS (ERm m c),
    fun c => Cert.KernelIdeal.InValue.DGN (X2m m c) (DYm m c), fun c => DNm m c, fun c => TR (DNm m c), ?_, ?_⟩
  · refine (θ_run _ _ _).mono (fun r h c => ?_) (Cert.Kernel4Ideal.Value.run_blocks m g)
    obtain ⟨r0, r1, r2, r3, r4, r5, r6, r7, rest⟩ := h c
    exact ⟨r0.trans (final7 m c), r1.trans (final8 m c), r2.trans (final9 m c), r3.trans (final10 m c), r4.trans (final11 m c),
      r5.trans (final12 m c), r6.trans (final13 m c), r7.trans (final14 m c), rest⟩
  · refine (θ_run _ _ _).mono (fun r h c => ?_) (Cert.Reference4Ideal.Value.run m' g')
    obtain ⟨r0, r1, r2, r3, r4, r5, r6, r7, rest⟩ := h c
    obtain ⟨a0, a1, a2, a3, a4, a5, a6⟩ := hagree c
    obtain ⟨h0, h1, h2, h3, h4, h5, h6⟩ := reals m hpre c
    obtain ⟨e0, e1, e2, e3, e4, e5, e6, e7⟩ := Cert.Reference4Ideal.LossReference.results _ _ _ _ _ _ _ h0 h1 h2 h3 h4 h5 h6
    refine ⟨(r0.trans (Cert.Reference4Ideal.Read.val_main_v74_eq _ _)).trans ?_, (r1.trans (Cert.Reference4Ideal.Read.val_main_v75_eq _ _ _)).trans ?_,
      (r2.trans (Cert.Reference4Ideal.Read.val_main_v76_eq _ _ _)).trans ?_, (r3.trans (Cert.Reference4Ideal.Read.val_main_v77_eq _ _ _ _)).trans ?_,
      r4.trans ?_, r5.trans ?_, r6.trans ?_, r7.trans ?_, rest⟩
    · rw [a0, a1]; exact e0
    · rw [a0, a1, a2]; exact e1
    · rw [a0, a1, a3]; exact e2
    · rw [a0, a1, a2, a3]; exact e3
    · rw [Cert.Reference4Ideal.Read.val_main_v78_eq, a0, a1, a2, a3, a4, a5, a6]; exact e4
    · rw [Cert.Reference4Ideal.Read.val_main_v72_eq, a0, a1, a2, a3, a4, a5, a6]; exact e5
    · rw [Cert.Reference4Ideal.Read.val_main_v71_eq, a0, a1, a2, a3, a4, a5, a6]; exact e6
    · rw [Cert.Reference4Ideal.Read.val_main_v80_eq, a0, a1, a2, a3, a4, a5, a6]; exact e7

end Cert.LossClaims

end
-- ==== Proof.MgRing.lean ====
/- The six operands the merge's backward kernel streams through buffers of its own: an operand's blocks, the three slots they
   land in, the semaphore of each transfer, and what a transfer lends and returns. Everything is stated once, for an operand
   of any width. -/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.HgRun

@[expose] public section

set_option maxRecDepth 16384

noncomputable section

namespace Cert.Mg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal
open Cert.Kernel5Ideal.Facts₀ Cert.Kernel5Ideal.Facts
open Cert.Kernel5Ideal.Gen

variable {F : FTy → Type} [FloatOps F]

local notation "𝕄" => MT nD τ sig Unit (Elt F) ℕ (Pipeline.UD sig nD τ) ℕ

/-! ## Shapes and names, at any width -/

/-- Three slots of a block, one of them, a block, the operand it is a block of. -/
abbrev R3 (n : ℕ) : Shape := ⟨3, ![3, 512, n]⟩
abbrev R1 (n : ℕ) : Shape := ⟨3, ![1, 512, n]⟩
abbrev Bk (n : ℕ) : Shape := ⟨2, ![512, n]⟩
abbrev Ar (n : ℕ) : Shape := ⟨2, ![4096, n]⟩

theorem inb_slot {n : ℕ} (s : Fin 3) : ∀ a, (![s.val, 0, 0] : Fin 3 → ℕ) a + (R1 n).size a ≤ (R3 n).size a := by
  have := s.isLt; intro a; fin_cases a <;> simp <;> omega
theorem inb_src {n : ℕ} (b : Fin 8) : ∀ a, (![512 * (7 - b.val), 0] : Fin 2 → ℕ) a + (Bk n).size a ≤ (Ar n).size a := by
  have := b.isLt; intro a; fin_cases a <;> simp <;> omega
theorem inb_cell (k : Fin 6) (s : Fin 3) : ∀ a, (![k.val, s.val] : Fin 2 → ℕ) a + S1x1.size a ≤ S6x3.size a := by
  have := s.isLt; have := k.isLt; intro a; fin_cases a <;> simp <;> omega

section Names
variable {n : ℕ} {e : EltTy}

/-- Slot `s` of an operand's buffer. -/
def slot (buf : Memref sig .tc .vmem (R3 n) e) (hq : (R1 n).Squeezes (Bk n)) (s : Fin 3) : Memref sig .tc .vmem (Bk n) e :=
  (buf.slice (Rect.unit (s := R3 n) ![s.val, 0, 0] (R1 n).size (inb_slot s)) (fun _ => rfl)).squeeze (Bk n) hq
/-- The block the kernel's step `b` works on: the blocks are taken from the last row to the first. -/
def src (hb : Memref sig .tc .hbm (Ar n) e) (b : Fin 8) : Memref sig .tc .hbm (Bk n) e :=
  hb.slice (Rect.unit (s := Ar n) ![512 * (7 - b.val), 0] (Bk n).size (inb_src b)) (fun _ => rfl)
/-- The semaphore of operand `k`'s transfer into slot `s`. -/
def cell (sems : DmaSems sig S6x3) (k : Fin 6) (s : Fin 3) : DmaSem sig :=
  ((sems.slice (Rect.unit (s := S6x3) ![k.val, s.val] S1x1.size (inb_cell k s))).squeeze S_ (by decide : S1x1.Squeezes S_)).sem

/-- The program's spellings of these, at offsets equal to theirs. -/
theorem slot_eq {buf : Memref sig .tc .vmem (R3 n) e} {hq : (R1 n).Squeezes (Bk n)} {s : Fin 3} {o : Fin 3 → ℕ}
    (h : o = ![s.val, 0, 0]) (inb : ∀ a, o a + (R1 n).size a ≤ (R3 n).size a) (hs) :
    (buf.slice (Rect.unit (s := R3 n) o (R1 n).size inb) hs).squeeze (Bk n) hq = slot buf hq s := by subst h; rfl
theorem src_eq {hb : Memref sig .tc .hbm (Ar n) e} {b : Fin 8} {o : Fin 2 → ℕ}
    (h : o = ![512 * (7 - b.val), 0]) (inb : ∀ a, o a + (Bk n).size a ≤ (Ar n).size a) (hs) :
    hb.slice (Rect.unit (s := Ar n) o (Bk n).size inb) hs = src hb b := by subst h; rfl
theorem cell_eq {sems : DmaSems sig S6x3} {k : Fin 6} {s : Fin 3} {o : Fin 2 → ℕ}
    (h : o = ![k.val, s.val]) (inb : ∀ a, o a + S1x1.size a ≤ S6x3.size a) (hq : S1x1.Squeezes S_) :
    ((sems.slice (Rect.unit (s := S6x3) o S1x1.size inb)).squeeze S_ hq).sem = cell sems k s := by subst h; rfl

end Names

/-! ## One operand's stream -/

section Stream
variable (c : Dev nD) (sems : DmaSems sig S6x3) {n : ℕ} {e : EltTy} (buf : Memref sig .tc .vmem (R3 n) e) (hb : Memref sig .tc .hbm (Ar n) e)
  (hq : (R1 n).Squeezes (Bk n)) (W : Buf (Elt F) (hb.view.loc (c : Thread nD τ))) (k : Fin 6)

/-- The operand is lent by share, a share of it to each slot. -/
def qs (s : Fin 3) : PosShare TreeShare := ![fullShare.left, fullShare.right.left, fullShare.right.right] s

/-- The semaphore at zero. -/
abbrev idle (s : Fin 3) : sProp 𝕄 := semVal ((c : Thread nD τ), SemLoc.dma (cell sems k s)) 0
/-- Slot `s`'s share of the operand, its block `b`'s part of it, and the rest. -/
def whole (s : Fin 3) : sProp 𝕄 := hb.view.loc (c : Thread nD τ) ↦[Finset.univ]{qs s} W
def lent (s : Fin 3) (b : Fin 8) : sProp 𝕄 := (src hb b).view.loc (c : Thread nD τ) ↦[(src hb b).view.set]{qs s} W
def rest (s : Fin 3) (b : Fin 8) : sProp 𝕄 := hb.view.loc (c : Thread nD τ) ↦[Finset.univ \ (src hb b).view.set]{qs s} W
/-- Block `b` of the operand. -/
def blk (b : Fin 8) : (Bk n).Idx → Elt F e := (src hb b).view.read (Elt F) (W : Buf (Elt F) ((src hb b).view.loc (c : Thread nD τ)))
/-- Slot `s` holding anything, and holding block `b`. -/
def open' (s : Fin 3) : sProp 𝕄 := iprop((∃ d, owns (c : Thread nD τ) (slot buf hq s) fullShare d) ∗ whole c hb W s)
def got (s : Fin 3) (b : Fin 8) : sProp 𝕄 := iprop(owns (c : Thread nD τ) (slot buf hq s) fullShare (blk c hb W b) ∗ whole c hb W s)
/-- Block `b` on its way into slot `s`. -/
def fly (s : Fin 3) (b : Fin 8) : sProp 𝕄 :=
  iprop(Transfers.Flight countersEmb (c : Thread nD τ) (SemLoc.dma (cell sems k s)) () ((slot buf hq s).view.amount (SemLoc.dma (cell sems k s)))
      iprop(owns (c : Thread nD τ) (slot buf hq s) fullShare (blk c hb W b) ∗ lent c hb W s b) ∗ rest c hb W s b)

theorem whole_split (s : Fin 3) (b : Fin 8) : whole c hb W s ⊣⊢ iprop(lent c hb W s b ∗ rest c hb W s b) := by
  unfold whole lent rest; exact pointsTo_split_subset (Finset.subset_univ _)

theorem open_of_got (s : Fin 3) (b : Fin 8) : got c buf hb hq W s b ⊢ open' c buf hb hq W s := by
  unfold got open'
  iintro ⟨H, Hw⟩
  isplitl [H]; · iexists _; iexact H
  iexact Hw

/-- Operand and slot ready for a transfer, and a transfer arrived. -/
def ready (s : Fin 3) : sProp 𝕄 := iprop(idle c sems k s ∗ open' c buf hb hq W s)
def arrived (s : Fin 3) (b : Fin 8) : sProp 𝕄 := iprop(idle c sems k s ∗ got c buf hb hq W s b)

theorem ready_of_arrived (s : Fin 3) (b : Fin 8) : arrived c sems buf hb hq W k s b ⊢ ready c sems buf hb hq W k s := by
  unfold arrived ready; exact sep_mono_right (open_of_got c buf hb hq W s b)

/-- A transfer starts: the slot, its semaphore and its share of the operand become the block on its way. -/
theorem issue {α : Type} {K : PUnit → Prog (TpuEff nD τ sig (Elt F) Λ₀ .tc) α} {Q : α → sProp 𝕄}
    {o₁ : Fin 3 → ℕ} {o₂ oc : Fin 2 → ℕ} {i₁ : ∀ a, o₁ a + (R1 n).size a ≤ (R3 n).size a} {i₂ : ∀ a, o₂ a + (Bk n).size a ≤ (Ar n).size a}
    {ic : ∀ a, oc a + S1x1.size a ≤ S6x3.size a} {hc : S1x1.Squeezes S_} (s : Fin 3) (b : Fin 8)
    (h₁ : o₁ = ![s.val, 0, 0]) (h₂ : o₂ = ![512 * (7 - b.val), 0]) (h₃ : oc = ![k.val, s.val]) (hn : (Bk n).numel ≠ 0)
    {g₁ : ∀ a, (Rect.unit (s := R3 n) o₁ (R1 n).size i₁).stride a = 1} {g₂ : ∀ a, (Rect.unit (s := Ar n) o₂ (Bk n).size i₂).stride a = 1}
    {hsrc : (hb.slice (Rect.unit (s := Ar n) o₂ (Bk n).size i₂) g₂).view.WordExact}
    {hdst : ((buf.slice (Rect.unit (s := R3 n) o₁ (R1 n).size i₁) g₁).squeeze (Bk n) hq).view.WordExact}
    {hsem : DmaTarget.Typed (nD := nD) Space.hbm (SemLoc.dma ((sems.slice (Rect.unit (s := S6x3) oc S1x1.size ic)).squeeze S_ hc).sem)
      (DmaTarget.here (p := (c : Thread nD τ).2) ((buf.slice (Rect.unit (s := R3 n) o₁ (R1 n).size i₁) g₁).squeeze (Bk n) hq))} :
    ready c sems buf hb hq W k s ⊢
      iprop((fly c sems buf hb hq W k s b -∗ wp frame (wpE (defs₀ (F := F)) Variants.none (c : Thread nD τ) none) Set.univ (K ⟨⟩) Q)
        -∗ wp frame (wpE (defs₀ (F := F)) Variants.none (c : Thread nD τ) none) Set.univ
          (Prog.lift (.enqueueDma (hb.slice (Rect.unit (s := Ar n) o₂ (Bk n).size i₂) g₂)
            (DmaTarget.here (p := (c : Thread nD τ).2) ((buf.slice (Rect.unit (s := R3 n) o₁ (R1 n).size i₁) g₁).squeeze (Bk n) hq))
            (.dma ((sems.slice (Rect.unit (s := S6x3) oc S1x1.size ic)).squeeze S_ hc).sem) hsrc hdst hsem) >>= K) Q) := by
  subst h₁; subst h₂; subst h₃
  rw [wp_bind]
  generalize hQ : (fun a => wp frame (wpE (defs₀ (F := F)) Variants.none (c : Thread nD τ) none) Set.univ (K a) Q) = Q'
  rw [show wp frame (wpE (defs₀ (F := F)) Variants.none (c : Thread nD τ) none) Set.univ (K ⟨⟩) Q = Q' ⟨⟩ by rw [← hQ]]
  unfold ready open' fly owns
  iintro ⟨Hc, ⟨%d, %f, %hf, HS⟩, Hw⟩ HK
  ihave Hw' := (whole_split c hb W s b).1 $$ Hw
  icases Hw' with ⟨Hl, Hr⟩
  unfold lent
  iapply (Transfers.wp_dmaLocal countersEmb Variants.none (c : Thread nD τ) none (k := Prog.ret)
    (Q := Q') (src := src hb b) (dst := slot buf hq s)
    (sm := SemLoc.dma (cell sems k s)) () _ rfl
    (Nat.pos_of_ne_zero fun h => hn ((View.amount_eq_zero_iff _ _).mp h)) subset_rfl) $$ [Hl HS Hc]
  · isplitl [Hl]; · iexact Hl
    isplitl [HS]; · iexact HS
    iexact Hc
  iintro HF
  rw [wp_ret]
  imodintro
  iapply HK
  isplitl [HF]
  · iapply (Transfers.Flight_mono countersEmb (c : Thread nD τ) ?_) $$ HF
    iintro ⟨HS, Hl⟩
    isplitl [HS]
    · iexists _; isplitr; swap; · iexact HS
      ipureintro
      exact View.read_write_univ _ _
    iexact Hl
  iexact Hr

/-- A transfer is waited for: the block is there, the share of the operand whole again. -/
theorem collect {α : Type} {K : PUnit → Prog (TpuEff nD τ sig (Elt F) Λ₀ .tc) α} {Q : α → sProp 𝕄}
    {o₁ : Fin 3 → ℕ} {oc : Fin 2 → ℕ} {i₁ : ∀ a, o₁ a + (R1 n).size a ≤ (R3 n).size a}
    {ic : ∀ a, oc a + S1x1.size a ≤ S6x3.size a} {hc : S1x1.Squeezes S_} {T : Memref sig .tc .hbm (Bk n) e} (s : Fin 3) (b : Fin 8)
    (h₁ : o₁ = ![s.val, 0, 0]) (h₃ : oc = ![k.val, s.val])
    {g₁ : ∀ a, (Rect.unit (s := R3 n) o₁ (R1 n).size i₁).stride a = 1} {hsrc : T.view.WordExact}
    {hdst : ((buf.slice (Rect.unit (s := R3 n) o₁ (R1 n).size i₁) g₁).squeeze (Bk n) hq).view.WordExact} :
    iprop(fly c sems buf hb hq W k s b ∗ ∃ w, owes (c : Thread nD τ) 0 w) ⊢
      iprop((arrived c sems buf hb hq W k s b ∗ (∃ w, owes (c : Thread nD τ) 0 w)
          -∗ wp frame (wpE (defs₀ (F := F)) Variants.none (c : Thread nD τ) none) Set.univ (K ⟨⟩) Q)
        -∗ wp frame (wpE (defs₀ (F := F)) Variants.none (c : Thread nD τ) none) Set.univ
          (Prog.lift (.waitDma2 ((sems.slice (Rect.unit (s := S6x3) oc S1x1.size ic)).squeeze S_ hc).sem T
            ((buf.slice (Rect.unit (s := R3 n) o₁ (R1 n).size i₁) g₁).squeeze (Bk n) hq) hsrc hdst) >>= K) Q) := by
  subst h₁; subst h₃
  rw [wp_bind]
  generalize hQ : (fun a => wp frame (wpE (defs₀ (F := F)) Variants.none (c : Thread nD τ) none) Set.univ (K a) Q) = Q'
  rw [show wp frame (wpE (defs₀ (F := F)) Variants.none (c : Thread nD τ) none) Set.univ (K ⟨⟩) Q = Q' ⟨⟩ by rw [← hQ]]
  unfold fly arrived got
  iintro ⟨⟨HF, Hr⟩, ⟨%w, HO⟩⟩ HK
  iapply (Transfers.wp_waitLocal countersEmb Variants.none (c : Thread nD τ) none (k := Prog.ret)
    (Q := Q') (sem := cell sems k s) (dstw := slot buf hq s) () rfl) $$ [HF HO]
  · isplitl [HF]; · iexact HF
    iexact HO
  iintro ⟨⟨HS, Hl⟩, Hc, HO⟩
  rw [wp_ret]
  imodintro
  iapply HK
  isplitr [HO]
  · isplitl [Hc]; · iexact Hc
    isplitl [HS]; · iexact HS
    iapply (whole_split c hb W s b).2
    isplitl [Hl]; · iexact Hl
    iexact Hr
  iexists _; iexact HO

end Stream

/-! ## Loads and stores -/

section Access
variable (c : Dev nD)

/-- A load reads the rectangle of what the buffer holds. -/
theorem ld {α : Type} {Q : α → sProp 𝕄} {s : Shape} {e : EltTy} {m : Memref sig .tc .vmem s e} {r : Rect s} {hl : m.view.LoadsAt r.toLoadRect} {X : s.Idx → Elt F e}
    {K : (r.shape.Idx → Elt F e) → Prog (TpuEff nD τ sig (Elt F) Λ₀ .tc) α} :
    owns (c : Thread nD τ) m fullShare X ⊢
      iprop((owns (c : Thread nD τ) m fullShare X -∗ wp frame (wpE (defs₀ (F := F)) Variants.none (c : Thread nD τ) none) Set.univ (K fun j => X (r.emb j)) Q)
        -∗ wp frame (wpE (defs₀ (F := F)) Variants.none (c : Thread nD τ) none) Set.univ (Prog.lift (.load m r.toLoadRect hl) >>= K) Q) := by
  rw [wp_bind]
  unfold owns
  iintro ⟨%f, %hf, H⟩ HK
  iapply (wp_load_rect Variants.none (c : Thread nD τ) none Set.univ (hl := hl) (k := Prog.ret) (m.view.set_slice_subset r)) $$ H
  iintro H
  rw [wp_ret]
  imodintro
  have e : (m.access r).read (Elt F) f = fun j => X (r.emb j) := by
    funext j
    show m.view.read (Elt F) f (r.emb j) = X (r.emb j)
    rw [hf]
  rw [e]
  iapply HK
  iexists f
  isplitr; · ipureintro; exact hf
  iexact H

/-- A load of a slot's part of an operand's buffer reads the block the slot holds, as one layer. -/
theorem ldSlot {α : Type} {Q : α → sProp 𝕄} {n : ℕ} {e : EltTy} {buf : Memref sig .tc .vmem (R3 n) e} {hq : (R1 n).Squeezes (Bk n)} {s : Fin 3} {X : (Bk n).Idx → Elt F e}
    {o : Fin 3 → ℕ} {inb : ∀ a, o a + (R1 n).size a ≤ (R3 n).size a} (h : o = ![s.val, 0, 0])
    {hl : buf.view.LoadsAt (Rect.unit (s := R3 n) o (R1 n).size inb).toLoadRect}
    {K : ((R1 n).Idx → Elt F e) → Prog (TpuEff nD τ sig (Elt F) Λ₀ .tc) α} :
    owns (c : Thread nD τ) (slot buf hq s) fullShare X ⊢
      iprop((owns (c : Thread nD τ) (slot buf hq s) fullShare X -∗ wp frame (wpE (defs₀ (F := F)) Variants.none (c : Thread nD τ) none) Set.univ
          (K fun j => X ((Shape.reshapeEquiv hq.numel_eq).symm j)) Q)
        -∗ wp frame (wpE (defs₀ (F := F)) Variants.none (c : Thread nD τ) none) Set.univ
          (Prog.lift (.load buf (Rect.unit (s := R3 n) o (R1 n).size inb).toLoadRect hl) >>= K) Q) := by
  subst h
  rw [wp_bind]
  unfold owns
  iintro ⟨%f, %hf, H⟩ HK
  have es : (slot buf hq s).view.set = (buf.access (Rect.unit (s := R3 n) ![s.val, 0, 0] (R1 n).size inb)).set :=
    View.set_reshape (v := buf.access (Rect.unit (s := R3 n) ![s.val, 0, 0] (R1 n).size inb)) hq.numel_eq
  have em : ((slot buf hq s).view.loc (c : Thread nD τ) ↦[(slot buf hq s).view.set]{fullShare} f : sProp 𝕄)
      = ((buf.access (Rect.unit (s := R3 n) ![s.val, 0, 0] (R1 n).size inb)).loc (c : Thread nD τ) ↦[(buf.access (Rect.unit (s := R3 n) ![s.val, 0, 0] (R1 n).size inb)).set]{fullShare} f) := by rw [es]; rfl
  ihave H := (Entails.of_eq em) $$ H
  iapply (wp_load_rect Variants.none (c : Thread nD τ) none Set.univ (m := buf) (r := (Rect.unit (s := R3 n) ![s.val, 0, 0] (R1 n).size inb)) (hl := hl) (k := Prog.ret) (f := f) subset_rfl) $$ H
  iintro H
  rw [wp_ret]
  imodintro
  have e : (buf.access (Rect.unit (s := R3 n) ![s.val, 0, 0] (R1 n).size (inb_slot s))).read (Elt F) f = fun j => X ((Shape.reshapeEquiv hq.numel_eq).symm j) := by
    funext j
    rw [← hf]
    show _ = (buf.access (Rect.unit (s := R3 n) ![s.val, 0, 0] (R1 n).size (inb_slot s))).read (Elt F) f (Shape.reshapeEquiv hq.numel_eq ((Shape.reshapeEquiv hq.numel_eq).symm j))
    rw [Equiv.apply_symm_apply]
  rw [e]
  iapply HK
  iexists f
  isplitr; · ipureintro; exact hf
  iapply (Entails.of_eq em.symm) $$ H

/-- A load of a rectangle of a slot. -/
theorem ldIn {α : Type} {Q : α → sProp 𝕄} {n : ℕ} {e : EltTy} {buf : Memref sig .tc .vmem (R3 n) e} {hq : (R1 n).Squeezes (Bk n)} {s : Fin 3} {X : (Bk n).Idx → Elt F e}
    {o : Fin 3 → ℕ} {inb : ∀ a, o a + (R1 n).size a ≤ (R3 n).size a} (h : o = ![s.val, 0, 0]) {g : ∀ a, (Rect.unit (s := R3 n) o (R1 n).size inb).stride a = 1} {r : Rect (Bk n)}
    {hl : ((buf.slice (Rect.unit (s := R3 n) o (R1 n).size inb) g).squeeze (Bk n) hq).view.LoadsAt r.toLoadRect}
    {K : (r.shape.Idx → Elt F e) → Prog (TpuEff nD τ sig (Elt F) Λ₀ .tc) α} :
    owns (c : Thread nD τ) (slot buf hq s) fullShare X ⊢
      iprop((owns (c : Thread nD τ) (slot buf hq s) fullShare X -∗ wp frame (wpE (defs₀ (F := F)) Variants.none (c : Thread nD τ) none) Set.univ (K fun j => X (r.emb j)) Q)
        -∗ wp frame (wpE (defs₀ (F := F)) Variants.none (c : Thread nD τ) none) Set.univ
          (Prog.lift (.load ((buf.slice (Rect.unit (s := R3 n) o (R1 n).size inb) g).squeeze (Bk n) hq) r.toLoadRect hl) >>= K) Q) := by
  subst h
  exact ld c (m := slot buf hq s)

/-- A store replaces the rectangle. -/
theorem st {α : Type} {Q : α → sProp 𝕄} {s : Shape} {e : EltTy} {m : Memref sig .tc .vmem s e} {r : Rect s} {w : r.shape.Idx → Elt F e} {hx : (m.access r).Stores Finset.univ} {hm}
    {X : s.Idx → Elt F e} {K : PUnit → Prog (TpuEff nD τ sig (Elt F) Λ₀ .tc) α} :
    owns (c : Thread nD τ) m fullShare X ⊢
      iprop((owns (c : Thread nD τ) m fullShare (Cert.Hg.put r w X) -∗ wp frame (wpE (defs₀ (F := F)) Variants.none (c : Thread nD τ) none) Set.univ (K ⟨⟩) Q)
        -∗ wp frame (wpE (defs₀ (F := F)) Variants.none (c : Thread nD τ) none) Set.univ (Prog.lift (.store m r w Finset.univ hx hm) >>= K) Q) := by
  rw [wp_bind]
  unfold owns
  iintro ⟨%f, %hf, H⟩ HK
  iapply (wp_store Variants.none (c : Thread nD τ) none Set.univ (k := Prog.ret) (m.setOn_access_subset r _)) $$ H
  iintro H
  rw [wp_ret]
  imodintro
  iapply HK
  iexists _
  isplitr; swap; · iexact H
  ipureintro
  funext i
  by_cases h : ∃ j, r.emb j = i
  · obtain ⟨j, rfl⟩ := h
    rw [Cert.Hg.put_emb]
    exact m.view.read_slice_write_emb r f w (Finset.mem_univ j)
  · have h' : ∀ j, r.emb j ≠ i := fun j e => h ⟨j, e⟩
    rw [Cert.Hg.put_off r w X i h', ← hf]
    refine m.view.read_slice_write_of_not_mem r f w _ fun hm => ?_
    obtain ⟨j, -, hj⟩ := Finset.mem_map.mp hm
    exact h ⟨j, hj⟩

end Access

end Cert.Mg

end
-- ==== Proof.MgMoves.lean ====
/- The data movement of one step of the merge's backward kernel: at the first step it clears its two accumulators and sends for the
   first two blocks of every operand, at every step but the last two it sends for the block two steps ahead, and it waits for its own. -/
module

public import proofs.«01_k».proof.Proof.MgRing

@[expose] public section

set_option maxRecDepth 16384

noncomputable section

namespace Cert.Mg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal
open Cert.Kernel5Ideal.Facts₀ Cert.Kernel5Ideal.Facts
open Cert.Kernel5Ideal.Gen

variable {F : FTy → Type} [FloatOps F]

local notation "𝕄" => MT nD τ sig Unit (Elt F) ℕ (Pipeline.UD sig nD τ) ℕ

/-- The kernel's operands. -/
structure Bufs where
  a1 : Memref sig .tc .hbm S4096x1024 .f32
  h1 : a1.IsWhole
  a2 : Memref sig .tc .hbm S4096x1024 .bf16
  h2 : a2.IsWhole
  a3 : Memref sig .tc .hbm S4096x1024 .bf16
  h3 : a3.IsWhole
  a4 : Memref sig .tc .hbm S4096x2048 .bf16
  h4 : a4.IsWhole
  a5 : Memref sig .tc .hbm S4096x1536 .bf16
  h5 : a5.IsWhole
  a6 : Memref sig .tc .hbm S4096x512 .bf16
  h6 : a6.IsWhole
  a7 : Memref sig .tc .vmem S8x512x128 .bf16
  h7 : a7.IsWhole
  a8 : Memref sig .tc .vmem S8x512x128 .bf16
  h8 : a8.IsWhole
  a9 : Memref sig .tc .vmem S1024x1024 .bf16
  h9 : a9.IsWhole
  a10 : Memref sig .tc .vmem S3x512 .f32
  h10 : a10.IsWhole
  a11 : Memref sig .tc .vmem S512x2048 .bf16
  h11 : a11.IsWhole
  a12 : Memref sig .tc .vmem S512x1024 .bf16
  h12 : a12.IsWhole
  a13 : Memref sig .tc .vmem S512x1024 .bf16
  h13 : a13.IsWhole
  a14 : Memref sig .tc .vmem S512x512 .f32
  h14 : a14.IsWhole
  a15 : Memref sig .tc .vmem S512x1536 .bf16
  h15 : a15.IsWhole
  a16 : Memref sig .tc .vmem S3x512 .f32
  h16 : a16.IsWhole
  a17 : Memref sig .tc .vmem S8x512 .f32
  h17 : a17.IsWhole
  a18 : Memref sig .tc .vmem S3x512x1024 .f32
  h18 : a18.IsWhole
  a19 : Memref sig .tc .vmem S3x512x1024 .bf16
  h19 : a19.IsWhole
  a20 : Memref sig .tc .vmem S3x512x1024 .bf16
  h20 : a20.IsWhole
  a21 : Memref sig .tc .vmem S3x512x2048 .bf16
  h21 : a21.IsWhole
  a22 : Memref sig .tc .vmem S3x512x1536 .bf16
  h22 : a22.IsWhole
  a23 : Memref sig .tc .vmem S3x512x512 .bf16
  h23 : a23.IsWhole
  a24 : DmaSems sig S6x3

variable (c : Dev nD) (B : Bufs)

/-- What the six streamed operands hold. -/
structure Held (F : FTy → Type) (c : Dev nD) (B : Bufs) where
  w1 : Buf (Elt F) (B.a1.view.loc (c : Thread nD τ))
  w2 : Buf (Elt F) (B.a2.view.loc (c : Thread nD τ))
  w3 : Buf (Elt F) (B.a3.view.loc (c : Thread nD τ))
  w4 : Buf (Elt F) (B.a4.view.loc (c : Thread nD τ))
  w5 : Buf (Elt F) (B.a5.view.loc (c : Thread nD τ))
  w6 : Buf (Elt F) (B.a6.view.loc (c : Thread nD τ))

variable (W : Held F c B)

theorem q1024 : (R1 1024).Squeezes (Bk 1024) := by decide
theorem q2048 : (R1 2048).Squeezes (Bk 2048) := by decide
theorem q1536 : (R1 1536).Squeezes (Bk 1536) := by decide
theorem q512 : (R1 512).Squeezes (Bk 512) := by decide

/-- The same of each of the six. -/
def six (Φ : {n : ℕ} → {e : EltTy} → (buf : Memref sig .tc .vmem (R3 n) e) → (hb : Memref sig .tc .hbm (Ar n) e) → (hq : (R1 n).Squeezes (Bk n)) →
    Buf (Elt F) (hb.view.loc (c : Thread nD τ)) → Fin 6 → sProp 𝕄) : sProp 𝕄 :=
  iprop(Φ B.a18 B.a1 q1024 W.w1 0 ∗ Φ B.a19 B.a2 q1024 W.w2 1 ∗ Φ B.a20 B.a3 q1024 W.w3 2 ∗ Φ B.a21 B.a4 q2048 W.w4 3 ∗ Φ B.a22 B.a5 q1536 W.w5 4 ∗ Φ B.a23 B.a6 q512 W.w6 5)

def ready6 (s : Fin 3) : sProp 𝕄 := six c B W fun buf hb hq w k => ready c B.a24 buf hb hq w k s
def fly6 (s : Fin 3) (b : Fin 8) : sProp 𝕄 := six c B W fun buf hb hq w k => fly c B.a24 buf hb hq w k s b
def arrived6 (s : Fin 3) (b : Fin 8) : sProp 𝕄 := six c B W fun buf hb hq w k => arrived c B.a24 buf hb hq w k s b

/-- The buffers the kernel's steps share, cleared. -/
def zeroDy : S8x512.Idx → Elt F .f32 := k0_pay5 (F := F)
def zeroCw : S3x512.Idx → Elt F .f32 := k0_pay6 (F := F)

theorem put_whole2 {n m : ℕ} {α : Type} (inb : ∀ a, (![0, 0] : Fin 2 → ℕ) a + (⟨2, ![n, m]⟩ : Shape).size a ≤ (⟨2, ![n, m]⟩ : Shape).size a) (w X : (⟨2, ![n, m]⟩ : Shape).Idx → α) :
    Cert.Hg.put (Rect.unit (s := ⟨2, ![n, m]⟩) ![0, 0] (⟨2, ![n, m]⟩ : Shape).size inb) w X = w := by
  funext i
  have e : (Rect.unit (s := ⟨2, ![n, m]⟩) ![0, 0] (⟨2, ![n, m]⟩ : Shape).size inb).emb i = i := by
    funext a; apply Fin.ext; fin_cases a <;> show 0 + 1 * _ = _ <;> omega
  conv_lhs => rw [← e]
  exact Cert.Hg.put_emb (Rect.unit (s := ⟨2, ![n, m]⟩) ![0, 0] (⟨2, ![n, m]⟩ : Shape).size inb) w X i

/-- The clearing, and the first three operands' first blocks. -/
theorem part1 (i : grid0.Coords) (Q : PUnit → sProp 𝕄) (X : S8x512.Idx → Elt F .f32) (Y : S3x512.Idx → Elt F .f32) :
    iprop(ready c B.a24 B.a18 B.a1 q1024 W.w1 0 0 ∗ ready c B.a24 B.a19 B.a2 q1024 W.w2 1 0 ∗ ready c B.a24 B.a20 B.a3 q1024 W.w3 2 0
        ∗ owns (c : Thread nD τ) B.a17 fullShare X ∗ owns (c : Thread nD τ) B.a16 fullShare Y)
      ⊢ iprop((fly c B.a24 B.a18 B.a1 q1024 W.w1 0 0 0 ∗ fly c B.a24 B.a19 B.a2 q1024 W.w2 1 0 0 ∗ fly c B.a24 B.a20 B.a3 q1024 W.w3 2 0 0
          ∗ owns (c : Thread nD τ) B.a17 fullShare (zeroDy (F := F)) ∗ owns (c : Thread nD τ) B.a16 fullShare (zeroCw (F := F)) -∗ Q ⟨⟩)
        -∗ wp frame (wpE (defs₀ (F := F)) Variants.none (c : Thread nD τ) none) Set.univ (k0_part1 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24) Q) := by
  rw [k0_part1_eq_skeleton]
  unfold k0_part1_skel
  dsimp only
  iintro ⟨R1, R2, R3, H17, H16⟩ HK
  iapply (ld c) $$ H17
  iintro H17
  iapply (st c) $$ H17
  iintro H17
  iapply (ld c) $$ H16
  iintro H16
  iapply (st c) $$ H16
  iintro H16
  iapply (issue c B.a24 B.a18 B.a1 q1024 W.w1 0 0 0 rfl rfl rfl (by decide)) $$ R1
  iintro R1
  iapply (issue c B.a24 B.a19 B.a2 q1024 W.w2 1 0 0 rfl rfl rfl (by decide)) $$ R2
  iintro R2
  iapply (issue c B.a24 B.a20 B.a3 q1024 W.w3 2 0 0 rfl rfl rfl (by decide)) $$ R3
  iintro R3
  rw [show (pure ⟨⟩ : Prog (TpuEff nD τ sig (Elt F) Λ₀ .tc) PUnit) = Prog.ret ⟨⟩ from rfl, wp_ret]
  imodintro
  iapply HK
  rw [put_whole2, put_whole2]
  isplitl [R1]; · iexact R1
  isplitl [R2]; · iexact R2
  isplitl [R3]; · iexact R3
  isplitl [H17]; · iexact H17
  iexact H16

/-- The first three operands' blocks two steps ahead. -/
theorem part3 (i : grid0.Coords) (a0 : BitVec 32) (h2 : k0_cond2 i = 1#1) (s : Fin 3) (b : Fin 8) (Q : PUnit → sProp 𝕄)
    (h₁ : k0_off2 i = ![s.val, 0, 0]) (h₂ : k0_off3 i = ![512 * (7 - b.val), 0])
    (c0 : k0_off1 i = ![0, s.val]) (c1 : k0_off4 i = ![1, s.val]) (c2 : k0_off5 i = ![2, s.val]) :
    iprop(ready c B.a24 B.a18 B.a1 q1024 W.w1 0 s ∗ ready c B.a24 B.a19 B.a2 q1024 W.w2 1 s ∗ ready c B.a24 B.a20 B.a3 q1024 W.w3 2 s)
      ⊢ iprop((fly c B.a24 B.a18 B.a1 q1024 W.w1 0 s b ∗ fly c B.a24 B.a19 B.a2 q1024 W.w2 1 s b ∗ fly c B.a24 B.a20 B.a3 q1024 W.w3 2 s b -∗ Q ⟨⟩)
        -∗ wp frame (wpE (defs₀ (F := F)) Variants.none (c : Thread nD τ) none) Set.univ (k0_part3 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 a0 h2) Q) := by
  rw [k0_part3_eq_skeleton]
  unfold k0_part3_skel
  dsimp only
  iintro ⟨R1, R2, R3⟩ HK
  iapply (issue c B.a24 B.a18 B.a1 q1024 W.w1 0 s b h₁ h₂ c0 (by decide)) $$ R1
  iintro R1
  iapply (issue c B.a24 B.a19 B.a2 q1024 W.w2 1 s b h₁ h₂ c1 (by decide)) $$ R2
  iintro R2
  iapply (issue c B.a24 B.a20 B.a3 q1024 W.w3 2 s b h₁ h₂ c2 (by decide)) $$ R3
  iintro R3
  rw [show (pure ⟨⟩ : Prog (TpuEff nD τ sig (Elt F) Λ₀ .tc) PUnit) = Prog.ret ⟨⟩ from rfl, wp_ret]
  imodintro
  iapply HK
  isplitl [R1]; · iexact R1
  isplitl [R2]; · iexact R2
  iexact R3

/-- The last three operands' first blocks, and the first two's second. -/
theorem part2 (i : grid0.Coords) (Q : PUnit → sProp 𝕄) :
    iprop(ready c B.a24 B.a21 B.a4 q2048 W.w4 3 0 ∗ ready c B.a24 B.a22 B.a5 q1536 W.w5 4 0 ∗ ready c B.a24 B.a23 B.a6 q512 W.w6 5 0
        ∗ ready c B.a24 B.a18 B.a1 q1024 W.w1 0 1 ∗ ready c B.a24 B.a19 B.a2 q1024 W.w2 1 1)
      ⊢ iprop((fly c B.a24 B.a21 B.a4 q2048 W.w4 3 0 0 ∗ fly c B.a24 B.a22 B.a5 q1536 W.w5 4 0 0 ∗ fly c B.a24 B.a23 B.a6 q512 W.w6 5 0 0
          ∗ fly c B.a24 B.a18 B.a1 q1024 W.w1 0 1 1 ∗ fly c B.a24 B.a19 B.a2 q1024 W.w2 1 1 1 -∗ Q ⟨⟩)
        -∗ wp frame (wpE (defs₀ (F := F)) Variants.none (c : Thread nD τ) none) Set.univ (k0_part2 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24) Q) := by
  rw [k0_part2_eq_skeleton]
  unfold k0_part2_skel
  dsimp only
  iintro ⟨R4, R5, R6, R1, R2⟩ HK
  iapply (issue c B.a24 B.a21 B.a4 q2048 W.w4 3 0 0 rfl rfl rfl (by decide)) $$ R4
  iintro R4
  iapply (issue c B.a24 B.a22 B.a5 q1536 W.w5 4 0 0 rfl rfl rfl (by decide)) $$ R5
  iintro R5
  iapply (issue c B.a24 B.a23 B.a6 q512 W.w6 5 0 0 rfl rfl rfl (by decide)) $$ R6
  iintro R6
  iapply (issue c B.a24 B.a18 B.a1 q1024 W.w1 0 1 1 rfl rfl rfl (by decide)) $$ R1
  iintro R1
  iapply (issue c B.a24 B.a19 B.a2 q1024 W.w2 1 1 1 rfl rfl rfl (by decide)) $$ R2
  iintro R2
  rw [show (pure ⟨⟩ : Prog (TpuEff nD τ sig (Elt F) Λ₀ .tc) PUnit) = Prog.ret ⟨⟩ from rfl, wp_ret]
  imodintro
  iapply HK
  isplitl [R4]; · iexact R4
  isplitl [R5]; · iexact R5
  isplitl [R6]; · iexact R6
  isplitl [R1]; · iexact R1
  iexact R2

/-! ## Which slot and which block -/

abbrev sl3 (p : ℕ) : Fin 3 := Ring.sl 3 p
abbrev bk8 (p : ℕ) : Fin 8 := Ring.bk 8 p

theorem cond_first : ∀ t : Fin grid0.N, Scalar.cmpi .ne (Scalar.extui (Scalar.cmpi .eq (BitVec.ofNat 32 (grid0.coords t 0).val) 0#32) : BitVec 32) 0#32 = 1#1 ↔ t.val = 0 := by decide +kernel
theorem cond_ahead : ∀ t : Fin grid0.N, k0_cond2 (grid0.coords t) = 1#1 ↔ t.val + 2 < 8 := by decide +kernel

/-- Two steps ahead: the slot, the six semaphores, the block. -/
theorem ahead_slot : ∀ t : Fin grid0.N, k0_off2 (grid0.coords t) = ![(sl3 (t.val + 2)).val, 0, 0] ∧ k0_off7 (grid0.coords t) = ![(sl3 (t.val + 2)).val, 0, 0]
    ∧ k0_off10 (grid0.coords t) = ![(sl3 (t.val + 2)).val, 0, 0] ∧ k0_off13 (grid0.coords t) = ![(sl3 (t.val + 2)).val, 0, 0] := by decide +kernel
theorem ahead_cell : ∀ t : Fin grid0.N, k0_off1 (grid0.coords t) = ![0, (sl3 (t.val + 2)).val] ∧ k0_off4 (grid0.coords t) = ![1, (sl3 (t.val + 2)).val]
    ∧ k0_off5 (grid0.coords t) = ![2, (sl3 (t.val + 2)).val] ∧ k0_off6 (grid0.coords t) = ![3, (sl3 (t.val + 2)).val]
    ∧ k0_off9 (grid0.coords t) = ![4, (sl3 (t.val + 2)).val] ∧ k0_off12 (grid0.coords t) = ![5, (sl3 (t.val + 2)).val] := by decide +kernel
theorem ahead_block : ∀ t : Fin grid0.N, t.val + 2 < 8 → k0_off3 (grid0.coords t) = ![512 * (7 - (bk8 (t.val + 2)).val), 0]
    ∧ k0_off8 (grid0.coords t) = ![512 * (7 - (bk8 (t.val + 2)).val), 0] ∧ k0_off11 (grid0.coords t) = ![512 * (7 - (bk8 (t.val + 2)).val), 0]
    ∧ k0_off14 (grid0.coords t) = ![512 * (7 - (bk8 (t.val + 2)).val), 0] := by decide +kernel
/-- This step's slot and semaphores. -/
theorem now_slot : ∀ t : Fin grid0.N, k0_off16 (grid0.coords t) = ![(sl3 t.val).val, 0, 0] ∧ k0_off21 (grid0.coords t) = ![(sl3 t.val).val, 0, 0]
    ∧ k0_off24 (grid0.coords t) = ![(sl3 t.val).val, 0, 0] ∧ k0_off27 (grid0.coords t) = ![(sl3 t.val).val, 0, 0]
    ∧ k0_off29 (grid0.coords t) = ![(sl3 t.val).val, 0, 0] ∧ k0_off30 (grid0.coords t) = ![(sl3 t.val).val, 0, 0]
    ∧ k0_off31 (grid0.coords t) = ![(sl3 t.val).val, 0, 0] := by decide +kernel
theorem now_cell : ∀ t : Fin grid0.N, k0_off15 (grid0.coords t) = ![0, (sl3 t.val).val] ∧ k0_off18 (grid0.coords t) = ![1, (sl3 t.val).val]
    ∧ k0_off19 (grid0.coords t) = ![2, (sl3 t.val).val] ∧ k0_off20 (grid0.coords t) = ![3, (sl3 t.val).val]
    ∧ k0_off23 (grid0.coords t) = ![4, (sl3 t.val).val] ∧ k0_off26 (grid0.coords t) = ![5, (sl3 t.val).val] := by decide +kernel

/-! ## The slots before a step -/

/-- The slot of the block `j` steps after step `p`: the block is on its way, if there is one. -/
def role (p : ℕ) : sProp 𝕄 := if p < 8 then fly6 c B W (sl3 p) (bk8 p) else ready6 c B W (sl3 p)
/-- The three slots before step `p`. -/
def ring (p : ℕ) : sProp 𝕄 :=
  if p = 0 then iprop(ready6 c B W 0 ∗ ready6 c B W 1 ∗ ready6 c B W 2) else iprop(role c B W p ∗ role c B W (p + 1) ∗ ready6 c B W (sl3 (p + 2)))

/-- The buffers the steps share, as step `p` finds them once it has cleared them if it is the first. -/
def dyAt (p : ℕ) (X : S8x512.Idx → Elt F .f32) : S8x512.Idx → Elt F .f32 := if p = 0 then zeroDy else X
def cwAt (p : ℕ) (Y : S3x512.Idx → Elt F .f32) : S3x512.Idx → Elt F .f32 := if p = 0 then zeroCw else Y

abbrev shared (X : S8x512.Idx → Elt F .f32) (Y : S3x512.Idx → Elt F .f32) : sProp 𝕄 :=
  iprop(owns (c : Thread nD τ) B.a17 fullShare X ∗ owns (c : Thread nD τ) B.a16 fullShare Y)

theorem dyAt_first {t : ℕ} (X : S8x512.Idx → Elt F .f32) (h : t = 0) : dyAt t X = zeroDy (F := F) := by
  unfold dyAt; rw [if_pos h]

theorem cwAt_first {t : ℕ} (Y : S3x512.Idx → Elt F .f32) (h : t = 0) : cwAt t Y = zeroCw (F := F) := by
  unfold cwAt; rw [if_pos h]

set_option maxHeartbeats 2000000 in
/-- The step's transfers out, and its wait for its first two blocks. -/
theorem part4 (t : Fin grid0.N) (Q : BitVec 32 → sProp 𝕄) (X : S8x512.Idx → Elt F .f32) (Y : S3x512.Idx → Elt F .f32) :
    iprop(ring c B W t.val ∗ shared c B X Y ∗ ∃ w, owes (c : Thread nD τ) 0 w)
      ⊢ iprop((((arrived c B.a24 B.a18 B.a1 q1024 W.w1 0 (sl3 t.val) (bk8 t.val) ∗ arrived c B.a24 B.a19 B.a2 q1024 W.w2 1 (sl3 t.val) (bk8 t.val)
            ∗ fly c B.a24 B.a20 B.a3 q1024 W.w3 2 (sl3 t.val) (bk8 t.val) ∗ fly c B.a24 B.a21 B.a4 q2048 W.w4 3 (sl3 t.val) (bk8 t.val)
            ∗ fly c B.a24 B.a22 B.a5 q1536 W.w5 4 (sl3 t.val) (bk8 t.val) ∗ fly c B.a24 B.a23 B.a6 q512 W.w6 5 (sl3 t.val) (bk8 t.val))
            ∗ (role c B W (t.val + 1) ∗ role c B W (t.val + 2)) ∗ shared c B (dyAt t.val X) (cwAt t.val Y) ∗ (∃ w, owes (c : Thread nD τ) 0 w))
          -∗ Q (BitVec.ofNat 32 (grid0.coords t 0).val))
        -∗ wp frame (wpE (defs₀ (F := F)) Variants.none (c : Thread nD τ) none) Set.univ (k0_part4 (F := F) (grid0.coords t) B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24) Q) := by
  have ht : t.val < 8 := t.isLt
  obtain ⟨n16, n21, n24, n27, -, -, -⟩ := now_slot t
  obtain ⟨c15, c18, -, -, -, -⟩ := now_cell t
  rw [k0_part4_eq_skeleton]
  unfold k0_part4_skel
  extract_lets a0 b0 b1 b2
  rename_i jw jp w1 w2 w3 w4 w5 w6 w7 w8 w9 w10 w11 w12 w13 w14 w15 w16 w17 w18 w19 w20
  -- what follows the first step's clearing
  have rest : iprop((fly6 c B W (sl3 t.val) (bk8 t.val) ∗ role c B W (t.val + 1) ∗ ready6 c B W (sl3 (t.val + 2)))
        ∗ shared c B (dyAt t.val X) (cwAt t.val Y) ∗ ∃ w, owes (c : Thread nD τ) 0 w)
      ⊢ iprop((((arrived c B.a24 B.a18 B.a1 q1024 W.w1 0 (sl3 t.val) (bk8 t.val) ∗ arrived c B.a24 B.a19 B.a2 q1024 W.w2 1 (sl3 t.val) (bk8 t.val)
            ∗ fly c B.a24 B.a20 B.a3 q1024 W.w3 2 (sl3 t.val) (bk8 t.val) ∗ fly c B.a24 B.a21 B.a4 q2048 W.w4 3 (sl3 t.val) (bk8 t.val)
            ∗ fly c B.a24 B.a22 B.a5 q1536 W.w5 4 (sl3 t.val) (bk8 t.val) ∗ fly c B.a24 B.a23 B.a6 q512 W.w6 5 (sl3 t.val) (bk8 t.val))
            ∗ (role c B W (t.val + 1) ∗ role c B W (t.val + 2)) ∗ shared c B (dyAt t.val X) (cwAt t.val Y) ∗ (∃ w, owes (c : Thread nD τ) 0 w))
          -∗ Q (BitVec.ofNat 32 (grid0.coords t 0).val))
        -∗ wp frame (wpE (defs₀ (F := F)) Variants.none (c : Thread nD τ) none) Set.univ (jp ⟨⟩) Q) := by
    dsimp only [jp]
    have waits : ∀ r2 : sProp 𝕄, iprop((fly6 c B W (sl3 t.val) (bk8 t.val) ∗ role c B W (t.val + 1) ∗ r2)
        ∗ shared c B (dyAt t.val X) (cwAt t.val Y) ∗ ∃ w, owes (c : Thread nD τ) 0 w)
      ⊢ iprop((((arrived c B.a24 B.a18 B.a1 q1024 W.w1 0 (sl3 t.val) (bk8 t.val) ∗ arrived c B.a24 B.a19 B.a2 q1024 W.w2 1 (sl3 t.val) (bk8 t.val)
            ∗ fly c B.a24 B.a20 B.a3 q1024 W.w3 2 (sl3 t.val) (bk8 t.val) ∗ fly c B.a24 B.a21 B.a4 q2048 W.w4 3 (sl3 t.val) (bk8 t.val)
            ∗ fly c B.a24 B.a22 B.a5 q1536 W.w5 4 (sl3 t.val) (bk8 t.val) ∗ fly c B.a24 B.a23 B.a6 q512 W.w6 5 (sl3 t.val) (bk8 t.val))
            ∗ (role c B W (t.val + 1) ∗ r2) ∗ shared c B (dyAt t.val X) (cwAt t.val Y) ∗ (∃ w, owes (c : Thread nD τ) 0 w))
          -∗ Q (BitVec.ofNat 32 (grid0.coords t 0).val))
        -∗ wp frame (wpE (defs₀ (F := F)) Variants.none (c : Thread nD τ) none) Set.univ (jw ⟨⟩) Q) := by
      intro r2
      dsimp only [jw]
      unfold fly6 six
      iintro ⟨⟨⟨F1, F2, F3, F4, F5, F6⟩, R1, R2⟩, HS, HO⟩ HK
      iapply (collect c B.a24 B.a18 B.a1 q1024 W.w1 0 (sl3 t.val) (bk8 t.val) n16 c15) $$ [F1 HO]
      · isplitl [F1]; · iexact F1
        iexact HO
      iintro ⟨F1, HO⟩
      iapply (collect c B.a24 B.a19 B.a2 q1024 W.w2 1 (sl3 t.val) (bk8 t.val) n16 c18) $$ [F2 HO]
      · isplitl [F2]; · iexact F2
        iexact HO
      iintro ⟨F2, HO⟩
      rw [show (pure a0 : Prog (TpuEff nD τ sig (Elt F) Λ₀ .tc) (BitVec 32)) = Prog.ret a0 from rfl, wp_ret]
      imodintro
      iapply HK
      isplitl [F1 F2 F3 F4 F5 F6]
      · isplitl [F1]; · iexact F1
        isplitl [F2]; · iexact F2
        isplitl [F3]; · iexact F3
        isplitl [F4]; · iexact F4
        isplitl [F5]; · iexact F5
        iexact F6
      isplitl [R1 R2]
      · isplitl [R1]; · iexact R1
        iexact R2
      isplitl [HS]; · iexact HS
      iexact HO
    by_cases h2 : t.val + 2 < 8
    · have hc := (cond_ahead t).mpr h2
      obtain ⟨s0, s3, s4, s5⟩ := ahead_slot t
      obtain ⟨d0, d1, d2, d3, d4, d5⟩ := ahead_cell t
      obtain ⟨g0, g3, g4, g5⟩ := ahead_block t h2
      rw [dif_pos hc]
      unfold ready6 six
      iintro ⟨⟨HF, R1, ⟨F1, F2, F3, F4, F5, F6⟩⟩, HS, HO⟩ HK
      rw [wp_bind]
      iapply (part3 c B W (grid0.coords t) a0 hc (sl3 (t.val + 2)) (bk8 (t.val + 2)) _ s0 g0 d0 d1 d2) $$ [F1 F2 F3]
      · isplitl [F1]; · iexact F1
        isplitl [F2]; · iexact F2
        iexact F3
      iintro ⟨F1, F2, F3⟩
      iapply (issue c B.a24 B.a21 B.a4 q2048 W.w4 3 (sl3 (t.val + 2)) (bk8 (t.val + 2)) s3 g3 d3 (by decide)) $$ F4
      iintro F4
      iapply (issue c B.a24 B.a22 B.a5 q1536 W.w5 4 (sl3 (t.val + 2)) (bk8 (t.val + 2)) s4 g4 d4 (by decide)) $$ F5
      iintro F5
      iapply (issue c B.a24 B.a23 B.a6 q512 W.w6 5 (sl3 (t.val + 2)) (bk8 (t.val + 2)) s5 g5 d5 (by decide)) $$ F6
      iintro F6
      iapply (waits (role c B W (t.val + 2))) $$ [HF R1 F1 F2 F3 F4 F5 F6 HS HO]
      · isplitl [HF R1 F1 F2 F3 F4 F5 F6]
        · isplitl [HF]; · iexact HF
          isplitl [R1]; · iexact R1
          rw [show role c B W (t.val + 2) = fly6 c B W (sl3 (t.val + 2)) (bk8 (t.val + 2)) from if_pos h2]
          unfold fly6 six
          isplitl [F1]; · iexact F1
          isplitl [F2]; · iexact F2
          isplitl [F3]; · iexact F3
          isplitl [F4]; · iexact F4
          isplitl [F5]; · iexact F5
          iexact F6
        isplitl [HS]; · iexact HS
        iexact HO
      iexact HK
    · rw [dif_neg (fun h => h2 ((cond_ahead t).mp h))]
      have w := waits (role c B W (t.val + 2))
      rw [show role c B W (t.val + 2) = ready6 c B W (sl3 (t.val + 2)) from if_neg h2] at w
      rw [show role c B W (t.val + 2) = ready6 c B W (sl3 (t.val + 2)) from if_neg h2]
      exact w
  by_cases h0 : t.val = 0
  · have e0 : sl3 t.val = 0 := by rw [h0]; rfl
    have e1 : bk8 t.val = 0 := by rw [h0]; rfl
    have e2 : sl3 (t.val + 1) = 1 := by rw [h0]; rfl
    have e3 : bk8 (t.val + 1) = 1 := by rw [h0]; rfl
    have e4 : sl3 (t.val + 2) = 2 := by rw [h0]; rfl
    have er : role c B W (t.val + 1) = fly6 c B W 1 1 := by unfold role; rw [if_pos (by omega), e2, e3]
    rw [dif_pos ((cond_first t).mpr h0)]
    unfold ring
    rw [if_pos h0]
    rw [er, e0, e1, e4] at rest
    rw [er, e0, e1]
    unfold ready6 fly6 six at *
    iintro ⟨⟨⟨F1, F2, F3, F4, F5, F6⟩, ⟨G1, G2, G3, G4, G5, G6⟩, R2⟩, ⟨HX, HY⟩, HO⟩ HK
    rw [wp_bind]
    iapply (part1 c B W (grid0.coords t) _ X Y) $$ [F1 F2 F3 HX HY]
    · isplitl [F1]; · iexact F1
      isplitl [F2]; · iexact F2
      isplitl [F3]; · iexact F3
      isplitl [HX]; · iexact HX
      iexact HY
    iintro ⟨F1, F2, F3, HX, HY⟩
    rw [wp_bind]
    iapply (part2 c B W (grid0.coords t) _) $$ [F4 F5 F6 G1 G2]
    · isplitl [F4]; · iexact F4
      isplitl [F5]; · iexact F5
      isplitl [F6]; · iexact F6
      isplitl [G1]; · iexact G1
      iexact G2
    iintro ⟨F4, F5, F6, G1, G2⟩
    iapply (issue c B.a24 B.a20 B.a3 q1024 W.w3 2 1 1 rfl rfl rfl (by decide)) $$ G3
    iintro G3
    iapply (issue c B.a24 B.a21 B.a4 q2048 W.w4 3 1 1 rfl rfl rfl (by decide)) $$ G4
    iintro G4
    iapply (issue c B.a24 B.a22 B.a5 q1536 W.w5 4 1 1 rfl rfl rfl (by decide)) $$ G5
    iintro G5
    iapply (issue c B.a24 B.a23 B.a6 q512 W.w6 5 1 1 rfl rfl rfl (by decide)) $$ G6
    iintro G6
    iapply rest $$ [F1 F2 F3 F4 F5 F6 G1 G2 G3 G4 G5 G6 R2 HX HY HO]
    · isplitr [HX HY HO]
      · isplitl [F1 F2 F3 F4 F5 F6]
        · isplitl [F1]; · iexact F1
          isplitl [F2]; · iexact F2
          isplitl [F3]; · iexact F3
          isplitl [F4]; · iexact F4
          isplitl [F5]; · iexact F5
          iexact F6
        isplitl [G1 G2 G3 G4 G5 G6]
        · isplitl [G1]; · iexact G1
          isplitl [G2]; · iexact G2
          isplitl [G3]; · iexact G3
          isplitl [G4]; · iexact G4
          isplitl [G5]; · iexact G5
          iexact G6
        iexact R2
      isplitl [HX HY]
      · rw [dyAt_first X h0, cwAt_first Y h0]
        isplitl [HX]; · iexact HX
        iexact HY
      iexact HO
    iexact HK
  · rw [dif_neg (fun h => h0 ((cond_first t).mp h))]
    rw [show dyAt t.val X = X from if_neg h0, show cwAt t.val Y = Y from if_neg h0] at rest
    rw [show dyAt t.val X = X from if_neg h0, show cwAt t.val Y = Y from if_neg h0]
    unfold ring
    rw [if_neg h0, show role c B W t.val = fly6 c B W (sl3 t.val) (bk8 t.val) from if_pos ht]
    exact rest

end Cert.Mg

end
-- ==== Proof.MgCompute.lean ====
/- What one step of the merge's backward kernel computes from the blocks it received, its input windows, the rows carried over from the
   step before and the accumulated weight gradient: every value it stores, and the whole step as a triple over its buffers. -/
module

public import proofs.«01_k».proof.Proof.MgMoves

@[expose] public section

set_option maxRecDepth 16384

noncomputable section

namespace Cert.Mg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal
open Cert.Kernel5Ideal.Facts₀ Cert.Kernel5Ideal.Facts
open Cert.Kernel5Ideal.Gen

variable {F : FTy → Type} [FloatOps F]

local notation "𝕄" => MT nD τ sig Unit (Elt F) ℕ (Pipeline.UD sig nD τ) ℕ

/-! ## The values -/

/-- What a step reads: the six blocks received, the four input windows, the carried rows and the accumulated weight gradient. -/
structure Ins (F : FTy → Type) [FloatOps F] where
  g1 : (Bk 1024).Idx → Elt F .f32
  g2 : (Bk 1024).Idx → Elt F .bf16
  g3 : (Bk 1024).Idx → Elt F .bf16
  g4 : (Bk 2048).Idx → Elt F .bf16
  g5 : (Bk 1536).Idx → Elt F .bf16
  g6 : (Bk 512).Idx → Elt F .bf16
  u : S8x512x128.Idx → Elt F .bf16
  v : S8x512x128.Idx → Elt F .bf16
  m : S1024x1024.Idx → Elt F .bf16
  k : S3x512.Idx → Elt F .f32
  x : S8x512.Idx → Elt F .f32
  y : S3x512.Idx → Elt F .f32

/-- A block as the one layer a load gives. -/
def layer {n : ℕ} {e : EltTy} (hq : (R1 n).Squeezes (Bk n)) (g : (Bk n).Idx → Elt F e) : (R1 n).Idx → Elt F e :=
  fun j => g ((Shape.reshapeEquiv hq.numel_eq).symm j)
/-- A rectangle of an array. -/
def part {s : Shape} {e : EltTy} (r : Rect s) (X : s.Idx → Elt F e) : r.shape.Idx → Elt F e := fun j => X (r.emb j)

abbrev rl (l : ℕ) (h : ∀ a, (![l, 0, 0] : Fin 3 → ℕ) a + S1x512x128.size a ≤ S8x512x128.size a) : Rect S8x512x128 := Rect.unit (s := S8x512x128) ![l, 0, 0] S1x512x128.size h
abbrev rm : Rect S1024x1024 := Rect.unit (s := S1024x1024) ![0, 0] S1024x1024.size Gen.inb_S1024x1024_S1024x1024_0_0
abbrev rg0 : Rect S512x2048 := Rect.unit (s := S512x2048) ![0, 0] S512x1024.size Gen.inb_S512x2048_S512x1024_0_0
abbrev rg1 : Rect S512x2048 := Rect.unit (s := S512x2048) ![0, 1024] S512x1024.size Gen.inb_S512x2048_S512x1024_0_1024
abbrev rk0 : Rect S3x512 := Rect.unit (s := S3x512) ![0, 0] S1x512.size Gen.inb_S3x512_S1x512_0_0
abbrev rk1 : Rect S3x512 := Rect.unit (s := S3x512) ![1, 0] S1x512.size Gen.inb_S3x512_S1x512_1_0
abbrev rk2 : Rect S3x512 := Rect.unit (s := S3x512) ![2, 0] S1x512.size Gen.inb_S3x512_S1x512_2_0
abbrev rx0 : Rect S8x512 := Rect.unit (s := S8x512) ![0, 0] S1x512.size Gen.inb_S8x512_S1x512_0_0
abbrev rx1 : Rect S8x512 := Rect.unit (s := S8x512) ![1, 0] S1x512.size Gen.inb_S8x512_S1x512_1_0
abbrev rp0 : Rect S512x1536 := Rect.unit (s := S512x1536) ![0, 0] S512x512.size Gen.inb_S512x1536_S512x512_0_0
abbrev rp1 : Rect S512x1536 := Rect.unit (s := S512x1536) ![0, 512] S512x512.size Gen.inb_S512x1536_S512x512_0_512
abbrev rp2 : Rect S512x1536 := Rect.unit (s := S512x1536) ![0, 1024] S512x512.size Gen.inb_S512x1536_S512x512_0_1024

namespace Ins
variable (I : Ins F)
def e116 : FVec F S512x1024 .f32 := k0_pay7 (layer q1024 I.g1) (part rm I.m)
def u0 : FVec F S512x128 .bf16 := k0_pay8 (part (rl 0 Gen.inb_S8x512x128_S1x512x128_0_0_0) I.u)
def u1 : FVec F S512x128 .bf16 := k0_pay9 (part (rl 1 Gen.inb_S8x512x128_S1x512x128_1_0_0) I.u)
def u2 : FVec F S512x128 .bf16 := k0_pay10 (part (rl 2 Gen.inb_S8x512x128_S1x512x128_2_0_0) I.u)
def u3 : FVec F S512x128 .bf16 := k0_pay11 (part (rl 3 Gen.inb_S8x512x128_S1x512x128_3_0_0) I.u)
def u4 : FVec F S512x128 .bf16 := k0_pay12 (part (rl 4 Gen.inb_S8x512x128_S1x512x128_4_0_0) I.u)
def u5 : FVec F S512x128 .bf16 := k0_pay13 (part (rl 5 Gen.inb_S8x512x128_S1x512x128_5_0_0) I.u)
def u6 : FVec F S512x128 .bf16 := k0_pay14 (part (rl 6 Gen.inb_S8x512x128_S1x512x128_6_0_0) I.u)
def e133 : FVec F S512x1024 .bf16 := k0_pay15 I.u0 I.u1 I.u2 I.u3 I.u4 I.u5 I.u6 (part (rl 7 Gen.inb_S8x512x128_S1x512x128_7_0_0) I.u)
def e150 : FVec F S512x1024 .bf16 := k0_pay16 (part (rl 0 Gen.inb_S8x512x128_S1x512x128_0_0_0) I.v) (part (rl 1 Gen.inb_S8x512x128_S1x512x128_1_0_0) I.v) (part (rl 2 Gen.inb_S8x512x128_S1x512x128_2_0_0) I.v) (part (rl 3 Gen.inb_S8x512x128_S1x512x128_3_0_0) I.v) (part (rl 4 Gen.inb_S8x512x128_S1x512x128_4_0_0) I.v) (part (rl 5 Gen.inb_S8x512x128_S1x512x128_5_0_0) I.v) (part (rl 6 Gen.inb_S8x512x128_S1x512x128_6_0_0) I.v) (part (rl 7 Gen.inb_S8x512x128_S1x512x128_7_0_0) I.v)
def e154 : FVec F S512x1024 .f32 := k0_pay17 (layer q1024 I.g2)
def e158 : FVec F S512x1024 .f32 := k0_pay18 (layer q1024 I.g3)
def e195 : FVec F S512x1024 .bf16 := k0_pay25 I.e116 (part rg0 I.g4)
def e196 : FVec F S512x1024 .bf16 := k0_pay26 I.e116 (part rg1 I.g4)
def e206 : FVec F S512x512 .f32 := k0_pay30 (layer q1536 I.g5)
def e208 : FVec F S512x512 .f32 := k0_pay31 (layer q1536 I.g5)
def e209 : FVec F S512x512 .f32 := k0_pay32 (layer q1536 I.g5)
def e210 : IVec S512x512 32 := iota .tc S512x512 32 [0] Gen.iota_S512x512_d0_w32
def e221 : FVec F S512x512 .f32 := k0_pay34 I.e150 I.e196 (layer q1536 I.g5)
def e226 : FVec F S512x512 .f32 := k0_pay36 I.e150 I.e196 (layer q1536 I.g5)
def e228 : FVec F S512x512 .f32 := k0_pay37 (part rx0 I.x)
def e240 : FVec F S512x512 .f32 := k0_pay39 e210 I.e221 (part rx0 I.x) (part rx1 I.x)
def e266 : FVec F S512x512 .f32 := k0_pay43 (part rk1 I.k) (part rk2 I.k) I.e221 k0_pay35 I.e226 I.e228
def e267 : FVec F S512x512 .f32 := k0_pay44 (part rk0 I.k)
def y1 : S3x512.Idx → Elt F .f32 := Cert.Hg.put rk0 (k0_pay40 I.e209 e210 I.e221 (part rx0 I.x) (part rx1 I.x) (part rk0 I.y)) I.y
def y2 : S3x512.Idx → Elt F .f32 := Cert.Hg.put rk1 (k0_pay41 I.e209 k0_pay35 I.e226 I.e228 (part rk1 I.y1)) I.y1
/-- The accumulated weight gradient after the step. -/
def y3 : S3x512.Idx → Elt F .f32 := Cert.Hg.put rk2 (k0_pay42 I.e209 I.e221 (part rk2 I.y2)) I.y2
/-- The gates' cotangent, over what its window held. -/
def o11 (d : S512x2048.Idx → Elt F .bf16) : S512x2048.Idx → Elt F .bf16 :=
  Cert.Hg.put rg1 (k0_pay24 I.e116 I.e158 (part rg1 I.g4)) (Cert.Hg.put rg0 (k0_pay23 I.e116 I.e154 (part rg0 I.g4)) d)
def o14 : S512x512.Idx → Elt F .f32 := k0_pay27 I.e133 I.e195
/-- The projections' cotangent, its middle third first, over what its window held. -/
def o15a (d : S512x1536.Idx → Elt F .bf16) : S512x1536.Idx → Elt F .bf16 := Cert.Hg.put rp1 (k0_pay33 I.e150 I.e196 (layer q512 I.g6)) d
def o15 (d : S512x1536.Idx → Elt F .bf16) : S512x1536.Idx → Elt F .bf16 :=
  Cert.Hg.put rp2 (k0_pay3 I.e206 I.e240 I.e266 I.e267) (Cert.Hg.put rp0 (k0_pay2 I.e208 I.e240 I.e266 I.e267) (I.o15a d))
/-- The rows carried to the next step. -/
def x1 : S8x512.Idx → Elt F .f32 := k0_pay4 I.e221
end Ins

/-! ## The step, part by part -/

variable (c : Dev nD) (B : Bufs) (W : Held F c B) (I : Ins F)

/-- The wait for the other four blocks. -/
theorem part5 (i : grid0.Coords) (a0 : BitVec 32) (s : Fin 3) (b : Fin 8) (Q : (Σ' (v59 : BitVec 32) (v61 : BitVec 32) (v62 : BitVec 32), BitVec 1) → sProp 𝕄)
    (n16 : k0_off16 i = ![s.val, 0, 0]) (n21 : k0_off21 i = ![s.val, 0, 0]) (n24 : k0_off24 i = ![s.val, 0, 0]) (n27 : k0_off27 i = ![s.val, 0, 0])
    (c19 : k0_off19 i = ![2, s.val]) (c20 : k0_off20 i = ![3, s.val]) (c23 : k0_off23 i = ![4, s.val]) (c26 : k0_off26 i = ![5, s.val]) :
    iprop(fly c B.a24 B.a20 B.a3 q1024 W.w3 2 s b ∗ fly c B.a24 B.a21 B.a4 q2048 W.w4 3 s b ∗ fly c B.a24 B.a22 B.a5 q1536 W.w5 4 s b ∗ fly c B.a24 B.a23 B.a6 q512 W.w6 5 s b ∗ (∃ w, owes (c : Thread nD τ) 0 w))
      ⊢ iprop((arrived c B.a24 B.a20 B.a3 q1024 W.w3 2 s b ∗ arrived c B.a24 B.a21 B.a4 q2048 W.w4 3 s b ∗ arrived c B.a24 B.a22 B.a5 q1536 W.w5 4 s b ∗ arrived c B.a24 B.a23 B.a6 q512 W.w6 5 s b ∗ (∃ w, owes (c : Thread nD τ) 0 w) -∗ ∀ v, Q v)
        -∗ wp frame (wpE (defs₀ (F := F)) Variants.none (c : Thread nD τ) none) Set.univ (k0_part5 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 a0) Q) := by
  rw [k0_part5_eq_skeleton]
  unfold k0_part5_skel
  dsimp only
  iintro ⟨F3, F4, F5, F6, HO⟩ HK
  iapply (collect c B.a24 B.a20 B.a3 q1024 W.w3 2 s b n16 c19) $$ [F3 HO]
  · isplitl [F3]; · iexact F3
    iexact HO
  iintro ⟨F3, HO⟩
  iapply (collect c B.a24 B.a21 B.a4 q2048 W.w4 3 s b n21 c20) $$ [F4 HO]
  · isplitl [F4]; · iexact F4
    iexact HO
  iintro ⟨F4, HO⟩
  iapply (collect c B.a24 B.a22 B.a5 q1536 W.w5 4 s b n24 c23) $$ [F5 HO]
  · isplitl [F5]; · iexact F5
    iexact HO
  iintro ⟨F5, HO⟩
  iapply (collect c B.a24 B.a23 B.a6 q512 W.w6 5 s b n27 c26) $$ [F6 HO]
  · isplitl [F6]; · iexact F6
    iexact HO
  iintro ⟨F6, HO⟩
  rw [show ∀ v, (pure v : Prog (TpuEff nD τ sig (Elt F) Λ₀ .tc) _) = Prog.ret v from fun _ => rfl, wp_ret]
  imodintro
  iapply HK $$ [F3 F4 F5 F6 HO]
  isplitl [F3]; · iexact F3
  isplitl [F4]; · iexact F4
  isplitl [F5]; · iexact F5
  isplitl [F6]; · iexact F6
  iexact HO

/-- The slot numbers, for the second time. -/
theorem part6 (i : grid0.Coords) (a0 b1 b2 : BitVec 32) (b3 : BitVec 1)
    (Q : (Σ' (v69 : BitVec 32) (v79 : BitVec 32) (v99 : BitVec 32) (c3_i32_58 : BitVec 32) (v100 : BitVec 1), BitVec 32) → sProp 𝕄) :
    iprop(∀ v, Q v) ⊢ wp frame (wpE (defs₀ (F := F)) Variants.none (c : Thread nD τ) none) Set.univ (k0_part6 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 a0 b1 b2 b3) Q := by
  rw [k0_part6_eq_skeleton]
  unfold k0_part6_skel
  dsimp only
  iintro HK
  rw [show ∀ v, (pure v : Prog (TpuEff nD τ sig (Elt F) Λ₀ .tc) _) = Prog.ret v from fun _ => rfl, wp_ret]
  imodintro
  iapply HK

/-- The cotangent of the merged activations, and the first seven layers of the first value window. -/
theorem part7 (i : grid0.Coords) (a0 b1 b2 : BitVec 32) (b3 : BitVec 1) (b4 : BitVec 32) (s : Fin 3) (Q : (Σ' (v109 : BitVec 32) (v116 : FVec F S512x1024 .f32) (v118 : FVec F S512x128 .bf16) (v120 : FVec F S512x128 .bf16) (v122 : FVec F S512x128 .bf16) (v124 : FVec F S512x128 .bf16) (v126 : FVec F S512x128 .bf16) (v128 : FVec F S512x128 .bf16), FVec F S512x128 .bf16) → sProp 𝕄)
    (n29 : k0_off29 i = ![s.val, 0, 0]) :
    iprop(owns (c : Thread nD τ) (slot B.a18 q1024 s) fullShare I.g1 ∗ owns (c : Thread nD τ) B.a9 fullShare I.m ∗ owns (c : Thread nD τ) B.a7 fullShare I.u)
      ⊢ iprop((owns (c : Thread nD τ) (slot B.a18 q1024 s) fullShare I.g1 ∗ owns (c : Thread nD τ) B.a9 fullShare I.m ∗ owns (c : Thread nD τ) B.a7 fullShare I.u -∗ ∀ v, Q ⟨v, I.e116, I.u0, I.u1, I.u2, I.u3, I.u4, I.u5, I.u6⟩)
        -∗ wp frame (wpE (defs₀ (F := F)) Variants.none (c : Thread nD τ) none) Set.univ (k0_part7 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 a0 b1 b2 b3 b4) Q) := by
  rw [k0_part7_eq_skeleton]
  unfold k0_part7_skel
  dsimp only
  iintro ⟨G1, H9, H7⟩ HK
  iapply (ldSlot c n29) $$ G1
  iintro G1
  iapply (ld c) $$ H9
  iintro H9
  iapply (ld c) $$ H7
  iintro H7
  iapply (ld c) $$ H7
  iintro H7
  iapply (ld c) $$ H7
  iintro H7
  iapply (ld c) $$ H7
  iintro H7
  iapply (ld c) $$ H7
  iintro H7
  iapply (ld c) $$ H7
  iintro H7
  iapply (ld c) $$ H7
  iintro H7
  rw [show ∀ v, (pure v : Prog (TpuEff nD τ sig (Elt F) Λ₀ .tc) _) = Prog.ret v from fun _ => rfl, wp_ret]
  imodintro
  change Entails' _ (Q ⟨_, I.e116, I.u0, I.u1, I.u2, I.u3, I.u4, I.u5, I.u6⟩)
  iapply HK $$ [G1 H9 H7]
  isplitl [G1]; · iexact G1
  isplitl [H9]; · iexact H9
  iexact H7

/-- The two value windows side by side, and two of the blocks. -/
theorem part8 (i : grid0.Coords) (b1 b2 : BitVec 32) (s : Fin 3) (Q : (Σ' (v133 : FVec F S512x1024 .bf16) (v150 : FVec F S512x1024 .bf16) (v154 : FVec F S512x1024 .f32), FVec F S512x1024 .f32) → sProp 𝕄)
    (n29 : k0_off29 i = ![s.val, 0, 0]) :
    iprop(owns (c : Thread nD τ) B.a7 fullShare I.u ∗ owns (c : Thread nD τ) B.a8 fullShare I.v ∗ owns (c : Thread nD τ) (slot B.a19 q1024 s) fullShare I.g2 ∗ owns (c : Thread nD τ) (slot B.a20 q1024 s) fullShare I.g3)
      ⊢ iprop((owns (c : Thread nD τ) B.a7 fullShare I.u ∗ owns (c : Thread nD τ) B.a8 fullShare I.v ∗ owns (c : Thread nD τ) (slot B.a19 q1024 s) fullShare I.g2 ∗ owns (c : Thread nD τ) (slot B.a20 q1024 s) fullShare I.g3 -∗ Q ⟨I.e133, I.e150, I.e154, I.e158⟩)
        -∗ wp frame (wpE (defs₀ (F := F)) Variants.none (c : Thread nD τ) none) Set.univ (k0_part8 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 b1 b2 I.u0 I.u1 I.u2 I.u3 I.u4 I.u5 I.u6) Q) := by
  rw [k0_part8_eq_skeleton]
  unfold k0_part8_skel
  dsimp only
  iintro ⟨H7, H8, G2, G3⟩ HK
  iapply (ld c) $$ H7
  iintro H7
  iapply (ld c) $$ H8
  iintro H8
  iapply (ld c) $$ H8
  iintro H8
  iapply (ld c) $$ H8
  iintro H8
  iapply (ld c) $$ H8
  iintro H8
  iapply (ld c) $$ H8
  iintro H8
  iapply (ld c) $$ H8
  iintro H8
  iapply (ld c) $$ H8
  iintro H8
  iapply (ld c) $$ H8
  iintro H8
  iapply (ldSlot c n29) $$ G2
  iintro G2
  iapply (ldSlot c n29) $$ G3
  iintro G3
  rw [show ∀ v, (pure v : Prog (TpuEff nD τ sig (Elt F) Λ₀ .tc) _) = Prog.ret v from fun _ => rfl, wp_ret]
  imodintro
  change Entails' _ (Q ⟨I.e133, I.e150, I.e154, I.e158⟩)
  iapply HK
  isplitl [H7]; · iexact H7
  isplitl [H8]; · iexact H8
  isplitl [G2]; · iexact G2
  iexact G3

/-- The gates: their cotangent stored, and the two halves of the gated cotangent. -/
theorem part9 (i : grid0.Coords) (s : Fin 3) (d : S512x2048.Idx → Elt F .bf16) (Q : (Σ' (v195 : FVec F S512x1024 .bf16), FVec F S512x1024 .bf16) → sProp 𝕄)
    (n21 : k0_off21 i = ![s.val, 0, 0]) :
    iprop(owns (c : Thread nD τ) (slot B.a21 q2048 s) fullShare I.g4 ∗ owns (c : Thread nD τ) B.a11 fullShare d)
      ⊢ iprop((owns (c : Thread nD τ) (slot B.a21 q2048 s) fullShare I.g4 ∗ owns (c : Thread nD τ) B.a11 fullShare (I.o11 d) -∗ Q ⟨I.e195, I.e196⟩)
        -∗ wp frame (wpE (defs₀ (F := F)) Variants.none (c : Thread nD τ) none) Set.univ (k0_part9 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 I.e116 I.e154 I.e158) Q) := by
  rw [k0_part9_eq_skeleton]
  unfold k0_part9_skel
  dsimp only
  iintro ⟨G4, H11⟩ HK
  iapply (ldIn c n21) $$ G4
  iintro G4
  iapply (ldIn c n21) $$ G4
  iintro G4
  iapply (ld c) $$ H11
  iintro H11
  iapply (st c) $$ H11
  iintro H11
  iapply (ld c) $$ H11
  iintro H11
  iapply (st c) $$ H11
  iintro H11
  rw [show ∀ v, (pure v : Prog (TpuEff nD τ sig (Elt F) Λ₀ .tc) _) = Prog.ret v from fun _ => rfl, wp_ret]
  imodintro
  change Entails' _ (Q ⟨I.e195, I.e196⟩)
  iapply HK
  isplitl [G4]; · iexact G4
  iexact H11

/-- The gated cotangents stored, the weights, and the cotangent through the window. -/
theorem part10 (i : grid0.Coords) (b1 b2 : BitVec 32) (s : Fin 3) (d12 d13 : S512x1024.Idx → Elt F .bf16) (d14 : S512x512.Idx → Elt F .f32) (d15 : S512x1536.Idx → Elt F .bf16)
    (Q : (Σ' (v206 : FVec F S512x512 .f32) (v208 : FVec F S512x512 .f32) (v209 : FVec F S512x512 .f32) (v210 : IVec S512x512 32) (v211 : Vec F S1x512 .f32) (v212 : Vec F S1x512 .f32) (v213 : Vec F S1x512 .f32) (v221 : FVec F S512x512 .f32) (v222 : Vec F S1x512 .f32) (v223 : Vec F S1x512 .f32) (v225 : IVec S512x512 1) (v226 : FVec F S512x512 .f32), FVec F S512x512 .f32) → sProp 𝕄)
    (n30 : k0_off30 i = ![s.val, 0, 0]) (n31 : k0_off31 i = ![s.val, 0, 0]) :
    iprop(owns (c : Thread nD τ) B.a12 fullShare d12 ∗ owns (c : Thread nD τ) B.a13 fullShare d13 ∗ owns (c : Thread nD τ) B.a14 fullShare d14 ∗ owns (c : Thread nD τ) B.a15 fullShare d15 ∗ owns (c : Thread nD τ) (slot B.a22 q1536 s) fullShare I.g5 ∗ owns (c : Thread nD τ) (slot B.a23 q512 s) fullShare I.g6 ∗ owns (c : Thread nD τ) B.a10 fullShare I.k ∗ owns (c : Thread nD τ) B.a17 fullShare I.x)
      ⊢ iprop((owns (c : Thread nD τ) B.a12 fullShare I.e195 ∗ owns (c : Thread nD τ) B.a13 fullShare I.e196 ∗ owns (c : Thread nD τ) B.a14 fullShare I.o14 ∗ owns (c : Thread nD τ) B.a15 fullShare (I.o15a d15) ∗ owns (c : Thread nD τ) (slot B.a22 q1536 s) fullShare I.g5 ∗ owns (c : Thread nD τ) (slot B.a23 q512 s) fullShare I.g6 ∗ owns (c : Thread nD τ) B.a10 fullShare I.k ∗ owns (c : Thread nD τ) B.a17 fullShare I.x -∗ Q ⟨I.e206, I.e208, I.e209, Ins.e210, part rk0 I.k, part rk1 I.k, part rk2 I.k, I.e221, part rx0 I.x, part rx1 I.x, k0_pay35, I.e226, I.e228⟩)
        -∗ wp frame (wpE (defs₀ (F := F)) Variants.none (c : Thread nD τ) none) Set.univ (k0_part10 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 b1 b2 I.e133 I.e150 I.e195 I.e196) Q) := by
  rw [k0_part10_eq_skeleton]
  unfold k0_part10_skel
  dsimp only
  iintro ⟨H12, H13, H14, H15, G5, G6, H10, H17⟩ HK
  iapply (ld c) $$ H12
  iintro H12
  iapply (st c) $$ H12
  iintro H12
  iapply (ld c) $$ H13
  iintro H13
  iapply (st c) $$ H13
  iintro H13
  iapply (ld c) $$ H14
  iintro H14
  iapply (st c) $$ H14
  iintro H14
  iapply (ldSlot c n30) $$ G5
  iintro G5
  iapply (ld c) $$ H10
  iintro H10
  iapply (ld c) $$ H10
  iintro H10
  iapply (ld c) $$ H10
  iintro H10
  iapply (ldSlot c n31) $$ G6
  iintro G6
  iapply (ld c) $$ H15
  iintro H15
  iapply (st c) $$ H15
  iintro H15
  iapply (ld c) $$ H17
  iintro H17
  iapply (ld c) $$ H17
  iintro H17
  rw [put_whole2, put_whole2, put_whole2]
  rw [show ∀ v, (pure v : Prog (TpuEff nD τ sig (Elt F) Λ₀ .tc) _) = Prog.ret v from fun _ => rfl, wp_ret]
  imodintro
  change Entails' _ (Q ⟨I.e206, I.e208, I.e209, Ins.e210, part rk0 I.k, part rk1 I.k, part rk2 I.k, I.e221, part rx0 I.x, part rx1 I.x, k0_pay35, I.e226, I.e228⟩)
  iapply HK
  isplitl [H12]; · iexact H12
  isplitl [H13]; · iexact H13
  isplitl [H14]; · iexact H14
  isplitl [H15]; · iexact H15
  isplitl [G5]; · iexact G5
  isplitl [G6]; · iexact G6
  isplitl [H10]; · iexact H10
  iexact H17

/-- The weight gradient accumulated, and the three taps of the cotangent. -/
theorem part11 (i : grid0.Coords) (Q : (Σ' (v240 : FVec F S512x512 .f32) (v266 : FVec F S512x512 .f32), FVec F S512x512 .f32) → sProp 𝕄) :
    iprop(owns (c : Thread nD τ) B.a16 fullShare I.y)
      ⊢ iprop((owns (c : Thread nD τ) B.a16 fullShare I.y3 -∗ Q ⟨I.e240, I.e266, I.e267⟩)
        -∗ wp frame (wpE (defs₀ (F := F)) Variants.none (c : Thread nD τ) none) Set.univ (k0_part11 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 I.e209 Ins.e210 (part rk0 I.k) (part rk1 I.k) (part rk2 I.k) I.e221 (part rx0 I.x) (part rx1 I.x) k0_pay35 I.e226 I.e228) Q) := by
  rw [k0_part11_eq_skeleton]
  unfold k0_part11_skel
  dsimp only
  iintro H16 HK
  iapply (ld c) $$ H16
  iintro H16
  iapply (ld c) $$ H16
  iintro H16
  iapply (st c) $$ H16
  iintro H16
  iapply (ld c) $$ H16
  iintro H16
  iapply (ld c) $$ H16
  iintro H16
  iapply (st c) $$ H16
  iintro H16
  iapply (ld c) $$ H16
  iintro H16
  iapply (ld c) $$ H16
  iintro H16
  iapply (st c) $$ H16
  iintro H16
  rw [show ∀ v, (pure v : Prog (TpuEff nD τ sig (Elt F) Λ₀ .tc) _) = Prog.ret v from fun _ => rfl, wp_ret]
  imodintro
  change Entails' _ (Q ⟨I.e240, I.e266, I.e267⟩)
  iapply HK
  iexact H16

end Cert.Mg

end
-- ==== Proof.MgStep.lean ====
/- One step of the merge's backward kernel, whole: from the slots before the step to the slots after it. -/
module

public import proofs.«01_k».proof.Proof.MgCompute

@[expose] public section

set_option maxRecDepth 16384

noncomputable section

namespace Cert.Mg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal
open Cert.Kernel5Ideal.Facts₀ Cert.Kernel5Ideal.Facts
open Cert.Kernel5Ideal.Gen

variable {F : FTy → Type} [FloatOps F]

local notation "𝕄" => MT nD τ sig Unit (Elt F) ℕ (Pipeline.UD sig nD τ) ℕ

variable (c : Dev nD) (B : Bufs) (W : Held F c B)

variable {c B} in
/-- What a step reads when it works on block `b`. -/
def Held.ins (b : Fin 8) (U V : S8x512x128.Idx → Elt F .bf16) (M : S1024x1024.Idx → Elt F .bf16) (K : S3x512.Idx → Elt F .f32)
    (X : S8x512.Idx → Elt F .f32) (Y : S3x512.Idx → Elt F .f32) : Ins F where
  g1 := blk c B.a1 W.w1 b
  g2 := blk c B.a2 W.w2 b
  g3 := blk c B.a3 W.w3 b
  g4 := blk c B.a4 W.w4 b
  g5 := blk c B.a5 W.w5 b
  g6 := blk c B.a6 W.w6 b
  u := U
  v := V
  m := M
  k := K
  x := X
  y := Y

theorem sl3_again (p : ℕ) : sl3 (p + 1 + 2) = sl3 p := by
  apply Fin.ext
  show (p + 1 + 2) % 3 = p % 3
  omega

set_option maxHeartbeats 2000000 in
/-- One step: from the slots before step `t` to the slots before step `t + 1`, every output stored, the weight gradient accumulated and the
rows for the next step left behind. -/
theorem body (t : Fin grid0.N) (Q : PUnit → sProp 𝕄) (U V : S8x512x128.Idx → Elt F .bf16) (M : S1024x1024.Idx → Elt F .bf16) (K : S3x512.Idx → Elt F .f32)
    (X : S8x512.Idx → Elt F .f32) (Y : S3x512.Idx → Elt F .f32)
    (d11 : S512x2048.Idx → Elt F .bf16) (d12 d13 : S512x1024.Idx → Elt F .bf16) (d14 : S512x512.Idx → Elt F .f32) (d15 : S512x1536.Idx → Elt F .bf16) :
    iprop(ring c B W t.val ∗ shared c B X Y ∗ (∃ w, owes (c : Thread nD τ) 0 w) ∗ owns (c : Thread nD τ) B.a7 fullShare U ∗ owns (c : Thread nD τ) B.a8 fullShare V ∗ owns (c : Thread nD τ) B.a9 fullShare M ∗ owns (c : Thread nD τ) B.a10 fullShare K ∗ owns (c : Thread nD τ) B.a11 fullShare d11 ∗ owns (c : Thread nD τ) B.a12 fullShare d12 ∗ owns (c : Thread nD τ) B.a13 fullShare d13 ∗ owns (c : Thread nD τ) B.a14 fullShare d14 ∗ owns (c : Thread nD τ) B.a15 fullShare d15)
      ⊢ iprop((ring c B W (t.val + 1) ∗ (∃ w, owes (c : Thread nD τ) 0 w) ∗ owns (c : Thread nD τ) B.a7 fullShare U ∗ owns (c : Thread nD τ) B.a8 fullShare V ∗ owns (c : Thread nD τ) B.a9 fullShare M ∗ owns (c : Thread nD τ) B.a10 fullShare K ∗ owns (c : Thread nD τ) B.a11 fullShare ((W.ins (bk8 t.val) U V M K (dyAt t.val X) (cwAt t.val Y)).o11 d11) ∗ owns (c : Thread nD τ) B.a12 fullShare (W.ins (bk8 t.val) U V M K (dyAt t.val X) (cwAt t.val Y)).e195 ∗ owns (c : Thread nD τ) B.a13 fullShare (W.ins (bk8 t.val) U V M K (dyAt t.val X) (cwAt t.val Y)).e196 ∗ owns (c : Thread nD τ) B.a14 fullShare (W.ins (bk8 t.val) U V M K (dyAt t.val X) (cwAt t.val Y)).o14 ∗ owns (c : Thread nD τ) B.a15 fullShare ((W.ins (bk8 t.val) U V M K (dyAt t.val X) (cwAt t.val Y)).o15 d15) ∗ owns (c : Thread nD τ) B.a16 fullShare (W.ins (bk8 t.val) U V M K (dyAt t.val X) (cwAt t.val Y)).y3 ∗ owns (c : Thread nD τ) B.a17 fullShare (W.ins (bk8 t.val) U V M K (dyAt t.val X) (cwAt t.val Y)).x1 -∗ Q ⟨⟩)
        -∗ wp frame (wpE (defs₀ (F := F)) Variants.none (c : Thread nD τ) none) Set.univ (cc0_merge_bwd (F := F) (grid0.coords t) B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24) Q) := by
  obtain ⟨n16, n21, n24, n27, n29, n30, n31⟩ := now_slot t
  obtain ⟨c15, c18, c19, c20, c23, c26⟩ := now_cell t
  rw [cc0_merge_bwd_eq_skeleton]
  unfold cc0_merge_bwd_skel
  generalize hI : W.ins (bk8 t.val) U V M K (dyAt t.val X) (cwAt t.val Y) = I
  iintro ⟨HR, HS, HO, H7, H8, H9, H10, H11, H12, H13, H14, H15⟩ HK
  rw [wp_bind]
  iapply (part4 c B W t _ X Y) $$ [HR HS HO]
  · isplitl [HR]; · iexact HR
    isplitl [HS]; · iexact HS
    iexact HO
  iintro ⟨⟨F1, F2, F3, F4, F5, F6⟩, ⟨R1, R2⟩, ⟨H17, H16⟩, HO⟩
  rw [wp_bind]
  iapply (part5 c B W (grid0.coords t) _ (sl3 t.val) (bk8 t.val) _ n16 n21 n24 n27 c19 c20 c23 c26) $$ [F3 F4 F5 F6 HO]
  · isplitl [F3]; · iexact F3
    isplitl [F4]; · iexact F4
    isplitl [F5]; · iexact F5
    isplitl [F6]; · iexact F6
    iexact HO
  unfold arrived got
  iintro ⟨⟨Z3, G3, N3⟩, ⟨Z4, G4, N4⟩, ⟨Z5, G5, N5⟩, ⟨Z6, G6, N6⟩, HO⟩ %v
  icases F1 with ⟨Z1, G1, N1⟩
  icases F2 with ⟨Z2, G2, N2⟩
  ihave G1 := (Entails.of_eq (show owns (c : Thread nD τ) (slot B.a18 q1024 (sl3 t.val)) fullShare (blk c B.a1 W.w1 (bk8 t.val)) = owns (c : Thread nD τ) (slot B.a18 q1024 (sl3 t.val)) fullShare I.g1 by rw [← hI]; rfl)) $$ G1
  ihave G2 := (Entails.of_eq (show owns (c : Thread nD τ) (slot B.a19 q1024 (sl3 t.val)) fullShare (blk c B.a2 W.w2 (bk8 t.val)) = owns (c : Thread nD τ) (slot B.a19 q1024 (sl3 t.val)) fullShare I.g2 by rw [← hI]; rfl)) $$ G2
  ihave G3 := (Entails.of_eq (show owns (c : Thread nD τ) (slot B.a20 q1024 (sl3 t.val)) fullShare (blk c B.a3 W.w3 (bk8 t.val)) = owns (c : Thread nD τ) (slot B.a20 q1024 (sl3 t.val)) fullShare I.g3 by rw [← hI]; rfl)) $$ G3
  ihave G4 := (Entails.of_eq (show owns (c : Thread nD τ) (slot B.a21 q2048 (sl3 t.val)) fullShare (blk c B.a4 W.w4 (bk8 t.val)) = owns (c : Thread nD τ) (slot B.a21 q2048 (sl3 t.val)) fullShare I.g4 by rw [← hI]; rfl)) $$ G4
  ihave G5 := (Entails.of_eq (show owns (c : Thread nD τ) (slot B.a22 q1536 (sl3 t.val)) fullShare (blk c B.a5 W.w5 (bk8 t.val)) = owns (c : Thread nD τ) (slot B.a22 q1536 (sl3 t.val)) fullShare I.g5 by rw [← hI]; rfl)) $$ G5
  ihave G6 := (Entails.of_eq (show owns (c : Thread nD τ) (slot B.a23 q512 (sl3 t.val)) fullShare (blk c B.a6 W.w6 (bk8 t.val)) = owns (c : Thread nD τ) (slot B.a23 q512 (sl3 t.val)) fullShare I.g6 by rw [← hI]; rfl)) $$ G6
  ihave H7 := (Entails.of_eq (show owns (c : Thread nD τ) B.a7 fullShare U = owns (c : Thread nD τ) B.a7 fullShare I.u by rw [← hI]; rfl)) $$ H7
  ihave H8 := (Entails.of_eq (show owns (c : Thread nD τ) B.a8 fullShare V = owns (c : Thread nD τ) B.a8 fullShare I.v by rw [← hI]; rfl)) $$ H8
  ihave H9 := (Entails.of_eq (show owns (c : Thread nD τ) B.a9 fullShare M = owns (c : Thread nD τ) B.a9 fullShare I.m by rw [← hI]; rfl)) $$ H9
  ihave H10 := (Entails.of_eq (show owns (c : Thread nD τ) B.a10 fullShare K = owns (c : Thread nD τ) B.a10 fullShare I.k by rw [← hI]; rfl)) $$ H10
  ihave H17 := (Entails.of_eq (show owns (c : Thread nD τ) B.a17 fullShare (dyAt t.val X) = owns (c : Thread nD τ) B.a17 fullShare I.x by rw [← hI]; rfl)) $$ H17
  ihave H16 := (Entails.of_eq (show owns (c : Thread nD τ) B.a16 fullShare (cwAt t.val Y) = owns (c : Thread nD τ) B.a16 fullShare I.y by rw [← hI]; rfl)) $$ H16
  obtain ⟨v1, v2, v3, v4⟩ := v
  dsimp only
  rw [wp_bind]
  iapply (part6 c B (grid0.coords t) _ _ _ _ _)
  iintro %v
  obtain ⟨p1, p2, p3, p4, p5, p6⟩ := v
  dsimp only
  rw [wp_bind]
  iapply (part7 c B I (grid0.coords t) _ _ _ _ _ (sl3 t.val) _ n29) $$ [G1 H9 H7]
  · isplitl [G1]; · iexact G1
    isplitl [H9]; · iexact H9
    iexact H7
  iintro ⟨G1, H9, H7⟩ %q1
  dsimp only
  rw [wp_bind]
  iapply (part8 c B I (grid0.coords t) _ _ (sl3 t.val) _ n29) $$ [H7 H8 G2 G3]
  · isplitl [H7]; · iexact H7
    isplitl [H8]; · iexact H8
    isplitl [G2]; · iexact G2
    iexact G3
  iintro ⟨H7, H8, G2, G3⟩
  dsimp only
  rw [wp_bind]
  iapply (part9 c B I (grid0.coords t) (sl3 t.val) d11 _ n21) $$ [G4 H11]
  · isplitl [G4]; · iexact G4
    iexact H11
  iintro ⟨G4, H11⟩
  dsimp only
  rw [wp_bind]
  iapply (part10 c B I (grid0.coords t) _ _ (sl3 t.val) d12 d13 d14 d15 _ n30 n31) $$ [H12 H13 H14 H15 G5 G6 H10 H17]
  · isplitl [H12]; · iexact H12
    isplitl [H13]; · iexact H13
    isplitl [H14]; · iexact H14
    isplitl [H15]; · iexact H15
    isplitl [G5]; · iexact G5
    isplitl [G6]; · iexact G6
    isplitl [H10]; · iexact H10
    iexact H17
  iintro ⟨H12, H13, H14, H15, G5, G6, H10, H17⟩
  dsimp only
  rw [wp_bind]
  iapply (part11 c B I (grid0.coords t) _) $$ [H16]
  · iexact H16
  iintro H16
  dsimp only
  iapply (ld c) $$ H15
  iintro H15
  iapply (st c) $$ H15
  iintro H15
  iapply (ld c) $$ H15
  iintro H15
  iapply (st c) $$ H15
  iintro H15
  iapply (ld c) $$ H17
  iintro H17
  iapply (st c) $$ H17
  iintro H17
  rw [put_whole2]
  rw [show (pure ⟨⟩ : Prog (TpuEff nD τ sig (Elt F) Λ₀ .tc) PUnit) = Prog.ret ⟨⟩ from rfl, wp_ret]
  imodintro
  iapply HK
  isplitl [R1 R2 Z1 Z2 Z3 Z4 Z5 Z6 G1 G2 G3 G4 G5 G6 N1 N2 N3 N4 N5 N6]
  · unfold ring
    rw [if_neg (Nat.succ_ne_zero t.val), sl3_again]
    isplitl [R1]; · iexact R1
    isplitl [R2]; · iexact R2
    unfold ready6 six ready open'
    isplitl [Z1 G1 N1]
    · isplitl [Z1]; · iexact Z1
      isplitl [G1]
      · iexists _; iexact G1
      iexact N1
    isplitl [Z2 G2 N2]
    · isplitl [Z2]; · iexact Z2
      isplitl [G2]
      · iexists _; iexact G2
      iexact N2
    isplitl [Z3 G3 N3]
    · isplitl [Z3]; · iexact Z3
      isplitl [G3]
      · iexists _; iexact G3
      iexact N3
    isplitl [Z4 G4 N4]
    · isplitl [Z4]; · iexact Z4
      isplitl [G4]
      · iexists _; iexact G4
      iexact N4
    isplitl [Z5 G5 N5]
    · isplitl [Z5]; · iexact Z5
      isplitl [G5]
      · iexists _; iexact G5
      iexact N5
    isplitl [Z6]; · iexact Z6
    isplitl [G6]
    · iexists _; iexact G6
    iexact N6
  isplitl [HO]; · iexact HO
  isplitl [H7]
  · rw [show U = I.u by rw [← hI]; rfl]; iexact H7
  isplitl [H8]
  · rw [show V = I.v by rw [← hI]; rfl]; iexact H8
  isplitl [H9]
  · rw [show M = I.m by rw [← hI]; rfl]; iexact H9
  isplitl [H10]
  · rw [show K = I.k by rw [← hI]; rfl]; iexact H10
  isplitl [H11]; · iexact H11
  isplitl [H12]; · iexact H12
  isplitl [H13]; · iexact H13
  isplitl [H14]; · iexact H14
  isplitl [H15]; · iexact H15
  isplitl [H16]; · iexact H16
  iexact H17

end Cert.Mg

end
-- ==== Proof.MgLaunch.lean ====
/- The launch of the merge's backward kernel: what it hands the kernel's first step and takes back from its last, what every step
   leaves in the buffers, and the run of the whole program. -/
module

public import proofs.«01_k».proof.Proof.MgStep
public import proofs.«01_k».proof.Proof.Gen.Kernel5Ideal.Frame

@[expose] public section

set_option maxRecDepth 16384

noncomputable section

namespace Cert.Mg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal
open Cert.Kernel5Ideal.Gen

variable {F : FTy → Type} [FloatOps F]

local notation "𝕄" => MT nD τ sig Unit (Elt F) ℕ (Pipeline.UD sig nD τ) ℕ

/-! ## One operand's stream, entered and left -/

/-- A slot's elements, in the buffer the slots are of. -/
abbrev slotSet (n : ℕ) (s : Fin 3) : Finset (R3 n).Idx := (Rect.unit (s := R3 n) ![s.val, 0, 0] (R1 n).size (inb_slot s)).set

theorem slots_disjoint (n : ℕ) (s s' : Fin 3) (h : s ≠ s') : Disjoint (slotSet n s) (slotSet n s') :=
  Ring.lead_disjoint (s := R3 n) (0 : Fin 3) 1 (fun s : Fin 3 => (![s.val, 0, 0] : Fin 3 → ℕ)) (R1 n).size inb_slot (fun s => by simp) rfl s s' h
theorem slots_cover (n : ℕ) : Finset.univ.biUnion (slotSet n) = Finset.univ :=
  Ring.lead_cover (s := R3 n) (0 : Fin 3) 1 (fun s : Fin 3 => (![s.val, 0, 0] : Fin 3 → ℕ)) (R1 n).size inb_slot (fun s => by simp)
    (fun s a ha => by fin_cases a <;> first | exact absurd rfl ha | rfl) rfl (fun a ha => by fin_cases a <;> first | exact absurd rfl ha | rfl) rfl

/-- A memref held at something is its elements held at something. -/
theorem owns_any (c : Dev nD) {sp : Space} {S : Shape} {e : EltTy} (M : Memref sig .tc sp S e) :
    (iprop(∃ d, owns (c : Thread nD τ) M fullShare d) : sProp 𝕄) ⊣⊢ iprop(∃ f, M.view.loc (c : Thread nD τ) ↦[M.view.set]{fullShare} f) := by
  refine ⟨?_, ?_⟩
  · unfold owns
    iintro ⟨%d, %f, -, H⟩
    iexists f; iexact H
  · unfold owns
    iintro ⟨%f, H⟩
    iexists _; iexists f
    isplitr; · ipureintro; rfl
    iexact H

/-- The operand whole is the slots' three shares of it. -/
theorem whole_shares (c : Dev nD) {n : ℕ} {e : EltTy} (hb : Memref sig .tc .hbm (Ar n) e) (W : Buf (Elt F) (hb.view.loc (c : Thread nD τ))) :
    (hb.view.loc (c : Thread nD τ) ↦{fullShare} W : sProp 𝕄) ⊣⊢ iprop(whole c hb W 0 ∗ whole c hb W 1 ∗ whole c hb W 2) := by
  unfold whole
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

section Stream
variable (c : Dev nD) (sems : DmaSems sig S6x3) {n : ℕ} {e : EltTy} (buf : Memref sig .tc .vmem (R3 n) e) (hb : Memref sig .tc .hbm (Ar n) e)
  (hq : (R1 n).Squeezes (Bk n)) (W : Buf (Elt F) (hb.view.loc (c : Thread nD τ))) (k : Fin 6)
  (J : Fin 3 → Finset (buf.view.loc (c : Thread nD τ)).ty.Idx)

/-- The buffer of the slots, the semaphores and the operand, whole. -/
abbrev outside : sProp 𝕄 :=
  iprop((∃ f : Buf (Elt F) (buf.view.loc (c : Thread nD τ)), buf.view.loc (c : Thread nD τ) ↦{fullShare} f) ∗ (idle c sems k 0 ∗ idle c sems k 1 ∗ idle c sems k 2)
    ∗ hb.view.loc (c : Thread nD τ) ↦{fullShare} W)
/-- The same, slot by slot. -/
abbrev inside : sProp 𝕄 := iprop(ready c sems buf hb hq W k 0 ∗ ready c sems buf hb hq W k 1 ∗ ready c sems buf hb hq W k 2)

theorem slots_whole (hJ : ∀ s, (slot buf hq s).view.set = J s) (hd : ∀ s s', s ≠ s' → Disjoint (J s) (J s')) (hc : Finset.univ.biUnion J = Finset.univ) :
    (iprop(∃ f : Buf (Elt F) (buf.view.loc (c : Thread nD τ)), buf.view.loc (c : Thread nD τ) ↦{fullShare} f) : sProp 𝕄)
      ⊣⊢ iprop((∃ d, owns (c : Thread nD τ) (slot buf hq 0) fullShare d) ∗ (∃ d, owns (c : Thread nD τ) (slot buf hq 1) fullShare d) ∗ ∃ d, owns (c : Thread nD τ) (slot buf hq 2) fullShare d) := by
  have e : ∀ (s : Fin 3) f, ((slot buf hq s).view.loc (c : Thread nD τ) ↦[(slot buf hq s).view.set]{fullShare} f : sProp 𝕄) = (buf.view.loc (c : Thread nD τ) ↦[J s]{fullShare} f : sProp 𝕄) :=
    fun s f => by rw [hJ s]; rfl
  have a := fun s => owns_any (F := F) c (slot buf hq s)
  exact ⟨(Ring.slots3_split J hd hc (fun f => (slot buf hq 0).view.loc (c : Thread nD τ) ↦[(slot buf hq 0).view.set]{fullShare} f) (fun f => (slot buf hq 1).view.loc (c : Thread nD τ) ↦[(slot buf hq 1).view.set]{fullShare} f)
      (fun f => (slot buf hq 2).view.loc (c : Thread nD τ) ↦[(slot buf hq 2).view.set]{fullShare} f) (e 0) (e 1) (e 2)).trans (BIClass.sep_mono (a 0).2 (BIClass.sep_mono (a 1).2 (a 2).2)),
    (BIClass.sep_mono (a 0).1 (BIClass.sep_mono (a 1).1 (a 2).1)).trans (Ring.slots3_join J hd hc _ _ _ (e 0) (e 1) (e 2))⟩

theorem stream (hJ : ∀ s, (slot buf hq s).view.set = J s) (hd : ∀ s s', s ≠ s' → Disjoint (J s) (J s')) (hc : Finset.univ.biUnion J = Finset.univ) :
    outside c sems buf hb W k ⊣⊢ inside c sems buf hb hq W k := by
  unfold outside inside ready open'
  refine ⟨?_, ?_⟩
  · iintro ⟨HS, ⟨Z0, Z1, Z2⟩, HW⟩
    ihave HS' := (slots_whole c buf hq J hJ hd hc).1 $$ HS
    icases HS' with ⟨S0, S1, S2⟩
    ihave HW' := (whole_shares c hb W).1 $$ HW
    icases HW' with ⟨W0, W1, W2⟩
    isplitl [Z0 S0 W0]
    · isplitl [Z0]; · iexact Z0
      isplitl [S0]; · iexact S0
      iexact W0
    isplitl [Z1 S1 W1]
    · isplitl [Z1]; · iexact Z1
      isplitl [S1]; · iexact S1
      iexact W1
    isplitl [Z2]; · iexact Z2
    isplitl [S2]; · iexact S2
    iexact W2
  · iintro ⟨⟨Z0, S0, W0⟩, ⟨Z1, S1, W1⟩, Z2, S2, W2⟩
    isplitl [S0 S1 S2]
    · iapply (slots_whole c buf hq J hJ hd hc).2
      isplitl [S0]; · iexact S0
      isplitl [S1]; · iexact S1
      iexact S2
    isplitl [Z0 Z1 Z2]
    · isplitl [Z0]; · iexact Z0
      isplitl [Z1]; · iexact Z1
      iexact Z2
    iapply (whole_shares c hb W).2
    isplitl [W0]; · iexact W0
    isplitl [W1]; · iexact W1
    iexact W2

end Stream

/-! ## The kernel's buffers -/

/-- The buffers a step is called with. -/
@[reducible] def bufs (t : Fin cfg0.N) : Bufs where
  a1 := Memref.whole main_arg7
  h1 := Memref.isWhole_whole _
  a2 := Memref.whole main_v31
  h2 := Memref.isWhole_whole _
  a3 := Memref.whole main_v32
  h3 := Memref.isWhole_whole _
  a4 := Memref.whole main_v33
  h4 := Memref.isWhole_whole _
  a5 := Memref.whole main_v34
  h5 := Memref.isWhole_whole _
  a6 := Memref.whole main_v35
  h6 := Memref.isWhole_whole _
  a7 := st0_0 t
  h7 := hstage0_0 ((cfg0.slots t 0).cast nbuf0_0)
  a8 := st0_1 t
  h8 := hstage0_1 ((cfg0.slots t 1).cast nbuf0_1)
  a9 := st0_2 t
  h9 := hstage0_2 ((cfg0.slots t 2).cast nbuf0_2)
  a10 := st0_3 t
  h10 := hstage0_3 ((cfg0.slots t 3).cast nbuf0_3)
  a11 := st0_4 t
  h11 := hstage0_4 ((cfg0.slots t 4).cast nbuf0_4)
  a12 := st0_5 t
  h12 := hstage0_5 ((cfg0.slots t 5).cast nbuf0_5)
  a13 := st0_6 t
  h13 := hstage0_6 ((cfg0.slots t 6).cast nbuf0_6)
  a14 := st0_7 t
  h14 := hstage0_7 ((cfg0.slots t 7).cast nbuf0_7)
  a15 := st0_8 t
  h15 := hstage0_8 ((cfg0.slots t 8).cast nbuf0_8)
  a16 := st0_9 t
  h16 := hstage0_9 ((cfg0.slots t 9).cast nbuf0_9)
  a17 := Memref.whole cc0_scratch0
  h17 := Memref.isWhole_whole _
  a18 := Memref.whole cc0_scratch1
  h18 := Memref.isWhole_whole _
  a19 := Memref.whole cc0_scratch2
  h19 := Memref.isWhole_whole _
  a20 := Memref.whole cc0_scratch3
  h20 := Memref.isWhole_whole _
  a21 := Memref.whole cc0_scratch4
  h21 := Memref.isWhole_whole _
  a22 := Memref.whole cc0_scratch5
  h22 := Memref.isWhole_whole _
  a23 := Memref.whole cc0_scratch6
  h23 := Memref.isWhole_whole _
  a24 := cc0_scratch7

variable (m : (ℓ : Loc nD τ sig) → Buf (Elt F) ℓ) (ρ : Dev nD → PrngReg)

/-- What the streamed operands hold. -/
@[reducible] def held (c : Dev nD) (t : Fin cfg0.N) : Held F c (bufs t) where
  w1 := V m c main_arg7
  w2 := V m c main_v31
  w3 := V m c main_v32
  w4 := V m c main_v33
  w5 := V m c main_v34
  w6 := V m c main_v35

/-- The slots are the same buffers at every step. -/
theorem ring_any (c : Dev nD) (t u : Fin cfg0.N) (p : ℕ) : ring c (bufs t) (held m c t) p = ring c (bufs u) (held m c u) p := by
  unfold ring role ready6 fly6 six; rfl

instance : NeZero cfg0.N := ⟨by rw [show cfg0.N = 8 from N_0]; decide⟩
/-- The slots before step `p`. -/
abbrev slots (c : Dev nD) (p : ℕ) : sProp 𝕄 := ring c (bufs 0) (held m c 0) p

/-- What the launch hands the six streams. -/
abbrev hbm (c : Dev nD) : sProp 𝕄 := six c (bufs 0) (held m c 0) fun buf hb hq w k => outside c (bufs 0).a24 buf hb w k

set_option maxHeartbeats 2000000 in
theorem streams (c : Dev nD) : hbm m c ⊣⊢ iprop(ready6 c (bufs 0) (held m c 0) 0 ∗ ready6 c (bufs 0) (held m c 0) 1 ∗ ready6 c (bufs 0) (held m c 0) 2) := by
  unfold hbm ready6 six
  have s0 := stream c cc0_scratch7 (Memref.whole cc0_scratch1) (Memref.whole main_arg7) q1024 (V m c main_arg7) 0 (slotSet 1024)
    (fun s => by simp only [slot, Memref.view_squeeze, View.set_reshape]; exact View.set_slice_whole _ _) (slots_disjoint 1024) (slots_cover 1024)
  have s1 := stream c cc0_scratch7 (Memref.whole cc0_scratch2) (Memref.whole main_v31) q1024 (V m c main_v31) 1 (slotSet 1024)
    (fun s => by simp only [slot, Memref.view_squeeze, View.set_reshape]; exact View.set_slice_whole _ _) (slots_disjoint 1024) (slots_cover 1024)
  have s2 := stream c cc0_scratch7 (Memref.whole cc0_scratch3) (Memref.whole main_v32) q1024 (V m c main_v32) 2 (slotSet 1024)
    (fun s => by simp only [slot, Memref.view_squeeze, View.set_reshape]; exact View.set_slice_whole _ _) (slots_disjoint 1024) (slots_cover 1024)
  have s3 := stream c cc0_scratch7 (Memref.whole cc0_scratch4) (Memref.whole main_v33) q2048 (V m c main_v33) 3 (slotSet 2048)
    (fun s => by simp only [slot, Memref.view_squeeze, View.set_reshape]; exact View.set_slice_whole _ _) (slots_disjoint 2048) (slots_cover 2048)
  have s4 := stream c cc0_scratch7 (Memref.whole cc0_scratch5) (Memref.whole main_v34) q1536 (V m c main_v34) 4 (slotSet 1536)
    (fun s => by simp only [slot, Memref.view_squeeze, View.set_reshape]; exact View.set_slice_whole _ _) (slots_disjoint 1536) (slots_cover 1536)
  have s5 := stream c cc0_scratch7 (Memref.whole cc0_scratch6) (Memref.whole main_v35) q512 (V m c main_v35) 5 (slotSet 512)
    (fun s => by simp only [slot, Memref.view_squeeze, View.set_reshape]; exact View.set_slice_whole _ _) (slots_disjoint 512) (slots_cover 512)
  unfold inside at s0 s1 s2 s3 s4 s5
  refine ⟨?_, ?_⟩
  · iintro ⟨H0, H1, H2, H3, H4, H5⟩
    ihave H0 := s0.1 $$ H0
    icases H0 with ⟨A0, B0, C0⟩
    ihave H1 := s1.1 $$ H1
    icases H1 with ⟨A1, B1, C1⟩
    ihave H2 := s2.1 $$ H2
    icases H2 with ⟨A2, B2, C2⟩
    ihave H3 := s3.1 $$ H3
    icases H3 with ⟨A3, B3, C3⟩
    ihave H4 := s4.1 $$ H4
    icases H4 with ⟨A4, B4, C4⟩
    ihave H5 := s5.1 $$ H5
    icases H5 with ⟨A5, B5, C5⟩
    isplitl [A0 A1 A2 A3 A4 A5]
    · isplitl [A0]; · iexact A0
      isplitl [A1]; · iexact A1
      isplitl [A2]; · iexact A2
      isplitl [A3]; · iexact A3
      isplitl [A4]; · iexact A4
      iexact A5
    isplitl [B0 B1 B2 B3 B4 B5]
    · isplitl [B0]; · iexact B0
      isplitl [B1]; · iexact B1
      isplitl [B2]; · iexact B2
      isplitl [B3]; · iexact B3
      isplitl [B4]; · iexact B4
      iexact B5
    isplitl [C0]; · iexact C0
    isplitl [C1]; · iexact C1
    isplitl [C2]; · iexact C2
    isplitl [C3]; · iexact C3
    isplitl [C4]; · iexact C4
    iexact C5
  · iintro ⟨⟨A0, A1, A2, A3, A4, A5⟩, ⟨B0, B1, B2, B3, B4, B5⟩, ⟨C0, C1, C2, C3, C4, C5⟩⟩
    isplitl [A0 B0 C0]
    · iapply s0.2
      isplitl [A0]; · iexact A0
      isplitl [B0]; · iexact B0
      iexact C0
    isplitl [A1 B1 C1]
    · iapply s1.2
      isplitl [A1]; · iexact A1
      isplitl [B1]; · iexact B1
      iexact C1
    isplitl [A2 B2 C2]
    · iapply s2.2
      isplitl [A2]; · iexact A2
      isplitl [B2]; · iexact B2
      iexact C2
    isplitl [A3 B3 C3]
    · iapply s3.2
      isplitl [A3]; · iexact A3
      isplitl [B3]; · iexact B3
      iexact C3
    isplitl [A4 B4 C4]
    · iapply s4.2
      isplitl [A4]; · iexact A4
      isplitl [B4]; · iexact B4
      iexact C4
    iapply s5.2
    isplitl [A5]; · iexact A5
    isplitl [B5]; · iexact B5
    iexact C5

/-! ## What the launch hands over -/

/-- The kernel's own semaphores. -/
abbrev osem : Fin 18 → SemLoc sig := fun j => (![SemLoc.dma (cell cc0_scratch7 0 0), SemLoc.dma (cell cc0_scratch7 0 1), SemLoc.dma (cell cc0_scratch7 0 2), SemLoc.dma (cell cc0_scratch7 1 0), SemLoc.dma (cell cc0_scratch7 1 1), SemLoc.dma (cell cc0_scratch7 1 2), SemLoc.dma (cell cc0_scratch7 2 0), SemLoc.dma (cell cc0_scratch7 2 1), SemLoc.dma (cell cc0_scratch7 2 2), SemLoc.dma (cell cc0_scratch7 3 0), SemLoc.dma (cell cc0_scratch7 3 1), SemLoc.dma (cell cc0_scratch7 3 2), SemLoc.dma (cell cc0_scratch7 4 0), SemLoc.dma (cell cc0_scratch7 4 1), SemLoc.dma (cell cc0_scratch7 4 2), SemLoc.dma (cell cc0_scratch7 5 0), SemLoc.dma (cell cc0_scratch7 5 1), SemLoc.dma (cell cc0_scratch7 5 2)] : Fin 18 → SemLoc sig) j
theorem osem_own : Pipeline.OwnSemFacts spec0 osem := by decide
theorem osem_eq (c : Dev nD) :
    (Pipeline.ownSems0 (Ix := Unit) (Name := ℕ) (U := Pipeline.UD sig nD τ) (Lvl := ℕ) (Val := Elt F) (τ := τ) osem c : sProp 𝕄) = iprop(semVal ((c : Thread nD τ), SemLoc.dma (cell cc0_scratch7 0 0)) 0 ∗ semVal ((c : Thread nD τ), SemLoc.dma (cell cc0_scratch7 0 1)) 0 ∗ semVal ((c : Thread nD τ), SemLoc.dma (cell cc0_scratch7 0 2)) 0 ∗ semVal ((c : Thread nD τ), SemLoc.dma (cell cc0_scratch7 1 0)) 0 ∗ semVal ((c : Thread nD τ), SemLoc.dma (cell cc0_scratch7 1 1)) 0 ∗ semVal ((c : Thread nD τ), SemLoc.dma (cell cc0_scratch7 1 2)) 0 ∗ semVal ((c : Thread nD τ), SemLoc.dma (cell cc0_scratch7 2 0)) 0 ∗ semVal ((c : Thread nD τ), SemLoc.dma (cell cc0_scratch7 2 1)) 0 ∗ semVal ((c : Thread nD τ), SemLoc.dma (cell cc0_scratch7 2 2)) 0 ∗ semVal ((c : Thread nD τ), SemLoc.dma (cell cc0_scratch7 3 0)) 0 ∗ semVal ((c : Thread nD τ), SemLoc.dma (cell cc0_scratch7 3 1)) 0 ∗ semVal ((c : Thread nD τ), SemLoc.dma (cell cc0_scratch7 3 2)) 0 ∗ semVal ((c : Thread nD τ), SemLoc.dma (cell cc0_scratch7 4 0)) 0 ∗ semVal ((c : Thread nD τ), SemLoc.dma (cell cc0_scratch7 4 1)) 0 ∗ semVal ((c : Thread nD τ), SemLoc.dma (cell cc0_scratch7 4 2)) 0 ∗ semVal ((c : Thread nD τ), SemLoc.dma (cell cc0_scratch7 5 0)) 0 ∗ semVal ((c : Thread nD τ), SemLoc.dma (cell cc0_scratch7 5 1)) 0 ∗ semVal ((c : Thread nD τ), SemLoc.dma (cell cc0_scratch7 5 2)) 0) := by
  rw [Pipeline.ownSems0_eq_of_list c osem [0, 1, 2, 3, 4, 5, 6, 7, 8, 9, 10, 11, 12, 13, 14, 15, 16, 17] (by decide) (by decide)]; rfl

/-- The streamed operands. -/
def HB : Finset (Ref sig .tc) := {main_arg7, main_v31, main_v32, main_v33, main_v34, main_v35}
theorem HB_sub : HB ⊆ Pipeline.restRefs sig spec0 := by decide
theorem HB_eq (c : Dev nD) : (bigSep HB (fun b => ((c : Thread nD τ).loc b) ↦{fullShare} V m c b) : sProp 𝕄)
    = iprop(((c : Thread nD τ).loc main_arg7 ↦{fullShare} V m c main_arg7) ∗ ((c : Thread nD τ).loc main_v31 ↦{fullShare} V m c main_v31) ∗ ((c : Thread nD τ).loc main_v32 ↦{fullShare} V m c main_v32) ∗ ((c : Thread nD τ).loc main_v33 ↦{fullShare} V m c main_v33) ∗ ((c : Thread nD τ).loc main_v34 ↦{fullShare} V m c main_v34) ∗ ((c : Thread nD τ).loc main_v35 ↦{fullShare} V m c main_v35)) := by
  rw [BI.bigSep_eq_bigSepL_of_eq [main_arg7, main_v31, main_v32, main_v33, main_v34, main_v35] (by decide) (by decide)]; rfl

set_option maxHeartbeats 2000000 in
theorem launch_in (c : Dev nD) : Pipeline.ΦD osem spec0 HB (V m) c ⊢ iprop((∃ d, owns (c : Thread nD τ) (Memref.whole cc0_scratch0) fullShare d) ∗ (∃ r, prngReg c r) ∗ hbm m c) := by
  rw [Pipeline.ΦD_eq, scopedRest0_eq, osem_eq, HB_eq]
  simp only [owns_whole]
  unfold hbm six outside
  iintro ⟨⟨S0, S1, S2, S3, S4, S5, S6⟩, Hg, ⟨Z00, Z01, Z02, Z10, Z11, Z12, Z20, Z21, Z22, Z30, Z31, Z32, Z40, Z41, Z42, Z50, Z51, Z52⟩, W0, W1, W2, W3, W4, W5⟩
  isplitl [S0]; · iexact S0
  isplitl [Hg]; · iexact Hg
  isplitl [S1 Z00 Z01 Z02 W0]
  · isplitl [S1]; · iexact S1
    isplitl [Z00 Z01 Z02]
    · isplitl [Z00]; · iexact Z00
      isplitl [Z01]; · iexact Z01
      iexact Z02
    iexact W0
  isplitl [S2 Z10 Z11 Z12 W1]
  · isplitl [S2]; · iexact S2
    isplitl [Z10 Z11 Z12]
    · isplitl [Z10]; · iexact Z10
      isplitl [Z11]; · iexact Z11
      iexact Z12
    iexact W1
  isplitl [S3 Z20 Z21 Z22 W2]
  · isplitl [S3]; · iexact S3
    isplitl [Z20 Z21 Z22]
    · isplitl [Z20]; · iexact Z20
      isplitl [Z21]; · iexact Z21
      iexact Z22
    iexact W2
  isplitl [S4 Z30 Z31 Z32 W3]
  · isplitl [S4]; · iexact S4
    isplitl [Z30 Z31 Z32]
    · isplitl [Z30]; · iexact Z30
      isplitl [Z31]; · iexact Z31
      iexact Z32
    iexact W3
  isplitl [S5 Z40 Z41 Z42 W4]
  · isplitl [S5]; · iexact S5
    isplitl [Z40 Z41 Z42]
    · isplitl [Z40]; · iexact Z40
      isplitl [Z41]; · iexact Z41
      iexact Z42
    iexact W4
  isplitl [S6]; · iexact S6
  isplitl [Z50 Z51 Z52]
  · isplitl [Z50]; · iexact Z50
    isplitl [Z51]; · iexact Z51
    iexact Z52
  iexact W5

set_option maxHeartbeats 2000000 in
theorem launch_out (c : Dev nD) : iprop((∃ d, owns (c : Thread nD τ) (Memref.whole cc0_scratch0) fullShare d) ∗ (∃ r, prngReg c r) ∗ hbm m c) ⊢ Pipeline.ΦD osem spec0 HB (V m) c := by
  rw [Pipeline.ΦD_eq, scopedRest0_eq, osem_eq, HB_eq]
  simp only [owns_whole]
  unfold hbm six outside
  iintro ⟨S0, Hg, ⟨S1, ⟨Z00, Z01, Z02⟩, W0⟩, ⟨S2, ⟨Z10, Z11, Z12⟩, W1⟩, ⟨S3, ⟨Z20, Z21, Z22⟩, W2⟩, ⟨S4, ⟨Z30, Z31, Z32⟩, W3⟩, ⟨S5, ⟨Z40, Z41, Z42⟩, W4⟩, ⟨S6, ⟨Z50, Z51, Z52⟩, W5⟩⟩
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  isplitl [Hg]; · iexact Hg
  isplitl [Z00 Z01 Z02 Z10 Z11 Z12 Z20 Z21 Z22 Z30 Z31 Z32 Z40 Z41 Z42 Z50 Z51 Z52]
  · isplitl [Z00]; · iexact Z00
    isplitl [Z01]; · iexact Z01
    isplitl [Z02]; · iexact Z02
    isplitl [Z10]; · iexact Z10
    isplitl [Z11]; · iexact Z11
    isplitl [Z12]; · iexact Z12
    isplitl [Z20]; · iexact Z20
    isplitl [Z21]; · iexact Z21
    isplitl [Z22]; · iexact Z22
    isplitl [Z30]; · iexact Z30
    isplitl [Z31]; · iexact Z31
    isplitl [Z32]; · iexact Z32
    isplitl [Z40]; · iexact Z40
    isplitl [Z41]; · iexact Z41
    isplitl [Z42]; · iexact Z42
    isplitl [Z50]; · iexact Z50
    isplitl [Z51]; · iexact Z51
    iexact Z52
  isplitl [W0]; · iexact W0
  isplitl [W1]; · iexact W1
  isplitl [W2]; · iexact W2
  isplitl [W3]; · iexact W3
  isplitl [W4]; · iexact W4
  iexact W5

/-! ## What every step leaves -/

theorem put_agree {s : Shape} {α : Type} (r : Rect s) (w : r.shape.Idx → α) (X X' : s.Idx → α) (h : ∀ i, (∀ j, r.emb j ≠ i) → X i = X' i) :
    Cert.Hg.put r w X = Cert.Hg.put r w X' := by
  funext i
  by_cases hi : ∃ j, r.emb j = i
  · obtain ⟨j, rfl⟩ := hi
    rw [Cert.Hg.put_emb, Cert.Hg.put_emb]
  · have hi' : ∀ j, r.emb j ≠ i := fun j e => hi ⟨j, e⟩
    rw [Cert.Hg.put_off _ _ _ _ hi', Cert.Hg.put_off _ _ _ _ hi', h i hi']

/-- Columns `o` to `o + w` of a matrix are a block of it. -/
theorem col_emb {n k w o : ℕ} (inb : ∀ a, (![0, o] : Fin 2 → ℕ) a + (⟨2, ![n, w]⟩ : Shape).size a ≤ (⟨2, ![n, k]⟩ : Shape).size a)
    (i : (⟨2, ![n, k]⟩ : Shape).Idx) (hi : ∀ j, (Rect.unit (s := ⟨2, ![n, k]⟩) ![0, o] (⟨2, ![n, w]⟩ : Shape).size inb).emb j ≠ i) :
    (i 1).val < o ∨ o + w ≤ (i 1).val := by
  by_contra h
  push Not at h
  have h0 : (i 0).val < n := (i 0).isLt
  refine hi (fun a => ⟨(![(i 0).val, (i 1).val - o] : Fin 2 → ℕ) a, ?_⟩) ?_
  · fin_cases a
    · exact h0
    · show (i 1).val - o < w; omega
  · funext a; apply Fin.ext; fin_cases a
    · show 0 + 1 * (i 0).val = (i 0).val; omega
    · show o + 1 * ((i 1).val - o) = (i 1).val; omega

/-- The blocks written cover their windows: what the windows held does not matter. -/
theorem Ins.o11_any (I : Ins F) (d d') : I.o11 d = I.o11 d' := by
  unfold Ins.o11
  refine put_agree _ _ _ _ fun i h1 => ?_
  by_cases h : ∃ j, rg0.emb j = i
  · obtain ⟨j, rfl⟩ := h
    rw [Cert.Hg.put_emb, Cert.Hg.put_emb]
  · have a := col_emb (n := 512) (k := 2048) (w := 1024) (o := 1024) Gen.inb_S512x2048_S512x1024_0_1024 i h1
    have b := col_emb (n := 512) (k := 2048) (w := 1024) (o := 0) Gen.inb_S512x2048_S512x1024_0_0 i fun j e => h ⟨j, e⟩
    have : (i 1).val < 2048 := (i 1).isLt
    omega

theorem Ins.o15_any (I : Ins F) (d d') : I.o15 d = I.o15 d' := by
  unfold Ins.o15 Ins.o15a
  refine put_agree _ _ _ _ fun i h2 => ?_
  by_cases h : ∃ j, rp0.emb j = i
  · obtain ⟨j, rfl⟩ := h
    rw [Cert.Hg.put_emb, Cert.Hg.put_emb]
  · have hi : ∀ j, rp0.emb j ≠ i := fun j e => h ⟨j, e⟩
    rw [Cert.Hg.put_off _ _ _ _ hi, Cert.Hg.put_off _ _ _ _ hi]
    by_cases h' : ∃ j, rp1.emb j = i
    · obtain ⟨j, rfl⟩ := h'
      rw [Cert.Hg.put_emb, Cert.Hg.put_emb]
    · have a := col_emb (n := 512) (k := 1536) (w := 512) (o := 1024) Gen.inb_S512x1536_S512x512_0_1024 i h2
      have b := col_emb (n := 512) (k := 1536) (w := 512) (o := 0) Gen.inb_S512x1536_S512x512_0_0 i hi
      have e := col_emb (n := 512) (k := 1536) (w := 512) (o := 512) Gen.inb_S512x1536_S512x512_0_512 i fun j e => h' ⟨j, e⟩
      have : (i 1).val < 1536 := (i 1).isLt
      omega

/-- A step's inputs, from the two buffers the steps share. -/
def insAt (c : Dev nD) (t : Fin cfg0.N) (X : S8x512.Idx → Elt F .f32) (Y : S3x512.Idx → Elt F .f32) : Ins F :=
  (held m c t).ins (bk8 t.val) (iblk m c 0 t) (iblk m c 1 t) (iblk m c 2 t) (iblk m c 3 t) (dyAt t.val X) (cwAt t.val Y)
/-- What the steps share, before step `p`. -/
def state (c : Dev nD) : ℕ → (S8x512.Idx → Elt F .f32) × (S3x512.Idx → Elt F .f32)
  | 0 => (zeroDy, zeroCw)
  | p + 1 => if h : p < cfg0.N then ((insAt m c ⟨p, h⟩ (state c p).1 (state c p).2).x1, (insAt m c ⟨p, h⟩ (state c p).1 (state c p).2).y3) else state c p
/-- A step's inputs. -/
def ins (c : Dev nD) (t : Fin cfg0.N) : Ins F := insAt m c t (state m c t.val).1 (state m c t.val).2

theorem state_succ (c : Dev nD) (t : Fin cfg0.N) : state m c (t.val + 1) = ((ins m c t).x1, (ins m c t).y3) := by
  rw [state, dif_pos t.isLt]; rfl

/-- What every step keeps for the next: the rows it carries, the register, the slots. -/
def keep (c : Dev nD) (p : ℕ) : sProp 𝕄 :=
  iprop((∃ X, ⌜dyAt p X = dyAt p (state m c p).1⌝ ∗ owns (c : Thread nD τ) (Memref.whole cc0_scratch0) fullShare X) ∗ (∃ r, prngReg c r) ∗ slots m c p)

/-- The launch's data: every input's buffer at its block, every output's at what the step computes. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (ins m c t).o11 (iblk m c 4 t)
    | ⟨5, _⟩ => (ins m c t).e195
    | ⟨6, _⟩ => (ins m c t).e196
    | ⟨7, _⟩ => (ins m c t).o14
    | ⟨8, _⟩ => (ins m c t).o15 (iblk m c 8 t)
    | ⟨9, _⟩ => (ins m c t).y3
  Φ t := keep m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (ins m c t).o11 (iblk m c 4 t) := by dsimp only [dats]
theorem after_5 (c : Dev nD) (t : Fin cfg0.N) : (dats m 0 c).after 5 t = (ins m c t).e195 := by dsimp only [dats]
theorem after_6 (c : Dev nD) (t : Fin cfg0.N) : (dats m 0 c).after 6 t = (ins m c t).e196 := by dsimp only [dats]
theorem after_7 (c : Dev nD) (t : Fin cfg0.N) : (dats m 0 c).after 7 t = (ins m c t).o14 := by dsimp only [dats]
theorem after_8 (c : Dev nD) (t : Fin cfg0.N) : (dats m 0 c).after 8 t = (ins m c t).o15 (iblk m c 8 t) := by dsimp only [dats]
theorem after_9 (c : Dev nD) (t : Fin cfg0.N) : (dats m 0 c).after 9 t = (ins m c t).y3 := by dsimp only [dats]

/-- An input's buffer holds its block at every step. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- The weights' cotangent, summed over the steps: every step but the first finds what the one before left. -/
theorem before_9 (c : Dev nD) (t : Fin cfg0.N) (d) : cwAt t.val ((dats m 0 c).before 9 t d) = cwAt t.val (state m c t.val).2 := by
  by_cases h : t.val = 0
  · rw [cwAt_first _ h, cwAt_first _ h]
  · congr 1
    have hN : t.val < 8 := lt_of_lt_of_eq t.isLt (show cfg0.N = 8 from N_0)
    rw [Dat.before_out_kept _ 9 rfl t (by omega) (Bool.eq_false_iff.mpr fun h => by have := (flush0_9 _).mp h; dsimp only at this; omega)
      (fun _ => rfl) (fun _ _ => rfl)]
    rw [after_9]
    have e := state_succ m c ⟨t.val - 1, by omega⟩
    rw [show (⟨t.val - 1, by omega⟩ : Fin cfg0.N).val + 1 = t.val by show t.val - 1 + 1 = t.val; omega] at e
    rw [e]

/-! ## The step as the launch calls it -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3]
  rw [after_0, after_1, after_2, after_3, after_4, after_5, after_6, after_7, after_8, after_9]
  rw [show (dats m 0 c).Φ t.castSucc = keep m c t.val by dsimp only [dats]; simp only [Fin.val_castSucc], show (dats m 0 c).Φ t.succ = keep m c (t.val + 1) by dsimp only [dats]; simp only [Fin.val_succ]]
  unfold Dat.owesAt Pipeline.owesWithin
  rw [show (dats m 0 c).owed t.castSucc = 0 from rfl, show (dats m 0 c).owed t.succ = 0 from rfl]
  unfold keep slots
  rw [ring_any m c 0 t, ring_any m c 0 t]
  iintro ⟨⟨⟨%X, %hX, H17⟩, Hg, HR⟩, ⟨%w, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hI : (held m c t).ins (bk8 t.val) (iblk m c 0 t) (iblk m c 1 t) (iblk m c 2 t) (iblk m c 3 t) (dyAt t.val X) (cwAt t.val ((dats m 0 c).before 9 t d9)) = ins m c t := by
    unfold ins insAt; rw [hX, before_9]
  have hb := fun Q => body c (bufs t) (held m c t) t Q (iblk m c 0 t) (iblk m c 1 t) (iblk m c 2 t) (iblk m c 3 t) X ((dats m 0 c).before 9 t d9)
    ((dats m 0 c).before 4 t d4) ((dats m 0 c).before 5 t d5) ((dats m 0 c).before 6 t d6) ((dats m 0 c).before 7 t d7) ((dats m 0 c).before 8 t d8)
  rw [hI] at hb
  have e4 := (ins m c t).o11_any ((dats m 0 c).before 4 t d4) (iblk m c 4 t)
  have e8 := (ins m c t).o15_any ((dats m 0 c).before 8 t d8) (iblk m c 8 t)
  rw [e4, e8] at hb
  iapply (hb _) $$ [H17 HR HO H0 H1 H2 H3 H4 H5 H6 H7 H8 H9]
  · isplitl [HR]; · iexact HR
    isplitl [H17 H9]
    · isplitl [H17]; · iexact H17
      iexact H9
    isplitl [HO]; · iexists w; iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨HR, ⟨%w', HO⟩, H0, H1, H2, H3, H4, H5, H6, H7, H8, H9, H17⟩
  isplitl [H17 Hg HR]
  · isplitl [H17]
    · iexists _
      isplitr
      swap; · iexact H17
      ipureintro; rw [state_succ]
    isplitl [Hg]; · iexact Hg
    iexact HR
  isplitl [HO]
  · iexists w'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem enter (c : Dev nD) : Pipeline.ΦD osem spec0 HB (V m) c ⊢ (dats m 0 c).Φ 0 := by
  rw [show (dats m 0 c).Φ 0 = keep m c 0 from rfl]
  unfold keep slots ring
  rw [if_pos rfl]
  iintro H
  ihave H := (launch_in m c) $$ H
  icases H with ⟨⟨%X, H17⟩, Hg, HB⟩
  isplitl [H17]
  · iexists X
    isplitr
    swap; · iexact H17
    ipureintro; rw [dyAt_first _ rfl, dyAt_first _ rfl]
  isplitl [Hg]; · iexact Hg
  iapply (streams m c).1; iexact HB

theorem leave (c : Dev nD) : (dats m 0 c).Φ (Fin.last cfg0.N) ⊢ Pipeline.ΦD osem spec0 HB (V m) c := by
  rw [show (dats m 0 c).Φ (Fin.last cfg0.N) = keep m c grid0.N from rfl, show grid0.N = 8 from N_0]
  unfold keep slots ring role
  rw [if_neg (by decide), if_neg (by decide), if_neg (by decide), show sl3 8 = 2 by decide, show sl3 (8 + 1) = 0 by decide, show sl3 (8 + 2) = 1 by decide]
  iintro ⟨⟨%X, -, H17⟩, Hg, R2, R0, R1⟩
  iapply (launch_out m c)
  isplitl [H17]; · iexists X; iexact H17
  isplitl [Hg]; · iexact Hg
  iapply (streams m c).2
  isplitl [R0]; · iexact R0
  isplitl [R1]; · iexact R1
  iexact R2

/-! ## The run -/

set_option maxHeartbeats 800000 in
theorem to_launch (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The program terminates, every array at what the steps leave there, every other buffer as the launch found it, every counter zero. -/
theorem run_main : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none osem_own HB HB_sub m ρ main
    (hbody := fun c => (body_obligation m c).loose) (hshare := fun c => (dats m 0 c).share_full fun _ => rfl)
    (howed := fun _ _ => rfl) (V := V m) (hmain := to_launch m Variants.none) (hA := A_eq m)
    (hin := enter m) (hout := leave m)

/-- A run that ends as the region's windows say keeps the arguments. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 3).trans (((dats m 0 c).arrAt_in 3 rfl _).trans ((A_eq m c 3).trans (V_main_arg6 m c))),
      ((h c).2 main_arg7 (Pipeline.mem_restRefs_of main_arg7 (by decide) (by decide))).trans (V_main_arg7 m c)⟩

/-- The frame, at any floats. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨kept m r h.1, h.2⟩) (run_main m ρ)

end Cert.Mg

end
-- ==== Proof.MgForms.lean ====
/- The closed forms of the results of the merge's backward kernel, and what a step reads of its arguments. -/
module

public import proofs.«01_k».proof.Proof.MgLaunch
public import proofs.«01_k».proof.Proof.Gen.Reference5Ideal.Read
public import proofs.«01_k».proof.Proof.Sigmoid
public import Idealize.ShloMosaic.Lib.Pipeline.ValueKit
public import Idealize.ShloMosaic.Lib.Pointwise

@[expose] public section

set_option maxRecDepth 16384

noncomputable section

namespace Cert.Mg

open Idealize.ShloMosaic Idealize.ShloMosaic.TcCoe
open Idealize.ShloMosaic.Pipeline (Dat)
open Cert.Kernel5Ideal
open Cert.Kernel5Ideal.Gen
open Cert.Sig (SG)
open Cert.Reference5Ideal.Read (val_main_v3 val_main_v29 val_main_v31)
open scoped BigOperators

/-! ## The closed forms -/

/-- The cotangent of the merged branches. -/
def DM (dx : FVec Ideal S4096x1024 .f32) (wo : FVec Ideal S1024x1024 .f32) : FVec Ideal S4096x1024 .f32 := fun i =>
  ∑ k : Fin 1024, dx (ix2 (i 0) k) * wo (ix2 (i 1) k)
/-- The logistic function of one half of the gates. -/
def SL (gt : FVec Ideal S4096x2048 .f32) : FVec Ideal S4096x1024 .f32 := fun i => SG (gt (ix2 (i 0) ⟨(i 1).val, by have : (i 1).val < 1024 := (i 1).isLt; omega⟩))
def SR (gt : FVec Ideal S4096x2048 .f32) : FVec Ideal S4096x1024 .f32 := fun i => SG (gt (ix2 (i 0) ⟨1024 + (i 1).val, by have : (i 1).val < 1024 := (i 1).isLt; omega⟩))
/-- A branch's cotangent. -/
def DB (dm s : FVec Ideal S4096x1024 .f32) : FVec Ideal S4096x1024 .f32 := fun i => dm i * s i
/-- A gate's cotangent, from its branch and the branch's cotangent. -/
def DG (db y s : FVec Ideal S4096x1024 .f32) : FVec Ideal S4096x1024 .f32 := fun i => db i * y i * (1 - s i)
/-- Two halves side by side. -/
def HV (a b : FVec Ideal S4096x1024 .f32) : FVec Ideal S4096x2048 .f32 := fun i =>
  if h : (i 1).val < 1024 then a (ix2 (i 0) ⟨(i 1).val, h⟩) else b (ix2 (i 0) ⟨(i 1).val - 1024, by have : (i 1).val < 2048 := (i 1).isLt; omega⟩)
/-- A branch's cotangent through its product. -/
def DP (db : FVec Ideal S4096x1024 .f32) (w : FVec Ideal S512x1024 .f32) : FVec Ideal S4096x512 .f32 := fun i =>
  ∑ k : Fin 1024, db (ix2 (i 0) k) * w (ix2 (i 1) k)
/-- Third `n` of the convolution's three inputs. -/
def TH (cv : FVec Ideal S4096x1536 .f32) (n : Fin 3) : FVec Ideal S4096x512 .f32 := fun i =>
  cv (ix2 (i 0) ⟨512 * n.val + (i 1).val, by have : (i 1).val < 512 := (i 1).isLt; omega⟩)
/-- The product of two arrays, entry by entry. -/
def ML (a b : FVec Ideal S4096x512 .f32) : FVec Ideal S4096x512 .f32 := fun i => a i * b i
/-- An array's row `q`, nothing past its end. -/
def RW (d : FVec Ideal S4096x512 .f32) (q : ℕ) (k : Fin 512) : EReal := if h : q < 4096 then d (ix2 ⟨q, h⟩ k) else 0
/-- The convolution's transpose: every row takes its own, the next and the next but one. -/
def CT (d : FVec Ideal S4096x512 .f32) (w : FVec Ideal S3x512 .f32) : FVec Ideal S4096x512 .f32 := fun i =>
  w (ix2 2 (i 1)) * RW d (i 0).val (i 1) + w (ix2 1 (i 1)) * RW d ((i 0).val + 1) (i 1) + w (ix2 0 (i 1)) * RW d ((i 0).val + 2) (i 1)
/-- Three thirds side by side. -/
def T3 (a b d : FVec Ideal S4096x512 .f32) : FVec Ideal S4096x1536 .f32 := fun i =>
  if h : (i 1).val < 512 then a (ix2 (i 0) ⟨(i 1).val, h⟩)
  else if h' : (i 1).val - 512 < 512 then b (ix2 (i 0) ⟨(i 1).val - 512, h'⟩)
  else d (ix2 (i 0) ⟨(i 1).val - 512 - 512, by have : (i 1).val < 1536 := (i 1).isLt; omega⟩)
theorem HV_lo (a b : FVec Ideal S4096x1024 .f32) (r : Fin 4096) (k : Fin 2048) (h : k.val < 1024) : HV a b (ix2 r k) = a (ix2 r ⟨k.val, h⟩) := dif_pos h
theorem HV_hi (a b : FVec Ideal S4096x1024 .f32) (r : Fin 4096) (k : Fin 2048) (h : ¬k.val < 1024) : HV a b (ix2 r k) = b (ix2 r ⟨k.val - 1024, by omega⟩) := dif_neg h
theorem T3_0 (a b d : FVec Ideal S4096x512 .f32) (r : Fin 4096) (k : Fin 1536) (h : k.val < 512) : T3 a b d (ix2 r k) = a (ix2 r ⟨k.val, h⟩) := dif_pos h
theorem T3_1 (a b d : FVec Ideal S4096x512 .f32) (r : Fin 4096) (k : Fin 1536) (h : ¬k.val < 512) (h' : k.val < 1024) : T3 a b d (ix2 r k) = b (ix2 r ⟨k.val - 512, by omega⟩) :=
  (dif_neg h).trans (dif_pos (show k.val - 512 < 512 by omega))
theorem T3_2 (a b d : FVec Ideal S4096x512 .f32) (r : Fin 4096) (k : Fin 1536) (h : 1024 ≤ k.val) : T3 a b d (ix2 r k) = d (ix2 r ⟨k.val - 1024, by omega⟩) :=
  (dif_neg (show ¬k.val < 512 by omega)).trans ((dif_neg (show ¬k.val - 512 < 512 by omega)).trans
    (congrArg (fun q => d (ix2 r q)) (Fin.ext (by show k.val - 512 - 512 = k.val - 1024; omega))))
/-- The convolution's weight gradient. -/
def WG (d u : FVec Ideal S4096x512 .f32) : FVec Ideal S3x512 .f32 := fun i =>
  ∑ q : Fin 4096, RW d (q.val + (2 - (i 0).val)) (i 1) * u (ix2 q (i 1))

variable (m : (ℓ : Loc nD τ sig) → Buf (Elt Ideal) ℓ) (c : Dev nD)

/-- The arguments, the saved values and the closed forms, at the launch's memory. -/
abbrev aOg : FVec Ideal S4096x512 .f32 := m ((c : Thread nD τ).loc main_arg0)
abbrev aCv : FVec Ideal S4096x1536 .f32 := m ((c : Thread nD τ).loc main_arg1)
abbrev aGt : FVec Ideal S4096x2048 .f32 := m ((c : Thread nD τ).loc main_arg2)
abbrev aWa : FVec Ideal S512x1024 .f32 := m ((c : Thread nD τ).loc main_arg3)
abbrev aWb : FVec Ideal S512x1024 .f32 := m ((c : Thread nD τ).loc main_arg4)
abbrev aWo : FVec Ideal S1024x1024 .f32 := m ((c : Thread nD τ).loc main_arg5)
abbrev aCw : FVec Ideal S3x512 .f32 := m ((c : Thread nD τ).loc main_arg6)
abbrev aDx : FVec Ideal S4096x1024 .f32 := m ((c : Thread nD τ).loc main_arg7)
abbrev YA : FVec Ideal S4096x1024 .f32 := val_main_v3 (F := Ideal) (aOg m c) (aWa m c)
abbrev CY : FVec Ideal S4096x512 .f32 := val_main_v29 (F := Ideal) (aCv m c) (aCw m c)
abbrev YB : FVec Ideal S4096x1024 .f32 := val_main_v31 (F := Ideal) (aCv m c) (aWb m c) (aCw m c)
abbrev DMm : FVec Ideal S4096x1024 .f32 := DM (aDx m c) (aWo m c)
abbrev DAm : FVec Ideal S4096x1024 .f32 := DB (DMm m c) (SL (aGt m c))
abbrev DBm : FVec Ideal S4096x1024 .f32 := DB (DMm m c) (SR (aGt m c))
abbrev DVm : FVec Ideal S4096x512 .f32 := DP (DBm m c) (aWb m c)
abbrev DYm : FVec Ideal S4096x512 .f32 := ML (DVm m c) (TH (aCv m c) 1)
abbrev Um : FVec Ideal S4096x512 .f32 := ML (TH (aCv m c) 0) (TH (aCv m c) 2)
abbrev DUm : FVec Ideal S4096x512 .f32 := CT (DYm m c) (aCw m c)

/-! ## What a step reads -/

/-- The rows of step `t`'s block. -/
theorem row_lt (t : Fin cfg0.N) (x : Fin 512) : 512 * (7 - t.val) + x.val < 4096 := by omega
abbrev row (t : Fin cfg0.N) (x : Fin 512) : Fin 4096 := ⟨512 * (7 - t.val) + x.val, row_lt t x⟩

theorem bk8_val (t : Fin cfg0.N) : (bk8 t.val).val = t.val := Nat.mod_eq_of_lt (lt_of_lt_of_eq t.isLt N_0)

/-- A block of an operand, entry by entry. -/
theorem blk_at {n : ℕ} {e : EltTy} (M : Memref sig .tc .hbm (Ar n) e) (W) (t : Fin cfg0.N) (X : (Ar n).Idx → Elt Ideal e)
    (hX : ∀ i, (M.view.read (Elt Ideal) W : (Ar n).Idx → Elt Ideal e) i = X i) (r : Fin 512) (k : Fin n) :
    blk c M W (bk8 t.val) (ix2 r k) = X (ix2 (row t r) k) := by
  rw [← hX]
  show M.view.read (Elt Ideal) W ((Rect.unit (s := Ar n) ![512 * (7 - (bk8 t.val).val), 0] (Bk n).size (inb_src _)).emb (ix2 r k)) = _
  refine congrArg _ ?_
  funext a; apply Fin.ext
  fin_cases a
  · show 512 * (7 - (bk8 t.val).val) + 1 * r.val = 512 * (7 - t.val) + r.val
    rw [bk8_val]; omega
  · show 0 + 1 * k.val = k.val
    omega

/-- What the host lines before the region leave in the operands' arrays. -/
theorem V_ya : (V m c main_v31 : FVec Ideal S4096x1024 .bf16) = YA m c := by
  unfold_abbrev_sides
  after_results
  rfl
theorem V_yb : (V m c main_v32 : FVec Ideal S4096x1024 .bf16) = YB m c := by
  unfold_abbrev_sides
  after_results
  rfl
theorem V_gt : (V m c main_v33 : FVec Ideal S4096x2048 .bf16) = aGt m c := by
  unfold_abbrev_sides
  after_results
  rfl
theorem V_cv : (V m c main_v34 : FVec Ideal S4096x1536 .bf16) = aCv m c := by
  unfold_abbrev_sides
  after_results
  rfl
theorem V_cy : (V m c main_v35 : FVec Ideal S4096x512 .bf16) = CY m c := by
  unfold_abbrev_sides
  after_results
  rfl
theorem V_wo : (V m c main_v42 : FVec Ideal S1024x1024 .bf16) = aWo m c := by
  unfold_abbrev_sides
  after_results
  rfl
theorem V_wa (d : Fin 8) (p : Fin 512) (q : Fin 128) : (V m c main_v38 : FVec Ideal S8x512x128 .bf16) (ix3 d p q)
    = aWa m c (ix2 p ⟨d.val * 128 + q.val, by omega⟩) := by
  unfold_abbrev_sides
  after_results
  pointwise
theorem V_wb (d : Fin 8) (p : Fin 512) (q : Fin 128) : (V m c main_v41 : FVec Ideal S8x512x128 .bf16) (ix3 d p q)
    = aWb m c (ix2 p ⟨d.val * 128 + q.val, by omega⟩) := by
  unfold_abbrev_sides
  after_results
  pointwise

/-- The streamed blocks, entry by entry. -/
theorem g1_at (t : Fin cfg0.N) (r : Fin 512) (k : Fin 1024) : (ins m c t).g1 (ix2 r k) = aDx m c (ix2 (row t r) k) :=
  blk_at c (bufs t).a1 (V m c main_arg7) t _ (fun i => congrFun (V_main_arg7 m c) i) r k
theorem g2_at (t : Fin cfg0.N) (r : Fin 512) (k : Fin 1024) : (ins m c t).g2 (ix2 r k) = YA m c (ix2 (row t r) k) :=
  blk_at c (bufs t).a2 (V m c main_v31) t _ (fun i => congrFun (V_ya m c) i) r k
theorem g3_at (t : Fin cfg0.N) (r : Fin 512) (k : Fin 1024) : (ins m c t).g3 (ix2 r k) = YB m c (ix2 (row t r) k) :=
  blk_at c (bufs t).a3 (V m c main_v32) t _ (fun i => congrFun (V_yb m c) i) r k
theorem g4_at (t : Fin cfg0.N) (r : Fin 512) (k : Fin 2048) : (ins m c t).g4 (ix2 r k) = aGt m c (ix2 (row t r) k) :=
  blk_at c (bufs t).a4 (V m c main_v33) t _ (fun i => congrFun (V_gt m c) i) r k
theorem g5_at (t : Fin cfg0.N) (r : Fin 512) (k : Fin 1536) : (ins m c t).g5 (ix2 r k) = aCv m c (ix2 (row t r) k) :=
  blk_at c (bufs t).a5 (V m c main_v34) t _ (fun i => congrFun (V_cv m c) i) r k
theorem g6_at (t : Fin cfg0.N) (r : Fin 512) (k : Fin 512) : (ins m c t).g6 (ix2 r k) = CY m c (ix2 (row t r) k) :=
  blk_at c (bufs t).a6 (V m c main_v35) t _ (fun i => congrFun (V_cy m c) i) r k

/-- Every window's block index, at every grid point. -/
theorem idx : ∀ t : Fin cfg0.N, win0_0.index t = ![0, 0, 0] ∧ win0_1.index t = ![0, 0, 0] ∧ win0_2.index t = ![0, 0]
    ∧ win0_3.index t = ![0, 0] ∧ win0_4.index t = ![7 - t.val, 0] ∧ win0_5.index t = ![7 - t.val, 0] ∧ win0_6.index t = ![7 - t.val, 0]
    ∧ win0_7.index t = ![7 - t.val, 0] ∧ win0_8.index t = ![7 - t.val, 0] ∧ win0_9.index t = ![0, 0] :=
  (by decide +kernel : ∀ t : Fin grid0.N, _)

/-- The windows of the weights. -/
theorem u_at (t : Fin cfg0.N) (d : Fin 8) (p : Fin 512) (q : Fin 128) : (ins m c t).u (ix3 d p q) = aWa m c (ix2 p ⟨d.val * 128 + q.val, by omega⟩) := by
  rw [← V_wa]
  show ((cfg0.win 0).blk t).view.read (Elt Ideal) (V m c main_v38) (ix3 d p q) = _
  generalize V m c main_v38 = w
  blk_ext [idx t]
theorem v_at (t : Fin cfg0.N) (d : Fin 8) (p : Fin 512) (q : Fin 128) : (ins m c t).v (ix3 d p q) = aWb m c (ix2 p ⟨d.val * 128 + q.val, by omega⟩) := by
  rw [← V_wb]
  show ((cfg0.win 1).blk t).view.read (Elt Ideal) (V m c main_v41) (ix3 d p q) = _
  generalize V m c main_v41 = w
  blk_ext [idx t]
theorem m_at (t : Fin cfg0.N) (r k : Fin 1024) : (ins m c t).m (ix2 r k) = aWo m c (ix2 r k) := by
  rw [← V_wo]
  show ((cfg0.win 2).blk t).view.read (Elt Ideal) (V m c main_v42) (ix2 r k) = _
  generalize V m c main_v42 = w
  blk_ext [idx t]
theorem k_at (t : Fin cfg0.N) (r : Fin 3) (k : Fin 512) : (ins m c t).k (ix2 r k) = aCw m c (ix2 r k) := by
  show ((cfg0.win 3).blk t).view.read (Elt Ideal) (V m c main_arg6) (ix2 r k) = _
  rw [V_main_arg6]
  blk_ext [idx t]

end Cert.Mg

end
-- ==== Proof.MgValue.lean ====
/- What a step of the merge's backward kernel computes, entry by entry. -/
module

public import proofs.«01_k».proof.Proof.MgForms

@[expose] public section

set_option maxRecDepth 16384

noncomputable section

namespace Cert.Mg

open Idealize.ShloMosaic Idealize.ShloMosaic.TcCoe
open Idealize.ShloMosaic.Pipeline (Dat)
open Cert.Kernel5Ideal
open Cert.Kernel5Ideal.Gen
open Cert.Sig (SG)
open scoped BigOperators

/-! ## The pieces of the step's loads -/

/-- A block through the layer a load gives. -/
theorem cast_layer {n : ℕ} {e : EltTy} (hq : (R1 n).Squeezes (Bk n)) (g : (Bk n).Idx → Elt Ideal e) (h : (R1 n).ShapeCasts (Bk n)) :
    shapeCast (Bk n) (layer hq g) h = g := by
  funext j
  show g ((Shape.reshapeEquiv _).symm (Shape.reshapeEquiv _ j)) = g j
  rw [Equiv.symm_apply_apply]

/-- Where the loads' rectangles lie. -/
theorem rm_emb (r k : Fin 1024) : rm.emb (ix2 r k) = ix2 r k := by
  funext a; apply Fin.ext; fin_cases a <;> (show 0 + 1 * _ = _; simp)
theorem rg0_emb (r : Fin 512) (k : Fin 1024) : rg0.emb (ix2 r k) = ix2 r ⟨k.val, by omega⟩ := by
  funext a; apply Fin.ext; fin_cases a <;> (show 0 + 1 * _ = _; simp)
theorem rg1_emb (r : Fin 512) (k : Fin 1024) : rg1.emb (ix2 r k) = ix2 r ⟨1024 + k.val, by omega⟩ := by
  funext a; apply Fin.ext; fin_cases a
  · show 0 + 1 * _ = _; simp
  · show 1024 + 1 * _ = 1024 + _; simp
theorem rk0_emb (r : Fin 1) (k : Fin 512) : rk0.emb (ix2 r k) = ix2 0 k := by
  funext a; apply Fin.ext; fin_cases a
  · show 0 + 1 * r.val = 0; omega
  · show 0 + 1 * _ = _; simp
theorem rk1_emb (r : Fin 1) (k : Fin 512) : rk1.emb (ix2 r k) = ix2 1 k := by
  funext a; apply Fin.ext; fin_cases a
  · show 1 + 1 * r.val = 1; omega
  · show 0 + 1 * _ = _; simp
theorem rk2_emb (r : Fin 1) (k : Fin 512) : rk2.emb (ix2 r k) = ix2 2 k := by
  funext a; apply Fin.ext; fin_cases a
  · show 2 + 1 * r.val = 2; omega
  · show 0 + 1 * _ = _; simp
theorem rx0_emb (r : Fin 1) (k : Fin 512) : rx0.emb (ix2 r k) = ix2 0 k := by
  funext a; apply Fin.ext; fin_cases a
  · show 0 + 1 * r.val = 0; omega
  · show 0 + 1 * _ = _; simp
theorem rx1_emb (r : Fin 1) (k : Fin 512) : rx1.emb (ix2 r k) = ix2 1 k := by
  funext a; apply Fin.ext; fin_cases a
  · show 1 + 1 * r.val = 1; omega
  · show 0 + 1 * _ = _; simp
theorem rp0_emb (r k : Fin 512) : rp0.emb (ix2 r k) = ix2 r ⟨k.val, by omega⟩ := by
  funext a; apply Fin.ext; fin_cases a <;> (show 0 + 1 * _ = _; simp)
theorem rp1_emb (r k : Fin 512) : rp1.emb (ix2 r k) = ix2 r ⟨512 + k.val, by omega⟩ := by
  funext a; apply Fin.ext; fin_cases a
  · show 0 + 1 * _ = _; simp
  · show 512 + 1 * _ = 512 + _; simp
theorem rp2_emb (r k : Fin 512) : rp2.emb (ix2 r k) = ix2 r ⟨1024 + k.val, by omega⟩ := by
  funext a; apply Fin.ext; fin_cases a
  · show 0 + 1 * _ = _; simp
  · show 1024 + 1 * _ = 1024 + _; simp
theorem rl_emb (l : Fin 8) (h) (r : Fin 1) (p : Fin 512) (q : Fin 128) : (rl l.val h).emb (ix3 r p q) = ix3 l p q := by
  funext a; apply Fin.ext; fin_cases a
  · show l.val + 1 * r.val = l.val; omega
  · show 0 + 1 * _ = _; simp
  · show 0 + 1 * _ = _; simp
theorem part_at {s : Shape} {e : EltTy} {r : Rect s} {j : r.shape.Idx} {i : s.Idx} (X : s.Idx → Elt Ideal e) (h : r.emb j = i) : part r X j = X i := congrArg X h

/-! ## The step -/

variable (m : (ℓ : Loc nD τ sig) → Buf (Elt Ideal) ℓ) (c : Dev nD)

theorem e116_at (t : Fin cfg0.N) (r : Fin 512) (k : Fin 1024) : (ins m c t).e116 (ix2 r k) = DMm m c (ix2 (row t r) k) := by
  unfold Ins.e116 k0_pay7
  rw [show shapeCast S512x1024 (layer q1024 (ins m c t).g1) shapeCasts_S1x512x1024_S512x1024 = (ins m c t).g1 from cast_layer q1024 _ _,
    show part rm (ins m c t).m = (ins m c t).m from by
      funext j; idx_vars j; exact part_at _ (rm_emb j0 j1)]
  pointwise [DM]
  simp only [g1_at, m_at]
theorem e195_at (t : Fin cfg0.N) (r : Fin 512) (k : Fin 1024) : (ins m c t).e195 (ix2 r k) = DAm m c (ix2 (row t r) k) := by
  unfold Ins.e195
  pointwise [k0_pay25, k0_pay21, k0_pay19, e116_at]
  rw [part_at _ (rg0_emb r k), g4_at]
  rfl
theorem e196_at (t : Fin cfg0.N) (r : Fin 512) (k : Fin 1024) : (ins m c t).e196 (ix2 r k) = DBm m c (ix2 (row t r) k) := by
  unfold Ins.e196
  pointwise [k0_pay26, k0_pay22, k0_pay20, e116_at]
  rw [part_at _ (rg1_emb r k), g4_at]
  rfl
/-- The eight shards of a weight, side by side. -/
theorem cat8 (f : Fin 8 → FVec Ideal S512x128 .bf16) (h) (p : Fin 512) (k : Fin 1024) :
    concatenate S512x1024 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩] h (ix2 p k)
      = f ⟨k.val / 128, by omega⟩ (ix2 p ⟨k.val % 128, by omega⟩) := by
  refine concatenate_ofFn_apply (s₁ := S512x128) (t := S512x1024) (1 : Fin 2) f h rfl 128 rfl (ix2 p k) ⟨k.val / 128, by omega⟩ rfl (ix2 p ⟨k.val % 128, by omega⟩) rfl fun a ha => ?_
  fin_cases a
  · rfl
  · exact absurd rfl ha
theorem rl_in (l : Fin 8) : ∀ a, (![l.val, 0, 0] : Fin 3 → ℕ) a + S1x512x128.size a ≤ S8x512x128.size a := by
  fin_cases l <;> decide
/-- A shard of a weight, as the step loads it. -/
theorem shard_at (X : S8x512x128.Idx → Elt Ideal .bf16) (l : Fin 8) (p : Fin 512) (q : Fin 128) :
    shapeCast S512x128 (part (rl l.val (rl_in l)) X : Vec Ideal S1x512x128 .bf16) shapeCasts_S1x512x128_S512x128 (ix2 p q) = X (ix3 l p q) := by
  have h : ∀ Y : Vec Ideal S1x512x128 .bf16, shapeCast S512x128 Y shapeCasts_S1x512x128_S512x128 (ix2 p q) = Y (ix3 0 p q) := fun Y => by pointwise
  rw [h]
  exact part_at _ (rl_emb l _ 0 p q)
theorem e150_at (t : Fin cfg0.N) (p : Fin 512) (k : Fin 1024) : (ins m c t).e150 (ix2 p k) = aWb m c (ix2 p k) := by
  refine (cat8 (fun l => shapeCast S512x128 (part (rl l.val (rl_in l)) (ins m c t).v : Vec Ideal S1x512x128 .bf16) shapeCasts_S1x512x128_S512x128) concatenates_S512x128_S512x128_S512x128_S512x128_S512x128_S512x128_S512x128_S512x128_S512x1024_d1 p k).trans ?_
  rw [shard_at, v_at]
  exact congrArg (fun q => aWb m c (ix2 p q)) (Fin.ext (Nat.div_add_mod' _ _))
theorem e133_at (t : Fin cfg0.N) (p : Fin 512) (k : Fin 1024) : (ins m c t).e133 (ix2 p k) = aWa m c (ix2 p k) := by
  refine (cat8 (fun l => shapeCast S512x128 (part (rl l.val (rl_in l)) (ins m c t).u : Vec Ideal S1x512x128 .bf16) shapeCasts_S1x512x128_S512x128) concatenates_S512x128_S512x128_S512x128_S512x128_S512x128_S512x128_S512x128_S512x128_S512x1024_d1 p k).trans ?_
  rw [shard_at, u_at]
  exact congrArg (fun q => aWa m c (ix2 p q)) (Fin.ext (Nat.div_add_mod' _ _))

theorem o14_at (t : Fin cfg0.N) (r p : Fin 512) : (ins m c t).o14 (ix2 r p) = DP (DAm m c) (aWa m c) (ix2 (row t r) p) := by
  unfold Ins.o14
  pointwise [k0_pay27, DP]
  simp only [e195_at, e133_at]
theorem p28_at (t : Fin cfg0.N) (r p : Fin 512) : k0_pay28 (ins m c t).e150 (ins m c t).e196 (ix2 r p) = DVm m c (ix2 (row t r) p) := by
  pointwise [k0_pay28, DP]
  simp only [e196_at, e150_at]
theorem p29_eq (t : Fin cfg0.N) : k0_pay29 (layer q1536 (ins m c t).g5) = (ins m c t).g5 := by
  unfold k0_pay29
  rw [show shapeCast S512x1536 (layer q1536 (ins m c t).g5) shapeCasts_S1x512x1536_S512x1536 = (ins m c t).g5 from cast_layer q1536 _ _]
  rfl
theorem e206_at (t : Fin cfg0.N) (r p : Fin 512) : (ins m c t).e206 (ix2 r p) = TH (aCv m c) 0 (ix2 (row t r) p) := by
  unfold Ins.e206 k0_pay30
  rw [p29_eq]
  pointwise [TH]
  rw [g5_at]
theorem e208_at (t : Fin cfg0.N) (r p : Fin 512) : (ins m c t).e208 (ix2 r p) = TH (aCv m c) 2 (ix2 (row t r) p) := by
  unfold Ins.e208 k0_pay31
  rw [p29_eq]
  pointwise [TH]
  rw [g5_at]
theorem e209_at (t : Fin cfg0.N) (r p : Fin 512) : (ins m c t).e209 (ix2 r p) = Um m c (ix2 (row t r) p) := by
  show (ins m c t).e206 (ix2 r p) * (ins m c t).e208 (ix2 r p) = _
  rw [e206_at, e208_at]
  rfl
theorem e221_at (t : Fin cfg0.N) (r p : Fin 512) : (ins m c t).e221 (ix2 r p) = DYm m c (ix2 (row t r) p) := by
  unfold Ins.e221 k0_pay34
  rw [p29_eq]
  pointwise [p28_at, ML, TH]
  rw [g5_at]
theorem o15a_at (t : Fin cfg0.N) (r p : Fin 512) : k0_pay33 (ins m c t).e150 (ins m c t).e196 (layer q512 (ins m c t).g6) (ix2 r p) = ML (DVm m c) (CY m c) (ix2 (row t r) p) := by
  unfold k0_pay33
  rw [show shapeCast S512x512 (layer q512 (ins m c t).g6) shapeCasts_S1x512x512_S512x512 = (ins m c t).g6 from cast_layer q512 _ _]
  pointwise [p28_at, g6_at, ML]
theorem p23_at (t : Fin cfg0.N) (r : Fin 512) (k : Fin 1024) : k0_pay23 (ins m c t).e116 (ins m c t).e154 (part rg0 (ins m c t).g4) (ix2 r k) = DG (DAm m c) (YA m c) (SL (aGt m c)) (ix2 (row t r) k) := by
  unfold Ins.e154 k0_pay17
  rw [show shapeCast S512x1024 (layer q1024 (ins m c t).g2) shapeCasts_S1x512x1024_S512x1024 = (ins m c t).g2 from cast_layer q1024 _ _]
  pointwise [k0_pay23, k0_pay21, k0_pay19, e116_at, g2_at]
  rw [part_at _ (rg0_emb r k), g4_at]
  rfl
theorem p24_at (t : Fin cfg0.N) (r : Fin 512) (k : Fin 1024) : k0_pay24 (ins m c t).e116 (ins m c t).e158 (part rg1 (ins m c t).g4) (ix2 r k) = DG (DBm m c) (YB m c) (SR (aGt m c)) (ix2 (row t r) k) := by
  unfold Ins.e158 k0_pay18
  rw [show shapeCast S512x1024 (layer q1024 (ins m c t).g3) shapeCasts_S1x512x1024_S512x1024 = (ins m c t).g3 from cast_layer q1024 _ _]
  pointwise [k0_pay24, k0_pay22, k0_pay20, e116_at, g3_at]
  rw [part_at _ (rg1_emb r k), g4_at]
  rfl

/-! ## The rows carried from the step after -/

theorem carry_at (t : Fin cfg0.N) (a : Fin 8) (p : Fin 512) : (ins m c t).x (ix2 a p) = RW (DYm m c) (512 * (7 - t.val) + 512 + a.val) p := by
  obtain ⟨n, hn⟩ := t
  have h8 : n < 8 := lt_of_lt_of_eq hn N_0
  cases n with
  | zero =>
    refine (congrFun (dyAt_first (F := Ideal) (state m c 0).1 rfl) (ix2 a p)).trans ?_
    unfold RW
    rw [dif_neg (by show ¬ 512 * (7 - 0) + 512 + a.val < 4096; omega)]
    pointwise [zeroDy, k0_pay5]
  | succ s =>
    show (state m c (s + 1)).1 (ix2 a p) = _
    rw [state_succ m c ⟨s, by omega⟩]
    show k0_pay4 (ins m c ⟨s, _⟩).e221 (ix2 a p) = _
    pointwise [k0_pay4, e221_at]
    unfold RW
    rw [dif_pos (by show 512 * (7 - (s + 1)) + 512 + a.val < 4096; omega)]
    exact congrArg (fun q => DYm m c (ix2 q p)) (Fin.ext (by show 512 * (7 - s) + a.val = 512 * (7 - (s + 1)) + 512 + a.val; omega))

theorem e228_at (t : Fin cfg0.N) (r p : Fin 512) : (ins m c t).e228 (ix2 r p) = RW (DYm m c) (512 * (7 - t.val) + 512) p := by
  unfold Ins.e228
  pointwise [k0_pay37]
  rw [part_at _ (rx0_emb 0 p), carry_at]
  rfl
theorem rw_row (t : Fin cfg0.N) (x p : Fin 512) (n : ℕ) (y : Fin 512) (h : y.val = x.val + n) : DYm m c (ix2 (row t y) p) = RW (DYm m c) (512 * (7 - t.val) + x.val + n) p := by
  have e := row_lt t y
  unfold RW
  rw [dif_pos (by omega)]
  exact congrArg (fun q => DYm m c (ix2 q p)) (Fin.ext (by show 512 * (7 - t.val) + y.val = 512 * (7 - t.val) + x.val + n; omega))
theorem sel_lt {α : Type} (x n : ℕ) (hx : x < 2 ^ 31) (hn : n < 2 ^ 31) (a b : α) :
    Scalar.select (IntOp.cmpi .slt (BitVec.ofNat 32 x) (BitVec.ofNat 32 n)) a b = if x < n then a else b := by
  rw [WordCmp.cmpi_slt_ofNat hx hn]
  by_cases h : x < n <;> simp [h, Scalar.select]
theorem sel_eq {α : Type} (x n : ℕ) (hx : x < 2 ^ 31) (hn : n < 2 ^ 31) (a b : α) :
    Scalar.select (IntOp.cmpi .eq (BitVec.ofNat 32 x) (BitVec.ofNat 32 n)) a b = if x = n then a else b := by
  rw [WordCmp.cmpi_eq_ofNat (by omega) (by omega)]
  by_cases h : x = n <;> simp [h, Scalar.select]
theorem dy1_at (t : Fin cfg0.N) (x p : Fin 512) : k0_pay38 k0_pay35 (ins m c t).e226 (ins m c t).e228 (ix2 x p) = RW (DYm m c) (512 * (7 - t.val) + x.val + 1) p := by
  have e : ∀ y : Fin 512, k0_pay34 (ins m c t).e150 (ins m c t).e196 (layer q1536 (ins m c t).g5) (ix2 y p) = _ := fun y => e221_at m c t y p
  unfold Ins.e226
  pointwise [k0_pay38, k0_pay35, k0_pay36, e228_at]
  rw [e]
  refine (sel_lt x.val 511 (by omega) (by omega) _ _).trans ?_
  split_ifs with h
  · exact rw_row m c t x p 1 _ (by show (x.val + 512 - 511) % 512 = _; omega)
  · exact congrArg (fun q => RW (DYm m c) q p) (by omega)
theorem dy2_at (t : Fin cfg0.N) (x p : Fin 512) : k0_pay39 Ins.e210 (ins m c t).e221 (part rx0 (ins m c t).x) (part rx1 (ins m c t).x) (ix2 x p)
    = RW (DYm m c) (512 * (7 - t.val) + x.val + 2) p := by
  unfold Ins.e210
  pointwise [k0_pay39, e221_at]
  rw [part_at _ (rx0_emb 0 p), part_at _ (rx1_emb 0 p), carry_at, carry_at]
  refine (sel_lt x.val 510 (by omega) (by omega) _ _).trans ?_
  split_ifs with h
  · exact rw_row m c t x p 2 _ (by show (x.val + 512 - 510) % 512 = _; omega)
  · refine (sel_eq x.val 510 (by omega) (by omega) _ _).trans ?_
    split_ifs with h'
    · exact congrArg (fun q => RW (DYm m c) q p) (by show _ + 512 + 0 = _; omega)
    · exact congrArg (fun q => RW (DYm m c) q p) (by show _ + 512 + 1 = _; omega)

/-! ## The convolution's transpose and its weight gradient -/

theorem du_at (t : Fin cfg0.N) (x p : Fin 512) : k0_pay1 (ins m c t).e240 (ins m c t).e266 (ins m c t).e267 (ix2 x p) = DUm m c (ix2 (row t x) p) := by
  have e : (ins m c t).e240 (ix2 x p) = _ := dy2_at m c t x p
  unfold Ins.e266 Ins.e267
  pointwise [k0_pay1, k0_pay43, k0_pay44, e, dy1_at, e221_at, CT]
  rw [part_at _ (rk0_emb 0 p), part_at _ (rk1_emb 0 p), part_at _ (rk2_emb 0 p), k_at, k_at, k_at, rw_row m c t x p 0 x rfl]
  rfl
theorem o15l_at (t : Fin cfg0.N) (x p : Fin 512) : k0_pay2 (ins m c t).e208 (ins m c t).e240 (ins m c t).e266 (ins m c t).e267 (ix2 x p) = ML (DUm m c) (TH (aCv m c) 2) (ix2 (row t x) p) := by
  pointwise [k0_pay2, du_at, e208_at, ML]
theorem o15r_at (t : Fin cfg0.N) (x p : Fin 512) : k0_pay3 (ins m c t).e206 (ins m c t).e240 (ins m c t).e266 (ins m c t).e267 (ix2 x p) = ML (DUm m c) (TH (aCv m c) 0) (ix2 (row t x) p) := by
  pointwise [k0_pay3, du_at, e206_at, ML]

/-- What a step adds to the weight gradient. -/
def WP (t : Fin cfg0.N) (n : Fin 3) (p : Fin 512) : EReal :=
  ∑ x : Fin 512, RW (DYm m c) (512 * (7 - t.val) + x.val + (2 - n.val)) p * Um m c (ix2 (row t x) p)
theorem row_ne {n n' : Fin 3} {k k' : Fin 512} (h : n ≠ n') : (ix2 n k : S3x512.Idx) ≠ ix2 n' k' := fun e => h (congrFun e 0)
theorem y1_at (t : Fin cfg0.N) (p : Fin 512) : (ins m c t).y1 (ix2 0 p) = (ins m c t).y (ix2 0 p) + WP m c t 0 p := by
  unfold Ins.y1
  rw [← rk0_emb 0 p, Cert.Hg.put_emb]
  pointwise [k0_pay40, dy2_at, e209_at, WP]
  rfl
theorem y1_off (t : Fin cfg0.N) (n : Fin 3) (h : n ≠ 0) (p : Fin 512) : (ins m c t).y1 (ix2 n p) = (ins m c t).y (ix2 n p) :=
  Cert.Hg.put_off _ _ _ _ fun j => by
    idx_vars j
    rw [rk0_emb]
    exact row_ne h.symm
theorem y2_at (t : Fin cfg0.N) (p : Fin 512) : (ins m c t).y2 (ix2 1 p) = (ins m c t).y (ix2 1 p) + WP m c t 1 p := by
  unfold Ins.y2
  rw [← rk1_emb 0 p, Cert.Hg.put_emb]
  pointwise [k0_pay41, dy1_at, e209_at, WP]
  rw [part_at _ (rk1_emb 0 p), y1_off m c t 1 (by decide), rk1_emb]
theorem y2_off (t : Fin cfg0.N) (n : Fin 3) (h : n ≠ 1) (p : Fin 512) : (ins m c t).y2 (ix2 n p) = (ins m c t).y1 (ix2 n p) :=
  Cert.Hg.put_off _ _ _ _ fun j => by
    idx_vars j
    rw [rk1_emb]
    exact row_ne h.symm
theorem y3_two (t : Fin cfg0.N) (p : Fin 512) : (ins m c t).y3 (ix2 2 p) = (ins m c t).y (ix2 2 p) + WP m c t 2 p := by
  unfold Ins.y3
  rw [← rk2_emb 0 p, Cert.Hg.put_emb]
  pointwise [k0_pay42, e221_at, e209_at, WP]
  rw [part_at _ (rk2_emb 0 p), y2_off m c t 2 (by decide), y1_off m c t 2 (by decide), rk2_emb]
  refine congrArg _ (Finset.sum_congr rfl fun x _ => ?_)
  rw [rw_row m c t x p 0 x rfl]
  rfl
theorem y3_off (t : Fin cfg0.N) (n : Fin 3) (h : n ≠ 2) (p : Fin 512) : (ins m c t).y3 (ix2 n p) = (ins m c t).y2 (ix2 n p) :=
  Cert.Hg.put_off _ _ _ _ fun j => by
    idx_vars j
    rw [rk2_emb]
    exact row_ne h.symm
theorem y3_at (t : Fin cfg0.N) (n : Fin 3) (p : Fin 512) : (ins m c t).y3 (ix2 n p) = (ins m c t).y (ix2 n p) + WP m c t n p := by
  fin_cases n
  · exact (y3_off m c t 0 (by decide) p).trans ((y2_off m c t 0 (by decide) p).trans (y1_at m c t p))
  · exact (y3_off m c t 1 (by decide) p).trans (y2_at m c t p)
  · exact y3_two m c t p

/-! ## The results -/

theorem o11_at (t : Fin cfg0.N) (d) (r : Fin 512) (k : Fin 2048) : (ins m c t).o11 d (ix2 r k)
    = HV (DG (DAm m c) (YA m c) (SL (aGt m c))) (DG (DBm m c) (YB m c) (SR (aGt m c))) (ix2 (row t r) k) := by
  unfold Ins.o11
  by_cases h : k.val < 1024
  · refine (Cert.Hg.put_off _ _ _ _ fun j => ?_).trans ?_
    · idx_vars j
      rw [rg1_emb]
      intro e
      have : (1024 + j1.val : ℕ) = k.val := congrArg Fin.val (congrFun e 1)
      omega
    · have e : (ix2 r k : S512x2048.Idx) = rg0.emb (ix2 r ⟨k.val, h⟩) := (rg0_emb r ⟨k.val, h⟩).symm
      rw [e, Cert.Hg.put_emb, p23_at, HV_lo _ _ _ _ h]
  · have e : (ix2 r k : S512x2048.Idx) = rg1.emb (ix2 r ⟨k.val - 1024, by omega⟩) :=
      (congrArg (ix2 r) (Fin.ext (by show k.val = 1024 + (k.val - 1024); omega))).trans (rg1_emb _ _).symm
    rw [e, Cert.Hg.put_emb, p24_at, HV_hi _ _ _ _ h]
theorem o15_at (t : Fin cfg0.N) (d) (r : Fin 512) (k : Fin 1536) : (ins m c t).o15 d (ix2 r k)
    = T3 (ML (DUm m c) (TH (aCv m c) 2)) (ML (DVm m c) (CY m c)) (ML (DUm m c) (TH (aCv m c) 0)) (ix2 (row t r) k) := by
  unfold Ins.o15 Ins.o15a
  by_cases h2 : 1024 ≤ k.val
  · have e : (ix2 r k : S512x1536.Idx) = rp2.emb (ix2 r ⟨k.val - 1024, by omega⟩) :=
      (congrArg (ix2 r) (Fin.ext (by show k.val = 1024 + (k.val - 1024); omega))).trans (rp2_emb _ _).symm
    rw [e, Cert.Hg.put_emb, o15r_at, T3_2 _ _ _ _ _ h2]
  · refine (Cert.Hg.put_off _ _ _ _ fun j => ?_).trans ?_
    · idx_vars j
      rw [rp2_emb]
      intro e
      have : (1024 + j1.val : ℕ) = k.val := congrArg Fin.val (congrFun e 1)
      omega
    · by_cases h : k.val < 512
      · have e : (ix2 r k : S512x1536.Idx) = rp0.emb (ix2 r ⟨k.val, h⟩) := (rp0_emb r ⟨k.val, h⟩).symm
        rw [e, Cert.Hg.put_emb, o15l_at, T3_0 _ _ _ _ _ h]
      · refine (Cert.Hg.put_off _ _ _ _ fun j => ?_).trans ?_
        · idx_vars j
          rw [rp0_emb]
          intro e
          have : (j1.val : ℕ) = k.val := congrArg Fin.val (congrFun e 1)
          omega
        · have e : (ix2 r k : S512x1536.Idx) = rp1.emb (ix2 r ⟨k.val - 512, by omega⟩) :=
            (congrArg (ix2 r) (Fin.ext (by show k.val = 512 + (k.val - 512); omega))).trans (rp1_emb _ _).symm
          rw [e, Cert.Hg.put_emb, o15a_at, T3_1 _ _ _ _ _ h (by omega)]

theorem final4 : (dats m 0 c).arrAt 4 cfg0.N = HV (DG (DAm m c) (YA m c) (SL (aGt m c))) (DG (DBm m c) (YB m c) (SR (aGt m c))) := by
  refine (dats m 0 c).arrAt_eq_of_covers 4 _ (by decide +kernel) fun t _ y => ?_
  blk_simp
  rw [after_4]
  idx_vars y
  refine (o11_at m c t _ y0 y1).trans (congrArg _ ?_)
  blk_ext [idx t]
theorem final5 : (dats m 0 c).arrAt 5 cfg0.N = DAm m c := by
  refine (dats m 0 c).arrAt_eq_of_covers 5 _ (by decide +kernel) fun t _ y => ?_
  blk_simp
  rw [after_5]
  idx_vars y
  refine (e195_at m c t y0 y1).trans (congrArg _ ?_)
  blk_ext [idx t]
theorem final6 : (dats m 0 c).arrAt 6 cfg0.N = DBm m c := by
  refine (dats m 0 c).arrAt_eq_of_covers 6 _ (by decide +kernel) fun t _ y => ?_
  blk_simp
  rw [after_6]
  idx_vars y
  refine (e196_at m c t y0 y1).trans (congrArg _ ?_)
  blk_ext [idx t]
theorem final7 : (dats m 0 c).arrAt 7 cfg0.N = DP (DAm m c) (aWa m c) := by
  refine (dats m 0 c).arrAt_eq_of_covers 7 _ (by decide +kernel) fun t _ y => ?_
  blk_simp
  rw [after_7]
  idx_vars y
  refine (o14_at m c t y0 y1).trans (congrArg _ ?_)
  blk_ext [idx t]
theorem final8 : (dats m 0 c).arrAt 8 cfg0.N = T3 (ML (DUm m c) (TH (aCv m c) 2)) (ML (DVm m c) (CY m c)) (ML (DUm m c) (TH (aCv m c) 0)) := by
  refine (dats m 0 c).arrAt_eq_of_covers 8 _ (by decide +kernel) fun t _ y => ?_
  blk_simp
  rw [after_8]
  idx_vars y
  refine (o15_at m c t _ y0 y1).trans (congrArg _ ?_)
  blk_ext [idx t]

theorem y3_reset (t : Fin cfg0.N) (h : t.val % 8 = 0) (j : S3x512.Idx) : (ins m c t).y3 j = 0 + WP m c t (j 0) (j 1) := by
  idx_vars j
  refine (y3_at m c t j0 j1).trans (congrArg (· + _) ?_)
  have h0 : t.val = 0 := by have := lt_of_lt_of_eq t.isLt N_0; omega
  refine (congrFun (cwAt_first (F := Ideal) (t := t.val) (state m c t.val).2 h0) (ix2 j0 j1)).trans ?_
  pointwise [zeroCw, k0_pay6]
theorem y3_step (t : Fin cfg0.N) (h : ¬t.val % 8 = 0) (j : S3x512.Idx) :
    (ins m c t).y3 j = (ins m c ⟨t.val - 1, Nat.lt_of_le_of_lt (Nat.sub_le _ _) t.isLt⟩).y3 j + WP m c t (j 0) (j 1) := by
  idx_vars j
  refine (y3_at m c t j0 j1).trans (congrArg (· + _) ?_)
  obtain ⟨n, hn⟩ := t
  cases n with
  | zero => exact absurd rfl h
  | succ s =>
    show (state m c (s + 1)).2 (ix2 j0 j1) = _
    rw [state_succ m c ⟨s, by omega⟩]
    rfl
/-- A sum over the rows, block by block from the last. -/
theorem sum_back (G : Fin 4096 → EReal) : ∑ s : Fin 8, ∑ x : Fin 512, G ⟨512 * (7 - s.val) + x.val, by omega⟩ = ∑ q : Fin 4096, G q := by
  refine (Equiv.sum_comp Fin.revPerm _).symm.trans ?_
  exact Fin.sum_mul_add_congr fun s k hl => congrArg G (Fin.ext (by
    show 512 * (7 - (Fin.revPerm s).val) + k.val = s.val * 512 + k.val
    rw [Fin.revPerm_apply, Fin.val_rev]
    omega))
theorem final9 : (dats m 0 c).arrAt 9 cfg0.N = WG (DYm m c) (Um m c) := by
  refine (dats m 0 c).arrAt_eq_of_after_last 9 t0_7 (by decide +kernel) _ fun j => ?_
  blk_simp
  rw [after_9, Pipeline.eq_sum_fin_of_reset_step_apply_last (fun n h => (ins m c ⟨n, h⟩).y3) 8 (fun _ => 0) _
    (fun t h j => y3_reset m c t h j) (fun t h j => y3_step m c t h j)
    (le_of_eq N_0) t0_7 rfl j, zero_add]
  exact sum_back fun q => RW (DYm m c) (q.val + (2 - (j 0).val)) (j 1) * Um m c (ix2 q (j 1))

end Cert.Mg

end
-- ==== Proof.MgReference.lean ====
/- The merge's gradient as the reference computes it, by the derivative of the forward lines: its six results are the
   closed forms the kernel's results have. -/
module

public import proofs.«01_k».proof.Proof.MgForms
public import proofs.«01_k».proof.Proof.Finite

@[expose] public section

set_option maxRecDepth 16384

noncomputable section

open Idealize.ShloMosaic Idealize.ShloMosaic.TcCoe Idealize.SL.Sem
open scoped BigOperators

namespace Cert.Reference5Ideal.MgReference

open Cert.Reference5Ideal Cert.Reference5Ideal.Read
open Cert.Mg (DM SL SR DB DG HV DP TH ML RW CT T3 WG HV_lo HV_hi T3_0 T3_1 T3_2)
open Cert.Sig (SG LG)

/-- The two forms of the logistic function agree everywhere, the infinities included. -/
theorem lg_eq (x : EReal) : LG x = SG x := by
  induction x using EReal.rec with
  | bot =>
    unfold LG SG
    rw [Sig.ofBits_one, Sig.ofBits_half, EReal.coe_mul_bot_of_pos (by norm_num)]
    show Ideal.div _ ((1 : ℝ) + Ideal.exp ⊤) = ((1 / 2 : ℝ) : EReal) * (-1) + ((1 / 2 : ℝ) : EReal)
    rw [show Ideal.exp ⊤ = ⊤ from rfl, EReal.coe_add_top, show (-1 : EReal) = ((-1 : ℝ) : EReal) by norm_num, ← EReal.coe_mul, ← EReal.coe_add]
    unfold Ideal.div
    rw [if_neg (by simp), EReal.inv_top, mul_zero]
    norm_num
  | coe r => rw [Sig.LG_coe, Sig.SG_coe]
  | top =>
    unfold LG SG
    rw [Sig.ofBits_one, Sig.ofBits_half, EReal.coe_mul_top_of_pos (by norm_num)]
    show Ideal.div _ ((1 : ℝ) + Ideal.exp ⊥) = ((1 / 2 : ℝ) : EReal) * 1 + ((1 / 2 : ℝ) : EReal)
    rw [show Ideal.exp ⊥ = ((0 : ℝ) : EReal) from rfl, ← EReal.coe_add, Finite.div_coe _ _ (by norm_num), mul_one, ← EReal.coe_add]
    norm_num

theorem lg_one (x : EReal) : Ideal.div 1 (1 + Ideal.exp (-x)) = SG x := by
  have e := lg_eq x
  unfold LG at e
  rw [Sig.ofBits_one] at e
  exact e

/-- A sum against the rows `e` further on leaves out the last `e`. -/
theorem sum_cut (D U : FVec Ideal S4096x512 .f32) (j : Fin 512) (M e : ℕ) (h : M + e = 4096) :
    ∑ x : Fin 4096, RW D (x.val + e) j * U (ix2 x j) = ∑ x : Fin M, D (ix2 ⟨x.val + e, by omega⟩ j) * U (ix2 ⟨x.val, by omega⟩ j) := by
  have hU : ∀ x : Fin 4096, U (ix2 x j) = RW U x.val j := fun x => ((dif_pos x.isLt : RW U x.val j = _).trans rfl).symm
  have hl : ∑ x : Fin 4096, RW D (x.val + e) j * U (ix2 x j) = ∑ q ∈ Finset.range 4096, RW D (q + e) j * RW U q j := by
    simp only [hU]
    exact Fin.sum_univ_eq_sum_range (fun q => RW D (q + e) j * RW U q j) 4096
  have hr : ∑ q ∈ Finset.range M, RW D (q + e) j * RW U q j = ∑ x : Fin M, D (ix2 ⟨x.val + e, by omega⟩ j) * U (ix2 ⟨x.val, by omega⟩ j) := by
    refine (Fin.sum_univ_eq_sum_range (fun q => RW D (q + e) j * RW U q j) M).symm.trans (Finset.sum_congr rfl fun x _ => ?_)
    exact congrArg₂ (· * ·) (dif_pos (by omega)) (dif_pos (by omega))
  rw [hl, ← hr, ← h, Finset.sum_range_add, Finset.sum_eq_zero (s := Finset.range e), add_zero]
  intro q _
  rw [show RW D (M + q + e) j = 0 from dif_neg (by omega), zero_mul]

/-- A sum whose first term vanishes. -/
theorem sum_head (f : Fin 4096 → EReal) (g : Fin 4095 → EReal) (h0 : f 0 = 0) (hs : ∀ x : Fin 4095, f x.succ = g x) : ∑ x, f x = ∑ x, g x := by
  rw [Fin.sum_univ_succ, h0, zero_add]
  exact Finset.sum_congr rfl fun x _ => hs x

variable (og : FVec Ideal S4096x512 .f32) (cv : FVec Ideal S4096x1536 .f32) (gt : FVec Ideal S4096x2048 .f32) (wa wb : FVec Ideal S512x1024 .f32)
  (wo : FVec Ideal S1024x1024 .f32) (cw : FVec Ideal S3x512 .f32) (dx : FVec Ideal S4096x1024 .f32)

theorem dm_at (i : Fin 4096) (j : Fin 1024) : val_main_v56 (F := Ideal) wo dx (ix2 i j) = DM dx wo (ix2 i j) := by
  pointwise [val_main_v56, DM]
theorem sl_at (i : Fin 4096) (j : Fin 1024) : val_main_v39 (F := Ideal) gt (ix2 i j) = SL gt (ix2 i j) := by
  pointwise [val_main_v39, val_main_v38, val_main_cst_3, val_main_v37, val_main_v36, val_main_cst_2, val_main_v35, val_main_v34, val_main_v32, SL]
  exact lg_one _
theorem sr_at (i : Fin 4096) (j : Fin 1024) : val_main_v49 (F := Ideal) gt (ix2 i j) = SR gt (ix2 i j) := by
  pointwise [val_main_v49, val_main_v48, val_main_cst_6, val_main_v47, val_main_v46, val_main_cst_5, val_main_v45, val_main_v44, val_main_v33, SR]
  exact lg_one _

theorem da_at (i : Fin 4096) (j : Fin 1024) : val_main_v60 (F := Ideal) gt wo dx (ix2 i j) = DB (DM dx wo) (SL gt) (ix2 i j) := by
  pointwise [val_main_v60, sl_at, dm_at, DB]
  exact mul_comm _ _
theorem db_at (i : Fin 4096) (j : Fin 1024) : val_main_v57 (F := Ideal) gt wo dx (ix2 i j) = DB (DM dx wo) (SR gt) (ix2 i j) := by
  pointwise [val_main_v57, sr_at, dm_at, DB]
  exact mul_comm _ _
theorem dga_at (i : Fin 4096) (j : Fin 1024) : val_main_v62 (F := Ideal) og gt wa wo dx (ix2 i j)
    = DG (DB (DM dx wo) (SL gt)) (val_main_v3 (F := Ideal) og wa) (SL gt) (ix2 i j) := by
  pointwise [val_main_v62, val_main_v61, val_main_v42, val_main_v41, val_main_v40, val_main_cst_4, sl_at, dm_at, DG, DB]
  ac_rfl
theorem dgb_at (i : Fin 4096) (j : Fin 1024) : val_main_v59 (F := Ideal) cv gt wb wo cw dx (ix2 i j)
    = DG (DB (DM dx wo) (SR gt)) (val_main_v31 (F := Ideal) cv wb cw) (SR gt) (ix2 i j) := by
  pointwise [val_main_v59, val_main_v58, val_main_v52, val_main_v51, val_main_v50, val_main_cst_7, sr_at, dm_at, DG, DB]
  ac_rfl
theorem dgt : val_main_v104 (F := Ideal) og cv gt wa wb wo cw dx
    = HV (DG (DB (DM dx wo) (SL gt)) (val_main_v3 (F := Ideal) og wa) (SL gt)) (DG (DB (DM dx wo) (SR gt)) (val_main_v31 (F := Ideal) cv wb cw) (SR gt)) := by
  funext i
  idx_vars i
  pointwise [val_main_v104, val_main_v63, dga_at, dgb_at, HV]
theorem dya : val_main_v105 (F := Ideal) gt wo dx = DB (DM dx wo) (SL gt) := by
  funext i
  idx_vars i
  exact da_at gt wo dx i0 i1
theorem dyb : val_main_v106 (F := Ideal) gt wo dx = DB (DM dx wo) (SR gt) := by
  funext i
  idx_vars i
  exact db_at gt wo dx i0 i1
theorem dog : val_main_v102 (F := Ideal) gt wa wo dx = DP (DB (DM dx wo) (SL gt)) wa := by
  funext i
  idx_vars i
  pointwise [val_main_v102, da_at, DP]

theorem dv_at (i : Fin 4096) (j : Fin 512) : val_main_v64 (F := Ideal) gt wb wo dx (ix2 i j) = DP (DB (DM dx wo) (SR gt)) wb (ix2 i j) := by
  pointwise [val_main_v64, db_at, DP]
/-- The cotangent of the convolution's output. -/
abbrev DYr : FVec Ideal S4096x512 .f32 := ML (DP (DB (DM dx wo) (SR gt)) wb) (TH cv 1)
theorem dy_at (i : Fin 4096) (j : Fin 512) : val_main_v65 (F := Ideal) cv gt wb wo dx (ix2 i j) = DYr cv gt wb wo dx (ix2 i j) := by
  pointwise [val_main_v65, val_main_v1, dv_at, ML, TH]
  exact mul_comm _ _
theorem du_at (i : Fin 4096) (j : Fin 512) : val_main_v99 (F := Ideal) cv gt wb wo cw dx (ix2 i j) = CT (DYr cv gt wb wo dx) cw (ix2 i j) := by
  pointwise [val_main_v99, val_main_v94, val_main_v83, val_main_v73, val_main_v68, val_main_v67, val_main_v26, val_main_v24, val_main_v23, val_main_cst_10,
    val_main_v82, val_main_v77, val_main_v76, val_main_v19, val_main_v17, val_main_v16, val_main_cst_14, val_main_v93, val_main_v88, val_main_v87,
    val_main_v11, val_main_v9, val_main_v8, val_main_cst_18, dy_at, CT, RW]
  refine congrArg₂ (· + ·) (congrArg (cw (ix2 2 j) * DYr cv gt wb wo dx (ix2 i j) + ·) ?_) ?_
  · split_ifs with h h' h'
    · exact congrArg (fun q => cw (ix2 1 j) * DYr cv gt wb wo dx (ix2 q j)) (Fin.ext (by show 2 + i.val - 1 = i.val + 1; omega))
    · omega
    · omega
    · rw [mul_zero]
  · split_ifs with h h' h'
    · exact congrArg (fun q => cw (ix2 0 j) * DYr cv gt wb wo dx (ix2 q j)) (Fin.ext (by show 2 + i.val = i.val + 2; omega))
    · omega
    · omega
    · rw [mul_zero]
theorem u_at (i : Fin 4096) (j : Fin 512) : ML (TH cv 0) (TH cv 2) (ix2 i j) = cv (ix2 i ⟨j.val, by omega⟩) * cv (ix2 i ⟨1024 + j.val, by omega⟩) := by
  pointwise [ML, TH]
theorem dw_at (n : Fin 3) (j : Fin 512) : val_main_v97 (F := Ideal) cv gt wb wo dx (ix2 n j) = WG (DYr cv gt wb wo dx) (ML (TH cv 0) (TH cv 2)) (ix2 n j) := by
  pointwise [val_main_v97, val_main_v86, val_main_v75, val_main_v74, val_main_v72, val_main_v71, val_main_v70, val_main_v69, val_main_v25, val_main_v6, val_main_v5, val_main_v4, val_main_v0, val_main_v2,
    val_main_cst, val_main_cst_8, val_main_cst_9, val_main_cst_11, val_main_v85, val_main_v84, val_main_v81, val_main_v80, val_main_v79, val_main_v78, val_main_v18, val_main_cst_12, val_main_cst_13, val_main_cst_15,
    val_main_v96, val_main_v95, val_main_v92, val_main_v91, val_main_v90, val_main_v89, val_main_v10, val_main_cst_16, val_main_cst_17, val_main_cst_19, dy_at, WG]
  fin_cases n
  · refine Eq.trans ?_ ((sum_cut (DYr cv gt wb wo dx) (ML (TH cv 0) (TH cv 2)) j 4094 2 rfl).symm)
    simp
    exact Finset.sum_congr rfl fun x _ => congrArg₂ (· * ·) (congrArg (fun q => DYr cv gt wb wo dx (ix2 q j)) (Fin.ext (Nat.add_comm _ _))) (u_at cv _ j).symm
  · refine Eq.trans ?_ ((sum_cut (DYr cv gt wb wo dx) (ML (TH cv 0) (TH cv 2)) j 4095 1 rfl).symm)
    simp
    refine sum_head _ _ (dif_pos rfl) fun x => (dif_neg (Fin.succ_ne_zero x)).trans ?_
    refine congrArg₂ (· * ·) rfl ((u_at cv _ j).symm.trans ?_)
    exact congrArg (fun q => ML (TH cv 0) (TH cv 2) (ix2 q j)) (Fin.ext (by show 1 + (x.val + 1) - 2 = x.val; omega))
  · simp
    refine Finset.sum_congr rfl fun x _ => congrArg₂ (· * ·) ?_ (u_at cv x j).symm
    exact ((dif_pos x.isLt : RW (DYr cv gt wb wo dx) x.val j = _).trans rfl).symm
theorem dcv : val_main_v107 (F := Ideal) cv gt wb wo cw dx = T3 (ML (CT (DYr cv gt wb wo dx) cw) (TH cv 2)) (ML (DP (DB (DM dx wo) (SR gt)) wb) (val_main_v29 (F := Ideal) cv cw))
    (ML (CT (DYr cv gt wb wo dx) cw) (TH cv 0)) := by
  funext i
  idx_vars i
  pointwise [val_main_v107, val_main_v103, val_main_v101, val_main_v100, val_main_v66, val_main_v0, val_main_v2, du_at, dv_at, T3, ML, TH]
  exact dite_congr rfl (fun _ => rfl) fun _ => dite_congr rfl (fun _ => rfl) fun _ => mul_comm _ _
theorem dw : val_main_v97 (F := Ideal) cv gt wb wo dx = WG (DYr cv gt wb wo dx) (ML (TH cv 0) (TH cv 2)) := by
  funext i
  idx_vars i
  exact dw_at cv gt wb wo dx i0 i1

end Cert.Reference5Ideal.MgReference

end
-- ==== Proof.MgClaims.lean ====
/- The claims about the merge's backward kernel and its reference. -/
module

public import proofs.«01_k».proof.Defs
public import proofs.«01_k».proof.Proof.MgLaunch
public import proofs.«01_k».proof.Proof.Gen.Kernel5
public import proofs.«01_k».proof.Proof.Gen.Kernel5.Skeleton
public import proofs.«01_k».proof.Proof.Gen.Reference5Ideal
public import proofs.«01_k».proof.Proof.Gen.Reference5Ideal.Run
public import proofs.«01_k».proof.Proof.MgValue
public import proofs.«01_k».proof.Proof.MgReference
public import Idealize.ShloMosaic.Lib.Claim

@[expose] public section

set_option maxRecDepth 65536

noncomputable section

namespace Cert.Mg

open Idealize.ShloMosaic Idealize.ShloMosaic.TcCoe Idealize.ShloMosaic.Tactic
open Idealize.SL.Sem

attribute [local instance] Cert.Kernel5.Gen.facts Cert.Kernel5Ideal.Gen.facts Cert.Reference5Ideal.Gen.facts

theorem frame_ideal : Cert.quiescent_Kernel5Ideal := fun m ρ _ => frame_any m ρ

section Same
open Cert.Kernel5Ideal

theorem same_sig : Kernel5.sig = Kernel5Ideal.sig := by sl_kernel_rfl
theorem same_frame : Cert.quiescent_Kernel5 = (∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)) := by sl_kernel_rfl

end Same

theorem frame_kernel : Cert.quiescent_Kernel5 := same_frame.mpr fun m ρ _ => frame_any m ρ

theorem frame_reference : Cert.quiescent_Reference5Ideal := by
  intro m g _
  hlo_run
  · exact fun _ => ⟨trivial, trivial, trivial, trivial, trivial, trivial, trivial, trivial⟩
  exact sem_eq_zero_of_no_sems (sig := Cert.Reference5Ideal.sig) (by decide) _

set_option maxHeartbeats 1000000 in
/-- Kernel and reference end with equal results, whatever the arrays hold. -/
theorem algebraic : Cert.algebraic_Kernel5Ideal_Reference5Ideal := by
  intro m g m' g' hpre hagree
  refine ⟨fun c => HV (DG (DAm m c) (YA m c) (SL (aGt m c))) (DG (DBm m c) (YB m c) (SR (aGt m c))), fun c => DAm m c, fun c => DBm m c,
    fun c => DP (DAm m c) (aWa m c), fun c => T3 (ML (DUm m c) (TH (aCv m c) 2)) (ML (DVm m c) (CY m c)) (ML (DUm m c) (TH (aCv m c) 0)),
    fun c => WG (DYm m c) (Um m c), ?_, ?_⟩
  · refine (θ_run _ _ _).mono (fun r h c => ?_) (run_main m g)
    have k := (h.1 c).1
    exact ⟨(k 4).trans (final4 m c), (k 5).trans (final5 m c), (k 6).trans (final6 m c), (k 7).trans (final7 m c), (k 8).trans (final8 m c),
      (k 9).trans (final9 m c), kept m r h.1 c⟩
  · refine (θ_run _ _ _).mono (fun r h c => ?_) (Cert.Reference5Ideal.Value.run m' g')
    obtain ⟨r0, r1, r2, r3, r4, r5, rest⟩ := h c
    obtain ⟨a0, a1, a2, a3, a4, a5, a6, a7⟩ := hagree c
    refine ⟨r0.trans ?_, r1.trans ?_, r2.trans ?_, r3.trans ?_, r4.trans ?_, r5.trans ?_, rest⟩
    · rw [Cert.Reference5Ideal.Read.val_main_v104_eq, a0, a1, a2, a3, a4, a5, a6, a7]; exact Cert.Reference5Ideal.MgReference.dgt _ _ _ _ _ _ _ _
    · rw [Cert.Reference5Ideal.Read.val_main_v105_eq, a2, a5, a7]; exact Cert.Reference5Ideal.MgReference.dya _ _ _
    · rw [Cert.Reference5Ideal.Read.val_main_v106_eq, a2, a5, a7]; exact Cert.Reference5Ideal.MgReference.dyb _ _ _
    · rw [Cert.Reference5Ideal.Read.val_main_v102_eq, a2, a3, a5, a7]; exact Cert.Reference5Ideal.MgReference.dog _ _ _ _
    · rw [Cert.Reference5Ideal.Read.val_main_v107_eq, a1, a2, a4, a5, a6, a7]; exact Cert.Reference5Ideal.MgReference.dcv _ _ _ _ _ _
    · rw [Cert.Reference5Ideal.Read.val_main_v97_eq, a1, a2, a4, a5, a7]; exact Cert.Reference5Ideal.MgReference.dw _ _ _ _ _

end Cert.Mg

end
-- ==== Proof.MfValue.lean ====
/- The merge's forward kernel: the closed forms of its results, the blocks its windows stage, and its four result arrays
   after the run. -/
module

public import proofs.«01_k».proof.Proof.Gen.Kernel6Ideal.Value
public import proofs.«01_k».proof.Proof.MgValue
public import proofs.«01_k».proof.Proof.Sigmoid
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Mf

open Cert.Kernel6Ideal Cert.Kernel6Ideal.Gen
open Cert.Sig (SG)
open Cert.Mg (SL SR)

/-- A branch: its input through its weight. -/
def YB (a : FVec Ideal S4096x512 .f32) (w : FVec Ideal S512x1024 .f32) : FVec Ideal S4096x1024 .f32 := fun i =>
  ∑ k : Fin 512, a (ix2 (i 0) k) * w (ix2 k (i 1))
/-- The two branches, each through its gate, added up. -/
def MR (sa ya sb yb : FVec Ideal S4096x1024 .f32) : FVec Ideal S4096x1024 .f32 := fun i => sa i * ya i + sb i * yb i
/-- The residual with the merged branches' product. -/
def RS (x mr : FVec Ideal S4096x1024 .f32) (w : FVec Ideal S1024x1024 .f32) : FVec Ideal S4096x1024 .f32 := fun i =>
  x i + ∑ k : Fin 1024, mr (ix2 (i 0) k) * w (ix2 k (i 1))
/-- The transpose. -/
def TP (a : FVec Ideal S4096x1024 .f32) : FVec Ideal S1024x4096 .f32 := fun i => a (ix2 (i 1) (i 0))

variable (m : (ℓ : Loc nD τ sig) → Buf (Elt Ideal) ℓ) (c : Dev nD)

/-- The arguments and the closed forms, at the launch's memory. -/
abbrev Og : FVec Ideal S4096x512 .f32 := m ((c : Thread nD τ).loc main_arg0)
abbrev Cv : FVec Ideal S4096x512 .f32 := m ((c : Thread nD τ).loc main_arg1)
abbrev Gt : FVec Ideal S4096x2048 .f32 := m ((c : Thread nD τ).loc main_arg2)
abbrev X : FVec Ideal S4096x1024 .f32 := m ((c : Thread nD τ).loc main_arg3)
abbrev Wa : FVec Ideal S512x1024 .f32 := m ((c : Thread nD τ).loc main_arg4)
abbrev Wb : FVec Ideal S512x1024 .f32 := m ((c : Thread nD τ).loc main_arg5)
abbrev Wo : FVec Ideal S1024x1024 .f32 := m ((c : Thread nD τ).loc main_arg6)
abbrev YAm : FVec Ideal S4096x1024 .f32 := YB (Og m c) (Wa m c)
abbrev YBm : FVec Ideal S4096x1024 .f32 := YB (Cv m c) (Wb m c)
abbrev MRm : FVec Ideal S4096x1024 .f32 := MR (SL (Gt m c)) (YAm m c) (SR (Gt m c)) (YBm m c)

/-- Every window's block index, at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0, 0] ∧ win0_6.index t = ![0, 0]
    ∧ win0_7.index t = ![t.val, 0] ∧ win0_8.index t = ![0, t.val] ∧ win0_9.index t = ![t.val, 0] ∧ win0_10.index t = ![t.val, 0] :=
  (by decide +kernel : ∀ t : Fin grid0.N, _)

/-- The rows of point `t`'s block. -/
theorem row_lt (t : Fin cfg0.N) (x : Fin 1024) : t.val * 1024 + x.val < 4096 := by
  have := lt_of_lt_of_eq t.isLt N_0
  omega
abbrev row (t : Fin cfg0.N) (x : Fin 1024) : Fin 4096 := ⟨t.val * 1024 + x.val, row_lt t x⟩

/-- What the host lines before the region leave in the operands' arrays. -/
theorem V_og : (V m c main_v0 : FVec Ideal S4096x512 .bf16) = Og m c := by
  unfold_abbrev_sides
  after_results
  rfl
theorem V_cv : (V m c main_v1 : FVec Ideal S4096x512 .bf16) = Cv m c := by
  unfold_abbrev_sides
  after_results
  rfl
theorem V_gt : (V m c main_v2 : FVec Ideal S4096x2048 .bf16) = Gt m c := by
  unfold_abbrev_sides
  after_results
  rfl
theorem V_wo : (V m c main_v9 : FVec Ideal S1024x1024 .bf16) = Wo m c := by
  unfold_abbrev_sides
  after_results
  rfl
theorem V_wa (d : Fin 8) (p : Fin 512) (q : Fin 128) : (V m c main_v5 : FVec Ideal S8x512x128 .bf16) (ix3 d p q)
    = Wa m c (ix2 p ⟨d.val * 128 + q.val, by omega⟩) := by
  unfold_abbrev_sides
  after_results
  pointwise
theorem V_wb (d : Fin 8) (p : Fin 512) (q : Fin 128) : (V m c main_v8 : FVec Ideal S8x512x128 .bf16) (ix3 d p q)
    = Wb m c (ix2 p ⟨d.val * 128 + q.val, by omega⟩) := by
  unfold_abbrev_sides
  after_results
  pointwise

/-- The staged blocks, entry by entry. -/
theorem blk0 (t : Fin cfg0.N) (r : Fin 1024) (k : Fin 512) : (iblk m c 0 t : FVec Ideal S1024x512 .bf16) (ix2 r k) = Og m c (ix2 (row t r) k) := by
  show ((cfg0.win 0).blk t).view.read (Elt Ideal) (V m c main_v0) (ix2 r k) = _
  rw [V_og]
  blk_ext [idx t]
theorem blk1 (t : Fin cfg0.N) (r : Fin 1024) (k : Fin 512) : (iblk m c 1 t : FVec Ideal S1024x512 .bf16) (ix2 r k) = Cv m c (ix2 (row t r) k) := by
  show ((cfg0.win 1).blk t).view.read (Elt Ideal) (V m c main_v1) (ix2 r k) = _
  rw [V_cv]
  blk_ext [idx t]
theorem blk2 (t : Fin cfg0.N) (r : Fin 1024) (k : Fin 2048) : (iblk m c 2 t : FVec Ideal S1024x2048 .bf16) (ix2 r k) = Gt m c (ix2 (row t r) k) := by
  show ((cfg0.win 2).blk t).view.read (Elt Ideal) (V m c main_v2) (ix2 r k) = _
  rw [V_gt]
  blk_ext [idx t]
theorem blk3 (t : Fin cfg0.N) (r k : Fin 1024) : (iblk m c 3 t : FVec Ideal S1024x1024 .f32) (ix2 r k) = X m c (ix2 (row t r) k) := by
  show ((cfg0.win 3).blk t).view.read (Elt Ideal) (V m c main_arg3) (ix2 r k) = _
  rw [V_main_arg3]
  blk_ext [idx t]
theorem blk4 (t : Fin cfg0.N) (d : Fin 8) (p : Fin 512) (q : Fin 128) : (iblk m c 4 t : FVec Ideal S8x512x128 .bf16) (ix3 d p q)
    = Wa m c (ix2 p ⟨d.val * 128 + q.val, by omega⟩) := by
  rw [← V_wa]
  show ((cfg0.win 4).blk t).view.read (Elt Ideal) (V m c main_v5) (ix3 d p q) = _
  generalize V m c main_v5 = w
  blk_ext [idx t]
theorem blk5 (t : Fin cfg0.N) (d : Fin 8) (p : Fin 512) (q : Fin 128) : (iblk m c 5 t : FVec Ideal S8x512x128 .bf16) (ix3 d p q)
    = Wb m c (ix2 p ⟨d.val * 128 + q.val, by omega⟩) := by
  rw [← V_wb]
  show ((cfg0.win 5).blk t).view.read (Elt Ideal) (V m c main_v8) (ix3 d p q) = _
  generalize V m c main_v8 = w
  blk_ext [idx t]
theorem blk6 (t : Fin cfg0.N) (r k : Fin 1024) : (iblk m c 6 t : FVec Ideal S1024x1024 .bf16) (ix2 r k) = Wo m c (ix2 r k) := by
  show ((cfg0.win 6).blk t).view.read (Elt Ideal) (V m c main_v9) (ix2 r k) = _
  rw [V_wo]
  blk_ext [idx t]

/-- The load of a whole block. -/
theorem ld0 (A : FVec Ideal S1024x512 .bf16) : (View.ld A r0_0 : Vec Ideal S1024x512 .bf16) = A := by
  unfold r0_0
  rw [View.ld_unit_lit _ _ (by decide)]

/-- A row block through a weight given as eight shards of its columns. -/
theorem cols_at (A : FVec Ideal S1024x512 .bf16) (W : FVec Ideal S8x512x128 .bf16) (w : FVec Ideal S512x1024 .f32)
    (hW : ∀ (d : Fin 8) (p : Fin 512) (q : Fin 128), W (ix3 d p q) = w (ix2 p ⟨d.val * 128 + q.val, by omega⟩)) (r k : Fin 1024) :
    k0_pay4 (F := Ideal) A (View.ld W r0_1) (View.ld W r0_2) (View.ld W r0_3) (View.ld W r0_4) (View.ld W r0_5) (View.ld W r0_6) (View.ld W r0_7)
      (View.ld W r0_8) (ix2 r k) = ∑ j : Fin 512, A (ix2 r j) * w (ix2 j k) := by
  have hm : ∀ (A : FVec Ideal S1024x512 .bf16) (B : FVec Ideal S512x1024 .bf16),
      matmul dot_S1024x512_S512x1024_S1024x1024_1_0_0_1_n_n none (shapeCast S1024x512 A shapeCasts_S1024x512_S1024x512) B
        (constant S1024x1024 .f32 0x00000000#32) (ix2 r k) = ∑ j : Fin 512, A (ix2 r j) * B (ix2 j k) := fun A B => by pointwise
  refine (hm A _).trans (Finset.sum_congr rfl fun j _ => congrArg (A (ix2 r j) * ·) ?_)
  refine (Cert.Mg.cat8 (fun l => shapeCast S512x128 (Cert.Mg.part (Cert.Mg.rl l.val (Cert.Mg.rl_in l)) W : Vec Ideal S1x512x128 .bf16)
    shapeCasts_S1x512x128_S512x128) concatenates_S512x128_S512x128_S512x128_S512x128_S512x128_S512x128_S512x128_S512x128_S512x1024_d1 j k).trans ?_
  refine (Cert.Mg.shard_at W _ _ _).trans ((hW _ _ _).trans ?_)
  exact congrArg (fun q => w (ix2 j q)) (Fin.ext (Nat.div_add_mod' _ _))

abbrev BA (t : Fin cfg0.N) : FVec Ideal S1024x1024 .f32 :=
  k0_pay11 (iblk m c 0 t) (iblk m c 1 t) (iblk m c 2 t) (iblk m c 3 t) (iblk m c 4 t) (iblk m c 5 t) (iblk m c 6 t)
abbrev BB (t : Fin cfg0.N) : FVec Ideal S1024x1024 .f32 :=
  k0_pay14 (iblk m c 0 t) (iblk m c 1 t) (iblk m c 2 t) (iblk m c 3 t) (iblk m c 4 t) (iblk m c 5 t) (iblk m c 6 t)
abbrev BS (t : Fin cfg0.N) : FVec Ideal S1024x1024 .f32 :=
  k0_pay15 (iblk m c 0 t) (iblk m c 1 t) (iblk m c 2 t) (iblk m c 3 t) (iblk m c 4 t) (iblk m c 5 t) (iblk m c 6 t)

/-- The two branches, the first gate and the merge on the staged blocks. -/
theorem ya_at (t : Fin cfg0.N) (r k : Fin 1024) : BA m c t (ix2 r k) = YAm m c (ix2 (row t r) k) := by
  unfold BA k0_pay11
  rw [ld0]
  refine (cols_at _ _ (Wa m c) (blk4 m c t) r k).trans ?_
  simp only [blk0 m c t]
  rfl
theorem yb_at (t : Fin cfg0.N) (r k : Fin 1024) : BB m c t (ix2 r k) = YBm m c (ix2 (row t r) k) := by
  unfold BB k0_pay14 k0_pay12 k0_pay13
  rw [ld0]
  refine (cols_at _ _ (Wb m c) (blk5 m c t) r k).trans ?_
  simp only [blk1 m c t]
  rfl
theorem sa_at (t : Fin cfg0.N) (r k : Fin 1024) : BS m c t (ix2 r k) = SL (Gt m c) (ix2 (row t r) k) := by
  unfold BS k0_pay15
  pointwise [k0_pay10, SL, SG]
  rw [blk2]
theorem mr_at (t : Fin cfg0.N) (r k : Fin 1024) :
    k0_pay1 (BA m c t) (BB m c t) (BS m c t) (View.ld (iblk m c 2 t) r0_11) (ix2 r k) = MRm m c (ix2 (row t r) k) := by
  pointwise [k0_pay1, MR]
  rw [blk2, ya_at, yb_at, sa_at]
  rfl

/-- The result arrays after the run. -/
theorem final7 : (dats m 0 c).arrAt 7 (cfgs 0).N = RS (X m c) (MRm m c) (Wo m c) := by
  refine (dats m 0 c).arrAt_eq_of_covers 7 _ (by decide +kernel) fun t _ y => ?_
  blk_simp
  rw [after0_7]
  idx_vars y
  frame_out
  have key : k0_pay3 (BA m c t) (BB m c t) (BS m c t) (View.ld (iblk m c 2 t) r0_11) (iblk m c 3 t) (iblk m c 6 t) (ix2 y0 y1)
      = RS (X m c) (MRm m c) (Wo m c) (ix2 (row t y0) y1) := by
    pointwise [k0_pay3, RS, mr_at m c t]
    simp only [blk3 m c t, blk6 m c t]
  refine key.trans (congrArg _ ?_)
  blk_ext [idx t]
theorem final8 : (dats m 0 c).arrAt 8 (cfgs 0).N = TP (MRm m c) := by
  refine (dats m 0 c).arrAt_eq_of_covers 8 _ (by decide +kernel) fun t _ y => ?_
  blk_simp
  rw [after0_8]
  idx_vars y
  frame_out
  have key : k0_pay2 (BA m c t) (BB m c t) (BS m c t) (View.ld (iblk m c 2 t) r0_11) (ix2 y0 y1) = TP (MRm m c) (ix2 y0 (row t y1)) := by
    pointwise [k0_pay2, mr_at m c t, TP]
  refine key.trans (congrArg _ ?_)
  blk_ext [idx t]
theorem final9 : (dats m 0 c).arrAt 9 (cfgs 0).N = YAm m c := by
  refine (dats m 0 c).arrAt_eq_of_covers 9 _ (by decide +kernel) fun t _ y => ?_
  blk_simp
  rw [after0_9]
  idx_vars y
  frame_out
  refine (ya_at m c t y0 y1).trans (congrArg _ ?_)
  blk_ext [idx t]
theorem final10 : (dats m 0 c).arrAt 10 (cfgs 0).N = YBm m c := by
  refine (dats m 0 c).arrAt_eq_of_covers 10 _ (by decide +kernel) fun t _ y => ?_
  blk_simp
  rw [after0_10]
  idx_vars y
  frame_out
  refine (yb_at m c t y0 y1).trans (congrArg _ ?_)
  blk_ext [idx t]

end Cert.Kernel6Ideal.Mf

end
-- ==== Proof.MfClaims.lean ====
/- The claims about the merge's forward kernel and its reference. -/
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.MfValue
public import proofs.«01_k».proof.Proof.MgReference
public import Idealize.ShloMosaic.Lib.Claim

@[expose] public section

set_option maxRecDepth 16384

noncomputable section

namespace Cert.Reference6Ideal.MfReference

open Idealize.ShloMosaic Idealize.ShloMosaic.TcCoe Idealize.SL.Sem
open scoped BigOperators
open Cert.Reference6Ideal Cert.Reference6Ideal.Read
open Cert.Kernel6Ideal.Mf (YB MR RS TP)
open Cert.Mg (SL SR)
open Cert.Reference5Ideal.MgReference (lg_one)

variable (og cv : FVec Ideal S4096x512 .f32) (gt : FVec Ideal S4096x2048 .f32) (x : FVec Ideal S4096x1024 .f32) (wa wb : FVec Ideal S512x1024 .f32)
  (wo : FVec Ideal S1024x1024 .f32)

/-- The reference's values, entry by entry: a branch of each kind, the two gates, the merge. -/
theorem ya_at (i : Fin 4096) (j : Fin 1024) : val_main_v2 (F := Ideal) og wa (ix2 i j) = YB og wa (ix2 i j) := by
  pointwise [val_main_v2, YB]
theorem yb_at (i : Fin 4096) (j : Fin 1024) : val_main_v3 (F := Ideal) cv wb (ix2 i j) = YB cv wb (ix2 i j) := ya_at cv wb i j
theorem sl_at (i : Fin 4096) (j : Fin 1024) : val_main_v9 (F := Ideal) gt (ix2 i j) = SL gt (ix2 i j) := by
  pointwise [val_main_v9, val_main_v8, val_main_cst_0, val_main_v7, val_main_v6, val_main_cst, val_main_v5, val_main_v4, val_main_v0, SL]
  exact lg_one _
theorem sr_at (i : Fin 4096) (j : Fin 1024) : val_main_v16 (F := Ideal) gt (ix2 i j) = SR gt (ix2 i j) := by
  pointwise [val_main_v16, val_main_v15, val_main_cst_2, val_main_v14, val_main_v13, val_main_cst_1, val_main_v12, val_main_v11, val_main_v1, SR]
  exact lg_one _
/-- The merged branches. -/
abbrev MRr : FVec Ideal S4096x1024 .f32 := MR (SL gt) (YB og wa) (SR gt) (YB cv wb)
theorem mr_at (i : Fin 4096) (j : Fin 1024) : val_main_v18 (F := Ideal) og cv gt wa wb (ix2 i j) = MRr og cv gt wa wb (ix2 i j) := by
  pointwise [val_main_v18, val_main_v17, val_main_v10, sl_at, sr_at, ya_at, yb_at, MR]

theorem x1 : val_main_v20 (F := Ideal) og cv gt x wa wb wo = RS x (MRr og cv gt wa wb) wo := by
  funext i
  idx_vars i
  pointwise [val_main_v20, val_main_v19, mr_at, RS]
theorem mgt : val_main_v22 (F := Ideal) og cv gt wa wb = TP (MRr og cv gt wa wb) := by
  funext i
  idx_vars i
  pointwise [val_main_v22, val_main_v21, mr_at, TP]
theorem ya : val_main_v23 (F := Ideal) og wa = YB og wa := by
  funext i
  idx_vars i
  exact ya_at og wa i0 i1
theorem yb : val_main_v24 (F := Ideal) cv wb = YB cv wb := ya cv wb

end Cert.Reference6Ideal.MfReference

namespace Cert.MfClaims

open Idealize.ShloMosaic Idealize.ShloMosaic.TcCoe Idealize.SL.Sem
open Cert.Kernel6Ideal.Mf Cert.Reference6Ideal.Read
open Cert.Reference6Ideal

attribute [local instance] Cert.Kernel6.Gen.facts Cert.Kernel6Ideal.Gen.facts Cert.Reference6Ideal.Gen.facts

theorem frame_kernel : Cert.quiescent_Kernel6 := fun m ρ _ => Cert.Kernel6.Gen.frame m ρ
theorem frame_ideal : Cert.quiescent_Kernel6Ideal := fun m ρ _ => Cert.Kernel6Ideal.Gen.frame m ρ
theorem frame_reference : Cert.quiescent_Reference6Ideal := by
  intro m g _
  hlo_run
  · exact fun _ => ⟨trivial, trivial, trivial, trivial, trivial, trivial, trivial⟩
  exact sem_eq_zero_of_no_sems (sig := Cert.Reference6Ideal.sig) (by decide) _

/-- Kernel and reference end with equal results. -/
theorem algebraic : Cert.algebraic_Kernel6Ideal_Reference6Ideal := by
  intro m g m' g' hpre hagree
  refine ⟨fun c => Cert.Kernel6Ideal.Mf.RS (X m c) (MRm m c) (Wo m c), fun c => TP (MRm m c), fun c => YAm m c, fun c => YBm m c, ?_, ?_⟩
  · refine (θ_run _ _ _).mono (fun r h c => ?_) (Cert.Kernel6Ideal.Value.run_blocks m g)
    obtain ⟨r0, r1, r2, r3, rest⟩ := h c
    exact ⟨r0.trans (final7 m c), r1.trans (final8 m c), r2.trans (final9 m c), r3.trans (final10 m c), rest⟩
  · refine (θ_run _ _ _).mono (fun r h c => ?_) (Cert.Reference6Ideal.Value.run m' g')
    obtain ⟨r0, r1, r2, r3, rest⟩ := h c
    obtain ⟨a0, a1, a2, a3, a4, a5, a6⟩ := hagree c
    refine ⟨r0.trans ?_, r1.trans ?_, r2.trans ?_, r3.trans ?_, rest⟩
    · rw [val_main_v20_eq, a0, a1, a2, a3, a4, a5, a6]; exact MfReference.x1 _ _ _ _ _ _ _
    · rw [val_main_v22_eq, a0, a1, a2, a4, a5]; exact MfReference.mgt _ _ _ _ _
    · rw [val_main_v23_eq, a0, a4]; exact MfReference.ya _ _
    · rw [val_main_v24_eq, a1, a5]; exact MfReference.yb _ _

end Cert.MfClaims

end
-- ==== Proof.FiValue.lean ====
/- The forward kernel of the first half of a layer, up to its recurrence: the closed forms of the norm, of the three
   projections and of the short convolution, the blocks the kernel's windows stage, the rows carried from one grid point to
   the next, and seven of the result arrays after the run. -/
module

public import proofs.«01_k».proof.Proof.Gen.Kernel7Ideal.Value
public import proofs.«01_k».proof.Proof.MgValue
public import proofs.«01_k».proof.Proof.LossForms
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.Fi

open Cert.Kernel7Ideal Cert.Kernel7Ideal.Gen
open Cert.Kernel4Ideal.Loss (HN TR)
open Cert.KernelIdeal.InValue (RS)
open Cert.Mg (TH ML RW)

/-- The projection. -/
def PJ (h : FVec Ideal S4096x1024 .f32) (w : FVec Ideal S1024x5632 .f32) (r : Fin 4096) (j : Fin 5632) : EReal :=
  ∑ k : Fin 1024, h (ix2 r k) * w (ix2 k j)
/-- Its three parts: the recurrence's inputs, the convolution's and the gates. -/
def PH (h : FVec Ideal S4096x1024 .f32) (w : FVec Ideal S1024x5632 .f32) : FVec Ideal S4096x2048 .f32 := fun i =>
  PJ h w (i 0) ⟨(i 1).val, by have : (i 1).val < 2048 := (i 1).isLt; omega⟩
def PC (h : FVec Ideal S4096x1024 .f32) (w : FVec Ideal S1024x5632 .f32) : FVec Ideal S4096x1536 .f32 := fun i =>
  PJ h w (i 0) ⟨2048 + (i 1).val, by have : (i 1).val < 1536 := (i 1).isLt; omega⟩
def PG (h : FVec Ideal S4096x1024 .f32) (w : FVec Ideal S1024x5632 .f32) : FVec Ideal S4096x2048 .f32 := fun i =>
  PJ h w (i 0) ⟨3584 + (i 1).val, by have : (i 1).val < 2048 := (i 1).isLt; omega⟩
/-- The convolution's input: the product of its first and third thirds. -/
def UC (cv : FVec Ideal S4096x1536 .f32) : FVec Ideal S4096x512 .f32 := ML (TH cv 0) (TH cv 2)
/-- An array's row `n` before row `q`, nothing before its start. -/
def RB (u : FVec Ideal S4096x512 .f32) (q n : ℕ) (k : Fin 512) : EReal := if n ≤ q then RW u (q - n) k else 0
theorem RB_succ (u : FVec Ideal S4096x512 .f32) (q n : ℕ) (k : Fin 512) : RB u (q + 1) (n + 1) k = RB u q n k := by
  unfold RB
  rw [Nat.add_sub_add_right]
  simp only [Nat.add_le_add_iff_right]
/-- The convolution: every row takes the one before the last, the last and its own. -/
def YC (u : FVec Ideal S4096x512 .f32) (w : FVec Ideal S3x512 .f32) : FVec Ideal S4096x512 .f32 := fun i =>
  w (ix2 0 (i 1)) * RB u (i 0).val 2 (i 1) + w (ix2 1 (i 1)) * RB u (i 0).val 1 (i 1) + w (ix2 2 (i 1)) * u i
/-- The convolution's branch. -/
def OC (cv : FVec Ideal S4096x1536 .f32) (y : FVec Ideal S4096x512 .f32) : FVec Ideal S4096x512 .f32 := ML (TH cv 1) y
/-- The transpose. -/
def TC (a : FVec Ideal S4096x512 .f32) : FVec Ideal S512x4096 .f32 := fun i => a (ix2 (i 1) (i 0))

variable (m : (ℓ : Loc nD τ sig) → Buf (Elt Ideal) ℓ) (c : Dev nD)

/-- The arguments and the closed forms, at the launch's memory. -/
abbrev X : FVec Ideal S4096x1024 .f32 := m ((c : Thread nD τ).loc main_arg0)
abbrev G : FVec Ideal S1x1024 .f32 := m ((c : Thread nD τ).loc main_arg1)
abbrev W : FVec Ideal S1024x5632 .f32 := m ((c : Thread nD τ).loc main_arg2)
abbrev K : FVec Ideal S3x512 .f32 := m ((c : Thread nD τ).loc main_arg3)
abbrev Hm : FVec Ideal S4096x1024 .f32 := HN (X m c) (G m c)
abbrev Cm : FVec Ideal S4096x1536 .f32 := PC (Hm m c) (W m c)
abbrev Um : FVec Ideal S4096x512 .f32 := UC (Cm m c)
abbrev Ym : FVec Ideal S4096x512 .f32 := YC (Um m c) (K m c)

/-- Every window's block index, at every grid point. -/
theorem idx : ∀ t : Fin cfg0.N, win0_0.index t = ![t.val, 0] ∧ win0_1.index t = ![0, 0] ∧ win0_2.index t = ![0, 0]
    ∧ win0_3.index t = ![0, 0] ∧ win0_6.index t = ![0, t.val] ∧ win0_7.index t = ![t.val, 0] ∧ win0_8.index t = ![t.val, 0]
    ∧ win0_9.index t = ![t.val, 0] ∧ win0_10.index t = ![t.val, 0] ∧ win0_11.index t = ![0, t.val] ∧ win0_12.index t = ![t.val, 0] :=
  (by decide +kernel : ∀ t : Fin grid0.N, _)

/-- The rows of point `t`'s block. -/
theorem row_lt (t : Fin cfg0.N) (x : Fin 512) : t.val * 512 + x.val < 4096 := by
  have := lt_of_lt_of_eq t.isLt N_0
  omega
abbrev row (t : Fin cfg0.N) (x : Fin 512) : Fin 4096 := ⟨t.val * 512 + x.val, row_lt t x⟩

/-- What the host lines before the region leave in the weight's array. -/
theorem V_w (j : Fin 5632) (k : Fin 1024) : (V m c main_v1 : FVec Ideal S5632x1024 .bf16) (ix2 j k) = W m c (ix2 k j) := by
  unfold_abbrev_sides
  after_results
  pointwise

/-- The staged blocks, entry by entry. -/
theorem blk0 (t : Fin cfg0.N) (r : Fin 512) (k : Fin 1024) : (iblk m c 0 t : FVec Ideal S512x1024 .f32) (ix2 r k) = X m c (ix2 (row t r) k) := by
  show ((cfg0.win 0).blk t).view.read (Elt Ideal) (V m c main_arg0) (ix2 r k) = _
  rw [V_main_arg0]
  blk_ext [idx t]
theorem blk1 (t : Fin cfg0.N) (r : Fin 1) (k : Fin 1024) : (iblk m c 1 t : FVec Ideal S1x1024 .f32) (ix2 r k) = G m c (ix2 r k) := by
  show ((cfg0.win 1).blk t).view.read (Elt Ideal) (V m c main_arg1) (ix2 r k) = _
  rw [V_main_arg1]
  blk_ext [idx t]
theorem blk2 (t : Fin cfg0.N) (r : Fin 5632) (k : Fin 1024) : (iblk m c 2 t : FVec Ideal S5632x1024 .bf16) (ix2 r k) = W m c (ix2 k r) := by
  rw [← V_w]
  show ((cfg0.win 2).blk t).view.read (Elt Ideal) (V m c main_v1) (ix2 r k) = _
  generalize V m c main_v1 = w
  blk_ext [idx t]
theorem blk3 (t : Fin cfg0.N) (r : Fin 3) (k : Fin 512) : (iblk m c 3 t : FVec Ideal S3x512 .f32) (ix2 r k) = K m c (ix2 r k) := by
  show ((cfg0.win 3).blk t).view.read (Elt Ideal) (V m c main_arg3) (ix2 r k) = _
  rw [V_main_arg3]
  blk_ext [idx t]

/-! ## What a grid point computes -/

/-- The rows of the weight each projection takes, and the convolution's projection. -/
abbrev B12 (t : Fin cfg0.N) : Vec Ideal S1536x1024 .bf16 :=
  View.ld (iblk m c 2 t) (Rect.unit ![2048, 0] ![1536, 1024] inb_S5632x1024_S1536x1024_2048_0)
theorem w_at (t : Fin cfg0.N) (r : Fin 1536) (k : Fin 1024) : B12 m c t (ix2 r k) = W m c (ix2 k ⟨2048 + r.val, by omega⟩) := by
  unfold B12
  pointwise [blk2 m c t]
abbrev B10 (t : Fin cfg0.N) : FVec Ideal S512x1536 .f32 := k0_pay10 (iblk m c 0 t) (iblk m c 1 t) (B12 m c t)

theorem hn_at (t : Fin cfg0.N) (r : Fin 512) (k : Fin 1024) : k0_pay6 (F := Ideal) (iblk m c 0 t) (iblk m c 1 t) (ix2 r k) = Hm m c (ix2 (row t r) k) := by
  pointwise [k0_pay6, blk0 m c t, blk1 m c t, HN, RS]
theorem hb_at (t : Fin cfg0.N) (r : Fin 512) (k : Fin 1024) : k0_pay7 (F := Ideal) (iblk m c 0 t) (iblk m c 1 t) (ix2 r k) = Hm m c (ix2 (row t r) k) := by
  pointwise [k0_pay7, hn_at m c t]
theorem ph_at (t : Fin cfg0.N) (r : Fin 512) (k : Fin 2048) :
    k0_pay9 (F := Ideal) (iblk m c 0 t) (iblk m c 1 t) (View.ld (iblk m c 2 t) (Rect.unit ![0, 0] ![2048, 1024] inb_S5632x1024_S2048x1024_0_0)) (ix2 r k)
      = PH (Hm m c) (W m c) (ix2 (row t r) k) := by
  pointwise [k0_pay9, hb_at m c t, blk2 m c t, PH, PJ]
theorem pc_at (t : Fin cfg0.N) (r : Fin 512) (k : Fin 1536) : B10 m c t (ix2 r k) = Cm m c (ix2 (row t r) k) := by
  pointwise [k0_pay10, hb_at m c t, w_at m c t, PC, PJ]
theorem pg_at (t : Fin cfg0.N) (r : Fin 512) (k : Fin 2048) :
    k0_pay13 (F := Ideal) (k0_pay7 (iblk m c 0 t) (iblk m c 1 t))
      (k0_pay12 (View.ld (iblk m c 2 t) (Rect.unit ![3584, 0] ![2048, 1024] inb_S5632x1024_S2048x1024_3584_0))) (ix2 r k)
      = PG (Hm m c) (W m c) (ix2 (row t r) k) := by
  pointwise [k0_pay13, k0_pay12, hb_at m c t, blk2 m c t, PG, PJ]
theorem u_at (t : Fin cfg0.N) (r p : Fin 512) : k0_pay14 (B10 m c t) (ix2 r p) = Um m c (ix2 (row t r) p) := by
  pointwise [k0_pay14, pc_at m c t, UC, ML, TH]

/-- The last rows of the convolution's input, as carried to the next point. -/
theorem tail_at (t : Fin cfg0.N) (x : Fin 8) (p : Fin 512) :
    (outsAt0 m c t.val t.isLt).2.2.2.2.2.2.2.2.2.2.2.1 (ix2 x p) = Um m c (ix2 (row t ⟨504 + x.val, by omega⟩) p) := by
  have key : k0_pay20 (k0_pay14 (B10 m c t)) (ix2 x p) = Um m c (ix2 (row t ⟨504 + x.val, by omega⟩) p) := by
    pointwise [k0_pay20, u_at m c t]
  by_cases h : t.val % 8 = 0
  · rw [outsAt0_A m c t h]; frame_out
    exact key
  · rw [outsAt0_B m c t h]; frame_out
    exact key

/-- A comparison of a row's number with a constant, as a choice. -/
theorem sel_ge {α : Type} (x n : ℕ) (hx : x < 2 ^ 31) (hn : n < 2 ^ 31) (a b : α) :
    Scalar.select (IntOp.cmpi .sge (BitVec.ofNat 32 x) (BitVec.ofNat 32 n)) a b = if n ≤ x then a else b := by
  rw [WordCmp.cmpi_sge_ofNat hx hn]
  by_cases h : n ≤ x <;> simp [h, Scalar.select]
theorem rb_row (t : Fin cfg0.N) (x p : Fin 512) (n : ℕ) (y : Fin 512) (h : y.val + n = x.val) :
    Um m c (ix2 (row t y) p) = RB (Um m c) (t.val * 512 + x.val) n p := by
  have e := row_lt t y
  unfold RB RW
  rw [if_pos (by omega), dif_pos (by omega)]
  exact congrArg (fun q => Um m c (ix2 q p)) (Fin.ext (by show t.val * 512 + y.val = t.val * 512 + x.val - n; omega))

/-- The convolution of the block, the two rows before it and the weights being given. -/
theorem y_at (t : Fin cfg0.N) (v1 v2 w0 w1 w2 : Vec Ideal S1x512 .f32)
    (h1 : ∀ p, v1 (ix2 0 p) = RB (Um m c) (t.val * 512) 1 p) (h2 : ∀ p, v2 (ix2 0 p) = RB (Um m c) (t.val * 512) 2 p)
    (e0 : ∀ p, w0 (ix2 0 p) = K m c (ix2 0 p)) (e1 : ∀ p, w1 (ix2 0 p) = K m c (ix2 1 p)) (e2 : ∀ p, w2 (ix2 0 p) = K m c (ix2 2 p)) (r p : Fin 512) :
    k0_pay15 (B10 m c t) v1 v2 w0 w1 w2 (ix2 r p) = Ym m c (ix2 (row t r) p) := by
  pointwise [k0_pay15, u_at m c t, YC, h1, h2, e0, e1, e2]
  refine congrArg₂ (· + ·) (congrArg₂ (· + ·) (congrArg _ ((sel_ge r.val 2 (by omega) (by omega) _ _).trans ?_))
    (congrArg _ ((sel_ge r.val 1 (by omega) (by omega) _ _).trans ?_))) rfl
  · split_ifs with h
    · exact rb_row m c t r p 2 _ (by show (r.val + 512 - 2) % 512 + 2 = _; omega)
    · refine (Cert.Mg.sel_eq r.val 1 (by omega) (by omega) _ _).trans ?_
      split_ifs with h'
      · rw [h', RB_succ]
      · rw [show r.val = 0 by omega, add_zero]
  · split_ifs with h
    · exact rb_row m c t r p 1 _ (by show (r.val + 512 - 1) % 512 + 1 = _; omega)
    · rw [show r.val = 0 by omega, add_zero]
/-- The convolution's branch of the block. -/
theorem o_at (t : Fin cfg0.N) (y : FVec Ideal S512x512 .f32) (h : ∀ r p : Fin 512, y (ix2 r p) = Ym m c (ix2 (row t r) p)) (r p : Fin 512) :
    k0_pay17 (B10 m c t) y (ix2 r p) = OC (Cm m c) (Ym m c) (ix2 (row t r) p) := by
  pointwise [k0_pay17, pc_at m c t, h, OC, ML, TH]

/-- The weights' rows, read off their block. -/
theorem k0_at (t : Fin cfg0.N) (p : Fin 512) : (View.ld (iblk m c 3 t) (Rect.unit ![0, 0] ![1, 512] inb_S3x512_S1x512_0_0) : Vec Ideal S1x512 .f32) (ix2 0 p)
    = K m c (ix2 0 p) := by
  pointwise [blk3 m c t]
theorem k1_at (t : Fin cfg0.N) (p : Fin 512) : (View.ld (iblk m c 3 t) (Rect.unit ![1, 0] ![1, 512] inb_S3x512_S1x512_1_0) : Vec Ideal S1x512 .f32) (ix2 0 p)
    = K m c (ix2 1 p) := by
  pointwise [blk3 m c t]
theorem k2_at (t : Fin cfg0.N) (p : Fin 512) : (View.ld (iblk m c 3 t) (Rect.unit ![2, 0] ![1, 512] inb_S3x512_S1x512_2_0) : Vec Ideal S1x512 .f32) (ix2 0 p)
    = K m c (ix2 2 p) := by
  pointwise [blk3 m c t]

/-- The convolution from the carried rows `T`, of which it takes the last two. -/
abbrev B15 (t : Fin cfg0.N) (T : Vec Ideal S8x512 .f32) : FVec Ideal S512x512 .f32 :=
  k0_pay15 (B10 m c t) (View.ld T (Rect.unit ![7, 0] ![1, 512] inb_S8x512_S1x512_7_0)) (View.ld T (Rect.unit ![6, 0] ![1, 512] inb_S8x512_S1x512_6_0))
    (View.ld (iblk m c 3 t) (Rect.unit ![0, 0] ![1, 512] inb_S3x512_S1x512_0_0))
    (View.ld (iblk m c 3 t) (Rect.unit ![1, 0] ![1, 512] inb_S3x512_S1x512_1_0))
    (View.ld (iblk m c 3 t) (Rect.unit ![2, 0] ![1, 512] inb_S3x512_S1x512_2_0))
/-- At the first point nothing comes before. -/
theorem yA_at (t : Fin cfg0.N) (h : t.val % 8 = 0) (r p : Fin 512) : B15 m c t (k0_pay4 (F := Ideal)) (ix2 r p) = Ym m c (ix2 (row t r) p) := by
  have e : t.val = 0 := by have := lt_of_lt_of_eq t.isLt N_0; omega
  refine y_at m c t _ _ _ _ _ (fun p => ?_) (fun p => ?_) (k0_at m c t) (k1_at m c t) (k2_at m c t) r p <;> pointwise [k0_pay4, RB, e]
/-- At a later one the carried rows do. -/
theorem yB_at (t : Fin cfg0.N) (h : ¬t.val % 8 = 0) (ht) (r p : Fin 512) :
    B15 m c t (outsAt0 m c (t.val - 1) ht).2.2.2.2.2.2.2.2.2.2.2.1 (ix2 r p) = Ym m c (ix2 (row t r) p) := by
  have e : ∀ (n : ℕ) (x : Fin 8) (p : Fin 512), x.val + n = 8 → 1 ≤ n →
      (outsAt0 m c (t.val - 1) ht).2.2.2.2.2.2.2.2.2.2.2.1 (ix2 x p) = RB (Um m c) (t.val * 512) n p := fun n x p hx hn => by
    refine (tail_at m c ⟨t.val - 1, ht⟩ x p).trans ?_
    have := row_lt t 0
    unfold RB RW
    rw [if_pos (by omega), dif_pos (by omega)]
    exact congrArg (fun q => Um m c (ix2 q p)) (Fin.ext (by show (t.val - 1) * 512 + (504 + x.val) = t.val * 512 - n; omega))
  refine y_at m c t _ _ _ _ _ (fun p => ?_) (fun p => ?_) (k0_at m c t) (k1_at m c t) (k2_at m c t) r p
  · pointwise
    exact e 1 7 p rfl le_rfl
  · pointwise
    exact e 2 6 p rfl (by omega)

/-- What a grid point leaves in the results' blocks. -/
theorem point6 (t : Fin cfg0.N) (y : S1024x512.Idx) : (outsAt0 m c t.val t.isLt).1 y = TR (Hm m c) (((cfg0.win 6).blk t).view.emb y) := by
  idx_vars y
  have key : k0_pay8 (F := Ideal) (iblk m c 0 t) (iblk m c 1 t) (ix2 y0 y1) = Hm m c (ix2 (row t y1) y0) := by
    pointwise [k0_pay8, hn_at m c t]
  by_cases h : t.val % 8 = 0
  · rw [outsAt0_A m c t h]; frame_out
    refine key.trans (congrArg _ ?_)
    blk_ext [idx t]
  · rw [outsAt0_B m c t h]; frame_out
    refine key.trans (congrArg _ ?_)
    blk_ext [idx t]
theorem point7 (t : Fin cfg0.N) (y : S512x2048.Idx) : (outsAt0 m c t.val t.isLt).2.1 y = PH (Hm m c) (W m c) (((cfg0.win 7).blk t).view.emb y) := by
  idx_vars y
  by_cases h : t.val % 8 = 0
  · rw [outsAt0_A m c t h]; frame_out
    refine (ph_at m c t y0 y1).trans (congrArg _ ?_)
    blk_ext [idx t]
  · rw [outsAt0_B m c t h]; frame_out
    refine (ph_at m c t y0 y1).trans (congrArg _ ?_)
    blk_ext [idx t]
theorem point8 (t : Fin cfg0.N) (y : S512x1536.Idx) : (outsAt0 m c t.val t.isLt).2.2.1 y = Cm m c (((cfg0.win 8).blk t).view.emb y) := by
  idx_vars y
  have key : k0_pay11 (F := Ideal) (iblk m c 0 t) (iblk m c 1 t) (B12 m c t) (ix2 y0 y1) = Cm m c (ix2 (row t y0) y1) := by
    pointwise [k0_pay11, pc_at m c t]
  by_cases h : t.val % 8 = 0
  · rw [outsAt0_A m c t h]; frame_out
    refine key.trans (congrArg _ ?_)
    blk_ext [idx t]
  · rw [outsAt0_B m c t h]; frame_out
    refine key.trans (congrArg _ ?_)
    blk_ext [idx t]
theorem point9 (t : Fin cfg0.N) (y : S512x2048.Idx) : (outsAt0 m c t.val t.isLt).2.2.2.1 y = PG (Hm m c) (W m c) (((cfg0.win 9).blk t).view.emb y) := by
  idx_vars y
  by_cases h : t.val % 8 = 0
  · rw [outsAt0_A m c t h]; frame_out
    refine (pg_at m c t y0 y1).trans (congrArg _ ?_)
    blk_ext [idx t]
  · rw [outsAt0_B m c t h]; frame_out
    refine (pg_at m c t y0 y1).trans (congrArg _ ?_)
    blk_ext [idx t]
/-- The three results behind the convolution, from its values. -/
theorem o18_at (t : Fin cfg0.N) (y : FVec Ideal S512x512 .f32) (h : ∀ r p : Fin 512, y (ix2 r p) = Ym m c (ix2 (row t r) p)) (r p : Fin 512) :
    k0_pay18 (B10 m c t) y (ix2 r p) = OC (Cm m c) (Ym m c) (ix2 (row t r) p) := by
  pointwise [k0_pay18, o_at m c t y h]
theorem o19_at (t : Fin cfg0.N) (y : FVec Ideal S512x512 .f32) (h : ∀ r p : Fin 512, y (ix2 r p) = Ym m c (ix2 (row t r) p)) (r p : Fin 512) :
    k0_pay19 (B10 m c t) y (ix2 r p) = OC (Cm m c) (Ym m c) (ix2 (row t p) r) := by
  pointwise [k0_pay19, o_at m c t y h]
theorem point10 (t : Fin cfg0.N) (y : S512x512.Idx) : (outsAt0 m c t.val t.isLt).2.2.2.2.1 y = OC (Cm m c) (Ym m c) (((cfg0.win 10).blk t).view.emb y) := by
  idx_vars y
  by_cases h : t.val % 8 = 0
  · rw [outsAt0_A m c t h]; frame_out
    simp (disch := decide) only [View.readCov_fill]
    refine (o18_at m c t _ (yA_at m c t h) y0 y1).trans (congrArg _ ?_)
    blk_ext [idx t]
  · rw [outsAt0_B m c t h]; frame_out
    simp only [read_unread_whole]
    refine (o18_at m c t _ (yB_at m c t h _) y0 y1).trans (congrArg _ ?_)
    blk_ext [idx t]
theorem point11 (t : Fin cfg0.N) (y : S512x512.Idx) : (outsAt0 m c t.val t.isLt).2.2.2.2.2.1 y = TC (OC (Cm m c) (Ym m c)) (((cfg0.win 11).blk t).view.emb y) := by
  idx_vars y
  by_cases h : t.val % 8 = 0
  · rw [outsAt0_A m c t h]; frame_out
    simp (disch := decide) only [View.readCov_fill]
    refine (o19_at m c t _ (yA_at m c t h) y0 y1).trans (congrArg _ ?_)
    blk_ext [idx t]
  · rw [outsAt0_B m c t h]; frame_out
    simp only [read_unread_whole]
    refine (o19_at m c t _ (yB_at m c t h _) y0 y1).trans (congrArg _ ?_)
    blk_ext [idx t]
theorem point12 (t : Fin cfg0.N) (y : S512x512.Idx) : (outsAt0 m c t.val t.isLt).2.2.2.2.2.2.1 y = Ym m c (((cfg0.win 12).blk t).view.emb y) := by
  idx_vars y
  by_cases h : t.val % 8 = 0
  · rw [outsAt0_A m c t h]; frame_out
    simp (disch := decide) only [View.readCov_fill]
    refine (yA_at m c t h y0 y1).trans (congrArg _ ?_)
    blk_ext [idx t]
  · rw [outsAt0_B m c t h]; frame_out
    simp only [read_unread_whole]
    refine (yB_at m c t h _ y0 y1).trans (congrArg _ ?_)
    blk_ext [idx t]

/-- After the run each result's array holds its closed form. -/
theorem final6 : ((dats m 0 c).arrAt 6 cfg0.N : FVec Ideal S1024x4096 .bf16) = TR (Hm m c) :=
  (dats m 0 c).arrAt_eq_of_covers 6 _ (by decide +kernel) fun t _ y => by
    blk_simp
    rw [after0_6]
    exact point6 m c t y
theorem final7 : ((dats m 0 c).arrAt 7 cfg0.N : FVec Ideal S4096x2048 .f32) = PH (Hm m c) (W m c) :=
  (dats m 0 c).arrAt_eq_of_covers 7 _ (by decide +kernel) fun t _ y => by
    blk_simp
    rw [after0_7]
    exact point7 m c t y
theorem final8 : ((dats m 0 c).arrAt 8 cfg0.N : FVec Ideal S4096x1536 .bf16) = Cm m c :=
  (dats m 0 c).arrAt_eq_of_covers 8 _ (by decide +kernel) fun t _ y => by
    blk_simp
    rw [after0_8]
    exact point8 m c t y
theorem final9 : ((dats m 0 c).arrAt 9 cfg0.N : FVec Ideal S4096x2048 .bf16) = PG (Hm m c) (W m c) :=
  (dats m 0 c).arrAt_eq_of_covers 9 _ (by decide +kernel) fun t _ y => by
    blk_simp
    rw [after0_9]
    exact point9 m c t y
theorem final10 : ((dats m 0 c).arrAt 10 cfg0.N : FVec Ideal S4096x512 .bf16) = OC (Cm m c) (Ym m c) :=
  (dats m 0 c).arrAt_eq_of_covers 10 _ (by decide +kernel) fun t _ y => by
    blk_simp
    rw [after0_10]
    exact point10 m c t y
theorem final11 : ((dats m 0 c).arrAt 11 cfg0.N : FVec Ideal S512x4096 .bf16) = TC (OC (Cm m c) (Ym m c)) :=
  (dats m 0 c).arrAt_eq_of_covers 11 _ (by decide +kernel) fun t _ y => by
    blk_simp
    rw [after0_11]
    exact point11 m c t y
theorem final12 : ((dats m 0 c).arrAt 12 cfg0.N : FVec Ideal S4096x512 .bf16) = Ym m c :=
  (dats m 0 c).arrAt_eq_of_covers 12 _ (by decide +kernel) fun t _ y => by
    blk_simp
    rw [after0_12]
    exact point12 m c t y

end Cert.Kernel7Ideal.Fi

end
-- ==== Proof.FiGates.lean ====
/- The gates of the recurrence on the reals, and the states they make. -/
module

public import proofs.«01_k».proof.Proof.FiValue
public import proofs.«01_k».proof.Proof.HgBody
public import proofs.«01_k».proof.Proof.Finite
public import proofs.«01_k».proof.Proof.Sigmoid

@[expose] public section

set_option maxRecDepth 16384

noncomputable section

open Idealize.ShloMosaic Idealize.ShloMosaic.TcCoe Idealize.SL.Sem
open scoped BigOperators

namespace Cert.Hg.Gate

open Cert.Hg Cert.Kernel7Ideal
open Cert.Finite (IsReal)

/-- A column of a tile, as a sequence. -/
def cs (x : Tile Ideal) (d : Fin 128) (s : ℕ) : EReal := x (ix2 (Fin.ofNat 512 s) d)

theorem and31 : ∀ r : Fin 512, BitVec.ofNat 32 r.val &&& 31#32 = BitVec.ofNat 32 (r.val % 32) := by decide

theorem up_at (n : ℕ) (hn : n < 512) (x : Tile Ideal) (r : Fin 512) (d : Fin 128) :
    up (BitVec.ofNat 32 n) x (ix2 r d) = x (ix2 r d) + if n ≤ r.val % 32 then cs x d (r.val - n) else 0 := by
  pointwise [up, phase, lit]
  refine congrArg (x (ix2 r d) + ·) ?_
  have e : IntOp.andi (BitVec.ofNat 32 r.val) 31#32 = BitVec.ofNat 32 (r.val % 32) := and31 r
  have hb : (BitVec.ofNat 32 n).toNat = n := by rw [BitVec.toNat_ofNat]; exact Nat.mod_eq_of_lt (by omega)
  rw [e, hb, Cert.Kernel7Ideal.Fi.sel_ge (r.val % 32) n (by omega) (by omega)]
  split_ifs with h
  · refine congrArg (fun q => x (ix2 q d)) (Fin.ext ?_)
    show (r.val + 512 - n % 512) % 512 = (r.val - n) % 512
    omega
  · rfl

/-- One doubling step on the running sums. -/
theorem up_sum (n : ℕ) (hn : n < 512) (f : ℕ → EReal) (d : Fin 128) (x : Tile Ideal)
    (h : ∀ r : Fin 512, x (ix2 r d) = ∑ j ∈ Finset.range (min n (r.val % 32 + 1)), f (r.val - j)) (r : Fin 512) :
    up (BitVec.ofNat 32 n) x (ix2 r d) = ∑ j ∈ Finset.range (min (n + n) (r.val % 32 + 1)), f (r.val - j) := by
  rw [up_at n hn, h r]
  split_ifs with c
  · have hr : (Fin.ofNat 512 (r.val - n)).val = r.val - n := Nat.mod_eq_of_lt (by omega)
    unfold cs
    rw [h, hr, show min (n + n) (r.val % 32 + 1) = n + min n ((r.val - n) % 32 + 1) by omega, Finset.sum_range_add, show min n (r.val % 32 + 1) = n by omega]
    exact congrArg (_ + ·) (Finset.sum_congr rfl fun j _ => congrArg f (by omega))
  · rw [add_zero]
    exact congrArg (fun k => ∑ j ∈ Finset.range k, f (r.val - j)) (by omega)

/-- The running sum down a chunk. -/
theorem sumDown_at (x : Tile Ideal) (c : Fin 16) (i : Fin 32) (d : Fin 128) (r : Fin 512) (hr : r.val = 32 * c.val + i.val) :
    sumDown x (ix2 r d) = ∑ j ∈ Finset.range (i.val + 1), cs x d (32 * c.val + j) := by
  have h1 : ∀ r : Fin 512, x (ix2 r d) = ∑ j ∈ Finset.range (min 1 (r.val % 32 + 1)), cs x d (r.val - j) := fun r => by
    rw [show min 1 (r.val % 32 + 1) = 1 by omega, Finset.sum_range_one]
    exact congrArg (fun q => x (ix2 q d)) (Fin.ext (Nat.mod_eq_of_lt (by omega)).symm)
  have h5 := up_sum 16 (by decide) (cs x d) d _ (up_sum 8 (by decide) (cs x d) d _ (up_sum 4 (by decide) (cs x d) d _
    (up_sum 2 (by decide) (cs x d) d _ (up_sum 1 (by decide) (cs x d) d _ h1)))) r
  refine h5.trans ?_
  rw [← Finset.sum_range_reflect, show min (16 + 16) (r.val % 32 + 1) = i.val + 1 by omega]
  refine Finset.sum_congr rfl fun j hj => congrArg _ ?_
  have := Finset.mem_range.mp hj
  omega

/-- The forget gate on the reals. -/
def fg (l z : ℝ) : ℝ := l + (1 - l) * Sig.sg z
theorem sg_pos (z : ℝ) : 0 < Sig.sg z := by unfold Sig.sg; have := Real.exp_pos (-z); positivity
theorem fg_pos {l : ℝ} (h0 : 0 < l) (h1 : l < 1) (z : ℝ) : 0 < fg l z := by
  unfold fg
  have := mul_pos (sub_pos.mpr h1) (sg_pos z)
  linarith
/-- The softmax's first weight. -/
def sm (a b : ℝ) : ℝ := Real.exp (a - max a b) / (Real.exp (a - max a b) + Real.exp (b - max a b))
theorem sm_pos (a b : ℝ) : 0 < sm a b := by unfold sm; positivity
theorem sm_lt (a b : ℝ) : sm a b < 1 := by
  unfold sm
  rw [div_lt_one (by positivity)]
  have := Real.exp_pos (b - max a b)
  linarith

theorem soft1_coe (a b : FVec Ideal S1x128 .f32) (u v : ℝ) (d : Fin 128) (ha : a (ix2 0 d) = (u : EReal)) (hb : b (ix2 0 d) = (v : EReal)) :
    soft1 a b (ix2 0 d) = (sm u v : EReal) := by
  pointwise [soft1, ha, hb]
  rw [show max (u : EReal) (v : EReal) = ((max u v : ℝ) : EReal) from (EReal.coe_strictMono.monotone.map_max).symm, ← EReal.coe_sub, ← EReal.coe_sub, Ideal.exp_coe, Ideal.exp_coe, ← EReal.coe_add, Finite.div_coe _ _ (by positivity)]
  rfl

variable (H : Head Ideal) (d : Fin 128) (l : ℝ) (z : ℕ → ℝ)

theorem f_coe (hl : H.lb (ix2 0 d) = (l : EReal)) (hz : ∀ s < 512, cs H.xf d s = (z s : EReal)) (s : ℕ) (hs : s < 512) :
    cs H.f d s = (fg l (z s) : EReal) := by
  have e : H.xf (ix2 (Fin.ofNat 512 s) d) = _ := hz s hs
  unfold cs
  pointwise [Head.f, tall, litRow, Head.sf, sgm, lit, hl, e]
  have := Sig.SG_coe (z s)
  unfold Sig.SG at this
  rw [this, show (1 : EReal) = ((1 : ℝ) : EReal) from rfl, ← EReal.coe_sub, ← EReal.coe_mul, ← EReal.coe_add]
  rfl

/-- The gates' logarithms and their sum within a tile from row `a` on. -/
def lf (l : ℝ) (z : ℕ → ℝ) (s : ℕ) : ℝ := Real.log (fg l (z s))
def sl (l : ℝ) (z : ℕ → ℝ) (n : ℕ) : ℝ := ∑ s ∈ Finset.range n, lf l z s
theorem sl_add (a n : ℕ) : sl l z (a + n) - sl l z a = ∑ j ∈ Finset.range n, lf l z (a + j) := by
  unfold sl; rw [Finset.sum_range_add]; ring
theorem coe_sumR (f : ℕ → ℝ) (n : ℕ) : ((∑ k ∈ Finset.range n, f k : ℝ) : EReal) = ∑ k ∈ Finset.range n, (f k : EReal) := by
  induction n with
  | zero => simp
  | succ n ih => rw [Finset.sum_range_succ, Finset.sum_range_succ, EReal.coe_add, ih]

theorem b_coe (h0 : 0 < l) (h1 : l < 1) (hl : H.lb (ix2 0 d) = (l : EReal)) (hz : ∀ s < 512, cs H.xf d s = (z s : EReal)) (c : Fin 16) (i : Fin 32) :
    H.b (ix3 c i d) = ((sl l z (32 * c.val + (i.val + 1)) - sl l z (32 * c.val) : ℝ) : EReal) := by
  have e : H.b (ix3 c i d) = sumDown (log H.f) (ix2 ⟨32 * c.val + i.val, by omega⟩ d) := by
    pointwise [Head.b, split]
    exact congrArg (fun q => sumDown (log H.f) (ix2 q d)) (Fin.ext (by show c.val * 32 + i.val = 32 * c.val + i.val; omega))
  rw [e, sumDown_at _ c i d _ rfl, sl_add, coe_sumR]
  refine Finset.sum_congr rfl fun j hj => ?_
  have hj := Finset.mem_range.mp hj
  have hf := f_coe H d l z hl hz (32 * c.val + j) (by omega)
  show Ideal.log (cs H.f d (32 * c.val + j)) = _
  rw [hf, Ideal.log_coe, if_neg (not_le.mpr (fg_pos h0 h1 _))]
  rfl

theorem dec_coe (h0 : 0 < l) (h1 : l < 1) (hl : H.lb (ix2 0 d) = (l : EReal)) (hz : ∀ s < 512, cs H.xf d s = (z s : EReal)) (c : Fin 16) :
    H.dec (ix3 c 0 d) = (Real.exp (sl l z (32 * c.val + 32) - sl l z (32 * c.val)) : EReal) := by
  have e := b_coe H d l z h0 h1 hl hz c 31
  pointwise [Head.dec, fin]
  exact (congrArg Ideal.exp e).trans (Ideal.exp_coe _)

theorem ko_coe (h0 : 0 < l) (h1 : l < 1) (hl : H.lb (ix2 0 d) = (l : EReal)) (hz : ∀ s < 512, cs H.xf d s = (z s : EReal)) (c : Fin 16) (i : Fin 32) (r : Fin 512)
    (hr : r.val = 32 * c.val + i.val) :
    H.ko (ix2 r d) = (((1 - fg l (z (32 * c.val + i.val))) * Real.exp (sl l z (32 * c.val + 32) - sl l z (32 * c.val + i.val + 1)) : ℝ) : EReal) := by
  have ei := b_coe H d l z h0 h1 hl hz c i
  have em := b_coe H d l z h0 h1 hl hz c 15
  have el := b_coe H d l z h0 h1 hl hz c 31
  have ef := f_coe H d l z hl hz (32 * c.val + i.val) (by omega)
  have ej : H.tko (ix2 r d) = eko H.b (ix3 c i d) := by
    pointwise [Head.tko, join]
    exact congrArg (eko H.b) (congrArg₂ (fun a b => ix3 a b d) (Fin.ext (by show r.val / 32 = c.val; omega)) (Fin.ext (by show r.val % 32 = i.val; omega)))
  have ek : eko H.b (ix3 c i d) = ((Real.exp (sl l z (32 * c.val + 32) - sl l z (32 * c.val + i.val + 1)) : ℝ) : EReal) := by
    pointwise [eko, eka, spread, fin, mid, ei, em, el]
    rw [show (0 : EReal) = ((0 : ℝ) : EReal) from rfl, ← EReal.coe_sub, ← EReal.coe_sub, ← EReal.coe_sub, Ideal.exp_coe, Ideal.exp_coe, ← EReal.coe_mul,
      ← Real.exp_add]
    exact congrArg (fun x : ℝ => ((Real.exp x : ℝ) : EReal)) (by rw [← add_assoc]; ring)
  have er : (ix2 (Fin.ofNat 512 (32 * c.val + i.val)) d : Cert.Kernel7Ideal.S512x128.Idx) = ix2 r d := by
    refine congrArg (fun q => ix2 q d) (Fin.ext ?_)
    rw [hr]; exact Nat.mod_eq_of_lt (by omega)
  unfold cs at ef
  rw [er] at ef
  pointwise [Head.ko, bf, ej, Head.k, lit, ef]
  rw [ek, show (1 : EReal) = ((1 : ℝ) : EReal) from rfl, ← EReal.coe_sub, ← EReal.coe_mul]

theorem dsNext_at (D : FVec Ideal S16x1x128 .f32) (S : FVec Ideal S128x128 .f32) (V K : FVec Ideal S512x128 .bf16) (n : ℕ) (h : n < 16) (p q : Fin 128) :
    dsNext (decRow n h D) S (rows32 n h V) (rows32 n h K) (ix2 p q)
      = D (ix3 ⟨n, h⟩ 0 q) * S (ix2 p q) + ∑ i : Fin 32, V (ix2 ⟨32 * n + i.val, by omega⟩ p) * K (ix2 ⟨32 * n + i.val, by omega⟩ q) := by
  pointwise [dsNext, decRow, rows32]

/-- The state before position `n`: everything before it, decayed to there. -/
def ST (A w : ℕ → ℝ) (n : ℕ) : ℝ := Real.exp (A n) * ∑ s ∈ Finset.range n, w s * Real.exp (-A (s + 1))
theorem ST_step (A w : ℕ → ℝ) (n : ℕ) :
    Real.exp (A (n + 32) - A n) * ST A w n + ∑ i ∈ Finset.range 32, w (n + i) * Real.exp (A (n + 32) - A (n + i + 1)) = ST A w (n + 32) := by
  unfold ST
  rw [Finset.sum_range_add, mul_add, ← mul_assoc, ← Real.exp_add, sub_add_cancel, Finset.mul_sum (Finset.range 32)]
  refine congrArg₂ (· + ·) rfl (Finset.sum_congr rfl fun i _ => ?_)
  rw [sub_eq_add_neg, Real.exp_add]
  ring

/-- The state before the tile's chunk `n`, from the decays, the keys and the values. -/
def SD (D : FVec Ideal S16x1x128 .f32) (K V : FVec Ideal S512x128 .bf16) (s : FVec Ideal S128x128 .f32) : ℕ → FVec Ideal S128x128 .f32
  | 0 => s
  | n + 1 => if h : n < 16 then dsNext (decRow n h D) (SD D K V s n) (rows32 n h V) (rows32 n h K) else SD D K V s n

theorem SD_coe (h0 : 0 < l) (h1 : l < 1) (q : Fin 128) (hl : H.lb (ix2 0 q) = (l : EReal)) (hz : ∀ s < 512, cs H.xf q s = (z s : EReal))
    (p : Fin 128) (V : FVec Ideal S512x128 .bf16) (v : ℕ → ℝ) (hv : ∀ s (h : s < 512), V (ix2 ⟨s, h⟩ p) = (v s : EReal)) (S : FVec Ideal S128x128 .f32)
    (a : ℕ) (A w : ℕ → ℝ) (hA : ∀ n, sl l z n = A (a + n) - A a) (hw : ∀ s, w (a + s) = v s * (1 - fg l (z s))) (hS : S (ix2 p q) = (ST A w a : EReal))
    (n : ℕ) (hn : n ≤ 16) : SD H.dec H.ko V S n (ix2 p q) = (ST A w (a + 32 * n) : EReal) := by
  induction n with
  | zero => exact hS
  | succ n ih =>
    have h : n < 16 := hn
    refine (congrFun (dif_pos h : SD H.dec H.ko V S (n + 1) = _) _).trans ?_
    have hb := dec_coe H q l z h0 h1 hl hz ⟨n, h⟩
    rw [dsNext_at, ih (by omega), hb, show a + 32 * (n + 1) = a + 32 * n + 32 by ring, ← ST_step, EReal.coe_add, EReal.coe_mul, coe_sumR,
      ← Fin.sum_univ_eq_sum_range (fun i => ((w (a + 32 * n + i) * Real.exp (A (a + 32 * n + 32) - A (a + 32 * n + i + 1)) : ℝ) : EReal)) 32]
    refine congrArg₂ (· + ·) (congrArg (fun x : ℝ => ((Real.exp x : ℝ) : EReal) * _) ?_) (Finset.sum_congr rfl fun i _ => ?_)
    · rw [hA, hA, ← add_assoc]; ring
    · rw [hv, ko_coe H q l z h0 h1 hl hz ⟨n, h⟩ i _ rfl, ← EReal.coe_mul]
      refine congrArg (fun x : ℝ => (x : EReal)) ?_
      rw [show a + 32 * n + i.val = a + (32 * n + i.val) by ring, hw, hA, show 32 * n + 32 = 32 * n + 32 from rfl, hA, ← add_assoc, mul_assoc]
      refine congrArg (v _ * ·) (congrArg (_ * ·) (congrArg Real.exp ?_))
      rw [show a + (32 * n + i.val + 1) = a + (32 * n + i.val) + 1 by ring]; ring

/-- A column of the projection and a column's lower bound, as reals. -/
def zr (P : FVec Ideal S4096x2048 .f32) (n s : ℕ) : ℝ := (P (ix2 (Fin.ofNat 4096 s) (Fin.ofNat 2048 n))).toReal
def lw (L : FVec Ideal S2x512 .f32) (j : ℕ) : ℝ := sm (L (ix2 0 (Fin.ofNat 512 j))).toReal (L (ix2 1 (Fin.ofNat 512 j))).toReal
/-- The sums of the gates' logarithms and the products of values and keys. -/
def AS (P : FVec Ideal S4096x2048 .f32) (L : FVec Ideal S2x512 .f32) (j : ℕ) : ℕ → ℝ := sl (lw L j) (zr P (512 + j))
def WS (P : FVec Ideal S4096x2048 .f32) (L : FVec Ideal S2x512 .f32) (j k s : ℕ) : ℝ := zr P (1024 + k) s * (1 - fg (lw L j) (zr P (512 + j) s))
/-- The states before every chunk. -/
def SF (P : FVec Ideal S4096x2048 .f32) (L : FVec Ideal S2x512 .f32) : FVec Ideal S4x128x128x128 .f32 := fun i =>
  (ST (AS P L (128 * (i 0).val + (i 3).val)) (WS P L (128 * (i 0).val + (i 3).val) (128 * (i 0).val + (i 2).val)) (32 * (i 1).val) : EReal)

end Cert.Hg.Gate

end
-- ==== Proof.FiStates.lean ====
/- The states the kernel stores: every tile's, from those the tile before it left. -/
module

public import proofs.«01_k».proof.Proof.FiValue
public import proofs.«01_k».proof.Proof.FiGates

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.Fi

open Cert.Kernel7Ideal Cert.Kernel7Ideal.Gen
open Cert.Hg (Head Tile soft1 dsNext decRow rows32)
open Cert.Hg.Gate (SD cs zr lw sl lf sl_add AS WS ST SF sm sm_pos sm_lt fg soft1_coe SD_coe)
open Cert.Finite (IsReal)

/-- 128 columns of a tile from column `n` on. -/
def CT (P : FVec Ideal S512x2048 .f32) (n : ℕ) : FVec Ideal S512x128 .f32 := fun i => P (ix2 (i 0) (Fin.ofNat 2048 (n + (i 1).val)))
/-- A row of the lower bounds, 128 columns from column `n` on. -/
def RT (X : FVec Ideal S2x512 .f32) (r n : ℕ) : FVec Ideal S1x128 .f32 := fun i => X (ix2 (Fin.ofNat 2 r) (Fin.ofNat 512 (n + (i 1).val)))

theorem ldH {sg : RefSig} {κ : Kind} {sp : Space} (v : View sg κ sp S512x2048 .f32) (P : FVec Ideal S512x2048 .f32) (a b : ℕ) (i0 i1 i2 h) :
    v.readCov (Val := Elt Ideal) [⟨Rect.unit (s := S512x2048) ![0, 0] ![512, 2048] i0, P⟩] ((Rect.unit (s := S512x2048) ![0, a] ![512, 512] i1).withinL
      (Rect.unit (s := S512x512) ![0, b] ![512, 128] i2).toLoadRect h) = CT P (a + b) := by
  rw [View.readCov_eq_canon', View.canon_unit_zero (by funext j; fin_cases j <;> rfl)]
  have h1 := i1 1
  have h2 := i2 1
  simp only [Matrix.cons_val_one, Matrix.cons_val_zero, Matrix.head_cons] at h1 h2
  funext x
  have h3 : (x 1).val < 128 := (x 1).isLt
  refine congrArg P (funext fun j => ?_)
  fin_cases j
  · refine Fin.ext ?_
    show 0 + 0 + 1 * (x 0).val = (x 0).val
    omega
  · refine Fin.ext ?_
    show a + b + 1 * (x 1).val = (a + b + (x 1).val) % 2048
    have e : S512x2048.size 1 = 2048 := rfl
    have e' : S512x512.size 1 = 512 := rfl
    rw [Nat.mod_eq_of_lt (by omega)]; omega

theorem ldL {sg : RefSig} {κ : Kind} {sp : Space} {M : Memref sg κ sp S2x512 .f32} (hM : M.IsWhole) (X : FVec Ideal S2x512 .f32) (r b : ℕ) (i1 i2 h) :
    View.readAt (Elt Ideal) M.view ((Rect.unit (s := S2x512) ![0, b] ![2, 128] i1).withinL
      (Rect.unit (s := S2x128) ![r, 0] ![1, 128] i2).toLoadRect h) (hM.unread X) = RT X r b := by
  have h1 := i1 1
  have h2 := i2 0
  funext x
  have h3 : (x 1).val < 128 := (x 1).isLt
  have h4 : (x 0).val < 1 := (x 0).isLt
  refine Eq.trans (congrFun (hM.read_unread (Val := Elt Ideal) X) _) (congrArg X (funext fun j => ?_))
  have e : S2x512.size 1 = 512 := rfl
  have e' : S2x128.size 0 = 2 := rfl
  simp only [Matrix.cons_val_one, Matrix.cons_val_zero, Matrix.head_cons] at h1 h2
  fin_cases j
  · refine Fin.ext ?_
    show 0 + r + 1 * (x 0).val = r % 2
    rw [Nat.mod_eq_of_lt (by omega)]; omega
  · refine Fin.ext ?_
    show b + 0 + 1 * (x 1).val = (b + (x 1).val) % 512
    rw [Nat.mod_eq_of_lt (by omega)]; omega

/-- A head of a tile, from the two rows of the lower bounds and the tile's query and gate columns. -/
def HQ {F : FTy → Type} [FloatOps F] (a b : FVec F S1x128 .f32) (q f : FVec F S512x128 .f32) : Head F := ⟨soft1 a b, soft1 a b, q, f, q, q⟩

/-- The tile as the kernel passes it on. -/
def sc {F : FTy → Type} [FloatOps F] (x : FVec F S512x128 .f32) : FVec F S512x128 .f32 := shapeCast S512x128 x shapeCasts_S512x128_S512x128
theorem sc_eq (x : FVec Ideal S512x128 .f32) : sc x = x := by
  funext y; idx_vars y; pointwise [sc]

theorem dec0 {F : FTy → Type} [FloatOps F] (a b : FVec F S1x128 .f32) (f : FVec F S512x128 .f32) :
    k0_pay38 (F := F) k0_pay21 (k0_pay30 k0_pay21 (k0_pay25 a b) f) k0_pay31 = (HQ a b (sc f) (sc f)).dec := by sl_kernel_rfl
theorem dec1 {F : FTy → Type} [FloatOps F] (a b : FVec F S1x128 .f32) (f : FVec F S512x128 .f32) :
    k0_pay60 (F := F) k0_pay21 (k0_pay51 k0_pay21 (k0_pay47 a b) f) (k0_pay52 k0_pay21) (k0_pay53 k0_pay21 (k0_pay47 a b) f) = (HQ a b (sc f) (sc f)).dec := by sl_kernel_rfl
theorem dec2 {F : FTy → Type} [FloatOps F] (a b : FVec F S1x128 .f32) (f : FVec F S512x128 .f32) :
    k0_pay84 (F := F) k0_pay21 (k0_pay76 (k0_pay71 a b) (k0_pay72 a b) f) (k0_pay77 k0_pay21 (k0_pay71 a b) (k0_pay72 a b) f) = (HQ a b (sc f) (sc f)).dec := by sl_kernel_rfl
theorem dec3 {F : FTy → Type} [FloatOps F] (a b : FVec F S1x128 .f32) (f : FVec F S512x128 .f32) :
    k0_pay110 (F := F) (k0_pay104 k0_pay21 (k0_pay100 a b f) k0_pay101) = (HQ a b (sc f) (sc f)).dec := by sl_kernel_rfl
theorem ko0 {F : FTy → Type} [FloatOps F] (a b : FVec F S1x128 .f32) (f : FVec F S512x128 .f32) :
    k0_pay42 (F := F) k0_pay21 (k0_pay29 (k0_pay25 a b) f) (k0_pay30 k0_pay21 (k0_pay25 a b) f) k0_pay31 = (HQ a b (sc f) (sc f)).ko := by sl_kernel_rfl
theorem ko1 {F : FTy → Type} [FloatOps F] (a b : FVec F S1x128 .f32) (f : FVec F S512x128 .f32) :
    k0_pay65 (F := F) (k0_pay64 k0_pay21 (k0_pay50 (k0_pay47 a b) f) (k0_pay51 k0_pay21 (k0_pay47 a b) f) (k0_pay52 k0_pay21) (k0_pay53 k0_pay21 (k0_pay47 a b) f))
      = (HQ a b (sc f) (sc f)).ko := by sl_kernel_rfl
theorem ko2 {F : FTy → Type} [FloatOps F] (a b : FVec F S1x128 .f32) (f : FVec F S512x128 .f32) :
    k0_pay92 (F := F) (k0_pay75 (k0_pay71 a b) (k0_pay72 a b) f)
      (k0_pay87 k0_pay21 (k0_pay76 (k0_pay71 a b) (k0_pay72 a b) f) (k0_pay77 k0_pay21 (k0_pay71 a b) (k0_pay72 a b) f)) = (HQ a b (sc f) (sc f)).ko := by sl_kernel_rfl
theorem ko3 {F : FTy → Type} [FloatOps F] (a b : FVec F S1x128 .f32) (f : FVec F S512x128 .f32) :
    k0_pay114 (F := F) (k0_pay99 a b f) (k0_pay109 k0_pay21 (k0_pay100 a b f) k0_pay101) = (HQ a b (sc f) (sc f)).ko := by sl_kernel_rfl
theorem vb0 (x : FVec Ideal S512x128 .f32) : k0_pay43 (F := Ideal) x = x := by
  funext y; idx_vars y; pointwise [k0_pay43]
theorem vb1 (x : FVec Ideal S512x128 .f32) : k0_pay66 (F := Ideal) x = x := by
  funext y; idx_vars y; pointwise [k0_pay66]
theorem vb2 (x : FVec Ideal S512x128 .f32) : k0_pay93 (F := Ideal) x = x := by
  funext y; idx_vars y; pointwise [k0_pay93]
theorem vb3 (x : FVec Ideal S512x128 .f32) : k0_pay115 (F := Ideal) x = x := by
  funext y; idx_vars y; pointwise [k0_pay115]

/-- A head's state out of the carried ones. -/
def s0 (S : FVec Ideal S4x128x128 .f32) (hh : ℕ) : FVec Ideal S128x128 .f32 := fun i => S (ix3 (Fin.ofNat 4 hh) (i 0) (i 1))

theorem base0 (S : FVec Ideal S4x128x128 .f32) (i0) : k0_pay44 (F := Ideal) (View.ld S (Rect.unit (s := S4x128x128) ![0, 0, 0] ![1, 128, 128] i0)) = s0 S 0 := by
  funext y; idx_vars y; pointwise [k0_pay44, s0]; try rfl
theorem base1 (S : FVec Ideal S4x128x128 .f32) (i0) : k0_pay67 (F := Ideal) (View.ld S (Rect.unit (s := S4x128x128) ![1, 0, 0] ![1, 128, 128] i0)) = s0 S 1 := by
  funext y; idx_vars y; pointwise [k0_pay67, s0]; try rfl
theorem base2 (S : FVec Ideal S4x128x128 .f32) (i0) : k0_pay94 (F := Ideal) (View.ld S (Rect.unit (s := S4x128x128) ![2, 0, 0] ![1, 128, 128] i0)) = s0 S 2 := by
  funext y; idx_vars y; pointwise [k0_pay94, s0]; try rfl
theorem base3 (S : FVec Ideal S4x128x128 .f32) (i0) : k0_pay116 (F := Ideal) (View.ld S (Rect.unit (s := S4x128x128) ![3, 0, 0] ![1, 128, 128] i0)) = s0 S 3 := by
  funext y; idx_vars y; pointwise [k0_pay116, s0]; try rfl

/-- A head's states in a tile. -/
def SH (P : FVec Ideal S512x2048 .f32) (L : FVec Ideal S2x512 .f32) (S : FVec Ideal S4x128x128 .f32) (hh n : ℕ) : FVec Ideal S128x128 .f32 :=
  SD (HQ (RT L 0 (128 * hh)) (RT L 1 (128 * hh)) (CT P (512 + 128 * hh)) (CT P (512 + 128 * hh))).dec
    (HQ (RT L 0 (128 * hh)) (RT L 1 (128 * hh)) (CT P (512 + 128 * hh)) (CT P (512 + 128 * hh))).ko (CT P (1024 + 128 * hh)) (s0 S hh) n

theorem piece1 (Z : ℕ → FVec Ideal S128x128 .f32) (hh : ℕ) (x : S1x128x128.Idx) (y : S4x128x128.Idx)
    (h0 : (y 0).val = hh + (x 0).val) (h1 : (y 1).val = (x 1).val) (h2 : (y 2).val = (x 2).val) :
    shapeCast S1x128x128 (Z hh) shapeCasts_S128x128_S1x128x128 x = Z (y 0).val (ix2 (y 1) (y 2)) := by
  have e0 : (y 0).val = hh := by have : (x 0).val < 1 := (x 0).isLt; omega
  have e : ix2 (y 1) (y 2) = (ix2 (x 1) (x 2) : S128x128.Idx) := by
    funext a; fin_cases a
    · exact Fin.ext h1
    · exact Fin.ext h2
  rw [e0]
  refine Eq.trans ?_ (congrArg (Z hh) e.symm)
  clear h0 h1 h2 e0 e
  idx_vars x
  pointwise
theorem emb1 (hh : ℕ) (i0) (x : S1x128x128.Idx) : (((Rect.unit (s := S4x128x128) ![hh, 0, 0] ![1, 128, 128] i0).emb x) 0).val = hh + (x 0).val
    ∧ (((Rect.unit (s := S4x128x128) ![hh, 0, 0] ![1, 128, 128] i0).emb x) 1).val = (x 1).val
    ∧ (((Rect.unit (s := S4x128x128) ![hh, 0, 0] ![1, 128, 128] i0).emb x) 2).val = (x 2).val :=
  ⟨congrArg (hh + ·) (Nat.one_mul _), (congrArg (0 + ·) (Nat.one_mul _)).trans (Nat.zero_add _), (congrArg (0 + ·) (Nat.one_mul _)).trans (Nat.zero_add _)⟩
theorem in1 (y : S4x128x128.Idx) {hh : ℕ} (e : (y 0).val = hh) (i0) : y ∈ (Rect.unit (s := S4x128x128) ![hh, 0, 0] ![1, 128, 128] i0).set := by
  have h1 : (y 1).val < 128 := (y 1).isLt
  have h2 : (y 2).val < 128 := (y 2).isLt
  refine Rect.mem_set_unit.mpr fun a => ?_
  fin_cases a
  · exact ⟨e.ge, by show (y 0).val < hh + 1; omega⟩
  · exact ⟨Nat.zero_le _, by show (y 1).val < 0 + 128; omega⟩
  · exact ⟨Nat.zero_le _, by show (y 2).val < 0 + 128; omega⟩
theorem canon5 (Z : ℕ → FVec Ideal S128x128 .f32) (i0 i1 i2 i3) {v0 v1 v2 v3 : FVec Ideal S1x128x128 .f32}
    (e3 : v3 = shapeCast S1x128x128 (Z 3) shapeCasts_S128x128_S1x128x128) (e2 : v2 = shapeCast S1x128x128 (Z 2) shapeCasts_S128x128_S1x128x128)
    (e1 : v1 = shapeCast S1x128x128 (Z 1) shapeCasts_S128x128_S1x128x128) (e0 : v0 = shapeCast S1x128x128 (Z 0) shapeCasts_S128x128_S1x128x128)
    (q : View.Piece (Elt Ideal) S4x128x128 .f32) (y : S4x128x128.Idx) :
    View.canon [⟨Rect.unit (s := S4x128x128) ![3, 0, 0] ![1, 128, 128] i3, v3⟩, ⟨Rect.unit (s := S4x128x128) ![2, 0, 0] ![1, 128, 128] i2, v2⟩,
      ⟨Rect.unit (s := S4x128x128) ![1, 0, 0] ![1, 128, 128] i1, v1⟩, ⟨Rect.unit (s := S4x128x128) ![0, 0, 0] ![1, 128, 128] i0, v0⟩, q] y
      = Z (y 0).val (ix2 (y 1) (y 2)) := by
  refine View.canon_append_of_piecesOf (Val := Elt Ideal) (e := .f32) (fun y => Z (y 0).val (ix2 (y 1) (y 2))) [q]
    [⟨Rect.unit (s := S4x128x128) ![3, 0, 0] ![1, 128, 128] i3, v3⟩, ⟨Rect.unit (s := S4x128x128) ![2, 0, 0] ![1, 128, 128] i2, v2⟩,
      ⟨Rect.unit (s := S4x128x128) ![1, 0, 0] ![1, 128, 128] i1, v1⟩, ⟨Rect.unit (s := S4x128x128) ![0, 0, 0] ![1, 128, 128] i0, v0⟩]
    ⟨fun x => ?_, fun x => ?_, fun x => ?_, fun x => ?_, trivial⟩ y ?_
  · exact (congrFun e3 x).trans (piece1 Z 3 x _ (emb1 3 i3 x).1 (emb1 3 i3 x).2.1 (emb1 3 i3 x).2.2)
  · exact (congrFun e2 x).trans (piece1 Z 2 x _ (emb1 2 i2 x).1 (emb1 2 i2 x).2.1 (emb1 2 i2 x).2.2)
  · exact (congrFun e1 x).trans (piece1 Z 1 x _ (emb1 1 i1 x).1 (emb1 1 i1 x).2.1 (emb1 1 i1 x).2.2)
  · exact (congrFun e0 x).trans (piece1 Z 0 x _ (emb1 0 i0 x).1 (emb1 0 i0 x).2.1 (emb1 0 i0 x).2.2)
  · have h0 : (y 0).val < 4 := (y 0).isLt
    rcases (by omega : (y 0).val = 3 ∨ (y 0).val = 2 ∨ (y 0).val = 1 ∨ (y 0).val = 0) with e | e | e | e
    · exact ⟨_, .head _, in1 y e i3⟩
    · exact ⟨_, .tail _ (.head _), in1 y e i2⟩
    · exact ⟨_, .tail _ (.tail _ (.head _)), in1 y e i1⟩
    · exact ⟨_, .tail _ (.tail _ (.tail _ (.head _))), in1 y e i0⟩
theorem piece16 (Z : ℕ → ℕ → FVec Ideal S128x128 .f32) (hh n : ℕ) (x : S1x1x128x128.Idx) (y : S4x16x128x128.Idx)
    (h0 : (y 0).val = hh + (x 0).val) (h3 : (y 1).val = n + (x 1).val) (h1 : (y 2).val = (x 2).val) (h2 : (y 3).val = (x 3).val) :
    shapeCast S1x1x128x128 (Z hh n) shapeCasts_S128x128_S1x1x128x128 x = Z (y 0).val (y 1).val (ix2 (y 2) (y 3)) := by
  have e0 : (y 0).val = hh := by have : (x 0).val < 1 := (x 0).isLt; omega
  have e3 : (y 1).val = n := by have : (x 1).val < 1 := (x 1).isLt; omega
  have e : ix2 (y 2) (y 3) = (ix2 (x 2) (x 3) : S128x128.Idx) := by
    funext a; fin_cases a
    · exact Fin.ext h1
    · exact Fin.ext h2
  rw [e0, e3]
  refine Eq.trans ?_ (congrArg (Z hh n) e.symm)
  clear h0 h1 h2 e0 e e3 h3
  idx_vars x
  pointwise

variable (m : (ℓ : Loc nD τ sig) → Buf (Elt Ideal) ℓ) (c : Dev nD)

/-- The projection's tile. -/
abbrev P9 (t : Fin cfg0.N) : FVec Ideal S512x2048 .f32 :=
  k0_pay9 (iblk m c 0 t) (iblk m c 1 t) (View.ld (iblk m c 2 t) (Rect.unit ![0, 0] ![2048, 1024] inb_S5632x1024_S2048x1024_0_0))
/-- The states a tile finds. -/
def CS (t : Fin cfg0.N) : FVec Ideal S4x128x128 .f32 :=
  if t.val % 8 = 0 then k0_pay5 (F := Ideal) else (outsAt0 m c (t.val - 1) (by omega)).2.2.2.2.2.2.2.2.2.2.2.2

set_option maxHeartbeats 4000000 in
/-- The states a tile leaves, and those it stores. -/
theorem left_at (t : Fin cfg0.N) (y : S4x128x128.Idx) :
    (outsAt0 m c t.val t.isLt).2.2.2.2.2.2.2.2.2.2.2.2 y = SH (P9 m c t) (iblk m c 4 t) (CS m c t) (y 0).val 16 (ix2 (y 1) (y 2)) := by
  unfold CS P9
  by_cases h : t.val % 8 = 0
  · rw [if_pos h, outsAt0_A m c t h]; frame_out
    simp (disch := decide) only [View.readCov_fill]
    simp only [ldH, ldL, read_unread_whole, sc_eq, dec0, dec1, dec2, dec3, ko0, ko1, ko2, ko3, vb0, vb1, vb2, vb3, base0, base1, base2, base3]
    generalize k0_pay9 (F := Ideal) _ _ _ = P
    generalize iblk m c 4 t = L
    generalize k0_pay5 (F := Ideal) = S
    refine canon5 (SH P L S · 16) _ _ _ _ ?_ ?_ ?_ ?_ _ y <;> (unfold SH; rfl)
  · rw [if_neg h, outsAt0_B m c t h]; frame_out
    simp only [ldH, ldL, read_unread_whole, sc_eq, dec0, dec1, dec2, dec3, ko0, ko1, ko2, ko3, vb0, vb1, vb2, vb3, base0, base1, base2, base3]
    generalize k0_pay9 (F := Ideal) _ _ _ = P
    generalize iblk m c 4 t = L
    generalize (outsAt0 m c (t.val - 1) _).2.2.2.2.2.2.2.2.2.2.2.2 = S
    canon_tiles x h
    all_goals first
      | (refine Eq.trans ?_ (piece1 (SH P L S · 16) _ x y h0 h1 h2); unfold SH; rfl)
      | (refine Eq.trans ?_ (piece1 (SH P L S · 16) _ x y (h0.trans (Nat.zero_add _).symm) h1 h2); unfold SH; rfl)

set_option maxHeartbeats 16000000 in
theorem out16_at (t : Fin cfg0.N) (y : S4x16x128x128.Idx) :
    (outsAt0 m c t.val t.isLt).2.2.2.2.2.2.2.2.2.2.1 y = SH (P9 m c t) (iblk m c 4 t) (CS m c t) (y 0).val (y 1).val (ix2 (y 2) (y 3)) := by
  unfold CS P9
  by_cases h : t.val % 8 = 0
  · rw [if_pos h, outsAt0_A m c t h]; frame_out
    simp (disch := decide) only [View.readCov_fill]
    simp only [ldH, ldL, read_unread_whole, sc_eq, dec0, dec1, dec2, dec3, ko0, ko1, ko2, ko3, vb0, vb1, vb2, vb3, base0, base1, base2, base3]
    generalize k0_pay9 (F := Ideal) _ _ _ = P
    generalize iblk m c 4 t = L
    generalize k0_pay5 (F := Ideal) = S
    canon_tiles x h
    all_goals first
      | (refine Eq.trans ?_ (piece16 (SH P L S) _ _ x y h0 h1 h2 h3); unfold SH; rfl)
      | (refine Eq.trans ?_ (piece16 (SH P L S) _ _ x y (h0.trans (Nat.zero_add _).symm) h1 h2 h3); unfold SH; rfl)
      | (refine Eq.trans ?_ (piece16 (SH P L S) _ _ x y h0 (h1.trans (Nat.zero_add _).symm) h2 h3); unfold SH; rfl)
      | (refine Eq.trans ?_ (piece16 (SH P L S) _ _ x y (h0.trans (Nat.zero_add _).symm) (h1.trans (Nat.zero_add _).symm) h2 h3); unfold SH; rfl)
  · rw [if_neg h, outsAt0_B m c t h]; frame_out
    simp only [ldH, ldL, read_unread_whole, sc_eq, dec0, dec1, dec2, dec3, ko0, ko1, ko2, ko3, vb0, vb1, vb2, vb3, base0, base1, base2, base3]
    generalize k0_pay9 (F := Ideal) _ _ _ = P
    generalize iblk m c 4 t = L
    generalize (outsAt0 m c (t.val - 1) _).2.2.2.2.2.2.2.2.2.2.2.2 = S
    canon_tiles x h
    all_goals first
      | (refine Eq.trans ?_ (piece16 (SH P L S) _ _ x y h0 h1 h2 h3); unfold SH; rfl)
      | (refine Eq.trans ?_ (piece16 (SH P L S) _ _ x y (h0.trans (Nat.zero_add _).symm) h1 h2 h3); unfold SH; rfl)
      | (refine Eq.trans ?_ (piece16 (SH P L S) _ _ x y h0 (h1.trans (Nat.zero_add _).symm) h2 h3); unfold SH; rfl)
      | (refine Eq.trans ?_ (piece16 (SH P L S) _ _ x y (h0.trans (Nat.zero_add _).symm) (h1.trans (Nat.zero_add _).symm) h2 h3); unfold SH; rfl)

/-- The lower bounds' argument. -/
abbrev Lo : FVec Ideal S2x512 .f32 := m ((c : Thread nD τ).loc main_arg4)
abbrev Pm : FVec Ideal S4096x2048 .f32 := PH (Hm m c) (W m c)
theorem idx' : ∀ t : Fin cfg0.N, win0_4.index t = ![0, 0] ∧ win0_16.index t = ![0, t.val, 0, 0] :=
  (by decide +kernel : ∀ t : Fin grid0.N, _)
theorem blk4 (t : Fin cfg0.N) (r : Fin 2) (k : Fin 512) : (iblk m c 4 t : FVec Ideal S2x512 .f32) (ix2 r k) = Lo m c (ix2 r k) := by
  show ((cfg0.win 4).blk t).view.read (Elt Ideal) (V m c main_arg4) (ix2 r k) = _
  rw [V_main_arg4]
  blk_ext [idx' t]

theorem coe_of {x : EReal} (h : IsReal x) : x = (x.toReal : EReal) := by
  obtain ⟨r, rfl⟩ := h
  rfl

variable (hP : ∀ i, IsReal (Pm m c i)) (hL : ∀ i, IsReal (Lo m c i))
include hP hL

/-- One head of a tile, from the states before it. -/
theorem head_at (t : Fin cfg0.N) (hh : ℕ) (h4 : hh < 4) (p q : Fin 128) (n : ℕ) (hn : n ≤ 16)
    (hS : CS m c t (ix3 (Fin.ofNat 4 hh) p q) = (ST (AS (Pm m c) (Lo m c) (128 * hh + q.val)) (WS (Pm m c) (Lo m c) (128 * hh + q.val) (128 * hh + p.val)) (t.val * 512) : EReal)) :
    SH (P9 m c t) (iblk m c 4 t) (CS m c t) hh n (ix2 p q)
      = (ST (AS (Pm m c) (Lo m c) (128 * hh + q.val)) (WS (Pm m c) (Lo m c) (128 * hh + q.val) (128 * hh + p.val)) (t.val * 512 + 32 * n) : EReal) := by
  have hpr : ∀ (k : ℕ) (hk : k < 2048) (s : ℕ) (hs : s < 512),
      P9 m c t (ix2 (Fin.ofNat 512 s) (Fin.ofNat 2048 k)) = (zr (Pm m c) k (t.val * 512 + s) : EReal) := fun k hk s hs => by
    refine (ph_at m c t _ _).trans ((coe_of (hP _)).trans (congrArg (fun i => ((Pm m c i).toReal : EReal)) (congrArg (fun r => ix2 r (Fin.ofNat 2048 k)) (Fin.ext ?_))))
    have := row_lt t ⟨s, hs⟩
    show t.val * 512 + s % 512 = (t.val * 512 + s) % 4096
    rw [Nat.mod_eq_of_lt hs, Nat.mod_eq_of_lt this]
  refine SD_coe _ (lw (Lo m c) (128 * hh + q.val)) (fun s => zr (Pm m c) (512 + (128 * hh + q.val)) (t.val * 512 + s)) (sm_pos _ _) (sm_lt _ _) q ?_ ?_ p _
    (fun s => zr (Pm m c) (1024 + (128 * hh + p.val)) (t.val * 512 + s)) ?_ _ (t.val * 512) _ _ ?_ ?_ hS n hn
  · exact soft1_coe _ _ _ _ q ((blk4 m c t _ _).trans (coe_of (hL _))) ((blk4 m c t _ _).trans (coe_of (hL _)))
  · intro s hs
    exact (congrArg (fun k => P9 m c t (ix2 (Fin.ofNat 512 s) (Fin.ofNat 2048 k))) (by show 512 + 128 * hh + q.val = _; ring)).trans (hpr _ (by omega) s hs)
  · intro s hs
    refine (congrArg₂ (fun r k => P9 m c t (ix2 r (Fin.ofNat 2048 k))) (Fin.ext (Nat.mod_eq_of_lt hs).symm) (by show 1024 + 128 * hh + p.val = _; ring)).trans
      (hpr _ (by omega) s hs)
  · intro n
    unfold AS
    rw [sl_add]
    rfl
  · intro s
    rfl

/-- The states every tile finds. -/
theorem found (n : ℕ) : ∀ (hn : n < cfg0.N) (hh : Fin 4) (p q : Fin 128), CS m c ⟨n, hn⟩ (ix3 hh p q)
    = (ST (AS (Pm m c) (Lo m c) (128 * hh.val + q.val)) (WS (Pm m c) (Lo m c) (128 * hh.val + q.val) (128 * hh.val + p.val)) (n * 512) : EReal) := by
  induction n with
  | zero =>
    intro hn hh p q
    unfold CS Cert.Hg.Gate.ST
    rw [if_pos (show (0 : ℕ) % 8 = 0 from rfl)]
    pointwise [k0_pay5]
    simp
  | succ n ih =>
    intro hn hh p q
    have h8 := lt_of_lt_of_eq hn N_0
    have e : (Fin.ofNat 4 hh.val) = hh := Fin.ext (Nat.mod_eq_of_lt hh.isLt)
    unfold CS
    rw [if_neg (by show ¬(n + 1) % 8 = 0; omega)]
    refine (left_at m c ⟨n, by omega⟩ (ix3 hh p q)).trans ?_
    refine (head_at m c hP hL ⟨n, by omega⟩ hh.val hh.isLt p q 16 le_rfl (by rw [e]; exact ih (by omega) hh p q)).trans ?_
    rw [show (n + 1) * 512 = n * 512 + 32 * 16 by ring]

theorem point16 (t : Fin cfg0.N) (y : S4x16x128x128.Idx) :
    (outsAt0 m c t.val t.isLt).2.2.2.2.2.2.2.2.2.2.1 y = SF (Pm m c) (Lo m c) (((cfg0.win 16).blk t).view.emb y) := by
  have e : (Fin.ofNat 4 (y 0).val) = y 0 := Fin.ext (Nat.mod_eq_of_lt (y 0).isLt)
  have h1 : (y 1).val < 16 := (y 1).isLt
  have h2 := found m c hP hL t.val t.isLt (y 0) (y 2) (y 3)
  refine (out16_at m c t y).trans ((head_at m c hP hL t (y 0).val (y 0).isLt (y 2) (y 3) (y 1).val (by omega) (by rw [e]; exact h2)).trans ?_)
  rw [show t.val * 512 + 32 * (y 1).val = 32 * (t.val * 16 + (y 1).val) by ring]
  refine Eq.trans (?_ : _ = SF (Pm m c) (Lo m c) (ix4 (y 0) ⟨t.val * 16 + (y 1).val, by have := lt_of_lt_of_eq t.isLt N_0; omega⟩ (y 2) (y 3))) (congrArg _ ?_)
  · rfl
  · idx_vars y
    blk_ext [idx' t]

theorem final16 : ((dats m 0 c).arrAt 16 cfg0.N : FVec Ideal S4x128x128x128 .f32) = SF (Pm m c) (Lo m c) :=
  (dats m 0 c).arrAt_eq_of_covers 16 _ (by decide +kernel) fun t _ y => by
    blk_simp
    rw [after0_16]
    exact point16 m c hP hL t y

end Cert.Kernel7Ideal.Fi

end
-- ==== Proof.FiStateReference.lean ====
/- The states of the recurrence, as the reference writes them, on the reals. -/
module

public import proofs.«01_k».proof.Proof.Gen.Reference7Ideal.Read
public import proofs.«01_k».proof.Proof.FiGates

@[expose] public section

set_option maxRecDepth 16384

noncomputable section

namespace Cert.Reference7Ideal.FiReference

open Idealize.ShloMosaic Idealize.ShloMosaic.TcCoe Idealize.SL.Sem
open scoped BigOperators
open Cert.Reference7Ideal Cert.Reference7Ideal.Read
open Cert.Hg.Gate (zr lw AS WS SF sl lf fg fg_pos sm sm_pos sm_lt coe_sumR)
open Cert.Finite (IsReal)

theorem coe_of {x : EReal} (h : IsReal x) : x = (x.toReal : EReal) := by
  obtain ⟨r, rfl⟩ := h
  rfl
theorem neg_inf : Ideal.ofBits .f32 0xFF800000#32 = ⊥ := by simp [Ideal.ofBits, Ideal.ieee]

/-- The greater of two rows. -/
theorem max_rows (L : FVec Ideal S2x512 .f32) (j : Fin 512) : val_main_v59 (F := Ideal) L (ix1 j) = max (L (ix2 0 j)) (L (ix2 1 j)) := by
  have h : S2x512.Reduces [0] S512 := ⟨Gen.reducesTo_S2x512_S512_d0.1, Nat.one_pos, Gen.reducesTo_S2x512_S512_d0.2⟩
  unfold val_main_v59
  rw [Host.reduce_eq_fold_single FloatOps.maximumf _ _ Gen.reducesTo_S2x512_S512_d0 h Gen.h_S_]
  have hf : (L ∘ h.lift (ix1 j)) = fun k : Fin 2 => L (ix2 k j) := funext fun k => congrArg L (by funext c; apply Fin.ext; fin_cases c <;> rfl)
  refine (congrArg (fun f => Finset.fold max (Ideal.ofBits .f32 0xFF800000#32) f (Finset.univ : Finset (Fin 2))) hf).trans ?_
  rw [neg_inf]
  simp [Fin.univ_succ, Finset.fold_insert]

variable (L : FVec Ideal S2x512 .f32) (hL : ∀ i, IsReal (L i))
include hL
theorem lb_at (j : Fin 512) : val_main_v71 (F := Ideal) L (ix1 j) = (lw L j.val : EReal) := by
  have e0 := coe_of (hL (ix2 0 j))
  have e1 := coe_of (hL (ix2 1 j))
  have ej : Fin.ofNat 512 j.val = j := Fin.ext (Nat.mod_eq_of_lt j.isLt)
  pointwise [val_main_v71, val_main_v70, val_main_v69, val_main_v68, val_main_v67, val_main_v66, val_main_v65, val_main_v64, val_main_v63, val_main_v62,
    val_main_v61, val_main_v60, val_main_cst_5, val_main_cst_6, max_rows]
  unfold lw
  rw [ej]
  generalize (L (ix2 0 j)).toReal = a at *
  generalize (L (ix2 1 j)).toReal = b at *
  rw [neg_inf, max_eq_right bot_le, Fin.sum_univ_two, e0, e1, show max (a : EReal) (b : EReal) = ((max a b : ℝ) : EReal) from (EReal.coe_strictMono.monotone.map_max).symm,
    ← EReal.coe_sub, ← EReal.coe_sub, Ideal.exp_coe, Ideal.exp_coe, ← EReal.coe_add, Finite.div_coe _ _ (by positivity)]
  rfl

variable (x : FVec Ideal S4096x1024 .f32) (g : FVec Ideal S1x1024 .f32) (w : FVec Ideal S1024x5632 .f32) (P : FVec Ideal S4096x2048 .f32)
  (hp : val_main_v15 (F := Ideal) x g w = P) (hP : ∀ i, IsReal (P i))
include hp hP

theorem col_at (n : ℕ) (i : Fin 4096) (k : Fin 2048) (hk : k.val = n) : val_main_v15 (F := Ideal) x g w (ix2 i k) = (zr P n i.val : EReal) := by
  subst hk
  rw [hp, coe_of (hP _)]
  exact congrArg (fun y => ((P y).toReal : EReal)) (congrArg₂ ix2 (Fin.ext (Nat.mod_eq_of_lt i.isLt).symm) (Fin.ext (Nat.mod_eq_of_lt k.isLt).symm))

/-- The forget gate and its logarithm. -/
theorem f_at (i : Fin 4096) (j : Fin 512) : val_main_v85 (F := Ideal) x g w L (ix2 i j) = (fg (lw L j.val) (zr P (512 + j.val) i.val) : EReal) := by
  have hc := col_at L hL x g w P hp hP (512 + j.val) i ⟨512 + j.val, by omega⟩ rfl
  pointwise [val_main_v85, val_main_v84, val_main_v83, val_main_v82, val_main_v81, val_main_v80, val_main_v79, val_main_v78, val_main_cst_9, val_main_v77,
    val_main_v76, val_main_cst_8, val_main_v75, val_main_v74, val_main_v48, val_main_v73, val_main_v72, val_main_cst_7, lb_at L hL, hc]
  rw [show (1 : EReal) = ((1 : ℝ) : EReal) from rfl, ← EReal.coe_neg, Ideal.exp_coe, ← EReal.coe_add, Finite.div_coe _ _ (by positivity), ← EReal.coe_sub, ← EReal.coe_mul,
    ← EReal.coe_add]
  rfl
theorem lf_at (i : Fin 4096) (j : Fin 512) : val_main_v86 (F := Ideal) x g w L (ix2 i j) = (lf (lw L j.val) (zr P (512 + j.val)) i.val : EReal) := by
  pointwise [val_main_v86, f_at L hL x g w P hp hP i j]
  exact if_neg (not_le.mpr (fg_pos (sm_pos _ _) (sm_lt _ _) _))

omit hL hp hP
theorem bit_one : FloatOps.uitofp (F := Ideal) .f32 (BitVec.ofBool true) = 1 := by
  show (((BitVec.ofBool true).toNat : ℝ) : EReal) = 1
  simp
theorem bit_zero : FloatOps.uitofp (F := Ideal) .f32 (BitVec.ofBool false) = 0 := by
  show (((BitVec.ofBool false).toNat : ℝ) : EReal) = 0
  simp
/-- The two masks. -/
theorem upto_at (r s : Fin 4096) : val_main_v93 (F := Ideal) (ix2 r s) = if s.val < r.val + 1 then 1 else 0 := by
  pointwise [val_main_v93, val_main_v92, val_main_v91, val_main_v90, val_main_v89, val_main_v88, val_main_v87]
  rw [WordCmp.cmpi_sle_ofNat (by omega) (by omega)]
  by_cases h : s.val ≤ r.val
  · rw [if_pos (by omega), decide_eq_true h]; exact bit_one
  · rw [if_neg (by omega), decide_eq_false h]; exact bit_zero
theorem before_at (c : Fin 128) (s : Fin 4096) : val_main_v102 (F := Ideal) (ix2 c s) = if s.val < 32 * c.val then 1 else 0 := by
  pointwise [val_main_v102, val_main_v101, val_main_v100, val_main_v99, val_main_v98, val_main_v97, val_main_v96, val_main_v95, val_main_v94, val_main_v87, val_main_c]
  have e : IntOp.muli 32#32 (BitVec.ofNat 32 c.val) = BitVec.ofNat 32 (32 * c.val) := by
    refine BitVec.eq_of_toNat_eq ?_
    simp [IntOp.muli, BitVec.toNat_mul]
  rw [e, WordCmp.cmpi_slt_ofNat (by omega) (by omega)]
  by_cases h : s.val < 32 * c.val
  · rw [if_pos h, decide_eq_true h]; exact bit_one
  · rw [if_neg h, decide_eq_false h]; exact bit_zero
/-- A sum under such a mask. -/
theorem masked (n : ℕ) (hn : n ≤ 4096) (f : ℕ → ℝ) (u : Fin 4096 → EReal) (hu : ∀ s, u s = (f s.val : EReal)) :
    ∑ s : Fin 4096, (if s.val < n then 1 else 0) * u s = ((∑ s ∈ Finset.range n, f s : ℝ) : EReal) := by
  have e : ∀ s : Fin 4096, (if s.val < n then 1 else 0) * u s = if s.val < n then (f s.val : EReal) else 0 := fun s => by
    rw [hu]; split_ifs <;> simp
  rw [Finset.sum_congr rfl fun s _ => e s, coe_sumR, Fin.sum_univ_eq_sum_range (fun s => if s < n then (f s : EReal) else 0) 4096, ← Finset.sum_filter]
  refine Finset.sum_congr (Finset.ext fun s => ?_) fun _ _ => rfl
  simp only [Finset.mem_filter, Finset.mem_range]
  omega
theorem close (P : FVec Ideal S4096x2048 .f32) (L : FVec Ideal S2x512 .f32) (h : Fin 4) (c p q : Fin 128) (j k : ℕ) (hj : j = 128 * h.val + q.val)
    (hk : k = 128 * h.val + p.val) (u : Fin 4096 → EReal) (hu : ∀ s, u s = (zr P (1024 + k) s.val : EReal)) :
    (∑ s : Fin 4096, (if s.val < 32 * c.val then 1 else 0) *
        (u s * (((1 - fg (lw L j) (zr P (512 + j) s.val)) * Real.exp (-AS P L j (s.val + 1)) : ℝ) : EReal)))
      * (Real.exp (AS P L j (32 * c.val)) : EReal) = SF P L (ix4 h c p q) := by
  rw [masked (32 * c.val) (by omega) (fun s => WS P L j k s * Real.exp (-AS P L j (s + 1))) _
    fun s => by rw [hu, ← EReal.coe_mul]; unfold WS; rw [mul_assoc], ← EReal.coe_mul, mul_comm, hj, hk]
  rfl
include hL hp hP

/-- The keys over the decay to them, and the decay. -/
theorem kb_at (i : Fin 4096) (j : Fin 512) : val_main_v108 (F := Ideal) x g w L (ix2 i j)
    = (((1 - fg (lw L j.val) (zr P (512 + j.val) i.val)) * Real.exp (-AS P L j.val (i.val + 1)) : ℝ) : EReal) := by
  pointwise [val_main_v108, val_main_v107, val_main_v106, val_main_v105, val_main_v104, val_main_v103, val_main_cst_10, f_at L hL x g w P hp hP i j, upto_at]
  rw [masked (i.val + 1) i.isLt _ _ fun s => lf_at L hL x g w P hp hP s j]
  rw [show (1 : EReal) = ((1 : ℝ) : EReal) from rfl, ← EReal.coe_neg, Ideal.exp_coe, ← EReal.coe_sub, ← EReal.coe_mul]
  rfl
theorem decay_at (c : Fin 128) (j : Fin 512) : val_main_v110 (F := Ideal) x g w L (ix2 c j) = (Real.exp (AS P L j.val (32 * c.val)) : EReal) := by
  pointwise [val_main_v110, val_main_v109, before_at]
  rw [masked (32 * c.val) (by omega) _ _ fun s => lf_at L hL x g w P hp hP s j]
  exact Ideal.exp_coe _

/-- Each head's states. -/
theorem st0_at (c p q : Fin 128) : val_main_v124 (F := Ideal) x g w L (ix3 c p q) = SF P L (ix4 0 c p q) := by
  pointwise [val_main_v124, val_main_v123, val_main_v122, val_main_v121, val_main_v120, val_main_v119, val_main_v118, val_main_v117, val_main_v116, val_main_v115, val_main_v114, val_main_v113, val_main_v112, val_main_v111, val_main_v49, before_at,
    decay_at L hL x g w P hp hP, kb_at L hL x g w P hp hP]
  exact close P L 0 c p q q.val p.val (Nat.zero_add _).symm (Nat.zero_add _).symm _ fun s => col_at L hL x g w P hp hP _ s _ rfl
theorem st1_at (c p q : Fin 128) : val_main_v138 (F := Ideal) x g w L (ix3 c p q) = SF P L (ix4 1 c p q) := by
  pointwise [val_main_v138, val_main_v137, val_main_v136, val_main_v135, val_main_v134, val_main_v133, val_main_v132, val_main_v131, val_main_v130, val_main_v129, val_main_v128, val_main_v127, val_main_v126, val_main_v125, val_main_v49, before_at,
    decay_at L hL x g w P hp hP, kb_at L hL x g w P hp hP]
  exact close P L 1 c p q (128 + q.val) (128 + p.val) rfl rfl _ fun s => col_at L hL x g w P hp hP _ s _ rfl
theorem st2_at (c p q : Fin 128) : val_main_v152 (F := Ideal) x g w L (ix3 c p q) = SF P L (ix4 2 c p q) := by
  pointwise [val_main_v152, val_main_v151, val_main_v150, val_main_v149, val_main_v148, val_main_v147, val_main_v146, val_main_v145, val_main_v144, val_main_v143, val_main_v142, val_main_v141, val_main_v140, val_main_v139, val_main_v49, before_at,
    decay_at L hL x g w P hp hP, kb_at L hL x g w P hp hP]
  exact close P L 2 c p q (256 + q.val) (256 + p.val) rfl rfl _ fun s => col_at L hL x g w P hp hP _ s _ rfl
theorem st3_at (c p q : Fin 128) : val_main_v166 (F := Ideal) x g w L (ix3 c p q) = SF P L (ix4 3 c p q) := by
  pointwise [val_main_v166, val_main_v165, val_main_v164, val_main_v163, val_main_v162, val_main_v161, val_main_v160, val_main_v159, val_main_v158, val_main_v157, val_main_v156, val_main_v155, val_main_v154, val_main_v153, val_main_v49, before_at,
    decay_at L hL x g w P hp hP, kb_at L hL x g w P hp hP]
  exact close P L 3 c p q (384 + q.val) (384 + p.val) rfl rfl _ fun s => col_at L hL x g w P hp hP _ s _ rfl
/-- The states before every chunk. -/
theorem st : val_main_v171 (F := Ideal) x g w L = SF P L := by
  funext i
  idx_vars i
  fin_cases i0
  · pointwise [val_main_v171, val_main_v167]
    exact st0_at L hL x g w P hp hP i1 i2 i3
  · pointwise [val_main_v171, val_main_v168]
    exact st1_at L hL x g w P hp hP i1 i2 i3
  · pointwise [val_main_v171, val_main_v169]
    exact st2_at L hL x g w P hp hP i1 i2 i3
  · pointwise [val_main_v171, val_main_v170]
    exact st3_at L hL x g w P hp hP i1 i2 i3

end Cert.Reference7Ideal.FiReference

end
-- ==== Proof.FiClaims.lean ====
/- The claims about the forward kernel of the first half of a layer, up to the states of its recurrence, and its reference. -/
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Pre_finite7
public import proofs.«01_k».proof.Proof.FiStates
public import proofs.«01_k».proof.Proof.LossReference
public import proofs.«01_k».proof.Proof.FiStateReference
public import Idealize.ShloMosaic.Lib.Claim

@[expose] public section

set_option maxRecDepth 16384

noncomputable section

namespace Cert.Reference7Ideal.FiReference

open Idealize.ShloMosaic Idealize.ShloMosaic.TcCoe Idealize.SL.Sem
open scoped BigOperators
open Cert.Reference7Ideal Cert.Reference7Ideal.Read
open Cert.Kernel7Ideal.Fi (PJ PH PC PG UC RB YC OC TC)
open Cert.Kernel4Ideal.Loss (HN TR)
open Cert.KernelIdeal.InValue (RS)
open Cert.Mg (TH ML RW)

variable (x : FVec Ideal S4096x1024 .f32) (g : FVec Ideal S1x1024 .f32) (w : FVec Ideal S1024x5632 .f32) (k : FVec Ideal S3x512 .f32)

/-- The reference's values, entry by entry: the norm, the projection and the convolution's input. -/
theorem rs_at (i : Fin 4096) (j : Fin 1) : val_main_v8 (F := Ideal) x (ix2 i j) = RS x i := by
  pointwise [val_main_v8, val_main_v7, val_main_v6, val_main_v5, val_main_v4, val_main_v3, val_main_v2, val_main_v1, val_main_cst, val_main_cst_0,
    val_main_cst_1, RS]
theorem hn_at (i : Fin 4096) (j : Fin 1024) : val_main_v13 (F := Ideal) x g (ix2 i j) = HN x g (ix2 i j) := by
  pointwise [val_main_v13, val_main_v12, val_main_v11, val_main_v10, val_main_v9, val_main_v0, rs_at, HN]
theorem pj_at (i : Fin 4096) (j : Fin 5632) : val_main_v14 (F := Ideal) x g w (ix2 i j) = PJ (HN x g) w i j := by
  pointwise [val_main_v14, hn_at, PJ]
theorem pc_at (i : Fin 4096) (j : Fin 1536) : val_main_v16 (F := Ideal) x g w (ix2 i j) = PC (HN x g) w (ix2 i j) := by
  pointwise [val_main_v16, pj_at, PC]
/-- The convolution's input and output. -/
abbrev Ur : FVec Ideal S4096x512 .f32 := UC (PC (HN x g) w)
abbrev Yr : FVec Ideal S4096x512 .f32 := YC (Ur x g w) k
theorem u_at (i : Fin 4096) (j : Fin 512) : val_main_v21 (F := Ideal) x g w (ix2 i j) = Ur x g w (ix2 i j) := by
  pointwise [val_main_v21, val_main_v18, val_main_v20, pc_at, UC, ML, TH]
theorem y_at (i : Fin 4096) (j : Fin 512) : val_main_v45 (F := Ideal) x g w k (ix2 i j) = Yr x g w k (ix2 i j) := by
  pointwise [val_main_v45, val_main_v44, val_main_v43, val_main_v42, val_main_v41, val_main_v40, val_main_v39, val_main_v38, val_main_v37, val_main_v36,
    val_main_v35, val_main_v34, val_main_v33, val_main_v32, val_main_v31, val_main_v30, val_main_cst_3, val_main_v29, val_main_v28, val_main_v27,
    val_main_v26, val_main_v25, val_main_v24, val_main_v23, val_main_v22, val_main_cst_2, u_at, YC, RB, RW]
  refine congrArg (· + k (ix2 2 j) * Ur x g w (ix2 i j)) (congrArg₂ (· + ·) (congrArg (k (ix2 0 j) * ·) ?_) (congrArg (k (ix2 1 j) * ·) ?_))
  · by_cases h : i.val < 2
    · exact (dif_pos h).trans (if_neg (by omega)).symm
    · refine (dif_neg h).trans (Eq.trans ?_ ((if_pos (show 2 ≤ i.val by omega)).trans (dif_pos (show i.val - 2 < 4096 by omega))).symm)
      rfl
  · by_cases h : 1 + i.val < 2
    · exact (dif_pos h).trans (if_neg (by omega)).symm
    · refine (dif_neg h).trans (Eq.trans ?_ ((if_pos (show 1 ≤ i.val by omega)).trans (dif_pos (show i.val - 1 < 4096 by omega))).symm)
      exact congrArg (fun q => Ur x g w (ix2 q j)) (Fin.ext (by show 1 + i.val - 2 = i.val - 1; omega))
theorem o_at (i : Fin 4096) (j : Fin 512) : val_main_v46 (F := Ideal) x g w k (ix2 i j) = OC (PC (HN x g) w) (Yr x g w k) (ix2 i j) := by
  pointwise [val_main_v46, val_main_v19, pc_at, y_at, OC, ML, TH]

theorem ht : val_main_v52 (F := Ideal) x g = TR (HN x g) := by
  funext i
  idx_vars i
  pointwise [val_main_v52, val_main_v51, hn_at, TR]
theorem hg : val_main_v15 (F := Ideal) x g w = PH (HN x g) w := by
  funext i
  idx_vars i
  pointwise [val_main_v15, pj_at, PH]
theorem cv : val_main_v53 (F := Ideal) x g w = PC (HN x g) w := by
  funext i
  idx_vars i
  exact pc_at x g w i0 i1
theorem gt : val_main_v54 (F := Ideal) x g w = PG (HN x g) w := by
  funext i
  idx_vars i
  pointwise [val_main_v54, val_main_v17, pj_at, PG]
theorem cvo : val_main_v55 (F := Ideal) x g w k = OC (PC (HN x g) w) (Yr x g w k) := by
  funext i
  idx_vars i
  exact o_at x g w k i0 i1
theorem cvot : val_main_v57 (F := Ideal) x g w k = TC (OC (PC (HN x g) w) (Yr x g w k)) := by
  funext i
  idx_vars i
  pointwise [val_main_v57, val_main_v56, o_at, TC]
theorem cy : val_main_v58 (F := Ideal) x g w k = Yr x g w k := by
  funext i
  idx_vars i
  exact y_at x g w k i0 i1

end Cert.Reference7Ideal.FiReference

namespace Cert.FiClaims

open Idealize.ShloMosaic Idealize.ShloMosaic.TcCoe Idealize.SL.Sem
open Cert.Kernel7Ideal.Fi Cert.Reference7Ideal.Read
open Cert.Finite (IsReal)
open Cert.Reference7Ideal

attribute [local instance] Cert.Kernel7.Gen.facts Cert.Kernel7Ideal.Gen.facts Cert.Reference7Ideal.Gen.facts Cert.Pre_finite7.Gen.facts

instance : Subsingleton Cert.Pre_finite7.S_.Idx := ⟨fun a b => funext fun i => i.elim0⟩

theorem frame_kernel : Cert.quiescent_Kernel7 := fun m ρ _ => Cert.Kernel7.Gen.frame m ρ
theorem frame_ideal_finite : Cert.quiescent_Kernel7Ideal_pre_finite7 := fun m ρ _ => Cert.Kernel7Ideal.Gen.frame m ρ
theorem frame_ideal : Cert.quiescent_Kernel7Ideal := fun m ρ _ => Cert.Kernel7Ideal.Gen.frame m ρ
theorem frame_reference : Cert.quiescent_Reference7Ideal := by
  intro m g _
  hlo_run
  · exact fun _ => ⟨trivial, trivial, trivial, trivial, trivial, trivial⟩
  exact sem_eq_zero_of_no_sems (sig := Cert.Reference7Ideal.sig) (by decide) _

theorem frame_reference_finite : Cert.quiescent_Reference7Ideal_pre_finite7 := fun m g _ => frame_reference m g trivial

/-- The precondition: the inputs, the norm's and the projection's weights and the lower bounds are reals. -/
theorem reals (m : (ℓ : Loc Cert.Kernel7Ideal.nD Cert.Kernel7Ideal.τ Cert.Kernel7Ideal.sig) → Buf (Elt Ideal) ℓ) (h : Cert.Pre_Kernel7Ideal_finite7 m)
    (c : Dev Cert.Kernel7Ideal.nD) : (∀ i, IsReal (X m c i)) ∧ (∀ i, IsReal (G m c i)) ∧ (∀ i, IsReal (W m c i)) ∧ (∀ i, IsReal (Lo m c i)) := by
  have e := congrFun (h c) (ix0)
  simp only [Cert.Pre_finite7.fn, Cert.Pre_finite7.fn_part1] at e
  simp only [andi, Cert.Finite.and_eq_one] at e
  obtain ⟨⟨⟨e0, e1⟩, e2⟩, e3⟩ := e
  exact ⟨Cert.Finite.isReal_of_reduce _ _ _ (fun _ => Cert.Finite.ofBits_inf) _ _ _ e0, Cert.Finite.isReal_of_reduce _ _ _ (fun _ => Cert.Finite.ofBits_inf) _ _ _ e1,
    Cert.Finite.isReal_of_reduce _ _ _ (fun _ => Cert.Finite.ofBits_inf) _ _ _ e2, Cert.Finite.isReal_of_reduce _ _ _ (fun _ => Cert.Finite.ofBits_inf) _ _ _ e3⟩
/-- So the projection's entries are. -/
theorem projection_real (m : (ℓ : Loc Cert.Kernel7Ideal.nD Cert.Kernel7Ideal.τ Cert.Kernel7Ideal.sig) → Buf (Elt Ideal) ℓ) (h : Cert.Pre_Kernel7Ideal_finite7 m)
    (c : Dev Cert.Kernel7Ideal.nD) (i) : IsReal (Pm m c i) := by
  obtain ⟨hx, hg, hw, -⟩ := reals m h c
  exact IsReal.sum fun k => .mul (Cert.Reference4Ideal.LossReference.hn_real _ _ hx hg _) (hw _)

/-- Kernel and reference end with equal results. -/
theorem algebraic : Cert.algebraic_Kernel7Ideal_Reference7Ideal_pre_finite7 := by
  intro m g m' g' hpre hagree
  refine ⟨fun c => Cert.Kernel4Ideal.Loss.TR (Hm m c), fun c => PH (Hm m c) (W m c), fun c => Cm m c, fun c => PG (Hm m c) (W m c), fun c => OC (Cm m c) (Ym m c),
    fun c => TC (OC (Cm m c) (Ym m c)), fun c => Ym m c, fun c => Cert.Hg.Gate.SF (Pm m c) (Lo m c), ?_, ?_⟩
  · refine (θ_run _ _ _).mono (fun r h c => ?_) (Cert.Kernel7Ideal.Value.run_blocks m g)
    obtain ⟨r0, r1, r2, r3, r4, r5, r6, -, -, -, r7, rest⟩ := h c
    exact ⟨r0.trans (final6 m c), r1.trans (final7 m c), r2.trans (final8 m c), r3.trans (final9 m c), r4.trans (final10 m c), r5.trans (final11 m c),
      r6.trans (final12 m c), r7.trans (final16 m c (projection_real m hpre c) (reals m hpre c).2.2.2), rest⟩
  · refine (θ_run _ _ _).mono (fun r h c => ?_) (Cert.Reference7Ideal.Value.run m' g')
    obtain ⟨r0, r1, r2, r3, r4, r5, r6, r7, rest⟩ := h c
    obtain ⟨a0, a1, a2, a3, a4, -⟩ := hagree c
    replace a0 : StableHlo.launchContents m' c (Proc.devRef .tc main_arg0) = X m c := a0
    replace a1 : StableHlo.launchContents m' c (Proc.devRef .tc main_arg1) = G m c := a1
    replace a2 : StableHlo.launchContents m' c (Proc.devRef .tc main_arg2) = W m c := a2
    replace a3 : StableHlo.launchContents m' c (Proc.devRef .tc main_arg3) = K m c := a3
    replace a4 : StableHlo.launchContents m' c (Proc.devRef .tc main_arg4) = Lo m c := a4
    refine ⟨r0.trans ?_, r1.trans ?_, r2.trans ?_, r3.trans ?_, r4.trans ?_, r5.trans ?_, r6.trans ?_, r7.trans ?_, rest⟩
    · rw [val_main_v52_eq, a0, a1]; exact FiReference.ht _ _
    · rw [val_main_v15_eq, a0, a1, a2]; exact FiReference.hg _ _ _
    · rw [val_main_v53_eq, a0, a1, a2]; exact FiReference.cv _ _ _
    · rw [val_main_v54_eq, a0, a1, a2]; exact FiReference.gt _ _ _
    · rw [val_main_v55_eq, a0, a1, a2, a3]; exact FiReference.cvo _ _ _ _
    · rw [val_main_v57_eq, a0, a1, a2, a3]; exact FiReference.cvot _ _ _ _
    · rw [val_main_v58_eq, a0, a1, a2, a3]; exact FiReference.cy _ _ _ _
    · rw [val_main_v171_eq, a0, a1, a2, a4]
      exact FiReference.st (Lo m c) (reals m hpre c).2.2.2 _ _ _ _ (FiReference.hg _ _ _) (projection_real m hpre c)

end Cert.FiClaims

end
-- ==== Proof.WgClaims.lean ====
/- The feed-forward weights' gradients: the kernel's three result arrays after the run, its reference, and the claims. -/
module

public import proofs.«01_k».proof.Defs
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.Wg

open Cert.Kernel8Ideal Cert.Kernel8Ideal.Gen

/-- A weight's gradient, outputs first: the sum over all rows of the products of output's cotangent and input. -/
def GR (d : FVec Ideal S4096x2816 .f32) (a : FVec Ideal S4096x1024 .f32) : FVec Ideal S2816x1024 .f32 := fun i =>
  ∑ t : Fin 4096, d (ix2 t (i 0)) * a (ix2 t (i 1))

variable (m : (ℓ : Loc nD τ sig) → Buf (Elt Ideal) ℓ) (c : Dev nD)

/-- The arguments at the launch's memory. -/
abbrev H : FVec Ideal S4096x1024 .f32 := m ((c : Thread nD τ).loc main_arg0)
abbrev Dg : FVec Ideal S4096x2816 .f32 := m ((c : Thread nD τ).loc main_arg1)
abbrev Du : FVec Ideal S4096x2816 .f32 := m ((c : Thread nD τ).loc main_arg2)
abbrev Ac : FVec Ideal S4096x2816 .f32 := m ((c : Thread nD τ).loc main_arg3)
abbrev Dx : FVec Ideal S4096x1024 .f32 := m ((c : Thread nD τ).loc main_arg4)

/-- Every window's block index, at every grid point. -/
theorem idx : ∀ t : Fin cfg0.N, win0_0.index t = ![0, 0] ∧ win0_1.index t = ![0, 0] ∧ win0_2.index t = ![0, t.val] ∧ win0_3.index t = ![0, t.val]
    ∧ win0_4.index t = ![0, t.val] ∧ win0_5.index t = ![t.val, 0] ∧ win0_6.index t = ![t.val, 0] ∧ win0_7.index t = ![t.val, 0] :=
  (by decide +kernel : ∀ t : Fin grid0.N, _)

/-- The columns of point `t`'s block. -/
theorem col_lt (t : Fin cfg0.N) (x : Fin 256) : t.val * 256 + x.val < 2816 := by
  have := lt_of_lt_of_eq t.isLt N_0
  omega
abbrev col (t : Fin cfg0.N) (x : Fin 256) : Fin 2816 := ⟨t.val * 256 + x.val, col_lt t x⟩

/-- What the host lines before the region leave in the operands' arrays. -/
theorem V_h (p : Fin 1024) (q : Fin 4096) : (V m c main_v1 : FVec Ideal S1024x4096 .bf16) (ix2 p q) = H m c (ix2 q p) := by
  unfold_abbrev_sides
  after_results
  pointwise
theorem V_dx (p : Fin 1024) (q : Fin 4096) : (V m c main_v5 : FVec Ideal S1024x4096 .bf16) (ix2 p q) = Dx m c (ix2 q p) := by
  unfold_abbrev_sides
  after_results
  pointwise
theorem V_dg : (V m c main_v2 : FVec Ideal S4096x2816 .bf16) = Dg m c := by
  unfold_abbrev_sides
  after_results
  rfl
theorem V_du : (V m c main_v3 : FVec Ideal S4096x2816 .bf16) = Du m c := by
  unfold_abbrev_sides
  after_results
  rfl
theorem V_ac : (V m c main_v6 : FVec Ideal S4096x2816 .bf16) = Ac m c := by
  unfold_abbrev_sides
  after_results
  rfl

/-- The staged blocks, entry by entry. -/
theorem blk0 (t : Fin cfg0.N) (p : Fin 1024) (q : Fin 4096) : (iblk m c 0 t : FVec Ideal S1024x4096 .bf16) (ix2 p q) = H m c (ix2 q p) := by
  rw [← V_h]
  show ((cfg0.win 0).blk t).view.read (Elt Ideal) (V m c main_v1) (ix2 p q) = _
  generalize V m c main_v1 = w
  blk_ext [idx t]
theorem blk1 (t : Fin cfg0.N) (p : Fin 1024) (q : Fin 4096) : (iblk m c 1 t : FVec Ideal S1024x4096 .bf16) (ix2 p q) = Dx m c (ix2 q p) := by
  rw [← V_dx]
  show ((cfg0.win 1).blk t).view.read (Elt Ideal) (V m c main_v5) (ix2 p q) = _
  generalize V m c main_v5 = w
  blk_ext [idx t]
theorem blk2 (t : Fin cfg0.N) (r : Fin 4096) (k : Fin 256) : (iblk m c 2 t : FVec Ideal S4096x256 .bf16) (ix2 r k) = Dg m c (ix2 r (col t k)) := by
  show ((cfg0.win 2).blk t).view.read (Elt Ideal) (V m c main_v2) (ix2 r k) = _
  rw [V_dg]
  blk_ext [idx t]
theorem blk3 (t : Fin cfg0.N) (r : Fin 4096) (k : Fin 256) : (iblk m c 3 t : FVec Ideal S4096x256 .bf16) (ix2 r k) = Du m c (ix2 r (col t k)) := by
  show ((cfg0.win 3).blk t).view.read (Elt Ideal) (V m c main_v3) (ix2 r k) = _
  rw [V_du]
  blk_ext [idx t]
theorem blk4 (t : Fin cfg0.N) (r : Fin 4096) (k : Fin 256) : (iblk m c 4 t : FVec Ideal S4096x256 .bf16) (ix2 r k) = Ac m c (ix2 r (col t k)) := by
  show ((cfg0.win 4).blk t).view.read (Elt Ideal) (V m c main_v6) (ix2 r k) = _
  rw [V_ac]
  blk_ext [idx t]

/-- One point's product. -/
theorem pay_at (A : FVec Ideal S1024x4096 .bf16) (B : FVec Ideal S4096x256 .bf16) (a : FVec Ideal S4096x1024 .f32) (d : FVec Ideal S4096x2816 .f32) (t : Fin cfg0.N)
    (hA : ∀ p q, A (ix2 p q) = a (ix2 q p)) (hB : ∀ r k, B (ix2 r k) = d (ix2 r (col t k))) (y : Fin 256) (z : Fin 1024) :
    k0_pay2 (F := Ideal) A B (ix2 y z) = GR d a (ix2 (col t y) z) := by
  pointwise [k0_pay2, k0_pay1, GR, hA, hB]
  exact Finset.sum_congr rfl fun k _ => mul_comm _ _

/-- The result arrays after the run. -/
theorem final5 : (dats m 0 c).arrAt 5 (cfgs 0).N = GR (Dg m c) (H m c) := by
  refine (dats m 0 c).arrAt_eq_of_covers 5 _ (by decide +kernel) fun t _ y => ?_
  blk_simp
  rw [after0_5]
  idx_vars y
  frame_out
  refine (pay_at _ _ _ _ t (blk0 m c t) (blk2 m c t) y0 y1).trans (congrArg _ ?_)
  blk_ext [idx t]
theorem final6 : (dats m 0 c).arrAt 6 (cfgs 0).N = GR (Du m c) (H m c) := by
  refine (dats m 0 c).arrAt_eq_of_covers 6 _ (by decide +kernel) fun t _ y => ?_
  blk_simp
  rw [after0_6]
  idx_vars y
  frame_out
  refine (pay_at _ _ _ _ t (blk0 m c t) (blk3 m c t) y0 y1).trans (congrArg _ ?_)
  blk_ext [idx t]
theorem final7 : (dats m 0 c).arrAt 7 (cfgs 0).N = GR (Ac m c) (Dx m c) := by
  refine (dats m 0 c).arrAt_eq_of_covers 7 _ (by decide +kernel) fun t _ y => ?_
  blk_simp
  rw [after0_7]
  idx_vars y
  frame_out
  refine (pay_at _ _ _ _ t (blk1 m c t) (blk4 m c t) y0 y1).trans (congrArg _ ?_)
  blk_ext [idx t]

end Cert.Kernel8Ideal.Wg

namespace Cert.WgClaims

open Cert.Kernel8Ideal.Wg Cert.Reference8Ideal.Read
open Cert.Reference8Ideal

attribute [local instance] Cert.Kernel8.Gen.facts Cert.Kernel8Ideal.Gen.facts Cert.Reference8Ideal.Gen.facts

/-- The reference's products. -/
theorem gate (h : FVec Ideal S4096x1024 .f32) (d : FVec Ideal S4096x2816 .f32) : val_main_v2 (F := Ideal) h d = GR d h := by
  funext i
  idx_vars i
  pointwise [val_main_v2, val_main_v1, val_main_v0, GR]
theorem up (h : FVec Ideal S4096x1024 .f32) (d : FVec Ideal S4096x2816 .f32) : val_main_v5 (F := Ideal) h d = GR d h := gate h d
theorem down (d : FVec Ideal S4096x2816 .f32) (h : FVec Ideal S4096x1024 .f32) : val_main_v8 (F := Ideal) d h = GR d h := gate h d

theorem frame_kernel : Cert.quiescent_Kernel8 := fun m ρ _ => Cert.Kernel8.Gen.frame m ρ
theorem frame_ideal : Cert.quiescent_Kernel8Ideal := fun m ρ _ => Cert.Kernel8Ideal.Gen.frame m ρ
theorem frame_reference : Cert.quiescent_Reference8Ideal := by
  intro m g _
  hlo_run
  · exact fun _ => ⟨trivial, trivial, trivial, trivial, trivial⟩
  exact sem_eq_zero_of_no_sems (sig := Cert.Reference8Ideal.sig) (by decide) _

/-- Kernel and reference end with equal results. -/
theorem algebraic : Cert.algebraic_Kernel8Ideal_Reference8Ideal := by
  intro m g m' g' hpre hagree
  refine ⟨fun c => GR (Dg m c) (H m c), fun c => GR (Du m c) (H m c), fun c => GR (Ac m c) (Dx m c), ?_, ?_⟩
  · refine (θ_run _ _ _).mono (fun r h c => ?_) (Cert.Kernel8Ideal.Value.run_blocks m g)
    obtain ⟨r0, r1, r2, rest⟩ := h c
    exact ⟨r0.trans (final5 m c), r1.trans (final6 m c), r2.trans (final7 m c), rest⟩
  · refine (θ_run _ _ _).mono (fun r h c => ?_) (Cert.Reference8Ideal.Value.run m' g')
    obtain ⟨r0, r1, r2, rest⟩ := h c
    obtain ⟨a0, a1, a2, a3, a4⟩ := hagree c
    refine ⟨r0.trans ?_, r1.trans ?_, r2.trans ?_, rest⟩
    · rw [val_main_v2_eq, a0, a1]; exact gate _ _
    · rw [val_main_v5_eq, a0, a2]; exact up _ _
    · rw [val_main_v8_eq, a3, a4]; exact down _ _

end Cert.WgClaims

end
-- ==== Proof.WiClaims.lean ====
/- The input projection's weights' gradient and the two updates that ride along: the kernel's nine result arrays after the run,
   its reference, and the claims. -/
module

public import proofs.«01_k».proof.Defs
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel9Ideal.Wi

open Cert.Kernel9Ideal Cert.Kernel9Ideal.Gen

/-- The gradient of one part of the projection, outputs first. -/
def GR {n : ℕ} (d : FVec Ideal ⟨2, ![4096, n]⟩ .f32) (h : FVec Ideal S4096x1024 .f32) (r : Fin n) (k : Fin 1024) : EReal :=
  ∑ t : Fin 4096, d (ix2 t r) * h (ix2 t k)

/-- The three parts' gradients, one below the other. -/
def GI (h : FVec Ideal S4096x1024 .f32) (dh : FVec Ideal S4096x2048 .f32) (dc : FVec Ideal S4096x1536 .f32) (dg : FVec Ideal S4096x2048 .f32) :
    FVec Ideal S5632x1024 .bf16 := fun i =>
  if h0 : (i 0).val < 2048 then GR dh h ⟨(i 0).val, h0⟩ (i 1)
  else if h1 : (i 0).val - 2048 < 1536 then GR dc h ⟨(i 0).val - 2048, h1⟩ (i 1)
  else GR dg h ⟨(i 0).val - 2048 - 1536, by have := (i 0).isLt; change (i 0).val < 5632 at this; omega⟩ (i 1)

/-- The sum of a gradient's four parts. -/
def SG (p : FVec Ideal S4x352x1024 .f32) : FVec Ideal S352x1024 .f32 := fun i =>
  p (ix3 0 (i 0) (i 1)) + p (ix3 1 (i 0) (i 1)) + p (ix3 2 (i 0) (i 1)) + p (ix3 3 (i 0) (i 1))

/-- A constant over the whole array. -/
abbrev K (b : BitVec 32) : FVec Ideal S352x1024 .f32 := broadcast S352x1024 (Scalar.ofBits .f32 b)

/-- AdamW's running mean, running square and step. -/
def MO (p : FVec Ideal S4x352x1024 .f32) (μ : FVec Ideal S352x1024 .f32) : FVec Ideal S352x1024 .f32 :=
  addf (mulf (K 0x3F666666#32) μ) (mulf (K 0x3DCCCCCD#32) (SG p))
def VO (p : FVec Ideal S4x352x1024 .f32) (ν : FVec Ideal S352x1024 .f32) : FVec Ideal S352x1024 .f32 :=
  addf (mulf (K 0x3F7FBE77#32) ν) (mulf (K 0x3A83126F#32) (mulf (SG p) (SG p)))
def DO (w : FVec Ideal S352x1024 .f32) (p : FVec Ideal S4x352x1024 .f32) (μ ν : FVec Ideal S352x1024 .f32) : FVec Ideal S352x1024 .f32 :=
  mulf (K 0xBA83126F#32) (addf (divf (divf (MO p μ) (K 0x3F26BD02#32)) (addf (sqrt (divf (VO p ν) (K 0x3C231ACC#32))) (K 0x322BCC77#32)))
    (mulf (K 0x3C23D70A#32) w))

variable (m : (ℓ : Loc nD τ sig) → Buf (Elt Ideal) ℓ) (c : Dev nD)

/-- The arguments at the launch's memory. -/
abbrev H : FVec Ideal S4096x1024 .f32 := m ((c : Thread nD τ).loc main_arg0)
abbrev Dh : FVec Ideal S4096x2048 .f32 := m ((c : Thread nD τ).loc main_arg1)
abbrev Dc : FVec Ideal S4096x1536 .f32 := m ((c : Thread nD τ).loc main_arg2)
abbrev Dg : FVec Ideal S4096x2048 .f32 := m ((c : Thread nD τ).loc main_arg3)
abbrev W1 : FVec Ideal S352x1024 .f32 := m ((c : Thread nD τ).loc main_arg4)
abbrev P1 : FVec Ideal S4x352x1024 .f32 := m ((c : Thread nD τ).loc main_arg5)
abbrev M1 : FVec Ideal S352x1024 .f32 := m ((c : Thread nD τ).loc main_arg6)
abbrev V1 : FVec Ideal S352x1024 .f32 := m ((c : Thread nD τ).loc main_arg7)
abbrev W2 : FVec Ideal S352x1024 .f32 := m ((c : Thread nD τ).loc main_arg8)
abbrev P2 : FVec Ideal S4x352x1024 .f32 := m ((c : Thread nD τ).loc main_arg9)
abbrev M2 : FVec Ideal S352x1024 .f32 := m ((c : Thread nD τ).loc main_arg10)
abbrev V2 : FVec Ideal S352x1024 .f32 := m ((c : Thread nD τ).loc main_arg11)

/-- Every window's block index, at every grid point. -/
theorem idx : ∀ t : Fin cfg0.N, win0_0.index t = ![0, 0] ∧ win0_1.index t = ![0, min t.val 3] ∧ win0_2.index t = ![0, min (t.val - 4) 2]
    ∧ win0_3.index t = ![0, min (t.val - 7) 3] ∧ win0_4.index t = ![t.val, 0] ∧ win0_5.index t = ![0, t.val, 0] ∧ win0_6.index t = ![t.val, 0]
    ∧ win0_7.index t = ![t.val, 0] ∧ win0_8.index t = ![t.val, 0] ∧ win0_9.index t = ![0, t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] ∧ win0_20.index t = ![t.val, 0] :=
  (by decide +kernel : ∀ t : Fin grid0.N, _)

theorem lt11 (t : Fin cfg0.N) : t.val < 11 := lt_of_lt_of_eq t.isLt N_0

/-- The rows of point `t`'s blocks. -/
abbrev row (t : Fin cfg0.N) (x : Fin 32) : Fin 352 := ⟨t.val * 32 + x.val, by have := lt11 t; omega⟩
abbrev grow (t : Fin cfg0.N) (x : Fin 512) : Fin 5632 := ⟨t.val * 512 + x.val, by have := lt11 t; omega⟩

/-- The three kinds of grid points. -/
theorem kinds (t : Fin cfg0.N) : (t.val < 4 ∧ ¬(4 ≤ t.val % 11 ∧ t.val % 11 ≤ 6) ∧ ¬7 ≤ t.val) ∨ (¬t.val < 4 ∧ (4 ≤ t.val % 11 ∧ t.val % 11 ≤ 6) ∧ ¬7 ≤ t.val)
    ∨ (¬t.val < 4 ∧ ¬(4 ≤ t.val % 11 ∧ t.val % 11 ≤ 6) ∧ 7 ≤ t.val) := by
  have := lt11 t
  omega

/-- What the host lines before the region leave in the operands' arrays. -/
theorem V_h (p : Fin 1024) (q : Fin 4096) : (V m c main_v1 : FVec Ideal S1024x4096 .bf16) (ix2 p q) = H m c (ix2 q p) := by
  unfold_abbrev_sides
  after_results
  pointwise
theorem V_dh : (V m c main_v2 : FVec Ideal S4096x2048 .bf16) = Dh m c := by
  unfold_abbrev_sides
  after_results
  rfl
theorem V_dc : (V m c main_v3 : FVec Ideal S4096x1536 .bf16) = Dc m c := by
  unfold_abbrev_sides
  after_results
  rfl
theorem V_dg : (V m c main_v4 : FVec Ideal S4096x2048 .bf16) = Dg m c := by
  unfold_abbrev_sides
  after_results
  rfl
theorem V_p1 : (V m c main_v5 : FVec Ideal S4x352x1024 .bf16) = P1 m c := by
  unfold_abbrev_sides
  after_results
  rfl
theorem V_p2 : (V m c main_v6 : FVec Ideal S4x352x1024 .bf16) = P2 m c := by
  unfold_abbrev_sides
  after_results
  rfl

/-- The staged blocks, entry by entry. -/
theorem blk0 (t : Fin cfg0.N) (p : Fin 1024) (q : Fin 4096) : (iblk m c 0 t : FVec Ideal S1024x4096 .bf16) (ix2 p q) = H m c (ix2 q p) := by
  rw [← V_h]
  show ((cfg0.win 0).blk t).view.read (Elt Ideal) (V m c main_v1) (ix2 p q) = _
  generalize V m c main_v1 = w
  blk_ext [idx t]
theorem blk1 (t : Fin cfg0.N) (r : Fin 4096) (k : Fin 512) :
    (iblk m c 1 t : FVec Ideal S4096x512 .bf16) (ix2 r k) = Dh m c (ix2 r ⟨min t.val 3 * 512 + k.val, by omega⟩) := by
  show ((cfg0.win 1).blk t).view.read (Elt Ideal) (V m c main_v2) (ix2 r k) = _
  rw [V_dh]
  blk_ext [idx t]
theorem blk2 (t : Fin cfg0.N) (r : Fin 4096) (k : Fin 512) :
    (iblk m c 2 t : FVec Ideal S4096x512 .bf16) (ix2 r k) = Dc m c (ix2 r ⟨min (t.val - 4) 2 * 512 + k.val, by omega⟩) := by
  show ((cfg0.win 2).blk t).view.read (Elt Ideal) (V m c main_v3) (ix2 r k) = _
  rw [V_dc]
  blk_ext [idx t]
theorem blk3 (t : Fin cfg0.N) (r : Fin 4096) (k : Fin 512) :
    (iblk m c 3 t : FVec Ideal S4096x512 .bf16) (ix2 r k) = Dg m c (ix2 r ⟨min (t.val - 7) 3 * 512 + k.val, by omega⟩) := by
  show ((cfg0.win 3).blk t).view.read (Elt Ideal) (V m c main_v4) (ix2 r k) = _
  rw [V_dg]
  blk_ext [idx t]
theorem blk4 (t : Fin cfg0.N) (y : Fin 32) (z : Fin 1024) : (iblk m c 4 t : FVec Ideal S32x1024 .f32) (ix2 y z) = W1 m c (ix2 (row t y) z) := by
  show ((cfg0.win 4).blk t).view.read (Elt Ideal) (V m c main_arg4) (ix2 y z) = _
  rw [V_main_arg4]
  blk_ext [idx t]
theorem blk6 (t : Fin cfg0.N) (y : Fin 32) (z : Fin 1024) : (iblk m c 6 t : FVec Ideal S32x1024 .f32) (ix2 y z) = M1 m c (ix2 (row t y) z) := by
  show ((cfg0.win 6).blk t).view.read (Elt Ideal) (V m c main_arg6) (ix2 y z) = _
  rw [V_main_arg6]
  blk_ext [idx t]
theorem blk7 (t : Fin cfg0.N) (y : Fin 32) (z : Fin 1024) : (iblk m c 7 t : FVec Ideal S32x1024 .f32) (ix2 y z) = V1 m c (ix2 (row t y) z) := by
  show ((cfg0.win 7).blk t).view.read (Elt Ideal) (V m c main_arg7) (ix2 y z) = _
  rw [V_main_arg7]
  blk_ext [idx t]
theorem blk8 (t : Fin cfg0.N) (y : Fin 32) (z : Fin 1024) : (iblk m c 8 t : FVec Ideal S32x1024 .f32) (ix2 y z) = W2 m c (ix2 (row t y) z) := by
  show ((cfg0.win 8).blk t).view.read (Elt Ideal) (V m c main_arg8) (ix2 y z) = _
  rw [V_main_arg8]
  blk_ext [idx t]
theorem blk10 (t : Fin cfg0.N) (y : Fin 32) (z : Fin 1024) : (iblk m c 10 t : FVec Ideal S32x1024 .f32) (ix2 y z) = M2 m c (ix2 (row t y) z) := by
  show ((cfg0.win 10).blk t).view.read (Elt Ideal) (V m c main_arg10) (ix2 y z) = _
  rw [V_main_arg10]
  blk_ext [idx t]
theorem blk11 (t : Fin cfg0.N) (y : Fin 32) (z : Fin 1024) : (iblk m c 11 t : FVec Ideal S32x1024 .f32) (ix2 y z) = V2 m c (ix2 (row t y) z) := by
  show ((cfg0.win 11).blk t).view.read (Elt Ideal) (V m c main_arg11) (ix2 y z) = _
  rw [V_main_arg11]
  blk_ext [idx t]
theorem blk5 (t : Fin cfg0.N) (k : Fin 4) (y : Fin 32) (z : Fin 1024) : (iblk m c 5 t : FVec Ideal S4x32x1024 .bf16) (ix3 k y z) = P1 m c (ix3 k (row t y) z) := by
  show ((cfg0.win 5).blk t).view.read (Elt Ideal) (V m c main_v5) (ix3 k y z) = _
  rw [V_p1]
  blk_ext [idx t]
theorem blk9 (t : Fin cfg0.N) (k : Fin 4) (y : Fin 32) (z : Fin 1024) : (iblk m c 9 t : FVec Ideal S4x32x1024 .bf16) (ix3 k y z) = P2 m c (ix3 k (row t y) z) := by
  show ((cfg0.win 9).blk t).view.read (Elt Ideal) (V m c main_v6) (ix3 k y z) = _
  rw [V_p2]
  blk_ext [idx t]

/-- The four parts a point loads are the four slabs of its block. -/
def Parts (t : Fin cfg0.N) (a b d e : Vec Ideal S1x32x1024 .bf16) (p : FVec Ideal S4x352x1024 .f32) : Prop :=
  (∀ y z, (a : FVec Ideal S1x32x1024 .bf16) (ix3 0 y z) = p (ix3 0 (row t y) z)) ∧ (∀ y z, (b : FVec Ideal S1x32x1024 .bf16) (ix3 0 y z) = p (ix3 1 (row t y) z))
  ∧ (∀ y z, (d : FVec Ideal S1x32x1024 .bf16) (ix3 0 y z) = p (ix3 2 (row t y) z)) ∧ (∀ y z, (e : FVec Ideal S1x32x1024 .bf16) (ix3 0 y z) = p (ix3 3 (row t y) z))
theorem ld5 (t : Fin cfg0.N) : Parts t (View.ld (iblk m c 5 t) (Rect.unit ![0, 0, 0] ![1, 32, 1024] inb_S4x32x1024_S1x32x1024_0_0_0))
      (View.ld (iblk m c 5 t) (Rect.unit ![1, 0, 0] ![1, 32, 1024] inb_S4x32x1024_S1x32x1024_1_0_0))
      (View.ld (iblk m c 5 t) (Rect.unit ![2, 0, 0] ![1, 32, 1024] inb_S4x32x1024_S1x32x1024_2_0_0))
      (View.ld (iblk m c 5 t) (Rect.unit ![3, 0, 0] ![1, 32, 1024] inb_S4x32x1024_S1x32x1024_3_0_0)) (P1 m c) := by
  refine ⟨?_, ?_, ?_, ?_⟩ <;> intro y z
  all_goals
    refine Eq.trans ?_ (blk5 m c t _ y z)
    pointwise
theorem ld9 (t : Fin cfg0.N) : Parts t (View.ld (iblk m c 9 t) (Rect.unit ![0, 0, 0] ![1, 32, 1024] inb_S4x32x1024_S1x32x1024_0_0_0))
      (View.ld (iblk m c 9 t) (Rect.unit ![1, 0, 0] ![1, 32, 1024] inb_S4x32x1024_S1x32x1024_1_0_0))
      (View.ld (iblk m c 9 t) (Rect.unit ![2, 0, 0] ![1, 32, 1024] inb_S4x32x1024_S1x32x1024_2_0_0))
      (View.ld (iblk m c 9 t) (Rect.unit ![3, 0, 0] ![1, 32, 1024] inb_S4x32x1024_S1x32x1024_3_0_0)) (P2 m c) := by
  refine ⟨?_, ?_, ?_, ?_⟩ <;> intro y z
  all_goals
    refine Eq.trans ?_ (blk9 m c t _ y z)
    pointwise
section
variable (t : Fin cfg0.N) (a b d e : Vec Ideal S1x32x1024 .bf16) (p : FVec Ideal S4x352x1024 .f32) (hp : Parts t a b d e p)
  (W M N : FVec Ideal S32x1024 .f32) (w μ ν : FVec Ideal S352x1024 .f32) (hW : ∀ y z, W (ix2 y z) = w (ix2 (row t y) z))
  (hM : ∀ y z, M (ix2 y z) = μ (ix2 (row t y) z)) (hN : ∀ y z, N (ix2 y z) = ν (ix2 (row t y) z)) (y : Fin 32) (z : Fin 1024)
include hp
theorem g_at : k0_pay5 a b d e (ix2 y z) = SG p (ix2 (row t y) z) := by
  obtain ⟨ha, hb, hd, he⟩ := hp
  pointwise [k0_pay5, SG, ha, hb, hd, he]
include hM in
theorem m_at : k0_pay6 (k0_pay5 a b d e) M (ix2 y z) = MO p μ (ix2 (row t y) z) := by
  have hg := g_at t a b d e p hp
  generalize k0_pay5 a b d e = g at hg ⊢
  pointwise [k0_pay6, MO, hg, hM]
include hN in
theorem v_at : k0_pay7 (k0_pay5 a b d e) N (ix2 y z) = VO p ν (ix2 (row t y) z) := by
  have hg := g_at t a b d e p hp
  generalize k0_pay5 a b d e = g at hg ⊢
  pointwise [k0_pay7, VO, hg, hN]
include hW hM hN in
theorem d_at : k0_pay8 (k0_pay5 a b d e) W M N (ix2 y z) = DO w p μ ν (ix2 (row t y) z) := by
  have hm := m_at t a b d e p hp M μ hM
  have hv := v_at t a b d e p hp N ν hN
  generalize k0_pay5 a b d e = g at hm hv ⊢
  pointwise [k0_pay8, DO, hm, hv, hW]
end

/-- The second update's values are formed as the first's. -/
theorem g2 (a b d e : Vec Ideal S1x32x1024 .bf16) : k0_pay10 (k0_pay9 a) b d e = k0_pay5 a b d e := by
  unfold k0_pay10 k0_pay9 k0_pay5; rfl
theorem m2 (a b d e : Vec Ideal S1x32x1024 .bf16) (M : Vec Ideal S32x1024 .f32) : k0_pay11 (k0_pay9 a) b d e M = k0_pay6 (k0_pay5 a b d e) M := by
  unfold k0_pay11 k0_pay6; rw [g2]
theorem v2 (a b d e : Vec Ideal S1x32x1024 .bf16) (N : Vec Ideal S32x1024 .f32) : k0_pay12 (k0_pay9 a) b d e N = k0_pay7 (k0_pay5 a b d e) N := by
  unfold k0_pay12 k0_pay7; rw [g2]
theorem d2 (a b d e : Vec Ideal S1x32x1024 .bf16) (W M N : Vec Ideal S32x1024 .f32) :
    k0_pay1 (k0_pay13 (k0_pay9 a) b d e W M N) (FloatOps.ofBits .f32 0xBA83126F#32) = k0_pay8 (k0_pay5 a b d e) W M N := by
  unfold k0_pay1 k0_pay13 k0_pay8; rw [m2, v2]

/-- One point's product. -/
theorem pay_at {n : ℕ} (A : FVec Ideal S1024x4096 .bf16) (B : FVec Ideal S4096x512 .bf16) (a : FVec Ideal S4096x1024 .f32) (d : FVec Ideal ⟨2, ![4096, n]⟩ .f32)
    (k : Fin n) (y : Fin 512) (hA : ∀ p q, A (ix2 p q) = a (ix2 q p)) (hB : ∀ r, B (ix2 r y) = d (ix2 r k)) (z : Fin 1024) :
    k0_pay2 (F := Ideal) A B (ix2 y z) = GR d a k z := by
  pointwise [k0_pay2, GR, hA, hB]
  exact Finset.sum_congr rfl fun k _ => mul_comm _ _

/-- What a grid point leaves in the gradient's block. -/
theorem point12 (t : Fin cfg0.N) (y : Fin 512) (z : Fin 1024) : (outsAt0 m c t.val t.isLt).1 (ix2 y z) = GI (H m c) (Dh m c) (Dc m c) (Dg m c) (ix2 (grow t y) z) := by
  have h11 := lt11 t
  rcases kinds t with ⟨h0, h1, h2⟩ | ⟨h0, h1, h2⟩ | ⟨h0, h1, h2⟩
  · rw [outsAt0_A m c t h0 h1 h2]; frame_out
    have e : t.val * 512 + y.val < 2048 := by omega
    refine Eq.trans ?_ (dif_pos e).symm
    refine pay_at _ _ _ _ ⟨t.val * 512 + y.val, e⟩ y (blk0 m c t) (fun r => (blk1 m c t r y).trans ?_) z
    congr 3
    omega
  · rw [outsAt0_B m c t h0 h1 h2]; frame_out
    have e : ¬t.val * 512 + y.val < 2048 := by omega
    have e' : t.val * 512 + y.val - 2048 < 1536 := by omega
    refine Eq.trans ?_ ((dif_neg e).trans (dif_pos e')).symm
    refine pay_at _ _ _ _ ⟨t.val * 512 + y.val - 2048, e'⟩ y (blk0 m c t) (fun r => (blk2 m c t r y).trans ?_) z
    congr 3
    omega
  · rw [outsAt0_C m c t h0 h1 h2]; frame_out
    have e : ¬t.val * 512 + y.val < 2048 := by omega
    have e' : ¬t.val * 512 + y.val - 2048 < 1536 := by omega
    refine Eq.trans ?_ ((dif_neg e).trans (dif_neg e')).symm
    refine pay_at _ _ _ _ ⟨t.val * 512 + y.val - 2048 - 1536, by omega⟩ y (blk0 m c t) (fun r => (blk3 m c t r y).trans ?_) z
    congr 3
    omega

/-- What a grid point leaves in the two updates' blocks. -/
theorem point13 (t : Fin cfg0.N) (y : Fin 32) (z : Fin 1024) : (outsAt0 m c t.val t.isLt).2.1 (ix2 y z) = SG (P1 m c) (ix2 (row t y) z) := by
  have key := g_at t _ _ _ _ _ (ld5 m c t) y z
  rcases kinds t with ⟨h0, h1, h2⟩ | ⟨h0, h1, h2⟩ | ⟨h0, h1, h2⟩
  · rw [outsAt0_A m c t h0 h1 h2]; frame_out; exact key
  · rw [outsAt0_B m c t h0 h1 h2]; frame_out; exact key
  · rw [outsAt0_C m c t h0 h1 h2]; frame_out; exact key
theorem point14 (t : Fin cfg0.N) (y : Fin 32) (z : Fin 1024) : (outsAt0 m c t.val t.isLt).2.2.1 (ix2 y z) = DO (W1 m c) (P1 m c) (M1 m c) (V1 m c) (ix2 (row t y) z) := by
  have key := d_at t _ _ _ _ _ (ld5 m c t) _ _ _ _ _ _ (blk4 m c t) (blk6 m c t) (blk7 m c t) y z
  rcases kinds t with ⟨h0, h1, h2⟩ | ⟨h0, h1, h2⟩ | ⟨h0, h1, h2⟩
  · rw [outsAt0_A m c t h0 h1 h2]; frame_out; exact key
  · rw [outsAt0_B m c t h0 h1 h2]; frame_out; exact key
  · rw [outsAt0_C m c t h0 h1 h2]; frame_out; exact key
theorem point15 (t : Fin cfg0.N) (y : Fin 32) (z : Fin 1024) : (outsAt0 m c t.val t.isLt).2.2.2.1 (ix2 y z) = MO (P1 m c) (M1 m c) (ix2 (row t y) z) := by
  have key := m_at t _ _ _ _ _ (ld5 m c t) _ _ (blk6 m c t) y z
  rcases kinds t with ⟨h0, h1, h2⟩ | ⟨h0, h1, h2⟩ | ⟨h0, h1, h2⟩
  · rw [outsAt0_A m c t h0 h1 h2]; frame_out; exact key
  · rw [outsAt0_B m c t h0 h1 h2]; frame_out; exact key
  · rw [outsAt0_C m c t h0 h1 h2]; frame_out; exact key
theorem point16 (t : Fin cfg0.N) (y : Fin 32) (z : Fin 1024) : (outsAt0 m c t.val t.isLt).2.2.2.2.1 (ix2 y z) = VO (P1 m c) (V1 m c) (ix2 (row t y) z) := by
  have key := v_at t _ _ _ _ _ (ld5 m c t) _ _ (blk7 m c t) y z
  rcases kinds t with ⟨h0, h1, h2⟩ | ⟨h0, h1, h2⟩ | ⟨h0, h1, h2⟩
  · rw [outsAt0_A m c t h0 h1 h2]; frame_out; exact key
  · rw [outsAt0_B m c t h0 h1 h2]; frame_out; exact key
  · rw [outsAt0_C m c t h0 h1 h2]; frame_out; exact key
theorem point17 (t : Fin cfg0.N) (y : Fin 32) (z : Fin 1024) : (outsAt0 m c t.val t.isLt).2.2.2.2.2.1 (ix2 y z) = SG (P2 m c) (ix2 (row t y) z) := by
  have key := g_at t _ _ _ _ _ (ld9 m c t) y z
  rcases kinds t with ⟨h0, h1, h2⟩ | ⟨h0, h1, h2⟩ | ⟨h0, h1, h2⟩
  · rw [outsAt0_A m c t h0 h1 h2]; frame_out; rw [g2]; exact key
  · rw [outsAt0_B m c t h0 h1 h2]; frame_out; rw [g2]; exact key
  · rw [outsAt0_C m c t h0 h1 h2]; frame_out; rw [g2]; exact key
theorem point18 (t : Fin cfg0.N) (y : Fin 32) (z : Fin 1024) : (outsAt0 m c t.val t.isLt).2.2.2.2.2.2.1 (ix2 y z) = DO (W2 m c) (P2 m c) (M2 m c) (V2 m c) (ix2 (row t y) z) := by
  have key := d_at t _ _ _ _ _ (ld9 m c t) _ _ _ _ _ _ (blk8 m c t) (blk10 m c t) (blk11 m c t) y z
  rcases kinds t with ⟨h0, h1, h2⟩ | ⟨h0, h1, h2⟩ | ⟨h0, h1, h2⟩
  · rw [outsAt0_A m c t h0 h1 h2]; frame_out; rw [d2]; exact key
  · rw [outsAt0_B m c t h0 h1 h2]; frame_out; rw [d2]; exact key
  · rw [outsAt0_C m c t h0 h1 h2]; frame_out; rw [d2]; exact key
theorem point19 (t : Fin cfg0.N) (y : Fin 32) (z : Fin 1024) : (outsAt0 m c t.val t.isLt).2.2.2.2.2.2.2.1 (ix2 y z) = MO (P2 m c) (M2 m c) (ix2 (row t y) z) := by
  have key := m_at t _ _ _ _ _ (ld9 m c t) _ _ (blk10 m c t) y z
  rcases kinds t with ⟨h0, h1, h2⟩ | ⟨h0, h1, h2⟩ | ⟨h0, h1, h2⟩
  · rw [outsAt0_A m c t h0 h1 h2]; frame_out; rw [m2]; exact key
  · rw [outsAt0_B m c t h0 h1 h2]; frame_out; rw [m2]; exact key
  · rw [outsAt0_C m c t h0 h1 h2]; frame_out; rw [m2]; exact key
theorem point20 (t : Fin cfg0.N) (y : Fin 32) (z : Fin 1024) : (outsAt0 m c t.val t.isLt).2.2.2.2.2.2.2.2 (ix2 y z) = VO (P2 m c) (V2 m c) (ix2 (row t y) z) := by
  have key := v_at t _ _ _ _ _ (ld9 m c t) _ _ (blk11 m c t) y z
  rcases kinds t with ⟨h0, h1, h2⟩ | ⟨h0, h1, h2⟩ | ⟨h0, h1, h2⟩
  · rw [outsAt0_A m c t h0 h1 h2]; frame_out; rw [v2]; exact key
  · rw [outsAt0_B m c t h0 h1 h2]; frame_out; rw [v2]; exact key
  · rw [outsAt0_C m c t h0 h1 h2]; frame_out; rw [v2]; exact key

/-- The result arrays after the run. -/
theorem final12 : (dats m 0 c).arrAt 12 (cfgs 0).N = GI (H m c) (Dh m c) (Dc m c) (Dg m c) := by
  refine (dats m 0 c).arrAt_eq_of_covers 12 _ (by decide +kernel) fun t _ y => ?_
  blk_simp
  rw [after0_12]
  idx_vars y
  refine (point12 m c t y0 y1).trans (congrArg _ ?_)
  blk_ext [idx t]
theorem final13 : (dats m 0 c).arrAt 13 (cfgs 0).N = SG (P1 m c) := by
  refine (dats m 0 c).arrAt_eq_of_covers 13 _ (by decide +kernel) fun t _ y => ?_
  blk_simp
  rw [after0_13]
  idx_vars y
  refine (point13 m c t y0 y1).trans (congrArg _ ?_)
  blk_ext [idx t]
theorem final14 : (dats m 0 c).arrAt 14 (cfgs 0).N = DO (W1 m c) (P1 m c) (M1 m c) (V1 m c) := by
  refine (dats m 0 c).arrAt_eq_of_covers 14 _ (by decide +kernel) fun t _ y => ?_
  blk_simp
  rw [after0_14]
  idx_vars y
  refine (point14 m c t y0 y1).trans (congrArg _ ?_)
  blk_ext [idx t]
theorem final15 : (dats m 0 c).arrAt 15 (cfgs 0).N = MO (P1 m c) (M1 m c) := by
  refine (dats m 0 c).arrAt_eq_of_covers 15 _ (by decide +kernel) fun t _ y => ?_
  blk_simp
  rw [after0_15]
  idx_vars y
  refine (point15 m c t y0 y1).trans (congrArg _ ?_)
  blk_ext [idx t]
theorem final16 : (dats m 0 c).arrAt 16 (cfgs 0).N = VO (P1 m c) (V1 m c) := by
  refine (dats m 0 c).arrAt_eq_of_covers 16 _ (by decide +kernel) fun t _ y => ?_
  blk_simp
  rw [after0_16]
  idx_vars y
  refine (point16 m c t y0 y1).trans (congrArg _ ?_)
  blk_ext [idx t]
theorem final17 : (dats m 0 c).arrAt 17 (cfgs 0).N = SG (P2 m c) := by
  refine (dats m 0 c).arrAt_eq_of_covers 17 _ (by decide +kernel) fun t _ y => ?_
  blk_simp
  rw [after0_17]
  idx_vars y
  refine (point17 m c t y0 y1).trans (congrArg _ ?_)
  blk_ext [idx t]
theorem final18 : (dats m 0 c).arrAt 18 (cfgs 0).N = DO (W2 m c) (P2 m c) (M2 m c) (V2 m c) := by
  refine (dats m 0 c).arrAt_eq_of_covers 18 _ (by decide +kernel) fun t _ y => ?_
  blk_simp
  rw [after0_18]
  idx_vars y
  refine (point18 m c t y0 y1).trans (congrArg _ ?_)
  blk_ext [idx t]
theorem final19 : (dats m 0 c).arrAt 19 (cfgs 0).N = MO (P2 m c) (M2 m c) := by
  refine (dats m 0 c).arrAt_eq_of_covers 19 _ (by decide +kernel) fun t _ y => ?_
  blk_simp
  rw [after0_19]
  idx_vars y
  refine (point19 m c t y0 y1).trans (congrArg _ ?_)
  blk_ext [idx t]
theorem final20 : (dats m 0 c).arrAt 20 (cfgs 0).N = VO (P2 m c) (V2 m c) := by
  refine (dats m 0 c).arrAt_eq_of_covers 20 _ (by decide +kernel) fun t _ y => ?_
  blk_simp
  rw [after0_20]
  idx_vars y
  refine (point20 m c t y0 y1).trans (congrArg _ ?_)
  blk_ext [idx t]

end Cert.Kernel9Ideal.Wi

namespace Cert.WiClaims

open Cert.Kernel9Ideal.Wi Cert.Reference9Ideal.Read
open Cert.Reference9Ideal

attribute [local instance] Cert.Kernel9.Gen.facts Cert.Kernel9Ideal.Gen.facts Cert.Reference9Ideal.Gen.facts

/-- The reference's gradient. -/
theorem grad (h : FVec Ideal S4096x1024 .f32) (dh : FVec Ideal S4096x2048 .f32) (dc : FVec Ideal S4096x1536 .f32) (dg : FVec Ideal S4096x2048 .f32) :
    val_main_v7 (F := Ideal) h dh dc dg = GI h dh dc dg := by
  funext i
  idx_vars i
  pointwise [val_main_v7, val_main_v6, val_main_v5, val_main_v4, val_main_v3, val_main_v2, val_main_v1, val_main_v0, GI, GR]

section
variable (w : FVec Ideal S352x1024 .f32) (p : FVec Ideal S4x352x1024 .f32) (μ ν : FVec Ideal S352x1024 .f32)

/-- The reference's update. -/
theorem sum4 : val_main_v8 (F := Ideal) p = SG p := by
  funext i
  idx_vars i
  pointwise [val_main_v8, val_main_cst, SG]
  rw [Fin.sum_univ_four]
theorem mean : val_main_v13 (F := Ideal) p μ = MO p μ := by
  funext i
  idx_vars i
  pointwise [val_main_v13, val_main_v12, val_main_v11, val_main_v10, val_main_v9, val_main_cst_0, val_main_cst_1, sum4 p, MO]
theorem square : val_main_v19 (F := Ideal) p ν = VO p ν := by
  funext i
  idx_vars i
  pointwise [val_main_v19, val_main_v18, val_main_v17, val_main_v16, val_main_v15, val_main_v14, val_main_cst_2, val_main_cst_3, sum4 p, VO]
theorem step : val_main_v32 (F := Ideal) w p μ ν = DO w p μ ν := by
  funext i
  idx_vars i
  pointwise [val_main_v32, val_main_v31, val_main_v30, val_main_v29, val_main_v28, val_main_v27, val_main_v26, val_main_v25, val_main_v24, val_main_v23,
    val_main_v22, val_main_v21, val_main_v20, val_main_cst_4, val_main_cst_5, val_main_cst_6, val_main_cst_7, val_main_cst_8, mean p μ, square p ν, DO]
end

theorem frame_kernel : Cert.quiescent_Kernel9 := fun m ρ _ => Cert.Kernel9.Gen.frame m ρ
theorem frame_ideal : Cert.quiescent_Kernel9Ideal := fun m ρ _ => Cert.Kernel9Ideal.Gen.frame m ρ
theorem frame_reference : Cert.quiescent_Reference9Ideal := by
  intro m g _
  hlo_run
  · exact fun _ => ⟨trivial, trivial, trivial, trivial, trivial, trivial, trivial, trivial, trivial, trivial, trivial, trivial⟩
  exact sem_eq_zero_of_no_sems (sig := Cert.Reference9Ideal.sig) (by decide) _

/-- Kernel and reference end with equal results. -/
theorem algebraic : Cert.algebraic_Kernel9Ideal_Reference9Ideal := by
  intro m g m' g' hpre hagree
  refine ⟨fun c => GI (H m c) (Dh m c) (Dc m c) (Dg m c), fun c => SG (P1 m c), fun c => DO (W1 m c) (P1 m c) (M1 m c) (V1 m c), fun c => MO (P1 m c) (M1 m c), fun c => VO (P1 m c) (V1 m c), fun c => SG (P2 m c), fun c => DO (W2 m c) (P2 m c) (M2 m c) (V2 m c), fun c => MO (P2 m c) (M2 m c), fun c => VO (P2 m c) (V2 m c), ?_, ?_⟩
  · refine (θ_run _ _ _).mono (fun r h c => ?_) (Cert.Kernel9Ideal.Value.run_blocks m g)
    obtain ⟨r0, r1, r2, r3, r4, r5, r6, r7, r8, rest⟩ := h c
    exact ⟨r0.trans (final12 m c), r1.trans (final13 m c), r2.trans (final14 m c), r3.trans (final15 m c), r4.trans (final16 m c), r5.trans (final17 m c), r6.trans (final18 m c), r7.trans (final19 m c), r8.trans (final20 m c), rest⟩
  · refine (θ_run _ _ _).mono (fun r h c => ?_) (Cert.Reference9Ideal.Value.run m' g')
    obtain ⟨r0, r1, r2, r3, r4, r5, r6, r7, r8, rest⟩ := h c
    obtain ⟨a0, a1, a2, a3, a4, a5, a6, a7, a8, a9, a10, a11⟩ := hagree c
    refine ⟨r0.trans ?_, r1.trans ?_, r2.trans ?_, r3.trans ?_, r4.trans ?_, r5.trans ?_, r6.trans ?_, r7.trans ?_, r8.trans ?_, rest⟩
    · rw [val_main_v7_eq, a0, a1, a2, a3]; exact grad _ _ _ _
    · rw [val_main_v8_eq, a5]; exact sum4 _
    · rw [val_main_v32_eq, a4, a5, a6, a7]; exact step _ _ _ _
    · rw [val_main_v13_eq, a5, a6]; exact mean _ _
    · rw [val_main_v19_eq, a5, a7]; exact square _ _
    · rw [val_main_v33_eq, a9]; exact sum4 _
    · rw [val_main_v57_eq, a8, a9, a10, a11]; exact step _ _ _ _
    · rw [val_main_v38_eq, a9, a10]; exact mean _ _
    · rw [val_main_v44_eq, a9, a11]; exact square _ _

end Cert.WiClaims

end
-- ==== Proof.lean ====
/- The claims of this directory, put together from the modules that prove each of them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.InClaims
public import proofs.«01_k».proof.Proof.Gen.Kernel2
public import proofs.«01_k».proof.Proof.Gen.Kernel2.Skeleton
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Regions
public import proofs.«01_k».proof.Proof.Gen.Kernel2Ideal.RegionsF
public import proofs.«01_k».proof.Proof.Gen.Kernel2Ideal.RegionsFQ
public import proofs.«01_k».proof.Proof.Gen.Kernel2Ideal.RegionsFQR
public import proofs.«01_k».proof.Proof.Gen.Kernel2Ideal.RegionsFV
public import proofs.«01_k».proof.Proof.Gen.Reference2Ideal
public import proofs.«01_k».proof.Proof.HgFrames
public import proofs.«01_k».proof.Proof.HgReference
public import proofs.«01_k».proof.Proof.FfnClaims
public import proofs.«01_k».proof.Proof.LossClaims
public import proofs.«01_k».proof.Proof.MgClaims
public import proofs.«01_k».proof.Proof.MfClaims
public import proofs.«01_k».proof.Proof.FiClaims
public import proofs.«01_k».proof.Proof.WgClaims
public import proofs.«01_k».proof.Proof.WiClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts,
  Cert.Kernel5Ideal.Gen.facts, Cert.Reference5Ideal.Gen.facts, Cert.Kernel6.Gen.facts, Cert.Kernel6Ideal.Gen.facts,
  Cert.Reference6Ideal.Gen.facts, Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts, Cert.Pre_finite3.Gen.facts, Cert.Pre_finite4.Gen.facts, Cert.Pre_finite7.Gen.facts,
  Cert.InClaims.frame_kernel, Cert.InClaims.frame_ideal, Cert.InClaims.frame_ideal_finite, Cert.InClaims.frame_reference,
  Cert.InClaims.frame_reference_finite, Cert.Hg.frame_kernel, Cert.Hg.frame_ideal, Cert.HgRef.frame_reference,
  Cert.FfnClaims.frame_kernel, Cert.FfnClaims.frame_ideal, Cert.FfnClaims.frame_ideal_finite, Cert.FfnClaims.frame_reference,
  Cert.FfnClaims.frame_reference_finite, Cert.LossClaims.frame_kernel, Cert.LossClaims.frame_ideal,
  Cert.LossClaims.frame_ideal_finite, Cert.LossClaims.frame_reference, Cert.LossClaims.frame_reference_finite,
  Cert.Mg.frame_kernel, Cert.Mg.frame_ideal, Cert.Mg.frame_reference, Cert.MfClaims.frame_kernel, Cert.MfClaims.frame_ideal, Cert.MfClaims.frame_reference,
  Cert.FiClaims.frame_kernel, Cert.FiClaims.frame_ideal, Cert.FiClaims.frame_ideal_finite,
  Cert.FiClaims.frame_reference, Cert.FiClaims.frame_reference_finite,
  Cert.WgClaims.frame_kernel, Cert.WgClaims.frame_ideal, Cert.WgClaims.frame_reference,
  Cert.WiClaims.frame_kernel, Cert.WiClaims.frame_ideal, Cert.WiClaims.frame_reference,
  trivial, Cert.InClaims.algebraic, trivial, trivial, Cert.FfnClaims.algebraic, trivial, Cert.LossClaims.algebraic, trivial,
  Cert.Mg.algebraic, trivial, Cert.MfClaims.algebraic, trivial, Cert.FiClaims.algebraic, trivial, Cert.WgClaims.algebraic,
  trivial, Cert.WiClaims.algebraic⟩

end Cert.Proof

end
